-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackReferenceIdeal (m : (ℓ : Loc Cert.UpBackReferenceIdeal.nD Cert.UpBackReferenceIdeal.τ Cert.UpBackReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_UpProj (m : (ℓ : Loc Cert.UpProj.nD Cert.UpProj.τ Cert.UpProj.sig) → Buf (Elt Bits) ℓ) : Prop :=
  True

def Pre_UpProjIdeal (m : (ℓ : Loc Cert.UpProjIdeal.nD Cert.UpProjIdeal.τ Cert.UpProjIdeal.sig) → Buf (Elt Ideal) ℓ) : Prop :=
  True

def Pre_UpProjReferenceIdeal (m : (ℓ : Loc Cert.UpProjReferenceIdeal.nD Cert.UpProjReferenceIdeal.τ Cert.UpProjReferenceIdeal.sig) → Buf (Elt Ideal) ℓ) : Prop :=
  True

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradReferenceIdeal (m : (ℓ : Loc Cert.ConvGradReferenceIdeal.nD Cert.ConvGradReferenceIdeal.τ Cert.ConvGradReferenceIdeal.sig) → Buf (Elt Ideal) ℓ) : Prop :=
  True

def Pre_ConvProj (m : (ℓ : Loc Cert.ConvProj.nD Cert.ConvProj.τ Cert.ConvProj.sig) → Buf (Elt Bits) ℓ) : Prop :=
  True

def Pre_ConvProjIdeal (m : (ℓ : Loc Cert.ConvProjIdeal.nD Cert.ConvProjIdeal.τ Cert.ConvProjIdeal.sig) → Buf (Elt Ideal) ℓ) : Prop :=
  True

def Pre_ConvProjReferenceIdeal (m : (ℓ : Loc Cert.ConvProjReferenceIdeal.nD Cert.ConvProjReferenceIdeal.τ Cert.ConvProjReferenceIdeal.sig) → Buf (Elt Ideal) ℓ) : Prop :=
  True

def Pre_ConvBack (m : (ℓ : Loc Cert.ConvBack.nD Cert.ConvBack.τ Cert.ConvBack.sig) → Buf (Elt Bits) ℓ) : Prop :=
  True

def Pre_ConvBackIdeal (m : (ℓ : Loc Cert.ConvBackIdeal.nD Cert.ConvBackIdeal.τ Cert.ConvBackIdeal.sig) → Buf (Elt Ideal) ℓ) : Prop :=
  True

def Pre_ConvBackReferenceIdeal (m : (ℓ : Loc Cert.ConvBackReferenceIdeal.nD Cert.ConvBackReferenceIdeal.τ Cert.ConvBackReferenceIdeal.sig) → Buf (Elt Ideal) ℓ) : Prop :=
  True

def Pre_MixGrad (m : (ℓ : Loc Cert.MixGrad.nD Cert.MixGrad.τ Cert.MixGrad.sig) → Buf (Elt Bits) ℓ) : Prop :=
  True

def Pre_MixGradIdeal (m : (ℓ : Loc Cert.MixGradIdeal.nD Cert.MixGradIdeal.τ Cert.MixGradIdeal.sig) → Buf (Elt Ideal) ℓ) : Prop :=
  True

def Pre_MixGradReferenceIdeal (m : (ℓ : Loc Cert.MixGradReferenceIdeal.nD Cert.MixGradReferenceIdeal.τ Cert.MixGradReferenceIdeal.sig) → Buf (Elt Ideal) ℓ) : Prop :=
  True

def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradReferenceIdeal (m : (ℓ : Loc Cert.AttnGradReferenceIdeal.nD Cert.AttnGradReferenceIdeal.τ Cert.AttnGradReferenceIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjReferenceIdeal (m : (ℓ : Loc Cert.AttnProjReferenceIdeal.nD Cert.AttnProjReferenceIdeal.τ Cert.AttnProjReferenceIdeal.sig) → Buf (Elt Ideal) ℓ) : Prop :=
  True

def Pre_AttnBack (m : (ℓ : Loc Cert.AttnBack.nD Cert.AttnBack.τ Cert.AttnBack.sig) → Buf (Elt Bits) ℓ) : Prop :=
  True

def Pre_AttnBackIdeal (m : (ℓ : Loc Cert.AttnBackIdeal.nD Cert.AttnBackIdeal.τ Cert.AttnBackIdeal.sig) → Buf (Elt Ideal) ℓ) : Prop :=
  True

def Pre_AttnBackReferenceIdeal (m : (ℓ : Loc Cert.AttnBackReferenceIdeal.nD Cert.AttnBackReferenceIdeal.τ Cert.AttnBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1)
      ∧ r.2.mem ((c.tc : Thread Cert.UpGrad.nD Cert.UpGrad.τ).loc Cert.UpGrad.main_arg2) = m ((c.tc : Thread Cert.UpGrad.nD Cert.UpGrad.τ).loc Cert.UpGrad.main_arg2)
      ∧ r.2.mem ((c.tc : Thread Cert.UpGrad.nD Cert.UpGrad.τ).loc Cert.UpGrad.main_arg3) = m ((c.tc : Thread Cert.UpGrad.nD Cert.UpGrad.τ).loc Cert.UpGrad.main_arg3))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
      ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
      ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2) = m ((c.tc : Thread Cert.UpGradReferenceIdeal.nD Cert.UpGradReferenceIdeal.τ).loc Cert.UpGradReferenceIdeal.main_arg2)
      ∧ r.2.mem ((c.tc : Thread Cert.UpGradReferenceIdeal.nD Cert.UpGradReferenceIdeal.τ).loc Cert.UpGradReferenceIdeal.main_arg3) = m ((c.tc : Thread Cert.UpGradReferenceIdeal.nD Cert.UpGradReferenceIdeal.τ).loc Cert.UpGradReferenceIdeal.main_arg3))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1)
      ∧ r.2.mem ((c.tc : Thread Cert.UpBack.nD Cert.UpBack.τ).loc Cert.UpBack.main_arg2) = m ((c.tc : Thread Cert.UpBack.nD Cert.UpBack.τ).loc Cert.UpBack.main_arg2)
      ∧ r.2.mem ((c.tc : Thread Cert.UpBack.nD Cert.UpBack.τ).loc Cert.UpBack.main_arg3) = m ((c.tc : Thread Cert.UpBack.nD Cert.UpBack.τ).loc Cert.UpBack.main_arg3)
      ∧ r.2.mem ((c.tc : Thread Cert.UpBack.nD Cert.UpBack.τ).loc Cert.UpBack.main_arg4) = m ((c.tc : Thread Cert.UpBack.nD Cert.UpBack.τ).loc Cert.UpBack.main_arg4))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
      ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
      ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
      ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4))
      ∧ r.2.sem = fun _ => 0)

def quiescent_UpBackReferenceIdeal [hUpBackReferenceIdeal : Cert.UpBackReferenceIdeal.Facts] : Prop :=
  ∀ (m : (ℓ : Loc Cert.UpBackReferenceIdeal.nD Cert.UpBackReferenceIdeal.τ Cert.UpBackReferenceIdeal.sig) → Buf (Elt Ideal) ℓ) (g : Dev Cert.UpBackReferenceIdeal.nD → PrngReg), Pre_UpBackReferenceIdeal m →
    θ_run (Cert.UpBackReferenceIdeal.defs (F := Ideal)) (onTc (τ := Cert.UpBackReferenceIdeal.τ) (Cert.UpBackReferenceIdeal.main (F := Ideal))) ⟨m, fun _ => 0, g⟩ (fun r => (∀ c : Dev Cert.UpBackReferenceIdeal.nD,
      r.2.mem ((c.tc : Thread Cert.UpBackReferenceIdeal.nD Cert.UpBackReferenceIdeal.τ).loc Cert.UpBackReferenceIdeal.main_arg0) = m ((c.tc : Thread Cert.UpBackReferenceIdeal.nD Cert.UpBackReferenceIdeal.τ).loc Cert.UpBackReferenceIdeal.main_arg0)
      ∧ r.2.mem ((c.tc : Thread Cert.UpBackReferenceIdeal.nD Cert.UpBackReferenceIdeal.τ).loc Cert.UpBackReferenceIdeal.main_arg1) = m ((c.tc : Thread Cert.UpBackReferenceIdeal.nD Cert.UpBackReferenceIdeal.τ).loc Cert.UpBackReferenceIdeal.main_arg1)
      ∧ r.2.mem ((c.tc : Thread Cert.UpBackReferenceIdeal.nD Cert.UpBackReferenceIdeal.τ).loc Cert.UpBackReferenceIdeal.main_arg2) = m ((c.tc : Thread Cert.UpBackReferenceIdeal.nD Cert.UpBackReferenceIdeal.τ).loc Cert.UpBackReferenceIdeal.main_arg2)
      ∧ r.2.mem ((c.tc : Thread Cert.UpBackReferenceIdeal.nD Cert.UpBackReferenceIdeal.τ).loc Cert.UpBackReferenceIdeal.main_arg3) = m ((c.tc : Thread Cert.UpBackReferenceIdeal.nD Cert.UpBackReferenceIdeal.τ).loc Cert.UpBackReferenceIdeal.main_arg3)
      ∧ r.2.mem ((c.tc : Thread Cert.UpBackReferenceIdeal.nD Cert.UpBackReferenceIdeal.τ).loc Cert.UpBackReferenceIdeal.main_arg4) = m ((c.tc : Thread Cert.UpBackReferenceIdeal.nD Cert.UpBackReferenceIdeal.τ).loc Cert.UpBackReferenceIdeal.main_arg4))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1)
      ∧ r.2.mem ((c.tc : Thread Cert.DownGrad.nD Cert.DownGrad.τ).loc Cert.DownGrad.main_arg2) = m ((c.tc : Thread Cert.DownGrad.nD Cert.DownGrad.τ).loc Cert.DownGrad.main_arg2)
      ∧ r.2.mem ((c.tc : Thread Cert.DownGrad.nD Cert.DownGrad.τ).loc Cert.DownGrad.main_arg3) = m ((c.tc : Thread Cert.DownGrad.nD Cert.DownGrad.τ).loc Cert.DownGrad.main_arg3)
      ∧ r.2.mem ((c.tc : Thread Cert.DownGrad.nD Cert.DownGrad.τ).loc Cert.DownGrad.main_arg4) = m ((c.tc : Thread Cert.DownGrad.nD Cert.DownGrad.τ).loc Cert.DownGrad.main_arg4)
      ∧ r.2.mem ((c.tc : Thread Cert.DownGrad.nD Cert.DownGrad.τ).loc Cert.DownGrad.main_arg5) = m ((c.tc : Thread Cert.DownGrad.nD Cert.DownGrad.τ).loc Cert.DownGrad.main_arg5))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
      ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
      ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
      ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4)
      ∧ r.2.mem ((c.tc : Thread Cert.DownGradIdeal.nD Cert.DownGradIdeal.τ).loc Cert.DownGradIdeal.main_arg5) = m ((c.tc : Thread Cert.DownGradIdeal.nD Cert.DownGradIdeal.τ).loc Cert.DownGradIdeal.main_arg5))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1)
      ∧ r.2.mem ((c.tc : Thread Cert.DownGradReferenceIdeal.nD Cert.DownGradReferenceIdeal.τ).loc Cert.DownGradReferenceIdeal.main_arg2) = m ((c.tc : Thread Cert.DownGradReferenceIdeal.nD Cert.DownGradReferenceIdeal.τ).loc Cert.DownGradReferenceIdeal.main_arg2)
      ∧ r.2.mem ((c.tc : Thread Cert.DownGradReferenceIdeal.nD Cert.DownGradReferenceIdeal.τ).loc Cert.DownGradReferenceIdeal.main_arg3) = m ((c.tc : Thread Cert.DownGradReferenceIdeal.nD Cert.DownGradReferenceIdeal.τ).loc Cert.DownGradReferenceIdeal.main_arg3)
      ∧ r.2.mem ((c.tc : Thread Cert.DownGradReferenceIdeal.nD Cert.DownGradReferenceIdeal.τ).loc Cert.DownGradReferenceIdeal.main_arg4) = m ((c.tc : Thread Cert.DownGradReferenceIdeal.nD Cert.DownGradReferenceIdeal.τ).loc Cert.DownGradReferenceIdeal.main_arg4)
      ∧ r.2.mem ((c.tc : Thread Cert.DownGradReferenceIdeal.nD Cert.DownGradReferenceIdeal.τ).loc Cert.DownGradReferenceIdeal.main_arg5) = m ((c.tc : Thread Cert.DownGradReferenceIdeal.nD Cert.DownGradReferenceIdeal.τ).loc Cert.DownGradReferenceIdeal.main_arg5))
      ∧ r.2.sem = fun _ => 0)

def quiescent_UpProj [hUpProj : Cert.UpProj.Facts] : Prop :=
  ∀ (m : (ℓ : Loc Cert.UpProj.nD Cert.UpProj.τ Cert.UpProj.sig) → Buf (Elt Bits) ℓ) (g : Dev Cert.UpProj.nD → PrngReg), Pre_UpProj m →
    θ_run (Cert.UpProj.defs (F := Bits)) (onTc (τ := Cert.UpProj.τ) (Cert.UpProj.main (F := Bits))) ⟨m, fun _ => 0, g⟩ (fun r => (∀ c : Dev Cert.UpProj.nD,
      r.2.mem ((c.tc : Thread Cert.UpProj.nD Cert.UpProj.τ).loc Cert.UpProj.main_arg0) = m ((c.tc : Thread Cert.UpProj.nD Cert.UpProj.τ).loc Cert.UpProj.main_arg0)
      ∧ r.2.mem ((c.tc : Thread Cert.UpProj.nD Cert.UpProj.τ).loc Cert.UpProj.main_arg1) = m ((c.tc : Thread Cert.UpProj.nD Cert.UpProj.τ).loc Cert.UpProj.main_arg1)
      ∧ r.2.mem ((c.tc : Thread Cert.UpProj.nD Cert.UpProj.τ).loc Cert.UpProj.main_arg2) = m ((c.tc : Thread Cert.UpProj.nD Cert.UpProj.τ).loc Cert.UpProj.main_arg2))
      ∧ r.2.sem = fun _ => 0)

def quiescent_UpProjIdeal [hUpProjIdeal : Cert.UpProjIdeal.Facts] : Prop :=
  ∀ (m : (ℓ : Loc Cert.UpProjIdeal.nD Cert.UpProjIdeal.τ Cert.UpProjIdeal.sig) → Buf (Elt Ideal) ℓ) (g : Dev Cert.UpProjIdeal.nD → PrngReg), Pre_UpProjIdeal m →
    θ_run (Cert.UpProjIdeal.defs (F := Ideal)) (onTc (τ := Cert.UpProjIdeal.τ) (Cert.UpProjIdeal.main (F := Ideal))) ⟨m, fun _ => 0, g⟩ (fun r => (∀ c : Dev Cert.UpProjIdeal.nD,
      r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
      ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
      ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ r.2.sem = fun _ => 0)

def quiescent_UpProjReferenceIdeal [hUpProjReferenceIdeal : Cert.UpProjReferenceIdeal.Facts] : Prop :=
  ∀ (m : (ℓ : Loc Cert.UpProjReferenceIdeal.nD Cert.UpProjReferenceIdeal.τ Cert.UpProjReferenceIdeal.sig) → Buf (Elt Ideal) ℓ) (g : Dev Cert.UpProjReferenceIdeal.nD → PrngReg), Pre_UpProjReferenceIdeal m →
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1)
      ∧ r.2.mem ((c.tc : Thread Cert.UpProjReferenceIdeal.nD Cert.UpProjReferenceIdeal.τ).loc Cert.UpProjReferenceIdeal.main_arg2) = m ((c.tc : Thread Cert.UpProjReferenceIdeal.nD Cert.UpProjReferenceIdeal.τ).loc Cert.UpProjReferenceIdeal.main_arg2))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradReferenceIdeal [hConvGradReferenceIdeal : Cert.ConvGradReferenceIdeal.Facts] : Prop :=
  ∀ (m : (ℓ : Loc Cert.ConvGradReferenceIdeal.nD Cert.ConvGradReferenceIdeal.τ Cert.ConvGradReferenceIdeal.sig) → Buf (Elt Ideal) ℓ) (g : Dev Cert.ConvGradReferenceIdeal.nD → PrngReg), Pre_ConvGradReferenceIdeal m →
    θ_run (Cert.ConvGradReferenceIdeal.defs (F := Ideal)) (onTc (τ := Cert.ConvGradReferenceIdeal.τ) (Cert.ConvGradReferenceIdeal.main (F := Ideal))) ⟨m, fun _ => 0, g⟩ (fun r => (∀ c : Dev Cert.ConvGradReferenceIdeal.nD,
      r.2.mem ((c.tc : Thread Cert.ConvGradReferenceIdeal.nD Cert.ConvGradReferenceIdeal.τ).loc Cert.ConvGradReferenceIdeal.main_arg0) = m ((c.tc : Thread Cert.ConvGradReferenceIdeal.nD Cert.ConvGradReferenceIdeal.τ).loc Cert.ConvGradReferenceIdeal.main_arg0)
      ∧ r.2.mem ((c.tc : Thread Cert.ConvGradReferenceIdeal.nD Cert.ConvGradReferenceIdeal.τ).loc Cert.ConvGradReferenceIdeal.main_arg1) = m ((c.tc : Thread Cert.ConvGradReferenceIdeal.nD Cert.ConvGradReferenceIdeal.τ).loc Cert.ConvGradReferenceIdeal.main_arg1)
      ∧ r.2.mem ((c.tc : Thread Cert.ConvGradReferenceIdeal.nD Cert.ConvGradReferenceIdeal.τ).loc Cert.ConvGradReferenceIdeal.main_arg2) = m ((c.tc : Thread Cert.ConvGradReferenceIdeal.nD Cert.ConvGradReferenceIdeal.τ).loc Cert.ConvGradReferenceIdeal.main_arg2)
      ∧ r.2.mem ((c.tc : Thread Cert.ConvGradReferenceIdeal.nD Cert.ConvGradReferenceIdeal.τ).loc Cert.ConvGradReferenceIdeal.main_arg3) = m ((c.tc : Thread Cert.ConvGradReferenceIdeal.nD Cert.ConvGradReferenceIdeal.τ).loc Cert.ConvGradReferenceIdeal.main_arg3))
      ∧ r.2.sem = fun _ => 0)

def quiescent_ConvProj [hConvProj : Cert.ConvProj.Facts] : Prop :=
  ∀ (m : (ℓ : Loc Cert.ConvProj.nD Cert.ConvProj.τ Cert.ConvProj.sig) → Buf (Elt Bits) ℓ) (g : Dev Cert.ConvProj.nD → PrngReg), Pre_ConvProj m →
    θ_run (Cert.ConvProj.defs (F := Bits)) (onTc (τ := Cert.ConvProj.τ) (Cert.ConvProj.main (F := Bits))) ⟨m, fun _ => 0, g⟩ (fun r => (∀ c : Dev Cert.ConvProj.nD,
      r.2.mem ((c.tc : Thread Cert.ConvProj.nD Cert.ConvProj.τ).loc Cert.ConvProj.main_arg0) = m ((c.tc : Thread Cert.ConvProj.nD Cert.ConvProj.τ).loc Cert.ConvProj.main_arg0)
      ∧ r.2.mem ((c.tc : Thread Cert.ConvProj.nD Cert.ConvProj.τ).loc Cert.ConvProj.main_arg1) = m ((c.tc : Thread Cert.ConvProj.nD Cert.ConvProj.τ).loc Cert.ConvProj.main_arg1)
      ∧ r.2.mem ((c.tc : Thread Cert.ConvProj.nD Cert.ConvProj.τ).loc Cert.ConvProj.main_arg2) = m ((c.tc : Thread Cert.ConvProj.nD Cert.ConvProj.τ).loc Cert.ConvProj.main_arg2))
      ∧ r.2.sem = fun _ => 0)

def quiescent_ConvProjIdeal [hConvProjIdeal : Cert.ConvProjIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg), Pre_ConvProjIdeal m →
    θ_run (Cert.ConvProjIdeal.defs (F := Ideal)) (onTc (τ := Cert.ConvProjIdeal.τ) (Cert.ConvProjIdeal.main (F := Ideal))) ⟨m, fun _ => 0, g⟩ (fun r => (∀ c : Dev Cert.ConvProjIdeal.nD,
      r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
      ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
      ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2))
      ∧ r.2.sem = fun _ => 0)

def quiescent_ConvProjReferenceIdeal [hConvProjReferenceIdeal : Cert.ConvProjReferenceIdeal.Facts] : Prop :=
  ∀ (m : (ℓ : Loc Cert.ConvProjReferenceIdeal.nD Cert.ConvProjReferenceIdeal.τ Cert.ConvProjReferenceIdeal.sig) → Buf (Elt Ideal) ℓ) (g : Dev Cert.ConvProjReferenceIdeal.nD → PrngReg), Pre_ConvProjReferenceIdeal m →
    θ_run (Cert.ConvProjReferenceIdeal.defs (F := Ideal)) (onTc (τ := Cert.ConvProjReferenceIdeal.τ) (Cert.ConvProjReferenceIdeal.main (F := Ideal))) ⟨m, fun _ => 0, g⟩ (fun r => (∀ c : Dev Cert.ConvProjReferenceIdeal.nD,
      r.2.mem ((c.tc : Thread Cert.ConvProjReferenceIdeal.nD Cert.ConvProjReferenceIdeal.τ).loc Cert.ConvProjReferenceIdeal.main_arg0) = m ((c.tc : Thread Cert.ConvProjReferenceIdeal.nD Cert.ConvProjReferenceIdeal.τ).loc Cert.ConvProjReferenceIdeal.main_arg0)
      ∧ r.2.mem ((c.tc : Thread Cert.ConvProjReferenceIdeal.nD Cert.ConvProjReferenceIdeal.τ).loc Cert.ConvProjReferenceIdeal.main_arg1) = m ((c.tc : Thread Cert.ConvProjReferenceIdeal.nD Cert.ConvProjReferenceIdeal.τ).loc Cert.ConvProjReferenceIdeal.main_arg1)
      ∧ r.2.mem ((c.tc : Thread Cert.ConvProjReferenceIdeal.nD Cert.ConvProjReferenceIdeal.τ).loc Cert.ConvProjReferenceIdeal.main_arg2) = m ((c.tc : Thread Cert.ConvProjReferenceIdeal.nD Cert.ConvProjReferenceIdeal.τ).loc Cert.ConvProjReferenceIdeal.main_arg2))
      ∧ r.2.sem = fun _ => 0)

def quiescent_ConvBack [hConvBack : Cert.ConvBack.Facts] : Prop :=
  ∀ (m : (ℓ : Loc Cert.ConvBack.nD Cert.ConvBack.τ Cert.ConvBack.sig) → Buf (Elt Bits) ℓ) (g : Dev Cert.ConvBack.nD → PrngReg), Pre_ConvBack m →
    θ_run (Cert.ConvBack.defs (F := Bits)) (onTc (τ := Cert.ConvBack.τ) (Cert.ConvBack.main (F := Bits))) ⟨m, fun _ => 0, g⟩ (fun r => (∀ c : Dev Cert.ConvBack.nD,
      r.2.mem ((c.tc : Thread Cert.ConvBack.nD Cert.ConvBack.τ).loc Cert.ConvBack.main_arg0) = m ((c.tc : Thread Cert.ConvBack.nD Cert.ConvBack.τ).loc Cert.ConvBack.main_arg0)
      ∧ r.2.mem ((c.tc : Thread Cert.ConvBack.nD Cert.ConvBack.τ).loc Cert.ConvBack.main_arg1) = m ((c.tc : Thread Cert.ConvBack.nD Cert.ConvBack.τ).loc Cert.ConvBack.main_arg1)
      ∧ r.2.mem ((c.tc : Thread Cert.ConvBack.nD Cert.ConvBack.τ).loc Cert.ConvBack.main_arg2) = m ((c.tc : Thread Cert.ConvBack.nD Cert.ConvBack.τ).loc Cert.ConvBack.main_arg2)
      ∧ r.2.mem ((c.tc : Thread Cert.ConvBack.nD Cert.ConvBack.τ).loc Cert.ConvBack.main_arg3) = m ((c.tc : Thread Cert.ConvBack.nD Cert.ConvBack.τ).loc Cert.ConvBack.main_arg3)
      ∧ r.2.mem ((c.tc : Thread Cert.ConvBack.nD Cert.ConvBack.τ).loc Cert.ConvBack.main_arg4) = m ((c.tc : Thread Cert.ConvBack.nD Cert.ConvBack.τ).loc Cert.ConvBack.main_arg4))
      ∧ r.2.sem = fun _ => 0)

def quiescent_ConvBackIdeal [hConvBackIdeal : Cert.ConvBackIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg), Pre_ConvBackIdeal m →
    θ_run (Cert.ConvBackIdeal.defs (F := Ideal)) (onTc (τ := Cert.ConvBackIdeal.τ) (Cert.ConvBackIdeal.main (F := Ideal))) ⟨m, fun _ => 0, g⟩ (fun r => (∀ c : Dev Cert.ConvBackIdeal.nD,
      r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
      ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
      ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
      ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3)
      ∧ r.2.mem ((c.tc : Thread Cert.ConvBackIdeal.nD Cert.ConvBackIdeal.τ).loc Cert.ConvBackIdeal.main_arg4) = m ((c.tc : Thread Cert.ConvBackIdeal.nD Cert.ConvBackIdeal.τ).loc Cert.ConvBackIdeal.main_arg4))
      ∧ r.2.sem = fun _ => 0)

def quiescent_ConvBackReferenceIdeal [hConvBackReferenceIdeal : Cert.ConvBackReferenceIdeal.Facts] : Prop :=
  ∀ (m : (ℓ : Loc Cert.ConvBackReferenceIdeal.nD Cert.ConvBackReferenceIdeal.τ Cert.ConvBackReferenceIdeal.sig) → Buf (Elt Ideal) ℓ) (g : Dev Cert.ConvBackReferenceIdeal.nD → PrngReg), Pre_ConvBackReferenceIdeal m →
    θ_run (Cert.ConvBackReferenceIdeal.defs (F := Ideal)) (onTc (τ := Cert.ConvBackReferenceIdeal.τ) (Cert.ConvBackReferenceIdeal.main (F := Ideal))) ⟨m, fun _ => 0, g⟩ (fun r => (∀ c : Dev Cert.ConvBackReferenceIdeal.nD,
      r.2.mem ((c.tc : Thread Cert.ConvBackReferenceIdeal.nD Cert.ConvBackReferenceIdeal.τ).loc Cert.ConvBackReferenceIdeal.main_arg0) = m ((c.tc : Thread Cert.ConvBackReferenceIdeal.nD Cert.ConvBackReferenceIdeal.τ).loc Cert.ConvBackReferenceIdeal.main_arg0)
      ∧ r.2.mem ((c.tc : Thread Cert.ConvBackReferenceIdeal.nD Cert.ConvBackReferenceIdeal.τ).loc Cert.ConvBackReferenceIdeal.main_arg1) = m ((c.tc : Thread Cert.ConvBackReferenceIdeal.nD Cert.ConvBackReferenceIdeal.τ).loc Cert.ConvBackReferenceIdeal.main_arg1)
      ∧ r.2.mem ((c.tc : Thread Cert.ConvBackReferenceIdeal.nD Cert.ConvBackReferenceIdeal.τ).loc Cert.ConvBackReferenceIdeal.main_arg2) = m ((c.tc : Thread Cert.ConvBackReferenceIdeal.nD Cert.ConvBackReferenceIdeal.τ).loc Cert.ConvBackReferenceIdeal.main_arg2)
      ∧ r.2.mem ((c.tc : Thread Cert.ConvBackReferenceIdeal.nD Cert.ConvBackReferenceIdeal.τ).loc Cert.ConvBackReferenceIdeal.main_arg3) = m ((c.tc : Thread Cert.ConvBackReferenceIdeal.nD Cert.ConvBackReferenceIdeal.τ).loc Cert.ConvBackReferenceIdeal.main_arg3)
      ∧ r.2.mem ((c.tc : Thread Cert.ConvBackReferenceIdeal.nD Cert.ConvBackReferenceIdeal.τ).loc Cert.ConvBackReferenceIdeal.main_arg4) = m ((c.tc : Thread Cert.ConvBackReferenceIdeal.nD Cert.ConvBackReferenceIdeal.τ).loc Cert.ConvBackReferenceIdeal.main_arg4))
      ∧ r.2.sem = fun _ => 0)

def quiescent_MixGrad [hMixGrad : Cert.MixGrad.Facts] : Prop :=
  ∀ (m : (ℓ : Loc Cert.MixGrad.nD Cert.MixGrad.τ Cert.MixGrad.sig) → Buf (Elt Bits) ℓ) (g : Dev Cert.MixGrad.nD → PrngReg), Pre_MixGrad m →
    θ_run (Cert.MixGrad.defs (F := Bits)) (onTc (τ := Cert.MixGrad.τ) (Cert.MixGrad.main (F := Bits))) ⟨m, fun _ => 0, g⟩ (fun r => (∀ c : Dev Cert.MixGrad.nD,
      r.2.mem ((c.tc : Thread Cert.MixGrad.nD Cert.MixGrad.τ).loc Cert.MixGrad.main_arg0) = m ((c.tc : Thread Cert.MixGrad.nD Cert.MixGrad.τ).loc Cert.MixGrad.main_arg0)
      ∧ r.2.mem ((c.tc : Thread Cert.MixGrad.nD Cert.MixGrad.τ).loc Cert.MixGrad.main_arg1) = m ((c.tc : Thread Cert.MixGrad.nD Cert.MixGrad.τ).loc Cert.MixGrad.main_arg1)
      ∧ r.2.mem ((c.tc : Thread Cert.MixGrad.nD Cert.MixGrad.τ).loc Cert.MixGrad.main_arg2) = m ((c.tc : Thread Cert.MixGrad.nD Cert.MixGrad.τ).loc Cert.MixGrad.main_arg2))
      ∧ r.2.sem = fun _ => 0)

def quiescent_MixGradIdeal [hMixGradIdeal : Cert.MixGradIdeal.Facts] : Prop :=
  ∀ (m : (ℓ : Loc Cert.MixGradIdeal.nD Cert.MixGradIdeal.τ Cert.MixGradIdeal.sig) → Buf (Elt Ideal) ℓ) (g : Dev Cert.MixGradIdeal.nD → PrngReg), Pre_MixGradIdeal m →
    θ_run (Cert.MixGradIdeal.defs (F := Ideal)) (onTc (τ := Cert.MixGradIdeal.τ) (Cert.MixGradIdeal.main (F := Ideal))) ⟨m, fun _ => 0, g⟩ (fun r => (∀ c : Dev Cert.MixGradIdeal.nD,
      r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
      ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
      ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2))
      ∧ r.2.sem = fun _ => 0)

def quiescent_MixGradReferenceIdeal [hMixGradReferenceIdeal : Cert.MixGradReferenceIdeal.Facts] : Prop :=
  ∀ (m : (ℓ : Loc Cert.MixGradReferenceIdeal.nD Cert.MixGradReferenceIdeal.τ Cert.MixGradReferenceIdeal.sig) → Buf (Elt Ideal) ℓ) (g : Dev Cert.MixGradReferenceIdeal.nD → PrngReg), Pre_MixGradReferenceIdeal m →
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1)
      ∧ r.2.mem ((c.tc : Thread Cert.MixGradReferenceIdeal.nD Cert.MixGradReferenceIdeal.τ).loc Cert.MixGradReferenceIdeal.main_arg2) = m ((c.tc : Thread Cert.MixGradReferenceIdeal.nD Cert.MixGradReferenceIdeal.τ).loc Cert.MixGradReferenceIdeal.main_arg2))
      ∧ r.2.sem = fun _ => 0)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ r.2.sem = fun _ => 0)

def quiescent_AttnGradReferenceIdeal [hAttnGradReferenceIdeal : Cert.AttnGradReferenceIdeal.Facts] : Prop :=
  ∀ (m : (ℓ : Loc Cert.AttnGradReferenceIdeal.nD Cert.AttnGradReferenceIdeal.τ Cert.AttnGradReferenceIdeal.sig) → Buf (Elt Ideal) ℓ) (g : Dev Cert.AttnGradReferenceIdeal.nD → PrngReg), Pre_AttnGradReferenceIdeal m →
    θ_run (Cert.AttnGradReferenceIdeal.defs (F := Ideal)) (onTc (τ := Cert.AttnGradReferenceIdeal.τ) (Cert.AttnGradReferenceIdeal.main (F := Ideal))) ⟨m, fun _ => 0, g⟩ (fun r => (∀ c : Dev Cert.AttnGradReferenceIdeal.nD,
      r.2.mem ((c.tc : Thread Cert.AttnGradReferenceIdeal.nD Cert.AttnGradReferenceIdeal.τ).loc Cert.AttnGradReferenceIdeal.main_arg0) = m ((c.tc : Thread Cert.AttnGradReferenceIdeal.nD Cert.AttnGradReferenceIdeal.τ).loc Cert.AttnGradReferenceIdeal.main_arg0)
      ∧ r.2.mem ((c.tc : Thread Cert.AttnGradReferenceIdeal.nD Cert.AttnGradReferenceIdeal.τ).loc Cert.AttnGradReferenceIdeal.main_arg1) = m ((c.tc : Thread Cert.AttnGradReferenceIdeal.nD Cert.AttnGradReferenceIdeal.τ).loc Cert.AttnGradReferenceIdeal.main_arg1)
      ∧ r.2.mem ((c.tc : Thread Cert.AttnGradReferenceIdeal.nD Cert.AttnGradReferenceIdeal.τ).loc Cert.AttnGradReferenceIdeal.main_arg2) = m ((c.tc : Thread Cert.AttnGradReferenceIdeal.nD Cert.AttnGradReferenceIdeal.τ).loc Cert.AttnGradReferenceIdeal.main_arg2)
      ∧ r.2.mem ((c.tc : Thread Cert.AttnGradReferenceIdeal.nD Cert.AttnGradReferenceIdeal.τ).loc Cert.AttnGradReferenceIdeal.main_arg3) = m ((c.tc : Thread Cert.AttnGradReferenceIdeal.nD Cert.AttnGradReferenceIdeal.τ).loc Cert.AttnGradReferenceIdeal.main_arg3))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ r.2.sem = fun _ => 0)

def quiescent_AttnProjReferenceIdeal [hAttnProjReferenceIdeal : Cert.AttnProjReferenceIdeal.Facts] : Prop :=
  ∀ (m : (ℓ : Loc Cert.AttnProjReferenceIdeal.nD Cert.AttnProjReferenceIdeal.τ Cert.AttnProjReferenceIdeal.sig) → Buf (Elt Ideal) ℓ) (g : Dev Cert.AttnProjReferenceIdeal.nD → PrngReg), Pre_AttnProjReferenceIdeal m →
    θ_run (Cert.AttnProjReferenceIdeal.defs (F := Ideal)) (onTc (τ := Cert.AttnProjReferenceIdeal.τ) (Cert.AttnProjReferenceIdeal.main (F := Ideal))) ⟨m, fun _ => 0, g⟩ (fun r => (∀ c : Dev Cert.AttnProjReferenceIdeal.nD,
      r.2.mem ((c.tc : Thread Cert.AttnProjReferenceIdeal.nD Cert.AttnProjReferenceIdeal.τ).loc Cert.AttnProjReferenceIdeal.main_arg0) = m ((c.tc : Thread Cert.AttnProjReferenceIdeal.nD Cert.AttnProjReferenceIdeal.τ).loc Cert.AttnProjReferenceIdeal.main_arg0)
      ∧ r.2.mem ((c.tc : Thread Cert.AttnProjReferenceIdeal.nD Cert.AttnProjReferenceIdeal.τ).loc Cert.AttnProjReferenceIdeal.main_arg1) = m ((c.tc : Thread Cert.AttnProjReferenceIdeal.nD Cert.AttnProjReferenceIdeal.τ).loc Cert.AttnProjReferenceIdeal.main_arg1)
      ∧ r.2.mem ((c.tc : Thread Cert.AttnProjReferenceIdeal.nD Cert.AttnProjReferenceIdeal.τ).loc Cert.AttnProjReferenceIdeal.main_arg2) = m ((c.tc : Thread Cert.AttnProjReferenceIdeal.nD Cert.AttnProjReferenceIdeal.τ).loc Cert.AttnProjReferenceIdeal.main_arg2))
      ∧ r.2.sem = fun _ => 0)

def quiescent_AttnBack [hAttnBack : Cert.AttnBack.Facts] : Prop :=
  ∀ (m : (ℓ : Loc Cert.AttnBack.nD Cert.AttnBack.τ Cert.AttnBack.sig) → Buf (Elt Bits) ℓ) (g : Dev Cert.AttnBack.nD → PrngReg), Pre_AttnBack m →
    θ_run (Cert.AttnBack.defs (F := Bits)) (onTc (τ := Cert.AttnBack.τ) (Cert.AttnBack.main (F := Bits))) ⟨m, fun _ => 0, g⟩ (fun r => (∀ c : Dev Cert.AttnBack.nD,
      r.2.mem ((c.tc : Thread Cert.AttnBack.nD Cert.AttnBack.τ).loc Cert.AttnBack.main_arg0) = m ((c.tc : Thread Cert.AttnBack.nD Cert.AttnBack.τ).loc Cert.AttnBack.main_arg0)
      ∧ r.2.mem ((c.tc : Thread Cert.AttnBack.nD Cert.AttnBack.τ).loc Cert.AttnBack.main_arg1) = m ((c.tc : Thread Cert.AttnBack.nD Cert.AttnBack.τ).loc Cert.AttnBack.main_arg1)
      ∧ r.2.mem ((c.tc : Thread Cert.AttnBack.nD Cert.AttnBack.τ).loc Cert.AttnBack.main_arg2) = m ((c.tc : Thread Cert.AttnBack.nD Cert.AttnBack.τ).loc Cert.AttnBack.main_arg2)
      ∧ r.2.mem ((c.tc : Thread Cert.AttnBack.nD Cert.AttnBack.τ).loc Cert.AttnBack.main_arg3) = m ((c.tc : Thread Cert.AttnBack.nD Cert.AttnBack.τ).loc Cert.AttnBack.main_arg3)
      ∧ r.2.mem ((c.tc : Thread Cert.AttnBack.nD Cert.AttnBack.τ).loc Cert.AttnBack.main_arg4) = m ((c.tc : Thread Cert.AttnBack.nD Cert.AttnBack.τ).loc Cert.AttnBack.main_arg4))
      ∧ r.2.sem = fun _ => 0)

def quiescent_AttnBackIdeal [hAttnBackIdeal : Cert.AttnBackIdeal.Facts] : Prop :=
  ∀ (m : (ℓ : Loc Cert.AttnBackIdeal.nD Cert.AttnBackIdeal.τ Cert.AttnBackIdeal.sig) → Buf (Elt Ideal) ℓ) (g : Dev Cert.AttnBackIdeal.nD → PrngReg), Pre_AttnBackIdeal m →
    θ_run (Cert.AttnBackIdeal.defs (F := Ideal)) (onTc (τ := Cert.AttnBackIdeal.τ) (Cert.AttnBackIdeal.main (F := Ideal))) ⟨m, fun _ => 0, g⟩ (fun r => (∀ c : Dev Cert.AttnBackIdeal.nD,
      r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
      ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
      ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
      ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
      ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ r.2.sem = fun _ => 0)

def quiescent_AttnBackReferenceIdeal [hAttnBackReferenceIdeal : Cert.AttnBackReferenceIdeal.Facts] : Prop :=
  ∀ (m : (ℓ : Loc Cert.AttnBackReferenceIdeal.nD Cert.AttnBackReferenceIdeal.τ Cert.AttnBackReferenceIdeal.sig) → Buf (Elt Ideal) ℓ) (g : Dev Cert.AttnBackReferenceIdeal.nD → PrngReg), Pre_AttnBackReferenceIdeal m →
    θ_run (Cert.AttnBackReferenceIdeal.defs (F := Ideal)) (onTc (τ := Cert.AttnBackReferenceIdeal.τ) (Cert.AttnBackReferenceIdeal.main (F := Ideal))) ⟨m, fun _ => 0, g⟩ (fun r => (∀ c : Dev Cert.AttnBackReferenceIdeal.nD,
      r.2.mem ((c.tc : Thread Cert.AttnBackReferenceIdeal.nD Cert.AttnBackReferenceIdeal.τ).loc Cert.AttnBackReferenceIdeal.main_arg0) = m ((c.tc : Thread Cert.AttnBackReferenceIdeal.nD Cert.AttnBackReferenceIdeal.τ).loc Cert.AttnBackReferenceIdeal.main_arg0)
      ∧ r.2.mem ((c.tc : Thread Cert.AttnBackReferenceIdeal.nD Cert.AttnBackReferenceIdeal.τ).loc Cert.AttnBackReferenceIdeal.main_arg1) = m ((c.tc : Thread Cert.AttnBackReferenceIdeal.nD Cert.AttnBackReferenceIdeal.τ).loc Cert.AttnBackReferenceIdeal.main_arg1)
      ∧ r.2.mem ((c.tc : Thread Cert.AttnBackReferenceIdeal.nD Cert.AttnBackReferenceIdeal.τ).loc Cert.AttnBackReferenceIdeal.main_arg2) = m ((c.tc : Thread Cert.AttnBackReferenceIdeal.nD Cert.AttnBackReferenceIdeal.τ).loc Cert.AttnBackReferenceIdeal.main_arg2)
      ∧ r.2.mem ((c.tc : Thread Cert.AttnBackReferenceIdeal.nD Cert.AttnBackReferenceIdeal.τ).loc Cert.AttnBackReferenceIdeal.main_arg3) = m ((c.tc : Thread Cert.AttnBackReferenceIdeal.nD Cert.AttnBackReferenceIdeal.τ).loc Cert.AttnBackReferenceIdeal.main_arg3)
      ∧ r.2.mem ((c.tc : Thread Cert.AttnBackReferenceIdeal.nD Cert.AttnBackReferenceIdeal.τ).loc Cert.AttnBackReferenceIdeal.main_arg4) = m ((c.tc : Thread Cert.AttnBackReferenceIdeal.nD Cert.AttnBackReferenceIdeal.τ).loc Cert.AttnBackReferenceIdeal.main_arg4))
      ∧ r.2.sem = fun _ => 0)

def preserves_Kernel_KernelIdeal : Prop :=
  IdealRules.named_const.Statement Cert.KernelIdeal.κ "log_of_zero" .f32 0xC2D20000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)
      ∧ m' ((c.tc : Thread Cert.UpGradReferenceIdeal.nD Cert.UpGradReferenceIdeal.τ).loc Cert.UpGradReferenceIdeal.main_arg2) = m ((c.tc : Thread Cert.UpGradIdeal.nD Cert.UpGradIdeal.τ).loc Cert.UpGradIdeal.main_arg2)
      ∧ m' ((c.tc : Thread Cert.UpGradReferenceIdeal.nD Cert.UpGradReferenceIdeal.τ).loc Cert.UpGradReferenceIdeal.main_arg3) = m ((c.tc : Thread Cert.UpGradIdeal.nD Cert.UpGradIdeal.τ).loc Cert.UpGradIdeal.main_arg3)) →
    ∃ (v0 : (c : Dev Cert.UpGradIdeal.nD) → Buf (Elt Ideal) ((c.tc : Thread Cert.UpGradIdeal.nD Cert.UpGradIdeal.τ).loc Cert.UpGradIdeal.main_v20)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v20) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1)
          ∧ r.2.mem ((c.tc : Thread Cert.UpGradIdeal.nD Cert.UpGradIdeal.τ).loc Cert.UpGradIdeal.main_arg2) = m ((c.tc : Thread Cert.UpGradIdeal.nD Cert.UpGradIdeal.τ).loc Cert.UpGradIdeal.main_arg2)
          ∧ r.2.mem ((c.tc : Thread Cert.UpGradIdeal.nD Cert.UpGradIdeal.τ).loc Cert.UpGradIdeal.main_arg3) = m ((c.tc : Thread Cert.UpGradIdeal.nD Cert.UpGradIdeal.τ).loc Cert.UpGradIdeal.main_arg3))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v15) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1)
          ∧ r.2.mem ((c.tc : Thread Cert.UpGradReferenceIdeal.nD Cert.UpGradReferenceIdeal.τ).loc Cert.UpGradReferenceIdeal.main_arg2) = m' ((c.tc : Thread Cert.UpGradReferenceIdeal.nD Cert.UpGradReferenceIdeal.τ).loc Cert.UpGradReferenceIdeal.main_arg2)
          ∧ r.2.mem ((c.tc : Thread Cert.UpGradReferenceIdeal.nD Cert.UpGradReferenceIdeal.τ).loc Cert.UpGradReferenceIdeal.main_arg3) = m' ((c.tc : Thread Cert.UpGradReferenceIdeal.nD Cert.UpGradReferenceIdeal.τ).loc Cert.UpGradReferenceIdeal.main_arg3))

def preserves_UpBack_UpBackIdeal : Prop :=
  True

def algebraic_UpBackIdeal_UpBackReferenceIdeal [hUpBackIdeal : Cert.UpBackIdeal.Facts] [hUpBackReferenceIdeal : Cert.UpBackReferenceIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackReferenceIdeal.nD Cert.UpBackReferenceIdeal.τ Cert.UpBackReferenceIdeal.sig) → Buf (Elt Ideal) ℓ) (g' : Dev Cert.UpBackReferenceIdeal.nD → PrngReg), Pre_UpBackIdeal m →
    (∀ c : Dev Cert.UpBackIdeal.nD,
      m' ((c.tc : Thread Cert.UpBackReferenceIdeal.nD Cert.UpBackReferenceIdeal.τ).loc Cert.UpBackReferenceIdeal.main_arg0) = m ((c.tc : Thread Cert.UpBackIdeal.nD Cert.UpBackIdeal.τ).loc Cert.UpBackIdeal.main_arg0)
      ∧ m' ((c.tc : Thread Cert.UpBackReferenceIdeal.nD Cert.UpBackReferenceIdeal.τ).loc Cert.UpBackReferenceIdeal.main_arg1) = m ((c.tc : Thread Cert.UpBackIdeal.nD Cert.UpBackIdeal.τ).loc Cert.UpBackIdeal.main_arg1)
      ∧ m' ((c.tc : Thread Cert.UpBackReferenceIdeal.nD Cert.UpBackReferenceIdeal.τ).loc Cert.UpBackReferenceIdeal.main_arg2) = m ((c.tc : Thread Cert.UpBackIdeal.nD Cert.UpBackIdeal.τ).loc Cert.UpBackIdeal.main_arg2)
      ∧ m' ((c.tc : Thread Cert.UpBackReferenceIdeal.nD Cert.UpBackReferenceIdeal.τ).loc Cert.UpBackReferenceIdeal.main_arg3) = m ((c.tc : Thread Cert.UpBackIdeal.nD Cert.UpBackIdeal.τ).loc Cert.UpBackIdeal.main_arg3)
      ∧ m' ((c.tc : Thread Cert.UpBackReferenceIdeal.nD Cert.UpBackReferenceIdeal.τ).loc Cert.UpBackReferenceIdeal.main_arg4) = m ((c.tc : Thread Cert.UpBackIdeal.nD Cert.UpBackIdeal.τ).loc Cert.UpBackIdeal.main_arg4)) →
    ∃ (v0 : (c : Dev Cert.UpBackIdeal.nD) → Buf (Elt Ideal) ((c.tc : Thread Cert.UpBackIdeal.nD Cert.UpBackIdeal.τ).loc Cert.UpBackIdeal.main_v8_0)) (v1 : (c : Dev Cert.UpBackIdeal.nD) → Buf (Elt Ideal) ((c.tc : Thread Cert.UpBackIdeal.nD Cert.UpBackIdeal.τ).loc Cert.UpBackIdeal.main_v8_1)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v8_0) = v0 c
          ∧ r.2.mem ((c.tc : Thread Cert.UpBackIdeal.nD Cert.UpBackIdeal.τ).loc Cert.UpBackIdeal.main_v8_1) = v1 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
          ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
          ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
          ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4))
      ∧ θ_run (Cert.UpBackReferenceIdeal.defs (F := Ideal)) (onTc (τ := Cert.UpBackReferenceIdeal.τ) (Cert.UpBackReferenceIdeal.main (F := Ideal))) ⟨m', fun _ => 0, g'⟩ (fun r => ∀ c : Dev Cert.UpBackReferenceIdeal.nD,
          r.2.mem ((c.tc : Thread Cert.UpBackReferenceIdeal.nD Cert.UpBackReferenceIdeal.τ).loc Cert.UpBackReferenceIdeal.main_v38) = v0 c
          ∧ r.2.mem ((c.tc : Thread Cert.UpBackReferenceIdeal.nD Cert.UpBackReferenceIdeal.τ).loc Cert.UpBackReferenceIdeal.main_v39) = v1 c
          ∧ r.2.mem ((c.tc : Thread Cert.UpBackReferenceIdeal.nD Cert.UpBackReferenceIdeal.τ).loc Cert.UpBackReferenceIdeal.main_arg0) = m' ((c.tc : Thread Cert.UpBackReferenceIdeal.nD Cert.UpBackReferenceIdeal.τ).loc Cert.UpBackReferenceIdeal.main_arg0)
          ∧ r.2.mem ((c.tc : Thread Cert.UpBackReferenceIdeal.nD Cert.UpBackReferenceIdeal.τ).loc Cert.UpBackReferenceIdeal.main_arg1) = m' ((c.tc : Thread Cert.UpBackReferenceIdeal.nD Cert.UpBackReferenceIdeal.τ).loc Cert.UpBackReferenceIdeal.main_arg1)
          ∧ r.2.mem ((c.tc : Thread Cert.UpBackReferenceIdeal.nD Cert.UpBackReferenceIdeal.τ).loc Cert.UpBackReferenceIdeal.main_arg2) = m' ((c.tc : Thread Cert.UpBackReferenceIdeal.nD Cert.UpBackReferenceIdeal.τ).loc Cert.UpBackReferenceIdeal.main_arg2)
          ∧ r.2.mem ((c.tc : Thread Cert.UpBackReferenceIdeal.nD Cert.UpBackReferenceIdeal.τ).loc Cert.UpBackReferenceIdeal.main_arg3) = m' ((c.tc : Thread Cert.UpBackReferenceIdeal.nD Cert.UpBackReferenceIdeal.τ).loc Cert.UpBackReferenceIdeal.main_arg3)
          ∧ r.2.mem ((c.tc : Thread Cert.UpBackReferenceIdeal.nD Cert.UpBackReferenceIdeal.τ).loc Cert.UpBackReferenceIdeal.main_arg4) = m' ((c.tc : Thread Cert.UpBackReferenceIdeal.nD Cert.UpBackReferenceIdeal.τ).loc Cert.UpBackReferenceIdeal.main_arg4))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)
      ∧ m' ((c.tc : Thread Cert.DownGradReferenceIdeal.nD Cert.DownGradReferenceIdeal.τ).loc Cert.DownGradReferenceIdeal.main_arg2) = m ((c.tc : Thread Cert.DownGradIdeal.nD Cert.DownGradIdeal.τ).loc Cert.DownGradIdeal.main_arg2)
      ∧ m' ((c.tc : Thread Cert.DownGradReferenceIdeal.nD Cert.DownGradReferenceIdeal.τ).loc Cert.DownGradReferenceIdeal.main_arg3) = m ((c.tc : Thread Cert.DownGradIdeal.nD Cert.DownGradIdeal.τ).loc Cert.DownGradIdeal.main_arg3)
      ∧ m' ((c.tc : Thread Cert.DownGradReferenceIdeal.nD Cert.DownGradReferenceIdeal.τ).loc Cert.DownGradReferenceIdeal.main_arg4) = m ((c.tc : Thread Cert.DownGradIdeal.nD Cert.DownGradIdeal.τ).loc Cert.DownGradIdeal.main_arg4)
      ∧ m' ((c.tc : Thread Cert.DownGradReferenceIdeal.nD Cert.DownGradReferenceIdeal.τ).loc Cert.DownGradReferenceIdeal.main_arg5) = m ((c.tc : Thread Cert.DownGradIdeal.nD Cert.DownGradIdeal.τ).loc Cert.DownGradIdeal.main_arg5)) →
    ∃ (v0 : (c : Dev Cert.DownGradIdeal.nD) → Buf (Elt Ideal) ((c.tc : Thread Cert.DownGradIdeal.nD Cert.DownGradIdeal.τ).loc Cert.DownGradIdeal.main_v43)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v43) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1)
          ∧ r.2.mem ((c.tc : Thread Cert.DownGradIdeal.nD Cert.DownGradIdeal.τ).loc Cert.DownGradIdeal.main_arg2) = m ((c.tc : Thread Cert.DownGradIdeal.nD Cert.DownGradIdeal.τ).loc Cert.DownGradIdeal.main_arg2)
          ∧ r.2.mem ((c.tc : Thread Cert.DownGradIdeal.nD Cert.DownGradIdeal.τ).loc Cert.DownGradIdeal.main_arg3) = m ((c.tc : Thread Cert.DownGradIdeal.nD Cert.DownGradIdeal.τ).loc Cert.DownGradIdeal.main_arg3)
          ∧ r.2.mem ((c.tc : Thread Cert.DownGradIdeal.nD Cert.DownGradIdeal.τ).loc Cert.DownGradIdeal.main_arg4) = m ((c.tc : Thread Cert.DownGradIdeal.nD Cert.DownGradIdeal.τ).loc Cert.DownGradIdeal.main_arg4)
          ∧ r.2.mem ((c.tc : Thread Cert.DownGradIdeal.nD Cert.DownGradIdeal.τ).loc Cert.DownGradIdeal.main_arg5) = m ((c.tc : Thread Cert.DownGradIdeal.nD Cert.DownGradIdeal.τ).loc Cert.DownGradIdeal.main_arg5))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v43) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1)
          ∧ r.2.mem ((c.tc : Thread Cert.DownGradReferenceIdeal.nD Cert.DownGradReferenceIdeal.τ).loc Cert.DownGradReferenceIdeal.main_arg2) = m' ((c.tc : Thread Cert.DownGradReferenceIdeal.nD Cert.DownGradReferenceIdeal.τ).loc Cert.DownGradReferenceIdeal.main_arg2)
          ∧ r.2.mem ((c.tc : Thread Cert.DownGradReferenceIdeal.nD Cert.DownGradReferenceIdeal.τ).loc Cert.DownGradReferenceIdeal.main_arg3) = m' ((c.tc : Thread Cert.DownGradReferenceIdeal.nD Cert.DownGradReferenceIdeal.τ).loc Cert.DownGradReferenceIdeal.main_arg3)
          ∧ r.2.mem ((c.tc : Thread Cert.DownGradReferenceIdeal.nD Cert.DownGradReferenceIdeal.τ).loc Cert.DownGradReferenceIdeal.main_arg4) = m' ((c.tc : Thread Cert.DownGradReferenceIdeal.nD Cert.DownGradReferenceIdeal.τ).loc Cert.DownGradReferenceIdeal.main_arg4)
          ∧ r.2.mem ((c.tc : Thread Cert.DownGradReferenceIdeal.nD Cert.DownGradReferenceIdeal.τ).loc Cert.DownGradReferenceIdeal.main_arg5) = m' ((c.tc : Thread Cert.DownGradReferenceIdeal.nD Cert.DownGradReferenceIdeal.τ).loc Cert.DownGradReferenceIdeal.main_arg5))

def preserves_UpProj_UpProjIdeal : Prop :=
  True

def algebraic_UpProjIdeal_UpProjReferenceIdeal [hUpProjIdeal : Cert.UpProjIdeal.Facts] [hUpProjReferenceIdeal : Cert.UpProjReferenceIdeal.Facts] : Prop :=
  ∀ (m : (ℓ : Loc Cert.UpProjIdeal.nD Cert.UpProjIdeal.τ Cert.UpProjIdeal.sig) → Buf (Elt Ideal) ℓ) (g : Dev Cert.UpProjIdeal.nD → PrngReg)
    (m' : (ℓ : Loc Cert.UpProjReferenceIdeal.nD Cert.UpProjReferenceIdeal.τ Cert.UpProjReferenceIdeal.sig) → Buf (Elt Ideal) ℓ) (g' : Dev Cert.UpProjReferenceIdeal.nD → PrngReg), Pre_UpProjIdeal m →
    (∀ c : Dev Cert.UpProjIdeal.nD,
      m' ((c.tc : Thread Cert.UpProjReferenceIdeal.nD Cert.UpProjReferenceIdeal.τ).loc Cert.UpProjReferenceIdeal.main_arg0) = m ((c.tc : Thread Cert.UpProjIdeal.nD Cert.UpProjIdeal.τ).loc Cert.UpProjIdeal.main_arg0)
      ∧ m' ((c.tc : Thread Cert.UpProjReferenceIdeal.nD Cert.UpProjReferenceIdeal.τ).loc Cert.UpProjReferenceIdeal.main_arg1) = m ((c.tc : Thread Cert.UpProjIdeal.nD Cert.UpProjIdeal.τ).loc Cert.UpProjIdeal.main_arg1)
      ∧ m' ((c.tc : Thread Cert.UpProjReferenceIdeal.nD Cert.UpProjReferenceIdeal.τ).loc Cert.UpProjReferenceIdeal.main_arg2) = m ((c.tc : Thread Cert.UpProjIdeal.nD Cert.UpProjIdeal.τ).loc Cert.UpProjIdeal.main_arg2)) →
    ∃ (v0 : (c : Dev Cert.UpProjIdeal.nD) → Buf (Elt Ideal) ((c.tc : Thread Cert.UpProjIdeal.nD Cert.UpProjIdeal.τ).loc Cert.UpProjIdeal.main_v2_0)) (v1 : (c : Dev Cert.UpProjIdeal.nD) → Buf (Elt Ideal) ((c.tc : Thread Cert.UpProjIdeal.nD Cert.UpProjIdeal.τ).loc Cert.UpProjIdeal.main_v2_1)),
      θ_run (Cert.UpProjIdeal.defs (F := Ideal)) (onTc (τ := Cert.UpProjIdeal.τ) (Cert.UpProjIdeal.main (F := Ideal))) ⟨m, fun _ => 0, g⟩ (fun r => ∀ c : Dev Cert.UpProjIdeal.nD,
          r.2.mem ((c.tc : Thread Cert.UpProjIdeal.nD Cert.UpProjIdeal.τ).loc Cert.UpProjIdeal.main_v2_0) = v0 c
          ∧ r.2.mem ((c.tc : Thread Cert.UpProjIdeal.nD Cert.UpProjIdeal.τ).loc Cert.UpProjIdeal.main_v2_1) = v1 c
          ∧ r.2.mem ((c.tc : Thread Cert.UpProjIdeal.nD Cert.UpProjIdeal.τ).loc Cert.UpProjIdeal.main_arg0) = m ((c.tc : Thread Cert.UpProjIdeal.nD Cert.UpProjIdeal.τ).loc Cert.UpProjIdeal.main_arg0)
          ∧ r.2.mem ((c.tc : Thread Cert.UpProjIdeal.nD Cert.UpProjIdeal.τ).loc Cert.UpProjIdeal.main_arg1) = m ((c.tc : Thread Cert.UpProjIdeal.nD Cert.UpProjIdeal.τ).loc Cert.UpProjIdeal.main_arg1)
          ∧ r.2.mem ((c.tc : Thread Cert.UpProjIdeal.nD Cert.UpProjIdeal.τ).loc Cert.UpProjIdeal.main_arg2) = m ((c.tc : Thread Cert.UpProjIdeal.nD Cert.UpProjIdeal.τ).loc Cert.UpProjIdeal.main_arg2))
      ∧ θ_run (Cert.UpProjReferenceIdeal.defs (F := Ideal)) (onTc (τ := Cert.UpProjReferenceIdeal.τ) (Cert.UpProjReferenceIdeal.main (F := Ideal))) ⟨m', fun _ => 0, g'⟩ (fun r => ∀ c : Dev Cert.UpProjReferenceIdeal.nD,
          r.2.mem ((c.tc : Thread Cert.UpProjReferenceIdeal.nD Cert.UpProjReferenceIdeal.τ).loc Cert.UpProjReferenceIdeal.main_v27) = v0 c
          ∧ r.2.mem ((c.tc : Thread Cert.UpProjReferenceIdeal.nD Cert.UpProjReferenceIdeal.τ).loc Cert.UpProjReferenceIdeal.main_v32) = v1 c
          ∧ r.2.mem ((c.tc : Thread Cert.UpProjReferenceIdeal.nD Cert.UpProjReferenceIdeal.τ).loc Cert.UpProjReferenceIdeal.main_arg0) = m' ((c.tc : Thread Cert.UpProjReferenceIdeal.nD Cert.UpProjReferenceIdeal.τ).loc Cert.UpProjReferenceIdeal.main_arg0)
          ∧ r.2.mem ((c.tc : Thread Cert.UpProjReferenceIdeal.nD Cert.UpProjReferenceIdeal.τ).loc Cert.UpProjReferenceIdeal.main_arg1) = m' ((c.tc : Thread Cert.UpProjReferenceIdeal.nD Cert.UpProjReferenceIdeal.τ).loc Cert.UpProjReferenceIdeal.main_arg1)
          ∧ r.2.mem ((c.tc : Thread Cert.UpProjReferenceIdeal.nD Cert.UpProjReferenceIdeal.τ).loc Cert.UpProjReferenceIdeal.main_arg2) = m' ((c.tc : Thread Cert.UpProjReferenceIdeal.nD Cert.UpProjReferenceIdeal.τ).loc Cert.UpProjReferenceIdeal.main_arg2))

def preserves_ConvGrad_ConvGradIdeal : Prop :=
  True

def algebraic_ConvGradIdeal_ConvGradReferenceIdeal [hConvGradIdeal : Cert.ConvGradIdeal.Facts] [hConvGradReferenceIdeal : Cert.ConvGradReferenceIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradReferenceIdeal.nD Cert.ConvGradReferenceIdeal.τ Cert.ConvGradReferenceIdeal.sig) → Buf (Elt Ideal) ℓ) (g' : Dev Cert.ConvGradReferenceIdeal.nD → PrngReg), Pre_ConvGradIdeal m →
    (∀ c : Dev Cert.ConvGradIdeal.nD,
      m' ((c.tc : Thread Cert.ConvGradReferenceIdeal.nD Cert.ConvGradReferenceIdeal.τ).loc Cert.ConvGradReferenceIdeal.main_arg0) = m ((c.tc : Thread Cert.ConvGradIdeal.nD Cert.ConvGradIdeal.τ).loc Cert.ConvGradIdeal.main_arg0)
      ∧ m' ((c.tc : Thread Cert.ConvGradReferenceIdeal.nD Cert.ConvGradReferenceIdeal.τ).loc Cert.ConvGradReferenceIdeal.main_arg1) = m ((c.tc : Thread Cert.ConvGradIdeal.nD Cert.ConvGradIdeal.τ).loc Cert.ConvGradIdeal.main_arg1)
      ∧ m' ((c.tc : Thread Cert.ConvGradReferenceIdeal.nD Cert.ConvGradReferenceIdeal.τ).loc Cert.ConvGradReferenceIdeal.main_arg2) = m ((c.tc : Thread Cert.ConvGradIdeal.nD Cert.ConvGradIdeal.τ).loc Cert.ConvGradIdeal.main_arg2)
      ∧ m' ((c.tc : Thread Cert.ConvGradReferenceIdeal.nD Cert.ConvGradReferenceIdeal.τ).loc Cert.ConvGradReferenceIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v22)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v22) = v0 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvGradReferenceIdeal.defs (F := Ideal)) (onTc (τ := Cert.ConvGradReferenceIdeal.τ) (Cert.ConvGradReferenceIdeal.main (F := Ideal))) ⟨m', fun _ => 0, g'⟩ (fun r => ∀ c : Dev Cert.ConvGradReferenceIdeal.nD,
          r.2.mem ((c.tc : Thread Cert.ConvGradReferenceIdeal.nD Cert.ConvGradReferenceIdeal.τ).loc Cert.ConvGradReferenceIdeal.main_v15) = v0 c
          ∧ r.2.mem ((c.tc : Thread Cert.ConvGradReferenceIdeal.nD Cert.ConvGradReferenceIdeal.τ).loc Cert.ConvGradReferenceIdeal.main_arg0) = m' ((c.tc : Thread Cert.ConvGradReferenceIdeal.nD Cert.ConvGradReferenceIdeal.τ).loc Cert.ConvGradReferenceIdeal.main_arg0)
          ∧ r.2.mem ((c.tc : Thread Cert.ConvGradReferenceIdeal.nD Cert.ConvGradReferenceIdeal.τ).loc Cert.ConvGradReferenceIdeal.main_arg1) = m' ((c.tc : Thread Cert.ConvGradReferenceIdeal.nD Cert.ConvGradReferenceIdeal.τ).loc Cert.ConvGradReferenceIdeal.main_arg1)
          ∧ r.2.mem ((c.tc : Thread Cert.ConvGradReferenceIdeal.nD Cert.ConvGradReferenceIdeal.τ).loc Cert.ConvGradReferenceIdeal.main_arg2) = m' ((c.tc : Thread Cert.ConvGradReferenceIdeal.nD Cert.ConvGradReferenceIdeal.τ).loc Cert.ConvGradReferenceIdeal.main_arg2)
          ∧ r.2.mem ((c.tc : Thread Cert.ConvGradReferenceIdeal.nD Cert.ConvGradReferenceIdeal.τ).loc Cert.ConvGradReferenceIdeal.main_arg3) = m' ((c.tc : Thread Cert.ConvGradReferenceIdeal.nD Cert.ConvGradReferenceIdeal.τ).loc Cert.ConvGradReferenceIdeal.main_arg3))

def preserves_ConvProj_ConvProjIdeal : Prop :=
  True

def algebraic_ConvProjIdeal_ConvProjReferenceIdeal [hConvProjIdeal : Cert.ConvProjIdeal.Facts] [hConvProjReferenceIdeal : Cert.ConvProjReferenceIdeal.Facts] : Prop :=
  ∀ (m : (ℓ : Loc Cert.ConvProjIdeal.nD Cert.ConvProjIdeal.τ Cert.ConvProjIdeal.sig) → Buf (Elt Ideal) ℓ) (g : Dev Cert.ConvProjIdeal.nD → PrngReg)
    (m' : (ℓ : Loc Cert.ConvProjReferenceIdeal.nD Cert.ConvProjReferenceIdeal.τ Cert.ConvProjReferenceIdeal.sig) → Buf (Elt Ideal) ℓ) (g' : Dev Cert.ConvProjReferenceIdeal.nD → PrngReg), Pre_ConvProjIdeal m →
    (∀ c : Dev Cert.ConvProjIdeal.nD,
      m' ((c.tc : Thread Cert.ConvProjReferenceIdeal.nD Cert.ConvProjReferenceIdeal.τ).loc Cert.ConvProjReferenceIdeal.main_arg0) = m ((c.tc : Thread Cert.ConvProjIdeal.nD Cert.ConvProjIdeal.τ).loc Cert.ConvProjIdeal.main_arg0)
      ∧ m' ((c.tc : Thread Cert.ConvProjReferenceIdeal.nD Cert.ConvProjReferenceIdeal.τ).loc Cert.ConvProjReferenceIdeal.main_arg1) = m ((c.tc : Thread Cert.ConvProjIdeal.nD Cert.ConvProjIdeal.τ).loc Cert.ConvProjIdeal.main_arg1)
      ∧ m' ((c.tc : Thread Cert.ConvProjReferenceIdeal.nD Cert.ConvProjReferenceIdeal.τ).loc Cert.ConvProjReferenceIdeal.main_arg2) = m ((c.tc : Thread Cert.ConvProjIdeal.nD Cert.ConvProjIdeal.τ).loc Cert.ConvProjIdeal.main_arg2)) →
    ∃ (v0 : (c : Dev Cert.ConvProjIdeal.nD) → Buf (Elt Ideal) ((c.tc : Thread Cert.ConvProjIdeal.nD Cert.ConvProjIdeal.τ).loc Cert.ConvProjIdeal.main_v2_0)) (v1 : (c : Dev Cert.ConvProjIdeal.nD) → Buf (Elt Ideal) ((c.tc : Thread Cert.ConvProjIdeal.nD Cert.ConvProjIdeal.τ).loc Cert.ConvProjIdeal.main_v2_1)),
      θ_run (Cert.ConvProjIdeal.defs (F := Ideal)) (onTc (τ := Cert.ConvProjIdeal.τ) (Cert.ConvProjIdeal.main (F := Ideal))) ⟨m, fun _ => 0, g⟩ (fun r => ∀ c : Dev Cert.ConvProjIdeal.nD,
          r.2.mem ((c.tc : Thread Cert.ConvProjIdeal.nD Cert.ConvProjIdeal.τ).loc Cert.ConvProjIdeal.main_v2_0) = v0 c
          ∧ r.2.mem ((c.tc : Thread Cert.ConvProjIdeal.nD Cert.ConvProjIdeal.τ).loc Cert.ConvProjIdeal.main_v2_1) = v1 c
          ∧ r.2.mem ((c.tc : Thread Cert.ConvProjIdeal.nD Cert.ConvProjIdeal.τ).loc Cert.ConvProjIdeal.main_arg0) = m ((c.tc : Thread Cert.ConvProjIdeal.nD Cert.ConvProjIdeal.τ).loc Cert.ConvProjIdeal.main_arg0)
          ∧ r.2.mem ((c.tc : Thread Cert.ConvProjIdeal.nD Cert.ConvProjIdeal.τ).loc Cert.ConvProjIdeal.main_arg1) = m ((c.tc : Thread Cert.ConvProjIdeal.nD Cert.ConvProjIdeal.τ).loc Cert.ConvProjIdeal.main_arg1)
          ∧ r.2.mem ((c.tc : Thread Cert.ConvProjIdeal.nD Cert.ConvProjIdeal.τ).loc Cert.ConvProjIdeal.main_arg2) = m ((c.tc : Thread Cert.ConvProjIdeal.nD Cert.ConvProjIdeal.τ).loc Cert.ConvProjIdeal.main_arg2))
      ∧ θ_run (Cert.ConvProjReferenceIdeal.defs (F := Ideal)) (onTc (τ := Cert.ConvProjReferenceIdeal.τ) (Cert.ConvProjReferenceIdeal.main (F := Ideal))) ⟨m', fun _ => 0, g'⟩ (fun r => ∀ c : Dev Cert.ConvProjReferenceIdeal.nD,
          r.2.mem ((c.tc : Thread Cert.ConvProjReferenceIdeal.nD Cert.ConvProjReferenceIdeal.τ).loc Cert.ConvProjReferenceIdeal.main_v27) = v0 c
          ∧ r.2.mem ((c.tc : Thread Cert.ConvProjReferenceIdeal.nD Cert.ConvProjReferenceIdeal.τ).loc Cert.ConvProjReferenceIdeal.main_v34) = v1 c
          ∧ r.2.mem ((c.tc : Thread Cert.ConvProjReferenceIdeal.nD Cert.ConvProjReferenceIdeal.τ).loc Cert.ConvProjReferenceIdeal.main_arg0) = m' ((c.tc : Thread Cert.ConvProjReferenceIdeal.nD Cert.ConvProjReferenceIdeal.τ).loc Cert.ConvProjReferenceIdeal.main_arg0)
          ∧ r.2.mem ((c.tc : Thread Cert.ConvProjReferenceIdeal.nD Cert.ConvProjReferenceIdeal.τ).loc Cert.ConvProjReferenceIdeal.main_arg1) = m' ((c.tc : Thread Cert.ConvProjReferenceIdeal.nD Cert.ConvProjReferenceIdeal.τ).loc Cert.ConvProjReferenceIdeal.main_arg1)
          ∧ r.2.mem ((c.tc : Thread Cert.ConvProjReferenceIdeal.nD Cert.ConvProjReferenceIdeal.τ).loc Cert.ConvProjReferenceIdeal.main_arg2) = m' ((c.tc : Thread Cert.ConvProjReferenceIdeal.nD Cert.ConvProjReferenceIdeal.τ).loc Cert.ConvProjReferenceIdeal.main_arg2))

def preserves_ConvBack_ConvBackIdeal : Prop :=
  True

def algebraic_ConvBackIdeal_ConvBackReferenceIdeal [hConvBackIdeal : Cert.ConvBackIdeal.Facts] [hConvBackReferenceIdeal : Cert.ConvBackReferenceIdeal.Facts] : Prop :=
  ∀ (m : (ℓ : Loc Cert.ConvBackIdeal.nD Cert.ConvBackIdeal.τ Cert.ConvBackIdeal.sig) → Buf (Elt Ideal) ℓ) (g : Dev Cert.ConvBackIdeal.nD → PrngReg)
    (m' : (ℓ : Loc Cert.ConvBackReferenceIdeal.nD Cert.ConvBackReferenceIdeal.τ Cert.ConvBackReferenceIdeal.sig) → Buf (Elt Ideal) ℓ) (g' : Dev Cert.ConvBackReferenceIdeal.nD → PrngReg), Pre_ConvBackIdeal m →
    (∀ c : Dev Cert.ConvBackIdeal.nD,
      m' ((c.tc : Thread Cert.ConvBackReferenceIdeal.nD Cert.ConvBackReferenceIdeal.τ).loc Cert.ConvBackReferenceIdeal.main_arg0) = m ((c.tc : Thread Cert.ConvBackIdeal.nD Cert.ConvBackIdeal.τ).loc Cert.ConvBackIdeal.main_arg0)
      ∧ m' ((c.tc : Thread Cert.ConvBackReferenceIdeal.nD Cert.ConvBackReferenceIdeal.τ).loc Cert.ConvBackReferenceIdeal.main_arg1) = m ((c.tc : Thread Cert.ConvBackIdeal.nD Cert.ConvBackIdeal.τ).loc Cert.ConvBackIdeal.main_arg1)
      ∧ m' ((c.tc : Thread Cert.ConvBackReferenceIdeal.nD Cert.ConvBackReferenceIdeal.τ).loc Cert.ConvBackReferenceIdeal.main_arg2) = m ((c.tc : Thread Cert.ConvBackIdeal.nD Cert.ConvBackIdeal.τ).loc Cert.ConvBackIdeal.main_arg2)
      ∧ m' ((c.tc : Thread Cert.ConvBackReferenceIdeal.nD Cert.ConvBackReferenceIdeal.τ).loc Cert.ConvBackReferenceIdeal.main_arg3) = m ((c.tc : Thread Cert.ConvBackIdeal.nD Cert.ConvBackIdeal.τ).loc Cert.ConvBackIdeal.main_arg3)
      ∧ m' ((c.tc : Thread Cert.ConvBackReferenceIdeal.nD Cert.ConvBackReferenceIdeal.τ).loc Cert.ConvBackReferenceIdeal.main_arg4) = m ((c.tc : Thread Cert.ConvBackIdeal.nD Cert.ConvBackIdeal.τ).loc Cert.ConvBackIdeal.main_arg4)) →
    ∃ (v0 : (c : Dev Cert.ConvBackIdeal.nD) → Buf (Elt Ideal) ((c.tc : Thread Cert.ConvBackIdeal.nD Cert.ConvBackIdeal.τ).loc Cert.ConvBackIdeal.main_v10_0)) (v1 : (c : Dev Cert.ConvBackIdeal.nD) → Buf (Elt Ideal) ((c.tc : Thread Cert.ConvBackIdeal.nD Cert.ConvBackIdeal.τ).loc Cert.ConvBackIdeal.main_v10_1)),
      θ_run (Cert.ConvBackIdeal.defs (F := Ideal)) (onTc (τ := Cert.ConvBackIdeal.τ) (Cert.ConvBackIdeal.main (F := Ideal))) ⟨m, fun _ => 0, g⟩ (fun r => ∀ c : Dev Cert.ConvBackIdeal.nD,
          r.2.mem ((c.tc : Thread Cert.ConvBackIdeal.nD Cert.ConvBackIdeal.τ).loc Cert.ConvBackIdeal.main_v10_0) = v0 c
          ∧ r.2.mem ((c.tc : Thread Cert.ConvBackIdeal.nD Cert.ConvBackIdeal.τ).loc Cert.ConvBackIdeal.main_v10_1) = v1 c
          ∧ r.2.mem ((c.tc : Thread Cert.ConvBackIdeal.nD Cert.ConvBackIdeal.τ).loc Cert.ConvBackIdeal.main_arg0) = m ((c.tc : Thread Cert.ConvBackIdeal.nD Cert.ConvBackIdeal.τ).loc Cert.ConvBackIdeal.main_arg0)
          ∧ r.2.mem ((c.tc : Thread Cert.ConvBackIdeal.nD Cert.ConvBackIdeal.τ).loc Cert.ConvBackIdeal.main_arg1) = m ((c.tc : Thread Cert.ConvBackIdeal.nD Cert.ConvBackIdeal.τ).loc Cert.ConvBackIdeal.main_arg1)
          ∧ r.2.mem ((c.tc : Thread Cert.ConvBackIdeal.nD Cert.ConvBackIdeal.τ).loc Cert.ConvBackIdeal.main_arg2) = m ((c.tc : Thread Cert.ConvBackIdeal.nD Cert.ConvBackIdeal.τ).loc Cert.ConvBackIdeal.main_arg2)
          ∧ r.2.mem ((c.tc : Thread Cert.ConvBackIdeal.nD Cert.ConvBackIdeal.τ).loc Cert.ConvBackIdeal.main_arg3) = m ((c.tc : Thread Cert.ConvBackIdeal.nD Cert.ConvBackIdeal.τ).loc Cert.ConvBackIdeal.main_arg3)
          ∧ r.2.mem ((c.tc : Thread Cert.ConvBackIdeal.nD Cert.ConvBackIdeal.τ).loc Cert.ConvBackIdeal.main_arg4) = m ((c.tc : Thread Cert.ConvBackIdeal.nD Cert.ConvBackIdeal.τ).loc Cert.ConvBackIdeal.main_arg4))
      ∧ θ_run (Cert.ConvBackReferenceIdeal.defs (F := Ideal)) (onTc (τ := Cert.ConvBackReferenceIdeal.τ) (Cert.ConvBackReferenceIdeal.main (F := Ideal))) ⟨m', fun _ => 0, g'⟩ (fun r => ∀ c : Dev Cert.ConvBackReferenceIdeal.nD,
          r.2.mem ((c.tc : Thread Cert.ConvBackReferenceIdeal.nD Cert.ConvBackReferenceIdeal.τ).loc Cert.ConvBackReferenceIdeal.main_v38) = v0 c
          ∧ r.2.mem ((c.tc : Thread Cert.ConvBackReferenceIdeal.nD Cert.ConvBackReferenceIdeal.τ).loc Cert.ConvBackReferenceIdeal.main_v39) = v1 c
          ∧ r.2.mem ((c.tc : Thread Cert.ConvBackReferenceIdeal.nD Cert.ConvBackReferenceIdeal.τ).loc Cert.ConvBackReferenceIdeal.main_arg0) = m' ((c.tc : Thread Cert.ConvBackReferenceIdeal.nD Cert.ConvBackReferenceIdeal.τ).loc Cert.ConvBackReferenceIdeal.main_arg0)
          ∧ r.2.mem ((c.tc : Thread Cert.ConvBackReferenceIdeal.nD Cert.ConvBackReferenceIdeal.τ).loc Cert.ConvBackReferenceIdeal.main_arg1) = m' ((c.tc : Thread Cert.ConvBackReferenceIdeal.nD Cert.ConvBackReferenceIdeal.τ).loc Cert.ConvBackReferenceIdeal.main_arg1)
          ∧ r.2.mem ((c.tc : Thread Cert.ConvBackReferenceIdeal.nD Cert.ConvBackReferenceIdeal.τ).loc Cert.ConvBackReferenceIdeal.main_arg2) = m' ((c.tc : Thread Cert.ConvBackReferenceIdeal.nD Cert.ConvBackReferenceIdeal.τ).loc Cert.ConvBackReferenceIdeal.main_arg2)
          ∧ r.2.mem ((c.tc : Thread Cert.ConvBackReferenceIdeal.nD Cert.ConvBackReferenceIdeal.τ).loc Cert.ConvBackReferenceIdeal.main_arg3) = m' ((c.tc : Thread Cert.ConvBackReferenceIdeal.nD Cert.ConvBackReferenceIdeal.τ).loc Cert.ConvBackReferenceIdeal.main_arg3)
          ∧ r.2.mem ((c.tc : Thread Cert.ConvBackReferenceIdeal.nD Cert.ConvBackReferenceIdeal.τ).loc Cert.ConvBackReferenceIdeal.main_arg4) = m' ((c.tc : Thread Cert.ConvBackReferenceIdeal.nD Cert.ConvBackReferenceIdeal.τ).loc Cert.ConvBackReferenceIdeal.main_arg4))

def preserves_MixGrad_MixGradIdeal : Prop :=
  True

def algebraic_MixGradIdeal_MixGradReferenceIdeal [hMixGradIdeal : Cert.MixGradIdeal.Facts] [hMixGradReferenceIdeal : Cert.MixGradReferenceIdeal.Facts] : Prop :=
  ∀ (m : (ℓ : Loc Cert.MixGradIdeal.nD Cert.MixGradIdeal.τ Cert.MixGradIdeal.sig) → Buf (Elt Ideal) ℓ) (g : Dev Cert.MixGradIdeal.nD → PrngReg)
    (m' : (ℓ : Loc Cert.MixGradReferenceIdeal.nD Cert.MixGradReferenceIdeal.τ Cert.MixGradReferenceIdeal.sig) → Buf (Elt Ideal) ℓ) (g' : Dev Cert.MixGradReferenceIdeal.nD → PrngReg), Pre_MixGradIdeal m →
    (∀ c : Dev Cert.MixGradIdeal.nD,
      m' ((c.tc : Thread Cert.MixGradReferenceIdeal.nD Cert.MixGradReferenceIdeal.τ).loc Cert.MixGradReferenceIdeal.main_arg0) = m ((c.tc : Thread Cert.MixGradIdeal.nD Cert.MixGradIdeal.τ).loc Cert.MixGradIdeal.main_arg0)
      ∧ m' ((c.tc : Thread Cert.MixGradReferenceIdeal.nD Cert.MixGradReferenceIdeal.τ).loc Cert.MixGradReferenceIdeal.main_arg1) = m ((c.tc : Thread Cert.MixGradIdeal.nD Cert.MixGradIdeal.τ).loc Cert.MixGradIdeal.main_arg1)
      ∧ m' ((c.tc : Thread Cert.MixGradReferenceIdeal.nD Cert.MixGradReferenceIdeal.τ).loc Cert.MixGradReferenceIdeal.main_arg2) = m ((c.tc : Thread Cert.MixGradIdeal.nD Cert.MixGradIdeal.τ).loc Cert.MixGradIdeal.main_arg2)) →
    ∃ (v0 : (c : Dev Cert.MixGradIdeal.nD) → Buf (Elt Ideal) ((c.tc : Thread Cert.MixGradIdeal.nD Cert.MixGradIdeal.τ).loc Cert.MixGradIdeal.main_v2)),
      θ_run (Cert.MixGradIdeal.defs (F := Ideal)) (onTc (τ := Cert.MixGradIdeal.τ) (Cert.MixGradIdeal.main (F := Ideal))) ⟨m, fun _ => 0, g⟩ (fun r => ∀ c : Dev Cert.MixGradIdeal.nD,
          r.2.mem ((c.tc : Thread Cert.MixGradIdeal.nD Cert.MixGradIdeal.τ).loc Cert.MixGradIdeal.main_v2) = v0 c
          ∧ r.2.mem ((c.tc : Thread Cert.MixGradIdeal.nD Cert.MixGradIdeal.τ).loc Cert.MixGradIdeal.main_arg0) = m ((c.tc : Thread Cert.MixGradIdeal.nD Cert.MixGradIdeal.τ).loc Cert.MixGradIdeal.main_arg0)
          ∧ r.2.mem ((c.tc : Thread Cert.MixGradIdeal.nD Cert.MixGradIdeal.τ).loc Cert.MixGradIdeal.main_arg1) = m ((c.tc : Thread Cert.MixGradIdeal.nD Cert.MixGradIdeal.τ).loc Cert.MixGradIdeal.main_arg1)
          ∧ r.2.mem ((c.tc : Thread Cert.MixGradIdeal.nD Cert.MixGradIdeal.τ).loc Cert.MixGradIdeal.main_arg2) = m ((c.tc : Thread Cert.MixGradIdeal.nD Cert.MixGradIdeal.τ).loc Cert.MixGradIdeal.main_arg2))
      ∧ θ_run (Cert.MixGradReferenceIdeal.defs (F := Ideal)) (onTc (τ := Cert.MixGradReferenceIdeal.τ) (Cert.MixGradReferenceIdeal.main (F := Ideal))) ⟨m', fun _ => 0, g'⟩ (fun r => ∀ c : Dev Cert.MixGradReferenceIdeal.nD,
          r.2.mem ((c.tc : Thread Cert.MixGradReferenceIdeal.nD Cert.MixGradReferenceIdeal.τ).loc Cert.MixGradReferenceIdeal.main_v2) = v0 c
          ∧ r.2.mem ((c.tc : Thread Cert.MixGradReferenceIdeal.nD Cert.MixGradReferenceIdeal.τ).loc Cert.MixGradReferenceIdeal.main_arg0) = m' ((c.tc : Thread Cert.MixGradReferenceIdeal.nD Cert.MixGradReferenceIdeal.τ).loc Cert.MixGradReferenceIdeal.main_arg0)
          ∧ r.2.mem ((c.tc : Thread Cert.MixGradReferenceIdeal.nD Cert.MixGradReferenceIdeal.τ).loc Cert.MixGradReferenceIdeal.main_arg1) = m' ((c.tc : Thread Cert.MixGradReferenceIdeal.nD Cert.MixGradReferenceIdeal.τ).loc Cert.MixGradReferenceIdeal.main_arg1)
          ∧ r.2.mem ((c.tc : Thread Cert.MixGradReferenceIdeal.nD Cert.MixGradReferenceIdeal.τ).loc Cert.MixGradReferenceIdeal.main_arg2) = m' ((c.tc : Thread Cert.MixGradReferenceIdeal.nD Cert.MixGradReferenceIdeal.τ).loc Cert.MixGradReferenceIdeal.main_arg2))

def preserves_AttnGrad_AttnGradIdeal : Prop :=
  True

def algebraic_AttnGradIdeal_AttnGradReferenceIdeal [hAttnGradIdeal : Cert.AttnGradIdeal.Facts] [hAttnGradReferenceIdeal : Cert.AttnGradReferenceIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradReferenceIdeal.nD Cert.AttnGradReferenceIdeal.τ Cert.AttnGradReferenceIdeal.sig) → Buf (Elt Ideal) ℓ) (g' : Dev Cert.AttnGradReferenceIdeal.nD → PrngReg), Pre_AttnGradIdeal m →
    (∀ c : Dev Cert.AttnGradIdeal.nD,
      m' ((c.tc : Thread Cert.AttnGradReferenceIdeal.nD Cert.AttnGradReferenceIdeal.τ).loc Cert.AttnGradReferenceIdeal.main_arg0) = m ((c.tc : Thread Cert.AttnGradIdeal.nD Cert.AttnGradIdeal.τ).loc Cert.AttnGradIdeal.main_arg0)
      ∧ m' ((c.tc : Thread Cert.AttnGradReferenceIdeal.nD Cert.AttnGradReferenceIdeal.τ).loc Cert.AttnGradReferenceIdeal.main_arg1) = m ((c.tc : Thread Cert.AttnGradIdeal.nD Cert.AttnGradIdeal.τ).loc Cert.AttnGradIdeal.main_arg1)
      ∧ m' ((c.tc : Thread Cert.AttnGradReferenceIdeal.nD Cert.AttnGradReferenceIdeal.τ).loc Cert.AttnGradReferenceIdeal.main_arg2) = m ((c.tc : Thread Cert.AttnGradIdeal.nD Cert.AttnGradIdeal.τ).loc Cert.AttnGradIdeal.main_arg2)
      ∧ m' ((c.tc : Thread Cert.AttnGradReferenceIdeal.nD Cert.AttnGradReferenceIdeal.τ).loc Cert.AttnGradReferenceIdeal.main_arg3) = m ((c.tc : Thread Cert.AttnGradIdeal.nD Cert.AttnGradIdeal.τ).loc Cert.AttnGradIdeal.main_arg3)) →
    ∃ (v0 : (c : Dev Cert.AttnGradIdeal.nD) → Buf (Elt Ideal) ((c.tc : Thread Cert.AttnGradIdeal.nD Cert.AttnGradIdeal.τ).loc Cert.AttnGradIdeal.main_v17)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v17) = v0 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3))
      ∧ θ_run (Cert.AttnGradReferenceIdeal.defs (F := Ideal)) (onTc (τ := Cert.AttnGradReferenceIdeal.τ) (Cert.AttnGradReferenceIdeal.main (F := Ideal))) ⟨m', fun _ => 0, g'⟩ (fun r => ∀ c : Dev Cert.AttnGradReferenceIdeal.nD,
          r.2.mem ((c.tc : Thread Cert.AttnGradReferenceIdeal.nD Cert.AttnGradReferenceIdeal.τ).loc Cert.AttnGradReferenceIdeal.main_v16) = v0 c
          ∧ r.2.mem ((c.tc : Thread Cert.AttnGradReferenceIdeal.nD Cert.AttnGradReferenceIdeal.τ).loc Cert.AttnGradReferenceIdeal.main_arg0) = m' ((c.tc : Thread Cert.AttnGradReferenceIdeal.nD Cert.AttnGradReferenceIdeal.τ).loc Cert.AttnGradReferenceIdeal.main_arg0)
          ∧ r.2.mem ((c.tc : Thread Cert.AttnGradReferenceIdeal.nD Cert.AttnGradReferenceIdeal.τ).loc Cert.AttnGradReferenceIdeal.main_arg1) = m' ((c.tc : Thread Cert.AttnGradReferenceIdeal.nD Cert.AttnGradReferenceIdeal.τ).loc Cert.AttnGradReferenceIdeal.main_arg1)
          ∧ r.2.mem ((c.tc : Thread Cert.AttnGradReferenceIdeal.nD Cert.AttnGradReferenceIdeal.τ).loc Cert.AttnGradReferenceIdeal.main_arg2) = m' ((c.tc : Thread Cert.AttnGradReferenceIdeal.nD Cert.AttnGradReferenceIdeal.τ).loc Cert.AttnGradReferenceIdeal.main_arg2)
          ∧ r.2.mem ((c.tc : Thread Cert.AttnGradReferenceIdeal.nD Cert.AttnGradReferenceIdeal.τ).loc Cert.AttnGradReferenceIdeal.main_arg3) = m' ((c.tc : Thread Cert.AttnGradReferenceIdeal.nD Cert.AttnGradReferenceIdeal.τ).loc Cert.AttnGradReferenceIdeal.main_arg3))

def preserves_AttnProj_AttnProjIdeal : Prop :=
  True

def algebraic_AttnProjIdeal_AttnProjReferenceIdeal [hAttnProjIdeal : Cert.AttnProjIdeal.Facts] [hAttnProjReferenceIdeal : Cert.AttnProjReferenceIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjReferenceIdeal.nD Cert.AttnProjReferenceIdeal.τ Cert.AttnProjReferenceIdeal.sig) → Buf (Elt Ideal) ℓ) (g' : Dev Cert.AttnProjReferenceIdeal.nD → PrngReg), Pre_AttnProjIdeal m →
    (∀ c : Dev Cert.AttnProjIdeal.nD,
      m' ((c.tc : Thread Cert.AttnProjReferenceIdeal.nD Cert.AttnProjReferenceIdeal.τ).loc Cert.AttnProjReferenceIdeal.main_arg0) = m ((c.tc : Thread Cert.AttnProjIdeal.nD Cert.AttnProjIdeal.τ).loc Cert.AttnProjIdeal.main_arg0)
      ∧ m' ((c.tc : Thread Cert.AttnProjReferenceIdeal.nD Cert.AttnProjReferenceIdeal.τ).loc Cert.AttnProjReferenceIdeal.main_arg1) = m ((c.tc : Thread Cert.AttnProjIdeal.nD Cert.AttnProjIdeal.τ).loc Cert.AttnProjIdeal.main_arg1)
      ∧ m' ((c.tc : Thread Cert.AttnProjReferenceIdeal.nD Cert.AttnProjReferenceIdeal.τ).loc Cert.AttnProjReferenceIdeal.main_arg2) = m ((c.tc : Thread Cert.AttnProjIdeal.nD Cert.AttnProjIdeal.τ).loc Cert.AttnProjIdeal.main_arg2)) →
    ∃ (v0 : (c : Dev Cert.AttnProjIdeal.nD) → Buf (Elt Ideal) ((c.tc : Thread Cert.AttnProjIdeal.nD Cert.AttnProjIdeal.τ).loc Cert.AttnProjIdeal.main_v3_0)) (v1 : (c : Dev Cert.AttnProjIdeal.nD) → Buf (Elt Ideal) ((c.tc : Thread Cert.AttnProjIdeal.nD Cert.AttnProjIdeal.τ).loc Cert.AttnProjIdeal.main_v3_1)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v3_0) = v0 c
          ∧ r.2.mem ((c.tc : Thread Cert.AttnProjIdeal.nD Cert.AttnProjIdeal.τ).loc Cert.AttnProjIdeal.main_v3_1) = v1 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2))
      ∧ θ_run (Cert.AttnProjReferenceIdeal.defs (F := Ideal)) (onTc (τ := Cert.AttnProjReferenceIdeal.τ) (Cert.AttnProjReferenceIdeal.main (F := Ideal))) ⟨m', fun _ => 0, g'⟩ (fun r => ∀ c : Dev Cert.AttnProjReferenceIdeal.nD,
          r.2.mem ((c.tc : Thread Cert.AttnProjReferenceIdeal.nD Cert.AttnProjReferenceIdeal.τ).loc Cert.AttnProjReferenceIdeal.main_v13) = v0 c
          ∧ r.2.mem ((c.tc : Thread Cert.AttnProjReferenceIdeal.nD Cert.AttnProjReferenceIdeal.τ).loc Cert.AttnProjReferenceIdeal.main_v28) = v1 c
          ∧ r.2.mem ((c.tc : Thread Cert.AttnProjReferenceIdeal.nD Cert.AttnProjReferenceIdeal.τ).loc Cert.AttnProjReferenceIdeal.main_arg0) = m' ((c.tc : Thread Cert.AttnProjReferenceIdeal.nD Cert.AttnProjReferenceIdeal.τ).loc Cert.AttnProjReferenceIdeal.main_arg0)
          ∧ r.2.mem ((c.tc : Thread Cert.AttnProjReferenceIdeal.nD Cert.AttnProjReferenceIdeal.τ).loc Cert.AttnProjReferenceIdeal.main_arg1) = m' ((c.tc : Thread Cert.AttnProjReferenceIdeal.nD Cert.AttnProjReferenceIdeal.τ).loc Cert.AttnProjReferenceIdeal.main_arg1)
          ∧ r.2.mem ((c.tc : Thread Cert.AttnProjReferenceIdeal.nD Cert.AttnProjReferenceIdeal.τ).loc Cert.AttnProjReferenceIdeal.main_arg2) = m' ((c.tc : Thread Cert.AttnProjReferenceIdeal.nD Cert.AttnProjReferenceIdeal.τ).loc Cert.AttnProjReferenceIdeal.main_arg2))

def preserves_AttnBack_AttnBackIdeal : Prop :=
  True

def algebraic_AttnBackIdeal_AttnBackReferenceIdeal [hAttnBackIdeal : Cert.AttnBackIdeal.Facts] [hAttnBackReferenceIdeal : Cert.AttnBackReferenceIdeal.Facts] : Prop :=
  ∀ (m : (ℓ : Loc Cert.AttnBackIdeal.nD Cert.AttnBackIdeal.τ Cert.AttnBackIdeal.sig) → Buf (Elt Ideal) ℓ) (g : Dev Cert.AttnBackIdeal.nD → PrngReg)
    (m' : (ℓ : Loc Cert.AttnBackReferenceIdeal.nD Cert.AttnBackReferenceIdeal.τ Cert.AttnBackReferenceIdeal.sig) → Buf (Elt Ideal) ℓ) (g' : Dev Cert.AttnBackReferenceIdeal.nD → PrngReg), Pre_AttnBackIdeal m →
    (∀ c : Dev Cert.AttnBackIdeal.nD,
      m' ((c.tc : Thread Cert.AttnBackReferenceIdeal.nD Cert.AttnBackReferenceIdeal.τ).loc Cert.AttnBackReferenceIdeal.main_arg0) = m ((c.tc : Thread Cert.AttnBackIdeal.nD Cert.AttnBackIdeal.τ).loc Cert.AttnBackIdeal.main_arg0)
      ∧ m' ((c.tc : Thread Cert.AttnBackReferenceIdeal.nD Cert.AttnBackReferenceIdeal.τ).loc Cert.AttnBackReferenceIdeal.main_arg1) = m ((c.tc : Thread Cert.AttnBackIdeal.nD Cert.AttnBackIdeal.τ).loc Cert.AttnBackIdeal.main_arg1)
      ∧ m' ((c.tc : Thread Cert.AttnBackReferenceIdeal.nD Cert.AttnBackReferenceIdeal.τ).loc Cert.AttnBackReferenceIdeal.main_arg2) = m ((c.tc : Thread Cert.AttnBackIdeal.nD Cert.AttnBackIdeal.τ).loc Cert.AttnBackIdeal.main_arg2)
      ∧ m' ((c.tc : Thread Cert.AttnBackReferenceIdeal.nD Cert.AttnBackReferenceIdeal.τ).loc Cert.AttnBackReferenceIdeal.main_arg3) = m ((c.tc : Thread Cert.AttnBackIdeal.nD Cert.AttnBackIdeal.τ).loc Cert.AttnBackIdeal.main_arg3)
      ∧ m' ((c.tc : Thread Cert.AttnBackReferenceIdeal.nD Cert.AttnBackReferenceIdeal.τ).loc Cert.AttnBackReferenceIdeal.main_arg4) = m ((c.tc : Thread Cert.AttnBackIdeal.nD Cert.AttnBackIdeal.τ).loc Cert.AttnBackIdeal.main_arg4)) →
    ∃ (v0 : (c : Dev Cert.AttnBackIdeal.nD) → Buf (Elt Ideal) ((c.tc : Thread Cert.AttnBackIdeal.nD Cert.AttnBackIdeal.τ).loc Cert.AttnBackIdeal.main_v6_0)) (v1 : (c : Dev Cert.AttnBackIdeal.nD) → Buf (Elt Ideal) ((c.tc : Thread Cert.AttnBackIdeal.nD Cert.AttnBackIdeal.τ).loc Cert.AttnBackIdeal.main_v6_1)),
      θ_run (Cert.AttnBackIdeal.defs (F := Ideal)) (onTc (τ := Cert.AttnBackIdeal.τ) (Cert.AttnBackIdeal.main (F := Ideal))) ⟨m, fun _ => 0, g⟩ (fun r => ∀ c : Dev Cert.AttnBackIdeal.nD,
          r.2.mem ((c.tc : Thread Cert.AttnBackIdeal.nD Cert.AttnBackIdeal.τ).loc Cert.AttnBackIdeal.main_v6_0) = v0 c
          ∧ r.2.mem ((c.tc : Thread Cert.AttnBackIdeal.nD Cert.AttnBackIdeal.τ).loc Cert.AttnBackIdeal.main_v6_1) = v1 c
          ∧ r.2.mem ((c.tc : Thread Cert.AttnBackIdeal.nD Cert.AttnBackIdeal.τ).loc Cert.AttnBackIdeal.main_arg0) = m ((c.tc : Thread Cert.AttnBackIdeal.nD Cert.AttnBackIdeal.τ).loc Cert.AttnBackIdeal.main_arg0)
          ∧ r.2.mem ((c.tc : Thread Cert.AttnBackIdeal.nD Cert.AttnBackIdeal.τ).loc Cert.AttnBackIdeal.main_arg1) = m ((c.tc : Thread Cert.AttnBackIdeal.nD Cert.AttnBackIdeal.τ).loc Cert.AttnBackIdeal.main_arg1)
          ∧ r.2.mem ((c.tc : Thread Cert.AttnBackIdeal.nD Cert.AttnBackIdeal.τ).loc Cert.AttnBackIdeal.main_arg2) = m ((c.tc : Thread Cert.AttnBackIdeal.nD Cert.AttnBackIdeal.τ).loc Cert.AttnBackIdeal.main_arg2)
          ∧ r.2.mem ((c.tc : Thread Cert.AttnBackIdeal.nD Cert.AttnBackIdeal.τ).loc Cert.AttnBackIdeal.main_arg3) = m ((c.tc : Thread Cert.AttnBackIdeal.nD Cert.AttnBackIdeal.τ).loc Cert.AttnBackIdeal.main_arg3)
          ∧ r.2.mem ((c.tc : Thread Cert.AttnBackIdeal.nD Cert.AttnBackIdeal.τ).loc Cert.AttnBackIdeal.main_arg4) = m ((c.tc : Thread Cert.AttnBackIdeal.nD Cert.AttnBackIdeal.τ).loc Cert.AttnBackIdeal.main_arg4))
      ∧ θ_run (Cert.AttnBackReferenceIdeal.defs (F := Ideal)) (onTc (τ := Cert.AttnBackReferenceIdeal.τ) (Cert.AttnBackReferenceIdeal.main (F := Ideal))) ⟨m', fun _ => 0, g'⟩ (fun r => ∀ c : Dev Cert.AttnBackReferenceIdeal.nD,
          r.2.mem ((c.tc : Thread Cert.AttnBackReferenceIdeal.nD Cert.AttnBackReferenceIdeal.τ).loc Cert.AttnBackReferenceIdeal.main_v38) = v0 c
          ∧ r.2.mem ((c.tc : Thread Cert.AttnBackReferenceIdeal.nD Cert.AttnBackReferenceIdeal.τ).loc Cert.AttnBackReferenceIdeal.main_v39) = v1 c
          ∧ r.2.mem ((c.tc : Thread Cert.AttnBackReferenceIdeal.nD Cert.AttnBackReferenceIdeal.τ).loc Cert.AttnBackReferenceIdeal.main_arg0) = m' ((c.tc : Thread Cert.AttnBackReferenceIdeal.nD Cert.AttnBackReferenceIdeal.τ).loc Cert.AttnBackReferenceIdeal.main_arg0)
          ∧ r.2.mem ((c.tc : Thread Cert.AttnBackReferenceIdeal.nD Cert.AttnBackReferenceIdeal.τ).loc Cert.AttnBackReferenceIdeal.main_arg1) = m' ((c.tc : Thread Cert.AttnBackReferenceIdeal.nD Cert.AttnBackReferenceIdeal.τ).loc Cert.AttnBackReferenceIdeal.main_arg1)
          ∧ r.2.mem ((c.tc : Thread Cert.AttnBackReferenceIdeal.nD Cert.AttnBackReferenceIdeal.τ).loc Cert.AttnBackReferenceIdeal.main_arg2) = m' ((c.tc : Thread Cert.AttnBackReferenceIdeal.nD Cert.AttnBackReferenceIdeal.τ).loc Cert.AttnBackReferenceIdeal.main_arg2)
          ∧ r.2.mem ((c.tc : Thread Cert.AttnBackReferenceIdeal.nD Cert.AttnBackReferenceIdeal.τ).loc Cert.AttnBackReferenceIdeal.main_arg3) = m' ((c.tc : Thread Cert.AttnBackReferenceIdeal.nD Cert.AttnBackReferenceIdeal.τ).loc Cert.AttnBackReferenceIdeal.main_arg3)
          ∧ r.2.mem ((c.tc : Thread Cert.AttnBackReferenceIdeal.nD Cert.AttnBackReferenceIdeal.τ).loc Cert.AttnBackReferenceIdeal.main_arg4) = m' ((c.tc : Thread Cert.AttnBackReferenceIdeal.nD Cert.AttnBackReferenceIdeal.τ).loc Cert.AttnBackReferenceIdeal.main_arg4))

def Claim : Prop :=
  ∃ (hKernel : Cert.Kernel.Facts) (hKernelIdeal : Cert.KernelIdeal.Facts) (hReferenceIdeal : Cert.ReferenceIdeal.Facts) (hUpGrad : Cert.UpGrad.Facts) (hUpGradIdeal : Cert.UpGradIdeal.Facts) (hUpGradReferenceIdeal : Cert.UpGradReferenceIdeal.Facts) (hUpBack : Cert.UpBack.Facts) (hUpBackIdeal : Cert.UpBackIdeal.Facts) (hUpBackReferenceIdeal : Cert.UpBackReferenceIdeal.Facts) (hDownGrad : Cert.DownGrad.Facts) (hDownGradIdeal : Cert.DownGradIdeal.Facts) (hDownGradReferenceIdeal : Cert.DownGradReferenceIdeal.Facts) (hUpProj : Cert.UpProj.Facts) (hUpProjIdeal : Cert.UpProjIdeal.Facts) (hUpProjReferenceIdeal : Cert.UpProjReferenceIdeal.Facts) (hConvGrad : Cert.ConvGrad.Facts) (hConvGradIdeal : Cert.ConvGradIdeal.Facts) (hConvGradReferenceIdeal : Cert.ConvGradReferenceIdeal.Facts) (hConvProj : Cert.ConvProj.Facts) (hConvProjIdeal : Cert.ConvProjIdeal.Facts) (hConvProjReferenceIdeal : Cert.ConvProjReferenceIdeal.Facts) (hConvBack : Cert.ConvBack.Facts) (hConvBackIdeal : Cert.ConvBackIdeal.Facts) (hConvBackReferenceIdeal : Cert.ConvBackReferenceIdeal.Facts) (hMixGrad : Cert.MixGrad.Facts) (hMixGradIdeal : Cert.MixGradIdeal.Facts) (hMixGradReferenceIdeal : Cert.MixGradReferenceIdeal.Facts) (hAttnGrad : Cert.AttnGrad.Facts) (hAttnGradIdeal : Cert.AttnGradIdeal.Facts) (hAttnGradReferenceIdeal : Cert.AttnGradReferenceIdeal.Facts) (hAttnProj : Cert.AttnProj.Facts) (hAttnProjIdeal : Cert.AttnProjIdeal.Facts) (hAttnProjReferenceIdeal : Cert.AttnProjReferenceIdeal.Facts) (hAttnBack : Cert.AttnBack.Facts) (hAttnBackIdeal : Cert.AttnBackIdeal.Facts) (hAttnBackReferenceIdeal : Cert.AttnBackReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_UpBack (hUpBack := hUpBack)
    ∧ quiescent_UpBackIdeal (hUpBackIdeal := hUpBackIdeal)
    ∧ quiescent_UpBackReferenceIdeal (hUpBackReferenceIdeal := hUpBackReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_UpProj (hUpProj := hUpProj)
    ∧ quiescent_UpProjIdeal (hUpProjIdeal := hUpProjIdeal)
    ∧ quiescent_UpProjReferenceIdeal (hUpProjReferenceIdeal := hUpProjReferenceIdeal)
    ∧ quiescent_ConvGrad (hConvGrad := hConvGrad)
    ∧ quiescent_ConvGradIdeal (hConvGradIdeal := hConvGradIdeal)
    ∧ quiescent_ConvGradReferenceIdeal (hConvGradReferenceIdeal := hConvGradReferenceIdeal)
    ∧ quiescent_ConvProj (hConvProj := hConvProj)
    ∧ quiescent_ConvProjIdeal (hConvProjIdeal := hConvProjIdeal)
    ∧ quiescent_ConvProjReferenceIdeal (hConvProjReferenceIdeal := hConvProjReferenceIdeal)
    ∧ quiescent_ConvBack (hConvBack := hConvBack)
    ∧ quiescent_ConvBackIdeal (hConvBackIdeal := hConvBackIdeal)
    ∧ quiescent_ConvBackReferenceIdeal (hConvBackReferenceIdeal := hConvBackReferenceIdeal)
    ∧ quiescent_MixGrad (hMixGrad := hMixGrad)
    ∧ quiescent_MixGradIdeal (hMixGradIdeal := hMixGradIdeal)
    ∧ quiescent_MixGradReferenceIdeal (hMixGradReferenceIdeal := hMixGradReferenceIdeal)
    ∧ quiescent_AttnGrad (hAttnGrad := hAttnGrad)
    ∧ quiescent_AttnGradIdeal (hAttnGradIdeal := hAttnGradIdeal)
    ∧ quiescent_AttnGradReferenceIdeal (hAttnGradReferenceIdeal := hAttnGradReferenceIdeal)
    ∧ quiescent_AttnProj (hAttnProj := hAttnProj)
    ∧ quiescent_AttnProjIdeal (hAttnProjIdeal := hAttnProjIdeal)
    ∧ quiescent_AttnProjReferenceIdeal (hAttnProjReferenceIdeal := hAttnProjReferenceIdeal)
    ∧ quiescent_AttnBack (hAttnBack := hAttnBack)
    ∧ quiescent_AttnBackIdeal (hAttnBackIdeal := hAttnBackIdeal)
    ∧ quiescent_AttnBackReferenceIdeal (hAttnBackReferenceIdeal := hAttnBackReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpGrad_UpGradIdeal
    ∧ algebraic_UpGradIdeal_UpGradReferenceIdeal (hUpGradIdeal := hUpGradIdeal) (hUpGradReferenceIdeal := hUpGradReferenceIdeal)
    ∧ preserves_UpBack_UpBackIdeal
    ∧ algebraic_UpBackIdeal_UpBackReferenceIdeal (hUpBackIdeal := hUpBackIdeal) (hUpBackReferenceIdeal := hUpBackReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_UpProj_UpProjIdeal
    ∧ algebraic_UpProjIdeal_UpProjReferenceIdeal (hUpProjIdeal := hUpProjIdeal) (hUpProjReferenceIdeal := hUpProjReferenceIdeal)
    ∧ preserves_ConvGrad_ConvGradIdeal
    ∧ algebraic_ConvGradIdeal_ConvGradReferenceIdeal (hConvGradIdeal := hConvGradIdeal) (hConvGradReferenceIdeal := hConvGradReferenceIdeal)
    ∧ preserves_ConvProj_ConvProjIdeal
    ∧ algebraic_ConvProjIdeal_ConvProjReferenceIdeal (hConvProjIdeal := hConvProjIdeal) (hConvProjReferenceIdeal := hConvProjReferenceIdeal)
    ∧ preserves_ConvBack_ConvBackIdeal
    ∧ algebraic_ConvBackIdeal_ConvBackReferenceIdeal (hConvBackIdeal := hConvBackIdeal) (hConvBackReferenceIdeal := hConvBackReferenceIdeal)
    ∧ preserves_MixGrad_MixGradIdeal
    ∧ algebraic_MixGradIdeal_MixGradReferenceIdeal (hMixGradIdeal := hMixGradIdeal) (hMixGradReferenceIdeal := hMixGradReferenceIdeal)
    ∧ preserves_AttnGrad_AttnGradIdeal
    ∧ algebraic_AttnGradIdeal_AttnGradReferenceIdeal (hAttnGradIdeal := hAttnGradIdeal) (hAttnGradReferenceIdeal := hAttnGradReferenceIdeal)
    ∧ preserves_AttnProj_AttnProjIdeal
    ∧ algebraic_AttnProjIdeal_AttnProjReferenceIdeal (hAttnProjIdeal := hAttnProjIdeal) (hAttnProjReferenceIdeal := hAttnProjReferenceIdeal)
    ∧ preserves_AttnBack_AttnBackIdeal
    ∧ algebraic_AttnBackIdeal_AttnBackReferenceIdeal (hAttnBackIdeal := hAttnBackIdeal) (hAttnBackReferenceIdeal := hAttnBackReferenceIdeal)
-- ==== Pre_finite.lean ====
abbrev S16x8192x64 : Shape := ⟨3, ![16, 8192, 64]⟩
abbrev S_ : Shape := ⟨0, ![]⟩

class Facts : Prop where
  bcast_S_S16x8192x64 : S_.BroadcastsInDim S16x8192x64 (![] : Fin 0 → Fin S16x8192x64.rank)
  reducesTo_S16x8192x64_S_d0_1_2 : S16x8192x64.ReducesTo [0, 1, 2] S_
  h_S_ : 0 < S_.numel

variable [Facts]

def fn_part1 {F : FTy → Type} [FloatOps F] (main_v13 : IVec S_ 1) (main_v16 : IVec S16x8192x64 1) : IVec S_ 1 :=
  let main_c_5 : IVec S_ 1 := constantI S_ 1 1#1
  let main_v17 : IVec S_ 1 := (fun x v => Host.reduce IntOp.andi x v reducesTo_S16x8192x64_S_d0_1_2 h_S_) main_v16 main_c_5
  let main_v18 : IVec S_ 1 := andi main_v13 main_v17
  main_v18

def fn {F : FTy → Type} [FloatOps F] (main_arg0 : FVec F S16x8192x64 .f32) (main_arg1 : FVec F S16x8192x64 .f32) (main_arg2 : FVec F S16x8192x64 .f32) (main_arg3 : FVec F S16x8192x64 .f32) : IVec S_ 1 :=
  let main_v0 : FVec F S16x8192x64 .f32 := Host.absf main_arg0
  let main_cst : FVec F S_ .f32 := constant S_ .f32 0x7F800000#32
  let main_v1 : FVec F S16x8192x64 .f32 := broadcastInDim S16x8192x64 ![] bcast_S_S16x8192x64 main_cst
  let main_v2 : IVec S16x8192x64 1 := cmpf .olt main_v0 main_v1
  let main_c : IVec S_ 1 := constantI S_ 1 1#1
  let main_v3 : IVec S_ 1 := (fun x v => Host.reduce IntOp.andi x v reducesTo_S16x8192x64_S_d0_1_2 h_S_) main_v2 main_c
  let main_v4 : FVec F S16x8192x64 .f32 := Host.absf main_arg1
  let main_cst_0 : FVec F S_ .f32 := constant S_ .f32 0x7F800000#32
  let main_v5 : FVec F S16x8192x64 .f32 := broadcastInDim S16x8192x64 ![] bcast_S_S16x8192x64 main_cst_0
  let main_v6 : IVec S16x8192x64 1 := cmpf .olt main_v4 main_v5
  let main_c_1 : IVec S_ 1 := constantI S_ 1 1#1
  let main_v7 : IVec S_ 1 := (fun x v => Host.reduce IntOp.andi x v reducesTo_S16x8192x64_S_d0_1_2 h_S_) main_v6 main_c_1
  let main_v8 : IVec S_ 1 := andi main_v3 main_v7
  let main_v9 : FVec F S16x8192x64 .f32 := Host.absf main_arg2
  let main_cst_2 : FVec F S_ .f32 := constant S_ .f32 0x7F800000#32
  let main_v10 : FVec F S16x8192x64 .f32 := broadcastInDim S16x8192x64 ![] bcast_S_S16x8192x64 main_cst_2
  let main_v11 : IVec S16x8192x64 1 := cmpf .olt main_v9 main_v10
  let main_c_3 : IVec S_ 1 := constantI S_ 1 1#1
  let main_v12 : IVec S_ 1 := (fun x v => Host.reduce IntOp.andi x v reducesTo_S16x8192x64_S_d0_1_2 h_S_) main_v11 main_c_3
  let main_v13 : IVec S_ 1 := andi main_v8 main_v12
  let main_v14 : FVec F S16x8192x64 .f32 := Host.absf main_arg3
  let main_cst_4 : FVec F S_ .f32 := constant S_ .f32 0x7F800000#32
  let main_v15 : FVec F S16x8192x64 .f32 := broadcastInDim S16x8192x64 ![] bcast_S_S16x8192x64 main_cst_4
  let main_v16 : IVec S16x8192x64 1 := cmpf .olt main_v14 main_v15
  fn_part1 (F := F) main_v13 main_v16
-- ==== Kernel.lean ====
abbrev S16x8192x64 : Shape := ⟨3, ![16, 8192, 64]⟩
abbrev S_ : Shape := ⟨0, ![]⟩
abbrev S16x8192x128 : Shape := ⟨3, ![16, 8192, 128]⟩
abbrev S16x16x512x128 : Shape := ⟨4, ![16, 16, 512, 128]⟩
abbrev S16x8192x1 : Shape := ⟨3, ![16, 8192, 1]⟩
abbrev S16x8192x63 : Shape := ⟨3, ![16, 8192, 63]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192 : Shape := ⟨1, ![8192]⟩
abbrev S8x8192x64 : Shape := ⟨3, ![8, 8192, 64]⟩
abbrev S8x8192x8192 : Shape := ⟨3, ![8, 8192, 8192]⟩
abbrev S1x8192 : Shape := ⟨2, ![1, 8192]⟩
abbrev S8192x1 : Shape := ⟨2, ![8192, 1]⟩
abbrev S8192x8192 : Shape := ⟨2, ![8192, 8192]⟩
abbrev S8x8192x16 : Shape := ⟨3, ![8, 8192, 16]⟩
abbrev S8x8192x128 : Shape := ⟨3, ![8, 8192, 128]⟩
abbrev S8x16x512x128 : Shape := ⟨4, ![8, 16, 512, 128]⟩
abbrev S1x512x128 : Shape := ⟨3, ![1, 512, 128]⟩
abbrev S1x16x512x128 : Shape := ⟨4, ![1, 16, 512, 128]⟩
abbrev S512x128 : Shape := ⟨2, ![512, 128]⟩
abbrev S1024x128 : Shape := ⟨2, ![1024, 128]⟩
abbrev S1x128 : Shape := ⟨2, ![1, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S512x1 : Shape := ⟨2, ![512, 1]⟩
abbrev S1x1x512x128 : Shape := ⟨4, ![1, 1, 512, 128]⟩
abbrev S512x512 : Shape := ⟨2, ![512, 512]⟩
abbrev S512 : Shape := ⟨1, ![512]⟩
abbrev S512x256 : Shape := ⟨2, ![512, 256]⟩
abbrev S1024x512 : Shape := ⟨2, ![1024, 512]⟩

abbrev nBuf : Space → Nat
  | .hbm => 79
  | .vmem => 15
  | .smem => 0
  | _ => 0

abbrev bufTy : (tb : Table) → Fin (tcTables nBuf tb) → BufTy
  | .hbm, ⟨0, _⟩ => ⟨S16x8192x64, .f32⟩
  | .hbm, ⟨1, _⟩ => ⟨S16x8192x64, .f32⟩
  | .hbm, ⟨2, _⟩ => ⟨S16x8192x64, .f32⟩
  | .hbm, ⟨3, _⟩ => ⟨S16x8192x64, .f32⟩
  | .hbm, ⟨4, _⟩ => ⟨S_, .f32⟩
  | .hbm, ⟨5, _⟩ => ⟨S16x8192x64, .f32⟩
  | .hbm, ⟨6, _⟩ => ⟨S16x8192x64, .f32⟩
  | .hbm, ⟨7, _⟩ => ⟨S_, .i32⟩
  | .hbm, ⟨8, _⟩ => ⟨S_, .f32⟩
  | .hbm, ⟨9, _⟩ => ⟨S16x8192x128, .f32⟩
  | .hbm, ⟨10, _⟩ => ⟨S16x8192x128, .bf16⟩
  | .hbm, ⟨11, _⟩ => ⟨S_, .i32⟩
  | .hbm, ⟨12, _⟩ => ⟨S_, .f32⟩
  | .hbm, ⟨13, _⟩ => ⟨S16x8192x128, .f32⟩
  | .hbm, ⟨14, _⟩ => ⟨S16x8192x128, .bf16⟩
  | .hbm, ⟨15, _⟩ => ⟨S16x16x512x128, .bf16⟩
  | .hbm, ⟨16, _⟩ => ⟨S_, .f32⟩
  | .hbm, ⟨17, _⟩ => ⟨S16x8192x1, .f32⟩
  | .hbm, ⟨18, _⟩ => ⟨S_, .f32⟩
  | .hbm, ⟨19, _⟩ => ⟨S16x8192x63, .f32⟩
  | .hbm, ⟨20, _⟩ => ⟨S16x8192x128, .f32⟩
  | .hbm, ⟨21, _⟩ => ⟨S16x8192x128, .bf16⟩
  | .hbm, ⟨22, _⟩ => ⟨S16x16x512x128, .bf16⟩
  | .hbm, ⟨23, _⟩ => ⟨S_, .i32⟩
  | .hbm, ⟨24, _⟩ => ⟨S_, .f32⟩
  | .hbm, ⟨25, _⟩ => ⟨S16x8192x128, .f32⟩
  | .hbm, ⟨26, _⟩ => ⟨S16x8192x128, .bf16⟩
  | .hbm, ⟨27, _⟩ => ⟨S256, .i32⟩
  | .hbm, ⟨28, _⟩ => ⟨S256x1, .i32⟩
  | .hbm, ⟨29, _⟩ => ⟨S1x256, .i32⟩
  | .hbm, ⟨30, _⟩ => ⟨S256x256, .i32⟩
  | .hbm, ⟨31, _⟩ => ⟨S256x256, .i32⟩
  | .hbm, ⟨32, _⟩ => ⟨S256x256, .i1⟩
  | .hbm, ⟨33, _⟩ => ⟨S256x256, .f32⟩
  | .hbm, ⟨34, _⟩ => ⟨S256x256, .bf16⟩
  | .hbm, ⟨35, _⟩ => ⟨S8192, .i32⟩
  | .hbm, ⟨36, _⟩ => ⟨S8x8192x64, .f32⟩
  | .hbm, ⟨37, _⟩ => ⟨S_, .f32⟩
  | .hbm, ⟨38, _⟩ => ⟨S8x8192x64, .f32⟩
  | .hbm, ⟨39, _⟩ => ⟨S8x8192x64, .f32⟩
  | .hbm, ⟨40, _⟩ => ⟨S8x8192x64, .f32⟩
  | .hbm, ⟨41, _⟩ => ⟨S8x8192x8192, .f32⟩
  | .hbm, ⟨42, _⟩ => ⟨S1x8192, .i32⟩
  | .hbm, ⟨43, _⟩ => ⟨S8192x1, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S8x8192x8192, .i1⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S_, .f32⟩
  | .hbm, ⟨66, _⟩ => ⟨S8x8192x8192, .i1⟩
  | .hbm, ⟨67, _⟩ => ⟨S8x8192x8192, .f32⟩
  | .hbm, ⟨68, _⟩ => ⟨S8x8192x8192, .f32⟩
  | .hbm, ⟨69, _⟩ => ⟨S_, .f32⟩
  | .hbm, ⟨70, _⟩ => ⟨S_, .f32⟩
  | .hbm, ⟨71, _⟩ => ⟨S8x8192x8192, .f32⟩
  | .hbm, ⟨72, _⟩ => ⟨S8x8192x8192, .f32⟩
  | .hbm, ⟨73, _⟩ => ⟨S8x8192x16, .f32⟩
  | .hbm, ⟨74, _⟩ => ⟨S_, .f32⟩
  | .hbm, ⟨75, _⟩ => ⟨S_, .f32⟩
  | .hbm, ⟨76, _⟩ => ⟨S8x8192x128, .f32⟩
  | .hbm, ⟨77, _⟩ => ⟨S8x8192x128, .f32⟩
  | .hbm, ⟨78, _⟩ => ⟨S8x16x512x128, .f32⟩
  | .local _ .vmem, ⟨0, _⟩ => ⟨S1x512x128, .bf16⟩
  | .local _ .vmem, ⟨1, _⟩ => ⟨S1x512x128, .bf16⟩
  | .local _ .vmem, ⟨2, _⟩ => ⟨S1x16x512x128, .bf16⟩
  | .local _ .vmem, ⟨3, _⟩ => ⟨S1x16x512x128, .bf16⟩
  | .local _ .vmem, ⟨4, _⟩ => ⟨S1x16x512x128, .bf16⟩
  | .local _ .vmem, ⟨5, _⟩ => ⟨S1x16x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S256x256, .bf16⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x16x512x128, .f32⟩
  | .local _ .vmem, ⟨14, _⟩ => ⟨S1x16x512x128, .f32⟩
  | _, _ => ⟨S16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call2_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_call3_v0 : Ref sig .tc := ⟨.hbm, 48, rfl⟩
abbrev main_call3_call0_cst : Ref sig .tc := ⟨.hbm, 49, rfl⟩
abbrev main_call3_call0_v0 : Ref sig .tc := ⟨.hbm, 50, rfl⟩
abbrev main_call3_call0_v1 : Ref sig .tc := ⟨.hbm, 51, rfl⟩
abbrev main_call3_call0_v2 : Ref sig .tc := ⟨.hbm, 52, rfl⟩
abbrev main_call3_call0_v3 : Ref sig .tc := ⟨.hbm, 53, rfl⟩
abbrev main_call3_call0_v4 : Ref sig .tc := ⟨.hbm, 54, rfl⟩
abbrev main_call3_call0_v5 : Ref sig .tc := ⟨.hbm, 55, rfl⟩
abbrev main_call3_call0_v6 : Ref sig .tc := ⟨.hbm, 56, rfl⟩
abbrev main_call3_call0_v7 : Ref sig .tc := ⟨.hbm, 57, rfl⟩
abbrev main_call3_call0_v8 : Ref sig .tc := ⟨.hbm, 58, rfl⟩
abbrev main_call3_call0_v9 : Ref sig .tc := ⟨.hbm, 59, rfl⟩
abbrev main_call3_call0_v10 : Ref sig .tc := ⟨.hbm, 60, rfl⟩
abbrev main_call3_call0_v11 : Ref sig .tc := ⟨.hbm, 61, rfl⟩
abbrev main_call3_v1 : Ref sig .tc := ⟨.hbm, 62, rfl⟩
abbrev main_v34 : Ref sig .tc := ⟨.hbm, 63, rfl⟩
abbrev main_cst_5 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v35 : Ref sig .tc := ⟨.hbm, 68, rfl⟩
abbrev main_call5_cst : Ref sig .tc := ⟨.hbm, 69, rfl⟩
abbrev main_call5_v0 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_cst_6 : Ref sig .tc := ⟨.hbm, 74, rfl⟩
abbrev main_call6_v0 : Ref sig .tc := ⟨.hbm, 75, rfl⟩
abbrev main_v39 : Ref sig .tc := ⟨.hbm, 76, rfl⟩
abbrev main_v40_0 : Ref sig .tc := ⟨.hbm, 77, rfl⟩
abbrev main_v40_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

@[reducible] def k0_t1_loop (i : grid0.Coords) (v28 : BitVec 32) : Scf.Loop 32 :=
  let arg1 : BitVec 32 := BitVec.ofNat 32 (i 1).val
  let v31 : BitVec 32 := Scalar.subi arg1 v28
  let c1_i32 : BitVec 32 := 1#32
  let v33 : BitVec 32 := Scalar.divsi v31 c1_i32
  let v34 : BitVec 32 := Scalar.muli v33 c1_i32
  let v35 : BitVec 32 := Scalar.addi v28 v34
  let c1_i32_15 : BitVec 32 := 1#32
  ⟨v28, v35, c1_i32_15⟩

def k0_off1 (i : grid0.Coords) (v28 : BitVec 32) (k0_t1 : Fin (k0_t1_loop i v28).trips) : Fin 4 → Nat :=
  let c0_60 : Index := 0#32
  let c1_i32_15 : BitVec 32 := 1#32
  let arg10 : BitVec 32 := Scf.iv v28 c1_i32_15 k0_t1
  let v149 : Index := Scalar.indexCast arg10
  let c0_61 : Index := 0#32
  let c0_62 : Index := 0#32
  ![0, v149.toNat, 0, 0]
@[reducible] def k0_t2_loop (i : grid0.Coords) (v28 : BitVec 32) : Scf.Loop 32 :=
  let arg1 : BitVec 32 := BitVec.ofNat 32 (i 1).val
  let v31 : BitVec 32 := Scalar.subi arg1 v28
  let c1_i32 : BitVec 32 := 1#32
  let v33 : BitVec 32 := Scalar.divsi v31 c1_i32
  let v34 : BitVec 32 := Scalar.muli v33 c1_i32
  let v35 : BitVec 32 := Scalar.addi v28 v34
  let v32 : BitVec 32 := Scalar.addi v28 v31
  let c1_i32_16 : BitVec 32 := 1#32
  ⟨v35, v32, c1_i32_16⟩
def k0_off2 (i : grid0.Coords) (v28 : BitVec 32) (k0_t2 : Fin (k0_t2_loop i v28).trips) : Fin 4 → Nat :=
  let c0_60 : Index := 0#32
  let arg1 : BitVec 32 := BitVec.ofNat 32 (i 1).val
  let v31 : BitVec 32 := Scalar.subi arg1 v28
  let c1_i32 : BitVec 32 := 1#32
  let v33 : BitVec 32 := Scalar.divsi v31 c1_i32
  let v34 : BitVec 32 := Scalar.muli v33 c1_i32
  let v35 : BitVec 32 := Scalar.addi v28 v34
  let c1_i32_16 : BitVec 32 := 1#32
  let arg10 : BitVec 32 := Scf.iv v35 c1_i32_16 k0_t2
  let v149 : Index := Scalar.indexCast arg10
  let c0_61 : Index := 0#32
  let c0_62 : Index := 0#32
  ![0, v149.toNat, 0, 0]

def k0_chk1 (i : grid0.Coords) (v28 : BitVec 32) : Prop :=
  ((k0_t1_loop i v28).OK) ∧
  (∀ k0_t1 : Fin (k0_t1_loop i v28).trips, ∀ a, (k0_off1 i v28 k0_t1) a + S1x1x512x128.size a ≤ S1x16x512x128.size a) ∧
  ((k0_t2_loop i v28).OK) ∧
  (∀ k0_t2 : Fin (k0_t2_loop i v28).trips, ∀ a, (k0_off2 i v28 k0_t2) a + S1x1x512x128.size a ≤ S1x16x512x128.size a)
theorem k0_t1_ok : ∀ (i : grid0.Coords) (v28 : BitVec 32) (k0_hw1 : k0_chk1 i v28), (k0_t1_loop i v28).OK := fun i v28 k0_hw1 => k0_hw1.1
theorem k0_off1_inb : ∀ (i : grid0.Coords) (v28 : BitVec 32) (k0_hw1 : k0_chk1 i v28) (k0_t1 : Fin (k0_t1_loop i v28).trips), ∀ a, (k0_off1 i v28 k0_t1) a + S1x1x512x128.size a ≤ S1x16x512x128.size a := fun i v28 k0_hw1 k0_t1 => k0_hw1.2.1 k0_t1
theorem k0_t2_ok : ∀ (i : grid0.Coords) (v28 : BitVec 32) (k0_hw1 : k0_chk1 i v28), (k0_t2_loop i v28).OK := fun i v28 k0_hw1 => k0_hw1.2.2.1
theorem k0_off2_inb : ∀ (i : grid0.Coords) (v28 : BitVec 32) (k0_hw1 : k0_chk1 i v28) (k0_t2 : Fin (k0_t2_loop i v28).trips), ∀ a, (k0_off2 i v28 k0_t2) a + S1x1x512x128.size a ≤ S1x16x512x128.size a := fun i v28 k0_hw1 k0_t2 => k0_hw1.2.2.2 k0_t2

def k0_off3 (i : grid0.Coords) : Fin 4 → Nat :=
  let c0_17 : Index := 0#32
  let arg1 : BitVec 32 := BitVec.ofNat 32 (i 1).val
  let v38 : Index := Scalar.indexCast arg1
  let c0_18 : Index := 0#32
  let c0_19 : Index := 0#32
  ![0, v38.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== KernelIdeal.lean ====
variable {F : FTy → Type} [FloatOps F] [Named F]
def κ : String → Option EReal := fun
  | "log_of_zero" => some ⊥
  | _ => none
-- ==== ReferenceIdeal.lean ====
abbrev S16x8192x64 : Shape := ⟨3, ![16, 8192, 64]⟩
abbrev S8x8192x64 : Shape := ⟨3, ![8, 8192, 64]⟩
abbrev S_ : Shape := ⟨0, ![]⟩
abbrev S8192 : Shape := ⟨1, ![8192]⟩
abbrev S8x8192x8192 : Shape := ⟨3, ![8, 8192, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩
abbrev S8x8192x128 : Shape := ⟨3, ![8, 8192, 128]⟩
abbrev S8x16x512x128 : Shape := ⟨4, ![8, 16, 512, 128]⟩

abbrev nBuf : Space → Nat
  | .hbm => 170
  | .vmem => 0
  | .smem => 0
  | _ => 0

abbrev hbmTy0_0 (i : Nat) : BufTy := match i % 128 with
  | 0 => ⟨S16x8192x64, .f32⟩
  | 1 => ⟨S16x8192x64, .f32⟩
  | 2 => ⟨S16x8192x64, .f32⟩
  | 3 => ⟨S16x8192x64, .f32⟩
  | 4 => ⟨S8x8192x64, .f32⟩
  | 5 => ⟨S_, .f32⟩
  | 6 => ⟨S8x8192x64, .f32⟩
  | 7 => ⟨S8x8192x64, .f32⟩
  | 8 => ⟨S8x8192x64, .f32⟩
  | 9 => ⟨S8x8192x64, .f32⟩
  | 10 => ⟨S8192, .i32⟩
  | 11 => ⟨S8x8192x8192, .f32⟩
  | 12 => ⟨S1x8192, .i32⟩
  | 13 => ⟨S8192x1, .i32⟩
  | 14 => ⟨S8192x8192, .i32⟩
  | 15 => ⟨S8192x8192, .i32⟩
  | 16 => ⟨S8192x8192, .i1⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .i1⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S_, .f32⟩
  | 33 => ⟨S8x8192x8192, .f32⟩
  | 34 => ⟨S8x8192x8192, .i1⟩
  | 35 => ⟨S_, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .i1⟩
  | 41 => ⟨S_, .f32⟩
  | 42 => ⟨S8x8192x8192, .f32⟩
  | 43 => ⟨S8x8192x8192, .f32⟩
  | 44 => ⟨S8x8192x8192, .f32⟩
  | 45 => ⟨S8x8192x8192, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S8x8192x8192, .f32⟩
  | 54 => ⟨S8x8192x8192, .i1⟩
  | 55 => ⟨S_, .f32⟩
  | 56 => ⟨S8x8192x8192, .f32⟩
  | 57 => ⟨S8x8192x8192, .f32⟩
  | 58 => ⟨S8x8192x8192, .f32⟩
  | 59 => ⟨S8x8192x8192, .f32⟩
  | 60 => ⟨S8x8192x8192, .f32⟩
  | 61 => ⟨S_, .f32⟩
  | 62 => ⟨S8x8192x8192, .f32⟩
  | 63 => ⟨S8x8192x8192, .f32⟩
  | 64 => ⟨S8x8192x8192, .f32⟩
  | 65 => ⟨S8x8192x8192, .f32⟩
  | 66 => ⟨S8x8192x8192, .f32⟩
  | 67 => ⟨S_, .f32⟩
  | 68 => ⟨S8x8192x8192, .f32⟩
  | 69 => ⟨S8x8192x8192, .f32⟩
  | 70 => ⟨S8x8192x8192, .f32⟩
  | 71 => ⟨S8x8192x8192, .f32⟩
  | 72 => ⟨S8x8192x8192, .i1⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .f32⟩
  | 78 => ⟨S8x8192x8192, .f32⟩
  | 79 => ⟨S8x8192x8192, .f32⟩
  | 80 => ⟨S8x8192x8192, .f32⟩
  | 81 => ⟨S_, .f32⟩
  | 82 => ⟨S8x8192x8192, .f32⟩
  | 83 => ⟨S8x8192x8192, .i1⟩
  | 84 => ⟨S_, .f32⟩
  | 85 => ⟨S8x8192x8192, .f32⟩
  | 86 => ⟨S8x8192x8192, .f32⟩
  | 87 => ⟨S_, .f32⟩
  | 88 => ⟨S8x8192x8192, .f32⟩
  | 89 => ⟨S8x8192x8192, .i1⟩
  | 90 => ⟨S_, .f32⟩
  | 91 => ⟨S8x8192x8192, .f32⟩
  | 92 => ⟨S8x8192x8192, .f32⟩
  | 93 => ⟨S8x8192x8192, .f32⟩
  | 94 => ⟨S8x8192x8192, .f32⟩
  | 95 => ⟨S_, .f32⟩
  | 96 => ⟨S_, .f32⟩
  | 97 => ⟨S_, .i1⟩
  | 98 => ⟨S_, .f32⟩
  | 99 => ⟨S_, .f32⟩
  | 100 => ⟨S_, .f32⟩
  | 101 => ⟨S_, .f32⟩
  | 102 => ⟨S8x8192x8192, .f32⟩
  | 103 => ⟨S8x8192x8192, .i1⟩
  | 104 => ⟨S_, .f32⟩
  | 105 => ⟨S8x8192x8192, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S8x8192x8192, .f32⟩
  | 112 => ⟨S8x8192x8192, .f32⟩
  | 113 => ⟨S8x8192x8192, .f32⟩
  | 114 => ⟨S_, .f32⟩
  | 115 => ⟨S_, .f32⟩
  | 116 => ⟨S8x8192x8192, .i1⟩
  | 117 => ⟨S8x8192x8192, .f32⟩
  | 118 => ⟨S8x8192x8192, .f32⟩
  | 119 => ⟨S_, .f32⟩
  | 120 => ⟨S8x8192x8192, .f32⟩
  | 121 => ⟨S_, .f32⟩
  | 122 => ⟨S_, .f32⟩
  | 123 => ⟨S8x8192x8192, .f32⟩
  | 124 => ⟨S8x8192x8192, .f32⟩
  | 125 => ⟨S8x8192x8192, .f32⟩
  | 126 => ⟨S8x8192x8192, .f32⟩
  | 127 => ⟨S_, .f32⟩
  | _ => ⟨S16x8192x64, .f32⟩

abbrev hbmTy0_1 (i : Nat) : BufTy := match i % 128 with
  | 0 => ⟨S_, .f32⟩
  | 1 => ⟨S8x8192x8192, .i1⟩
  | 2 => ⟨S8x8192x8192, .f32⟩
  | 3 => ⟨S8x8192x8192, .f32⟩
  | 4 => ⟨S_, .f32⟩
  | 5 => ⟨S8x8192x8192, .f32⟩
  | 6 => ⟨S8x8192x8192, .bf16⟩
  | 7 => ⟨S8x8192x8192, .f32⟩
  | 8 => ⟨S8x8192x64, .f32⟩
  | 9 => ⟨S8x8192x64, .f32⟩
  | 10 => ⟨S8x64x8192, .f32⟩
  | 11 => ⟨S8x8192x64, .f32⟩
  | 12 => ⟨S8x8192x8192, .f32⟩
  | 13 => ⟨S8x8192x8192, .bf16⟩
  | 14 => ⟨S8x8192x8192, .f32⟩
  | 15 => ⟨S_, .f32⟩
  | 16 => ⟨S8x8192x8192, .f32⟩
  | 17 => ⟨S8x8192x8192, .f32⟩
  | 18 => ⟨S8x8192x8192, .f32⟩
  | 19 => ⟨S8x8192x8192, .f32⟩
  | 20 => ⟨S_, .f32⟩
  | 21 => ⟨S_, .f32⟩
  | 22 => ⟨S8x8192x8192, .f32⟩
  | 23 => ⟨S8x8192x8192, .f32⟩
  | 24 => ⟨S_, .f32⟩
  | 25 => ⟨S8x8192x8192, .f32⟩
  | 26 => ⟨S8x8192x8192, .f32⟩
  | 27 => ⟨S8x8192x8192, .f32⟩
  | 28 => ⟨S8x8192x8192, .f32⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x64, .f32⟩
  | 36 => ⟨S8x8192x64, .f32⟩
  | 37 => ⟨S_, .f32⟩
  | 38 => ⟨S8x8192x64, .f32⟩
  | 39 => ⟨S8x8192x128, .f32⟩
  | 40 => ⟨S8x8192x128, .f32⟩
  | 41 => ⟨S8x16x512x128, .f32⟩
  | _ => ⟨S16x8192x64, .f32⟩

abbrev hbmTy (i : Nat) : BufTy := match i / 128 with
  | 0 => hbmTy0_0 i
  | 1 => hbmTy0_1 i
  | _ => ⟨S16x8192x64, .f32⟩

abbrev bufTy : (tb : Table) → Fin (tcTables nBuf tb) → BufTy
  | .hbm, ⟨i, _⟩ => hbmTy i
  | _, _ => ⟨S16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1_0 : Ref sig .tc := ⟨.hbm, 31, rfl⟩
abbrev main_call0_call0_cst_0 : Ref sig .tc := ⟨.hbm, 32, rfl⟩
abbrev main_call0_call0_v13 : Ref sig .tc := ⟨.hbm, 33, rfl⟩
abbrev main_call0_call0_v14 : Ref sig .tc := ⟨.hbm, 34, rfl⟩
abbrev main_call0_call0_cst_1 : Ref sig .tc := ⟨.hbm, 35, rfl⟩
abbrev main_call0_call0_v15 : Ref sig .tc := ⟨.hbm, 36, rfl⟩
abbrev main_call0_call0_v16 : Ref sig .tc := ⟨.hbm, 37, rfl⟩
abbrev main_call0_call0_cst_2 : Ref sig .tc := ⟨.hbm, 38, rfl⟩
abbrev main_call0_call0_v17 : Ref sig .tc := ⟨.hbm, 39, rfl⟩
abbrev main_call0_call0_v18 : Ref sig .tc := ⟨.hbm, 40, rfl⟩
abbrev main_call0_call0_cst_3 : Ref sig .tc := ⟨.hbm, 41, rfl⟩
abbrev main_call0_call0_v19 : Ref sig .tc := ⟨.hbm, 42, rfl⟩
abbrev main_call0_call0_v20 : Ref sig .tc := ⟨.hbm, 43, rfl⟩
abbrev main_call0_call0_v21 : Ref sig .tc := ⟨.hbm, 44, rfl⟩
abbrev main_v12_1 : Ref sig .tc := ⟨.hbm, 45, rfl⟩
abbrev main_call0_call0_cst_4 : Ref sig .tc := ⟨.hbm, 46, rfl⟩
abbrev main_call0_call0_cst_5 : Ref sig .tc := ⟨.hbm, 47, rfl⟩
abbrev main_call0_call0_v23 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v24 : Ref sig .tc := ⟨.hbm, 51, rfl⟩
abbrev main_call0_call0_cst_8 : Ref sig .tc := ⟨.hbm, 52, rfl⟩
abbrev main_call0_call0_v25 : Ref sig .tc := ⟨.hbm, 53, rfl⟩
abbrev main_call0_call0_v26 : Ref sig .tc := ⟨.hbm, 54, rfl⟩
abbrev main_call0_call0_cst_9 : Ref sig .tc := ⟨.hbm, 55, rfl⟩
abbrev main_call0_call0_v27 : Ref sig .tc := ⟨.hbm, 56, rfl⟩
abbrev main_call0_call0_v28 : Ref sig .tc := ⟨.hbm, 57, rfl⟩
abbrev main_call0_call0_v29 : Ref sig .tc := ⟨.hbm, 58, rfl⟩
abbrev main_call0_call0_v30 : Ref sig .tc := ⟨.hbm, 59, rfl⟩
abbrev main_call0_call0_v31 : Ref sig .tc := ⟨.hbm, 60, rfl⟩
abbrev main_call0_call0_cst_10 : Ref sig .tc := ⟨.hbm, 61, rfl⟩
abbrev main_call0_call0_v32 : Ref sig .tc := ⟨.hbm, 62, rfl⟩
abbrev main_v12_2 : Ref sig .tc := ⟨.hbm, 63, rfl⟩
abbrev main_v12_0 : Ref sig .tc := ⟨.hbm, 64, rfl⟩
abbrev main_v13 : Ref sig .tc := ⟨.hbm, 65, rfl⟩
abbrev main_call1_v0 : Ref sig .tc := ⟨.hbm, 66, rfl⟩
abbrev main_call1_call0_cst : Ref sig .tc := ⟨.hbm, 67, rfl⟩
abbrev main_call1_call0_v0 : Ref sig .tc := ⟨.hbm, 68, rfl⟩
abbrev main_call1_call0_v1 : Ref sig .tc := ⟨.hbm, 69, rfl⟩
abbrev main_call1_call0_v2 : Ref sig .tc := ⟨.hbm, 70, rfl⟩
abbrev main_call1_call0_v3 : Ref sig .tc := ⟨.hbm, 71, rfl⟩
abbrev main_call1_call0_v4 : Ref sig .tc := ⟨.hbm, 72, rfl⟩
abbrev main_call1_call0_v5 : Ref sig .tc := ⟨.hbm, 73, rfl⟩
abbrev main_call1_call0_v6 : Ref sig .tc := ⟨.hbm, 74, rfl⟩
abbrev main_call1_call0_v7 : Ref sig .tc := ⟨.hbm, 75, rfl⟩
abbrev main_call1_call0_v8 : Ref sig .tc := ⟨.hbm, 76, rfl⟩
abbrev main_call1_call0_v9 : Ref sig .tc := ⟨.hbm, 77, rfl⟩
abbrev main_call1_call0_v10 : Ref sig .tc := ⟨.hbm, 78, rfl⟩
abbrev main_call1_call0_v11 : Ref sig .tc := ⟨.hbm, 79, rfl⟩
abbrev main_call1_v1_0 : Ref sig .tc := ⟨.hbm, 80, rfl⟩
abbrev main_call1_call0_cst_0 : Ref sig .tc := ⟨.hbm, 81, rfl⟩
abbrev main_call1_call0_v13 : Ref sig .tc := ⟨.hbm, 82, rfl⟩
abbrev main_call1_call0_v14 : Ref sig .tc := ⟨.hbm, 83, rfl⟩
abbrev main_call1_call0_cst_1 : Ref sig .tc := ⟨.hbm, 84, rfl⟩
abbrev main_call1_call0_v15 : Ref sig .tc := ⟨.hbm, 85, rfl⟩
abbrev main_call1_call0_v16 : Ref sig .tc := ⟨.hbm, 86, rfl⟩
abbrev main_call1_call0_cst_2 : Ref sig .tc := ⟨.hbm, 87, rfl⟩
abbrev main_call1_call0_v17 : Ref sig .tc := ⟨.hbm, 88, rfl⟩
abbrev main_call1_call0_v18 : Ref sig .tc := ⟨.hbm, 89, rfl⟩
abbrev main_call1_call0_cst_3 : Ref sig .tc := ⟨.hbm, 90, rfl⟩
abbrev main_call1_call0_v19 : Ref sig .tc := ⟨.hbm, 91, rfl⟩
abbrev main_call1_call0_v20 : Ref sig .tc := ⟨.hbm, 92, rfl⟩
abbrev main_call1_call0_v21 : Ref sig .tc := ⟨.hbm, 93, rfl⟩
abbrev main_v14_1 : Ref sig .tc := ⟨.hbm, 94, rfl⟩
abbrev main_call1_call0_cst_4 : Ref sig .tc := ⟨.hbm, 95, rfl⟩
abbrev main_call1_call0_cst_5 : Ref sig .tc := ⟨.hbm, 96, rfl⟩
abbrev main_call1_call0_v23 : Ref sig .tc := ⟨.hbm, 97, rfl⟩
abbrev main_call1_call0_cst_6 : Ref sig .tc := ⟨.hbm, 98, rfl⟩
abbrev main_call1_call0_cst_7 : Ref sig .tc := ⟨.hbm, 99, rfl⟩
abbrev main_call1_call0_v24 : Ref sig .tc := ⟨.hbm, 100, rfl⟩
abbrev main_call1_call0_cst_8 : Ref sig .tc := ⟨.hbm, 101, rfl⟩
abbrev main_call1_call0_v25 : Ref sig .tc := ⟨.hbm, 102, rfl⟩
abbrev main_call1_call0_v26 : Ref sig .tc := ⟨.hbm, 103, rfl⟩
abbrev main_call1_call0_cst_9 : Ref sig .tc := ⟨.hbm, 104, rfl⟩
abbrev main_call1_call0_v27 : Ref sig .tc := ⟨.hbm, 105, rfl⟩
abbrev main_call1_call0_v28 : Ref sig .tc := ⟨.hbm, 106, rfl⟩
abbrev main_call1_call0_v29 : Ref sig .tc := ⟨.hbm, 107, rfl⟩
abbrev main_call1_call0_v30 : Ref sig .tc := ⟨.hbm, 108, rfl⟩
abbrev main_call1_call0_v31 : Ref sig .tc := ⟨.hbm, 109, rfl⟩
abbrev main_call1_call0_cst_10 : Ref sig .tc := ⟨.hbm, 110, rfl⟩
abbrev main_call1_call0_v32 : Ref sig .tc := ⟨.hbm, 111, rfl⟩
abbrev main_v14_2 : Ref sig .tc := ⟨.hbm, 112, rfl⟩
abbrev main_v14_0 : Ref sig .tc := ⟨.hbm, 113, rfl⟩
abbrev main_cst_0 : Ref sig .tc := ⟨.hbm, 114, rfl⟩
abbrev main_call2_v0 : Ref sig .tc := ⟨.hbm, 115, rfl⟩
abbrev main_v15_1 : Ref sig .tc := ⟨.hbm, 116, rfl⟩
abbrev main_call2_v2 : Ref sig .tc := ⟨.hbm, 117, rfl⟩
abbrev main_v15_0 : Ref sig .tc := ⟨.hbm, 118, rfl⟩
abbrev main_call2_cst : Ref sig .tc := ⟨.hbm, 119, rfl⟩
abbrev main_v15_2 : Ref sig .tc := ⟨.hbm, 120, rfl⟩
abbrev main_call3_cst : Ref sig .tc := ⟨.hbm, 121, rfl⟩
abbrev main_call3_v0 : Ref sig .tc := ⟨.hbm, 122, rfl⟩
abbrev main_v16 : Ref sig .tc := ⟨.hbm, 123, rfl⟩
abbrev main_v17 : Ref sig .tc := ⟨.hbm, 124, rfl⟩
abbrev main_v18 : Ref sig .tc := ⟨.hbm, 125, rfl⟩
abbrev main_v19 : Ref sig .tc := ⟨.hbm, 126, rfl⟩
abbrev main_cst_1 : Ref sig .tc := ⟨.hbm, 127, rfl⟩
abbrev main_call4_v0 : Ref sig .tc := ⟨.hbm, 128, rfl⟩
abbrev main_v20_1 : Ref sig .tc := ⟨.hbm, 129, rfl⟩
abbrev main_call4_v2 : Ref sig .tc := ⟨.hbm, 130, rfl⟩
abbrev main_v20_0 : Ref sig .tc := ⟨.hbm, 131, rfl⟩
abbrev main_call4_cst : Ref sig .tc := ⟨.hbm, 132, rfl⟩
abbrev main_v20_2 : Ref sig .tc := ⟨.hbm, 133, rfl⟩
abbrev main_v21 : Ref sig .tc := ⟨.hbm, 134, rfl⟩
abbrev main_v22 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_call5_cst : Ref sig .tc := ⟨.hbm, 143, rfl⟩
abbrev main_call5_v0 : Ref sig .tc := ⟨.hbm, 144, rfl⟩
abbrev main_v30 : Ref sig .tc := ⟨.hbm, 145, rfl⟩
abbrev main_v31 : Ref sig .tc := ⟨.hbm, 146, rfl⟩
abbrev main_v32 : Ref sig .tc := ⟨.hbm, 147, rfl⟩
abbrev main_call6_cst : Ref sig .tc := ⟨.hbm, 148, rfl⟩
abbrev main_call6_v0 : Ref sig .tc := ⟨.hbm, 149, rfl⟩
abbrev main_v33 : Ref sig .tc := ⟨.hbm, 150, rfl⟩
abbrev main_v34 : Ref sig .tc := ⟨.hbm, 151, rfl⟩
abbrev main_call7_cst : Ref sig .tc := ⟨.hbm, 152, rfl⟩
abbrev main_call7_v0 : Ref sig .tc := ⟨.hbm, 153, rfl⟩
abbrev main_v35 : Ref sig .tc := ⟨.hbm, 154, rfl⟩
abbrev main_call8_v0 : Ref sig .tc := ⟨.hbm, 155, rfl⟩
abbrev main_call8_v1 : Ref sig .tc := ⟨.hbm, 156, rfl⟩
abbrev main_v36 : Ref sig .tc := ⟨.hbm, 157, rfl⟩
abbrev main_v37 : Ref sig .tc := ⟨.hbm, 158, rfl⟩
abbrev main_call9_v0 : Ref sig .tc := ⟨.hbm, 159, rfl⟩
abbrev main_call9_v1 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_2 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩

abbrev nD : Nat := 1
abbrev τ : Topo := Topo.v7x

variable {F : FTy → Type} [FloatOps F]
-- ==== UpGrad.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S2048x512 : Shape := ⟨2, ![2048, 512]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 28
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x2816, .f32⟩
  | .hbm, ⟨22, _⟩ => ⟨S8192x2816, .f32⟩
  | .hbm, ⟨23, _⟩ => ⟨S1x8192x2816, .f32⟩
  | .hbm, ⟨24, _⟩ => ⟨S1x8192x2816, .f32⟩
  | .hbm, ⟨25, _⟩ => ⟨S2x8192x2816, .f32⟩
  | .hbm, ⟨26, _⟩ => ⟨S2x8192x2816, .bf16⟩
  | .hbm, ⟨27, _⟩ => ⟨S1024x5632, .f32⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x1408, .f32⟩
  | .local _ .vmem, ⟨5, _⟩ => ⟨S512x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S5632x1024, .f32⟩
  | .hbm, ⟨22, _⟩ => ⟨S1024x5632, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== UpBack.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1x1024 : Shape := ⟨2, ![1, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | .hbm, ⟨10, _⟩ => ⟨S2x8192x2816, .bf16⟩
  | .hbm, ⟨11, _⟩ => ⟨S1024x5632, .bf16⟩
  | .hbm, ⟨12, _⟩ => ⟨S1x1024, .f32⟩
  | .hbm, ⟨13, _⟩ => ⟨S8192x1024, .f32⟩
  | .hbm, ⟨14, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_24 : BitVec 32 := 0#32
  let v49 : BitVec 1 := Scalar.cmpi .eq arg0 c0_i32_24
  let v50 : BitVec 32 := Scalar.extui v49
  let c0_i32_25 : BitVec 32 := 0#32
  let v51 : BitVec 1 := Scalar.cmpi .ne v50 c0_i32_25
  v51

def k0_cond5 (i : grid0.Coords) : BitVec 1 :=
  let arg0 : BitVec 32 := BitVec.ofNat 32 (i 0).val
  let c0_i32_24 : BitVec 32 := 0#32
  let v49 : BitVec 1 := Scalar.cmpi .eq arg0 c0_i32_24
  let v_true : BitVec 1 := 1#1
  let v52 : BitVec 1 := Scalar.xori v49 v_true
  let v53 : BitVec 32 := Scalar.extui v52
  let c0_i32_26 : BitVec 32 := 0#32
  let v54 : BitVec 1 := Scalar.cmpi .ne v53 c0_i32_26
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== UpBackReferenceIdeal.lean ====
abbrev S8192x1024 : Shape := ⟨2, ![8192, 1024]⟩
abbrev S1024 : Shape := ⟨1, ![1024]⟩
abbrev S1024x5632 : Shape := ⟨2, ![1024, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x5632, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== DownGrad.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S1x8192x1024 : Shape := ⟨3, ![1, 8192, 1024]⟩
abbrev S2048x1408 : Shape := ⟨2, ![2048, 1408]⟩
abbrev S1x2048x512 : Shape := ⟨3, ![1, 2048, 512]⟩
abbrev S1408x512 : Shape := ⟨2, ![1408, 512]⟩
abbrev S2048x512 : Shape := ⟨2, ![2048, 512]⟩

abbrev nBuf : Space → Nat
  | .hbm => 64
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .i32⟩
  | .hbm, ⟨24, _⟩ => ⟨S_, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .bf16⟩
  | .hbm, ⟨62, _⟩ => ⟨S1x8192x1024, .f32⟩
  | .hbm, ⟨63, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S1x2048x512, .f32⟩
  | .local _ .vmem, ⟨3, _⟩ => ⟨S1x2048x512, .f32⟩
  | .local _ .vmem, ⟨4, _⟩ => ⟨S1408x512, .f32⟩
  | .local _ .vmem, ⟨5, _⟩ => ⟨S1408x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg2 : BitVec 32 := BitVec.ofNat 32 (i 2).val
  let c0_i32_5 : BitVec 32 := 0#32
  let v9 : BitVec 1 := Scalar.cmpi .sgt arg2 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8194x5632 : Shape := ⟨2, ![8194, 5632]⟩
abbrev S1x5632 : Shape := ⟨2, ![1, 5632]⟩
abbrev S5632 : Shape := ⟨1, ![5632]⟩
abbrev S8192x2816 : Shape := ⟨2, ![8192, 2816]⟩
abbrev S1024x2816 : Shape := ⟨2, ![1024, 2816]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x5632, .f32⟩
  | .hbm, ⟨23, _⟩ => ⟨S_, .i32⟩
  | .hbm, ⟨24, _⟩ => ⟨S_, .f32⟩
  | .hbm, ⟨25, _⟩ => ⟨S8194x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S1x5632, .f32⟩
  | .hbm, ⟨37, _⟩ => ⟨S5632, .f32⟩
  | .hbm, ⟨38, _⟩ => ⟨S1x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S1x5632, .f32⟩
  | .hbm, ⟨44, _⟩ => ⟨S5632, .f32⟩
  | .hbm, ⟨45, _⟩ => ⟨S1x5632, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S_, .f32⟩
  | .hbm, ⟨54, _⟩ => ⟨S8192x2816, .f32⟩
  | .hbm, ⟨55, _⟩ => ⟨S8192x2816, .f32⟩
  | .hbm, ⟨56, _⟩ => ⟨S_, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x1024, .f32⟩
  | .hbm, ⟨62, _⟩ => ⟨S1024x2816, .f32⟩
  | .hbm, ⟨63, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩

abbrev nD : Nat := 1
abbrev τ : Topo := Topo.v7x

variable {F : FTy → Type} [FloatOps F]
-- ==== UpProj.lean ====
abbrev S8192x1024 : Shape := ⟨2, ![8192, 1024]⟩
abbrev S1024 : Shape := ⟨1, ![1024]⟩
abbrev S1024x5632 : Shape := ⟨2, ![1024, 5632]⟩
abbrev S1x1024 : Shape := ⟨2, ![1, 1024]⟩
abbrev S2x8192x2816 : Shape := ⟨3, ![2, 8192, 2816]⟩
abbrev S1024x1024 : Shape := ⟨2, ![1024, 1024]⟩
abbrev S1024x1408 : Shape := ⟨2, ![1024, 1408]⟩
abbrev S1x1024x1408 : Shape := ⟨3, ![1, 1024, 1408]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S8192x1024, .bf16⟩
  | .hbm, ⟨6, _⟩ => ⟨S2x8192x2816, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x1408, .f32⟩
  | .local _ .vmem, ⟨8, _⟩ => ⟨S1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== UpProjReferenceIdeal.lean ====
abbrev S8192x1024 : Shape := ⟨2, ![8192, 1024]⟩
abbrev S1024 : Shape := ⟨1, ![1024]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x5632, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x2816, .f32⟩
  | .hbm, ⟨38, _⟩ => ⟨S8192x2816, .f32⟩
  | .hbm, ⟨39, _⟩ => ⟨S1x8192x2816, .f32⟩
  | .hbm, ⟨40, _⟩ => ⟨S1x8192x2816, .f32⟩
  | .hbm, ⟨41, _⟩ => ⟨S2x8192x2816, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== ConvGrad.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x8192x1024 : Shape := ⟨3, ![1, 8192, 1024]⟩
abbrev S3x8192x1024 : Shape := ⟨3, ![3, 8192, 1024]⟩
abbrev S2048x512 : Shape := ⟨2, ![2048, 512]⟩
abbrev S1x2048x512 : Shape := ⟨3, ![1, 2048, 512]⟩
abbrev S512x512 : Shape := ⟨2, ![512, 512]⟩

abbrev nBuf : Space → Nat
  | .hbm => 30
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1x8192x1024, .f32⟩
  | .hbm, ⟨25, _⟩ => ⟨S1x8192x1024, .f32⟩
  | .hbm, ⟨26, _⟩ => ⟨S1x8192x1024, .f32⟩
  | .hbm, ⟨27, _⟩ => ⟨S3x8192x1024, .f32⟩
  | .hbm, ⟨28, _⟩ => ⟨S3x8192x1024, .bf16⟩
  | .hbm, ⟨29, _⟩ => ⟨S1024x3072, .f32⟩
  | .local _ .vmem, ⟨0, _⟩ => ⟨S2048x512, .bf16⟩
  | .local _ .vmem, ⟨1, _⟩ => ⟨S2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvGradReferenceIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3072x1024 : Shape := ⟨2, ![3072, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3072, .f32⟩
  | .hbm, ⟨21, _⟩ => ⟨S3072x1024, .f32⟩
  | .hbm, ⟨22, _⟩ => ⟨S1024x3072, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== ConvProj.lean ====
abbrev S8192x1024 : Shape := ⟨2, ![8192, 1024]⟩
abbrev S1024 : Shape := ⟨1, ![1024]⟩
abbrev S1024x3072 : Shape := ⟨2, ![1024, 3072]⟩
abbrev S1x1024 : Shape := ⟨2, ![1, 1024]⟩
abbrev S3x8192x1024 : Shape := ⟨3, ![3, 8192, 1024]⟩
abbrev S1024x1024 : Shape := ⟨2, ![1024, 1024]⟩
abbrev S1024x512 : Shape := ⟨2, ![1024, 512]⟩
abbrev S1x1024x512 : Shape := ⟨3, ![1, 1024, 512]⟩
abbrev S1024x1 : Shape := ⟨2, ![1024, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S1x1024, .f32⟩
  | .hbm, ⟨4, _⟩ => ⟨S1024x3072, .bf16⟩
  | .hbm, ⟨5, _⟩ => ⟨S8192x1024, .bf16⟩
  | .hbm, ⟨6, _⟩ => ⟨S3x8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024x512, .f32⟩
  | .local _ .vmem, ⟨8, _⟩ => ⟨S1x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvProjReferenceIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩
abbrev S1x8192x1024 : Shape := ⟨3, ![1, 8192, 1024]⟩
abbrev S3x8192x1024 : Shape := ⟨3, ![3, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x3072, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S3x8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== ConvBack.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S1x8192x1024 : Shape := ⟨3, ![1, 8192, 1024]⟩
abbrev S3x8192x1024 : Shape := ⟨3, ![3, 8192, 1024]⟩
abbrev S1x1024 : Shape := ⟨2, ![1, 1024]⟩
abbrev S1x512x1024 : Shape := ⟨3, ![1, 512, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1x8192x1024, .f32⟩
  | .hbm, ⟨9, _⟩ => ⟨S1x8192x1024, .f32⟩
  | .hbm, ⟨10, _⟩ => ⟨S1x8192x1024, .f32⟩
  | .hbm, ⟨11, _⟩ => ⟨S3x8192x1024, .f32⟩
  | .hbm, ⟨12, _⟩ => ⟨S3x8192x1024, .bf16⟩
  | .hbm, ⟨13, _⟩ => ⟨S1024x3072, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 3], ![false, false]⟩

def k0_cond3 (i : grid0.Coords) : BitVec 1 :=
  let arg1 : BitVec 32 := BitVec.ofNat 32 (i 1).val
  let c2_i32 : BitVec 32 := 2#32
  let v11 : BitVec 1 := Scalar.cmpi .eq arg1 c2_i32
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_24 : BitVec 32 := 0#32
  let v49 : BitVec 1 := Scalar.cmpi .eq arg0 c0_i32_24
  let v50 : BitVec 32 := Scalar.extui v49
  let c0_i32_25 : BitVec 32 := 0#32
  let v51 : BitVec 1 := Scalar.cmpi .ne v50 c0_i32_25
  v51

def k0_cond5 (i : grid0.Coords) : BitVec 1 :=
  let arg0 : BitVec 32 := BitVec.ofNat 32 (i 0).val
  let c0_i32_24 : BitVec 32 := 0#32
  let v49 : BitVec 1 := Scalar.cmpi .eq arg0 c0_i32_24
  let v_true : BitVec 1 := 1#1
  let v52 : BitVec 1 := Scalar.xori v49 v_true
  let v53 : BitVec 32 := Scalar.extui v52
  let c0_i32_26 : BitVec 32 := 0#32
  let v54 : BitVec 1 := Scalar.cmpi .ne v53 c0_i32_26
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ConvBackReferenceIdeal.lean ====
abbrev S8192x1024 : Shape := ⟨2, ![8192, 1024]⟩
abbrev S1024 : Shape := ⟨1, ![1024]⟩
abbrev S1024x3072 : Shape := ⟨2, ![1024, 3072]⟩
abbrev S8192x3072 : Shape := ⟨2, ![8192, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x3072, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== MixGrad.lean ====
abbrev S8192x1024 : Shape := ⟨2, ![8192, 1024]⟩
abbrev S1024x1024 : Shape := ⟨2, ![1024, 1024]⟩
abbrev S1x8192x1024 : Shape := ⟨3, ![1, 8192, 1024]⟩
abbrev S2048x512 : Shape := ⟨2, ![2048, 512]⟩
abbrev S1x2048x512 : Shape := ⟨3, ![1, 2048, 512]⟩
abbrev S512x512 : Shape := ⟨2, ![512, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1x8192x1024, .f32⟩
  | .hbm, ⟨5, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S1x2048x512, .f32⟩
  | .local _ .vmem, ⟨3, _⟩ => ⟨S1x2048x512, .f32⟩
  | .local _ .vmem, ⟨4, _⟩ => ⟨S512x512, .f32⟩
  | .local _ .vmem, ⟨5, _⟩ => ⟨S512x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_4 : BitVec 32 := 0#32
  let v8 : BitVec 1 := Scalar.cmpi .ne v7 c0_i32_4
  v8

def k0_cond2 (i : grid0.Coords) : BitVec 1 :=
  let arg2 : BitVec 32 := BitVec.ofNat 32 (i 2).val
  let c0_i32_5 : BitVec 32 := 0#32
  let v9 : BitVec 1 := Scalar.cmpi .sgt arg2 c0_i32_5
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixGradReferenceIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttnGrad.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3200 : Shape := ⟨2, ![8192, 3200]⟩
abbrev S1x8192x3200 : Shape := ⟨3, ![1, 8192, 3200]⟩
abbrev S1024x3200 : Shape := ⟨2, ![1024, 3200]⟩
abbrev S2048x512 : Shape := ⟨2, ![2048, 512]⟩
abbrev S1x2048x640 : Shape := ⟨3, ![1, 2048, 640]⟩
abbrev S512x640 : Shape := ⟨2, ![512, 640]⟩
abbrev S2048x640 : Shape := ⟨2, ![2048, 640]⟩

abbrev nBuf : Space → Nat
  | .hbm => 27
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x3080, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x3080, .bf16⟩
  | .hbm, ⟨22, _⟩ => ⟨S_, .i32⟩
  | .hbm, ⟨23, _⟩ => ⟨S_, .bf16⟩
  | .hbm, ⟨24, _⟩ => ⟨S8192x3200, .bf16⟩
  | .hbm, ⟨25, _⟩ => ⟨S1x8192x3200, .bf16⟩
  | .hbm, ⟨26, _⟩ => ⟨S1024x3200, .f32⟩
  | .local _ .vmem, ⟨0, _⟩ => ⟨S2048x512, .bf16⟩
  | .local _ .vmem, ⟨1, _⟩ => ⟨S2048x512, .bf16⟩
  | .local _ .vmem, ⟨2, _⟩ => ⟨S1x2048x640, .bf16⟩
  | .local _ .vmem, ⟨3, _⟩ => ⟨S1x2048x640, .bf16⟩
  | .local _ .vmem, ⟨4, _⟩ => ⟨S512x640, .f32⟩
  | .local _ .vmem, ⟨5, _⟩ => ⟨S512x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnGradReferenceIdeal.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S3080x1024 : Shape := ⟨2, ![3080, 1024]⟩
abbrev S1024x3200 : Shape := ⟨2, ![1024, 3200]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x3080, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3080, .f32⟩
  | .hbm, ⟨21, _⟩ => ⟨S3080x1024, .f32⟩
  | .hbm, ⟨22, _⟩ => ⟨S1024x3080, .f32⟩
  | .hbm, ⟨23, _⟩ => ⟨S_, .i32⟩
  | .hbm, ⟨24, _⟩ => ⟨S_, .f32⟩
  | .hbm, ⟨25, _⟩ => ⟨S1024x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== AttnProj.lean ====
abbrev S8192x1024 : Shape := ⟨2, ![8192, 1024]⟩
abbrev S1024 : Shape := ⟨1, ![1024]⟩
abbrev S1024x3080 : Shape := ⟨2, ![1024, 3080]⟩
abbrev S1x1024 : Shape := ⟨2, ![1, 1024]⟩
abbrev S_ : Shape := ⟨0, ![]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩
abbrev S1024x1 : Shape := ⟨2, ![1024, 1]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S1x1024, .f32⟩
  | .hbm, ⟨4, _⟩ => ⟨S1024x3080, .bf16⟩
  | .hbm, ⟨5, _⟩ => ⟨S_, .i32⟩
  | .hbm, ⟨6, _⟩ => ⟨S_, .bf16⟩
  | .hbm, ⟨7, _⟩ => ⟨S1024x3200, .bf16⟩
  | .hbm, ⟨8, _⟩ => ⟨S8192x1024, .bf16⟩
  | .hbm, ⟨9, _⟩ => ⟨S8192x3200, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x640, .bf16⟩
  | .local _ .vmem, ⟨4, _⟩ => ⟨S1024x640, .bf16⟩
  | .local _ .vmem, ⟨5, _⟩ => ⟨S1024x1024, .bf16⟩
  | .local _ .vmem, ⟨6, _⟩ => ⟨S1024x1024, .bf16⟩
  | .local _ .vmem, ⟨7, _⟩ => ⟨S1024x640, .f32⟩
  | .local _ .vmem, ⟨8, _⟩ => ⟨S1024x640, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnProjReferenceIdeal.lean ====
abbrev S8192x1024 : Shape := ⟨2, ![8192, 1024]⟩
abbrev S1024 : Shape := ⟨1, ![1024]⟩
abbrev S1024x3080 : Shape := ⟨2, ![1024, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3080 : Shape := ⟨2, ![8192, 3080]⟩
abbrev S8192x3200 : Shape := ⟨2, ![8192, 3200]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x3080, .f32⟩
  | .hbm, ⟨37, _⟩ => ⟨S_, .i32⟩
  | .hbm, ⟨38, _⟩ => ⟨S_, .f32⟩
  | .hbm, ⟨39, _⟩ => ⟨S8192x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== AttnBack.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩
abbrev S8192x3200 : Shape := ⟨2, ![8192, 3200]⟩
abbrev S1x8192x3200 : Shape := ⟨3, ![1, 8192, 3200]⟩
abbrev S1024x3200 : Shape := ⟨2, ![1024, 3200]⟩
abbrev S1x1024 : Shape := ⟨2, ![1, 1024]⟩
abbrev S1x512x3200 : Shape := ⟨3, ![1, 512, 3200]⟩
abbrev S512x1024 : Shape := ⟨2, ![512, 1024]⟩
abbrev S512x3200 : Shape := ⟨2, ![512, 3200]⟩
abbrev S512 : Shape := ⟨1, ![512]⟩
abbrev S512x1 : Shape := ⟨2, ![512, 1]⟩

abbrev nBuf : Space → Nat
  | .hbm => 17
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x3080, .f32⟩
  | .hbm, ⟨4, _⟩ => ⟨S8192x1024, .f32⟩
  | .hbm, ⟨5, _⟩ => ⟨S8192x3080, .bf16⟩
  | .hbm, ⟨6, _⟩ => ⟨S_, .i32⟩
  | .hbm, ⟨7, _⟩ => ⟨S_, .bf16⟩
  | .hbm, ⟨8, _⟩ => ⟨S8192x3200, .bf16⟩
  | .hbm, ⟨9, _⟩ => ⟨S1x8192x3200, .bf16⟩
  | .hbm, ⟨10, _⟩ => ⟨S1024x3080, .bf16⟩
  | .hbm, ⟨11, _⟩ => ⟨S_, .i32⟩
  | .hbm, ⟨12, _⟩ => ⟨S_, .bf16⟩
  | .hbm, ⟨13, _⟩ => ⟨S1024x3200, .bf16⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S1x512x3200, .bf16⟩
  | .local _ .vmem, ⟨1, _⟩ => ⟨S1x512x3200, .bf16⟩
  | .local _ .vmem, ⟨2, _⟩ => ⟨S1024x3200, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![16, 1], ![false, false]⟩

def k0_cond3 (i : grid0.Coords) : BitVec 1 :=
  let arg1 : BitVec 32 := BitVec.ofNat 32 (i 1).val
  let c0_i32_7 : BitVec 32 := 0#32
  let v11 : BitVec 1 := Scalar.cmpi .eq arg1 c0_i32_7
  let v12 : BitVec 32 := Scalar.extui v11
  let c0_i32_8 : BitVec 32 := 0#32
  let v13 : BitVec 1 := Scalar.cmpi .ne v12 c0_i32_8
  v13

def k0_cond4 (i : grid0.Coords) : BitVec 1 :=
  let arg0 : BitVec 32 := BitVec.ofNat 32 (i 0).val
  let c0_i32_25 : BitVec 32 := 0#32
  let v49 : BitVec 1 := Scalar.cmpi .eq arg0 c0_i32_25
  let v50 : BitVec 32 := Scalar.extui v49
  let c0_i32_26 : BitVec 32 := 0#32
  let v51 : BitVec 1 := Scalar.cmpi .ne v50 c0_i32_26
  v51

def k0_cond5 (i : grid0.Coords) : BitVec 1 :=
  let arg0 : BitVec 32 := BitVec.ofNat 32 (i 0).val
  let c0_i32_25 : BitVec 32 := 0#32
  let v49 : BitVec 1 := Scalar.cmpi .eq arg0 c0_i32_25
  let v_true : BitVec 1 := 1#1
  let v52 : BitVec 1 := Scalar.xori v49 v_true
  let v53 : BitVec 32 := Scalar.extui v52
  let c0_i32_27 : BitVec 32 := 0#32
  let v54 : BitVec 1 := Scalar.cmpi .ne v53 c0_i32_27
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== AttnBackReferenceIdeal.lean ====
abbrev S8192x1024 : Shape := ⟨2, ![8192, 1024]⟩
abbrev S1024 : Shape := ⟨1, ![1024]⟩
abbrev S1024x3080 : Shape := ⟨2, ![1024, 3080]⟩
abbrev S8192x3080 : Shape := ⟨2, ![8192, 3080]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3080, .f32⟩
  | .hbm, ⟨3, _⟩ => ⟨S8192x3080, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x3080, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Proof.Cg.Out.lean ====
/- What the weight gradient's grid leaves: each block of the result is the sum, over the row tiles, of the products of a
   tile of each operand, so each element is the sum over all the rows. -/
module

public import proofs.«01_k».proof.Proof.Gen.ConvGradIdeal.Value
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.ConvGradIdeal.Cg

open Cert.ConvGradIdeal Cert.ConvGradIdeal.Gen
open Idealize.ShloMosaic Idealize.ShloMosaic.TcCoe Idealize.ShloMosaic.ValueIdx
open scoped BigOperators

/-! An array read at natural numbers. -/

def rd2 {a b : ℕ} (x : (⟨2, ![a, b]⟩ : Shape).Idx → EReal) (i j : ℕ) : EReal := if h : i < a ∧ j < b then x (ix2 ⟨i, h.1⟩ ⟨j, h.2⟩) else 0
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem rd2_at {a b : ℕ} (x : (⟨2, ![a, b]⟩ : Shape).Idx → EReal) (i : Fin a) (j : Fin b) : rd2 x i.val j.val = x (ix2 i j) := dif_pos ⟨i.isLt, j.isLt⟩
theorem rd3_at {a b d : ℕ} (x : (⟨3, ![a, b, d]⟩ : Shape).Idx → EReal) (i : Fin a) (j : Fin b) (k : Fin d) : rd3 x i.val j.val k.val = x (ix3 i j k) :=
  dif_pos ⟨i.isLt, j.isLt, k.isLt⟩

/-! A point's product. -/

theorem tn_apply (a : FVec Ideal S2048x512 .bf16) (b : FVec Ideal S2048x512 .bf16) (i : Fin 512) (j : Fin 512) :
    matmul dot_S2048x512_S2048x512_S512x512_0_0_1_1_n_n none a b (constant (F := Ideal) S512x512 .f32 0x00000000#32) (ix2 i j)
      = ∑ k : Fin 2048, (a (ix2 k i) : EReal) * b (ix2 k j) := by
  refine (Ideal.matmul_apply _ none a b _ (ix2 i j)).trans ?_
  rw [show constant (F := Ideal) S512x512 .f32 0x00000000#32 (ix2 i j) = (0 : EReal) from Ideal.ofBits_zero_f32, zero_add,
    ← Equiv.sum_comp (contrEquiv1 dot_S2048x512_S2048x512_S512x512_0_0_1_1_n_n 2048 rfl rfl).symm]
  refine Finset.sum_congr rfl fun k _ => congrArg₂ (fun y z : EReal => y * z) (congrArg a (funext fun x => Fin.ext ?_)) (congrArg b (funext fun x => Fin.ext ?_))
  · have hk := contrEquiv1_symm_val dot_S2048x512_S2048x512_S512x512_0_0_1_1_n_n 2048 rfl rfl k
    match x with
    | ⟨0, _⟩ => exact hk
    | ⟨1, _⟩ => rfl
  · have hk := contrEquiv1_symm_val dot_S2048x512_S2048x512_S512x512_0_0_1_1_n_n 2048 rfl rfl k
    match x with
    | ⟨0, _⟩ => exact hk
    | ⟨1, _⟩ => rfl

theorem cast_at (x : FVec Ideal S1x2048x512 .bf16) (h : S1x2048x512.ShapeCasts S2048x512) (k : Fin 2048) (j : Fin 512) :
    shapeCast S2048x512 x h (ix2 k j) = x (ix3 0 k j) :=
  shapeCast_1ab_ab_apply x h k j

theorem pay1_at (x : Vec Ideal S2048x512 .bf16) (y : Vec Ideal S1x2048x512 .bf16) (i : Fin 512) (j : Fin 512) :
    k0_pay1 (F := Ideal) x y (ix2 i j) = ∑ k : Fin 2048, (x (ix2 k i) : EReal) * y (ix3 0 k j) := by
  unfold k0_pay1
  rw [shapeCast_self]
  refine (tn_apply _ _ i j).trans (Finset.sum_congr rfl fun k _ => ?_)
  rw [cast_at]

/-! What each case leaves. -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S2048x512 .bf16) (h1 : a1.IsWhole) (a2 : Memref sig .tc .vmem S1x2048x512 .bf16) (h2 : a2.IsWhole)
    (a3 : Memref sig .tc .vmem S512x512 .f32) (h3 : a3.IsWhole) (hc0 : cond0_0 i) (hc1 : ¬cond0_1 i) (x : Vec F S2048x512 .bf16) (y : Vec F S1x2048x512 .bf16) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero hz2]
  simp only [View.readAt_eq_ld, h1.read_unread, h2.read_unread, View.ld_unit_zero (S := S2048x512) hz2, View.ld_unit_zero (S := S1x2048x512) hz3]

theorem out_B (c : Dev nD) (i : grid0.Coords) (a1 : Memref sig .tc .vmem S2048x512 .bf16) (h1 : a1.IsWhole) (a2 : Memref sig .tc .vmem S1x2048x512 .bf16) (h2 : a2.IsWhole)
    (a3 : Memref sig .tc .vmem S512x512 .f32) (h3 : a3.IsWhole) (hc0 : ¬cond0_0 i) (hc1 : cond0_1 i) (x : Vec F S2048x512 .bf16) (y : Vec F S1x2048x512 .bf16) (o : Vec F S512x512 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero hz2]
  simp only [View.readAt_eq_ld, h1.read_unread, h2.read_unread, h3.read_unread, View.ld_unit_zero (S := S2048x512) hz2, View.ld_unit_zero (S := S1x2048x512) hz3,
    View.ld_unit_zero (S := S512x512) hz2]

end Cases

/-! The grid. -/

section Grid
variable (m : (ℓ : Loc nD τ sig) → Buf (Elt Ideal) ℓ) (c : Dev nD)

/-- The two operands. -/
def X : ℕ → ℕ → EReal := rd2 (V m c main_v13 : Vec Ideal S8192x1024 .bf16)
def Y : ℕ → ℕ → ℕ → EReal := rd3 (V m c main_v21 : Vec Ideal S3x8192x1024 .bf16)

theorem idx0 : ∀ t : Fin grid0.N, win0_0.index t (0 : Fin 2) = t.val % 4 ∧ win0_0.index t (1 : Fin 2) = t.val / 24 := by decide +kernel
theorem idx1 : ∀ t : Fin grid0.N, win0_1.index t (0 : Fin 3) = t.val / 4 % 6 / 2 ∧ win0_1.index t (1 : Fin 3) = t.val % 4 ∧ win0_1.index t (2 : Fin 3) = t.val / 4 % 2 := by decide +kernel
theorem idx2 : ∀ t : Fin grid0.N, win0_2.index t (0 : Fin 2) = t.val / 24 ∧ win0_2.index t (1 : Fin 2) = t.val / 4 % 6 := by decide +kernel

theorem iblk0_at (t : Fin cfg0.N) (k : Fin 2048) (i : Fin 512) : (iblk m c 0 t : Vec Ideal S2048x512 .bf16) (ix2 k i) = X m c (2048 * (t.val % 4) + k.val) (512 * (t.val / 24) + i.val) := by
  obtain ⟨e0, e1⟩ := idx0 t
  have hN : t.val < 48 := t.isLt
  refine Eq.trans ?_ (rd2_at (V m c main_v13 : Vec Ideal S8192x1024 .bf16) ⟨2048 * (t.val % 4) + k.val, by omega⟩ ⟨512 * (t.val / 24) + i.val, by omega⟩).symm
  refine congrArg (V m c main_v13 : Vec Ideal S8192x1024 .bf16) (funext fun a => Fin.ext ?_)
  match a with
  | ⟨0, _⟩ => show win0_0.index t (0 : Fin 2) * 2048 + 1 * k.val = 2048 * (t.val % 4) + k.val; omega
  | ⟨1, _⟩ => show win0_0.index t (1 : Fin 2) * 512 + 1 * i.val = 512 * (t.val / 24) + i.val; omega

theorem iblk1_at (t : Fin cfg0.N) (k : Fin 2048) (j : Fin 512) : (iblk m c 1 t : Vec Ideal S1x2048x512 .bf16) (ix3 0 k j)
    = Y m c (t.val / 4 % 6 / 2) (2048 * (t.val % 4) + k.val) (512 * (t.val / 4 % 2) + j.val) := by
  obtain ⟨e0, e1, e2⟩ := idx1 t
  refine Eq.trans ?_ (rd3_at (V m c main_v21 : Vec Ideal S3x8192x1024 .bf16) ⟨t.val / 4 % 6 / 2, by omega⟩ ⟨2048 * (t.val % 4) + k.val, by omega⟩ ⟨512 * (t.val / 4 % 2) + j.val, by omega⟩).symm
  refine congrArg (V m c main_v21 : Vec Ideal S3x8192x1024 .bf16) (funext fun a => Fin.ext ?_)
  match a with
  | ⟨0, _⟩ => show win0_1.index t (0 : Fin 3) * 1 + 1 * 0 = t.val / 4 % 6 / 2; omega
  | ⟨1, _⟩ => show win0_1.index t (1 : Fin 3) * 2048 + 1 * k.val = 2048 * (t.val % 4) + k.val; omega
  | ⟨2, _⟩ => show win0_1.index t (2 : Fin 3) * 512 + 1 * j.val = 512 * (t.val / 4 % 2) + j.val; omega

theorem emb2 (t : Fin cfg0.N) (y : S512x512.Idx) (h0 : 512 * (t.val / 24) + (y 0).val < 1024) (h1 : 512 * (t.val / 4 % 6) + (y 1).val < 3072) :
    ((cfg0.win 2).blk t).view.emb y = (ix2 ⟨512 * (t.val / 24) + (y 0).val, h0⟩ ⟨512 * (t.val / 4 % 6) + (y 1).val, h1⟩ : S1024x3072.Idx) := by
  obtain ⟨e0, e1⟩ := idx2 t
  funext a; apply Fin.ext
  match a with
  | ⟨0, _⟩ => show win0_2.index t (0 : Fin 2) * 512 + 1 * (y 0).val = 512 * (t.val / 24) + (y 0).val; omega
  | ⟨1, _⟩ => show win0_2.index t (1 : Fin 2) * 512 + 1 * (y 1).val = 512 * (t.val / 4 % 6) + (y 1).val; omega

/-- The products of row tile `s` of the blocks at a point. -/
def part (n i j s : ℕ) : EReal := ∑ k ∈ Finset.range 2048, X m c (2048 * s + k) (512 * (n / 24) + i) * Y m c (n / 4 % 6 / 2) (2048 * s + k) (512 * (n / 4 % 2) + j)

theorem pay_at (t : Fin cfg0.N) (i : Fin 512) (j : Fin 512) : k0_pay1 (F := Ideal) (iblk m c 0 t) (iblk m c 1 t) (ix2 i j) = part m c t.val i.val j.val (t.val % 4) := by
  refine (pay1_at _ _ i j).trans ?_
  unfold part
  rw [Finset.sum_range]
  exact Finset.sum_congr rfl fun k _ => congrArg₂ (fun y z : EReal => y * z) (iblk0_at m c t k i) (iblk1_at m c t k j)

theorem outs_at : ∀ (n : ℕ) (h : n < cfg0.N) (i : Fin 512) (j : Fin 512), outsAt0 m c n h (ix2 i j) = ∑ s ∈ Finset.range (n % 4 + 1), part m c n i.val j.val s
  | 0, h, i, j => by
    rw [outsAt0_A m c ⟨0, h⟩ rfl (by show ¬ 1 ≤ 0 % 4; decide), out_A, pay_at]
    exact (Finset.sum_range_one _).symm
  | n + 1, h, i, j => by
    by_cases h0 : (n + 1) % 4 = 0
    · rw [outsAt0_A m c ⟨n + 1, h⟩ h0 (by show ¬ 1 ≤ (n + 1) % 4; omega), out_A, pay_at]
      show part m c (n + 1) i.val j.val ((n + 1) % 4) = _
      rw [h0]
      exact (Finset.sum_range_one _).symm
    · have e : (n + 1) % 4 = n % 4 + 1 := by omega
      rw [outsAt0_B m c ⟨n + 1, h⟩ h0 (by show 1 ≤ (n + 1) % 4; omega), out_B]
      unfold k0_pay2
      rw [shapeCast_self]
      refine (congrArg₂ (fun y z : EReal => y + z) (outs_at n (Nat.lt_of_succ_lt h) i j) (pay_at m c ⟨n + 1, h⟩ i j)).trans ?_
      show _ + part m c (n + 1) i.val j.val ((n + 1) % 4) = _
      rw [e, Finset.sum_range_succ (fun s => part m c (n + 1) i.val j.val s) (n % 4 + 1)]
      refine congrArg (· + part m c (n + 1) i.val j.val (n % 4 + 1)) (Finset.sum_congr rfl fun s _ => ?_)
      unfold part
      rw [show (n + 1) / 24 = n / 24 by omega, show (n + 1) / 4 = n / 4 by omega]

theorem sum_tiles {M : Type} [AddCommMonoid M] (f : ℕ → M) : ∑ s ∈ Finset.range 4, ∑ k ∈ Finset.range 2048, f (2048 * s + k) = ∑ r ∈ Finset.range 8192, f r := by
  have h : ∀ n, ∑ s ∈ Finset.range n, ∑ k ∈ Finset.range 2048, f (2048 * s + k) = ∑ r ∈ Finset.range (2048 * n), f r := by
    intro n
    induction n with
    | zero => rfl
    | succ n ih => rw [Finset.sum_range_succ, ih, Nat.mul_succ, Finset.sum_range_add]
  exact h 4

/-- The array after the run. -/
theorem final (i : S1024x3072.Idx) : ((dats m 0 c).arrAt 2 cfg0.N : Vec Ideal S1024x3072 .f32) i
    = ∑ r ∈ Finset.range 8192, X m c r (i 0).val * Y m c ((i 1).val / 1024) r ((i 1).val % 1024) := by
  refine (dats m 0 c).arrAt_forall_of_cover 2 (fun (i : S1024x3072.Idx) (x : EReal) => x = ∑ r ∈ Finset.range 8192, X m c r (i 0).val * Y m c ((i 1).val / 1024) r ((i 1).val % 1024))
    (fun t hf y => ?_) (fun i => ?_) i
  · change S512x512.Idx at y
    have hN : t.val < 48 := t.isLt
    have h0 : (y 0).val < 512 := (y 0).isLt
    have h1 : (y 1).val < 512 := (y 1).isLt
    rw [emb2 t y (by omega) (by omega)]
    show (dats m 0 c).after 2 t y = _
    have h3 : t.val % 4 = 3 := (flush0_2 t).mp hf
    rw [after0_2]
    refine (congrArg (outsAt0 m c t.val t.isLt) (eq_ix2 y)).trans ((outs_at m c t.val t.isLt (y 0) (y 1)).trans ?_)
    rw [h3]
    refine (sum_tiles fun r => X m c r (512 * (t.val / 24) + (y 0).val) * Y m c (t.val / 4 % 6 / 2) r (512 * (t.val / 4 % 2) + (y 1).val)).trans ?_
    refine Finset.sum_congr rfl fun r _ => ?_
    show _ = X m c r (512 * (t.val / 24) + (y 0).val) * Y m c ((512 * (t.val / 4 % 6) + (y 1).val) / 1024) r ((512 * (t.val / 4 % 6) + (y 1).val) % 1024)
    rw [show (512 * (t.val / 4 % 6) + (y 1).val) / 1024 = t.val / 4 % 6 / 2 by omega, show (512 * (t.val / 4 % 6) + (y 1).val) % 1024 = 512 * (t.val / 4 % 2) + (y 1).val by omega]
  · have h0 : (i 0).val < 1024 := (i 0).isLt
    have h1 : (i 1).val < 3072 := (i 1).isLt
    have hN : 24 * ((i 0).val / 512) + 4 * ((i 1).val / 512) + 3 < cfg0.N := by show _ < 48; omega
    refine ⟨⟨24 * ((i 0).val / 512) + 4 * ((i 1).val / 512) + 3, hN⟩, (flush0_2 _).mpr (by show (24 * ((i 0).val / 512) + 4 * ((i 1).val / 512) + 3) % 4 = 3; omega), ?_⟩
    have hm := ((cfg0.win 2).blk ⟨24 * ((i 0).val / 512) + 4 * ((i 1).val / 512) + 3, hN⟩).view.emb_mem_set (ix2 ⟨(i 0).val % 512, by omega⟩ ⟨(i 1).val % 512, by omega⟩ : S512x512.Idx)
    rw [emb2 _ _ (by show 512 * ((24 * ((i 0).val / 512) + 4 * ((i 1).val / 512) + 3) / 24) + (i 0).val % 512 < 1024; omega)
      (by show 512 * ((24 * ((i 0).val / 512) + 4 * ((i 1).val / 512) + 3) / 4 % 6) + (i 1).val % 512 < 3072; omega)] at hm
    refine (congrArg (· ∈ _) ?_).mp hm
    funext x; apply Fin.ext
    match x with
    | ⟨0, _⟩ => show 512 * ((24 * ((i 0).val / 512) + 4 * ((i 1).val / 512) + 3) / 24) + (i 0).val % 512 = (i 0).val; omega
    | ⟨1, _⟩ => show 512 * ((24 * ((i 0).val / 512) + 4 * ((i 1).val / 512) + 3) / 4 % 6) + (i 1).val % 512 = (i 1).val; omega

end Grid

end Cert.ConvGradIdeal.Cg

end
-- ==== Proof.Cg.Host.lean ====
/- The two operands the kernel's host lines prepare. -/
module

public import proofs.«01_k».proof.Proof.Cg.Out
public import proofs.«01_k».proof.Proof.Gen.ConvGradReferenceIdeal.Run
public import proofs.«01_k».proof.Proof.Gen.ConvGradReferenceIdeal.Read
public import Idealize.ShloMosaic.Lib.StableHlo.RunRead

@[expose] public section

set_option maxRecDepth 16384

noncomputable section

namespace Cert.ConvGradIdeal.Cg

open Cert.ConvGradIdeal Cert.ConvGradIdeal.Gen
open Idealize.ShloMosaic Idealize.ShloMosaic.TcCoe
open Idealize.SL.Sem
open scoped BigOperators

variable (m : (ℓ : Loc nD τ sig) → Buf (Elt Ideal) ℓ) (c : Dev nD)

/-- The normalized rows, -/
abbrev xn : (⟨S8192x1024, .f32⟩ : BufTy).Contents (Elt Ideal) :=
  Cert.ConvGradReferenceIdeal.Read.val_main_v12 (F := Ideal) (m ((c : Thread nD τ).loc main_arg0)) (m ((c : Thread nD τ).loc main_arg1))

theorem V_v13 : (V m c main_v13 : Vec Ideal S8192x1024 .bf16) = (truncf (F := Ideal) .bf16 (xn m c : FVec Ideal S8192x1024 .f32) bitsLt_bf16_f32 : FVec Ideal S8192x1024 .bf16) := by
  unfold V
  simp only [List.flatten_cons, List.flatten_nil, List.append_nil, List.cons_append, List.nil_append, hostOps0]
  after_reads_simp
  rfl

/-- and the three parts of the gradient's columns, one after the other. -/
theorem V_v21 : (V m c main_v21 : Vec Ideal S3x8192x1024 .bf16) = (truncf (F := Ideal) .bf16 (concatenate S3x8192x1024 0
      [⟨S1x8192x1024, broadcastInDim S1x8192x1024 ![1, 2] bcast_S8192x1024_S1x8192x1024_1_2 (extractStridedSlice S8192x1024 ![0, 0] (m ((c : Thread nD τ).loc main_arg3) : Vec Ideal S8192x3072 .f32) slices_S8192x3072_S8192x1024_0_0)⟩,
       ⟨S1x8192x1024, broadcastInDim S1x8192x1024 ![1, 2] bcast_S8192x1024_S1x8192x1024_1_2 (extractStridedSlice S8192x1024 ![0, 1024] (m ((c : Thread nD τ).loc main_arg3) : Vec Ideal S8192x3072 .f32) slices_S8192x3072_S8192x1024_0_1024)⟩,
       ⟨S1x8192x1024, broadcastInDim S1x8192x1024 ![1, 2] bcast_S8192x1024_S1x8192x1024_1_2 (extractStridedSlice S8192x1024 ![0, 2048] (m ((c : Thread nD τ).loc main_arg3) : Vec Ideal S8192x3072 .f32) slices_S8192x3072_S8192x1024_0_2048)⟩]
      concatenates_S1x8192x1024_S1x8192x1024_S1x8192x1024_S3x8192x1024_d0) bitsLt_bf16_f32 : FVec Ideal S3x8192x1024 .bf16) := by
  unfold V
  simp only [List.flatten_cons, List.flatten_nil, List.append_nil, List.cons_append, List.nil_append, hostOps0]
  after_reads_simp
  rfl

end Cert.ConvGradIdeal.Cg

end
-- ==== Proof.Cg.Thirds.lean ====
/- The gradient's columns in three parts, one after the other. -/
module

public import proofs.«01_k».proof.Proof.Gen.ConvGradIdeal.Skeleton
public import Idealize.ShloMosaic.Lib.ValueLayout
public import Idealize.ShloMosaic.Lib.Pointwise

@[expose] public section

set_option maxRecDepth 16384

noncomputable section

namespace Cert.ConvGradIdeal.Cg

open Cert.ConvGradIdeal Cert.ConvGradIdeal.Gen
open Idealize.ShloMosaic

/-- One part, -/
theorem third (o : ℕ) (x : Vec Ideal S8192x3072 .f32) (h : S8192x3072.Slices ![0, o] S8192x1024) (a : Fin 1) (r : Fin 8192) (d : Fin 1024) (k : Fin 3072) (hk : k.val = o + d.val) :
    broadcastInDim S1x8192x1024 ![1, 2] bcast_S8192x1024_S1x8192x1024_1_2 (extractStridedSlice S8192x1024 ![0, o] x h) (ValueIdx.ix3 a r d) = x (ValueIdx.ix2 r k) := by
  refine Eq.trans ?_ (ValueIdx.slice2_axis1_apply o x h r d k hk)
  refine congrArg (extractStridedSlice S8192x1024 ![0, o] x h) (funext fun y => Fin.ext ?_)
  match y with
  | ⟨0, _⟩ => rfl
  | ⟨1, _⟩ => rfl

/-- and all three. -/
theorem thirds (x : Vec Ideal S8192x3072 .f32) (a : Fin 3) (r : Fin 8192) (d : Fin 1024) (k : Fin 3072) (hk : k.val = 1024 * a.val + d.val) :
    concatenate S3x8192x1024 0
      [⟨S1x8192x1024, broadcastInDim S1x8192x1024 ![1, 2] bcast_S8192x1024_S1x8192x1024_1_2 (extractStridedSlice S8192x1024 ![0, 0] x slices_S8192x3072_S8192x1024_0_0)⟩,
       ⟨S1x8192x1024, broadcastInDim S1x8192x1024 ![1, 2] bcast_S8192x1024_S1x8192x1024_1_2 (extractStridedSlice S8192x1024 ![0, 1024] x slices_S8192x3072_S8192x1024_0_1024)⟩,
       ⟨S1x8192x1024, broadcastInDim S1x8192x1024 ![1, 2] bcast_S8192x1024_S1x8192x1024_1_2 (extractStridedSlice S8192x1024 ![0, 2048] x slices_S8192x3072_S8192x1024_0_2048)⟩]
      concatenates_S1x8192x1024_S1x8192x1024_S1x8192x1024_S3x8192x1024_d0 (ValueIdx.ix3 a r d) = x (ValueIdx.ix2 r k) := by
  refine (concatenate_cons_apply S3x8192x1024 0
    ⟨S1x8192x1024, broadcastInDim S1x8192x1024 ![1, 2] bcast_S8192x1024_S1x8192x1024_1_2 (extractStridedSlice S8192x1024 ![0, 0] x slices_S8192x3072_S8192x1024_0_0)⟩
    ⟨S1x8192x1024, broadcastInDim S1x8192x1024 ![1, 2] bcast_S8192x1024_S1x8192x1024_1_2 (extractStridedSlice S8192x1024 ![0, 1024] x slices_S8192x3072_S8192x1024_0_1024)⟩
    [⟨S1x8192x1024, broadcastInDim S1x8192x1024 ![1, 2] bcast_S8192x1024_S1x8192x1024_1_2 (extractStridedSlice S8192x1024 ![0, 2048] x slices_S8192x3072_S8192x1024_0_2048)⟩]
    concatenates_S1x8192x1024_S1x8192x1024_S1x8192x1024_S3x8192x1024_d0 (ValueIdx.ix3 a r d)).trans ?_
  rw [concatenateAt_cons]
  have ha := a.isLt
  by_cases h : a.val < 1
  · refine (dif_pos h).trans (Eq.trans ?_ (third 0 x slices_S8192x3072_S8192x1024_0_0 0 r d k (by omega)))
    refine congrArg _ (funext fun y => Fin.ext ?_)
    match y with
    | ⟨0, _⟩ => show a.val = 0; omega
    | ⟨1, _⟩ => rfl
    | ⟨2, _⟩ => rfl
  · refine (dif_neg h).trans ?_
    rw [concatenateAt_cons]
    by_cases h' : a.val - 1 < 1
    · refine (dif_pos h').trans (Eq.trans ?_ (third 1024 x slices_S8192x3072_S8192x1024_0_1024 0 r d k (by omega)))
      refine congrArg _ (funext fun y => Fin.ext ?_)
      match y with
      | ⟨0, _⟩ => show a.val - 1 = 0; omega
      | ⟨1, _⟩ => rfl
      | ⟨2, _⟩ => rfl
    · refine (dif_neg h').trans ?_
      rw [concatenateAt_singleton]
      refine Eq.trans ?_ (third 2048 x slices_S8192x3072_S8192x1024_0_2048 0 r d k (by omega))
      refine congrArg _ (funext fun y => Fin.ext ?_)
      match y with
      | ⟨0, _⟩ => show a.val - 1 - 1 = 0; omega
      | ⟨1, _⟩ => rfl
      | ⟨2, _⟩ => rfl

end Cert.ConvGradIdeal.Cg

end
-- ==== Proof.Cg.Final.lean ====
/- The weight gradient the kernel ends with is the reference's. -/
module

public import proofs.«01_k».proof.Defs
public import proofs.«01_k».proof.Proof.Cg.Host
public import proofs.«01_k».proof.Proof.Cg.Thirds
public import Idealize.ShloMosaic.Lib.Pointwise

@[expose] public section

set_option maxRecDepth 16384

noncomputable section

namespace Cert.ConvGradIdeal.Cg

open Cert.ConvGradIdeal Cert.ConvGradIdeal.Gen
open Idealize.ShloMosaic Idealize.ShloMosaic.TcCoe
open Idealize.SL.Sem
open scoped BigOperators

variable (m : (ℓ : Loc nD τ sig) → Buf (Elt Ideal) ℓ) (c : Dev nD) (g : Dev nD → PrngReg)

theorem X_at (r : Fin 8192) (i : Fin 1024) : X m c r.val i.val = xn m c (ValueIdx.ix2 r i) := by
  unfold X
  rw [V_v13]
  exact rd2_at _ r i

theorem Y_at (r : Fin 8192) (k : Fin 3072) : Y m c (k.val / 1024) r.val (k.val % 1024) = (m ((c : Thread nD τ).loc main_arg3) : Vec Ideal S8192x3072 .f32) (ValueIdx.ix2 r k) := by
  have hk := k.isLt
  unfold Y
  rw [V_v21]
  refine (rd3_at _ ⟨k.val / 1024, by omega⟩ r ⟨k.val % 1024, by omega⟩).trans ?_
  exact thirds (m ((c : Thread nD τ).loc main_arg3) : Vec Ideal S8192x3072 .f32) ⟨k.val / 1024, by omega⟩ r ⟨k.val % 1024, by omega⟩ k (by show k.val = 1024 * (k.val / 1024) + k.val % 1024; omega)

/-- The two operands as arrays of numbers. -/
def ct : S8192x3072.Idx → EReal := (m ((c : Thread nD τ).loc main_arg3) : Vec Ideal S8192x3072 .f32)
def nx : S8192x1024.Idx → EReal := xn m c

/-- The result the kernel ends with. -/
def res : Buf (Elt Ideal) ((c.tc : Thread nD τ).loc main_v22) := (dats m 0 c).arrAt 2 cfg0.N

theorem res_at (i : S1024x3072.Idx) : @Eq EReal (res m c i) (∑ r : Fin 8192, ct m c (ValueIdx.ix2 r (i 1)) * nx m c (ValueIdx.ix2 r (i 0))) := by
  have e : @Eq EReal (res m c i) (∑ r ∈ Finset.range 8192, X m c r (i 0).val * Y m c ((i 1).val / 1024) r ((i 1).val % 1024)) := final m c i
  refine e.trans ?_
  rw [Finset.sum_range]
  refine Finset.sum_congr rfl fun r _ => ?_
  rw [mul_comm]
  exact congrArg₂ (fun y z : EReal => y * z) (Y_at m c r (i 1)) (X_at m c r (i 0))

variable (m' : (ℓ : Loc Cert.ConvGradReferenceIdeal.nD Cert.ConvGradReferenceIdeal.τ Cert.ConvGradReferenceIdeal.sig) → Buf (Elt Ideal) ℓ)

theorem same : Cert.ConvGradReferenceIdeal.Read.val_main_v15 (F := Ideal) (m ((c : Thread nD τ).loc main_arg0)) (m ((c : Thread nD τ).loc main_arg1)) (m ((c : Thread nD τ).loc main_arg3)) = res m c := by
  refine funext fun (i : S1024x3072.Idx) => ?_
  refine Eq.trans ?_ (res_at m c i).symm
  rw [Cert.ConvGradReferenceIdeal.Read.val_main_v15_apply, Cert.ConvGradReferenceIdeal.Read.val_main_v14_apply]
  refine Finset.sum_congr rfl fun r _ => congrArg₂ (fun y z : EReal => y * z) (congrArg (ct m c) (funext fun y => Fin.ext ?_)) (congrArg (nx m c) (funext fun y => Fin.ext ?_))
  · match y with
    | ⟨0, _⟩ => rfl
    | ⟨1, _⟩ => rfl
  · match y with
    | ⟨0, _⟩ => rfl
    | ⟨1, _⟩ => rfl

theorem algebraic : Cert.algebraic_ConvGradIdeal_ConvGradReferenceIdeal := fun m g m' g' _ ha =>
  ⟨res m, Value.run_blocks m g, (θ_run Cert.ConvGradReferenceIdeal.defs _ _).mono (fun r h c =>
    ⟨(h c).1.trans (by rw [Cert.ConvGradReferenceIdeal.Read.val_main_v15_eq, (ha c).1, (ha c).2.1, (ha c).2.2.2]; exact same m c), (h c).2⟩)
    (Cert.ConvGradReferenceIdeal.Value.run (F := Ideal) m' g')⟩

end Cert.ConvGradIdeal.Cg

end
-- ==== Proof.Cp.Run.lean ====
/- The conv layer's in-projection's run: the normalized rows, kept from a row tile's first point to its last, and a block of products at every point. -/
module

public import proofs.«01_k».proof.Proof.Gen.ConvProjIdeal.Frame
public import proofs.«01_k».proof.Proof.Gen.ConvProjIdeal.Skeleton
public import Idealize.ShloMosaic.Lib.Tactic
public import Idealize.ShloMosaic.Lib.Pipeline.Kit
public import Idealize.ShloMosaic.Lib.Pipeline.TableIdle
public import Idealize.ShloMosaic.Lib.VecWindow
public import Idealize.ShloMosaic.Lib.ValueLayout
public import Idealize.ShloMosaic.Lib.Claim

@[expose] public section

set_option maxRecDepth 16384

noncomputable section

namespace Cert.ConvProjIdeal.Cp

open Cert.ConvProjIdeal Cert.ConvProjIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem cond_first : ∀ t : Fin grid0.N, t.val % 6 = 0 → k0_cond1 (grid0.coords t) = 1#1 := by decide +kernel
theorem cond_other : ∀ t : Fin grid0.N, t.val % 6 ≠ 0 → ¬ k0_cond1 (grid0.coords t) = 1#1 := by decide +kernel

/-! The body. -/

section Body
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1024x512 .bf16) (h4 : a4.IsWhole) (a5 : Memref sig .tc .vmem S1024x1024 .bf16) (h5 : a5.IsWhole) (a6 : Memref sig .tc .vmem S1x1024x512 .f32) (h6 : a6.IsWhole)
  (x0 : Vec F S1024x1024 .f32) (x1 : Vec F S1x1024 .f32) (x2 : Vec F S1024x512 .bf16) (y : Vec F S1024x1024 .bf16) (z : Vec F S1x1024x512 .f32)

/-- A row tile's first point writes the normalized rows and multiplies them. -/
theorem run_first (E : Set ℕ) (K : PUnit → sProp 𝕄G) (hc : k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1) ∗ owns (c : Thread nD τ) a6 fullShare (k0_pay2 (k0_pay1 x0 x1) x2)) -∗ K ⟨⟩))
      ⊢ wp frame (wpE (defs₀ (F := F)) Variants.none c none) E (cc0_conv_in_proj i a2 h2 a3 h3 a4 h4 a5 h5 a6 h6) K := by
  simp only [cc0_conv_in_proj_eq_skeleton]; unfold cc0_conv_in_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; swap; (· iexact H3); ipureintro
    refine (View.read_writes_full _ _ _ _ _).trans ?_
    rw [View.readAt_full, View.readAt_full, h2.read_unread, h3.read_unread]
  iexists _; isplitr; swap; (· iexact H4); ipureintro
  refine (View.read_writes_full _ _ _ _ _).trans ?_
  unfold run_first.sl.v3 run_first.sl.H3_1
  rw [View.readCov_full, View.readAt_full, View.readAt_full, View.readAt_full, h2.read_unread, h3.read_unread, h4.read_unread]

/-- A later point multiplies the rows the first left. -/
theorem run_other (E : Set ℕ) (K : PUnit → sProp 𝕄G) (hc : ¬ k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k0_pay2 y x2)) -∗ K ⟨⟩))
      ⊢ wp frame (wpE (defs₀ (F := F)) Variants.none c none) E (cc0_conv_in_proj i a2 h2 a3 h3 a4 h4 a5 h5 a6 h6) K := by
  simp only [cc0_conv_in_proj_eq_skeleton]; unfold cc0_conv_in_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h4.eq_unread hf2; obtain rfl := h5.eq_unread hf3
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact h4.read_unread _
    iexact H2
  isplitl [H3]
  · iexists _; isplitr; · ipureintro; exact h5.read_unread _
    iexact H3
  iexists _; isplitr; swap; (· iexact H4); ipureintro
  refine (View.read_writes_full _ _ _ _ _).trans ?_
  rw [View.readAt_full, View.readAt_full, h4.read_unread, h5.read_unread]

end Body

/-! The launch. -/

variable (m : (ℓ : Loc nD τ sig) → Buf (Elt F) ℓ) (ρ : Dev nD → PrngReg)

/-- The first point of a point's row tile. -/
def base (t : Fin cfg0.N) : Fin cfg0.N := ⟨t.val / 6 * 6, lt_of_le_of_lt (Nat.div_mul_le_self _ _) t.isLt⟩

/-- The normalized rows a point finds. -/
def rows (c : Dev nD) (t : Fin cfg0.N) : Vec F S1024x1024 .bf16 := k0_pay1 (iblk m c 0 (base t)) (iblk m c 1 (base t))

/-- The products a point leaves. -/
def prods (c : Dev nD) (t : Fin cfg0.N) : Vec F S1x1024x512 .f32 := k0_pay2 (rows m c t) (iblk m c 2 t)

theorem base_first (t : Fin cfg0.N) (h : t.val % 6 = 0) : base t = t := Fin.ext (by show t.val / 6 * 6 = t.val; omega)

theorem base_prev (t : Fin cfg0.N) (h : t.val % 6 ≠ 0) : base ⟨t.val - 1, Nat.lt_of_le_of_lt (Nat.sub_le _ _) t.isLt⟩ = base t :=
  Fin.ext (by show (t.val - 1) / 6 * 6 = t.val / 6 * 6; omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => prods m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows m c t := by dsimp only [dats]
theorem after0_4 (c : Dev nD) (t : Fin cfg0.N) : (dats m 0 c).after 4 t = prods m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle3 : ∀ t : Fin cfg0.N, cfg0.idle 3 (cfg0.grid.coords t) = true → t.val % 6 ≠ 0 := by decide +kernel
theorem fresh3 : ∀ t : Fin cfg0.N, t.val % 6 ≠ 0 → cfg0.fresh 3 t.val = false := by decide +kernel

theorem rows_prev (c : Dev nD) (t : Fin cfg0.N) (ht : t.val % 6 ≠ 0) :
    rows m c ⟨t.val - 1, Nat.lt_of_le_of_lt (Nat.sub_le _ _) t.isLt⟩ = rows m c t := by
  unfold rows
  rw [base_prev t ht]

theorem before0_3 (c : Dev nD) (t : Fin cfg0.N) (ht : t.val % 6 ≠ 0) (d) : (dats m 0 c).before 3 t d = rows m c t := by
  rw [(dats m 0 c).before_out_traj 3 rfl (fun _ _ => rfl)
    (fun t _ hi _ => by rw [after0_3, after0_3, rows_prev m c t (idle3 t hi)]) t.val t rfl d,
    fresh3 t ht, if_neg Bool.false_ne_true, after0_3, rows_prev m c t ht]

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold prods
  by_cases ht : t.val % 6 = 0
  · unfold rows
    rw [base_first t ht]
    iintro ⟨HΦ, Ho, ⟨%d0, H0⟩, ⟨%d1, H1⟩, ⟨%d2, H2⟩, ⟨%d3, H3⟩, ⟨%d4, H4⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_first t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_3 m c t ht]
    iintro ⟨HΦ, Ho, ⟨%d0, H0⟩, ⟨%d1, H1⟩, ⟨%d2, H2⟩, ⟨%d3, H3⟩, ⟨%d4, H4⟩⟩
    iapply (run_other c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_other t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem left3 (c : Dev nD) (t : Fin cfg0.N) : owns (c : Thread nD τ) (st0_3 t) fullShare ((dats m 0 c).after 3 t) ⊢
    (match cfg0.idle 3 (cfg0.grid.coords t) with
      | true => match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t) : sProp 𝕄G) := by
  cases hi : cfg0.idle 3 (cfg0.grid.coords t)
  · exact .rfl
  · cases hf : (cfg0.win 3).flush t
    · simp only [before0_3 m c t (idle3 t hi), after0_3]
      iintro H
      iexists fun _ => default
      iexact H
    · exact .rfl

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  refine sep_mono .rfl (sep_mono .rfl (sep_mono .rfl (sep_mono .rfl (sep_mono .rfl (sep_mono ?_ .rfl)))))
  exact left3 m c t

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run m ρ))

end Cert.ConvProjIdeal.Cp

end
-- ==== Proof.Ub.Pay.lean ====
/- What the backward kernel's vector operations compute, over blocks whose elements a function of row and column gives. -/
module

public import proofs.«01_k».proof.Proof.Gen.UpBackIdeal.Skeleton
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.UpBackIdeal.Ub

open Cert.UpBackIdeal Cert.UpBackIdeal.Gen
open Idealize.ShloMosaic Idealize.ShloMosaic.TcCoe Idealize.ShloMosaic.ValueIdx
open scoped BigOperators

/-- Every element of the matrix is what the function gives at its row and column. -/
def E2 {m n : ℕ} (x : (⟨2, ![m, n]⟩ : Shape).Idx → EReal) (f : ℕ → ℕ → EReal) : Prop :=
  ∀ (r : Fin m) (c : Fin n), x (ix2 r c) = f r.val c.val

theorem E2.congr {m n : ℕ} {x : (⟨2, ![m, n]⟩ : Shape).Idx → EReal} {f g : ℕ → ℕ → EReal} (h : E2 x f) (e : ∀ r < m, ∀ c < n, f r c = g r c) : E2 x g :=
  fun r c => (h r c).trans (e r.val r.isLt c.val c.isLt)

/-! The row statistics. -/

/-- The row's width and the small term under the root. -/
def width : EReal := Ideal.ofBits .f32 0x44800000#32
def eps : EReal := Ideal.ofBits .f32 0x358637BD#32

/-- The mean of a row's squares, -/
def ms (f : ℕ → ℕ → EReal) (r : ℕ) : EReal := Ideal.div (∑ d ∈ Finset.range 1024, f r d * f r d) width

/-- the reciprocal of their root, -/
def rho (f : ℕ → ℕ → EReal) (r : ℕ) : EReal := Ideal.rsqrt (ms f r + eps)

/-- and the mean of the products of the scaled gradient and the row. -/
def dot (f y : ℕ → ℕ → EReal) (g : ℕ → EReal) (r : ℕ) : EReal := Ideal.div (∑ d ∈ Finset.range 1024, y r d * g d * f r d) width

/-! Vector operations. -/

section Ops
variable {m n : ℕ} {f g : ℕ → ℕ → EReal}

theorem E2.add {x y : FVec Ideal ⟨2, ![m, n]⟩ .f32} (hx : E2 x f) (hy : E2 y g) : E2 (addf x y) fun r c => f r c + g r c := fun r c => congrArg₂ (fun a b : EReal => a + b) (hx r c) (hy r c)
theorem E2.sub {x y : FVec Ideal ⟨2, ![m, n]⟩ .f32} (hx : E2 x f) (hy : E2 y g) : E2 (subf x y) fun r c => f r c - g r c := fun r c => congrArg₂ (fun a b : EReal => a - b) (hx r c) (hy r c)
theorem E2.mul {x y : FVec Ideal ⟨2, ![m, n]⟩ .f32} (hx : E2 x f) (hy : E2 y g) : E2 (mulf x y) fun r c => f r c * g r c := fun r c => congrArg₂ (fun a b : EReal => a * b) (hx r c) (hy r c)
theorem E2.div {x y : FVec Ideal ⟨2, ![m, n]⟩ .f32} (hx : E2 x f) (hy : E2 y g) : E2 (divf x y) fun r c => Ideal.div (f r c) (g r c) := fun r c => congrArg₂ Ideal.div (hx r c) (hy r c)
theorem E2.rsqrt {x : FVec Ideal ⟨2, ![m, n]⟩ .f32} (hx : E2 x f) : E2 (rsqrt x) fun r c => Ideal.rsqrt (f r c) := fun r c => congrArg Ideal.rsqrt (hx r c)

theorem width_E2 : E2 (broadcast ⟨2, ![m, n]⟩ (Scalar.ofBits .f32 0x44800000#32 : Ideal .f32)) fun _ _ => width := fun _ _ => rfl
theorem eps_E2 : E2 (broadcast ⟨2, ![m, n]⟩ (Scalar.ofBits .f32 0x358637BD#32 : Ideal .f32)) fun _ _ => eps := fun _ _ => rfl

/-- The products of rows with rows, from nought. -/
theorem E2.rows {K : ℕ} {a : FVec Ideal ⟨2, ![m, K]⟩ .bf16} {b : FVec Ideal ⟨2, ![n, K]⟩ .bf16} (ha : E2 a f) (hb : E2 b g) (prec) :
    E2 (matmul (DotDims.transposedRhs m K n) prec a b (constant ⟨2, ![m, n]⟩ .f32 0x00000000#32 : FVec Ideal _ .f32)) fun r c => ∑ d ∈ Finset.range K, f r d * g c d := fun r c => by
  refine (Ideal.matmul_transposedRhs_apply prec a b _ r c).trans ?_
  rw [show (constant ⟨2, ![m, n]⟩ .f32 0x00000000#32 : FVec Ideal _ .f32) (ix2 r c) = (0 : EReal) from Ideal.ofBits_zero_f32, zero_add]
  refine Eq.trans ?_ (Finset.sum_range fun d => f r.val d * g c.val d).symm
  exact Finset.sum_congr rfl fun k _ => congrArg₂ (fun a b : EReal => a * b) (ha r k) (hb c k)

/-- A column repeated along the rows, -/
theorem E2.bcol {h : (⟨2, ![m, 1]⟩ : Shape).Broadcasts ⟨2, ![m, n]⟩} (hm : m ≠ 1) {x : (⟨2, ![m, 1]⟩ : Shape).Idx → EReal} (hx : E2 x f) :
    E2 (broadcastTo ⟨2, ![m, n]⟩ x h) fun r _ => f r 0 := fun r c => by
  refine (broadcastTo_apply x h (ix2 r c) (ix2 r (0 : Fin 1)) fun ax => ?_).trans (hx r 0)
  match ax with
  | ⟨0, _⟩ => show r.val = if m = 1 then 0 else r.val; rw [if_neg hm]
  | ⟨1, _⟩ => rfl

/-- and a row down the columns. -/
theorem E2.brow {h : (⟨2, ![1, n]⟩ : Shape).Broadcasts ⟨2, ![m, n]⟩} (hn : n ≠ 1) {x : (⟨2, ![1, n]⟩ : Shape).Idx → EReal} (hx : E2 x f) :
    E2 (broadcastTo ⟨2, ![m, n]⟩ x h) fun _ c => f 0 c := fun r c => by
  refine (broadcastTo_apply x h (ix2 r c) (ix2 (0 : Fin 1) c) fun ax => ?_).trans (hx 0 c)
  match ax with
  | ⟨0, _⟩ => rfl
  | ⟨1, _⟩ => show c.val = if n = 1 then 0 else c.val; rw [if_neg hn]

/-- The sums along the rows, as a column, -/
theorem E2.rowsum {h : (⟨2, ![m, n]⟩ : Shape).Reduces [1] ⟨1, ![m]⟩} {hc : (⟨1, ![m]⟩ : Shape).ShapeCasts ⟨2, ![m, 1]⟩} {hφ hacc} {x : FVec Ideal ⟨2, ![m, n]⟩ .f32} (hx : E2 x f) :
    E2 (shapeCast ⟨2, ![m, 1]⟩ (multiReduction .add [1] ⟨1, ![m]⟩ x 0x00000000#32 h hφ hacc) hc) fun r _ => ∑ d ∈ Finset.range n, f r d := fun r c => by
  refine (shapeCast_a_a1_apply _ hc r c).trans ((Ideal.multiReduction_add_single x _ h hφ hacc (ix1 r)).trans ?_)
  refine Eq.trans ?_ (Finset.sum_range fun d => f r.val d).symm
  refine Finset.sum_congr rfl fun k _ => ?_
  rw [← hx r k]
  refine congrArg x (funext fun a => Fin.ext ?_)
  match a with
  | ⟨0, _⟩ => rfl
  | ⟨1, _⟩ => rfl

/-- and down the columns, as a row. -/
theorem E2.colsum {h : (⟨2, ![m, n]⟩ : Shape).Reduces [0] ⟨1, ![n]⟩} {hc : (⟨1, ![n]⟩ : Shape).ShapeCasts ⟨2, ![1, n]⟩} {hφ hacc} {x : FVec Ideal ⟨2, ![m, n]⟩ .f32} (hx : E2 x f) :
    E2 (shapeCast ⟨2, ![1, n]⟩ (multiReduction .add [0] ⟨1, ![n]⟩ x 0x00000000#32 h hφ hacc) hc) fun _ c => ∑ d ∈ Finset.range m, f d c := fun r c => by
  refine (shapeCast_a_1a_apply _ hc r c).trans ((Ideal.multiReduction_add_single x _ h hφ hacc (ix1 c)).trans ?_)
  refine Eq.trans ?_ (Finset.sum_range fun d => f d c.val).symm
  refine Finset.sum_congr rfl fun k _ => ?_
  rw [← hx k c]
  refine congrArg x (funext fun a => Fin.ext ?_)
  match a with
  | ⟨0, _⟩ => rfl
  | ⟨1, _⟩ => rfl

end Ops

/-! The payloads. -/

section Payloads
variable {f y d A B : ℕ → ℕ → EReal} {g : ℕ → EReal}

theorem pay1_E2 {a : Vec Ideal S1x512x2816 .bf16} {b : Vec Ideal S1024x2816 .bf16} (ha : ∀ (r : Fin 512) (k : Fin 2816), a (ix3 0 r k) = A r.val k.val) (hb : E2 b B) :
    E2 (k0_pay1 (F := Ideal) a b) fun r j => ∑ k ∈ Finset.range 2816, A r k * B j k := by
  unfold k0_pay1
  rw [shapeCast_self]
  exact E2.rows (fun r k => (shapeCast_1ab_ab_apply a _ r k).trans (ha r k)) hb none

theorem pay5_E2 {x : Vec Ideal S512x1024 .f32} (hx : E2 x f) : E2 (k0_pay5 (F := Ideal) x) fun r _ => rho f r := by
  unfold k0_pay5
  exact E2.rsqrt (E2.add (E2.div (E2.rowsum (hx.mul hx)) width_E2) eps_E2)

theorem pay7_E2 {x t : Vec Ideal S512x1024 .f32} (hx : E2 x f) (ht : E2 t y) : E2 (k0_pay7 (F := Ideal) x t) fun _ j => ∑ r ∈ Finset.range 512, y r j * f r j * rho f r := by
  unfold k0_pay7
  exact E2.colsum (E2.mul (ht.mul hx) (E2.bcol (by decide) (pay5_E2 hx)))

theorem pay6_E2 {x t e : Vec Ideal S512x1024 .f32} {w : Vec Ideal S1x1024 .f32} (hx : E2 x f) (ht : E2 t y) (hw : E2 w fun _ j => g j) (he : E2 e d) :
    E2 (k0_pay6 (F := Ideal) x t w e) fun r j => d r j + rho f r * (y r j * g j) - f r j * (rho f r * rho f r * rho f r * dot f y g r) := by
  unfold k0_pay6
  rw [shapeCast_self]
  have h27 := E2.mul ht (E2.brow (m := 512) (h := broadcasts_S1x1024_S512x1024) (by decide) hw)
  have h5 := pay5_E2 hx
  have h32 := E2.div (E2.rowsum (h := reduces_S512x1024_S512) (hc := shapeCasts_S512_S512x1) (hφ := .inl rfl) (hacc := rfl) (h27.mul hx)) width_E2
  exact E2.sub (E2.add he (E2.mul (E2.bcol (h := broadcasts_S512x1_S512x1024) (by decide) h5) h27))
    (E2.mul hx (E2.bcol (h := broadcasts_S512x1_S512x1024) (by decide) (E2.mul (E2.mul (E2.mul h5 h5) h5) h32)))

theorem pay2_eq {a : Vec Ideal S1x512x2816 .bf16} {b : Vec Ideal S1024x2816 .bf16} : k0_pay2 (F := Ideal) a b = k0_pay1 a b := by
  unfold k0_pay2
  exact shapeCast_self _ _

theorem pay3_E2 {a : Vec Ideal S1x512x2816 .bf16} {b : Vec Ideal S1024x2816 .bf16} {s : Vec Ideal S512x1024 .f32} (hs : E2 s f) (hp : E2 (k0_pay1 (F := Ideal) a b) y) :
    E2 (k0_pay3 (F := Ideal) a b s) fun r j => f r j + y r j := by
  unfold k0_pay3
  dsimp only
  rw [shapeCast_self]
  exact E2.add hs hp

theorem pay4_E2 {p o : Vec Ideal S1x1024 .f32} (hp : E2 p f) (ho : E2 o y) : E2 (k0_pay4 (F := Ideal) p o) fun r j => y r j + f r j := by
  unfold k0_pay4
  rw [shapeCast_self]
  exact E2.add ho hp

end Payloads

end Cert.UpBackIdeal.Ub

end
-- ==== Proof.Cp.Out.lean ====
/- What the conv layer's in-projection's grid leaves, over arrays that functions of row and column give: the normalized rows tile by tile, and the products block by
   block. -/
module

public import proofs.«01_k».proof.Proof.Cp.Run
public import proofs.«01_k».proof.Proof.Ub.Pay

@[expose] public section

set_option maxRecDepth 16384

noncomputable section

namespace Cert.ConvProjIdeal.Cp

open Cert.ConvProjIdeal Cert.ConvProjIdeal.Gen
open Idealize.ShloMosaic Idealize.ShloMosaic.TcCoe Idealize.ShloMosaic.ValueIdx
open Cert.UpBackIdeal.Ub (E2 rho width_E2 eps_E2)
open scoped BigOperators

/-! The results, as functions. -/

section Results
variable (H W : ℕ → ℕ → EReal) (G : ℕ → EReal)

/-- The normalized rows, -/
def xn (r d : ℕ) : EReal := H r d * rho H r * G d

/-- and their products with the weights. -/
def up (r k : ℕ) : EReal := ∑ d ∈ Finset.range 1024, xn H G r d * W d k

end Results

/-! The payloads. -/

section Payloads
variable {f g : ℕ → ℕ → EReal} {w : ℕ → EReal}

theorem pay1_E2 {x : Vec Ideal S1024x1024 .f32} {y : Vec Ideal S1x1024 .f32} (hx : E2 x f) (hy : E2 y fun _ j => w j) :
    E2 (k0_pay1 (F := Ideal) x y) fun r j => f r j * rho f r * w j := by
  unfold k0_pay1
  dsimp only
  rw [shapeCast_self]
  have h := E2.rsqrt (E2.add (E2.div (E2.rowsum (h := reduces_S1024x1024_S1024) (hc := shapeCasts_S1024_S1024x1) (hφ := .inl rfl) (hacc := rfl) (hx.mul hx)) width_E2) eps_E2)
  exact E2.mul (E2.mul hx (E2.bcol (h := broadcasts_S1024x1_S1024x1024) (by decide) h)) (E2.brow (m := 1024) (h := broadcasts_S1x1024_S1024x1024) (by decide) hy)

theorem pay2_at {x : Vec Ideal S1024x1024 .bf16} {y : Vec Ideal S1024x512 .bf16} (hx : E2 x f) (hy : E2 y g) (u : Fin 1) (r : Fin 1024) (k : Fin 512) :
    (k0_pay2 (F := Ideal) x y : Vec Ideal S1x1024x512 .f32) (ix3 u r k) = ∑ d ∈ Finset.range 1024, f r.val d * g d k.val := by
  unfold k0_pay2
  rw [shapeCast_self, shapeCast_self]
  refine (shapeCast_ab_1ab_apply _ _ u r k).trans ?_
  refine (Ideal.matmul_plain_apply (M := 1024) (K := 1024) (N := 512) none x y _ r k).trans ?_
  rw [show (constant S1024x512 .f32 0x00000000#32 : FVec Ideal _ .f32) (ix2 r k) = (0 : EReal) from Ideal.ofBits_zero_f32, zero_add]
  refine Eq.trans ?_ (Finset.sum_range fun d => f r.val d * g d k.val).symm
  exact Finset.sum_congr rfl fun d _ => congrArg₂ (fun a b : EReal => a * b) (hx r d) (hy d k)

end Payloads

section Grid
variable (m : (ℓ : Loc nD τ sig) → Buf (Elt Ideal) ℓ) (c : Dev nD)

theorem idx0 : ∀ t : Fin grid0.N, win0_0.index t (0 : Fin 2) = t.val / 6 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = t.val % 6 := by decide +kernel
theorem idx3 : ∀ t : Fin grid0.N, win0_3.index t (0 : Fin 2) = t.val / 6 ∧ win0_3.index t (1 : Fin 2) = 0 := by decide +kernel
theorem idx4 : ∀ t : Fin grid0.N, win0_4.index t (0 : Fin 3) = t.val % 6 / 2 ∧ win0_4.index t (1 : Fin 3) = t.val / 6 ∧ win0_4.index t (2 : Fin 3) = t.val % 2 := by decide +kernel

variable {H W : ℕ → ℕ → EReal} {G : ℕ → EReal}

theorem iblk0_E2 (hH : E2 (V m c main_arg0 : Vec Ideal S8192x1024 .f32) H) (t : Fin cfg0.N) : E2 (iblk m c 0 t : Vec Ideal S1024x1024 .f32) fun r j => H (1024 * (t.val / 6) + r) j := fun r j => by
  obtain ⟨e0, e1⟩ := idx0 t
  have hN : t.val < 48 := t.isLt
  refine Eq.trans ?_ (hH ⟨1024 * (t.val / 6) + r.val, by omega⟩ j)
  refine congrArg (V m c main_arg0 : Vec Ideal S8192x1024 .f32) (funext fun a => Fin.ext ?_)
  match a with
  | ⟨0, _⟩ => show win0_0.index t (0 : Fin 2) * 1024 + 1 * r.val = 1024 * (t.val / 6) + r.val; omega
  | ⟨1, _⟩ => show win0_0.index t (1 : Fin 2) * 1024 + 1 * j.val = j.val; omega

theorem iblk1_E2 (hG : E2 (V m c main_v0 : Vec Ideal S1x1024 .f32) fun _ j => G j) (t : Fin cfg0.N) : E2 (iblk m c 1 t : Vec Ideal S1x1024 .f32) fun _ j => G j := fun r j => by
  obtain ⟨e0, e1⟩ := idx1 t
  refine Eq.trans ?_ (hG r j)
  refine congrArg (V m c main_v0 : Vec Ideal S1x1024 .f32) (funext fun a => Fin.ext ?_)
  match a with
  | ⟨0, _⟩ => show win0_1.index t (0 : Fin 2) * 1 + 1 * r.val = r.val; omega
  | ⟨1, _⟩ => show win0_1.index t (1 : Fin 2) * 1024 + 1 * j.val = j.val; omega

theorem iblk2_E2 (hW : E2 (V m c main_v1 : Vec Ideal S1024x3072 .bf16) W) (t : Fin cfg0.N) : E2 (iblk m c 2 t : Vec Ideal S1024x512 .bf16) fun d k => W d (512 * (t.val % 6) + k) := fun d k => by
  obtain ⟨e0, e1⟩ := idx2 t
  refine Eq.trans ?_ (hW d ⟨512 * (t.val % 6) + k.val, by omega⟩)
  refine congrArg (V m c main_v1 : Vec Ideal S1024x3072 .bf16) (funext fun a => Fin.ext ?_)
  match a with
  | ⟨0, _⟩ => show win0_2.index t (0 : Fin 2) * 1024 + 1 * d.val = d.val; omega
  | ⟨1, _⟩ => show win0_2.index t (1 : Fin 2) * 512 + 1 * k.val = 512 * (t.val % 6) + k.val; omega

theorem emb3 (t : Fin cfg0.N) (y : S1024x1024.Idx) (h0 : 1024 * (t.val / 6) + (y 0).val < 8192) :
    ((cfg0.win 3).blk t).view.emb y = (ix2 ⟨1024 * (t.val / 6) + (y 0).val, h0⟩ (y 1) : S8192x1024.Idx) := by
  obtain ⟨e0, e1⟩ := idx3 t
  funext a; apply Fin.ext
  match a with
  | ⟨0, _⟩ => show win0_3.index t (0 : Fin 2) * 1024 + 1 * (y 0).val = 1024 * (t.val / 6) + (y 0).val; omega
  | ⟨1, _⟩ => show win0_3.index t (1 : Fin 2) * 1024 + 1 * (y 1).val = (y 1).val; omega

theorem emb4 (t : Fin cfg0.N) (y : S1x1024x512.Idx) (h0 : t.val % 6 / 2 < 3) (h1 : 1024 * (t.val / 6) + (y 1).val < 8192) (h2 : 512 * (t.val % 2) + (y 2).val < 1024) :
    ((cfg0.win 4).blk t).view.emb y = (ix3 ⟨t.val % 6 / 2, h0⟩ ⟨1024 * (t.val / 6) + (y 1).val, h1⟩ ⟨512 * (t.val % 2) + (y 2).val, h2⟩ : S3x8192x1024.Idx) := by
  obtain ⟨e0, e1, e2⟩ := idx4 t
  have hy : (y 0).val < 1 := (y 0).isLt
  funext a; apply Fin.ext
  match a with
  | ⟨0, _⟩ => show win0_4.index t (0 : Fin 3) * 1 + 1 * (y 0).val = t.val % 6 / 2; omega
  | ⟨1, _⟩ => show win0_4.index t (1 : Fin 3) * 1024 + 1 * (y 1).val = 1024 * (t.val / 6) + (y 1).val; omega
  | ⟨2, _⟩ => show win0_4.index t (2 : Fin 3) * 512 + 1 * (y 2).val = 512 * (t.val % 2) + (y 2).val; omega

/-! The points. -/

/-- The arrays' elements are what the functions give. -/
structure Reads (H W : ℕ → ℕ → EReal) (G : ℕ → EReal) : Prop where
  H : E2 (V m c main_arg0 : Vec Ideal S8192x1024 .f32) H
  G : E2 (V m c main_v0 : Vec Ideal S1x1024 .f32) fun _ j => G j
  W : E2 (V m c main_v1 : Vec Ideal S1024x3072 .bf16) W

variable {m c} (R : Reads m c H W G)
include R

theorem rows_E2 (t : Fin cfg0.N) : E2 (rows m c t) fun r d => xn H G (1024 * (t.val / 6) + r) d := by
  unfold rows
  refine (pay1_E2 (iblk0_E2 m c R.H (base t)) (iblk1_E2 m c R.G (base t))).congr fun r _ d _ => ?_
  show H (1024 * (t.val / 6 * 6 / 6) + r) d * rho H (1024 * (t.val / 6 * 6 / 6) + r) * G d = _
  rw [show t.val / 6 * 6 / 6 = t.val / 6 by omega]
  rfl

theorem prods_at (t : Fin cfg0.N) (u : Fin 1) (r : Fin 1024) (k : Fin 512) : prods m c t (ix3 u r k) = up H W G (1024 * (t.val / 6) + r.val) (512 * (t.val % 6) + k.val) := by
  unfold prods
  exact pay2_at (rows_E2 R t) (iblk2_E2 m c R.W t) u r k

/-! The arrays after the run. -/

theorem final3 (i : S8192x1024.Idx) : ((dats m 0 c).arrAt 3 cfg0.N : Vec Ideal S8192x1024 .bf16) i = xn H G (i 0).val (i 1).val := by
  refine (dats m 0 c).arrAt_forall_of_cover 3 (fun (i : S8192x1024.Idx) (x : EReal) => x = xn H G (i 0).val (i 1).val) (fun t hf y => ?_) (fun i => ?_) i
  · change S1024x1024.Idx at y
    have hN : t.val < 48 := t.isLt
    have h0 : (y 0).val < 1024 := (y 0).isLt
    rw [emb3 t y (by omega)]
    show (dats m 0 c).after 3 t y = _
    rw [after0_3]
    exact (congrArg (rows m c t) (eq_ix2 y)).trans (rows_E2 R t (y 0) (y 1))
  · have h0 : (i 0).val < 8192 := (i 0).isLt
    have hN : 6 * ((i 0).val / 1024) + 5 < cfg0.N := by show _ < 48; omega
    refine ⟨⟨6 * ((i 0).val / 1024) + 5, hN⟩, (flush0_3 _).mpr (by show (6 * ((i 0).val / 1024) + 5) % 6 = 5; omega), ?_⟩
    have hm := ((cfg0.win 3).blk ⟨6 * ((i 0).val / 1024) + 5, hN⟩).view.emb_mem_set (ix2 ⟨(i 0).val % 1024, by omega⟩ (i 1) : S1024x1024.Idx)
    rw [emb3 _ _ (by show 1024 * ((6 * ((i 0).val / 1024) + 5) / 6) + (i 0).val % 1024 < 8192; omega)] at hm
    refine (congrArg (· ∈ _) ?_).mp hm
    funext x; apply Fin.ext
    match x with
    | ⟨0, _⟩ => show 1024 * ((6 * ((i 0).val / 1024) + 5) / 6) + (i 0).val % 1024 = (i 0).val; omega
    | ⟨1, _⟩ => rfl

theorem final4 (i : S3x8192x1024.Idx) : ((dats m 0 c).arrAt 4 cfg0.N : Vec Ideal S3x8192x1024 .f32) i = up H W G (i 1).val (1024 * (i 0).val + (i 2).val) := by
  refine (dats m 0 c).arrAt_forall_of_cover 4 (fun (i : S3x8192x1024.Idx) (x : EReal) => x = up H W G (i 1).val (1024 * (i 0).val + (i 2).val)) (fun t hf y => ?_) (fun i => ?_) i
  · change S1x1024x512.Idx at y
    have hN : t.val < 48 := t.isLt
    have h1 : (y 1).val < 1024 := (y 1).isLt
    have h2 : (y 2).val < 512 := (y 2).isLt
    rw [emb4 t y (by omega) (by omega) (by omega)]
    show (dats m 0 c).after 4 t y = _
    rw [after0_4]
    refine (congrArg (prods m c t) (eq_ix3 y)).trans ((prods_at R t (y 0) (y 1) (y 2)).trans ?_)
    show _ = up H W G (1024 * (t.val / 6) + (y 1).val) (1024 * (t.val % 6 / 2) + (512 * (t.val % 2) + (y 2).val))
    rw [show 1024 * (t.val % 6 / 2) + (512 * (t.val % 2) + (y 2).val) = 512 * (t.val % 6) + (y 2).val by omega]
  · have h0 : (i 0).val < 3 := (i 0).isLt
    have h1 : (i 1).val < 8192 := (i 1).isLt
    have h2 : (i 2).val < 1024 := (i 2).isLt
    have hN : 6 * ((i 1).val / 1024) + 2 * (i 0).val + (i 2).val / 512 < cfg0.N := by show _ < 48; omega
    refine ⟨⟨6 * ((i 1).val / 1024) + 2 * (i 0).val + (i 2).val / 512, hN⟩, flush0_4 _, ?_⟩
    have hm := ((cfg0.win 4).blk ⟨6 * ((i 1).val / 1024) + 2 * (i 0).val + (i 2).val / 512, hN⟩).view.emb_mem_set
      (ix3 0 ⟨(i 1).val % 1024, by omega⟩ ⟨(i 2).val % 512, by omega⟩ : S1x1024x512.Idx)
    rw [emb4 _ _ (by show (6 * ((i 1).val / 1024) + 2 * (i 0).val + (i 2).val / 512) % 6 / 2 < 3; omega)
      (by show 1024 * ((6 * ((i 1).val / 1024) + 2 * (i 0).val + (i 2).val / 512) / 6) + (i 1).val % 1024 < 8192; omega)
      (by show 512 * ((6 * ((i 1).val / 1024) + 2 * (i 0).val + (i 2).val / 512) % 2) + (i 2).val % 512 < 1024; omega)] at hm
    refine (congrArg (· ∈ _) ?_).mp hm
    funext x; apply Fin.ext
    match x with
    | ⟨0, _⟩ => show (6 * ((i 1).val / 1024) + 2 * (i 0).val + (i 2).val / 512) % 6 / 2 = (i 0).val; omega
    | ⟨1, _⟩ => show 1024 * ((6 * ((i 1).val / 1024) + 2 * (i 0).val + (i 2).val / 512) / 6) + (i 1).val % 1024 = (i 1).val; omega
    | ⟨2, _⟩ => show 512 * ((6 * ((i 1).val / 1024) + 2 * (i 0).val + (i 2).val / 512) % 2) + (i 2).val % 512 = (i 2).val; omega

end Grid

end Cert.ConvProjIdeal.Cp

end
-- ==== Proof.Ub.Cases.lean ====
/- What each of the backward kernel's cases leaves in its outputs and its scratch. -/
module

public import proofs.«01_k».proof.Proof.Gen.UpBackIdeal.Value
public import Idealize.ShloMosaic.Lib.ValueLayout

@[expose] public section

set_option maxRecDepth 16384

noncomputable section

namespace Cert.UpBackIdeal.Ub

open Cert.UpBackIdeal Cert.UpBackIdeal.Gen
open Idealize.ShloMosaic Idealize.ShloMosaic.TcCoe Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1x512x2816 .bf16) (h2 : a2.IsWhole) (a3 : Memref sig .tc .vmem S1024x2816 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S1x512x2816 .bf16) (x1 : Vec F S1024x2816 .bf16) (x2 : Vec F S512x1024 .f32) (x3 : Vec F S1x1024 .f32) (x4 : Vec F S512x1024 .f32) (o6 : Vec F S1x1024 .f32) (s0 : Vec F S512x1024 .f32)

theorem scr_A (hc0 : cond0_0 i) (hc1 : ¬cond0_1 i) (hc2 : ¬cond0_2 i) :
    sout0_A_0 c i a2 h2 a3 h3 a4 h4 a5 h5 a6 h6 a7 h7 a8 h8 a9 h9 hc0 hc1 hc2 x0 x1 x2 x3 x4 = k0_pay2 x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  rw [View.canon_unit_zero hz2]
  simp only [View.readAt_eq_ld, h2.read_unread, h3.read_unread, View.ld_unit_zero (S := S1x512x2816) hz3, View.ld_unit_zero (S := S1024x2816) hz2]

theorem out_B5 (hc0 : ¬cond0_0 i) (hc1 : cond0_1 i) (hc2 : cond0_2 i) (hc3 : cond0_3 i) (hc4 : ¬cond0_4 i) :
    out0_B_5 c i a2 h2 a3 h3 a4 h4 a5 h5 a6 h6 a7 h7 a8 h8 a9 h9 hc0 hc1 hc2 hc3 hc4 x0 x1 x2 x3 x4 s0 = k0_pay6 x2 (k0_pay3 x0 x1 s0) x3 x4 := by
  unfold out0_B_5
  rw [View.read_writes_eq_canon _ _ _ (cover0_B_5 c i a2 h2 a3 h3 a4 h4 a5 h5 a6 h6 a7 h7 a8 h8 a9 h9 hc0 hc1 hc2 hc3 hc4 x0 x1 x2 x3 x4 s0)]
  unfold kernelRun0_B
  dsimp only
  sl_unfold_words
  rw [View.canon_unit_zero hz2]
  simp only [View.readAt_eq_ld, h2.read_unread, h3.read_unread, h4.read_unread, h5.read_unread, h6.read_unread, h9.read_unread, View.ld_unit_zero (S := S1x512x2816) hz3,
    View.ld_unit_zero (S := S1024x2816) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_B6 (hc0 : ¬cond0_0 i) (hc1 : cond0_1 i) (hc2 : cond0_2 i) (hc3 : cond0_3 i) (hc4 : ¬cond0_4 i) :
    out0_B_6 c i a2 h2 a3 h3 a4 h4 a5 h5 a6 h6 a7 h7 a8 h8 a9 h9 hc0 hc1 hc2 hc3 hc4 x0 x1 x2 x3 x4 s0 = k0_pay7 x2 (k0_pay3 x0 x1 s0) := by
  unfold out0_B_6
  rw [View.read_writes_eq_canon _ _ _ (cover0_B_6 c i a2 h2 a3 h3 a4 h4 a5 h5 a6 h6 a7 h7 a8 h8 a9 h9 hc0 hc1 hc2 hc3 hc4 x0 x1 x2 x3 x4 s0)]
  unfold kernelRun0_B
  dsimp only
  sl_unfold_words
  rw [View.canon_unit_zero hz2]
  simp only [View.readAt_eq_ld, h2.read_unread, h3.read_unread, h4.read_unread, h5.read_unread, h6.read_unread, h9.read_unread, View.ld_unit_zero (S := S1x512x2816) hz3,
    View.ld_unit_zero (S := S1024x2816) hz2, View.ld_unit_zero (S := S512x1024) hz2, View.ld_unit_zero (S := S1x1024) hz2]
  exact congrArg (k0_pay7 x2) (View.readCov_unit_zero (Val := Elt F) (S := S512x1024) a9.view hz2 _ _)

theorem out_C5 (hc0 : ¬cond0_0 i) (hc1 : cond0_1 i) (hc2 : cond0_2 i) (hc3 : ¬cond0_3 i) (hc4 : cond0_4 i) :
    out0_C_5 c i a2 h2 a3 h3 a4 h4 a5 h5 a6 h6 a7 h7 a8 h8 a9 h9 hc0 hc1 hc2 hc3 hc4 x0 x1 x2 x3 x4 o6 s0 = k0_pay6 x2 (k0_pay3 x0 x1 s0) x3 x4 := by
  unfold out0_C_5
  rw [View.read_writes_eq_canon _ _ _ (cover0_C_5 c i a2 h2 a3 h3 a4 h4 a5 h5 a6 h6 a7 h7 a8 h8 a9 h9 hc0 hc1 hc2 hc3 hc4 x0 x1 x2 x3 x4 o6 s0)]
  unfold kernelRun0_C
  dsimp only
  sl_unfold_words
  rw [View.canon_unit_zero hz2]
  simp only [View.readAt_eq_ld, h2.read_unread, h3.read_unread, h4.read_unread, h5.read_unread, h6.read_unread, h8.read_unread, h9.read_unread,
    View.ld_unit_zero (S := S1x512x2816) hz3, View.ld_unit_zero (S := S1024x2816) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_C6 (hc0 : ¬cond0_0 i) (hc1 : cond0_1 i) (hc2 : cond0_2 i) (hc3 : ¬cond0_3 i) (hc4 : cond0_4 i) :
    out0_C_6 c i a2 h2 a3 h3 a4 h4 a5 h5 a6 h6 a7 h7 a8 h8 a9 h9 hc0 hc1 hc2 hc3 hc4 x0 x1 x2 x3 x4 o6 s0 = k0_pay4 (k0_pay7 x2 (k0_pay3 x0 x1 s0)) o6 := by
  unfold out0_C_6
  rw [View.read_writes_eq_canon _ _ _ (cover0_C_6 c i a2 h2 a3 h3 a4 h4 a5 h5 a6 h6 a7 h7 a8 h8 a9 h9 hc0 hc1 hc2 hc3 hc4 x0 x1 x2 x3 x4 o6 s0)]
  unfold kernelRun0_C
  dsimp only
  sl_unfold_words
  rw [View.canon_unit_zero hz2]
  simp only [View.readAt_eq_ld, h2.read_unread, h3.read_unread, h4.read_unread, h5.read_unread, h6.read_unread, h8.read_unread, h9.read_unread,
    View.ld_unit_zero (S := S1x512x2816) hz3, View.ld_unit_zero (S := S1024x2816) hz2, View.ld_unit_zero (S := S512x1024) hz2, View.ld_unit_zero (S := S1x1024) hz2]
  exact congrArg (fun z => k0_pay4 (k0_pay7 x2 z) o6) (View.readCov_unit_zero (Val := Elt F) (S := S512x1024) a9.view hz2 _ _)

end Cert.UpBackIdeal.Ub

end
-- ==== Proof.Ub.Out.lean ====
/- What the backward kernel's grid leaves, over arrays that functions of row and column give: the rows' gradient tile by tile, and the scale's
   gradient summed over the tiles. -/
module

public import proofs.«01_k».proof.Proof.Ub.Pay
public import proofs.«01_k».proof.Proof.Ub.Cases

@[expose] public section

set_option maxRecDepth 16384

noncomputable section

namespace Cert.UpBackIdeal.Ub

open Cert.UpBackIdeal Cert.UpBackIdeal.Gen
open Idealize.ShloMosaic Idealize.ShloMosaic.TcCoe Idealize.ShloMosaic.ValueIdx
open scoped BigOperators

/-! The results, as functions. -/

section Results
variable (H C W D : ℕ → ℕ → EReal) (G : ℕ → EReal)

/-- The products of one half of the columns, -/
def prod (s r j : ℕ) : EReal := ∑ k ∈ Finset.range 2816, C r (2816 * s + k) * W j (2816 * s + k)

/-- the gradient of the scaled rows, -/
def dy (r j : ℕ) : EReal := prod C W 0 r j + prod C W 1 r j

/-- the gradient of the rows, -/
def dh (r j : ℕ) : EReal := D r j + rho H r * (dy C W r j * G j) - H r j * (rho H r * rho H r * rho H r * dot H (dy C W) G r)

/-- and one row's share of the scale's gradient. -/
def dg (j r : ℕ) : EReal := dy C W r j * H r j * rho H r

theorem sum_tiles (f : ℕ → EReal) (n : ℕ) : ∑ s ∈ Finset.range n, ∑ k ∈ Finset.range 512, f (512 * s + k) = ∑ r ∈ Finset.range (512 * n), f r := by
  induction n with
  | zero => rfl
  | succ n ih => rw [Finset.sum_range_succ, ih, Nat.mul_succ, Finset.sum_range_add]

end Results

section Grid
variable (m : (ℓ : Loc nD τ sig) → Buf (Elt Ideal) ℓ) (c : Dev nD)

theorem idx0 : ∀ t : Fin grid0.N, win0_0.index t (0 : Fin 3) = t.val % 2 ∧ win0_0.index t (1 : Fin 3) = t.val / 2 ∧ win0_0.index t (2 : Fin 3) = 0 := by decide +kernel
theorem idx1 : ∀ t : Fin grid0.N, win0_1.index t (0 : Fin 2) = 0 ∧ win0_1.index t (1 : Fin 2) = t.val % 2 := by decide +kernel
theorem idx2 : ∀ t : Fin grid0.N, win0_2.index t (0 : Fin 2) = t.val / 2 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val / 2 ∧ win0_4.index t (1 : Fin 2) = 0 := by decide +kernel
theorem idx5 : ∀ t : Fin grid0.N, win0_5.index t (0 : Fin 2) = t.val / 2 ∧ win0_5.index t (1 : Fin 2) = 0 := by decide +kernel
theorem idx6 : ∀ t : Fin grid0.N, win0_6.index t (0 : Fin 2) = 0 ∧ win0_6.index t (1 : Fin 2) = 0 := by decide +kernel

variable {H C W D : ℕ → ℕ → EReal} {G : ℕ → EReal}

theorem iblk0_at (hC : ∀ (s : Fin 2) (r : Fin 8192) (k : Fin 2816), (V m c main_v5 : Vec Ideal S2x8192x2816 .bf16) (ix3 s r k) = C r.val (2816 * s.val + k.val))
    (t : Fin cfg0.N) (r : Fin 512) (k : Fin 2816) : (iblk m c 0 t : Vec Ideal S1x512x2816 .bf16) (ix3 0 r k) = C (512 * (t.val / 2) + r.val) (2816 * (t.val % 2) + k.val) := by
  obtain ⟨e0, e1, e2⟩ := idx0 t
  have hN : t.val < 32 := t.isLt
  refine Eq.trans ?_ (hC ⟨t.val % 2, by omega⟩ ⟨512 * (t.val / 2) + r.val, by omega⟩ k)
  refine congrArg (V m c main_v5 : Vec Ideal S2x8192x2816 .bf16) (funext fun a => Fin.ext ?_)
  match a with
  | ⟨0, _⟩ => show win0_0.index t (0 : Fin 3) * 1 + 1 * 0 = t.val % 2; omega
  | ⟨1, _⟩ => show win0_0.index t (1 : Fin 3) * 512 + 1 * r.val = 512 * (t.val / 2) + r.val; omega
  | ⟨2, _⟩ => show win0_0.index t (2 : Fin 3) * 2816 + 1 * k.val = k.val; omega

theorem iblk1_E2 (hW : E2 (V m c main_v6 : Vec Ideal S1024x5632 .bf16) W) (t : Fin cfg0.N) : E2 (iblk m c 1 t : Vec Ideal S1024x2816 .bf16) fun j k => W j (2816 * (t.val % 2) + k) := fun j k => by
  obtain ⟨e0, e1⟩ := idx1 t
  refine Eq.trans ?_ (hW j ⟨2816 * (t.val % 2) + k.val, by omega⟩)
  refine congrArg (V m c main_v6 : Vec Ideal S1024x5632 .bf16) (funext fun a => Fin.ext ?_)
  match a with
  | ⟨0, _⟩ => show win0_1.index t (0 : Fin 2) * 1024 + 1 * j.val = j.val; omega
  | ⟨1, _⟩ => show win0_1.index t (1 : Fin 2) * 2816 + 1 * k.val = 2816 * (t.val % 2) + k.val; omega

theorem iblk2_E2 (hH : E2 (V m c main_arg0 : Vec Ideal S8192x1024 .f32) H) (t : Fin cfg0.N) : E2 (iblk m c 2 t : Vec Ideal S512x1024 .f32) fun r j => H (512 * (t.val / 2) + r) j := fun r j => by
  obtain ⟨e0, e1⟩ := idx2 t
  have hN : t.val < 32 := t.isLt
  refine Eq.trans ?_ (hH ⟨512 * (t.val / 2) + r.val, by omega⟩ j)
  refine congrArg (V m c main_arg0 : Vec Ideal S8192x1024 .f32) (funext fun a => Fin.ext ?_)
  match a with
  | ⟨0, _⟩ => show win0_2.index t (0 : Fin 2) * 512 + 1 * r.val = 512 * (t.val / 2) + r.val; omega
  | ⟨1, _⟩ => show win0_2.index t (1 : Fin 2) * 1024 + 1 * j.val = j.val; omega

theorem iblk3_E2 (hG : E2 (V m c main_v7 : Vec Ideal S1x1024 .f32) fun _ j => G j) (t : Fin cfg0.N) : E2 (iblk m c 3 t : Vec Ideal S1x1024 .f32) fun _ j => G j := fun r j => by
  obtain ⟨e0, e1⟩ := idx3 t
  refine Eq.trans ?_ (hG r j)
  refine congrArg (V m c main_v7 : Vec Ideal S1x1024 .f32) (funext fun a => Fin.ext ?_)
  match a with
  | ⟨0, _⟩ => show win0_3.index t (0 : Fin 2) * 1 + 1 * r.val = r.val; omega
  | ⟨1, _⟩ => show win0_3.index t (1 : Fin 2) * 1024 + 1 * j.val = j.val; omega

theorem iblk4_E2 (hD : E2 (V m c main_arg4 : Vec Ideal S8192x1024 .f32) D) (t : Fin cfg0.N) : E2 (iblk m c 4 t : Vec Ideal S512x1024 .f32) fun r j => D (512 * (t.val / 2) + r) j := fun r j => by
  obtain ⟨e0, e1⟩ := idx4 t
  have hN : t.val < 32 := t.isLt
  refine Eq.trans ?_ (hD ⟨512 * (t.val / 2) + r.val, by omega⟩ j)
  refine congrArg (V m c main_arg4 : Vec Ideal S8192x1024 .f32) (funext fun a => Fin.ext ?_)
  match a with
  | ⟨0, _⟩ => show win0_4.index t (0 : Fin 2) * 512 + 1 * r.val = 512 * (t.val / 2) + r.val; omega
  | ⟨1, _⟩ => show win0_4.index t (1 : Fin 2) * 1024 + 1 * j.val = j.val; omega

theorem emb5 (t : Fin cfg0.N) (y : S512x1024.Idx) (h0 : 512 * (t.val / 2) + (y 0).val < 8192) :
    ((cfg0.win 5).blk t).view.emb y = (ix2 ⟨512 * (t.val / 2) + (y 0).val, h0⟩ (y 1) : S8192x1024.Idx) := by
  obtain ⟨e0, e1⟩ := idx5 t
  funext a; apply Fin.ext
  match a with
  | ⟨0, _⟩ => show win0_5.index t (0 : Fin 2) * 512 + 1 * (y 0).val = 512 * (t.val / 2) + (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-! The points. -/

/-- The arrays' elements are what the functions give. -/
structure Reads (H C W D : ℕ → ℕ → EReal) (G : ℕ → EReal) : Prop where
  C : ∀ (s : Fin 2) (r : Fin 8192) (k : Fin 2816), (V m c main_v5 : Vec Ideal S2x8192x2816 .bf16) (ix3 s r k) = C r.val (2816 * s.val + k.val)
  W : E2 (V m c main_v6 : Vec Ideal S1024x5632 .bf16) W
  H : E2 (V m c main_arg0 : Vec Ideal S8192x1024 .f32) H
  G : E2 (V m c main_v7 : Vec Ideal S1x1024 .f32) fun _ j => G j
  D : E2 (V m c main_arg4 : Vec Ideal S8192x1024 .f32) D

variable {m c} (R : Reads m c H C W D G)
include R

theorem pay1_at (t : Fin cfg0.N) : E2 (k0_pay1 (F := Ideal) (iblk m c 0 t) (iblk m c 1 t)) fun r j => prod C W (t.val % 2) (512 * (t.val / 2) + r) j :=
  pay1_E2 (A := fun r k => C (512 * (t.val / 2) + r) (2816 * (t.val % 2) + k)) (iblk0_at m c R.C t) (iblk1_E2 m c R.W t)

/-- An even point leaves the first half's products in the scratch; -/
theorem scr (n : ℕ) (h : n < cfg0.N) (h0 : n % 2 = 0) : E2 (outsAt0 m c n h).2.2 fun r j => prod C W 0 (512 * (n / 2) + r) j := by
  rw [outsAt0_A m c ⟨n, h⟩ h0 (by show ¬ n % 2 = 1; omega) (by show ¬ n % 2 = 1; omega)]
  dsimp only
  rw [scr_A, pay2_eq]
  refine (pay1_at R ⟨n, h⟩).congr fun r _ j _ => ?_
  show prod C W (n % 2) _ _ = _
  rw [h0]

/-- at an odd point they make the whole product. -/
theorem pay3_at (n : ℕ) (h : n + 1 < cfg0.N) (h1 : (n + 1) % 2 = 1) :
    E2 (k0_pay3 (F := Ideal) (iblk m c 0 ⟨n + 1, h⟩) (iblk m c 1 ⟨n + 1, h⟩) (outsAt0 m c n (Nat.lt_of_succ_lt h)).2.2) fun r j => dy C W (512 * ((n + 1) / 2) + r) j := by
  refine (pay3_E2 (scr R n (Nat.lt_of_succ_lt h) (by omega)) (pay1_at R ⟨n + 1, h⟩)).congr fun r _ j _ => ?_
  show prod C W 0 (512 * (n / 2) + r) j + prod C W ((n + 1) % 2) (512 * ((n + 1) / 2) + r) j = _
  rw [h1, show n / 2 = (n + 1) / 2 by omega]
  rfl

theorem row_at (n : ℕ) (h : n + 1 < cfg0.N) (h1 : (n + 1) % 2 = 1) :
    E2 (k0_pay6 (F := Ideal) (iblk m c 2 ⟨n + 1, h⟩) (k0_pay3 (F := Ideal) (iblk m c 0 ⟨n + 1, h⟩) (iblk m c 1 ⟨n + 1, h⟩) (outsAt0 m c n (Nat.lt_of_succ_lt h)).2.2) (iblk m c 3 ⟨n + 1, h⟩)
      (iblk m c 4 ⟨n + 1, h⟩)) fun r j => dh H C W D G (512 * ((n + 1) / 2) + r) j :=
  pay6_E2 (iblk2_E2 m c R.H ⟨n + 1, h⟩) (pay3_at R n h h1) (iblk3_E2 m c R.G ⟨n + 1, h⟩) (iblk4_E2 m c R.D ⟨n + 1, h⟩)

theorem col_at (n : ℕ) (h : n + 1 < cfg0.N) (h1 : (n + 1) % 2 = 1) :
    E2 (k0_pay7 (F := Ideal) (iblk m c 2 ⟨n + 1, h⟩) (k0_pay3 (F := Ideal) (iblk m c 0 ⟨n + 1, h⟩) (iblk m c 1 ⟨n + 1, h⟩) (outsAt0 m c n (Nat.lt_of_succ_lt h)).2.2))
      fun _ j => ∑ r ∈ Finset.range 512, dg H C W j (512 * ((n + 1) / 2) + r) :=
  pay7_E2 (iblk2_E2 m c R.H ⟨n + 1, h⟩) (pay3_at R n h h1)

/-- The gradient of the rows, at an odd point. -/
theorem out5 : ∀ (n : ℕ) (h : n < cfg0.N) (_ : n % 2 = 1), E2 (outsAt0 m c n h).1 fun r j => dh H C W D G (512 * (n / 2) + r) j
  | 0, _, h1 => absurd h1 (by decide)
  | n + 1, h, h1 => by
    by_cases h3 : n + 1 < 2
    · rw [outsAt0_B m c ⟨n + 1, h⟩ (by show ¬ (n + 1) % 2 = 0; omega) h1 h1 h3 (by show ¬ 2 ≤ n + 1; omega)]
      dsimp only
      rw [out_B5]
      exact row_at R n h h1
    · rw [outsAt0_C m c ⟨n + 1, h⟩ (by show ¬ (n + 1) % 2 = 0; omega) h1 h1 h3 (by show 2 ≤ n + 1; omega)]
      dsimp only
      rw [out_C5]
      exact row_at R n h h1

/-- The gradient of the scale, after the tiles so far. -/
theorem out6 : ∀ (n : ℕ) (h : n < cfg0.N) (_ : 1 ≤ n), E2 (outsAt0 m c n h).2.1 fun _ j => ∑ i ∈ Finset.range ((n + 1) / 2), ∑ r ∈ Finset.range 512, dg H C W j (512 * i + r)
  | 0, _, h1 => absurd h1 (by decide)
  | n + 1, h, _ => by
    by_cases h0 : (n + 1) % 2 = 0
    · rw [outsAt0_A m c ⟨n + 1, h⟩ h0 (by show ¬ (n + 1) % 2 = 1; omega) (by show ¬ (n + 1) % 2 = 1; omega)]
      dsimp only
      refine (out6 n (Nat.lt_of_succ_lt h) (by omega)).congr fun _ _ j _ => ?_
      rw [show (n + 1 + 1) / 2 = (n + 1) / 2 by omega]
    · have h1 : (n + 1) % 2 = 1 := by omega
      have e : (n + 1 + 1) / 2 = (n + 1) / 2 + 1 := by omega
      by_cases h3 : n + 1 < 2
      · rw [outsAt0_B m c ⟨n + 1, h⟩ h0 h1 h1 h3 (by show ¬ 2 ≤ n + 1; omega)]
        dsimp only
        rw [out_B6]
        refine (col_at R n h h1).congr fun _ _ j _ => ?_
        rw [e, show (n + 1) / 2 = 0 by omega]
        exact (Finset.sum_range_one (fun i => ∑ r ∈ Finset.range 512, dg H C W j (512 * i + r))).symm
      · rw [outsAt0_C m c ⟨n + 1, h⟩ h0 h1 h1 h3 (by show 2 ≤ n + 1; omega)]
        dsimp only
        rw [out_C6]
        refine (pay4_E2 (col_at R n h h1) (out6 n (Nat.lt_of_succ_lt h) (by omega))).congr fun _ _ j _ => ?_
        rw [e]
        exact (Finset.sum_range_succ (fun i => ∑ r ∈ Finset.range 512, dg H C W j (512 * i + r)) ((n + 1) / 2)).symm

/-! The arrays after the run. -/

theorem final5 (i : S8192x1024.Idx) : ((dats m 0 c).arrAt 5 cfg0.N : Vec Ideal S8192x1024 .f32) i = dh H C W D G (i 0).val (i 1).val := by
  refine (dats m 0 c).arrAt_forall_of_cover 5 (fun (i : S8192x1024.Idx) (x : EReal) => x = dh H C W D G (i 0).val (i 1).val) (fun t hf y => ?_) (fun i => ?_) i
  · change S512x1024.Idx at y
    have hN : t.val < 32 := t.isLt
    have h0 : (y 0).val < 512 := (y 0).isLt
    rw [emb5 t y (by omega)]
    show (dats m 0 c).after 5 t y = _
    rw [after0_5]
    exact (congrArg (outsAt0 m c t.val t.isLt).1 (eq_ix2 y)).trans (out5 R t.val t.isLt ((flush0_5 t).mp hf) (y 0) (y 1))
  · have h0 : (i 0).val < 8192 := (i 0).isLt
    have hN : 2 * ((i 0).val / 512) + 1 < cfg0.N := by show _ < 32; omega
    refine ⟨⟨2 * ((i 0).val / 512) + 1, hN⟩, (flush0_5 _).mpr (by show (2 * ((i 0).val / 512) + 1) % 2 = 1; omega), ?_⟩
    have hm := ((cfg0.win 5).blk ⟨2 * ((i 0).val / 512) + 1, hN⟩).view.emb_mem_set (ix2 ⟨(i 0).val % 512, by omega⟩ (i 1) : S512x1024.Idx)
    rw [emb5 _ _ (by show 512 * ((2 * ((i 0).val / 512) + 1) / 2) + (i 0).val % 512 < 8192; omega)] at hm
    refine (congrArg (· ∈ _) ?_).mp hm
    funext x; apply Fin.ext
    match x with
    | ⟨0, _⟩ => show 512 * ((2 * ((i 0).val / 512) + 1) / 2) + (i 0).val % 512 = (i 0).val; omega
    | ⟨1, _⟩ => rfl

theorem final6 (i : S1x1024.Idx) : ((dats m 0 c).arrAt 6 cfg0.N : Vec Ideal S1x1024 .f32) i = ∑ r ∈ Finset.range 8192, dg H C W (i 1).val r := by
  refine (dats m 0 c).arrAt_forall_of_cover 6 (fun (i : S1x1024.Idx) (x : EReal) => x = ∑ r ∈ Finset.range 8192, dg H C W (i 1).val r) (fun t hf y => ?_) (fun i => ?_) i
  · change S1x1024.Idx at y
    have hN : t.val < 32 := t.isLt
    have h3 : t.val % 32 = 31 := (flush0_6 t).mp hf
    rw [emb6 t y]
    show (dats m 0 c).after 6 t y = _
    rw [after0_6]
    refine (congrArg (outsAt0 m c t.val t.isLt).2.1 (eq_ix2 y)).trans ((out6 R t.val t.isLt (by omega) (y 0) (y 1)).trans ?_)
    refine ((sum_tiles (fun r => dg H C W (y 1).val r) ((t.val + 1) / 2)).trans ?_)
    rw [show 512 * ((t.val + 1) / 2) = 8192 by omega]
  · refine ⟨⟨31, by decide⟩, (flush0_6 _).mpr rfl, ?_⟩
    have hm := ((cfg0.win 6).blk ⟨31, by decide⟩).view.emb_mem_set (i : S1x1024.Idx)
    rw [emb6] at hm
    exact hm

end Grid

end Cert.UpBackIdeal.Ub

end
-- ==== Proof.Ub.Ref.lean ====
/- The reference's two results, over arrays that functions of row and column give. -/
module

public import proofs.«01_k».proof.Proof.Ub.Out
public import proofs.«01_k».proof.Proof.Gen.UpBackReferenceIdeal.Read

@[expose] public section

set_option maxRecDepth 16384

noncomputable section

namespace Cert.UpBackReferenceIdeal.Ub

open Cert.UpBackReferenceIdeal Cert.UpBackReferenceIdeal.Read
open Idealize.ShloMosaic
open Cert.UpBackIdeal.Ub (eps width ms rho dot prod dy dh dg)
open scoped BigOperators

/-! The literals. -/

theorem width_eq : width = ((1024 : ℝ) : EReal) := by
  unfold width
  simp [Ideal.ofBits, Ideal.ieee, -EReal.coe_mul]; norm_num

theorem eps_eq : ∃ e : ℝ, 0 < e ∧ eps = (e : EReal) := by
  refine ⟨8796093 / 2 ^ 43, by norm_num, ?_⟩
  unfold eps
  simp [Ideal.ofBits, Ideal.ieee, -EReal.coe_mul]; norm_num

/-- The factor of the root's derivative. -/
def half : EReal := Ideal.ofBits .f32 0xBF000000#32

theorem half_eq : half = ((-(1 / 2) : ℝ) : EReal) := by
  unfold half
  simp [Ideal.ofBits, Ideal.ieee, -EReal.coe_mul, -EReal.coe_neg]; norm_num

/-! The root's derivative. -/

theorem square_nonneg (x : EReal) : 0 ≤ x * x := by
  induction x using EReal.rec with
  | bot => simp
  | top => simp
  | coe r => rw [← EReal.coe_mul]; exact EReal.coe_nonneg.2 (mul_self_nonneg r)

/-- What stands under the root is a positive number or infinite. -/
theorem under (f : ℕ → ℕ → EReal) (r : ℕ) : ms f r + eps = ⊤ ∨ ∃ x : ℝ, 0 < x ∧ ms f r + eps = (x : EReal) := by
  obtain ⟨e, he, h⟩ := eps_eq
  have hm : 0 ≤ ms f r := by
    unfold ms
    rw [width_eq, Ideal.div_coe (by norm_num)]
    exact mul_nonneg (Finset.sum_nonneg fun d _ => square_nonneg (f r d)) (EReal.coe_nonneg.2 (by norm_num))
  rw [h]
  generalize ms f r = y at hm
  induction y using EReal.rec with
  | bot => simp at hm
  | top => exact .inl (EReal.top_add_coe e)
  | coe x => exact .inr ⟨x + e, add_pos_of_nonneg_of_pos (EReal.coe_nonneg.1 hm) he, (EReal.coe_add x e).symm⟩

theorem twice (u : EReal) {a : ℝ} (ha : a < 0) : u * (a : EReal) + u * (a : EReal) = -(u * ((-(2 * a) : ℝ) : EReal)) := by
  have hb : 0 < -(2 * a) := by linarith
  induction u using EReal.rec with
  | bot => rw [EReal.bot_mul_coe_of_neg ha, EReal.bot_mul_coe_of_pos hb]; rfl
  | top => rw [EReal.top_mul_coe_of_neg ha, EReal.top_mul_coe_of_pos hb]; rfl
  | coe r =>
    rw [← EReal.coe_mul, ← EReal.coe_mul, ← EReal.coe_add, ← EReal.coe_neg]
    exact congrArg Real.toEReal (by ring)

/-- The two ways of writing the gradient through the root: the derivative's cube, and the root over what stands under it. -/
theorem through (A K x p : EReal) (hp : p = ⊤ ∨ ∃ q : ℝ, 0 < q ∧ p = (q : EReal)) :
    A + x * Ideal.div (K * (half * Ideal.div (Ideal.rsqrt p) p)) width + Ideal.div (K * (half * Ideal.div (Ideal.rsqrt p) p)) width * x
      = A - x * (Ideal.rsqrt p * Ideal.rsqrt p * Ideal.rsqrt p * Ideal.div K width) := by
  rw [half_eq, width_eq, Ideal.div_coe (by norm_num), Ideal.div_coe (by norm_num)]
  rcases hp with rfl | ⟨q, hq, rfl⟩
  · have h0 : Ideal.div (Ideal.rsqrt ⊤) ⊤ = 0 := by
      rw [Ideal.rsqrt_top]
      simp [Ideal.div]
    rw [h0, Ideal.rsqrt_top]
    simp
  · have hs : Ideal.rsqrt (q : EReal) = (((Real.sqrt q)⁻¹ : ℝ) : EReal) := by
      rw [Ideal.rsqrt_coe, if_neg (not_lt.2 hq.le), if_neg hq.ne']
    have hs0 : 0 < (Real.sqrt q)⁻¹ := inv_pos.2 (Real.sqrt_pos.2 hq)
    have hsq : 1 / q = (Real.sqrt q)⁻¹ * (Real.sqrt q)⁻¹ := by
      rw [← mul_inv, Real.mul_self_sqrt hq.le, one_div]
    rw [hs, Ideal.div_coe hq.ne', hsq]
    generalize (Real.sqrt q)⁻¹ = s at hs0
    have ha : -(1 / 2) * (s * (s * s)) * (1 / 1024) < 0 := by
      have := mul_pos hs0 (mul_pos hs0 hs0)
      linarith
    have hv : K * (((-(1 / 2) : ℝ) : EReal) * ((s : EReal) * ((s * s : ℝ) : EReal))) * ((1 / 1024 : ℝ) : EReal) = K * ((-(1 / 2) * (s * (s * s)) * (1 / 1024) : ℝ) : EReal) := by
      rw [← EReal.coe_mul, ← EReal.coe_mul, mul_assoc, ← EReal.coe_mul]
    have hr : x * ((s : EReal) * (s : EReal) * (s : EReal) * (K * ((1 / 1024 : ℝ) : EReal))) = x * K * ((-(2 * (-(1 / 2) * (s * (s * s)) * (1 / 1024))) : ℝ) : EReal) := by
      rw [← EReal.coe_mul, ← EReal.coe_mul, mul_left_comm _ K, ← EReal.coe_mul, ← mul_assoc]
      exact congrArg (fun z : ℝ => x * K * (z : EReal)) (by ring)
    rw [hv, hr, add_assoc, mul_comm (K * _) x, ← mul_assoc x K, twice (x * K) ha, sub_eq_add_neg]

section Values
variable {H C W D : ℕ → ℕ → EReal} {G : ℕ → EReal}
variable {x0 : (⟨S8192x1024, .f32⟩ : BufTy).Contents (Elt Ideal)} {x1 : (⟨S1024, .f32⟩ : BufTy).Contents (Elt Ideal)} {x2 : (⟨S1024x5632, .f32⟩ : BufTy).Contents (Elt Ideal)}
  {x3 : (⟨S8192x5632, .f32⟩ : BufTy).Contents (Elt Ideal)} {x4 : (⟨S8192x1024, .f32⟩ : BufTy).Contents (Elt Ideal)}

theorem zero_add_c (x : EReal) : (FloatOps.ofBits .f32 0x00000000#32 : Ideal .f32) + x = x := by
  rw [show (FloatOps.ofBits .f32 0x00000000#32 : Ideal .f32) = (0 : EReal) from Ideal.ofBits_zero_f32]
  exact zero_add x

theorem add_c (a b : EReal) : (FloatOps.addf (a : Ideal .f32) (b : Ideal .f32) : Ideal .f32) = a + b := rfl
theorem mul_c (a b : EReal) : (FloatOps.mulf (a : Ideal .f32) (b : Ideal .f32) : Ideal .f32) = a * b := rfl
theorem div_c (a b : EReal) : (FloatOps.hostDivf (a : Ideal .f32) (b : Ideal .f32) : Ideal .f32) = Ideal.div a b := rfl
theorem rsqrt_c (a : EReal) : (FloatOps.hostUnary .rsqrt (a : Ideal .f32) : Ideal .f32) = Ideal.rsqrt a := rfl
theorem width_c : (FloatOps.ofBits .f32 0x44800000#32 : Ideal .f32) = width := rfl
theorem eps_c : (FloatOps.ofBits .f32 0x358637BD#32 : Ideal .f32) = eps := rfl
theorem half_c : (FloatOps.ofBits .f32 0xBF000000#32 : Ideal .f32) = half := rfl

theorem dy_eq (r j : ℕ) : ∑ k ∈ Finset.range 5632, C r k * W j k = dy C W r j := by
  rw [show 5632 = 2816 + 2816 from rfl, Finset.sum_range_add]
  unfold dy prod
  simp only [Nat.mul_zero, Nat.zero_add, Nat.mul_one]

variable (h0 : ∀ i : S8192x1024.Idx, @Eq EReal (x0 i) (H (i 0).val (i 1).val)) (h1 : ∀ i : S1024.Idx, @Eq EReal (x1 i) (G (i 0).val))
  (h2 : ∀ i : S1024x5632.Idx, @Eq EReal (x2 i) (W (i 0).val (i 1).val)) (h3 : ∀ i : S8192x5632.Idx, @Eq EReal (x3 i) (C (i 0).val (i 1).val))
  (h4 : ∀ i : S8192x1024.Idx, @Eq EReal (x4 i) (D (i 0).val (i 1).val))

section
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v6_eq (i : S8192x1.Idx) : @Eq EReal (val_main_v6 (F := Ideal) x0 i) (ms H (i 0).val + eps) := by
  rw [val_main_v6_apply, val_main_v4_apply, val_main_v2_apply, v1_eq h0, val_main_v3_apply, val_main_cst_0_apply, val_main_v5_apply, val_main_cst_1_apply, width_c, eps_c, div_c, add_c]
  rfl

theorem v7_eq (i : S8192x1.Idx) : @Eq EReal (val_main_v7 (F := Ideal) x0 i) (rho H (i 0).val) := by
  rw [val_main_v7_apply, v6_eq h0, rsqrt_c]
  rfl

theorem v10_eq (i : S8192x1.Idx) : @Eq EReal (val_main_v10 (F := Ideal) x0 i) (half * Ideal.div (rho H (i 0).val) (ms H (i 0).val + eps)) := by
  rw [val_main_v10_apply, val_main_v9_apply, val_main_cst_2_apply, val_main_v8_apply, v7_eq h0, v6_eq h0, half_c, div_c, mul_c]

theorem v12_eq (i : S8192x1024.Idx) : @Eq EReal (val_main_v12 (F := Ideal) x0 i) (H (i 0).val (i 1).val * rho H (i 0).val) := by
  rw [val_main_v12_apply, val_main_v11_apply, h0, v7_eq h0, mul_c]

end

section
include h2 h3

theorem v17_eq (i : S8192x1024.Idx) : @Eq EReal (val_main_v17 (F := Ideal) x2 x3 i) (dy C W (i 0).val (i 1).val) := by
  rw [val_main_v17_apply, ← dy_eq]
  refine Eq.trans (Finset.sum_congr rfl fun k _ => ?_) (Finset.sum_range fun k => C (i 0).val k * W (i 1).val k).symm
  exact congrArg₂ (fun a b : EReal => a * b) (h3 _) (h2 _)

include h0 in
theorem v19_eq (i : S1024.Idx) : @Eq EReal (val_main_v19 (F := Ideal) x0 x2 x3 i) (∑ r ∈ Finset.range 8192, dg H C W (i 0).val r) := by
  rw [val_main_v19_apply, val_main_cst_3_apply, zero_add_c]
  refine Eq.trans (Finset.sum_congr rfl fun k _ => ?_) (Finset.sum_range fun r => dg H C W (i 0).val r).symm
  rw [val_main_v18_apply, v12_eq h0, v17_eq h2 h3, mul_c]
  show H k.val (i 0).val * rho H k.val * dy C W k.val (i 0).val = dy C W k.val (i 0).val * H k.val (i 0).val * rho H k.val
  rw [mul_comm (H k.val (i 0).val * rho H k.val), mul_assoc]

include h0 in
/-- The gradient of the scale. -/
theorem v39_eq (i : S1x1024.Idx) : @Eq EReal (val_main_v39 (F := Ideal) x0 x2 x3 i) (∑ r ∈ Finset.range 8192, dg H C W (i 1).val r) := by
  rw [val_main_v39_apply, val_main_v23_apply, val_main_cst_4_apply, zero_add_c, Fin.sum_univ_one, val_main_v20_apply, v19_eq h0 h2 h3,
    show (idx_main_v20 (idx_main_v23 (idx_main_v39 i) 0) 0).val = (i 1).val by show 0 * 1024 + (i 1).val = (i 1).val; omega]

include h1

theorem v22_eq (i : S8192x1024.Idx) : @Eq EReal (val_main_v22 (F := Ideal) x1 x2 x3 i) (dy C W (i 0).val (i 1).val * G (i 1).val) := by
  rw [val_main_v22_apply, v17_eq h2 h3, val_main_v21_apply, val_main_v13_apply, h1, mul_c]

include h0

theorem v25_eq (i : S8192.Idx) : @Eq EReal (val_main_v25 (F := Ideal) x0 x1 x2 x3 i) (∑ d ∈ Finset.range 1024, dy C W (i 0).val d * G d * H (i 0).val d) := by
  rw [val_main_v25_apply, val_main_cst_5_apply, zero_add_c]
  refine Eq.trans (Finset.sum_congr rfl fun k _ => ?_) (Finset.sum_range fun d => dy C W (i 0).val d * G d * H (i 0).val d).symm
  rw [val_main_v24_apply, h0, v22_eq h1 h2 h3, mul_c, mul_comm]

theorem v34_eq (i : S8192x1024.Idx) : @Eq EReal (val_main_v34 (F := Ideal) x0 x1 x2 x3 i)
    (Ideal.div ((∑ d ∈ Finset.range 1024, dy C W (i 0).val d * G d * H (i 0).val d) * (half * Ideal.div (rho H (i 0).val) (ms H (i 0).val + eps))) width) := by
  rw [val_main_v34_apply, val_main_v33_apply, val_main_cst_7_apply, zero_add_c, Fin.sum_univ_one, val_main_v32_apply, val_main_v30_apply, val_main_v26_apply, v25_eq h0 h1 h2 h3, v10_eq h0,
    val_main_v31_apply, val_main_cst_6_apply, width_c, mul_c, div_c,
    show (idx_main_v26 (idx_main_v33 (idx_main_v34 i) 0) 0).val = (i 0).val by show (i 0).val * 1 + 0 = (i 0).val; omega]

include h4 in
/-- The gradient of the rows. -/
theorem v38_eq (i : S8192x1024.Idx) : @Eq EReal (val_main_v38 (F := Ideal) x0 x1 x2 x3 x4 i) (dh H C W D G (i 0).val (i 1).val) := by
  rw [val_main_v38_apply, val_main_v36_apply, val_main_v29_apply, val_main_v28_apply, val_main_v35_apply, val_main_v37_apply, val_main_v27_apply, v34_eq h0 h1 h2 h3, v22_eq h1 h2 h3, v7_eq h0, h4, h0]
  refine Eq.trans ?_ (through (D (i 0).val (i 1).val + rho H (i 0).val * (dy C W (i 0).val (i 1).val * G (i 1).val)) _ (H (i 0).val (i 1).val) _ (under H (i 0).val))
  rw [mul_comm (rho H (i 0).val)]
  rfl

end

end Values

end Cert.UpBackReferenceIdeal.Ub

end
-- ==== Proof.Ub.Final.lean ====
/- The two gradients the backward kernel ends with are the reference's. -/
module

public import proofs.«01_k».proof.Defs
public import proofs.«01_k».proof.Proof.Ub.Ref
public import proofs.«01_k».proof.Proof.Gen.UpBackReferenceIdeal.Run
public import Idealize.ShloMosaic.Lib.StableHlo.RunRead
public import Idealize.ShloMosaic.Lib.Pointwise

@[expose] public section

set_option maxRecDepth 16384

noncomputable section

namespace Cert.UpBackIdeal.Ub

open Cert.UpBackIdeal Cert.UpBackIdeal.Gen
open Idealize.ShloMosaic Idealize.ShloMosaic.TcCoe
open Idealize.SL.Sem
open scoped BigOperators

/-- An array read at natural numbers. -/
def at2 {n p : ℕ} (x : (⟨2, ![n, p]⟩ : Shape).Idx → EReal) (a b : ℕ) : EReal := if h : a < n ∧ b < p then x (ValueIdx.ix2 ⟨a, h.1⟩ ⟨b, h.2⟩) else 0
def at1 {n : ℕ} (x : (⟨1, ![n]⟩ : Shape).Idx → EReal) (a : ℕ) : EReal := if h : a < n then x (ValueIdx.ix1 ⟨a, h⟩) else 0

theorem at2_eq {n p : ℕ} (x : (⟨2, ![n, p]⟩ : Shape).Idx → EReal) (i : (⟨2, ![n, p]⟩ : Shape).Idx) : x i = at2 x (i 0).val (i 1).val := by
  unfold at2
  rw [dif_pos (show (i 0).val < n ∧ (i 1).val < p from ⟨(i 0).isLt, (i 1).isLt⟩)]
  exact congrArg x (ValueIdx.eq_ix2 i)

theorem at1_eq {n : ℕ} (x : (⟨1, ![n]⟩ : Shape).Idx → EReal) (i : (⟨1, ![n]⟩ : Shape).Idx) : x i = at1 x (i 0).val := by
  unfold at1
  rw [dif_pos (show (i 0).val < n from (i 0).isLt)]
  exact congrArg x (ValueIdx.eq_ix1 i)

theorem half (o : ℕ) (x : Vec Ideal S8192x5632 .f32) (h : S8192x5632.Slices ![0, o] S8192x2816) (a : Fin 1) (r : Fin 8192) (d : Fin 2816) (k : Fin 5632) (hk : k.val = o + d.val) :
    broadcastInDim S1x8192x2816 ![1, 2] bcast_S8192x2816_S1x8192x2816_1_2 (extractStridedSlice S8192x2816 ![0, o] x h) (ValueIdx.ix3 a r d) = x (ValueIdx.ix2 r k) := by
  refine Eq.trans ?_ (ValueIdx.slice2_axis1_apply o x h r d k hk)
  refine congrArg (extractStridedSlice S8192x2816 ![0, o] x h) (funext fun y => Fin.ext ?_)
  match y with
  | ⟨0, _⟩ => rfl
  | ⟨1, _⟩ => rfl

theorem halves (x : Vec Ideal S8192x5632 .f32) (a : Fin 2) (r : Fin 8192) (d : Fin 2816) (k : Fin 5632) (hk : k.val = 2816 * a.val + d.val) :
    concatenate S2x8192x2816 0
      [⟨S1x8192x2816, broadcastInDim S1x8192x2816 ![1, 2] bcast_S8192x2816_S1x8192x2816_1_2 (extractStridedSlice S8192x2816 ![0, 0] x slices_S8192x5632_S8192x2816_0_0)⟩,
       ⟨S1x8192x2816, broadcastInDim S1x8192x2816 ![1, 2] bcast_S8192x2816_S1x8192x2816_1_2 (extractStridedSlice S8192x2816 ![0, 2816] x slices_S8192x5632_S8192x2816_0_2816)⟩]
      concatenates_S1x8192x2816_S1x8192x2816_S2x8192x2816_d0 (ValueIdx.ix3 a r d) = x (ValueIdx.ix2 r k) := by
  refine (concatenate_cons_apply S2x8192x2816 0
    ⟨S1x8192x2816, broadcastInDim S1x8192x2816 ![1, 2] bcast_S8192x2816_S1x8192x2816_1_2 (extractStridedSlice S8192x2816 ![0, 0] x slices_S8192x5632_S8192x2816_0_0)⟩
    ⟨S1x8192x2816, broadcastInDim S1x8192x2816 ![1, 2] bcast_S8192x2816_S1x8192x2816_1_2 (extractStridedSlice S8192x2816 ![0, 2816] x slices_S8192x5632_S8192x2816_0_2816)⟩ []
    concatenates_S1x8192x2816_S1x8192x2816_S2x8192x2816_d0 (ValueIdx.ix3 a r d)).trans ?_
  rw [concatenateAt_cons]
  have ha := a.isLt
  by_cases h : a.val < 1
  · refine (dif_pos h).trans (Eq.trans ?_ (half 0 x slices_S8192x5632_S8192x2816_0_0 0 r d k (by omega)))
    refine congrArg _ (funext fun y => Fin.ext ?_)
    match y with
    | ⟨0, _⟩ => show a.val = 0; omega
    | ⟨1, _⟩ => rfl
    | ⟨2, _⟩ => rfl
  · refine (dif_neg h).trans ?_
    rw [concatenateAt_singleton]
    refine Eq.trans ?_ (half 2816 x slices_S8192x5632_S8192x2816_0_2816 0 r d k (by omega))
    refine congrArg _ (funext fun y => Fin.ext ?_)
    match y with
    | ⟨0, _⟩ => show a.val - 1 = 0; omega
    | ⟨1, _⟩ => rfl
    | ⟨2, _⟩ => rfl

section Results
variable (m : (ℓ : Loc nD τ sig) → Buf (Elt Ideal) ℓ) (c : Dev nD) (g : Dev nD → PrngReg)

/-- The two halves of the gradient's columns, one after the other, -/
theorem V_v5 : (V m c main_v5 : Vec Ideal S2x8192x2816 .bf16) = (truncf (F := Ideal) .bf16 (concatenate S2x8192x2816 0
      [⟨S1x8192x2816, broadcastInDim S1x8192x2816 ![1, 2] bcast_S8192x2816_S1x8192x2816_1_2 (extractStridedSlice S8192x2816 ![0, 0] (m ((c : Thread nD τ).loc main_arg3) : Vec Ideal S8192x5632 .f32) slices_S8192x5632_S8192x2816_0_0)⟩,
       ⟨S1x8192x2816, broadcastInDim S1x8192x2816 ![1, 2] bcast_S8192x2816_S1x8192x2816_1_2 (extractStridedSlice S8192x2816 ![0, 2816] (m ((c : Thread nD τ).loc main_arg3) : Vec Ideal S8192x5632 .f32) slices_S8192x5632_S8192x2816_0_2816)⟩]
      concatenates_S1x8192x2816_S1x8192x2816_S2x8192x2816_d0) bitsLt_bf16_f32 : FVec Ideal S2x8192x2816 .bf16) := by
  unfold V
  simp only [List.flatten_cons, List.flatten_nil, List.append_nil, List.cons_append, List.nil_append, hostOps0]
  after_reads_simp
  rfl

/-- the rounded weights, -/
theorem V_v6 : (V m c main_v6 : Vec Ideal S1024x5632 .bf16) = (truncf (F := Ideal) .bf16 (m ((c : Thread nD τ).loc main_arg2) : FVec Ideal S1024x5632 .f32) bitsLt_bf16_f32 : FVec Ideal S1024x5632 .bf16) := by
  unfold V
  simp only [List.flatten_cons, List.flatten_nil, List.append_nil, List.cons_append, List.nil_append, hostOps0]
  after_reads_simp

/-- and the scale as a row. -/
theorem V_v7 : (V m c main_v7 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

variable {H C W D : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x5632.Idx, @Eq EReal ((m ((c : Thread nD τ).loc main_arg2) : Vec Ideal S1024x5632 .f32) i) (W (i 0).val (i 1).val))
    (h3 : ∀ i : S8192x5632.Idx, @Eq EReal ((m ((c : Thread nD τ).loc main_arg3) : Vec Ideal S8192x5632 .f32) i) (C (i 0).val (i 1).val))
    (h4 : ∀ i : S8192x1024.Idx, @Eq EReal ((m ((c : Thread nD τ).loc main_arg4) : Vec Ideal S8192x1024 .f32) i) (D (i 0).val (i 1).val)) : Reads m c H C W D G where
  C s r k := by
    rw [V_v5]
    exact (halves (m ((c : Thread nD τ).loc main_arg3) : Vec Ideal S8192x5632 .f32) s r k ⟨2816 * s.val + k.val, by omega⟩ rfl).trans (h3 _)
  W r j := by
    rw [V_v6]
    exact h2 (ValueIdx.ix2 r j)
  H r j := by
    rw [V_main_arg0]
    exact h0 (ValueIdx.ix2 r j)
  G r j := by
    rw [V_v7]
    refine Eq.trans (congrArg (m ((c : Thread nD τ).loc main_arg1) : Vec Ideal S1024 .f32) (funext fun y => Fin.ext ?_)) (h1 (ValueIdx.ix1 j))
    match y with
    | ⟨0, _⟩ => rfl
  D r j := by
    rw [V_main_arg4]
    exact h4 (ValueIdx.ix2 r j)

/-- The two results the kernel ends with, -/
def res0 : Buf (Elt Ideal) ((c.tc : Thread nD τ).loc main_v8_0) := (dats m 0 c).arrAt 5 cfg0.N
def res1 : Buf (Elt Ideal) ((c.tc : Thread nD τ).loc main_v8_1) := (dats m 0 c).arrAt 6 cfg0.N

/-- which are the reference's. -/
theorem same :
    Cert.UpBackReferenceIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = res0 m c
    ∧ Cert.UpBackReferenceIdeal.Read.val_main_v39 (F := Ideal) (m ((c : Thread nD τ).loc main_arg0)) (m ((c : Thread nD τ).loc main_arg2)) (m ((c : Thread nD τ).loc main_arg3)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x5632 .f32)
  have h3 := at2_eq (m ((c : Thread nD τ).loc main_arg3) : Vec Ideal S8192x5632 .f32)
  have h4 := at2_eq (m ((c : Thread nD τ).loc main_arg4) : Vec Ideal S8192x1024 .f32)
  have R := reads m c h0 h1 h2 h3 h4
  constructor
  · refine funext fun (i : S8192x1024.Idx) => ?_
    exact (Cert.UpBackReferenceIdeal.Ub.v38_eq h0 h1 h2 h3 h4 i).trans (final5 R i).symm
  · refine funext fun (i : S1x1024.Idx) => ?_
    exact (Cert.UpBackReferenceIdeal.Ub.v39_eq h0 h2 h3 i).trans (final6 R i).symm

end Results

theorem algebraic : Cert.algebraic_UpBackIdeal_UpBackReferenceIdeal := fun m g m' g' _ ha =>
  ⟨res0 m, res1 m, Value.run_blocks m g, (θ_run Cert.UpBackReferenceIdeal.defs _ _).mono (fun r h c =>
    ⟨(h c).1.trans (by rw [Cert.UpBackReferenceIdeal.Read.val_main_v38_eq, (ha c).1, (ha c).2.1, (ha c).2.2.1, (ha c).2.2.2.1, (ha c).2.2.2.2]; exact (same m c).1),
     (h c).2.1.trans (by rw [Cert.UpBackReferenceIdeal.Read.val_main_v39_eq, (ha c).1, (ha c).2.2.1, (ha c).2.2.2.1]; exact (same m c).2), (h c).2.2⟩)
    (Cert.UpBackReferenceIdeal.Value.run (F := Ideal) m' g')⟩

end Cert.UpBackIdeal.Ub

end
-- ==== Proof.Cp.Final.lean ====
/- The normalized rows and the projection the kernel ends with are the reference's. -/
module

public import proofs.«01_k».proof.Defs
public import proofs.«01_k».proof.Proof.Cp.Out
public import proofs.«01_k».proof.Proof.Ub.Final
public import proofs.«01_k».proof.Proof.Cg.Thirds
public import proofs.«01_k».proof.Proof.Gen.ConvProjReferenceIdeal.Read
public import proofs.«01_k».proof.Proof.Gen.ConvProjReferenceIdeal.Run
public import Idealize.ShloMosaic.Lib.StableHlo.RunRead
public import Idealize.ShloMosaic.Lib.Pointwise

@[expose] public section

set_option maxRecDepth 16384

noncomputable section

namespace Cert.ConvProjReferenceIdeal.Cp

open Cert.ConvProjReferenceIdeal Cert.ConvProjReferenceIdeal.Read
open Idealize.ShloMosaic
open Cert.UpBackIdeal.Ub (rho ms eps width)
open Cert.ConvGradIdeal.Cg (thirds)
open Cert.ConvProjIdeal.Cp (xn up)
open Cert.UpBackReferenceIdeal.Ub (zero_add_c add_c mul_c div_c rsqrt_c width_c eps_c)
open scoped BigOperators

variable {H W : ℕ → ℕ → EReal} {G : ℕ → EReal}
variable {x0 : (⟨S8192x1024, .f32⟩ : BufTy).Contents (Elt Ideal)} {x1 : (⟨S1024, .f32⟩ : BufTy).Contents (Elt Ideal)} {x2 : (⟨S1024x3072, .f32⟩ : BufTy).Contents (Elt Ideal)}
variable (h0 : ∀ i : S8192x1024.Idx, @Eq EReal (x0 i) (H (i 0).val (i 1).val)) (h1 : ∀ i : S1024.Idx, @Eq EReal (x1 i) (G (i 0).val))
  (h2 : ∀ i : S1024x3072.Idx, @Eq EReal (x2 i) (W (i 0).val (i 1).val))
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v7_eq (i : S8192x1.Idx) : @Eq EReal (val_main_v7 (F := Ideal) x0 i) (rho H (i 0).val) := by
  rw [val_main_v7_apply, val_main_v6_apply, val_main_v4_apply, val_main_v2_apply, v1_eq h0, val_main_v3_apply, val_main_cst_0_apply, val_main_v5_apply, val_main_cst_1_apply,
    width_c, eps_c, div_c, add_c, rsqrt_c]
  rfl

include h1

theorem v12_eq (i : S8192x1024.Idx) : @Eq EReal (val_main_v12 (F := Ideal) x0 x1 i) (xn H G (i 0).val (i 1).val) := by
  rw [val_main_v12_apply, val_main_v9_apply, val_main_v8_apply, v7_eq h0, h0, val_main_v11_apply, val_main_v10_apply, h1, mul_c, mul_c]
  rfl

theorem v27_eq (i : S8192x1024.Idx) : @Eq EReal (val_main_v27 (F := Ideal) x0 x1 i) (xn H G (i 0).val (i 1).val) :=
  v12_eq h0 h1 i

include h2

theorem v13_eq (i : S8192x3072.Idx) : @Eq EReal (val_main_v13 (F := Ideal) x0 x1 x2 i) (up H W G (i 0).val (i 1).val) := by
  rw [val_main_v13_apply]
  refine Eq.trans (Finset.sum_congr rfl fun k _ => ?_) (Finset.sum_range fun d => xn H G (i 0).val d * W d (i 1).val).symm
  exact congrArg₂ (fun a b : EReal => a * b) (v12_eq h0 h1 _) (h2 _)

theorem v34_eq (i : S3x8192x1024.Idx) : @Eq EReal (val_main_v34 (F := Ideal) x0 x1 x2 i) (up H W G (i 1).val (1024 * (i 0).val + (i 2).val)) := by
  have ha : (i 0).val < 3 := (i 0).isLt
  have hd : (i 2).val < 1024 := (i 2).isLt
  refine (congrArg (val_main_v34 (F := Ideal) x0 x1 x2) (ValueIdx.eq_ix3 i)).trans ?_
  exact (thirds (val_main_v13 (F := Ideal) x0 x1 x2) (i 0) (i 1) (i 2) ⟨1024 * (i 0).val + (i 2).val, by omega⟩ rfl).trans (v13_eq h0 h1 h2 _)

end Cert.ConvProjReferenceIdeal.Cp

namespace Cert.ConvProjIdeal.Cp

open Cert.ConvProjIdeal Cert.ConvProjIdeal.Gen
open Idealize.ShloMosaic Idealize.ShloMosaic.TcCoe
open Idealize.SL.Sem
open Cert.UpBackIdeal.Ub (at2_eq at1_eq)
open scoped BigOperators

variable (m : (ℓ : Loc nD τ sig) → Buf (Elt Ideal) ℓ) (c : Dev nD) (g : Dev nD → PrngReg)

/-- The scale as a row, -/
theorem V_v0 : (V m c main_v0 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

/-- and the rounded weights. -/
theorem V_v1 : (V m c main_v1 : Vec Ideal S1024x3072 .bf16) = (truncf (F := Ideal) .bf16 (m ((c : Thread nD τ).loc main_arg2) : FVec Ideal S1024x3072 .f32) bitsLt_bf16_f32 : FVec Ideal S1024x3072 .bf16) := by
  unfold V
  simp only [List.flatten_cons, List.flatten_nil, List.append_nil, List.cons_append, List.nil_append, hostOps0]
  after_reads_simp

variable {H W : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x3072.Idx, @Eq EReal ((m ((c : Thread nD τ).loc main_arg2) : Vec Ideal S1024x3072 .f32) i) (W (i 0).val (i 1).val)) : Reads m c H W G where
  H r j := by
    rw [V_main_arg0]
    exact h0 (ValueIdx.ix2 r j)
  G r j := by
    rw [V_v0]
    refine Eq.trans (congrArg (m ((c : Thread nD τ).loc main_arg1) : Vec Ideal S1024 .f32) (funext fun y => Fin.ext ?_)) (h1 (ValueIdx.ix1 j))
    match y with
    | ⟨0, _⟩ => rfl
  W r j := by
    rw [V_v1]
    exact h2 (ValueIdx.ix2 r j)

/-- The two results the kernel ends with, -/
def res0 : Buf (Elt Ideal) ((c.tc : Thread nD τ).loc main_v2_0) := (dats m 0 c).arrAt 3 cfg0.N
def res1 : Buf (Elt Ideal) ((c.tc : Thread nD τ).loc main_v2_1) := (dats m 0 c).arrAt 4 cfg0.N

theorem ends_with : θ_run (Cert.ConvProjIdeal.defs (F := Ideal)) (onTc (τ := τ) (Cert.ConvProjIdeal.main (F := Ideal))) ⟨m, fun _ => 0, g⟩ (fun r => ∀ c : Dev nD,
      r.2.mem ((c.tc : Thread nD τ).loc main_v2_0) = res0 m c ∧ r.2.mem ((c.tc : Thread nD τ).loc main_v2_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.ConvProjIdeal.defs _ _).mono (fun _ h c => ⟨(h.1 c).1 3, (h.1 c).1 4, h.2 c⟩) (θ_run_and (run_post m g) (unchanged m g))

/-- which are the reference's. -/
theorem same :
    Cert.ConvProjReferenceIdeal.Read.val_main_v27 (F := Ideal) (m ((c : Thread nD τ).loc main_arg0)) (m ((c : Thread nD τ).loc main_arg1)) = res0 m c
    ∧ Cert.ConvProjReferenceIdeal.Read.val_main_v34 (F := Ideal) (m ((c : Thread nD τ).loc main_arg0)) (m ((c : Thread nD τ).loc main_arg1)) (m ((c : Thread nD τ).loc main_arg2)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x3072 .f32)
  have R := reads m c h0 h1 h2
  constructor
  · refine funext fun (i : S8192x1024.Idx) => ?_
    exact (Cert.ConvProjReferenceIdeal.Cp.v27_eq h0 h1 i).trans (final3 R i).symm
  · refine funext fun (i : S3x8192x1024.Idx) => ?_
    exact (Cert.ConvProjReferenceIdeal.Cp.v34_eq h0 h1 h2 i).trans (final4 R i).symm

theorem algebraic : Cert.algebraic_ConvProjIdeal_ConvProjReferenceIdeal := fun m g m' g' _ ha =>
  ⟨res0 m, res1 m, ends_with m g, (θ_run Cert.ConvProjReferenceIdeal.defs _ _).mono (fun r h c =>
    ⟨(h c).1.trans (by rw [Cert.ConvProjReferenceIdeal.Read.val_main_v27_eq, (ha c).1, (ha c).2.1]; exact (same m c).1),
     (h c).2.1.trans (by rw [Cert.ConvProjReferenceIdeal.Read.val_main_v34_eq, (ha c).1, (ha c).2.1, (ha c).2.2]; exact (same m c).2), (h c).2.2⟩)
    (Cert.ConvProjReferenceIdeal.Value.run (F := Ideal) m' g')⟩

end Cert.ConvProjIdeal.Cp

end
-- ==== Proof.Cb.Pay.lean ====
/- What the backward kernel's vector operations compute, over blocks whose elements a function of row and column gives. -/
module

public import proofs.«01_k».proof.Proof.Gen.ConvBackIdeal.Skeleton
public import proofs.«01_k».proof.Proof.Ub.Pay
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.ConvBackIdeal.Cb

open Cert.ConvBackIdeal Cert.ConvBackIdeal.Gen
open Idealize.ShloMosaic Idealize.ShloMosaic.TcCoe Idealize.ShloMosaic.ValueIdx
open Cert.UpBackIdeal.Ub (E2 rho dot width_E2 eps_E2)
open scoped BigOperators

/-! The payloads. -/

section Payloads
variable {f y d A B : ℕ → ℕ → EReal} {g : ℕ → EReal}

theorem pay1_E2 {a : Vec Ideal S1x512x1024 .bf16} {b : Vec Ideal S1024x1024 .bf16} (ha : ∀ (r : Fin 512) (k : Fin 1024), a (ix3 0 r k) = A r.val k.val) (hb : E2 b B) :
    E2 (k0_pay1 (F := Ideal) a b) fun r j => ∑ k ∈ Finset.range 1024, A r k * B j k := by
  unfold k0_pay1
  rw [shapeCast_self]
  exact E2.rows (fun r k => (shapeCast_1ab_ab_apply a _ r k).trans (ha r k)) hb none

theorem pay5_E2 {x : Vec Ideal S512x1024 .f32} (hx : E2 x f) : E2 (k0_pay5 (F := Ideal) x) fun r _ => rho f r := by
  unfold k0_pay5
  exact E2.rsqrt (E2.add (E2.div (E2.rowsum (hx.mul hx)) width_E2) eps_E2)

theorem pay7_E2 {x t : Vec Ideal S512x1024 .f32} (hx : E2 x f) (ht : E2 t y) : E2 (k0_pay7 (F := Ideal) x t) fun _ j => ∑ r ∈ Finset.range 512, y r j * f r j * rho f r := by
  unfold k0_pay7
  exact E2.colsum (E2.mul (ht.mul hx) (E2.bcol (by decide) (pay5_E2 hx)))

theorem pay6_E2 {x t e : Vec Ideal S512x1024 .f32} {w : Vec Ideal S1x1024 .f32} (hx : E2 x f) (ht : E2 t y) (hw : E2 w fun _ j => g j) (he : E2 e d) :
    E2 (k0_pay6 (F := Ideal) x t w e) fun r j => d r j + rho f r * (y r j * g j) - f r j * (rho f r * rho f r * rho f r * dot f y g r) := by
  unfold k0_pay6
  rw [shapeCast_self]
  have h27 := E2.mul ht (E2.brow (m := 512) (h := broadcasts_S1x1024_S512x1024) (by decide) hw)
  have h5 := pay5_E2 hx
  have h32 := E2.div (E2.rowsum (h := reduces_S512x1024_S512) (hc := shapeCasts_S512_S512x1) (hφ := .inl rfl) (hacc := rfl) (h27.mul hx)) width_E2
  exact E2.sub (E2.add he (E2.mul (E2.bcol (h := broadcasts_S512x1_S512x1024) (by decide) h5) h27))
    (E2.mul hx (E2.bcol (h := broadcasts_S512x1_S512x1024) (by decide) (E2.mul (E2.mul (E2.mul h5 h5) h5) h32)))

theorem pay2_eq {a : Vec Ideal S1x512x1024 .bf16} {b : Vec Ideal S1024x1024 .bf16} : k0_pay2 (F := Ideal) a b = k0_pay1 a b := by
  unfold k0_pay2
  exact shapeCast_self _ _

theorem pay3_E2 {a : Vec Ideal S1x512x1024 .bf16} {b : Vec Ideal S1024x1024 .bf16} {s : Vec Ideal S512x1024 .f32} (hs : E2 s f) (hp : E2 (k0_pay1 (F := Ideal) a b) y) :
    E2 (k0_pay3 (F := Ideal) a b s) fun r j => f r j + y r j := by
  unfold k0_pay3
  dsimp only
  rw [shapeCast_self]
  exact E2.add hs hp

theorem pay4_E2 {p o : Vec Ideal S1x1024 .f32} (hp : E2 p f) (ho : E2 o y) : E2 (k0_pay4 (F := Ideal) p o) fun r j => y r j + f r j := by
  unfold k0_pay4
  rw [shapeCast_self]
  exact E2.add ho hp

end Payloads

end Cert.ConvBackIdeal.Cb

end
-- ==== Proof.Cb.Cases.lean ====
/- What each of the backward kernel's cases leaves in its outputs and its scratch. -/
module

public import proofs.«01_k».proof.Proof.Gen.ConvBackIdeal.Value
public import Idealize.ShloMosaic.Lib.ValueLayout

@[expose] public section

set_option maxRecDepth 16384

noncomputable section

namespace Cert.ConvBackIdeal.Cb

open Cert.ConvBackIdeal Cert.ConvBackIdeal.Gen
open Idealize.ShloMosaic Idealize.ShloMosaic.TcCoe Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1x512x1024 .bf16) (h2 : a2.IsWhole) (a3 : Memref sig .tc .vmem S1024x1024 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S1x512x1024 .bf16) (x1 : Vec F S1024x1024 .bf16) (x2 : Vec F S512x1024 .f32) (x3 : Vec F S1x1024 .f32) (x4 : Vec F S512x1024 .f32) (o6 : Vec F S1x1024 .f32) (s0 : Vec F S512x1024 .f32)

theorem scr_A (hc0 : cond0_0 i) (hc1 : ¬cond0_1 i) (hc2 : ¬cond0_2 i) :
    sout0_A_0 c i a2 h2 a3 h3 a4 h4 a5 h5 a6 h6 a7 h7 a8 h8 a9 h9 hc0 hc1 hc2 x0 x1 x2 x3 x4 = k0_pay2 x0 x1 := by
  unfold sout0_A_0
  rw [View.read_writes_eq_canon _ _ _ (scover0_A_0 c i a2 h2 a3 h3 a4 h4 a5 h5 a6 h6 a7 h7 a8 h8 a9 h9 hc0 hc1 hc2 x0 x1 x2 x3 x4)]
  unfold kernelRun0_A
  dsimp only
  rw [View.canon_unit_zero hz2]
  simp only [View.readAt_eq_ld, h2.read_unread, h3.read_unread, View.ld_unit_zero (S := S1x512x1024) hz3, View.ld_unit_zero (S := S1024x1024) hz2]

theorem scr_B (hc0 : ¬cond0_0 i) (hc1 : cond0_1 i) (hc2 : ¬cond0_2 i) :
    sout0_B_0 c i a2 h2 a3 h3 a4 h4 a5 h5 a6 h6 a7 h7 a8 h8 a9 h9 hc0 hc1 hc2 x0 x1 x2 x3 x4 s0 = k0_pay3 x0 x1 s0 := by
  unfold sout0_B_0
  rw [View.read_writes_eq_canon _ _ _ (scover0_B_0 c i a2 h2 a3 h3 a4 h4 a5 h5 a6 h6 a7 h7 a8 h8 a9 h9 hc0 hc1 hc2 x0 x1 x2 x3 x4 s0)]
  unfold kernelRun0_B
  dsimp only
  rw [View.canon_unit_zero hz2]
  simp only [View.readAt_eq_ld, h2.read_unread, h3.read_unread, h9.read_unread, View.ld_unit_zero (S := S1x512x1024) hz3, View.ld_unit_zero (S := S1024x1024) hz2,
    View.ld_unit_zero (S := S512x1024) hz2]

theorem out_C5 (hc0 : ¬cond0_0 i) (hc1 : cond0_1 i) (hc2 : cond0_2 i) (hc3 : cond0_3 i) (hc4 : ¬cond0_4 i) :
    out0_C_5 c i a2 h2 a3 h3 a4 h4 a5 h5 a6 h6 a7 h7 a8 h8 a9 h9 hc0 hc1 hc2 hc3 hc4 x0 x1 x2 x3 x4 s0 = k0_pay6 x2 (k0_pay3 x0 x1 s0) x3 x4 := by
  unfold out0_C_5
  rw [View.read_writes_eq_canon _ _ _ (cover0_C_5 c i a2 h2 a3 h3 a4 h4 a5 h5 a6 h6 a7 h7 a8 h8 a9 h9 hc0 hc1 hc2 hc3 hc4 x0 x1 x2 x3 x4 s0)]
  unfold kernelRun0_C
  dsimp only
  sl_unfold_words
  rw [View.canon_unit_zero hz2]
  simp only [View.readAt_eq_ld, h2.read_unread, h3.read_unread, h4.read_unread, h5.read_unread, h6.read_unread, h9.read_unread, View.ld_unit_zero (S := S1x512x1024) hz3,
    View.ld_unit_zero (S := S1024x1024) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_C6 (hc0 : ¬cond0_0 i) (hc1 : cond0_1 i) (hc2 : cond0_2 i) (hc3 : cond0_3 i) (hc4 : ¬cond0_4 i) :
    out0_C_6 c i a2 h2 a3 h3 a4 h4 a5 h5 a6 h6 a7 h7 a8 h8 a9 h9 hc0 hc1 hc2 hc3 hc4 x0 x1 x2 x3 x4 s0 = k0_pay7 x2 (k0_pay3 x0 x1 s0) := by
  unfold out0_C_6
  rw [View.read_writes_eq_canon _ _ _ (cover0_C_6 c i a2 h2 a3 h3 a4 h4 a5 h5 a6 h6 a7 h7 a8 h8 a9 h9 hc0 hc1 hc2 hc3 hc4 x0 x1 x2 x3 x4 s0)]
  unfold kernelRun0_C
  dsimp only
  sl_unfold_words
  rw [View.canon_unit_zero hz2]
  simp only [View.readAt_eq_ld, h2.read_unread, h3.read_unread, h4.read_unread, h5.read_unread, h6.read_unread, h9.read_unread, View.ld_unit_zero (S := S1x512x1024) hz3,
    View.ld_unit_zero (S := S1024x1024) hz2, View.ld_unit_zero (S := S512x1024) hz2, View.ld_unit_zero (S := S1x1024) hz2]
  exact congrArg (k0_pay7 x2) (View.readCov_unit_zero (Val := Elt F) (S := S512x1024) a9.view hz2 _ _)

theorem out_D5 (hc0 : ¬cond0_0 i) (hc1 : cond0_1 i) (hc2 : cond0_2 i) (hc3 : ¬cond0_3 i) (hc4 : cond0_4 i) :
    out0_D_5 c i a2 h2 a3 h3 a4 h4 a5 h5 a6 h6 a7 h7 a8 h8 a9 h9 hc0 hc1 hc2 hc3 hc4 x0 x1 x2 x3 x4 o6 s0 = k0_pay6 x2 (k0_pay3 x0 x1 s0) x3 x4 := by
  unfold out0_D_5
  rw [View.read_writes_eq_canon _ _ _ (cover0_D_5 c i a2 h2 a3 h3 a4 h4 a5 h5 a6 h6 a7 h7 a8 h8 a9 h9 hc0 hc1 hc2 hc3 hc4 x0 x1 x2 x3 x4 o6 s0)]
  unfold kernelRun0_D
  dsimp only
  sl_unfold_words
  rw [View.canon_unit_zero hz2]
  simp only [View.readAt_eq_ld, h2.read_unread, h3.read_unread, h4.read_unread, h5.read_unread, h6.read_unread, h8.read_unread, h9.read_unread,
    View.ld_unit_zero (S := S1x512x1024) hz3, View.ld_unit_zero (S := S1024x1024) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_D6 (hc0 : ¬cond0_0 i) (hc1 : cond0_1 i) (hc2 : cond0_2 i) (hc3 : ¬cond0_3 i) (hc4 : cond0_4 i) :
    out0_D_6 c i a2 h2 a3 h3 a4 h4 a5 h5 a6 h6 a7 h7 a8 h8 a9 h9 hc0 hc1 hc2 hc3 hc4 x0 x1 x2 x3 x4 o6 s0 = k0_pay4 (k0_pay7 x2 (k0_pay3 x0 x1 s0)) o6 := by
  unfold out0_D_6
  rw [View.read_writes_eq_canon _ _ _ (cover0_D_6 c i a2 h2 a3 h3 a4 h4 a5 h5 a6 h6 a7 h7 a8 h8 a9 h9 hc0 hc1 hc2 hc3 hc4 x0 x1 x2 x3 x4 o6 s0)]
  unfold kernelRun0_D
  dsimp only
  sl_unfold_words
  rw [View.canon_unit_zero hz2]
  simp only [View.readAt_eq_ld, h2.read_unread, h3.read_unread, h4.read_unread, h5.read_unread, h6.read_unread, h8.read_unread, h9.read_unread,
    View.ld_unit_zero (S := S1x512x1024) hz3, View.ld_unit_zero (S := S1024x1024) hz2, View.ld_unit_zero (S := S512x1024) hz2, View.ld_unit_zero (S := S1x1024) hz2]
  exact congrArg (fun z => k0_pay4 (k0_pay7 x2 z) o6) (View.readCov_unit_zero (Val := Elt F) (S := S512x1024) a9.view hz2 _ _)

end Cert.ConvBackIdeal.Cb

end
-- ==== Proof.Cb.Out.lean ====
/- What the backward kernel's grid leaves, over arrays that functions of row and column give: the rows' gradient tile by tile, and the scale's
   gradient summed over the tiles. -/
module

public import proofs.«01_k».proof.Proof.Cb.Pay
public import proofs.«01_k».proof.Proof.Cb.Cases

@[expose] public section

set_option maxRecDepth 16384

noncomputable section

namespace Cert.ConvBackIdeal.Cb

open Cert.ConvBackIdeal Cert.ConvBackIdeal.Gen
open Idealize.ShloMosaic Idealize.ShloMosaic.TcCoe Idealize.ShloMosaic.ValueIdx
open Cert.UpBackIdeal.Ub (E2 rho dot)
open scoped BigOperators

/-! The results, as functions. -/

section Results
variable (H C W D : ℕ → ℕ → EReal) (G : ℕ → EReal)

/-- The products of one part of the columns, -/
def prod (s r j : ℕ) : EReal := ∑ k ∈ Finset.range 1024, C r (1024 * s + k) * W j (1024 * s + k)

/-- the gradient of the scaled rows, -/
def dy (r j : ℕ) : EReal := prod C W 0 r j + prod C W 1 r j + prod C W 2 r j

/-- the gradient of the rows, -/
def dh (r j : ℕ) : EReal := D r j + rho H r * (dy C W r j * G j) - H r j * (rho H r * rho H r * rho H r * dot H (dy C W) G r)

/-- and one row's share of the scale's gradient. -/
def dg (j r : ℕ) : EReal := dy C W r j * H r j * rho H r

theorem sum_tiles (f : ℕ → EReal) (n : ℕ) : ∑ s ∈ Finset.range n, ∑ k ∈ Finset.range 512, f (512 * s + k) = ∑ r ∈ Finset.range (512 * n), f r := by
  induction n with
  | zero => rfl
  | succ n ih => rw [Finset.sum_range_succ, ih, Nat.mul_succ, Finset.sum_range_add]

end Results

section Grid
variable (m : (ℓ : Loc nD τ sig) → Buf (Elt Ideal) ℓ) (c : Dev nD)

theorem idx0 : ∀ t : Fin grid0.N, win0_0.index t (0 : Fin 3) = t.val % 3 ∧ win0_0.index t (1 : Fin 3) = t.val / 3 ∧ win0_0.index t (2 : Fin 3) = 0 := by decide +kernel
theorem idx1 : ∀ t : Fin grid0.N, win0_1.index t (0 : Fin 2) = 0 ∧ win0_1.index t (1 : Fin 2) = t.val % 3 := by decide +kernel
theorem idx2 : ∀ t : Fin grid0.N, win0_2.index t (0 : Fin 2) = t.val / 3 ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val / 3 ∧ win0_4.index t (1 : Fin 2) = 0 := by decide +kernel
theorem idx5 : ∀ t : Fin grid0.N, win0_5.index t (0 : Fin 2) = t.val / 3 ∧ win0_5.index t (1 : Fin 2) = 0 := by decide +kernel
theorem idx6 : ∀ t : Fin grid0.N, win0_6.index t (0 : Fin 2) = 0 ∧ win0_6.index t (1 : Fin 2) = 0 := by decide +kernel

variable {H C W D : ℕ → ℕ → EReal} {G : ℕ → EReal}

theorem iblk0_at (hC : ∀ (s : Fin 3) (r : Fin 8192) (k : Fin 1024), (V m c main_v7 : Vec Ideal S3x8192x1024 .bf16) (ix3 s r k) = C r.val (1024 * s.val + k.val))
    (t : Fin cfg0.N) (r : Fin 512) (k : Fin 1024) : (iblk m c 0 t : Vec Ideal S1x512x1024 .bf16) (ix3 0 r k) = C (512 * (t.val / 3) + r.val) (1024 * (t.val % 3) + k.val) := by
  obtain ⟨e0, e1, e2⟩ := idx0 t
  have hN : t.val < 48 := t.isLt
  refine Eq.trans ?_ (hC ⟨t.val % 3, by omega⟩ ⟨512 * (t.val / 3) + r.val, by omega⟩ k)
  refine congrArg (V m c main_v7 : Vec Ideal S3x8192x1024 .bf16) (funext fun a => Fin.ext ?_)
  match a with
  | ⟨0, _⟩ => show win0_0.index t (0 : Fin 3) * 1 + 1 * 0 = t.val % 3; omega
  | ⟨1, _⟩ => show win0_0.index t (1 : Fin 3) * 512 + 1 * r.val = 512 * (t.val / 3) + r.val; omega
  | ⟨2, _⟩ => show win0_0.index t (2 : Fin 3) * 1024 + 1 * k.val = k.val; omega

theorem iblk1_E2 (hW : E2 (V m c main_v8 : Vec Ideal S1024x3072 .bf16) W) (t : Fin cfg0.N) : E2 (iblk m c 1 t : Vec Ideal S1024x1024 .bf16) fun j k => W j (1024 * (t.val % 3) + k) := fun j k => by
  obtain ⟨e0, e1⟩ := idx1 t
  refine Eq.trans ?_ (hW j ⟨1024 * (t.val % 3) + k.val, by omega⟩)
  refine congrArg (V m c main_v8 : Vec Ideal S1024x3072 .bf16) (funext fun a => Fin.ext ?_)
  match a with
  | ⟨0, _⟩ => show win0_1.index t (0 : Fin 2) * 1024 + 1 * j.val = j.val; omega
  | ⟨1, _⟩ => show win0_1.index t (1 : Fin 2) * 1024 + 1 * k.val = 1024 * (t.val % 3) + k.val; omega

theorem iblk2_E2 (hH : E2 (V m c main_arg0 : Vec Ideal S8192x1024 .f32) H) (t : Fin cfg0.N) : E2 (iblk m c 2 t : Vec Ideal S512x1024 .f32) fun r j => H (512 * (t.val / 3) + r) j := fun r j => by
  obtain ⟨e0, e1⟩ := idx2 t
  have hN : t.val < 48 := t.isLt
  refine Eq.trans ?_ (hH ⟨512 * (t.val / 3) + r.val, by omega⟩ j)
  refine congrArg (V m c main_arg0 : Vec Ideal S8192x1024 .f32) (funext fun a => Fin.ext ?_)
  match a with
  | ⟨0, _⟩ => show win0_2.index t (0 : Fin 2) * 512 + 1 * r.val = 512 * (t.val / 3) + r.val; omega
  | ⟨1, _⟩ => show win0_2.index t (1 : Fin 2) * 1024 + 1 * j.val = j.val; omega

theorem iblk3_E2 (hG : E2 (V m c main_v9 : Vec Ideal S1x1024 .f32) fun _ j => G j) (t : Fin cfg0.N) : E2 (iblk m c 3 t : Vec Ideal S1x1024 .f32) fun _ j => G j := fun r j => by
  obtain ⟨e0, e1⟩ := idx3 t
  refine Eq.trans ?_ (hG r j)
  refine congrArg (V m c main_v9 : Vec Ideal S1x1024 .f32) (funext fun a => Fin.ext ?_)
  match a with
  | ⟨0, _⟩ => show win0_3.index t (0 : Fin 2) * 1 + 1 * r.val = r.val; omega
  | ⟨1, _⟩ => show win0_3.index t (1 : Fin 2) * 1024 + 1 * j.val = j.val; omega

theorem iblk4_E2 (hD : E2 (V m c main_arg4 : Vec Ideal S8192x1024 .f32) D) (t : Fin cfg0.N) : E2 (iblk m c 4 t : Vec Ideal S512x1024 .f32) fun r j => D (512 * (t.val / 3) + r) j := fun r j => by
  obtain ⟨e0, e1⟩ := idx4 t
  have hN : t.val < 48 := t.isLt
  refine Eq.trans ?_ (hD ⟨512 * (t.val / 3) + r.val, by omega⟩ j)
  refine congrArg (V m c main_arg4 : Vec Ideal S8192x1024 .f32) (funext fun a => Fin.ext ?_)
  match a with
  | ⟨0, _⟩ => show win0_4.index t (0 : Fin 2) * 512 + 1 * r.val = 512 * (t.val / 3) + r.val; omega
  | ⟨1, _⟩ => show win0_4.index t (1 : Fin 2) * 1024 + 1 * j.val = j.val; omega

theorem emb5 (t : Fin cfg0.N) (y : S512x1024.Idx) (h0 : 512 * (t.val / 3) + (y 0).val < 8192) :
    ((cfg0.win 5).blk t).view.emb y = (ix2 ⟨512 * (t.val / 3) + (y 0).val, h0⟩ (y 1) : S8192x1024.Idx) := by
  obtain ⟨e0, e1⟩ := idx5 t
  funext a; apply Fin.ext
  match a with
  | ⟨0, _⟩ => show win0_5.index t (0 : Fin 2) * 512 + 1 * (y 0).val = 512 * (t.val / 3) + (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-! The points. -/

/-- The arrays' elements are what the functions give. -/
structure Reads (H C W D : ℕ → ℕ → EReal) (G : ℕ → EReal) : Prop where
  C : ∀ (s : Fin 3) (r : Fin 8192) (k : Fin 1024), (V m c main_v7 : Vec Ideal S3x8192x1024 .bf16) (ix3 s r k) = C r.val (1024 * s.val + k.val)
  W : E2 (V m c main_v8 : Vec Ideal S1024x3072 .bf16) W
  H : E2 (V m c main_arg0 : Vec Ideal S8192x1024 .f32) H
  G : E2 (V m c main_v9 : Vec Ideal S1x1024 .f32) fun _ j => G j
  D : E2 (V m c main_arg4 : Vec Ideal S8192x1024 .f32) D

variable {m c} (R : Reads m c H C W D G)
include R

theorem pay1_at (t : Fin cfg0.N) : E2 (k0_pay1 (F := Ideal) (iblk m c 0 t) (iblk m c 1 t)) fun r j => prod C W (t.val % 3) (512 * (t.val / 3) + r) j :=
  pay1_E2 (A := fun r k => C (512 * (t.val / 3) + r) (1024 * (t.val % 3) + k)) (iblk0_at m c R.C t) (iblk1_E2 m c R.W t)

/-- A tile's first point leaves the first part's products in the scratch, -/
theorem scr (n : ℕ) (h : n < cfg0.N) (h0 : n % 3 = 0) : E2 (outsAt0 m c n h).2.2 fun r j => prod C W 0 (512 * (n / 3) + r) j := by
  rw [outsAt0_A m c ⟨n, h⟩ h0 (by show ¬ 1 ≤ n % 3; omega) (by show ¬ n % 3 = 2; omega)]
  dsimp only
  rw [scr_A, pay2_eq]
  refine (pay1_at R ⟨n, h⟩).congr fun r _ j _ => ?_
  show prod C W (n % 3) _ _ = _
  rw [h0]

/-- its second the first two parts'; -/
theorem scr2 (n : ℕ) (h : n + 1 < cfg0.N) (h1 : (n + 1) % 3 = 1) :
    E2 (outsAt0 m c (n + 1) h).2.2 fun r j => prod C W 0 (512 * ((n + 1) / 3) + r) j + prod C W 1 (512 * ((n + 1) / 3) + r) j := by
  rw [outsAt0_B m c ⟨n + 1, h⟩ (by show ¬ (n + 1) % 3 = 0; omega) (by show 1 ≤ (n + 1) % 3; omega) (by show ¬ (n + 1) % 3 = 2; omega)]
  dsimp only
  rw [scr_B]
  refine (pay3_E2 (scr R n (Nat.lt_of_succ_lt h) (by omega)) (pay1_at R ⟨n + 1, h⟩)).congr fun r _ j _ => ?_
  show prod C W 0 (512 * (n / 3) + r) j + prod C W ((n + 1) % 3) (512 * ((n + 1) / 3) + r) j = _
  rw [h1, show n / 3 = (n + 1) / 3 by omega]

/-- at its last they make the whole product. -/
theorem pay3_at (n : ℕ) (h : n + 1 < cfg0.N) (h1 : (n + 1) % 3 = 2) :
    E2 (k0_pay3 (F := Ideal) (iblk m c 0 ⟨n + 1, h⟩) (iblk m c 1 ⟨n + 1, h⟩) (outsAt0 m c n (Nat.lt_of_succ_lt h)).2.2) fun r j => dy C W (512 * ((n + 1) / 3) + r) j := by
  obtain ⟨k, rfl⟩ : ∃ k, n = k + 1 := ⟨n - 1, by omega⟩
  refine (pay3_E2 (scr2 R k (Nat.lt_of_succ_lt h) (by omega)) (pay1_at R ⟨k + 1 + 1, h⟩)).congr fun r _ j _ => ?_
  show prod C W 0 (512 * ((k + 1) / 3) + r) j + prod C W 1 (512 * ((k + 1) / 3) + r) j + prod C W ((k + 1 + 1) % 3) (512 * ((k + 1 + 1) / 3) + r) j = _
  rw [h1, show (k + 1) / 3 = (k + 1 + 1) / 3 by omega]
  rfl

theorem row_at (n : ℕ) (h : n + 1 < cfg0.N) (h1 : (n + 1) % 3 = 2) :
    E2 (k0_pay6 (F := Ideal) (iblk m c 2 ⟨n + 1, h⟩) (k0_pay3 (F := Ideal) (iblk m c 0 ⟨n + 1, h⟩) (iblk m c 1 ⟨n + 1, h⟩) (outsAt0 m c n (Nat.lt_of_succ_lt h)).2.2) (iblk m c 3 ⟨n + 1, h⟩)
      (iblk m c 4 ⟨n + 1, h⟩)) fun r j => dh H C W D G (512 * ((n + 1) / 3) + r) j :=
  pay6_E2 (iblk2_E2 m c R.H ⟨n + 1, h⟩) (pay3_at R n h h1) (iblk3_E2 m c R.G ⟨n + 1, h⟩) (iblk4_E2 m c R.D ⟨n + 1, h⟩)

theorem col_at (n : ℕ) (h : n + 1 < cfg0.N) (h1 : (n + 1) % 3 = 2) :
    E2 (k0_pay7 (F := Ideal) (iblk m c 2 ⟨n + 1, h⟩) (k0_pay3 (F := Ideal) (iblk m c 0 ⟨n + 1, h⟩) (iblk m c 1 ⟨n + 1, h⟩) (outsAt0 m c n (Nat.lt_of_succ_lt h)).2.2))
      fun _ j => ∑ r ∈ Finset.range 512, dg H C W j (512 * ((n + 1) / 3) + r) :=
  pay7_E2 (iblk2_E2 m c R.H ⟨n + 1, h⟩) (pay3_at R n h h1)

/-- The gradient of the rows, at a tile's last point. -/
theorem out5 : ∀ (n : ℕ) (h : n < cfg0.N) (_ : n % 3 = 2), E2 (outsAt0 m c n h).1 fun r j => dh H C W D G (512 * (n / 3) + r) j
  | 0, _, h1 => absurd h1 (by decide)
  | n + 1, h, h1 => by
    by_cases h3 : n + 1 < 3
    · rw [outsAt0_C m c ⟨n + 1, h⟩ (by show ¬ (n + 1) % 3 = 0; omega) (by show 1 ≤ (n + 1) % 3; omega) h1 h3 (by show ¬ 3 ≤ n + 1; omega)]
      dsimp only
      rw [out_C5]
      exact row_at R n h h1
    · rw [outsAt0_D m c ⟨n + 1, h⟩ (by show ¬ (n + 1) % 3 = 0; omega) (by show 1 ≤ (n + 1) % 3; omega) h1 h3 (by show 3 ≤ n + 1; omega)]
      dsimp only
      rw [out_D5]
      exact row_at R n h h1

/-- The gradient of the scale, after the tiles so far. -/
theorem out6 : ∀ (n : ℕ) (h : n < cfg0.N) (_ : 2 ≤ n), E2 (outsAt0 m c n h).2.1 fun _ j => ∑ i ∈ Finset.range ((n + 1) / 3), ∑ r ∈ Finset.range 512, dg H C W j (512 * i + r)
  | 0, _, h1 => absurd h1 (by decide)
  | n + 1, h, hn => by
    by_cases h0 : (n + 1) % 3 = 0
    · rw [outsAt0_A m c ⟨n + 1, h⟩ h0 (by show ¬ 1 ≤ (n + 1) % 3; omega) (by show ¬ (n + 1) % 3 = 2; omega)]
      dsimp only
      refine (out6 n (Nat.lt_of_succ_lt h) (by omega)).congr fun _ _ j _ => ?_
      rw [show (n + 1 + 1) / 3 = (n + 1) / 3 by omega]
    · by_cases h2 : (n + 1) % 3 = 2
      · have e : (n + 1 + 1) / 3 = (n + 1) / 3 + 1 := by omega
        by_cases h3 : n + 1 < 3
        · rw [outsAt0_C m c ⟨n + 1, h⟩ h0 (by show 1 ≤ (n + 1) % 3; omega) h2 h3 (by show ¬ 3 ≤ n + 1; omega)]
          dsimp only
          rw [out_C6]
          refine (col_at R n h h2).congr fun _ _ j _ => ?_
          rw [e, show (n + 1) / 3 = 0 by omega]
          exact (Finset.sum_range_one (fun i => ∑ r ∈ Finset.range 512, dg H C W j (512 * i + r))).symm
        · rw [outsAt0_D m c ⟨n + 1, h⟩ h0 (by show 1 ≤ (n + 1) % 3; omega) h2 h3 (by show 3 ≤ n + 1; omega)]
          dsimp only
          rw [out_D6]
          refine (pay4_E2 (col_at R n h h2) (out6 n (Nat.lt_of_succ_lt h) (by omega))).congr fun _ _ j _ => ?_
          rw [e]
          exact (Finset.sum_range_succ (fun i => ∑ r ∈ Finset.range 512, dg H C W j (512 * i + r)) ((n + 1) / 3)).symm
      · rw [outsAt0_B m c ⟨n + 1, h⟩ h0 (by show 1 ≤ (n + 1) % 3; omega) h2]
        dsimp only
        refine (out6 n (Nat.lt_of_succ_lt h) (by omega)).congr fun _ _ j _ => ?_
        rw [show (n + 1 + 1) / 3 = (n + 1) / 3 by omega]

/-! The arrays after the run. -/

theorem final5 (i : S8192x1024.Idx) : ((dats m 0 c).arrAt 5 cfg0.N : Vec Ideal S8192x1024 .f32) i = dh H C W D G (i 0).val (i 1).val := by
  refine (dats m 0 c).arrAt_forall_of_cover 5 (fun (i : S8192x1024.Idx) (x : EReal) => x = dh H C W D G (i 0).val (i 1).val) (fun t hf y => ?_) (fun i => ?_) i
  · change S512x1024.Idx at y
    have hN : t.val < 48 := t.isLt
    have h0 : (y 0).val < 512 := (y 0).isLt
    rw [emb5 t y (by omega)]
    show (dats m 0 c).after 5 t y = _
    rw [after0_5]
    exact (congrArg (outsAt0 m c t.val t.isLt).1 (eq_ix2 y)).trans (out5 R t.val t.isLt ((flush0_5 t).mp hf) (y 0) (y 1))
  · have h0 : (i 0).val < 8192 := (i 0).isLt
    have hN : 3 * ((i 0).val / 512) + 2 < cfg0.N := by show _ < 48; omega
    refine ⟨⟨3 * ((i 0).val / 512) + 2, hN⟩, (flush0_5 _).mpr (by show (3 * ((i 0).val / 512) + 2) % 3 = 2; omega), ?_⟩
    have hm := ((cfg0.win 5).blk ⟨3 * ((i 0).val / 512) + 2, hN⟩).view.emb_mem_set (ix2 ⟨(i 0).val % 512, by omega⟩ (i 1) : S512x1024.Idx)
    rw [emb5 _ _ (by show 512 * ((3 * ((i 0).val / 512) + 2) / 3) + (i 0).val % 512 < 8192; omega)] at hm
    refine (congrArg (· ∈ _) ?_).mp hm
    funext x; apply Fin.ext
    match x with
    | ⟨0, _⟩ => show 512 * ((3 * ((i 0).val / 512) + 2) / 3) + (i 0).val % 512 = (i 0).val; omega
    | ⟨1, _⟩ => rfl

theorem final6 (i : S1x1024.Idx) : ((dats m 0 c).arrAt 6 cfg0.N : Vec Ideal S1x1024 .f32) i = ∑ r ∈ Finset.range 8192, dg H C W (i 1).val r := by
  refine (dats m 0 c).arrAt_forall_of_cover 6 (fun (i : S1x1024.Idx) (x : EReal) => x = ∑ r ∈ Finset.range 8192, dg H C W (i 1).val r) (fun t hf y => ?_) (fun i => ?_) i
  · change S1x1024.Idx at y
    have hN : t.val < 48 := t.isLt
    have h3 : t.val % 48 = 47 := (flush0_6 t).mp hf
    rw [emb6 t y]
    show (dats m 0 c).after 6 t y = _
    rw [after0_6]
    refine (congrArg (outsAt0 m c t.val t.isLt).2.1 (eq_ix2 y)).trans ((out6 R t.val t.isLt (by omega) (y 0) (y 1)).trans ?_)
    refine ((sum_tiles (fun r => dg H C W (y 1).val r) ((t.val + 1) / 3)).trans ?_)
    rw [show 512 * ((t.val + 1) / 3) = 8192 by omega]
  · refine ⟨⟨47, by decide⟩, (flush0_6 _).mpr rfl, ?_⟩
    have hm := ((cfg0.win 6).blk ⟨47, by decide⟩).view.emb_mem_set (i : S1x1024.Idx)
    rw [emb6] at hm
    exact hm

end Grid

end Cert.ConvBackIdeal.Cb

end
-- ==== Proof.Cb.Ref.lean ====
/- The reference's two results, over arrays that functions of row and column give. -/
module

public import proofs.«01_k».proof.Proof.Cb.Out
public import proofs.«01_k».proof.Proof.Ub.Ref
public import proofs.«01_k».proof.Proof.Gen.ConvBackReferenceIdeal.Read

@[expose] public section

set_option maxRecDepth 16384

noncomputable section

namespace Cert.ConvBackReferenceIdeal.Cb

open Cert.ConvBackReferenceIdeal Cert.ConvBackReferenceIdeal.Read
open Idealize.ShloMosaic
open Cert.UpBackIdeal.Ub (eps width ms rho dot)
open Cert.ConvBackIdeal.Cb (prod dy dh dg)
open Cert.UpBackReferenceIdeal.Ub (half through under zero_add_c add_c mul_c div_c rsqrt_c width_c eps_c half_c)
open scoped BigOperators

section Values
variable {H C W D : ℕ → ℕ → EReal} {G : ℕ → EReal}
variable {x0 : (⟨S8192x1024, .f32⟩ : BufTy).Contents (Elt Ideal)} {x1 : (⟨S1024, .f32⟩ : BufTy).Contents (Elt Ideal)} {x2 : (⟨S1024x3072, .f32⟩ : BufTy).Contents (Elt Ideal)}
  {x3 : (⟨S8192x3072, .f32⟩ : BufTy).Contents (Elt Ideal)} {x4 : (⟨S8192x1024, .f32⟩ : BufTy).Contents (Elt Ideal)}

theorem dy_eq (r j : ℕ) : ∑ k ∈ Finset.range 3072, C r k * W j k = dy C W r j := by
  rw [show 3072 = 1024 + 1024 + 1024 from rfl, Finset.sum_range_add, Finset.sum_range_add]
  unfold dy prod
  simp only [Nat.mul_zero, Nat.zero_add, Nat.mul_one]

variable (h0 : ∀ i : S8192x1024.Idx, @Eq EReal (x0 i) (H (i 0).val (i 1).val)) (h1 : ∀ i : S1024.Idx, @Eq EReal (x1 i) (G (i 0).val))
  (h2 : ∀ i : S1024x3072.Idx, @Eq EReal (x2 i) (W (i 0).val (i 1).val)) (h3 : ∀ i : S8192x3072.Idx, @Eq EReal (x3 i) (C (i 0).val (i 1).val))
  (h4 : ∀ i : S8192x1024.Idx, @Eq EReal (x4 i) (D (i 0).val (i 1).val))

section
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v6_eq (i : S8192x1.Idx) : @Eq EReal (val_main_v6 (F := Ideal) x0 i) (ms H (i 0).val + eps) := by
  rw [val_main_v6_apply, val_main_v4_apply, val_main_v2_apply, v1_eq h0, val_main_v3_apply, val_main_cst_0_apply, val_main_v5_apply, val_main_cst_1_apply, width_c, eps_c, div_c, add_c]
  rfl

theorem v7_eq (i : S8192x1.Idx) : @Eq EReal (val_main_v7 (F := Ideal) x0 i) (rho H (i 0).val) := by
  rw [val_main_v7_apply, v6_eq h0, rsqrt_c]
  rfl

theorem v10_eq (i : S8192x1.Idx) : @Eq EReal (val_main_v10 (F := Ideal) x0 i) (half * Ideal.div (rho H (i 0).val) (ms H (i 0).val + eps)) := by
  rw [val_main_v10_apply, val_main_v9_apply, val_main_cst_2_apply, val_main_v8_apply, v7_eq h0, v6_eq h0, half_c, div_c, mul_c]

theorem v12_eq (i : S8192x1024.Idx) : @Eq EReal (val_main_v12 (F := Ideal) x0 i) (H (i 0).val (i 1).val * rho H (i 0).val) := by
  rw [val_main_v12_apply, val_main_v11_apply, h0, v7_eq h0, mul_c]

end

section
include h2 h3

theorem v17_eq (i : S8192x1024.Idx) : @Eq EReal (val_main_v17 (F := Ideal) x2 x3 i) (dy C W (i 0).val (i 1).val) := by
  rw [val_main_v17_apply, ← dy_eq]
  refine Eq.trans (Finset.sum_congr rfl fun k _ => ?_) (Finset.sum_range fun k => C (i 0).val k * W (i 1).val k).symm
  exact congrArg₂ (fun a b : EReal => a * b) (h3 _) (h2 _)

include h0 in
theorem v19_eq (i : S1024.Idx) : @Eq EReal (val_main_v19 (F := Ideal) x0 x2 x3 i) (∑ r ∈ Finset.range 8192, dg H C W (i 0).val r) := by
  rw [val_main_v19_apply, val_main_cst_3_apply, zero_add_c]
  refine Eq.trans (Finset.sum_congr rfl fun k _ => ?_) (Finset.sum_range fun r => dg H C W (i 0).val r).symm
  rw [val_main_v18_apply, v12_eq h0, v17_eq h2 h3, mul_c]
  show H k.val (i 0).val * rho H k.val * dy C W k.val (i 0).val = dy C W k.val (i 0).val * H k.val (i 0).val * rho H k.val
  rw [mul_comm (H k.val (i 0).val * rho H k.val), mul_assoc]

include h0 in
/-- The gradient of the scale. -/
theorem v39_eq (i : S1x1024.Idx) : @Eq EReal (val_main_v39 (F := Ideal) x0 x2 x3 i) (∑ r ∈ Finset.range 8192, dg H C W (i 1).val r) := by
  rw [val_main_v39_apply, val_main_v23_apply, val_main_cst_4_apply, zero_add_c, Fin.sum_univ_one, val_main_v20_apply, v19_eq h0 h2 h3,
    show (idx_main_v20 (idx_main_v23 (idx_main_v39 i) 0) 0).val = (i 1).val by show 0 * 1024 + (i 1).val = (i 1).val; omega]

include h1

theorem v22_eq (i : S8192x1024.Idx) : @Eq EReal (val_main_v22 (F := Ideal) x1 x2 x3 i) (dy C W (i 0).val (i 1).val * G (i 1).val) := by
  rw [val_main_v22_apply, v17_eq h2 h3, val_main_v21_apply, val_main_v13_apply, h1, mul_c]

include h0

theorem v25_eq (i : S8192.Idx) : @Eq EReal (val_main_v25 (F := Ideal) x0 x1 x2 x3 i) (∑ d ∈ Finset.range 1024, dy C W (i 0).val d * G d * H (i 0).val d) := by
  rw [val_main_v25_apply, val_main_cst_5_apply, zero_add_c]
  refine Eq.trans (Finset.sum_congr rfl fun k _ => ?_) (Finset.sum_range fun d => dy C W (i 0).val d * G d * H (i 0).val d).symm
  rw [val_main_v24_apply, h0, v22_eq h1 h2 h3, mul_c, mul_comm]

theorem v34_eq (i : S8192x1024.Idx) : @Eq EReal (val_main_v34 (F := Ideal) x0 x1 x2 x3 i)
    (Ideal.div ((∑ d ∈ Finset.range 1024, dy C W (i 0).val d * G d * H (i 0).val d) * (half * Ideal.div (rho H (i 0).val) (ms H (i 0).val + eps))) width) := by
  rw [val_main_v34_apply, val_main_v33_apply, val_main_cst_7_apply, zero_add_c, Fin.sum_univ_one, val_main_v32_apply, val_main_v30_apply, val_main_v26_apply, v25_eq h0 h1 h2 h3, v10_eq h0,
    val_main_v31_apply, val_main_cst_6_apply, width_c, mul_c, div_c,
    show (idx_main_v26 (idx_main_v33 (idx_main_v34 i) 0) 0).val = (i 0).val by show (i 0).val * 1 + 0 = (i 0).val; omega]

include h4 in
/-- The gradient of the rows. -/
theorem v38_eq (i : S8192x1024.Idx) : @Eq EReal (val_main_v38 (F := Ideal) x0 x1 x2 x3 x4 i) (dh H C W D G (i 0).val (i 1).val) := by
  rw [val_main_v38_apply, val_main_v36_apply, val_main_v29_apply, val_main_v28_apply, val_main_v35_apply, val_main_v37_apply, val_main_v27_apply, v34_eq h0 h1 h2 h3, v22_eq h1 h2 h3, v7_eq h0, h4, h0]
  refine Eq.trans ?_ (through (D (i 0).val (i 1).val + rho H (i 0).val * (dy C W (i 0).val (i 1).val * G (i 1).val)) _ (H (i 0).val (i 1).val) _ (under H (i 0).val))
  rw [mul_comm (rho H (i 0).val)]
  rfl

end

end Values

end Cert.ConvBackReferenceIdeal.Cb

end
-- ==== Proof.Cb.Final.lean ====
/- The two gradients the backward kernel ends with are the reference's. -/
module

public import proofs.«01_k».proof.Defs
public import proofs.«01_k».proof.Proof.Cb.Ref
public import proofs.«01_k».proof.Proof.Ub.Final
public import proofs.«01_k».proof.Proof.Cg.Thirds
public import proofs.«01_k».proof.Proof.Gen.ConvBackReferenceIdeal.Run
public import Idealize.ShloMosaic.Lib.StableHlo.RunRead
public import Idealize.ShloMosaic.Lib.Pointwise

@[expose] public section

set_option maxRecDepth 16384

noncomputable section

namespace Cert.ConvBackIdeal.Cb

open Cert.ConvBackIdeal Cert.ConvBackIdeal.Gen
open Idealize.ShloMosaic Idealize.ShloMosaic.TcCoe
open Idealize.SL.Sem
open Cert.UpBackIdeal.Ub (E2 at2_eq at1_eq)
open Cert.ConvGradIdeal.Cg (thirds)
open scoped BigOperators

section Results
variable (m : (ℓ : Loc nD τ sig) → Buf (Elt Ideal) ℓ) (c : Dev nD) (g : Dev nD → PrngReg)

/-- The two thirds of the gradient's columns, one after the other, -/
theorem V_v7 : (V m c main_v7 : Vec Ideal S3x8192x1024 .bf16) = (truncf (F := Ideal) .bf16 (concatenate S3x8192x1024 0
      [⟨S1x8192x1024, broadcastInDim S1x8192x1024 ![1, 2] bcast_S8192x1024_S1x8192x1024_1_2 (extractStridedSlice S8192x1024 ![0, 0] (m ((c : Thread nD τ).loc main_arg3) : Vec Ideal S8192x3072 .f32) slices_S8192x3072_S8192x1024_0_0)⟩,
       ⟨S1x8192x1024, broadcastInDim S1x8192x1024 ![1, 2] bcast_S8192x1024_S1x8192x1024_1_2 (extractStridedSlice S8192x1024 ![0, 1024] (m ((c : Thread nD τ).loc main_arg3) : Vec Ideal S8192x3072 .f32) slices_S8192x3072_S8192x1024_0_1024)⟩,
       ⟨S1x8192x1024, broadcastInDim S1x8192x1024 ![1, 2] bcast_S8192x1024_S1x8192x1024_1_2 (extractStridedSlice S8192x1024 ![0, 2048] (m ((c : Thread nD τ).loc main_arg3) : Vec Ideal S8192x3072 .f32) slices_S8192x3072_S8192x1024_0_2048)⟩]
      concatenates_S1x8192x1024_S1x8192x1024_S1x8192x1024_S3x8192x1024_d0) bitsLt_bf16_f32 : FVec Ideal S3x8192x1024 .bf16) := by
  unfold V
  simp only [List.flatten_cons, List.flatten_nil, List.append_nil, List.cons_append, List.nil_append, hostOps0]
  after_reads_simp
  rfl

/-- the rounded weights, -/
theorem V_v8 : (V m c main_v8 : Vec Ideal S1024x3072 .bf16) = (truncf (F := Ideal) .bf16 (m ((c : Thread nD τ).loc main_arg2) : FVec Ideal S1024x3072 .f32) bitsLt_bf16_f32 : FVec Ideal S1024x3072 .bf16) := by
  unfold V
  simp only [List.flatten_cons, List.flatten_nil, List.append_nil, List.cons_append, List.nil_append, hostOps0]
  after_reads_simp

/-- and the scale as a row. -/
theorem V_v9 : (V m c main_v9 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

variable {H C W D : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x3072.Idx, @Eq EReal ((m ((c : Thread nD τ).loc main_arg2) : Vec Ideal S1024x3072 .f32) i) (W (i 0).val (i 1).val))
    (h3 : ∀ i : S8192x3072.Idx, @Eq EReal ((m ((c : Thread nD τ).loc main_arg3) : Vec Ideal S8192x3072 .f32) i) (C (i 0).val (i 1).val))
    (h4 : ∀ i : S8192x1024.Idx, @Eq EReal ((m ((c : Thread nD τ).loc main_arg4) : Vec Ideal S8192x1024 .f32) i) (D (i 0).val (i 1).val)) : Reads m c H C W D G where
  C s r k := by
    rw [V_v7]
    exact (thirds (m ((c : Thread nD τ).loc main_arg3) : Vec Ideal S8192x3072 .f32) s r k ⟨1024 * s.val + k.val, by omega⟩ rfl).trans (h3 _)
  W r j := by
    rw [V_v8]
    exact h2 (ValueIdx.ix2 r j)
  H r j := by
    rw [V_main_arg0]
    exact h0 (ValueIdx.ix2 r j)
  G r j := by
    rw [V_v9]
    refine Eq.trans (congrArg (m ((c : Thread nD τ).loc main_arg1) : Vec Ideal S1024 .f32) (funext fun y => Fin.ext ?_)) (h1 (ValueIdx.ix1 j))
    match y with
    | ⟨0, _⟩ => rfl
  D r j := by
    rw [V_main_arg4]
    exact h4 (ValueIdx.ix2 r j)

/-- The two results the kernel ends with, -/
def res0 : Buf (Elt Ideal) ((c.tc : Thread nD τ).loc main_v10_0) := (dats m 0 c).arrAt 5 cfg0.N
def res1 : Buf (Elt Ideal) ((c.tc : Thread nD τ).loc main_v10_1) := (dats m 0 c).arrAt 6 cfg0.N

/-- which are the reference's. -/
theorem same :
    Cert.ConvBackReferenceIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = res0 m c
    ∧ Cert.ConvBackReferenceIdeal.Read.val_main_v39 (F := Ideal) (m ((c : Thread nD τ).loc main_arg0)) (m ((c : Thread nD τ).loc main_arg2)) (m ((c : Thread nD τ).loc main_arg3)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x3072 .f32)
  have h3 := at2_eq (m ((c : Thread nD τ).loc main_arg3) : Vec Ideal S8192x3072 .f32)
  have h4 := at2_eq (m ((c : Thread nD τ).loc main_arg4) : Vec Ideal S8192x1024 .f32)
  have R := reads m c h0 h1 h2 h3 h4
  constructor
  · refine funext fun (i : S8192x1024.Idx) => ?_
    exact (Cert.ConvBackReferenceIdeal.Cb.v38_eq h0 h1 h2 h3 h4 i).trans (final5 R i).symm
  · refine funext fun (i : S1x1024.Idx) => ?_
    exact (Cert.ConvBackReferenceIdeal.Cb.v39_eq h0 h2 h3 i).trans (final6 R i).symm

end Results

theorem algebraic : Cert.algebraic_ConvBackIdeal_ConvBackReferenceIdeal := fun m g m' g' _ ha =>
  ⟨res0 m, res1 m, Value.run_blocks m g, (θ_run Cert.ConvBackReferenceIdeal.defs _ _).mono (fun r h c =>
    ⟨(h c).1.trans (by rw [Cert.ConvBackReferenceIdeal.Read.val_main_v38_eq, (ha c).1, (ha c).2.1, (ha c).2.2.1, (ha c).2.2.2.1, (ha c).2.2.2.2]; exact (same m c).1),
     (h c).2.1.trans (by rw [Cert.ConvBackReferenceIdeal.Read.val_main_v39_eq, (ha c).1, (ha c).2.2.1, (ha c).2.2.2.1]; exact (same m c).2), (h c).2.2⟩)
    (Cert.ConvBackReferenceIdeal.Value.run (F := Ideal) m' g')⟩

end Cert.ConvBackIdeal.Cb

end
-- ==== Proof.Mg.Out.lean ====
/- What the weight gradient's grid leaves: each block of the result is the sum, over the row tiles, of the products of a
   tile of each operand, so each element is the sum over all the rows. -/
module

public import proofs.«01_k».proof.Proof.Gen.MixGradIdeal.Value
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.MixGradIdeal.Mg

open Cert.MixGradIdeal Cert.MixGradIdeal.Gen
open Idealize.ShloMosaic Idealize.ShloMosaic.TcCoe Idealize.ShloMosaic.ValueIdx
open scoped BigOperators

/-! An array read at natural numbers. -/

def rd2 {a b : ℕ} (x : (⟨2, ![a, b]⟩ : Shape).Idx → EReal) (i j : ℕ) : EReal := if h : i < a ∧ j < b then x (ix2 ⟨i, h.1⟩ ⟨j, h.2⟩) else 0
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem rd2_at {a b : ℕ} (x : (⟨2, ![a, b]⟩ : Shape).Idx → EReal) (i : Fin a) (j : Fin b) : rd2 x i.val j.val = x (ix2 i j) := dif_pos ⟨i.isLt, j.isLt⟩
theorem rd3_at {a b d : ℕ} (x : (⟨3, ![a, b, d]⟩ : Shape).Idx → EReal) (i : Fin a) (j : Fin b) (k : Fin d) : rd3 x i.val j.val k.val = x (ix3 i j k) :=
  dif_pos ⟨i.isLt, j.isLt, k.isLt⟩

/-! A point's product. -/

theorem tn_apply (a : FVec Ideal S2048x512 .bf16) (b : FVec Ideal S2048x512 .bf16) (i : Fin 512) (j : Fin 512) :
    matmul dot_S2048x512_S2048x512_S512x512_0_0_1_1_n_n none a b (constant (F := Ideal) S512x512 .f32 0x00000000#32) (ix2 i j)
      = ∑ k : Fin 2048, (a (ix2 k i) : EReal) * b (ix2 k j) := by
  refine (Ideal.matmul_apply _ none a b _ (ix2 i j)).trans ?_
  rw [show constant (F := Ideal) S512x512 .f32 0x00000000#32 (ix2 i j) = (0 : EReal) from Ideal.ofBits_zero_f32, zero_add,
    ← Equiv.sum_comp (contrEquiv1 dot_S2048x512_S2048x512_S512x512_0_0_1_1_n_n 2048 rfl rfl).symm]
  refine Finset.sum_congr rfl fun k _ => congrArg₂ (fun y z : EReal => y * z) (congrArg a (funext fun x => Fin.ext ?_)) (congrArg b (funext fun x => Fin.ext ?_))
  · have hk := contrEquiv1_symm_val dot_S2048x512_S2048x512_S512x512_0_0_1_1_n_n 2048 rfl rfl k
    match x with
    | ⟨0, _⟩ => exact hk
    | ⟨1, _⟩ => rfl
  · have hk := contrEquiv1_symm_val dot_S2048x512_S2048x512_S512x512_0_0_1_1_n_n 2048 rfl rfl k
    match x with
    | ⟨0, _⟩ => exact hk
    | ⟨1, _⟩ => rfl

theorem cast_at (x : FVec Ideal S1x2048x512 .f32) (h : S1x2048x512.ShapeCasts S2048x512) (k : Fin 2048) (j : Fin 512) :
    shapeCast S2048x512 x h (ix2 k j) = x (ix3 0 k j) :=
  shapeCast_1ab_ab_apply x h k j

theorem pay1_at (x : Vec Ideal S2048x512 .bf16) (y : Vec Ideal S1x2048x512 .f32) (i : Fin 512) (j : Fin 512) :
    k0_pay1 (F := Ideal) x y (ix2 i j) = ∑ k : Fin 2048, (x (ix2 k i) : EReal) * y (ix3 0 k j) := by
  unfold k0_pay1
  rw [shapeCast_self]
  refine (tn_apply _ _ i j).trans (Finset.sum_congr rfl fun k _ => ?_)
  exact congrArg (fun z : EReal => (x (ix2 k i) : EReal) * z) (cast_at y _ k j)

/-! What each case leaves. -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S2048x512 .bf16) (h1 : a1.IsWhole) (a2 : Memref sig .tc .vmem S1x2048x512 .f32) (h2 : a2.IsWhole)
    (a3 : Memref sig .tc .vmem S512x512 .f32) (h3 : a3.IsWhole) (hc0 : cond0_0 i) (hc1 : ¬cond0_1 i) (x : Vec F S2048x512 .bf16) (y : Vec F S1x2048x512 .f32) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero hz2]
  simp only [View.readAt_eq_ld, h1.read_unread, h2.read_unread, View.ld_unit_zero (S := S2048x512) hz2, View.ld_unit_zero (S := S1x2048x512) hz3]

theorem out_B (c : Dev nD) (i : grid0.Coords) (a1 : Memref sig .tc .vmem S2048x512 .bf16) (h1 : a1.IsWhole) (a2 : Memref sig .tc .vmem S1x2048x512 .f32) (h2 : a2.IsWhole)
    (a3 : Memref sig .tc .vmem S512x512 .f32) (h3 : a3.IsWhole) (hc0 : ¬cond0_0 i) (hc1 : cond0_1 i) (x : Vec F S2048x512 .bf16) (y : Vec F S1x2048x512 .f32) (o : Vec F S512x512 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero hz2]
  simp only [View.readAt_eq_ld, h1.read_unread, h2.read_unread, h3.read_unread, View.ld_unit_zero (S := S2048x512) hz2, View.ld_unit_zero (S := S1x2048x512) hz3,
    View.ld_unit_zero (S := S512x512) hz2]

end Cases

/-! The grid. -/

section Grid
variable (m : (ℓ : Loc nD τ sig) → Buf (Elt Ideal) ℓ) (c : Dev nD)

/-- The two operands. -/
def X : ℕ → ℕ → EReal := rd2 (V m c main_v0 : Vec Ideal S8192x1024 .bf16)
def Y : ℕ → ℕ → ℕ → EReal := rd3 (V m c main_v1 : Vec Ideal S1x8192x1024 .f32)

theorem idx0 : ∀ t : Fin grid0.N, win0_0.index t (0 : Fin 2) = t.val % 4 ∧ win0_0.index t (1 : Fin 2) = t.val / 8 := by decide +kernel
theorem idx1 : ∀ t : Fin grid0.N, win0_1.index t (0 : Fin 3) = 0 ∧ win0_1.index t (1 : Fin 3) = t.val % 4 ∧ win0_1.index t (2 : Fin 3) = t.val / 4 % 2 := by decide +kernel
theorem idx2 : ∀ t : Fin grid0.N, win0_2.index t (0 : Fin 2) = t.val / 8 ∧ win0_2.index t (1 : Fin 2) = t.val / 4 % 2 := by decide +kernel

theorem iblk0_at (t : Fin cfg0.N) (k : Fin 2048) (i : Fin 512) : (iblk m c 0 t : Vec Ideal S2048x512 .bf16) (ix2 k i) = X m c (2048 * (t.val % 4) + k.val) (512 * (t.val / 8) + i.val) := by
  obtain ⟨e0, e1⟩ := idx0 t
  have hN : t.val < 16 := t.isLt
  refine Eq.trans ?_ (rd2_at (V m c main_v0 : Vec Ideal S8192x1024 .bf16) ⟨2048 * (t.val % 4) + k.val, by omega⟩ ⟨512 * (t.val / 8) + i.val, by omega⟩).symm
  refine congrArg (V m c main_v0 : Vec Ideal S8192x1024 .bf16) (funext fun a => Fin.ext ?_)
  match a with
  | ⟨0, _⟩ => show win0_0.index t (0 : Fin 2) * 2048 + 1 * k.val = 2048 * (t.val % 4) + k.val; omega
  | ⟨1, _⟩ => show win0_0.index t (1 : Fin 2) * 512 + 1 * i.val = 512 * (t.val / 8) + i.val; omega

theorem iblk1_at (t : Fin cfg0.N) (k : Fin 2048) (j : Fin 512) : (iblk m c 1 t : Vec Ideal S1x2048x512 .f32) (ix3 0 k j)
    = Y m c (0) (2048 * (t.val % 4) + k.val) (512 * (t.val / 4 % 2) + j.val) := by
  obtain ⟨e0, e1, e2⟩ := idx1 t
  refine Eq.trans ?_ (rd3_at (V m c main_v1 : Vec Ideal S1x8192x1024 .f32) 0 ⟨2048 * (t.val % 4) + k.val, by omega⟩ ⟨512 * (t.val / 4 % 2) + j.val, by omega⟩).symm
  refine congrArg (V m c main_v1 : Vec Ideal S1x8192x1024 .f32) (funext fun a => Fin.ext ?_)
  match a with
  | ⟨0, _⟩ => show win0_1.index t (0 : Fin 3) * 1 + 1 * 0 = 0; omega
  | ⟨1, _⟩ => show win0_1.index t (1 : Fin 3) * 2048 + 1 * k.val = 2048 * (t.val % 4) + k.val; omega
  | ⟨2, _⟩ => show win0_1.index t (2 : Fin 3) * 512 + 1 * j.val = 512 * (t.val / 4 % 2) + j.val; omega

theorem emb2 (t : Fin cfg0.N) (y : S512x512.Idx) (h0 : 512 * (t.val / 8) + (y 0).val < 1024) (h1 : 512 * (t.val / 4 % 2) + (y 1).val < 1024) :
    ((cfg0.win 2).blk t).view.emb y = (ix2 ⟨512 * (t.val / 8) + (y 0).val, h0⟩ ⟨512 * (t.val / 4 % 2) + (y 1).val, h1⟩ : S1024x1024.Idx) := by
  obtain ⟨e0, e1⟩ := idx2 t
  funext a; apply Fin.ext
  match a with
  | ⟨0, _⟩ => show win0_2.index t (0 : Fin 2) * 512 + 1 * (y 0).val = 512 * (t.val / 8) + (y 0).val; omega
  | ⟨1, _⟩ => show win0_2.index t (1 : Fin 2) * 512 + 1 * (y 1).val = 512 * (t.val / 4 % 2) + (y 1).val; omega

/-- The products of row tile `s` of the blocks at a point. -/
def part (n i j s : ℕ) : EReal := ∑ k ∈ Finset.range 2048, X m c (2048 * s + k) (512 * (n / 8) + i) * Y m c (0) (2048 * s + k) (512 * (n / 4 % 2) + j)

theorem pay_at (t : Fin cfg0.N) (i : Fin 512) (j : Fin 512) : k0_pay1 (F := Ideal) (iblk m c 0 t) (iblk m c 1 t) (ix2 i j) = part m c t.val i.val j.val (t.val % 4) := by
  refine (pay1_at _ _ i j).trans ?_
  unfold part
  rw [Finset.sum_range]
  exact Finset.sum_congr rfl fun k _ => congrArg₂ (fun y z : EReal => y * z) (iblk0_at m c t k i) (iblk1_at m c t k j)

theorem outs_at : ∀ (n : ℕ) (h : n < cfg0.N) (i : Fin 512) (j : Fin 512), outsAt0 m c n h (ix2 i j) = ∑ s ∈ Finset.range (n % 4 + 1), part m c n i.val j.val s
  | 0, h, i, j => by
    rw [outsAt0_A m c ⟨0, h⟩ rfl (by show ¬ 1 ≤ 0 % 4; decide), out_A, pay_at]
    exact (Finset.sum_range_one _).symm
  | n + 1, h, i, j => by
    by_cases h0 : (n + 1) % 4 = 0
    · rw [outsAt0_A m c ⟨n + 1, h⟩ h0 (by show ¬ 1 ≤ (n + 1) % 4; omega), out_A, pay_at]
      show part m c (n + 1) i.val j.val ((n + 1) % 4) = _
      rw [h0]
      exact (Finset.sum_range_one _).symm
    · have e : (n + 1) % 4 = n % 4 + 1 := by omega
      rw [outsAt0_B m c ⟨n + 1, h⟩ h0 (by show 1 ≤ (n + 1) % 4; omega), out_B]
      unfold k0_pay2
      rw [shapeCast_self]
      refine (congrArg₂ (fun y z : EReal => y + z) (outs_at n (Nat.lt_of_succ_lt h) i j) (pay_at m c ⟨n + 1, h⟩ i j)).trans ?_
      show _ + part m c (n + 1) i.val j.val ((n + 1) % 4) = _
      rw [e, Finset.sum_range_succ (fun s => part m c (n + 1) i.val j.val s) (n % 4 + 1)]
      refine congrArg (· + part m c (n + 1) i.val j.val (n % 4 + 1)) (Finset.sum_congr rfl fun s _ => ?_)
      unfold part
      rw [show (n + 1) / 8 = n / 8 by omega, show (n + 1) / 4 = n / 4 by omega]

theorem sum_tiles {M : Type} [AddCommMonoid M] (f : ℕ → M) : ∑ s ∈ Finset.range 4, ∑ k ∈ Finset.range 2048, f (2048 * s + k) = ∑ r ∈ Finset.range 8192, f r := by
  have h : ∀ n, ∑ s ∈ Finset.range n, ∑ k ∈ Finset.range 2048, f (2048 * s + k) = ∑ r ∈ Finset.range (2048 * n), f r := by
    intro n
    induction n with
    | zero => rfl
    | succ n ih => rw [Finset.sum_range_succ, ih, Nat.mul_succ, Finset.sum_range_add]
  exact h 4

/-- The array after the run. -/
theorem final (i : S1024x1024.Idx) : ((dats m 0 c).arrAt 2 cfg0.N : Vec Ideal S1024x1024 .f32) i
    = ∑ r ∈ Finset.range 8192, X m c r (i 0).val * Y m c 0 r (i 1).val := by
  refine (dats m 0 c).arrAt_forall_of_cover 2 (fun (i : S1024x1024.Idx) (x : EReal) => x = ∑ r ∈ Finset.range 8192, X m c r (i 0).val * Y m c 0 r (i 1).val)
    (fun t hf y => ?_) (fun i => ?_) i
  · change S512x512.Idx at y
    have hN : t.val < 16 := t.isLt
    have h0 : (y 0).val < 512 := (y 0).isLt
    have h1 : (y 1).val < 512 := (y 1).isLt
    rw [emb2 t y (by omega) (by omega)]
    show (dats m 0 c).after 2 t y = _
    have h3 : t.val % 4 = 3 := (flush0_2 t).mp hf
    rw [after0_2]
    refine (congrArg (outsAt0 m c t.val t.isLt) (eq_ix2 y)).trans ((outs_at m c t.val t.isLt (y 0) (y 1)).trans ?_)
    rw [h3]
    refine (sum_tiles fun r => X m c r (512 * (t.val / 8) + (y 0).val) * Y m c (0) r (512 * (t.val / 4 % 2) + (y 1).val)).trans ?_
    rfl
  · have h0 : (i 0).val < 1024 := (i 0).isLt
    have h1 : (i 1).val < 1024 := (i 1).isLt
    have hN : 8 * ((i 0).val / 512) + 4 * ((i 1).val / 512) + 3 < cfg0.N := by show _ < 16; omega
    refine ⟨⟨8 * ((i 0).val / 512) + 4 * ((i 1).val / 512) + 3, hN⟩, (flush0_2 _).mpr (by show (8 * ((i 0).val / 512) + 4 * ((i 1).val / 512) + 3) % 4 = 3; omega), ?_⟩
    have hm := ((cfg0.win 2).blk ⟨8 * ((i 0).val / 512) + 4 * ((i 1).val / 512) + 3, hN⟩).view.emb_mem_set (ix2 ⟨(i 0).val % 512, by omega⟩ ⟨(i 1).val % 512, by omega⟩ : S512x512.Idx)
    rw [emb2 _ _ (by show 512 * ((8 * ((i 0).val / 512) + 4 * ((i 1).val / 512) + 3) / 8) + (i 0).val % 512 < 1024; omega)
      (by show 512 * ((8 * ((i 0).val / 512) + 4 * ((i 1).val / 512) + 3) / 4 % 2) + (i 1).val % 512 < 1024; omega)] at hm
    refine (congrArg (· ∈ _) ?_).mp hm
    funext x; apply Fin.ext
    match x with
    | ⟨0, _⟩ => show 512 * ((8 * ((i 0).val / 512) + 4 * ((i 1).val / 512) + 3) / 8) + (i 0).val % 512 = (i 0).val; omega
    | ⟨1, _⟩ => show 512 * ((8 * ((i 0).val / 512) + 4 * ((i 1).val / 512) + 3) / 4 % 2) + (i 1).val % 512 = (i 1).val; omega

end Grid

end Cert.MixGradIdeal.Mg

end
-- ==== Proof.Mg.Final.lean ====
/- The weight gradient the kernel ends with is the reference's. -/
module

public import proofs.«01_k».proof.Defs
public import proofs.«01_k».proof.Proof.Mg.Out
public import proofs.«01_k».proof.Proof.Gen.MixGradReferenceIdeal.Run
public import proofs.«01_k».proof.Proof.Gen.MixGradReferenceIdeal.Read
public import Idealize.ShloMosaic.Lib.StableHlo.RunRead
public import Idealize.ShloMosaic.Lib.Pointwise

@[expose] public section

set_option maxRecDepth 16384

noncomputable section

namespace Cert.MixGradIdeal.Mg

open Cert.MixGradIdeal Cert.MixGradIdeal.Gen
open Idealize.ShloMosaic Idealize.ShloMosaic.TcCoe
open Idealize.SL.Sem
open scoped BigOperators

variable (m : (ℓ : Loc nD τ sig) → Buf (Elt Ideal) ℓ) (c : Dev nD) (g : Dev nD → PrngReg)

/-- The two operands the host lines prepare. -/
theorem V_v0 : (V m c main_v0 : Vec Ideal S8192x1024 .bf16) = (truncf (F := Ideal) .bf16 (m ((c : Thread nD τ).loc main_arg0) : FVec Ideal S8192x1024 .f32) bitsLt_bf16_f32 : FVec Ideal S8192x1024 .bf16) := by
  unfold V
  simp only [List.flatten_cons, List.flatten_nil, List.append_nil, List.cons_append, List.nil_append, hostOps0]
  after_reads_simp

theorem V_v1 : (V m c main_v1 : Vec Ideal S1x8192x1024 .f32) = broadcastInDim S1x8192x1024 ![1, 2] bcast_S8192x1024_S1x8192x1024_1_2 (m ((c : Thread nD τ).loc main_arg2) : Vec Ideal S8192x1024 .f32) := by
  unfold V
  simp only [List.flatten_cons, List.flatten_nil, List.append_nil, List.cons_append, List.nil_append, hostOps0]
  after_reads_simp

/-- The two operands as arrays of numbers. -/
def ct : S8192x1024.Idx → EReal := (m ((c : Thread nD τ).loc main_arg2) : Vec Ideal S8192x1024 .f32)
def nx : S8192x1024.Idx → EReal := (m ((c : Thread nD τ).loc main_arg0) : Vec Ideal S8192x1024 .f32)

theorem X_at (r : Fin 8192) (i : Fin 1024) : X m c r.val i.val = nx m c (ValueIdx.ix2 r i) := by
  unfold X
  rw [V_v0]
  exact rd2_at _ r i

theorem Y_at (r : Fin 8192) (k : Fin 1024) : Y m c 0 r.val k.val = ct m c (ValueIdx.ix2 r k) := by
  unfold Y
  rw [V_v1]
  refine (rd3_at _ (0 : Fin 1) r k).trans (congrArg (ct m c) (funext fun y => Fin.ext ?_))
  match y with
  | ⟨0, _⟩ => rfl
  | ⟨1, _⟩ => rfl

/-- The result the kernel ends with. -/
def res : Buf (Elt Ideal) ((c.tc : Thread nD τ).loc main_v2) := (dats m 0 c).arrAt 2 cfg0.N

theorem res_at (i : S1024x1024.Idx) : @Eq EReal (res m c i) (∑ r : Fin 8192, ct m c (ValueIdx.ix2 r (i 1)) * nx m c (ValueIdx.ix2 r (i 0))) := by
  have e : @Eq EReal (res m c i) (∑ r ∈ Finset.range 8192, X m c r (i 0).val * Y m c 0 r (i 1).val) := final m c i
  refine e.trans ?_
  rw [Finset.sum_range]
  refine Finset.sum_congr rfl fun r _ => ?_
  rw [mul_comm]
  exact congrArg₂ (fun y z : EReal => y * z) (Y_at m c r (i 1)) (X_at m c r (i 0))

variable (m' : (ℓ : Loc Cert.MixGradReferenceIdeal.nD Cert.MixGradReferenceIdeal.τ Cert.MixGradReferenceIdeal.sig) → Buf (Elt Ideal) ℓ)

theorem same : Cert.MixGradReferenceIdeal.Read.val_main_v2 (F := Ideal) (m ((c : Thread nD τ).loc main_arg0)) (m ((c : Thread nD τ).loc main_arg2)) = res m c := by
  refine funext fun (i : S1024x1024.Idx) => ?_
  refine Eq.trans ?_ (res_at m c i).symm
  rw [Cert.MixGradReferenceIdeal.Read.val_main_v2_apply, Cert.MixGradReferenceIdeal.Read.val_main_v1_apply]
  refine Finset.sum_congr rfl fun r _ => congrArg₂ (fun y z : EReal => y * z) (congrArg (ct m c) (funext fun y => Fin.ext ?_)) (congrArg (nx m c) (funext fun y => Fin.ext ?_))
  · match y with
    | ⟨0, _⟩ => rfl
    | ⟨1, _⟩ => rfl
  · match y with
    | ⟨0, _⟩ => rfl
    | ⟨1, _⟩ => rfl

theorem algebraic : Cert.algebraic_MixGradIdeal_MixGradReferenceIdeal := fun m g m' g' _ ha =>
  ⟨res m, Value.run_blocks m g, (θ_run Cert.MixGradReferenceIdeal.defs _ _).mono (fun r h c =>
    ⟨(h c).1.trans (by rw [Cert.MixGradReferenceIdeal.Read.val_main_v2_eq, (ha c).1, (ha c).2.2]; exact same m c), (h c).2⟩)
    (Cert.MixGradReferenceIdeal.Value.run (F := Ideal) m' g')⟩

end Cert.MixGradIdeal.Mg

end
-- ==== Proof.Ag.Out.lean ====
/- What the weight gradient's grid leaves: each block of the result is the sum, over the row tiles, of the products of a
   tile of each operand, so each element is the sum over all the rows. -/
module

public import proofs.«01_k».proof.Proof.Gen.AttnGradIdeal.Value
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.AttnGradIdeal.Ag

open Cert.AttnGradIdeal Cert.AttnGradIdeal.Gen
open Idealize.ShloMosaic Idealize.ShloMosaic.TcCoe Idealize.ShloMosaic.ValueIdx
open scoped BigOperators

/-! An array read at natural numbers. -/

def rd2 {a b : ℕ} (x : (⟨2, ![a, b]⟩ : Shape).Idx → EReal) (i j : ℕ) : EReal := if h : i < a ∧ j < b then x (ix2 ⟨i, h.1⟩ ⟨j, h.2⟩) else 0
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem rd2_at {a b : ℕ} (x : (⟨2, ![a, b]⟩ : Shape).Idx → EReal) (i : Fin a) (j : Fin b) : rd2 x i.val j.val = x (ix2 i j) := dif_pos ⟨i.isLt, j.isLt⟩
theorem rd3_at {a b d : ℕ} (x : (⟨3, ![a, b, d]⟩ : Shape).Idx → EReal) (i : Fin a) (j : Fin b) (k : Fin d) : rd3 x i.val j.val k.val = x (ix3 i j k) :=
  dif_pos ⟨i.isLt, j.isLt, k.isLt⟩

/-! A point's product. -/

theorem tn_apply (a : FVec Ideal S2048x512 .bf16) (b : FVec Ideal S2048x640 .bf16) (i : Fin 512) (j : Fin 640) :
    matmul dot_S2048x512_S2048x640_S512x640_0_0_1_1_n_n none a b (constant (F := Ideal) S512x640 .f32 0x00000000#32) (ix2 i j)
      = ∑ k : Fin 2048, (a (ix2 k i) : EReal) * b (ix2 k j) := by
  refine (Ideal.matmul_apply _ none a b _ (ix2 i j)).trans ?_
  rw [show constant (F := Ideal) S512x640 .f32 0x00000000#32 (ix2 i j) = (0 : EReal) from Ideal.ofBits_zero_f32, zero_add,
    ← Equiv.sum_comp (contrEquiv1 dot_S2048x512_S2048x640_S512x640_0_0_1_1_n_n 2048 rfl rfl).symm]
  refine Finset.sum_congr rfl fun k _ => congrArg₂ (fun y z : EReal => y * z) (congrArg a (funext fun x => Fin.ext ?_)) (congrArg b (funext fun x => Fin.ext ?_))
  · have hk := contrEquiv1_symm_val dot_S2048x512_S2048x640_S512x640_0_0_1_1_n_n 2048 rfl rfl k
    match x with
    | ⟨0, _⟩ => exact hk
    | ⟨1, _⟩ => rfl
  · have hk := contrEquiv1_symm_val dot_S2048x512_S2048x640_S512x640_0_0_1_1_n_n 2048 rfl rfl k
    match x with
    | ⟨0, _⟩ => exact hk
    | ⟨1, _⟩ => rfl

theorem cast_at (x : FVec Ideal S1x2048x640 .bf16) (h : S1x2048x640.ShapeCasts S2048x640) (k : Fin 2048) (j : Fin 640) :
    shapeCast S2048x640 x h (ix2 k j) = x (ix3 0 k j) :=
  shapeCast_1ab_ab_apply x h k j

theorem pay1_at (x : Vec Ideal S2048x512 .bf16) (y : Vec Ideal S1x2048x640 .bf16) (i : Fin 512) (j : Fin 640) :
    k0_pay1 (F := Ideal) x y (ix2 i j) = ∑ k : Fin 2048, (x (ix2 k i) : EReal) * y (ix3 0 k j) := by
  unfold k0_pay1
  rw [shapeCast_self]
  refine (tn_apply _ _ i j).trans (Finset.sum_congr rfl fun k _ => ?_)
  rw [cast_at]

/-! What each case leaves. -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S2048x512 .bf16) (h1 : a1.IsWhole) (a2 : Memref sig .tc .vmem S1x2048x640 .bf16) (h2 : a2.IsWhole)
    (a3 : Memref sig .tc .vmem S512x640 .f32) (h3 : a3.IsWhole) (hc0 : cond0_0 i) (hc1 : ¬cond0_1 i) (x : Vec F S2048x512 .bf16) (y : Vec F S1x2048x640 .bf16) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero hz2]
  simp only [View.readAt_eq_ld, h1.read_unread, h2.read_unread, View.ld_unit_zero (S := S2048x512) hz2, View.ld_unit_zero (S := S1x2048x640) hz3]

theorem out_B (c : Dev nD) (i : grid0.Coords) (a1 : Memref sig .tc .vmem S2048x512 .bf16) (h1 : a1.IsWhole) (a2 : Memref sig .tc .vmem S1x2048x640 .bf16) (h2 : a2.IsWhole)
    (a3 : Memref sig .tc .vmem S512x640 .f32) (h3 : a3.IsWhole) (hc0 : ¬cond0_0 i) (hc1 : cond0_1 i) (x : Vec F S2048x512 .bf16) (y : Vec F S1x2048x640 .bf16) (o : Vec F S512x640 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero hz2]
  simp only [View.readAt_eq_ld, h1.read_unread, h2.read_unread, h3.read_unread, View.ld_unit_zero (S := S2048x512) hz2, View.ld_unit_zero (S := S1x2048x640) hz3,
    View.ld_unit_zero (S := S512x640) hz2]

end Cases

/-! The grid. -/

section Grid
variable (m : (ℓ : Loc nD τ sig) → Buf (Elt Ideal) ℓ) (c : Dev nD)

/-- The two operands. -/
def X : ℕ → ℕ → EReal := rd2 (V m c main_v13 : Vec Ideal S8192x1024 .bf16)
def Y : ℕ → ℕ → ℕ → EReal := rd3 (V m c main_v16 : Vec Ideal S1x8192x3200 .bf16)

theorem idx0 : ∀ t : Fin grid0.N, win0_0.index t (0 : Fin 2) = t.val % 4 ∧ win0_0.index t (1 : Fin 2) = t.val / 20 := by decide +kernel
theorem idx1 : ∀ t : Fin grid0.N, win0_1.index t (0 : Fin 3) = 0 ∧ win0_1.index t (1 : Fin 3) = t.val % 4 ∧ win0_1.index t (2 : Fin 3) = t.val / 4 % 5 := by decide +kernel
theorem idx2 : ∀ t : Fin grid0.N, win0_2.index t (0 : Fin 2) = t.val / 20 ∧ win0_2.index t (1 : Fin 2) = t.val / 4 % 5 := by decide +kernel

theorem iblk0_at (t : Fin cfg0.N) (k : Fin 2048) (i : Fin 512) : (iblk m c 0 t : Vec Ideal S2048x512 .bf16) (ix2 k i) = X m c (2048 * (t.val % 4) + k.val) (512 * (t.val / 20) + i.val) := by
  obtain ⟨e0, e1⟩ := idx0 t
  have hN : t.val < 40 := t.isLt
  refine Eq.trans ?_ (rd2_at (V m c main_v13 : Vec Ideal S8192x1024 .bf16) ⟨2048 * (t.val % 4) + k.val, by omega⟩ ⟨512 * (t.val / 20) + i.val, by omega⟩).symm
  refine congrArg (V m c main_v13 : Vec Ideal S8192x1024 .bf16) (funext fun a => Fin.ext ?_)
  match a with
  | ⟨0, _⟩ => show win0_0.index t (0 : Fin 2) * 2048 + 1 * k.val = 2048 * (t.val % 4) + k.val; omega
  | ⟨1, _⟩ => show win0_0.index t (1 : Fin 2) * 512 + 1 * i.val = 512 * (t.val / 20) + i.val; omega

theorem iblk1_at (t : Fin cfg0.N) (k : Fin 2048) (j : Fin 640) : (iblk m c 1 t : Vec Ideal S1x2048x640 .bf16) (ix3 0 k j)
    = Y m c (0) (2048 * (t.val % 4) + k.val) (640 * (t.val / 4 % 5) + j.val) := by
  obtain ⟨e0, e1, e2⟩ := idx1 t
  refine Eq.trans ?_ (rd3_at (V m c main_v16 : Vec Ideal S1x8192x3200 .bf16) 0 ⟨2048 * (t.val % 4) + k.val, by omega⟩ ⟨640 * (t.val / 4 % 5) + j.val, by omega⟩).symm
  refine congrArg (V m c main_v16 : Vec Ideal S1x8192x3200 .bf16) (funext fun a => Fin.ext ?_)
  match a with
  | ⟨0, _⟩ => show win0_1.index t (0 : Fin 3) * 1 + 1 * 0 = 0; omega
  | ⟨1, _⟩ => show win0_1.index t (1 : Fin 3) * 2048 + 1 * k.val = 2048 * (t.val % 4) + k.val; omega
  | ⟨2, _⟩ => show win0_1.index t (2 : Fin 3) * 640 + 1 * j.val = 640 * (t.val / 4 % 5) + j.val; omega

theorem emb2 (t : Fin cfg0.N) (y : S512x640.Idx) (h0 : 512 * (t.val / 20) + (y 0).val < 1024) (h1 : 640 * (t.val / 4 % 5) + (y 1).val < 3200) :
    ((cfg0.win 2).blk t).view.emb y = (ix2 ⟨512 * (t.val / 20) + (y 0).val, h0⟩ ⟨640 * (t.val / 4 % 5) + (y 1).val, h1⟩ : S1024x3200.Idx) := by
  obtain ⟨e0, e1⟩ := idx2 t
  funext a; apply Fin.ext
  match a with
  | ⟨0, _⟩ => show win0_2.index t (0 : Fin 2) * 512 + 1 * (y 0).val = 512 * (t.val / 20) + (y 0).val; omega
  | ⟨1, _⟩ => show win0_2.index t (1 : Fin 2) * 640 + 1 * (y 1).val = 640 * (t.val / 4 % 5) + (y 1).val; omega

/-- The products of row tile `s` of the blocks at a point. -/
def part (n i j s : ℕ) : EReal := ∑ k ∈ Finset.range 2048, X m c (2048 * s + k) (512 * (n / 20) + i) * Y m c (0) (2048 * s + k) (640 * (n / 4 % 5) + j)

theorem pay_at (t : Fin cfg0.N) (i : Fin 512) (j : Fin 640) : k0_pay1 (F := Ideal) (iblk m c 0 t) (iblk m c 1 t) (ix2 i j) = part m c t.val i.val j.val (t.val % 4) := by
  refine (pay1_at _ _ i j).trans ?_
  unfold part
  rw [Finset.sum_range]
  exact Finset.sum_congr rfl fun k _ => congrArg₂ (fun y z : EReal => y * z) (iblk0_at m c t k i) (iblk1_at m c t k j)

theorem outs_at : ∀ (n : ℕ) (h : n < cfg0.N) (i : Fin 512) (j : Fin 640), outsAt0 m c n h (ix2 i j) = ∑ s ∈ Finset.range (n % 4 + 1), part m c n i.val j.val s
  | 0, h, i, j => by
    rw [outsAt0_A m c ⟨0, h⟩ rfl (by show ¬ 1 ≤ 0 % 4; decide), out_A, pay_at]
    exact (Finset.sum_range_one _).symm
  | n + 1, h, i, j => by
    by_cases h0 : (n + 1) % 4 = 0
    · rw [outsAt0_A m c ⟨n + 1, h⟩ h0 (by show ¬ 1 ≤ (n + 1) % 4; omega), out_A, pay_at]
      show part m c (n + 1) i.val j.val ((n + 1) % 4) = _
      rw [h0]
      exact (Finset.sum_range_one _).symm
    · have e : (n + 1) % 4 = n % 4 + 1 := by omega
      rw [outsAt0_B m c ⟨n + 1, h⟩ h0 (by show 1 ≤ (n + 1) % 4; omega), out_B]
      unfold k0_pay2
      rw [shapeCast_self]
      refine (congrArg₂ (fun y z : EReal => y + z) (outs_at n (Nat.lt_of_succ_lt h) i j) (pay_at m c ⟨n + 1, h⟩ i j)).trans ?_
      show _ + part m c (n + 1) i.val j.val ((n + 1) % 4) = _
      rw [e, Finset.sum_range_succ (fun s => part m c (n + 1) i.val j.val s) (n % 4 + 1)]
      refine congrArg (· + part m c (n + 1) i.val j.val (n % 4 + 1)) (Finset.sum_congr rfl fun s _ => ?_)
      unfold part
      rw [show (n + 1) / 20 = n / 20 by omega, show (n + 1) / 4 = n / 4 by omega]

theorem sum_tiles {M : Type} [AddCommMonoid M] (f : ℕ → M) : ∑ s ∈ Finset.range 4, ∑ k ∈ Finset.range 2048, f (2048 * s + k) = ∑ r ∈ Finset.range 8192, f r := by
  have h : ∀ n, ∑ s ∈ Finset.range n, ∑ k ∈ Finset.range 2048, f (2048 * s + k) = ∑ r ∈ Finset.range (2048 * n), f r := by
    intro n
    induction n with
    | zero => rfl
    | succ n ih => rw [Finset.sum_range_succ, ih, Nat.mul_succ, Finset.sum_range_add]
  exact h 4

/-- The array after the run. -/
theorem final (i : S1024x3200.Idx) : ((dats m 0 c).arrAt 2 cfg0.N : Vec Ideal S1024x3200 .f32) i
    = ∑ r ∈ Finset.range 8192, X m c r (i 0).val * Y m c 0 r (i 1).val := by
  refine (dats m 0 c).arrAt_forall_of_cover 2 (fun (i : S1024x3200.Idx) (x : EReal) => x = ∑ r ∈ Finset.range 8192, X m c r (i 0).val * Y m c 0 r (i 1).val)
    (fun t hf y => ?_) (fun i => ?_) i
  · change S512x640.Idx at y
    have hN : t.val < 40 := t.isLt
    have h0 : (y 0).val < 512 := (y 0).isLt
    have h1 : (y 1).val < 640 := (y 1).isLt
    rw [emb2 t y (by omega) (by omega)]
    show (dats m 0 c).after 2 t y = _
    have h3 : t.val % 4 = 3 := (flush0_2 t).mp hf
    rw [after0_2]
    refine (congrArg (outsAt0 m c t.val t.isLt) (eq_ix2 y)).trans ((outs_at m c t.val t.isLt (y 0) (y 1)).trans ?_)
    rw [h3]
    refine (sum_tiles fun r => X m c r (512 * (t.val / 20) + (y 0).val) * Y m c (0) r (640 * (t.val / 4 % 5) + (y 1).val)).trans ?_
    rfl
  · have h0 : (i 0).val < 1024 := (i 0).isLt
    have h1 : (i 1).val < 3200 := (i 1).isLt
    have hN : 20 * ((i 0).val / 512) + 4 * ((i 1).val / 640) + 3 < cfg0.N := by show _ < 40; omega
    refine ⟨⟨20 * ((i 0).val / 512) + 4 * ((i 1).val / 640) + 3, hN⟩, (flush0_2 _).mpr (by show (20 * ((i 0).val / 512) + 4 * ((i 1).val / 640) + 3) % 4 = 3; omega), ?_⟩
    have hm := ((cfg0.win 2).blk ⟨20 * ((i 0).val / 512) + 4 * ((i 1).val / 640) + 3, hN⟩).view.emb_mem_set (ix2 ⟨(i 0).val % 512, by omega⟩ ⟨(i 1).val % 640, by omega⟩ : S512x640.Idx)
    rw [emb2 _ _ (by show 512 * ((20 * ((i 0).val / 512) + 4 * ((i 1).val / 640) + 3) / 20) + (i 0).val % 512 < 1024; omega)
      (by show 640 * ((20 * ((i 0).val / 512) + 4 * ((i 1).val / 640) + 3) / 4 % 5) + (i 1).val % 640 < 3200; omega)] at hm
    refine (congrArg (· ∈ _) ?_).mp hm
    funext x; apply Fin.ext
    match x with
    | ⟨0, _⟩ => show 512 * ((20 * ((i 0).val / 512) + 4 * ((i 1).val / 640) + 3) / 20) + (i 0).val % 512 = (i 0).val; omega
    | ⟨1, _⟩ => show 640 * ((20 * ((i 0).val / 512) + 4 * ((i 1).val / 640) + 3) / 4 % 5) + (i 1).val % 640 = (i 1).val; omega

end Grid

end Cert.AttnGradIdeal.Ag

end
-- ==== Proof.Ag.Host.lean ====
/- The two operands the kernel's host lines prepare. -/
module

public import proofs.«01_k».proof.Proof.Ag.Out
public import proofs.«01_k».proof.Proof.Gen.AttnGradReferenceIdeal.Run
public import proofs.«01_k».proof.Proof.Gen.AttnGradReferenceIdeal.Read
public import Idealize.ShloMosaic.Lib.StableHlo.RunRead

@[expose] public section

set_option maxRecDepth 16384

noncomputable section

namespace Cert.AttnGradIdeal.Ag

open Cert.AttnGradIdeal Cert.AttnGradIdeal.Gen
open Idealize.ShloMosaic Idealize.ShloMosaic.TcCoe
open Idealize.SL.Sem
open scoped BigOperators

variable (m : (ℓ : Loc nD τ sig) → Buf (Elt Ideal) ℓ) (c : Dev nD)

/-- The normalized rows, -/
abbrev xn : (⟨S8192x1024, .f32⟩ : BufTy).Contents (Elt Ideal) :=
  Cert.AttnGradReferenceIdeal.Read.val_main_v12 (F := Ideal) (m ((c : Thread nD τ).loc main_arg0)) (m ((c : Thread nD τ).loc main_arg1))

theorem V_v13 : (V m c main_v13 : Vec Ideal S8192x1024 .bf16) = (truncf (F := Ideal) .bf16 (xn m c : FVec Ideal S8192x1024 .f32) bitsLt_bf16_f32 : FVec Ideal S8192x1024 .bf16) := by
  unfold V
  simp only [List.flatten_cons, List.flatten_nil, List.append_nil, List.cons_append, List.nil_append, hostOps0]
  after_reads_simp
  rfl

/-- and the gradient with its columns of nought, as one part. -/
theorem V_v16 : (V m c main_v16 : Vec Ideal S1x8192x3200 .bf16) = broadcastInDim S1x8192x3200 ![1, 2] bcast_S8192x3200_S1x8192x3200_1_2
      (pad S8192x3200 ![0, 0] ![0, 120] ![0, 0] (truncf (F := Ideal) .bf16 (m ((c : Thread nD τ).loc main_arg3) : FVec Ideal S8192x3080 .f32) bitsLt_bf16_f32 : FVec Ideal S8192x3080 .bf16)
        (sitofp .bf16 (constantI S_ 32 0#32) : FVec Ideal S_ .bf16) pads_S8192x3080_S8192x3200_000_01200 h_S_) := by
  unfold V
  simp only [List.flatten_cons, List.flatten_nil, List.append_nil, List.cons_append, List.nil_append, hostOps0]
  after_reads_simp
  rfl

end Cert.AttnGradIdeal.Ag

end
-- ==== Proof.Ag.Pad.lean ====
/- A matrix with columns of nought after its own. -/
module

public import proofs.«01_k».proof.Proof.Ub.Pay
public import Idealize.ShloMosaic.Lib.KernelVsHost

@[expose] public section

set_option maxRecDepth 16384

noncomputable section

namespace Cert.AttnGradIdeal.Ag

open Idealize.ShloMosaic Idealize.ShloMosaic.ValueIdx
open Cert.UpBackIdeal.Ub (E2)
open scoped BigOperators

/-- The function to a column, and nought from there. -/
def cut (n : ℕ) (f : ℕ → ℕ → EReal) (r k : ℕ) : EReal := if k < n then f r k else 0

theorem pad_E2 {m n h N : ℕ} {f : ℕ → ℕ → EReal} (x : (⟨2, ![m, n]⟩ : Shape).Idx → EReal) {u : Shape} (v : u.Idx → EReal)
    (hp : (⟨2, ![m, n]⟩ : Shape).Pads (![0, 0] : Fin 2 → Nat) ![0, h] ![0, 0] ⟨2, ![m, N]⟩) (hu : 0 < u.numel) (hv : v (Shape.Idx.first hu) = 0) (hx : E2 x f) :
    E2 (pad ⟨2, ![m, N]⟩ (![0, 0] : Fin 2 → Nat) ![0, h] ![0, 0] x v hp hu) (cut n f) := fun r k => by
  unfold cut
  by_cases hk : k.val < n
  · rw [if_pos hk]
    refine (pad_apply_of_inside _ _ _ x v hp hu (ix2 r k) (ix2 r ⟨k.val, hk⟩) fun a => ?_).trans (hx r ⟨k.val, hk⟩)
    match a with
    | ⟨0, _⟩ => show r.val = 0 + r.val * (0 + 1); omega
    | ⟨1, _⟩ => show k.val = 0 + k.val * (0 + 1); omega
  · rw [if_neg hk]
    refine (pad_apply_of_not_inside _ _ _ x v hp hu (ix2 r k) (1 : Fin 2) fun h => hk ?_).trans hv
    have := h.2.2
    change (k.val - 0) / (0 + 1) < n at this
    omega

/-- The element the columns are filled with. -/
theorem nought {φ : FTy} {u : Shape} (i : u.Idx) : (sitofp φ (constantI u 32 0#32) : FVec Ideal u φ) i = (0 : EReal) := by
  show (((0#32 : BitVec 32).toInt : ℝ) : EReal) = 0
  rw [show (0#32 : BitVec 32).toInt = 0 from rfl, Int.cast_zero, EReal.coe_zero]

/-- Products with a cut matrix. -/
theorem sum_cut_right {K n : ℕ} {f g : ℕ → ℕ → EReal} (r k : ℕ) : ∑ d ∈ Finset.range K, f r d * cut n g d k = cut n (fun r k => ∑ d ∈ Finset.range K, f r d * g d k) r k := by
  unfold cut
  by_cases hk : k < n
  · simp only [if_pos hk]
  · simp only [if_neg hk, mul_zero, Finset.sum_const_zero]

theorem sum_cut_rows {n h : ℕ} {f g : ℕ → ℕ → EReal} (r j : ℕ) : ∑ k ∈ Finset.range (n + h), cut n f r k * cut n g j k = ∑ k ∈ Finset.range n, f r k * g j k := by
  rw [Finset.sum_range_add]
  refine (congrArg₂ (fun a b : EReal => a + b) (Finset.sum_congr rfl fun k hk => ?_) (Finset.sum_eq_zero fun k _ => ?_)).trans (add_zero _)
  · unfold cut
    rw [if_pos (Finset.mem_range.1 hk), if_pos (Finset.mem_range.1 hk)]
  · unfold cut
    rw [if_neg (by omega), zero_mul]

end Cert.AttnGradIdeal.Ag

end
-- ==== Proof.Ag.Final.lean ====
/- The weight gradient the kernel ends with is the reference's. -/
module

public import proofs.«01_k».proof.Defs
public import proofs.«01_k».proof.Proof.Ag.Host
public import proofs.«01_k».proof.Proof.Ag.Pad
public import proofs.«01_k».proof.Proof.Ub.Final
public import Idealize.ShloMosaic.Lib.Pointwise

@[expose] public section

set_option maxRecDepth 16384

noncomputable section

namespace Cert.AttnGradIdeal.Ag

open Cert.AttnGradIdeal Cert.AttnGradIdeal.Gen
open Idealize.ShloMosaic Idealize.ShloMosaic.TcCoe
open Idealize.SL.Sem
open Cert.UpBackIdeal.Ub (E2 at2 at2_eq)
open scoped BigOperators

variable (m : (ℓ : Loc nD τ sig) → Buf (Elt Ideal) ℓ) (c : Dev nD) (g : Dev nD → PrngReg)

/-- The two operands, as functions. -/
def ct : ℕ → ℕ → EReal := at2 (m ((c : Thread nD τ).loc main_arg3) : Vec Ideal S8192x3080 .f32)
def nx : ℕ → ℕ → EReal := at2 (xn m c : Vec Ideal S8192x1024 .f32)

theorem X_at (r : Fin 8192) (i : Fin 1024) : X m c r.val i.val = nx m c r.val i.val := by
  unfold X
  rw [V_v13]
  exact (rd2_at _ r i).trans (at2_eq (xn m c : Vec Ideal S8192x1024 .f32) (ValueIdx.ix2 r i))

theorem Y_at (r : Fin 8192) (k : Fin 3200) : Y m c 0 r.val k.val = cut 3080 (ct m c) r.val k.val := by
  unfold Y
  rw [V_v16]
  refine (rd3_at _ (0 : Fin 1) r k).trans (Eq.trans ?_ (pad_E2 (f := ct m c) (truncf (F := Ideal) .bf16 (m ((c : Thread nD τ).loc main_arg3) : FVec Ideal S8192x3080 .f32) bitsLt_bf16_f32 : FVec Ideal S8192x3080 .bf16)
    (sitofp .bf16 (constantI S_ 32 0#32) : FVec Ideal S_ .bf16) pads_S8192x3080_S8192x3200_000_01200 h_S_ (nought _)
    (fun r k => at2_eq (m ((c : Thread nD τ).loc main_arg3) : Vec Ideal S8192x3080 .f32) (ValueIdx.ix2 r k)) r k))
  refine congrArg (pad S8192x3200 ![0, 0] ![0, 120] ![0, 0] (truncf (F := Ideal) .bf16 (m ((c : Thread nD τ).loc main_arg3) : FVec Ideal S8192x3080 .f32) bitsLt_bf16_f32 : FVec Ideal S8192x3080 .bf16)
        (sitofp .bf16 (constantI S_ 32 0#32) : FVec Ideal S_ .bf16) pads_S8192x3080_S8192x3200_000_01200 h_S_) (funext fun y => Fin.ext ?_)
  match y with
  | ⟨0, _⟩ => rfl
  | ⟨1, _⟩ => rfl

/-- The result the kernel ends with. -/
def res : Buf (Elt Ideal) ((c.tc : Thread nD τ).loc main_v17) := (dats m 0 c).arrAt 2 cfg0.N

theorem res_at (i : S1024x3200.Idx) : @Eq EReal (res m c i) (cut 3080 (fun d k => ∑ r ∈ Finset.range 8192, nx m c r d * ct m c r k) (i 0).val (i 1).val) := by
  have e : @Eq EReal (res m c i) (∑ r ∈ Finset.range 8192, X m c r (i 0).val * Y m c 0 r (i 1).val) := final m c i
  refine e.trans (Eq.trans ?_ (sum_cut_right (K := 8192) (f := fun d r => nx m c r d) (g := ct m c) (i 0).val (i 1).val))
  refine Finset.sum_congr rfl fun r hr => ?_
  exact congrArg₂ (fun y z : EReal => y * z) (X_at m c ⟨r, Finset.mem_range.1 hr⟩ (i 0)) (Y_at m c ⟨r, Finset.mem_range.1 hr⟩ (i 1))

theorem ref_E2 : E2 (Cert.AttnGradReferenceIdeal.Read.val_main_v15 (F := Ideal) (m ((c : Thread nD τ).loc main_arg0)) (m ((c : Thread nD τ).loc main_arg1)) (m ((c : Thread nD τ).loc main_arg3)) : Vec Ideal S1024x3080 .f32)
    fun d k => ∑ r ∈ Finset.range 8192, nx m c r d * ct m c r k := fun d k => by
  refine (Cert.AttnGradReferenceIdeal.Read.val_main_v15_apply _ _ _ _).trans ((Cert.AttnGradReferenceIdeal.Read.val_main_v14_apply _ _ _ _).trans ?_)
  refine Eq.trans (Finset.sum_congr rfl fun r _ => ?_) (Finset.sum_range fun r => nx m c r d.val * ct m c r k.val).symm
  refine (mul_comm _ _).trans ?_
  exact congrArg₂ (fun y z : EReal => y * z) (at2_eq (xn m c : Vec Ideal S8192x1024 .f32) _) (at2_eq (m ((c : Thread nD τ).loc main_arg3) : Vec Ideal S8192x3080 .f32) _)

theorem same : Cert.AttnGradReferenceIdeal.Read.val_main_v16 (F := Ideal) (m ((c : Thread nD τ).loc main_arg0)) (m ((c : Thread nD τ).loc main_arg1)) (m ((c : Thread nD τ).loc main_arg3)) = res m c := by
  refine funext fun (i : S1024x3200.Idx) => ?_
  refine Eq.trans ?_ (res_at m c i).symm
  refine (congrArg (Cert.AttnGradReferenceIdeal.Read.val_main_v16 (F := Ideal) (m ((c : Thread nD τ).loc main_arg0)) (m ((c : Thread nD τ).loc main_arg1)) (m ((c : Thread nD τ).loc main_arg3))) (ValueIdx.eq_ix2 i)).trans ?_
  unfold Cert.AttnGradReferenceIdeal.Read.val_main_v16
  exact pad_E2 _ _ _ _ (nought _) (ref_E2 m c) (i 0) (i 1)

theorem algebraic : Cert.algebraic_AttnGradIdeal_AttnGradReferenceIdeal := fun m g m' g' _ ha =>
  ⟨res m, Value.run_blocks m g, (θ_run Cert.AttnGradReferenceIdeal.defs _ _).mono (fun r h c =>
    ⟨(h c).1.trans (by rw [Cert.AttnGradReferenceIdeal.Read.val_main_v16_eq, (ha c).1, (ha c).2.1, (ha c).2.2.2]; exact same m c), (h c).2⟩)
    (Cert.AttnGradReferenceIdeal.Value.run (F := Ideal) m' g')⟩

end Cert.AttnGradIdeal.Ag

end
-- ==== Proof.Ap.Run.lean ====
/- The attention layer's in-projection's run: the normalized rows, kept from a row tile's first point to its last, and a block of products at every point. -/
module

public import proofs.«01_k».proof.Proof.Gen.AttnProjIdeal.Frame
public import proofs.«01_k».proof.Proof.Gen.AttnProjIdeal.Skeleton
public import Idealize.ShloMosaic.Lib.Tactic
public import Idealize.ShloMosaic.Lib.Pipeline.Kit
public import Idealize.ShloMosaic.Lib.Pipeline.TableIdle
public import Idealize.ShloMosaic.Lib.VecWindow
public import Idealize.ShloMosaic.Lib.ValueLayout
public import Idealize.ShloMosaic.Lib.Claim

@[expose] public section

set_option maxRecDepth 16384

noncomputable section

namespace Cert.AttnProjIdeal.Ap

open Cert.AttnProjIdeal Cert.AttnProjIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem cond_first : ∀ t : Fin grid0.N, t.val % 5 = 0 → k0_cond1 (grid0.coords t) = 1#1 := by decide +kernel
theorem cond_other : ∀ t : Fin grid0.N, t.val % 5 ≠ 0 → ¬ k0_cond1 (grid0.coords t) = 1#1 := by decide +kernel

/-! The body. -/

section Body
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1024x640 .bf16) (h4 : a4.IsWhole) (a5 : Memref sig .tc .vmem S1024x1024 .bf16) (h5 : a5.IsWhole) (a6 : Memref sig .tc .vmem S1024x640 .f32) (h6 : a6.IsWhole)
  (x0 : Vec F S1024x1024 .f32) (x1 : Vec F S1x1024 .f32) (x2 : Vec F S1024x640 .bf16) (y : Vec F S1024x1024 .bf16) (z : Vec F S1024x640 .f32)

/-- A row tile's first point writes the normalized rows and multiplies them. -/
theorem run_first (E : Set ℕ) (K : PUnit → sProp 𝕄G) (hc : k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1) ∗ owns (c : Thread nD τ) a6 fullShare (k0_pay2 (k0_pay1 x0 x1) x2)) -∗ K ⟨⟩))
      ⊢ wp frame (wpE (defs₀ (F := F)) Variants.none c none) E (cc0_attn_in_proj i a2 h2 a3 h3 a4 h4 a5 h5 a6 h6) K := by
  simp only [cc0_attn_in_proj_eq_skeleton]; unfold cc0_attn_in_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; swap; (· iexact H3); ipureintro
    refine (View.read_writes_full _ _ _ _ _).trans ?_
    rw [View.readAt_full, View.readAt_full, h2.read_unread, h3.read_unread]
  iexists _; isplitr; swap; (· iexact H4); ipureintro
  refine (View.read_writes_full _ _ _ _ _).trans ?_
  unfold run_first.sl.v3 run_first.sl.H3_1
  rw [View.readCov_full, View.readAt_full, View.readAt_full, View.readAt_full, h2.read_unread, h3.read_unread, h4.read_unread]

/-- A later point multiplies the rows the first left. -/
theorem run_other (E : Set ℕ) (K : PUnit → sProp 𝕄G) (hc : ¬ k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k0_pay2 y x2)) -∗ K ⟨⟩))
      ⊢ wp frame (wpE (defs₀ (F := F)) Variants.none c none) E (cc0_attn_in_proj i a2 h2 a3 h3 a4 h4 a5 h5 a6 h6) K := by
  simp only [cc0_attn_in_proj_eq_skeleton]; unfold cc0_attn_in_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h4.eq_unread hf2; obtain rfl := h5.eq_unread hf3
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact h4.read_unread _
    iexact H2
  isplitl [H3]
  · iexists _; isplitr; · ipureintro; exact h5.read_unread _
    iexact H3
  iexists _; isplitr; swap; (· iexact H4); ipureintro
  refine (View.read_writes_full _ _ _ _ _).trans ?_
  rw [View.readAt_full, View.readAt_full, h4.read_unread, h5.read_unread]

end Body

/-! The launch. -/

variable (m : (ℓ : Loc nD τ sig) → Buf (Elt F) ℓ) (ρ : Dev nD → PrngReg)

/-- The first point of a point's row tile. -/
def base (t : Fin cfg0.N) : Fin cfg0.N := ⟨t.val / 5 * 5, lt_of_le_of_lt (Nat.div_mul_le_self _ _) t.isLt⟩

/-- The normalized rows a point finds. -/
def rows (c : Dev nD) (t : Fin cfg0.N) : Vec F S1024x1024 .bf16 := k0_pay1 (iblk m c 0 (base t)) (iblk m c 1 (base t))

/-- The products a point leaves. -/
def prods (c : Dev nD) (t : Fin cfg0.N) : Vec F S1024x640 .f32 := k0_pay2 (rows m c t) (iblk m c 2 t)

theorem base_first (t : Fin cfg0.N) (h : t.val % 5 = 0) : base t = t := Fin.ext (by show t.val / 5 * 5 = t.val; omega)

theorem base_prev (t : Fin cfg0.N) (h : t.val % 5 ≠ 0) : base ⟨t.val - 1, Nat.lt_of_le_of_lt (Nat.sub_le _ _) t.isLt⟩ = base t :=
  Fin.ext (by show (t.val - 1) / 5 * 5 = t.val / 5 * 5; omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => prods m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows m c t := by dsimp only [dats]
theorem after0_4 (c : Dev nD) (t : Fin cfg0.N) : (dats m 0 c).after 4 t = prods m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle3 : ∀ t : Fin cfg0.N, cfg0.idle 3 (cfg0.grid.coords t) = true → t.val % 5 ≠ 0 := by decide +kernel
theorem fresh3 : ∀ t : Fin cfg0.N, t.val % 5 ≠ 0 → cfg0.fresh 3 t.val = false := by decide +kernel

theorem rows_prev (c : Dev nD) (t : Fin cfg0.N) (ht : t.val % 5 ≠ 0) :
    rows m c ⟨t.val - 1, Nat.lt_of_le_of_lt (Nat.sub_le _ _) t.isLt⟩ = rows m c t := by
  unfold rows
  rw [base_prev t ht]

theorem before0_3 (c : Dev nD) (t : Fin cfg0.N) (ht : t.val % 5 ≠ 0) (d) : (dats m 0 c).before 3 t d = rows m c t := by
  rw [(dats m 0 c).before_out_traj 3 rfl (fun _ _ => rfl)
    (fun t _ hi _ => by rw [after0_3, after0_3, rows_prev m c t (idle3 t hi)]) t.val t rfl d,
    fresh3 t ht, if_neg Bool.false_ne_true, after0_3, rows_prev m c t ht]

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold prods
  by_cases ht : t.val % 5 = 0
  · unfold rows
    rw [base_first t ht]
    iintro ⟨HΦ, Ho, ⟨%d0, H0⟩, ⟨%d1, H1⟩, ⟨%d2, H2⟩, ⟨%d3, H3⟩, ⟨%d4, H4⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_first t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_3 m c t ht]
    iintro ⟨HΦ, Ho, ⟨%d0, H0⟩, ⟨%d1, H1⟩, ⟨%d2, H2⟩, ⟨%d3, H3⟩, ⟨%d4, H4⟩⟩
    iapply (run_other c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_other t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem left3 (c : Dev nD) (t : Fin cfg0.N) : owns (c : Thread nD τ) (st0_3 t) fullShare ((dats m 0 c).after 3 t) ⊢
    (match cfg0.idle 3 (cfg0.grid.coords t) with
      | true => match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t) : sProp 𝕄G) := by
  cases hi : cfg0.idle 3 (cfg0.grid.coords t)
  · exact .rfl
  · cases hf : (cfg0.win 3).flush t
    · simp only [before0_3 m c t (idle3 t hi), after0_3]
      iintro H
      iexists fun _ => default
      iexact H
    · exact .rfl

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  refine sep_mono .rfl (sep_mono .rfl (sep_mono .rfl (sep_mono .rfl (sep_mono .rfl (sep_mono ?_ .rfl)))))
  exact left3 m c t

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run m ρ))

end Cert.AttnProjIdeal.Ap

end
-- ==== Proof.Ap.Out.lean ====
/- What the attention layer's in-projection's grid leaves, over arrays that functions of row and column give: the normalized rows tile by tile, and the products block by
   block. -/
module

public import proofs.«01_k».proof.Proof.Ap.Run
public import proofs.«01_k».proof.Proof.Ub.Pay

@[expose] public section

set_option maxRecDepth 16384

noncomputable section

namespace Cert.AttnProjIdeal.Ap

open Cert.AttnProjIdeal Cert.AttnProjIdeal.Gen
open Idealize.ShloMosaic Idealize.ShloMosaic.TcCoe Idealize.ShloMosaic.ValueIdx
open Cert.UpBackIdeal.Ub (E2 rho width_E2 eps_E2)
open scoped BigOperators

/-! The results, as functions. -/

section Results
variable (H W : ℕ → ℕ → EReal) (G : ℕ → EReal)

/-- The normalized rows, -/
def xn (r d : ℕ) : EReal := H r d * rho H r * G d

/-- and their products with the weights. -/
def up (r k : ℕ) : EReal := ∑ d ∈ Finset.range 1024, xn H G r d * W d k

end Results

/-! The payloads. -/

section Payloads
variable {f g : ℕ → ℕ → EReal} {w : ℕ → EReal}

theorem pay1_E2 {x : Vec Ideal S1024x1024 .f32} {y : Vec Ideal S1x1024 .f32} (hx : E2 x f) (hy : E2 y fun _ j => w j) :
    E2 (k0_pay1 (F := Ideal) x y) fun r j => f r j * rho f r * w j := by
  unfold k0_pay1
  dsimp only
  rw [shapeCast_self]
  have h := E2.rsqrt (E2.add (E2.div (E2.rowsum (h := reduces_S1024x1024_S1024) (hc := shapeCasts_S1024_S1024x1) (hφ := .inl rfl) (hacc := rfl) (hx.mul hx)) width_E2) eps_E2)
  exact E2.mul (E2.mul hx (E2.bcol (h := broadcasts_S1024x1_S1024x1024) (by decide) h)) (E2.brow (m := 1024) (h := broadcasts_S1x1024_S1024x1024) (by decide) hy)

theorem pay2_at {x : Vec Ideal S1024x1024 .bf16} {y : Vec Ideal S1024x640 .bf16} (hx : E2 x f) (hy : E2 y g) (r : Fin 1024) (k : Fin 640) :
    (k0_pay2 (F := Ideal) x y : Vec Ideal S1024x640 .f32) (ix2 r k) = ∑ d ∈ Finset.range 1024, f r.val d * g d k.val := by
  unfold k0_pay2
  rw [shapeCast_self, shapeCast_self]
  refine (Ideal.matmul_plain_apply (M := 1024) (K := 1024) (N := 640) none x y _ r k).trans ?_
  rw [show (constant S1024x640 .f32 0x00000000#32 : FVec Ideal _ .f32) (ix2 r k) = (0 : EReal) from Ideal.ofBits_zero_f32, zero_add]
  refine Eq.trans ?_ (Finset.sum_range fun d => f r.val d * g d k.val).symm
  exact Finset.sum_congr rfl fun d _ => congrArg₂ (fun a b : EReal => a * b) (hx r d) (hy d k)

end Payloads

section Grid
variable (m : (ℓ : Loc nD τ sig) → Buf (Elt Ideal) ℓ) (c : Dev nD)

theorem idx0 : ∀ t : Fin grid0.N, win0_0.index t (0 : Fin 2) = t.val / 5 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = t.val % 5 := by decide +kernel
theorem idx3 : ∀ t : Fin grid0.N, win0_3.index t (0 : Fin 2) = t.val / 5 ∧ win0_3.index t (1 : Fin 2) = 0 := by decide +kernel
theorem idx4 : ∀ t : Fin grid0.N, win0_4.index t (0 : Fin 2) = t.val / 5 ∧ win0_4.index t (1 : Fin 2) = t.val % 5 := by decide +kernel

variable {H W : ℕ → ℕ → EReal} {G : ℕ → EReal}

theorem iblk0_E2 (hH : E2 (V m c main_arg0 : Vec Ideal S8192x1024 .f32) H) (t : Fin cfg0.N) : E2 (iblk m c 0 t : Vec Ideal S1024x1024 .f32) fun r j => H (1024 * (t.val / 5) + r) j := fun r j => by
  obtain ⟨e0, e1⟩ := idx0 t
  have hN : t.val < 40 := t.isLt
  refine Eq.trans ?_ (hH ⟨1024 * (t.val / 5) + r.val, by omega⟩ j)
  refine congrArg (V m c main_arg0 : Vec Ideal S8192x1024 .f32) (funext fun a => Fin.ext ?_)
  match a with
  | ⟨0, _⟩ => show win0_0.index t (0 : Fin 2) * 1024 + 1 * r.val = 1024 * (t.val / 5) + r.val; omega
  | ⟨1, _⟩ => show win0_0.index t (1 : Fin 2) * 1024 + 1 * j.val = j.val; omega

theorem iblk1_E2 (hG : E2 (V m c main_v0 : Vec Ideal S1x1024 .f32) fun _ j => G j) (t : Fin cfg0.N) : E2 (iblk m c 1 t : Vec Ideal S1x1024 .f32) fun _ j => G j := fun r j => by
  obtain ⟨e0, e1⟩ := idx1 t
  refine Eq.trans ?_ (hG r j)
  refine congrArg (V m c main_v0 : Vec Ideal S1x1024 .f32) (funext fun a => Fin.ext ?_)
  match a with
  | ⟨0, _⟩ => show win0_1.index t (0 : Fin 2) * 1 + 1 * r.val = r.val; omega
  | ⟨1, _⟩ => show win0_1.index t (1 : Fin 2) * 1024 + 1 * j.val = j.val; omega

theorem iblk2_E2 (hW : E2 (V m c main_v2 : Vec Ideal S1024x3200 .bf16) W) (t : Fin cfg0.N) : E2 (iblk m c 2 t : Vec Ideal S1024x640 .bf16) fun d k => W d (640 * (t.val % 5) + k) := fun d k => by
  obtain ⟨e0, e1⟩ := idx2 t
  refine Eq.trans ?_ (hW d ⟨640 * (t.val % 5) + k.val, by omega⟩)
  refine congrArg (V m c main_v2 : Vec Ideal S1024x3200 .bf16) (funext fun a => Fin.ext ?_)
  match a with
  | ⟨0, _⟩ => show win0_2.index t (0 : Fin 2) * 1024 + 1 * d.val = d.val; omega
  | ⟨1, _⟩ => show win0_2.index t (1 : Fin 2) * 640 + 1 * k.val = 640 * (t.val % 5) + k.val; omega

theorem emb3 (t : Fin cfg0.N) (y : S1024x1024.Idx) (h0 : 1024 * (t.val / 5) + (y 0).val < 8192) :
    ((cfg0.win 3).blk t).view.emb y = (ix2 ⟨1024 * (t.val / 5) + (y 0).val, h0⟩ (y 1) : S8192x1024.Idx) := by
  obtain ⟨e0, e1⟩ := idx3 t
  funext a; apply Fin.ext
  match a with
  | ⟨0, _⟩ => show win0_3.index t (0 : Fin 2) * 1024 + 1 * (y 0).val = 1024 * (t.val / 5) + (y 0).val; omega
  | ⟨1, _⟩ => show win0_3.index t (1 : Fin 2) * 1024 + 1 * (y 1).val = (y 1).val; omega

theorem emb4 (t : Fin cfg0.N) (y : S1024x640.Idx) (h0 : 1024 * (t.val / 5) + (y 0).val < 8192) (h1 : 640 * (t.val % 5) + (y 1).val < 3200) :
    ((cfg0.win 4).blk t).view.emb y = (ix2 ⟨1024 * (t.val / 5) + (y 0).val, h0⟩ ⟨640 * (t.val % 5) + (y 1).val, h1⟩ : S8192x3200.Idx) := by
  obtain ⟨e0, e1⟩ := idx4 t
  funext a; apply Fin.ext
  match a with
  | ⟨0, _⟩ => show win0_4.index t (0 : Fin 2) * 1024 + 1 * (y 0).val = 1024 * (t.val / 5) + (y 0).val; omega
  | ⟨1, _⟩ => show win0_4.index t (1 : Fin 2) * 640 + 1 * (y 1).val = 640 * (t.val % 5) + (y 1).val; omega

/-! The points. -/

/-- The arrays' elements are what the functions give. -/
structure Reads (H W : ℕ → ℕ → EReal) (G : ℕ → EReal) : Prop where
  H : E2 (V m c main_arg0 : Vec Ideal S8192x1024 .f32) H
  G : E2 (V m c main_v0 : Vec Ideal S1x1024 .f32) fun _ j => G j
  W : E2 (V m c main_v2 : Vec Ideal S1024x3200 .bf16) W

variable {m c} (R : Reads m c H W G)
include R

theorem rows_E2 (t : Fin cfg0.N) : E2 (rows m c t) fun r d => xn H G (1024 * (t.val / 5) + r) d := by
  unfold rows
  refine (pay1_E2 (iblk0_E2 m c R.H (base t)) (iblk1_E2 m c R.G (base t))).congr fun r _ d _ => ?_
  show H (1024 * (t.val / 5 * 5 / 5) + r) d * rho H (1024 * (t.val / 5 * 5 / 5) + r) * G d = _
  rw [show t.val / 5 * 5 / 5 = t.val / 5 by omega]
  rfl

theorem prods_at (t : Fin cfg0.N) (r : Fin 1024) (k : Fin 640) : prods m c t (ix2 r k) = up H W G (1024 * (t.val / 5) + r.val) (640 * (t.val % 5) + k.val) := by
  unfold prods
  exact pay2_at (rows_E2 R t) (iblk2_E2 m c R.W t) r k

/-! The arrays after the run. -/

theorem final3 (i : S8192x1024.Idx) : ((dats m 0 c).arrAt 3 cfg0.N : Vec Ideal S8192x1024 .bf16) i = xn H G (i 0).val (i 1).val := by
  refine (dats m 0 c).arrAt_forall_of_cover 3 (fun (i : S8192x1024.Idx) (x : EReal) => x = xn H G (i 0).val (i 1).val) (fun t hf y => ?_) (fun i => ?_) i
  · change S1024x1024.Idx at y
    have hN : t.val < 40 := t.isLt
    have h0 : (y 0).val < 1024 := (y 0).isLt
    rw [emb3 t y (by omega)]
    show (dats m 0 c).after 3 t y = _
    rw [after0_3]
    exact (congrArg (rows m c t) (eq_ix2 y)).trans (rows_E2 R t (y 0) (y 1))
  · have h0 : (i 0).val < 8192 := (i 0).isLt
    have hN : 5 * ((i 0).val / 1024) + 4 < cfg0.N := by show _ < 40; omega
    refine ⟨⟨5 * ((i 0).val / 1024) + 4, hN⟩, (flush0_3 _).mpr (by show (5 * ((i 0).val / 1024) + 4) % 5 = 4; omega), ?_⟩
    have hm := ((cfg0.win 3).blk ⟨5 * ((i 0).val / 1024) + 4, hN⟩).view.emb_mem_set (ix2 ⟨(i 0).val % 1024, by omega⟩ (i 1) : S1024x1024.Idx)
    rw [emb3 _ _ (by show 1024 * ((5 * ((i 0).val / 1024) + 4) / 5) + (i 0).val % 1024 < 8192; omega)] at hm
    refine (congrArg (· ∈ _) ?_).mp hm
    funext x; apply Fin.ext
    match x with
    | ⟨0, _⟩ => show 1024 * ((5 * ((i 0).val / 1024) + 4) / 5) + (i 0).val % 1024 = (i 0).val; omega
    | ⟨1, _⟩ => rfl

theorem final4 (i : S8192x3200.Idx) : ((dats m 0 c).arrAt 4 cfg0.N : Vec Ideal S8192x3200 .f32) i = up H W G (i 0).val (i 1).val := by
  refine (dats m 0 c).arrAt_forall_of_cover 4 (fun (i : S8192x3200.Idx) (x : EReal) => x = up H W G (i 0).val (i 1).val) (fun t hf y => ?_) (fun i => ?_) i
  · change S1024x640.Idx at y
    have hN : t.val < 40 := t.isLt
    have h0 : (y 0).val < 1024 := (y 0).isLt
    have h1 : (y 1).val < 640 := (y 1).isLt
    rw [emb4 t y (by omega) (by omega)]
    show (dats m 0 c).after 4 t y = _
    rw [after0_4]
    exact (congrArg (prods m c t) (eq_ix2 y)).trans (prods_at R t (y 0) (y 1))
  · have h0 : (i 0).val < 8192 := (i 0).isLt
    have h1 : (i 1).val < 3200 := (i 1).isLt
    have hN : 5 * ((i 0).val / 1024) + (i 1).val / 640 < cfg0.N := by show _ < 40; omega
    refine ⟨⟨5 * ((i 0).val / 1024) + (i 1).val / 640, hN⟩, flush0_4 _, ?_⟩
    have hm := ((cfg0.win 4).blk ⟨5 * ((i 0).val / 1024) + (i 1).val / 640, hN⟩).view.emb_mem_set (ix2 ⟨(i 0).val % 1024, by omega⟩ ⟨(i 1).val % 640, by omega⟩ : S1024x640.Idx)
    rw [emb4 _ _ (by show 1024 * ((5 * ((i 0).val / 1024) + (i 1).val / 640) / 5) + (i 0).val % 1024 < 8192; omega)
      (by show 640 * ((5 * ((i 0).val / 1024) + (i 1).val / 640) % 5) + (i 1).val % 640 < 3200; omega)] at hm
    refine (congrArg (· ∈ _) ?_).mp hm
    funext x; apply Fin.ext
    match x with
    | ⟨0, _⟩ => show 1024 * ((5 * ((i 0).val / 1024) + (i 1).val / 640) / 5) + (i 0).val % 1024 = (i 0).val; omega
    | ⟨1, _⟩ => show 640 * ((5 * ((i 0).val / 1024) + (i 1).val / 640) % 5) + (i 1).val % 640 = (i 1).val; omega

end Grid

end Cert.AttnProjIdeal.Ap

end
-- ==== Proof.Ap.Final.lean ====
/- The normalized rows and the projection the kernel ends with are the reference's. -/
module

public import proofs.«01_k».proof.Defs
public import proofs.«01_k».proof.Proof.Ap.Out
public import proofs.«01_k».proof.Proof.Ub.Final
public import proofs.«01_k».proof.Proof.Ag.Pad
public import proofs.«01_k».proof.Proof.Gen.AttnProjReferenceIdeal.Read
public import proofs.«01_k».proof.Proof.Gen.AttnProjReferenceIdeal.Run
public import Idealize.ShloMosaic.Lib.StableHlo.RunRead
public import Idealize.ShloMosaic.Lib.Pointwise

@[expose] public section

set_option maxRecDepth 16384

noncomputable section

namespace Cert.AttnProjReferenceIdeal.Ap

open Cert.AttnProjReferenceIdeal Cert.AttnProjReferenceIdeal.Read
open Idealize.ShloMosaic
open Cert.UpBackIdeal.Ub (rho ms eps width)
open Cert.AttnGradIdeal.Ag (cut pad_E2 nought sum_cut_right)
open Cert.AttnProjIdeal.Ap (xn up)
open Cert.UpBackReferenceIdeal.Ub (zero_add_c add_c mul_c div_c rsqrt_c width_c eps_c)
open scoped BigOperators

variable {H W : ℕ → ℕ → EReal} {G : ℕ → EReal}
variable {x0 : (⟨S8192x1024, .f32⟩ : BufTy).Contents (Elt Ideal)} {x1 : (⟨S1024, .f32⟩ : BufTy).Contents (Elt Ideal)} {x2 : (⟨S1024x3080, .f32⟩ : BufTy).Contents (Elt Ideal)}
variable (h0 : ∀ i : S8192x1024.Idx, @Eq EReal (x0 i) (H (i 0).val (i 1).val)) (h1 : ∀ i : S1024.Idx, @Eq EReal (x1 i) (G (i 0).val))
  (h2 : ∀ i : S1024x3080.Idx, @Eq EReal (x2 i) (W (i 0).val (i 1).val))
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v7_eq (i : S8192x1.Idx) : @Eq EReal (val_main_v7 (F := Ideal) x0 i) (rho H (i 0).val) := by
  rw [val_main_v7_apply, val_main_v6_apply, val_main_v4_apply, val_main_v2_apply, v1_eq h0, val_main_v3_apply, val_main_cst_0_apply, val_main_v5_apply, val_main_cst_1_apply,
    width_c, eps_c, div_c, add_c, rsqrt_c]
  rfl

include h1

theorem v12_eq (i : S8192x1024.Idx) : @Eq EReal (val_main_v12 (F := Ideal) x0 x1 i) (xn H G (i 0).val (i 1).val) := by
  rw [val_main_v12_apply, val_main_v9_apply, val_main_v8_apply, v7_eq h0, h0, val_main_v11_apply, val_main_v10_apply, h1, mul_c, mul_c]
  rfl

theorem v13_eq (i : S8192x1024.Idx) : @Eq EReal (val_main_v13 (F := Ideal) x0 x1 i) (xn H G (i 0).val (i 1).val) :=
  v12_eq h0 h1 i

theorem v26_eq (i : S8192x1024.Idx) : @Eq EReal (val_main_v26 (F := Ideal) x0 x1 i) (xn H G (i 0).val (i 1).val) :=
  v12_eq h0 h1 i

include h2

theorem v27_eq (i : S8192x3080.Idx) : @Eq EReal (val_main_v27 (F := Ideal) x0 x1 x2 i) (up H W G (i 0).val (i 1).val) := by
  rw [val_main_v27_apply]
  refine Eq.trans (Finset.sum_congr rfl fun k _ => ?_) (Finset.sum_range fun d => xn H G (i 0).val d * W d (i 1).val).symm
  exact congrArg₂ (fun a b : EReal => a * b) (v26_eq h0 h1 _) (h2 _)

theorem v28_eq (i : S8192x3200.Idx) : @Eq EReal (val_main_v28 (F := Ideal) x0 x1 x2 i) (up H (cut 3080 W) G (i 0).val (i 1).val) := by
  refine (congrArg (val_main_v28 (F := Ideal) x0 x1 x2) (ValueIdx.eq_ix2 i)).trans ?_
  unfold val_main_v28
  refine (pad_E2 (f := up H W G) _ _ _ _ (nought _) (fun r k => v27_eq h0 h1 h2 (ValueIdx.ix2 r k)) (i 0) (i 1)).trans ?_
  exact (sum_cut_right (K := 1024) (f := xn H G) (g := W) (i 0).val (i 1).val).symm

end Cert.AttnProjReferenceIdeal.Ap

namespace Cert.AttnProjIdeal.Ap

open Cert.AttnProjIdeal Cert.AttnProjIdeal.Gen
open Idealize.ShloMosaic Idealize.ShloMosaic.TcCoe
open Idealize.SL.Sem
open Cert.UpBackIdeal.Ub (at2_eq at1_eq)
open Cert.AttnGradIdeal.Ag (cut pad_E2 nought)
open scoped BigOperators

variable (m : (ℓ : Loc nD τ sig) → Buf (Elt Ideal) ℓ) (c : Dev nD) (g : Dev nD → PrngReg)

/-- The scale as a row, -/
theorem V_v0 : (V m c main_v0 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

/-- and the rounded weights with their columns of nought. -/
theorem V_v2 : (V m c main_v2 : Vec Ideal S1024x3200 .bf16) = pad S1024x3200 ![0, 0] ![0, 120] ![0, 0]
      (truncf (F := Ideal) .bf16 (m ((c : Thread nD τ).loc main_arg2) : FVec Ideal S1024x3080 .f32) bitsLt_bf16_f32 : FVec Ideal S1024x3080 .bf16)
      (sitofp .bf16 (constantI S_ 32 0#32) : FVec Ideal S_ .bf16) pads_S1024x3080_S1024x3200_000_01200 h_S_ := by
  unfold V
  simp only [List.flatten_cons, List.flatten_nil, List.append_nil, List.cons_append, List.nil_append, hostOps0]
  after_reads_simp
  rfl

variable {H W : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x3080.Idx, @Eq EReal ((m ((c : Thread nD τ).loc main_arg2) : Vec Ideal S1024x3080 .f32) i) (W (i 0).val (i 1).val)) : Reads m c H (cut 3080 W) G where
  H r j := by
    rw [V_main_arg0]
    exact h0 (ValueIdx.ix2 r j)
  G r j := by
    rw [V_v0]
    refine Eq.trans (congrArg (m ((c : Thread nD τ).loc main_arg1) : Vec Ideal S1024 .f32) (funext fun y => Fin.ext ?_)) (h1 (ValueIdx.ix1 j))
    match y with
    | ⟨0, _⟩ => rfl
  W r j := by
    rw [V_v2]
    exact pad_E2 _ _ _ _ (nought _) (fun r k => h2 (ValueIdx.ix2 r k)) r j

/-- The two results the kernel ends with, -/
def res0 : Buf (Elt Ideal) ((c.tc : Thread nD τ).loc main_v3_0) := (dats m 0 c).arrAt 3 cfg0.N
def res1 : Buf (Elt Ideal) ((c.tc : Thread nD τ).loc main_v3_1) := (dats m 0 c).arrAt 4 cfg0.N

theorem ends_with : θ_run (Cert.AttnProjIdeal.defs (F := Ideal)) (onTc (τ := τ) (Cert.AttnProjIdeal.main (F := Ideal))) ⟨m, fun _ => 0, g⟩ (fun r => ∀ c : Dev nD,
      r.2.mem ((c.tc : Thread nD τ).loc main_v3_0) = res0 m c ∧ r.2.mem ((c.tc : Thread nD τ).loc main_v3_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.AttnProjIdeal.defs _ _).mono (fun _ h c => ⟨(h.1 c).1 3, (h.1 c).1 4, h.2 c⟩) (θ_run_and (run_post m g) (unchanged m g))

/-- which are the reference's. -/
theorem same :
    Cert.AttnProjReferenceIdeal.Read.val_main_v13 (F := Ideal) (m ((c : Thread nD τ).loc main_arg0)) (m ((c : Thread nD τ).loc main_arg1)) = res0 m c
    ∧ Cert.AttnProjReferenceIdeal.Read.val_main_v28 (F := Ideal) (m ((c : Thread nD τ).loc main_arg0)) (m ((c : Thread nD τ).loc main_arg1)) (m ((c : Thread nD τ).loc main_arg2)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x3080 .f32)
  have R := reads m c h0 h1 h2
  constructor
  · refine funext fun (i : S8192x1024.Idx) => ?_
    exact (Cert.AttnProjReferenceIdeal.Ap.v13_eq h0 h1 i).trans (final3 R i).symm
  · refine funext fun (i : S8192x3200.Idx) => ?_
    exact (Cert.AttnProjReferenceIdeal.Ap.v28_eq h0 h1 h2 i).trans (final4 R i).symm

theorem algebraic : Cert.algebraic_AttnProjIdeal_AttnProjReferenceIdeal := fun m g m' g' _ ha =>
  ⟨res0 m, res1 m, ends_with m g, (θ_run Cert.AttnProjReferenceIdeal.defs _ _).mono (fun r h c =>
    ⟨(h c).1.trans (by rw [Cert.AttnProjReferenceIdeal.Read.val_main_v13_eq, (ha c).1, (ha c).2.1]; exact (same m c).1),
     (h c).2.1.trans (by rw [Cert.AttnProjReferenceIdeal.Read.val_main_v28_eq, (ha c).1, (ha c).2.1, (ha c).2.2]; exact (same m c).2), (h c).2.2⟩)
    (Cert.AttnProjReferenceIdeal.Value.run (F := Ideal) m' g')⟩

end Cert.AttnProjIdeal.Ap

end
-- ==== Proof.Ab.Pay.lean ====
/- What the backward kernel's vector operations compute, over blocks whose elements a function of row and column gives. -/
module

public import proofs.«01_k».proof.Proof.Gen.AttnBackIdeal.Skeleton
public import proofs.«01_k».proof.Proof.Ub.Pay
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.AttnBackIdeal.Ab

open Cert.AttnBackIdeal Cert.AttnBackIdeal.Gen
open Idealize.ShloMosaic Idealize.ShloMosaic.TcCoe Idealize.ShloMosaic.ValueIdx
open Cert.UpBackIdeal.Ub (E2 rho dot width_E2 eps_E2)
open scoped BigOperators

/-! The payloads. -/

section Payloads
variable {f y d A B : ℕ → ℕ → EReal} {g : ℕ → EReal}

theorem pay1_E2 {a : Vec Ideal S1x512x3200 .bf16} {b : Vec Ideal S1024x3200 .bf16} (ha : ∀ (r : Fin 512) (k : Fin 3200), a (ix3 0 r k) = A r.val k.val) (hb : E2 b B) :
    E2 (k0_pay1 (F := Ideal) a b) fun r j => ∑ k ∈ Finset.range 3200, A r k * B j k := by
  unfold k0_pay1
  rw [shapeCast_self]
  exact E2.rows (fun r k => (shapeCast_1ab_ab_apply a _ r k).trans (ha r k)) hb none

theorem pay5_E2 {x : Vec Ideal S512x1024 .f32} (hx : E2 x f) : E2 (k0_pay5 (F := Ideal) x) fun r _ => rho f r := by
  unfold k0_pay5
  exact E2.rsqrt (E2.add (E2.div (E2.rowsum (hx.mul hx)) width_E2) eps_E2)

theorem pay7_E2 {x t : Vec Ideal S512x1024 .f32} (hx : E2 x f) (ht : E2 t y) : E2 (k0_pay7 (F := Ideal) x t) fun _ j => ∑ r ∈ Finset.range 512, y r j * f r j * rho f r := by
  unfold k0_pay7
  exact E2.colsum (E2.mul (ht.mul hx) (E2.bcol (by decide) (pay5_E2 hx)))

theorem pay6_E2 {x t e : Vec Ideal S512x1024 .f32} {w : Vec Ideal S1x1024 .f32} (hx : E2 x f) (ht : E2 t y) (hw : E2 w fun _ j => g j) (he : E2 e d) :
    E2 (k0_pay6 (F := Ideal) x t w e) fun r j => d r j + rho f r * (y r j * g j) - f r j * (rho f r * rho f r * rho f r * dot f y g r) := by
  unfold k0_pay6
  rw [shapeCast_self]
  have h27 := E2.mul ht (E2.brow (m := 512) (h := broadcasts_S1x1024_S512x1024) (by decide) hw)
  have h5 := pay5_E2 hx
  have h32 := E2.div (E2.rowsum (h := reduces_S512x1024_S512) (hc := shapeCasts_S512_S512x1) (hφ := .inl rfl) (hacc := rfl) (h27.mul hx)) width_E2
  exact E2.sub (E2.add he (E2.mul (E2.bcol (h := broadcasts_S512x1_S512x1024) (by decide) h5) h27))
    (E2.mul hx (E2.bcol (h := broadcasts_S512x1_S512x1024) (by decide) (E2.mul (E2.mul (E2.mul h5 h5) h5) h32)))

theorem pay2_eq {a : Vec Ideal S1x512x3200 .bf16} {b : Vec Ideal S1024x3200 .bf16} : k0_pay2 (F := Ideal) a b = k0_pay1 a b := by
  unfold k0_pay2
  exact shapeCast_self _ _

theorem pay4_E2 {p o : Vec Ideal S1x1024 .f32} (hp : E2 p f) (ho : E2 o y) : E2 (k0_pay4 (F := Ideal) p o) fun r j => y r j + f r j := by
  unfold k0_pay4
  rw [shapeCast_self]
  exact E2.add ho hp

end Payloads

end Cert.AttnBackIdeal.Ab

end
-- ==== Proof.Ab.Cases.lean ====
/- What each of the backward kernel's cases leaves in its outputs. -/
module

public import proofs.«01_k».proof.Proof.Gen.AttnBackIdeal.Value
public import Idealize.ShloMosaic.Lib.ValueLayout

@[expose] public section

set_option maxRecDepth 16384

noncomputable section

namespace Cert.AttnBackIdeal.Ab

open Cert.AttnBackIdeal Cert.AttnBackIdeal.Gen
open Idealize.ShloMosaic Idealize.ShloMosaic.TcCoe Idealize.ShloMosaic.ValueIdx

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a2 : Memref sig .tc .vmem S1x512x3200 .bf16) (h2 : a2.IsWhole) (a3 : Memref sig .tc .vmem S1024x3200 .bf16) (h3 : a3.IsWhole)
  (a4 : Memref sig .tc .vmem S512x1024 .f32) (h4 : a4.IsWhole) (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole) (a9 : Memref sig .tc .vmem S512x1024 .f32) (h9 : a9.IsWhole)
  (x0 : Vec F S1x512x3200 .bf16) (x1 : Vec F S1024x3200 .bf16) (x2 : Vec F S512x1024 .f32) (x3 : Vec F S1x1024 .f32) (x4 : Vec F S512x1024 .f32) (o6 : Vec F S1x1024 .f32)

theorem out_A5 (hc0 : cond0_0 i) (hc1 : ¬cond0_1 i) (hc2 : cond0_2 i) (hc3 : cond0_3 i) (hc4 : ¬cond0_4 i) :
    out0_A_5 c i a2 h2 a3 h3 a4 h4 a5 h5 a6 h6 a7 h7 a8 h8 a9 h9 hc0 hc1 hc2 hc3 hc4 x0 x1 x2 x3 x4 = k0_pay6 x2 (k0_pay2 x0 x1) x3 x4 := by
  unfold out0_A_5
  rw [View.read_writes_eq_canon _ _ _ (cover0_A_5 c i a2 h2 a3 h3 a4 h4 a5 h5 a6 h6 a7 h7 a8 h8 a9 h9 hc0 hc1 hc2 hc3 hc4 x0 x1 x2 x3 x4)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S1x512x3200) hz3, View.ld_unit_zero (S := S1024x3200) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_A6 (hc0 : cond0_0 i) (hc1 : ¬cond0_1 i) (hc2 : cond0_2 i) (hc3 : cond0_3 i) (hc4 : ¬cond0_4 i) :
    out0_A_6 c i a2 h2 a3 h3 a4 h4 a5 h5 a6 h6 a7 h7 a8 h8 a9 h9 hc0 hc1 hc2 hc3 hc4 x0 x1 x2 x3 x4 = k0_pay7 x2 (k0_pay2 x0 x1) := by
  unfold out0_A_6
  rw [View.read_writes_eq_canon _ _ _ (cover0_A_6 c i a2 h2 a3 h3 a4 h4 a5 h5 a6 h6 a7 h7 a8 h8 a9 h9 hc0 hc1 hc2 hc3 hc4 x0 x1 x2 x3 x4)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S1x512x3200) hz3, View.ld_unit_zero (S := S1024x3200) hz2, View.ld_unit_zero (S := S512x1024) hz2, View.ld_unit_zero (S := S1x1024) hz2]
  exact congrArg (fun z => k0_pay7 x2 z) (View.readCov_unit_zero (Val := Elt F) (S := S512x1024) a9.view hz2 _ _)

theorem out_B5 (hc0 : cond0_0 i) (hc1 : ¬cond0_1 i) (hc2 : cond0_2 i) (hc3 : ¬cond0_3 i) (hc4 : cond0_4 i) :
    out0_B_5 c i a2 h2 a3 h3 a4 h4 a5 h5 a6 h6 a7 h7 a8 h8 a9 h9 hc0 hc1 hc2 hc3 hc4 x0 x1 x2 x3 x4 o6 = k0_pay6 x2 (k0_pay2 x0 x1) x3 x4 := by
  unfold out0_B_5
  rw [View.read_writes_eq_canon _ _ _ (cover0_B_5 c i a2 h2 a3 h3 a4 h4 a5 h5 a6 h6 a7 h7 a8 h8 a9 h9 hc0 hc1 hc2 hc3 hc4 x0 x1 x2 x3 x4 o6)]
  unfold kernelRun0_B
  dsimp only
  sl_unfold_words
  rw [View.canon_unit_zero hz2]
  simp only [View.readAt_eq_ld, h2.read_unread, h3.read_unread, h4.read_unread, h5.read_unread, h6.read_unread, h8.read_unread,
    View.ld_unit_zero (S := S1x512x3200) hz3, View.ld_unit_zero (S := S1024x3200) hz2, View.ld_unit_zero (S := S512x1024) hz2, View.ld_unit_zero (S := S1x1024) hz2]
  exact congrArg (fun z => k0_pay6 x2 z x3 x4) (View.readCov_unit_zero (Val := Elt F) (S := S512x1024) a9.view hz2 _ _)

theorem out_B6 (hc0 : cond0_0 i) (hc1 : ¬cond0_1 i) (hc2 : cond0_2 i) (hc3 : ¬cond0_3 i) (hc4 : cond0_4 i) :
    out0_B_6 c i a2 h2 a3 h3 a4 h4 a5 h5 a6 h6 a7 h7 a8 h8 a9 h9 hc0 hc1 hc2 hc3 hc4 x0 x1 x2 x3 x4 o6 = k0_pay4 (k0_pay7 x2 (k0_pay2 x0 x1)) o6 := by
  unfold out0_B_6
  rw [View.read_writes_eq_canon _ _ _ (cover0_B_6 c i a2 h2 a3 h3 a4 h4 a5 h5 a6 h6 a7 h7 a8 h8 a9 h9 hc0 hc1 hc2 hc3 hc4 x0 x1 x2 x3 x4 o6)]
  unfold kernelRun0_B
  dsimp only
  sl_unfold_words
  rw [View.canon_unit_zero hz2]
  simp only [View.readAt_eq_ld, h2.read_unread, h3.read_unread, h4.read_unread, h5.read_unread, h6.read_unread, h8.read_unread,
    View.ld_unit_zero (S := S1x512x3200) hz3, View.ld_unit_zero (S := S1024x3200) hz2, View.ld_unit_zero (S := S512x1024) hz2, View.ld_unit_zero (S := S1x1024) hz2]
  exact congrArg (fun z => k0_pay4 (k0_pay7 x2 z) o6) (View.readCov_unit_zero (Val := Elt F) (S := S512x1024) a9.view hz2 _ _)

end Cert.AttnBackIdeal.Ab

end
-- ==== Proof.Ab.Out.lean ====
/- What the backward kernel's grid leaves, over arrays that functions of row and column give: the rows' gradient tile by tile, and the scale's
   gradient summed over the tiles. -/
module

public import proofs.«01_k».proof.Proof.Ab.Pay
public import proofs.«01_k».proof.Proof.Ab.Cases

@[expose] public section

set_option maxRecDepth 16384

noncomputable section

namespace Cert.AttnBackIdeal.Ab

open Cert.AttnBackIdeal Cert.AttnBackIdeal.Gen
open Idealize.ShloMosaic Idealize.ShloMosaic.TcCoe Idealize.ShloMosaic.ValueIdx
open Cert.UpBackIdeal.Ub (E2 rho dot)
open scoped BigOperators

/-! The results, as functions. -/

section Results
variable (H C W D : ℕ → ℕ → EReal) (G : ℕ → EReal)

/-- The gradient of the scaled rows, -/
def dy (r j : ℕ) : EReal := ∑ k ∈ Finset.range 3200, C r k * W j k

/-- the gradient of the rows, -/
def dh (r j : ℕ) : EReal := D r j + rho H r * (dy C W r j * G j) - H r j * (rho H r * rho H r * rho H r * dot H (dy C W) G r)

/-- and one row's share of the scale's gradient. -/
def dg (j r : ℕ) : EReal := dy C W r j * H r j * rho H r

theorem sum_tiles (f : ℕ → EReal) (n : ℕ) : ∑ s ∈ Finset.range n, ∑ k ∈ Finset.range 512, f (512 * s + k) = ∑ r ∈ Finset.range (512 * n), f r := by
  induction n with
  | zero => rfl
  | succ n ih => rw [Finset.sum_range_succ, ih, Nat.mul_succ, Finset.sum_range_add]

end Results

section Grid
variable (m : (ℓ : Loc nD τ sig) → Buf (Elt Ideal) ℓ) (c : Dev nD)

theorem idx0 : ∀ t : Fin grid0.N, win0_0.index t (0 : Fin 3) = 0 ∧ win0_0.index t (1 : Fin 3) = t.val ∧ win0_0.index t (2 : Fin 3) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = t.val ∧ win0_2.index t (1 : Fin 2) = 0 := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = t.val ∧ win0_5.index t (1 : Fin 2) = 0 := by decide +kernel
theorem idx6 : ∀ t : Fin grid0.N, win0_6.index t (0 : Fin 2) = 0 ∧ win0_6.index t (1 : Fin 2) = 0 := by decide +kernel

variable {H C W D : ℕ → ℕ → EReal} {G : ℕ → EReal}

theorem iblk0_at (hC : ∀ (r : Fin 8192) (k : Fin 3200), (V m c main_v2 : Vec Ideal S1x8192x3200 .bf16) (ix3 0 r k) = C r.val k.val)
    (t : Fin cfg0.N) (r : Fin 512) (k : Fin 3200) : (iblk m c 0 t : Vec Ideal S1x512x3200 .bf16) (ix3 0 r k) = C (512 * t.val + r.val) k.val := by
  obtain ⟨e0, e1, e2⟩ := idx0 t
  have hN : t.val < 16 := t.isLt
  refine Eq.trans ?_ (hC ⟨512 * t.val + r.val, by omega⟩ k)
  refine congrArg (V m c main_v2 : Vec Ideal S1x8192x3200 .bf16) (funext fun a => Fin.ext ?_)
  match a with
  | ⟨0, _⟩ => show win0_0.index t (0 : Fin 3) * 1 + 1 * 0 = 0; omega
  | ⟨1, _⟩ => show win0_0.index t (1 : Fin 3) * 512 + 1 * r.val = 512 * t.val + r.val; omega
  | ⟨2, _⟩ => show win0_0.index t (2 : Fin 3) * 3200 + 1 * k.val = k.val; omega

theorem iblk1_E2 (hW : E2 (V m c main_v4 : Vec Ideal S1024x3200 .bf16) W) (t : Fin cfg0.N) : E2 (iblk m c 1 t : Vec Ideal S1024x3200 .bf16) fun j k => W j k := fun j k => by
  obtain ⟨e0, e1⟩ := idx1 t
  refine Eq.trans ?_ (hW j k)
  refine congrArg (V m c main_v4 : Vec Ideal S1024x3200 .bf16) (funext fun a => Fin.ext ?_)
  match a with
  | ⟨0, _⟩ => show win0_1.index t (0 : Fin 2) * 1024 + 1 * j.val = j.val; omega
  | ⟨1, _⟩ => show win0_1.index t (1 : Fin 2) * 3200 + 1 * k.val = k.val; omega

theorem iblk2_E2 (hH : E2 (V m c main_arg0 : Vec Ideal S8192x1024 .f32) H) (t : Fin cfg0.N) : E2 (iblk m c 2 t : Vec Ideal S512x1024 .f32) fun r j => H (512 * t.val + r) j := fun r j => by
  obtain ⟨e0, e1⟩ := idx2 t
  have hN : t.val < 16 := t.isLt
  refine Eq.trans ?_ (hH ⟨512 * t.val + r.val, by omega⟩ j)
  refine congrArg (V m c main_arg0 : Vec Ideal S8192x1024 .f32) (funext fun a => Fin.ext ?_)
  match a with
  | ⟨0, _⟩ => show win0_2.index t (0 : Fin 2) * 512 + 1 * r.val = 512 * t.val + r.val; omega
  | ⟨1, _⟩ => show win0_2.index t (1 : Fin 2) * 1024 + 1 * j.val = j.val; omega

theorem iblk3_E2 (hG : E2 (V m c main_v5 : Vec Ideal S1x1024 .f32) fun _ j => G j) (t : Fin cfg0.N) : E2 (iblk m c 3 t : Vec Ideal S1x1024 .f32) fun _ j => G j := fun r j => by
  obtain ⟨e0, e1⟩ := idx3 t
  refine Eq.trans ?_ (hG r j)
  refine congrArg (V m c main_v5 : Vec Ideal S1x1024 .f32) (funext fun a => Fin.ext ?_)
  match a with
  | ⟨0, _⟩ => show win0_3.index t (0 : Fin 2) * 1 + 1 * r.val = r.val; omega
  | ⟨1, _⟩ => show win0_3.index t (1 : Fin 2) * 1024 + 1 * j.val = j.val; omega

theorem iblk4_E2 (hD : E2 (V m c main_arg4 : Vec Ideal S8192x1024 .f32) D) (t : Fin cfg0.N) : E2 (iblk m c 4 t : Vec Ideal S512x1024 .f32) fun r j => D (512 * t.val + r) j := fun r j => by
  obtain ⟨e0, e1⟩ := idx4 t
  have hN : t.val < 16 := t.isLt
  refine Eq.trans ?_ (hD ⟨512 * t.val + r.val, by omega⟩ j)
  refine congrArg (V m c main_arg4 : Vec Ideal S8192x1024 .f32) (funext fun a => Fin.ext ?_)
  match a with
  | ⟨0, _⟩ => show win0_4.index t (0 : Fin 2) * 512 + 1 * r.val = 512 * t.val + r.val; omega
  | ⟨1, _⟩ => show win0_4.index t (1 : Fin 2) * 1024 + 1 * j.val = j.val; omega

theorem emb5 (t : Fin cfg0.N) (y : S512x1024.Idx) (h0 : 512 * t.val + (y 0).val < 8192) :
    ((cfg0.win 5).blk t).view.emb y = (ix2 ⟨512 * t.val + (y 0).val, h0⟩ (y 1) : S8192x1024.Idx) := by
  obtain ⟨e0, e1⟩ := idx5 t
  funext a; apply Fin.ext
  match a with
  | ⟨0, _⟩ => show win0_5.index t (0 : Fin 2) * 512 + 1 * (y 0).val = 512 * t.val + (y 0).val; omega
  | ⟨1, _⟩ => show win0_5.index t (1 : Fin 2) * 1024 + 1 * (y 1).val = (y 1).val; omega

theorem emb6 (t : Fin cfg0.N) (y : S1x1024.Idx) : ((cfg0.win 6).blk t).view.emb y = y := by
  obtain ⟨e0, e1⟩ := idx6 t
  funext a; apply Fin.ext
  match a with
  | ⟨0, _⟩ => show win0_6.index t (0 : Fin 2) * 1 + 1 * (y 0).val = (y 0).val; omega
  | ⟨1, _⟩ => show win0_6.index t (1 : Fin 2) * 1024 + 1 * (y 1).val = (y 1).val; omega

/-! The points. -/

/-- The arrays' elements are what the functions give. -/
structure Reads (H C W D : ℕ → ℕ → EReal) (G : ℕ → EReal) : Prop where
  C : ∀ (r : Fin 8192) (k : Fin 3200), (V m c main_v2 : Vec Ideal S1x8192x3200 .bf16) (ix3 0 r k) = C r.val k.val
  W : E2 (V m c main_v4 : Vec Ideal S1024x3200 .bf16) W
  H : E2 (V m c main_arg0 : Vec Ideal S8192x1024 .f32) H
  G : E2 (V m c main_v5 : Vec Ideal S1x1024 .f32) fun _ j => G j
  D : E2 (V m c main_arg4 : Vec Ideal S8192x1024 .f32) D

variable {m c} (R : Reads m c H C W D G)
include R

/-- The products of a point's tile, -/
theorem pay2_at (n : ℕ) (h : n < cfg0.N) : E2 (k0_pay2 (F := Ideal) (iblk m c 0 ⟨n, h⟩) (iblk m c 1 ⟨n, h⟩)) fun r j => dy C W (512 * n + r) j := by
  rw [pay2_eq]
  exact pay1_E2 (A := fun r k => C (512 * n + r) k) (iblk0_at m c R.C ⟨n, h⟩) (iblk1_E2 m c R.W ⟨n, h⟩)

/-- its rows' gradient, -/
theorem row_at (n : ℕ) (h : n < cfg0.N) :
    E2 (k0_pay6 (F := Ideal) (iblk m c 2 ⟨n, h⟩) (k0_pay2 (F := Ideal) (iblk m c 0 ⟨n, h⟩) (iblk m c 1 ⟨n, h⟩)) (iblk m c 3 ⟨n, h⟩) (iblk m c 4 ⟨n, h⟩))
      fun r j => dh H C W D G (512 * n + r) j :=
  pay6_E2 (iblk2_E2 m c R.H ⟨n, h⟩) (pay2_at R n h) (iblk3_E2 m c R.G ⟨n, h⟩) (iblk4_E2 m c R.D ⟨n, h⟩)

/-- and its share of the scale's. -/
theorem col_at (n : ℕ) (h : n < cfg0.N) :
    E2 (k0_pay7 (F := Ideal) (iblk m c 2 ⟨n, h⟩) (k0_pay2 (F := Ideal) (iblk m c 0 ⟨n, h⟩) (iblk m c 1 ⟨n, h⟩))) fun _ j => ∑ r ∈ Finset.range 512, dg H C W j (512 * n + r) :=
  pay7_E2 (iblk2_E2 m c R.H ⟨n, h⟩) (pay2_at R n h)

/-- The gradient of the rows, at every point. -/
theorem out5 (n : ℕ) (h : n < cfg0.N) : E2 (outsAt0 m c n h).1 fun r j => dh H C W D G (512 * n + r) j := by
  have hN : n < 16 := h
  by_cases h0 : n = 0
  · rw [outsAt0_A m c ⟨n, h⟩ (by show n % 16 = 0; omega) (by show ¬ 1 ≤ n; omega)]
    dsimp only
    rw [out_A5]
    exact row_at R n h
  · rw [outsAt0_B m c ⟨n, h⟩ (by show ¬ n % 16 = 0; omega) (by show 1 ≤ n; omega)]
    dsimp only
    rw [out_B5]
    exact row_at R n h

/-- The gradient of the scale, after the tiles so far. -/
theorem out6 : ∀ (n : ℕ) (h : n < cfg0.N), E2 (outsAt0 m c n h).2 fun _ j => ∑ i ∈ Finset.range (n + 1), ∑ r ∈ Finset.range 512, dg H C W j (512 * i + r)
  | 0, h => by
    rw [outsAt0_A m c ⟨0, h⟩ rfl (by show ¬ 1 ≤ 0; omega)]
    dsimp only
    rw [out_A6]
    refine (col_at R 0 h).congr fun _ _ j _ => ?_
    exact (Finset.sum_range_one (fun i => ∑ r ∈ Finset.range 512, dg H C W j (512 * i + r))).symm
  | n + 1, h => by
    have hN : n + 1 < 16 := h
    rw [outsAt0_B m c ⟨n + 1, h⟩ (by show ¬ (n + 1) % 16 = 0; omega) (by show 1 ≤ n + 1; omega)]
    dsimp only
    rw [out_B6]
    refine (pay4_E2 (col_at R (n + 1) h) (out6 n (Nat.lt_of_succ_lt h))).congr fun _ _ j _ => ?_
    exact (Finset.sum_range_succ (fun i => ∑ r ∈ Finset.range 512, dg H C W j (512 * i + r)) (n + 1)).symm

/-! The arrays after the run. -/

theorem final5 (i : S8192x1024.Idx) : ((dats m 0 c).arrAt 5 cfg0.N : Vec Ideal S8192x1024 .f32) i = dh H C W D G (i 0).val (i 1).val := by
  refine (dats m 0 c).arrAt_forall_of_cover 5 (fun (i : S8192x1024.Idx) (x : EReal) => x = dh H C W D G (i 0).val (i 1).val) (fun t hf y => ?_) (fun i => ?_) i
  · change S512x1024.Idx at y
    have hN : t.val < 16 := t.isLt
    have h0 : (y 0).val < 512 := (y 0).isLt
    rw [emb5 t y (by omega)]
    show (dats m 0 c).after 5 t y = _
    rw [after0_5]
    exact (congrArg (outsAt0 m c t.val t.isLt).1 (eq_ix2 y)).trans (out5 R t.val t.isLt (y 0) (y 1))
  · have h0 : (i 0).val < 8192 := (i 0).isLt
    have hN : (i 0).val / 512 < cfg0.N := by show _ < 16; omega
    refine ⟨⟨(i 0).val / 512, hN⟩, flush0_5 _, ?_⟩
    have hm := ((cfg0.win 5).blk ⟨(i 0).val / 512, hN⟩).view.emb_mem_set (ix2 ⟨(i 0).val % 512, by omega⟩ (i 1) : S512x1024.Idx)
    rw [emb5 _ _ (by show 512 * (((i 0).val / 512)) + (i 0).val % 512 < 8192; omega)] at hm
    refine (congrArg (· ∈ _) ?_).mp hm
    funext x; apply Fin.ext
    match x with
    | ⟨0, _⟩ => show 512 * (((i 0).val / 512)) + (i 0).val % 512 = (i 0).val; omega
    | ⟨1, _⟩ => rfl

theorem final6 (i : S1x1024.Idx) : ((dats m 0 c).arrAt 6 cfg0.N : Vec Ideal S1x1024 .f32) i = ∑ r ∈ Finset.range 8192, dg H C W (i 1).val r := by
  refine (dats m 0 c).arrAt_forall_of_cover 6 (fun (i : S1x1024.Idx) (x : EReal) => x = ∑ r ∈ Finset.range 8192, dg H C W (i 1).val r) (fun t hf y => ?_) (fun i => ?_) i
  · change S1x1024.Idx at y
    have hN : t.val < 16 := t.isLt
    have h3 : t.val % 16 = 15 := (flush0_6 t).mp hf
    rw [emb6 t y]
    show (dats m 0 c).after 6 t y = _
    rw [after0_6]
    refine (congrArg (outsAt0 m c t.val t.isLt).2 (eq_ix2 y)).trans ((out6 R t.val t.isLt (y 0) (y 1)).trans ?_)
    refine ((sum_tiles (fun r => dg H C W (y 1).val r) (t.val + 1)).trans ?_)
    rw [show 512 * (t.val + 1) = 8192 by omega]
  · refine ⟨⟨15, by decide⟩, (flush0_6 _).mpr rfl, ?_⟩
    have hm := ((cfg0.win 6).blk ⟨15, by decide⟩).view.emb_mem_set (i : S1x1024.Idx)
    rw [emb6] at hm
    exact hm

end Grid

end Cert.AttnBackIdeal.Ab

end
-- ==== Proof.Ab.Ref.lean ====
/- The reference's two results, over arrays that functions of row and column give. -/
module

public import proofs.«01_k».proof.Proof.Ab.Out
public import proofs.«01_k».proof.Proof.Ag.Pad
public import proofs.«01_k».proof.Proof.Ub.Ref
public import proofs.«01_k».proof.Proof.Gen.AttnBackReferenceIdeal.Read

@[expose] public section

set_option maxRecDepth 16384

noncomputable section

namespace Cert.AttnBackReferenceIdeal.Ab

open Cert.AttnBackReferenceIdeal Cert.AttnBackReferenceIdeal.Read
open Idealize.ShloMosaic
open Cert.UpBackIdeal.Ub (eps width ms rho dot)
open Cert.AttnBackIdeal.Ab (dy dh dg)
open Cert.AttnGradIdeal.Ag (cut sum_cut_rows)
open Cert.UpBackReferenceIdeal.Ub (half through under zero_add_c add_c mul_c div_c rsqrt_c width_c eps_c half_c)
open scoped BigOperators

section Values
variable {H C W D : ℕ → ℕ → EReal} {G : ℕ → EReal}
variable {x0 : (⟨S8192x1024, .f32⟩ : BufTy).Contents (Elt Ideal)} {x1 : (⟨S1024, .f32⟩ : BufTy).Contents (Elt Ideal)} {x2 : (⟨S1024x3080, .f32⟩ : BufTy).Contents (Elt Ideal)}
  {x3 : (⟨S8192x3080, .f32⟩ : BufTy).Contents (Elt Ideal)} {x4 : (⟨S8192x1024, .f32⟩ : BufTy).Contents (Elt Ideal)}

theorem dy_eq (r j : ℕ) : ∑ k ∈ Finset.range 3080, C r k * W j k = dy (cut 3080 C) (cut 3080 W) r j :=
  (sum_cut_rows (n := 3080) (h := 120) r j).symm

variable (h0 : ∀ i : S8192x1024.Idx, @Eq EReal (x0 i) (H (i 0).val (i 1).val)) (h1 : ∀ i : S1024.Idx, @Eq EReal (x1 i) (G (i 0).val))
  (h2 : ∀ i : S1024x3080.Idx, @Eq EReal (x2 i) (W (i 0).val (i 1).val)) (h3 : ∀ i : S8192x3080.Idx, @Eq EReal (x3 i) (C (i 0).val (i 1).val))
  (h4 : ∀ i : S8192x1024.Idx, @Eq EReal (x4 i) (D (i 0).val (i 1).val))

section
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v6_eq (i : S8192x1.Idx) : @Eq EReal (val_main_v6 (F := Ideal) x0 i) (ms H (i 0).val + eps) := by
  rw [val_main_v6_apply, val_main_v4_apply, val_main_v2_apply, v1_eq h0, val_main_v3_apply, val_main_cst_0_apply, val_main_v5_apply, val_main_cst_1_apply, width_c, eps_c, div_c, add_c]
  rfl

theorem v7_eq (i : S8192x1.Idx) : @Eq EReal (val_main_v7 (F := Ideal) x0 i) (rho H (i 0).val) := by
  rw [val_main_v7_apply, v6_eq h0, rsqrt_c]
  rfl

theorem v10_eq (i : S8192x1.Idx) : @Eq EReal (val_main_v10 (F := Ideal) x0 i) (half * Ideal.div (rho H (i 0).val) (ms H (i 0).val + eps)) := by
  rw [val_main_v10_apply, val_main_v9_apply, val_main_cst_2_apply, val_main_v8_apply, v7_eq h0, v6_eq h0, half_c, div_c, mul_c]

theorem v12_eq (i : S8192x1024.Idx) : @Eq EReal (val_main_v12 (F := Ideal) x0 i) (H (i 0).val (i 1).val * rho H (i 0).val) := by
  rw [val_main_v12_apply, val_main_v11_apply, h0, v7_eq h0, mul_c]

end

section
include h2 h3

theorem v17_eq (i : S8192x1024.Idx) : @Eq EReal (val_main_v17 (F := Ideal) x2 x3 i) (dy (cut 3080 C) (cut 3080 W) (i 0).val (i 1).val) := by
  rw [val_main_v17_apply, ← dy_eq]
  refine Eq.trans (Finset.sum_congr rfl fun k _ => ?_) (Finset.sum_range fun k => C (i 0).val k * W (i 1).val k).symm
  exact congrArg₂ (fun a b : EReal => a * b) (h3 _) (h2 _)

include h0 in
theorem v19_eq (i : S1024.Idx) : @Eq EReal (val_main_v19 (F := Ideal) x0 x2 x3 i) (∑ r ∈ Finset.range 8192, dg H (cut 3080 C) (cut 3080 W) (i 0).val r) := by
  rw [val_main_v19_apply, val_main_cst_3_apply, zero_add_c]
  refine Eq.trans (Finset.sum_congr rfl fun k _ => ?_) (Finset.sum_range fun r => dg H (cut 3080 C) (cut 3080 W) (i 0).val r).symm
  rw [val_main_v18_apply, v12_eq h0, v17_eq h2 h3, mul_c]
  show H k.val (i 0).val * rho H k.val * dy (cut 3080 C) (cut 3080 W) k.val (i 0).val = dy (cut 3080 C) (cut 3080 W) k.val (i 0).val * H k.val (i 0).val * rho H k.val
  rw [mul_comm (H k.val (i 0).val * rho H k.val), mul_assoc]

include h0 in
/-- The gradient of the scale. -/
theorem v39_eq (i : S1x1024.Idx) : @Eq EReal (val_main_v39 (F := Ideal) x0 x2 x3 i) (∑ r ∈ Finset.range 8192, dg H (cut 3080 C) (cut 3080 W) (i 1).val r) := by
  rw [val_main_v39_apply, val_main_v23_apply, val_main_cst_4_apply, zero_add_c, Fin.sum_univ_one, val_main_v20_apply, v19_eq h0 h2 h3,
    show (idx_main_v20 (idx_main_v23 (idx_main_v39 i) 0) 0).val = (i 1).val by show 0 * 1024 + (i 1).val = (i 1).val; omega]

include h1

theorem v22_eq (i : S8192x1024.Idx) : @Eq EReal (val_main_v22 (F := Ideal) x1 x2 x3 i) (dy (cut 3080 C) (cut 3080 W) (i 0).val (i 1).val * G (i 1).val) := by
  rw [val_main_v22_apply, v17_eq h2 h3, val_main_v21_apply, val_main_v13_apply, h1, mul_c]

include h0

theorem v25_eq (i : S8192.Idx) : @Eq EReal (val_main_v25 (F := Ideal) x0 x1 x2 x3 i) (∑ d ∈ Finset.range 1024, dy (cut 3080 C) (cut 3080 W) (i 0).val d * G d * H (i 0).val d) := by
  rw [val_main_v25_apply, val_main_cst_5_apply, zero_add_c]
  refine Eq.trans (Finset.sum_congr rfl fun k _ => ?_) (Finset.sum_range fun d => dy (cut 3080 C) (cut 3080 W) (i 0).val d * G d * H (i 0).val d).symm
  rw [val_main_v24_apply, h0, v22_eq h1 h2 h3, mul_c, mul_comm]

theorem v34_eq (i : S8192x1024.Idx) : @Eq EReal (val_main_v34 (F := Ideal) x0 x1 x2 x3 i)
    (Ideal.div ((∑ d ∈ Finset.range 1024, dy (cut 3080 C) (cut 3080 W) (i 0).val d * G d * H (i 0).val d) * (half * Ideal.div (rho H (i 0).val) (ms H (i 0).val + eps))) width) := by
  rw [val_main_v34_apply, val_main_v33_apply, val_main_cst_7_apply, zero_add_c, Fin.sum_univ_one, val_main_v32_apply, val_main_v30_apply, val_main_v26_apply, v25_eq h0 h1 h2 h3, v10_eq h0,
    val_main_v31_apply, val_main_cst_6_apply, width_c, mul_c, div_c,
    show (idx_main_v26 (idx_main_v33 (idx_main_v34 i) 0) 0).val = (i 0).val by show (i 0).val * 1 + 0 = (i 0).val; omega]

include h4 in
/-- The gradient of the rows. -/
theorem v38_eq (i : S8192x1024.Idx) : @Eq EReal (val_main_v38 (F := Ideal) x0 x1 x2 x3 x4 i) (dh H (cut 3080 C) (cut 3080 W) D G (i 0).val (i 1).val) := by
  rw [val_main_v38_apply, val_main_v36_apply, val_main_v29_apply, val_main_v28_apply, val_main_v35_apply, val_main_v37_apply, val_main_v27_apply, v34_eq h0 h1 h2 h3, v22_eq h1 h2 h3, v7_eq h0, h4, h0]
  refine Eq.trans ?_ (through (D (i 0).val (i 1).val + rho H (i 0).val * (dy (cut 3080 C) (cut 3080 W) (i 0).val (i 1).val * G (i 1).val)) _ (H (i 0).val (i 1).val) _ (under H (i 0).val))
  rw [mul_comm (rho H (i 0).val)]
  rfl

end

end Values

end Cert.AttnBackReferenceIdeal.Ab

end
-- ==== Proof.Ab.Final.lean ====
/- The two gradients the backward kernel ends with are the reference's. -/
module

public import proofs.«01_k».proof.Defs
public import proofs.«01_k».proof.Proof.Ab.Ref
public import proofs.«01_k».proof.Proof.Ub.Final
public import proofs.«01_k».proof.Proof.Ag.Pad
public import proofs.«01_k».proof.Proof.Gen.AttnBackReferenceIdeal.Run
public import Idealize.ShloMosaic.Lib.StableHlo.RunRead
public import Idealize.ShloMosaic.Lib.Pointwise

@[expose] public section

set_option maxRecDepth 16384

noncomputable section

namespace Cert.AttnBackIdeal.Ab

open Cert.AttnBackIdeal Cert.AttnBackIdeal.Gen
open Idealize.ShloMosaic Idealize.ShloMosaic.TcCoe
open Idealize.SL.Sem
open Cert.UpBackIdeal.Ub (E2 at2_eq at1_eq)
open Cert.AttnGradIdeal.Ag (cut pad_E2 nought)
open scoped BigOperators

section Results
variable (m : (ℓ : Loc nD τ sig) → Buf (Elt Ideal) ℓ) (c : Dev nD) (g : Dev nD → PrngReg)

/-- The gradient with its columns of nought, as one part, -/
theorem V_v2 : (V m c main_v2 : Vec Ideal S1x8192x3200 .bf16) = broadcastInDim S1x8192x3200 ![1, 2] bcast_S8192x3200_S1x8192x3200_1_2 (pad S8192x3200 ![0, 0] ![0, 120] ![0, 0]
      (truncf (F := Ideal) .bf16 (m ((c : Thread nD τ).loc main_arg3) : FVec Ideal S8192x3080 .f32) bitsLt_bf16_f32 : FVec Ideal S8192x3080 .bf16)
      (sitofp .bf16 (constantI S_ 32 0#32) : FVec Ideal S_ .bf16) pads_S8192x3080_S8192x3200_000_01200 h_S_) := by
  unfold V
  simp only [List.flatten_cons, List.flatten_nil, List.append_nil, List.cons_append, List.nil_append, hostOps0]
  after_reads_simp
  rfl

/-- the rounded weights with theirs, -/
theorem V_v4 : (V m c main_v4 : Vec Ideal S1024x3200 .bf16) = (pad S1024x3200 ![0, 0] ![0, 120] ![0, 0]
      (truncf (F := Ideal) .bf16 (m ((c : Thread nD τ).loc main_arg2) : FVec Ideal S1024x3080 .f32) bitsLt_bf16_f32 : FVec Ideal S1024x3080 .bf16)
      (sitofp .bf16 (constantI S_ 32 0#32) : FVec Ideal S_ .bf16) pads_S1024x3080_S1024x3200_000_01200 h_S_) := by
  unfold V
  simp only [List.flatten_cons, List.flatten_nil, List.append_nil, List.cons_append, List.nil_append, hostOps0]
  after_reads_simp
  rfl

/-- and the scale as a row. -/
theorem V_v5 : (V m c main_v5 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

variable {H C W D : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x3080.Idx, @Eq EReal ((m ((c : Thread nD τ).loc main_arg2) : Vec Ideal S1024x3080 .f32) i) (W (i 0).val (i 1).val))
    (h3 : ∀ i : S8192x3080.Idx, @Eq EReal ((m ((c : Thread nD τ).loc main_arg3) : Vec Ideal S8192x3080 .f32) i) (C (i 0).val (i 1).val))
    (h4 : ∀ i : S8192x1024.Idx, @Eq EReal ((m ((c : Thread nD τ).loc main_arg4) : Vec Ideal S8192x1024 .f32) i) (D (i 0).val (i 1).val)) : Reads m c H (cut 3080 C) (cut 3080 W) D G where
  C r k := by
    rw [V_v2]
    refine Eq.trans ?_ (pad_E2 (f := C) (truncf (F := Ideal) .bf16 (m ((c : Thread nD τ).loc main_arg3) : FVec Ideal S8192x3080 .f32) bitsLt_bf16_f32 : FVec Ideal S8192x3080 .bf16)
      (sitofp .bf16 (constantI S_ 32 0#32) : FVec Ideal S_ .bf16) pads_S8192x3080_S8192x3200_000_01200 h_S_ (nought _) (fun r k => h3 (ValueIdx.ix2 r k)) r k)
    refine congrArg (pad S8192x3200 ![0, 0] ![0, 120] ![0, 0] (truncf (F := Ideal) .bf16 (m ((c : Thread nD τ).loc main_arg3) : FVec Ideal S8192x3080 .f32) bitsLt_bf16_f32 : FVec Ideal S8192x3080 .bf16)
      (sitofp .bf16 (constantI S_ 32 0#32) : FVec Ideal S_ .bf16) pads_S8192x3080_S8192x3200_000_01200 h_S_) (funext fun y => Fin.ext ?_)
    match y with
    | ⟨0, _⟩ => rfl
    | ⟨1, _⟩ => rfl
  W r j := by
    rw [V_v4]
    exact pad_E2 _ _ _ _ (nought _) (fun r k => h2 (ValueIdx.ix2 r k)) r j
  H r j := by
    rw [V_main_arg0]
    exact h0 (ValueIdx.ix2 r j)
  G r j := by
    rw [V_v5]
    refine Eq.trans (congrArg (m ((c : Thread nD τ).loc main_arg1) : Vec Ideal S1024 .f32) (funext fun y => Fin.ext ?_)) (h1 (ValueIdx.ix1 j))
    match y with
    | ⟨0, _⟩ => rfl
  D r j := by
    rw [V_main_arg4]
    exact h4 (ValueIdx.ix2 r j)

/-- The two results the kernel ends with, -/
def res0 : Buf (Elt Ideal) ((c.tc : Thread nD τ).loc main_v6_0) := (dats m 0 c).arrAt 5 cfg0.N
def res1 : Buf (Elt Ideal) ((c.tc : Thread nD τ).loc main_v6_1) := (dats m 0 c).arrAt 6 cfg0.N

/-- which are the reference's. -/
theorem same :
    Cert.AttnBackReferenceIdeal.Read.val_main_v38 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) = res0 m c
    ∧ Cert.AttnBackReferenceIdeal.Read.val_main_v39 (F := Ideal) (m ((c : Thread nD τ).loc main_arg0)) (m ((c : Thread nD τ).loc main_arg2)) (m ((c : Thread nD τ).loc main_arg3)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x3080 .f32)
  have h3 := at2_eq (m ((c : Thread nD τ).loc main_arg3) : Vec Ideal S8192x3080 .f32)
  have h4 := at2_eq (m ((c : Thread nD τ).loc main_arg4) : Vec Ideal S8192x1024 .f32)
  have R := reads m c h0 h1 h2 h3 h4
  constructor
  · refine funext fun (i : S8192x1024.Idx) => ?_
    exact (Cert.AttnBackReferenceIdeal.Ab.v38_eq h0 h1 h2 h3 h4 i).trans (final5 R i).symm
  · refine funext fun (i : S1x1024.Idx) => ?_
    exact (Cert.AttnBackReferenceIdeal.Ab.v39_eq h0 h2 h3 i).trans (final6 R i).symm

end Results

theorem algebraic : Cert.algebraic_AttnBackIdeal_AttnBackReferenceIdeal := fun m g m' g' _ ha =>
  ⟨res0 m, res1 m, Value.run_blocks m g, (θ_run Cert.AttnBackReferenceIdeal.defs _ _).mono (fun r h c =>
    ⟨(h c).1.trans (by rw [Cert.AttnBackReferenceIdeal.Read.val_main_v38_eq, (ha c).1, (ha c).2.1, (ha c).2.2.1, (ha c).2.2.2.1, (ha c).2.2.2.2]; exact (same m c).1),
     (h c).2.1.trans (by rw [Cert.AttnBackReferenceIdeal.Read.val_main_v39_eq, (ha c).1, (ha c).2.2.1, (ha c).2.2.2.1]; exact (same m c).2), (h c).2.2⟩)
    (Cert.AttnBackReferenceIdeal.Value.run (F := Ideal) m' g')⟩

end Cert.AttnBackIdeal.Ab

end
-- ==== Proof.Sb.Chk.lean ====
/- The side condition the body assumes of the first key tile, for every count up to the query tile's index. -/
module

public import proofs.«01_k».proof.Proof.Gen.KernelIdeal.Frame
public import proofs.«01_k».proof.Proof.Gen.KernelIdeal.Loops

@[expose] public section

set_option maxRecDepth 16384

namespace Cert.KernelIdeal.Sb

open Cert.KernelIdeal Cert.KernelIdeal.Gen
open Idealize.ShloMosaic

/-- Any count up to the query tile's index passes the check. -/
theorem chk_of_le : ∀ (i : grid0.Coords) (n : Fin 16), n.val ≤ (i 1).val → k0_chk1 i (BitVec.ofNat 32 n.val) := by
  decide +kernel

/-- The first loop runs over the key tiles from the first live one up to the query tile, -/
theorem trips1 : ∀ (i : grid0.Coords) (n : Fin 16), n.val ≤ (i 1).val → (k0_t1_loop i (BitVec.ofNat 32 n.val)).trips = (i 1).val - n.val := by
  decide +kernel

/-- the second over none, -/
theorem trips2 : ∀ (i : grid0.Coords) (n : Fin 16), n.val ≤ (i 1).val → (k0_t2_loop i (BitVec.ofNat 32 n.val)).trips = 0 := by
  decide +kernel

theorem iv_eq (n k : ℕ) : Scf.iv (BitVec.ofNat 32 n) 1#32 k = BitVec.ofNat 32 (n + k) := by
  unfold Scf.iv
  rw [BitVec.mul_one, BitVec.ofNat_add]

/-- and a trip's tile sits at its number. -/
theorem off1_eq (i : grid0.Coords) (n : ℕ) (k : Fin (k0_t1_loop i (BitVec.ofNat 32 n)).trips) (h : n + k.val < 16) :
    k0_off1 i (BitVec.ofNat 32 n) k = ![0, n + k.val, 0, 0] := by
  unfold k0_off1
  dsimp only [Scalar.indexCast]
  rw [iv_eq]
  congr 1
  rw [BitVec.toNat_ofNat, Nat.mod_eq_of_lt (by omega)]

theorem off3_eq (i : grid0.Coords) : k0_off3 i = ![0, (i 1).val, 0, 0] := by
  have h : (i 1).val < 16 := (i 1).isLt
  unfold k0_off3
  dsimp only [Scalar.indexCast]
  rw [BitVec.toNat_ofNat, Nat.mod_eq_of_lt (by omega)]

end Cert.KernelIdeal.Sb
-- ==== Proof.Sb.Count.lean ====
/-
  The first key tile the loop visits: the number of lanes below the query tile's index whose saved maximum is past the
  cut. It lies between 0 and that index, so the side condition the body assumes of it holds.
-/
module

public import proofs.«01_k».proof.Proof.Sb.Chk
public import Idealize.ShloMosaic.Lib.IndicatorCount
public import Idealize.ShloMosaic.Lib.ValueLayout
public import Idealize.ShloMosaic.Lib.Pipeline.Value
public import Idealize.ShloMosaic.Lib.WordCmp
public import Idealize.ShloMosaic.Lib.Tactic

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx Idealize.ShloMosaic.WordCmp

variable {F : FTy → Type} [FloatOps F] [Named F]

/-- The number of lanes below the tile's index that satisfy `p`. -/
theorem count_le (a : ℕ) (p : S1x1x128.Idx → BitVec 1) (S : Finset S1x1x128.Idx)
    (hp : ∀ k, p k = 1#1 → (k (2 : Fin 3)).val < a) : (S.filter fun k => p k = 1#1).card ≤ a := by
  have h : ((S.filter fun k => p k = 1#1).image fun k => (k (2 : Fin 3)).val) ⊆ Finset.range a := by
    intro x hx
    obtain ⟨k, hk, rfl⟩ := Finset.mem_image.mp hx
    exact Finset.mem_range.mpr (hp k (Finset.mem_filter.mp hk).2)
  have hinj : Set.InjOn (fun k : S1x1x128.Idx => (k (2 : Fin 3)).val) (S.filter fun k => p k = 1#1 : Finset S1x1x128.Idx) := by
    intro k _ k' _ hkk
    funext x
    fin_cases x
    · exact Subsingleton.elim (α := Fin 1) _ _
    · exact Subsingleton.elim (α := Fin 1) _ _
    · exact Fin.ext hkk
  calc _ = _ := (Finset.card_image_of_injOn hinj).symm
    _ ≤ _ := Finset.card_le_card h
    _ = a := Finset.card_range a

/-- Each lane's largest saved sum over the tile's rows. -/
def peak (v9 : Vec F S1x512x128 .f32) : FVec F S128 .f32 :=
  multiReduction .maximumf [0] S128 (k0_pay58 v9) 0xFF800000#32 reduces_S512x128_S128 (.inl rfl) rfl

/-- Whether lane `k` counts: it lies below the query tile's index and its saved maximum is past the cut. -/
def counts (i : grid0.Coords) (v9 : Vec F S1x512x128 .f32) (k : S1x1x128.Idx) : BitVec 1 :=
  IntOp.andi (IntOp.cmpi .slt (BitVec.ofNat 32 (k 2).val) (BitVec.ofNat 32 (i 1).val))
    (FloatOps.cmpf .olt (peak v9 (ix1 (k 2)))
      (Named.named κ "log_of_zero" 0xC2D20000#32))

/-- The first key tile is the number of lanes that count. -/
theorem first_eq_card (i : grid0.Coords) (v9 : Vec F S1x512x128 .f32) :
    ∃ S : Finset S1x1x128.Idx, extractAt ![0, 0, 0] (k0_pay60 i v9) inpos_S1x1x1_p0_0_0
      = BitVec.ofNat 32 (S.filter fun k => counts i v9 k = 1#1).card := by
  unfold k0_pay60
  dsimp only [extractAt, shapeCast]
  refine ⟨_, (multiReductionI_eq_fold (axes := [1, 2]) .add _ _ reduces_S1x1x128_S1 rfl _).trans
    ((Finset.fold_congr (g := fun k => (counts i v9 k).setWidth 32) fun k _ => ?_).trans
      (IndicatorCount.fold_addi_setWidth_eq_card (counts i v9) _))⟩
  rw [eq_ix3 k]
  refine (shapeCast_ab_1ab_apply _ _ _ _ _).trans ?_
  unfold counts
  exact congrArg (BitVec.setWidth 32) (congrArg₂ IntOp.andi
    (congrArg (fun x => IntOp.cmpi .slt x (BitVec.ofNat 32 (i 1).val)) (iota_single_apply .tc S1x128 32 1 iota_S1x128_d1_w32 _))
    (congrArg (fun x : F .f32 => FloatOps.cmpf .olt x (Named.named κ "log_of_zero" 0xC2D20000#32))
      (shapeCast_a_1a_apply (peak v9) shapeCasts_S128_S1x128 (k 1) (k 2))))

theorem not_and_false (z : BitVec 1) : ¬IntOp.andi (BitVec.ofBool false) z = 1#1 := by revert z; decide

/-- The first key tile is a count up to the query tile's index. -/
theorem first_eq (i : grid0.Coords) (v9 : Vec F S1x512x128 .f32) :
    ∃ n : Fin 16, n.val ≤ (i 1).val ∧ extractAt ![0, 0, 0] (k0_pay60 i v9) inpos_S1x1x1_p0_0_0 = BitVec.ofNat 32 n.val := by
  obtain ⟨S, hS⟩ := first_eq_card i v9
  have hi : (i 1).val < 16 := (i 1).isLt
  have hle := count_le (i 1).val (counts i v9) S fun k hk => by
    have hk2 : (k 2).val < 128 := (k 2).isLt
    unfold counts at hk
    rw [cmpi_slt_ofNat (by omega) (by omega)] at hk
    by_contra hc
    rw [decide_eq_false hc] at hk
    exact absurd hk (not_and_false _)
  exact ⟨⟨_, lt_of_le_of_lt hle hi⟩, hle, hS⟩

theorem first_chk (i : grid0.Coords) (v9 : Vec F S1x512x128 .f32) :
    k0_chk1 i (extractAt ![0, 0, 0] (k0_pay60 i v9) inpos_S1x1x1_p0_0_0) := by
  obtain ⟨n, hn, h⟩ := first_eq i v9
  rw [h]; exact chk_of_le i n hn

end Cert.KernelIdeal.Sb

end
-- ==== Proof.Sb.Trip.lean ====
/- One key tile of the gradient as functions of the values read: what a trip of the loop yields and writes, and the
   loop as a recursion over them. -/
module

public import proofs.«01_k».proof.Proof.Sb.Count
public import Idealize.ShloMosaic.Lib.WritesUnit
public import Idealize.ShloMosaic.Lib.VecWindow

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx
open Idealize.SL Idealize.SL.Sem

/-- Tile `j` of a head's sixteen. -/
def tile {α : Type} (X : S1x16x512x128.Idx → α) (j : ℕ) : S1x1x512x128.Idx → α :=
  fun y => X (ix4 0 (Fin.ofNat 16 j) (y 2) (y 3))

/-- A head's sixteen tiles with `w` for tile `j`. -/
def setTile {α : Type} (X : S1x16x512x128.Idx → α) (j : ℕ) (w : S1x1x512x128.Idx → α) : S1x16x512x128.Idx → α :=
  fun y => if (y 1).val = j then w (ix4 0 0 (y 2) (y 3)) else X y

theorem window_tile {α : Type} (X : S1x16x512x128.Idx → α) (off : Fin 4 → ℕ) (j : ℕ) (hj : j < 16) (h : off = ![0, j, 0, 0])
    (inb : ∀ a, off a + S1x1x512x128.size a ≤ S1x16x512x128.size a) :
    (fun x => X ((Rect.unit (s := S1x16x512x128) off S1x1x512x128.size inb).emb x)) = tile X j := by
  subst h
  funext y
  refine congrArg X (funext fun a => Fin.ext ?_)
  have h0 : (y 0).val < 1 := (y 0).isLt
  have h1 : (y 1).val < 1 := (y 1).isLt
  show (![0, j, 0, 0] : Fin 4 → ℕ) a + 1 * (y a).val = _
  fin_cases a
  · show 0 + 1 * (y 0).val = 0
    omega
  · show j + 1 * (y 1).val = j % 16
    omega
  · show 0 + 1 * (y 2).val = (y 2).val
    omega
  · show 0 + 1 * (y 3).val = (y 3).val
    omega

theorem put_tile {α : Type} (X : S1x16x512x128.Idx → α) (j : ℕ) (w : S1x1x512x128.Idx → α) :
    VecWindow.put X ![0, j, 0, 0] S1x1x512x128.size w = setTile X j w := by
  funext y
  have h0 : (y 0).val < 1 := (y 0).isLt
  have h2 : (y 2).val < 512 := (y 2).isLt
  have h3 : (y 3).val < 128 := (y 3).isLt
  unfold VecWindow.put setTile
  by_cases hj : (y 1).val = j
  · have h : ∀ a, (![0, j, 0, 0] : Fin 4 → ℕ) a ≤ (y a).val ∧ (y a).val < (![0, j, 0, 0] : Fin 4 → ℕ) a + S1x1x512x128.size a := by
      intro a
      fin_cases a
      · show 0 ≤ (y 0).val ∧ (y 0).val < 0 + 1
        omega
      · show j ≤ (y 1).val ∧ (y 1).val < j + 1
        omega
      · show 0 ≤ (y 2).val ∧ (y 2).val < 0 + 512
        omega
      · show 0 ≤ (y 3).val ∧ (y 3).val < 0 + 128
        omega
    rw [dif_pos h, if_pos hj]
    refine congrArg w (funext fun a => Fin.ext ?_)
    rw [Rect.unitLocal_val]
    fin_cases a
    · show (y 0).val - 0 = 0
      omega
    · show (y 1).val - j = 0
      omega
    · rfl
    · rfl
  · rw [dif_neg, if_neg hj]
    intro h
    have := h 1
    change j ≤ (y 1).val ∧ (y 1).val < j + 1 at this
    omega

variable {F : FTy → Type} [FloatOps F] [Named F]

/-- The saved tail sum of tile `j`, from its lane. -/
def runT (v10 : FVec F S512x128 .f32) (j : ℕ) : FVec F S512x1 .f32 :=
  k0_pay78 (BitVec.ofNat 32 j) v10 (iota .tc S512x128 32 [1] iota_S512x128_d1_w32)

def wT (v4 : FVec F S512x128 .bf16) (v8 : FVec F S256x256 .bf16) (run : FVec F S512x1 .f32) (K : Vec F S1x1x512x128 .bf16) : FVec F S512x512 .f32 :=
  k0_pay19 v8 (k0_pay8 v4 K) run (k0_pay14 v4 K) (k0_pay15 v4 v8 K) (k0_pay17 v4 K) (k0_pay18 v4 v8 K)

def daT (v4 v6 : FVec F S512x128 .bf16) (v8 : FVec F S256x256 .bf16) (run : FVec F S512x1 .f32) (K V : Vec F S1x1x512x128 .bf16) : FVec F S512x512 .f32 :=
  k0_pay20 v6 v8 (k0_pay8 v4 K) run (k0_pay14 v4 K) (k0_pay15 v4 v8 K) (k0_pay17 v4 K) (k0_pay18 v4 v8 K) V

def totT (v4 v6 : FVec F S512x128 .bf16) (v8 : FVec F S256x256 .bf16) (run : FVec F S512x1 .f32) (K V : Vec F S1x1x512x128 .bf16) : FVec F S512x1 .f32 :=
  k0_pay24 v6 v8 (k0_pay8 v4 K) run (k0_pay14 v4 K) (k0_pay15 v4 v8 K) (k0_pay17 v4 K) (k0_pay18 v4 v8 K) V

def befT (v4 v6 : FVec F S512x128 .bf16) (v8 : FVec F S256x256 .bf16) (run e : FVec F S512x1 .f32) (K V : Vec F S1x1x512x128 .bf16) : FVec F S512x512 .f32 :=
  k0_pay25 v6 v8 e (k0_pay8 v4 K) run (k0_pay14 v4 K) (k0_pay15 v4 v8 K) (k0_pay17 v4 K) (k0_pay18 v4 v8 K) V

def betaT (v4 : FVec F S512x128 .bf16) (K : Vec F S1x1x512x128 .bf16) : FVec F S512x512 .f32 :=
  k0_pay27 (k0_pay5 v4 K) (k0_pay6 v4 K)

def omT (v4 : FVec F S512x128 .bf16) (K : Vec F S1x1x512x128 .bf16) : FVec F S512x512 .f32 :=
  k0_pay28 (k0_pay5 v4 K) (k0_pay6 v4 K)

/-- The query's gradient after a tile. -/
def dqT (v4 v6 : FVec F S512x128 .bf16) (v8 : FVec F S256x256 .bf16) (run e : FVec F S512x1 .f32) (K V : Vec F S1x1x512x128 .bf16) (dq : FVec F S512x128 .f32) : FVec F S512x128 .f32 :=
  k0_pay65 dq (k0_pay4 K) (daT v4 v6 v8 run K V) (befT v4 v6 v8 run e K V) (betaT v4 K) (omT v4 K)

/-- The sum of the weights' gradients over the tiles before, after a tile. -/
def eT (v4 v6 : FVec F S512x128 .bf16) (v8 : FVec F S256x256 .bf16) (run e : FVec F S512x1 .f32) (K V : Vec F S1x1x512x128 .bf16) : FVec F S512x1 .f32 :=
  k0_pay66 e (totT v4 v6 v8 run K V)

/-- The keys' and values' gradient of a tile after it. -/
def dkvT (v4 v6 : FVec F S512x128 .bf16) (v8 : FVec F S256x256 .bf16) (v15 : FVec F S1024x128 .bf16) (run e : FVec F S512x1 .f32) (K V : Vec F S1x1x512x128 .bf16)
    (old : Vec F S1x1x512x128 .f32) : FVec F S1x1x512x128 .f32 :=
  k0_pay64 v15 (wT v4 v8 run K) (daT v4 v6 v8 run K V) (befT v4 v6 v8 run e K V) (betaT v4 K) (omT v4 K) old

/-- What the loop carries and the gradient window's contents. -/
structure St (F : FTy → Type) where
  dq : FVec F S512x128 .f32
  e : FVec F S512x1 .f32
  dkv : Vec F S1x16x512x128 .f32

def stepT (v4 v6 : FVec F S512x128 .bf16) (v8 : FVec F S256x256 .bf16) (v10 : FVec F S512x128 .f32) (v15 : FVec F S1024x128 .bf16)
    (K V : Vec F S1x16x512x128 .bf16) (s : St F) (j : ℕ) : St F where
  dq := dqT v4 v6 v8 (runT v10 j) s.e (tile K j) (tile V j) s.dq
  e := eT v4 v6 v8 (runT v10 j) s.e (tile K j) (tile V j)
  dkv := setTile s.dkv j (dkvT v4 v6 v8 v15 (runT v10 j) s.e (tile K j) (tile V j) (tile s.dkv j))

/-- The state after `k` tiles from tile `n`. -/
def stT (v4 v6 : FVec F S512x128 .bf16) (v8 : FVec F S256x256 .bf16) (v10 : FVec F S512x128 .f32) (v15 : FVec F S1024x128 .bf16)
    (K V : Vec F S1x16x512x128 .bf16) (n : ℕ) (s : St F) : ℕ → St F
  | 0 => s
  | k + 1 => stepT v4 v6 v8 v10 v15 K V (stT v4 v6 v8 v10 v15 K V n s k) (n + k)

theorem pay10_eq (i : grid0.Coords) (v10 : FVec F S512x128 .f32) (n : ℕ) (k : Fin (k0_t1_loop i (BitVec.ofNat 32 n)).trips) :
    k0_pay10 i v10 (iota .tc S512x128 32 [1] iota_S512x128_d1_w32) (BitVec.ofNat 32 n) 1#32 k = runT v10 (n + k.val) := by
  unfold runT
  rw [← iv_eq]
  rfl

section Trip
variable
  (𝒱 : Variants)
  (c : Dev nD)
  (bd : Option 𝒱.V)
  (i : grid0.Coords)
  (arg2 : Memref sig .tc .vmem S1x512x128 .bf16)
  (harg2 : arg2.IsWhole)
  (arg3 : Memref sig .tc .vmem S1x16x512x128 .bf16)
  (harg3 : arg3.IsWhole)
  (arg4 : Memref sig .tc .vmem S1x16x512x128 .bf16)
  (harg4 : arg4.IsWhole)
  (arg5 : Memref sig .tc .vmem S1x512x128 .bf16)
  (harg5 : arg5.IsWhole)
  (arg6 : Memref sig .tc .vmem S256x256 .bf16)
  (harg6 : arg6.IsWhole)
  (arg7 : Memref sig .tc .vmem S1x512x128 .f32)
  (harg7 : arg7.IsWhole)
  (arg8 : Memref sig .tc .vmem S1x512x128 .f32)
  (harg8 : arg8.IsWhole)
  (arg9 : Memref sig .tc .vmem S1x16x512x128 .f32)
  (harg9 : arg9.IsWhole)
  (arg1 : BitVec 32)
  (v4 : FVec F S512x128 .bf16)
  (v6 : FVec F S512x128 .bf16)
  (v8 : FVec F S256x256 .bf16)
  (v10 : FVec F S512x128 .f32)
  (v11 : IVec S512x128 32)
  (v15 : FVec F S1024x128 .bf16)
  (v28 : BitVec 32)
  (k0_hw1 : k0_chk1 i v28)
  (v29 : FVec F S512x128 .f32)
  (v30 : FVec F S512x1 .f32)
  (v35 : BitVec 32)
  (X_arg3 : BufTy.Contents (Elt F) arg3.view.ty)
  (X_arg4 : BufTy.Contents (Elt F) arg4.view.ty)

/-- A trip's result and writes as the run finds them. -/
theorem trip_raw (k : Fin (k0_t1_loop i v28).trips) (acc : FVec F S512x128 .f32 × FVec F S512x1 .f32) (f : BufTy.Contents (Elt F) arg9.view.ty)
    (K V : Vec F S1x1x512x128 .bf16) (old : Vec F S1x1x512x128 .f32) (run : FVec F S512x1 .f32)
    (hK : View.readAt (Elt F) arg3.view (Rect.unit (s := S1x16x512x128) (k0_off1 i v28 k) S1x1x512x128.size (k0_off1_inb i v28 k0_hw1 k)).toLoadRect X_arg3 = K)
    (hV : View.readAt (Elt F) arg4.view (Rect.unit (s := S1x16x512x128) (k0_off1 i v28 k) S1x1x512x128.size (k0_off1_inb i v28 k0_hw1 k)).toLoadRect X_arg4 = V)
    (hO : View.readAt (Elt F) arg9.view (Rect.unit (s := S1x16x512x128) (k0_off1 i v28 k) S1x1x512x128.size (k0_off1_inb i v28 k0_hw1 k)).toLoadRect f = old)
    (hR : k0_pay10 i v10 v11 v28 1#32 k = run) :
    tripR_k0_t1 𝒱 c bd i arg2 harg2 arg3 harg3 arg4 harg4 arg5 harg5 arg6 harg6 arg7 harg7 arg8 harg8 arg9 harg9 arg1 v4 v6 v8 v10 v11 v15 v28 k0_hw1 v29 v30 v35 X_arg3 X_arg4 k acc f
      = (dqT v4 v6 v8 run acc.2 K V acc.1, eT v4 v6 v8 run acc.2 K V)
    ∧ tripL_k0_t1 𝒱 c bd i arg2 harg2 arg3 harg3 arg4 harg4 arg5 harg5 arg6 harg6 arg7 harg7 arg8 harg8 arg9 harg9 arg1 v4 v6 v8 v10 v11 v15 v28 k0_hw1 v29 v30 v35 X_arg3 X_arg4 k acc f
      = [⟨Rect.unit (s := S1x16x512x128) (k0_off1 i v28 k) S1x1x512x128.size (k0_off1_inb i v28 k0_hw1 k), dkvT v4 v6 v8 v15 run acc.2 K V old⟩] := by
  subst hK hV hO hR
  unfold tripR_k0_t1 tripL_k0_t1 trip_k0_t1
  exact ⟨rfl, rfl⟩

end Trip

end Cert.KernelIdeal.Sb

end
-- ==== Proof.Sb.State.lean ====
/- The loops' states as the recursion over key tiles, and what the body leaves as functions of what it reads. -/
module

public import proofs.«01_k».proof.Proof.Sb.Trip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F] [Named F]

theorem readAt_tile {e : EltTy} (v : View sig .tc .vmem S1x16x512x128 e) (f : BufTy.Contents (Elt F) v.ty) (off : Fin 4 → ℕ) (j : ℕ) (hj : j < 16) (h : off = ![0, j, 0, 0])
    (inb : ∀ a, off a + S1x1x512x128.size a ≤ S1x16x512x128.size a) :
    View.readAt (Elt F) v (Rect.unit (s := S1x16x512x128) off S1x1x512x128.size inb).toLoadRect f = tile (v.read (Elt F) f) j :=
  window_tile (v.read (Elt F) f) off j hj h inb

/-- The first live key tile's number. -/
def first (i : grid0.Coords) (R : Vec F S1x512x128 .f32) : ℕ := (extractAt ![0, 0, 0] (k0_pay60 i R) inpos_S1x1x1_p0_0_0).toNat

theorem first_spec (i : grid0.Coords) (R : Vec F S1x512x128 .f32) :
    extractAt ![0, 0, 0] (k0_pay60 i R) inpos_S1x1x1_p0_0_0 = BitVec.ofNat 32 (first i R) ∧ first i R ≤ (i 1).val := by
  obtain ⟨n, hn, h⟩ := first_eq i R
  refine ⟨((BitVec.ofNat_toNat 32 _).trans (BitVec.setWidth_eq _)).symm, ?_⟩
  · unfold first
    rw [h, BitVec.toNat_ofNat, Nat.mod_eq_of_lt (by omega)]
    exact hn

section Loop
variable
  (𝒱 : Variants)
  (c : Dev nD)
  (bd : Option 𝒱.V)
  (i : grid0.Coords)
  (arg2 : Memref sig .tc .vmem S1x512x128 .bf16)
  (harg2 : arg2.IsWhole)
  (arg3 : Memref sig .tc .vmem S1x16x512x128 .bf16)
  (harg3 : arg3.IsWhole)
  (arg4 : Memref sig .tc .vmem S1x16x512x128 .bf16)
  (harg4 : arg4.IsWhole)
  (arg5 : Memref sig .tc .vmem S1x512x128 .bf16)
  (harg5 : arg5.IsWhole)
  (arg6 : Memref sig .tc .vmem S256x256 .bf16)
  (harg6 : arg6.IsWhole)
  (arg7 : Memref sig .tc .vmem S1x512x128 .f32)
  (harg7 : arg7.IsWhole)
  (arg8 : Memref sig .tc .vmem S1x512x128 .f32)
  (harg8 : arg8.IsWhole)
  (arg9 : Memref sig .tc .vmem S1x16x512x128 .f32)
  (harg9 : arg9.IsWhole)
  (arg1 : BitVec 32)
  (v4 : FVec F S512x128 .bf16)
  (v6 : FVec F S512x128 .bf16)
  (v8 : FVec F S256x256 .bf16)
  (v10 : FVec F S512x128 .f32)
  (v15 : FVec F S1024x128 .bf16)
  (n : ℕ)
  (v28 : BitVec 32)
  (hv : v28 = BitVec.ofNat 32 n)
  (hn : n ≤ (i 1).val)
  (k0_hw1 : k0_chk1 i v28)
  (v29 : FVec F S512x128 .f32)
  (v30 : FVec F S512x1 .f32)
  (v35 : BitVec 32)
  (X_arg3 : BufTy.Contents (Elt F) arg3.view.ty)
  (X_arg4 : BufTy.Contents (Elt F) arg4.view.ty)
  (G : BufTy.Contents (Elt F) arg9.view.ty)
  (init : FVec F S512x128 .f32 × FVec F S512x1 .f32)

include hv hn in
/-- The first loop's state before trip `k`. -/
theorem st1_eq (k : ℕ) (hk : k ≤ (i 1).val - n) :
    (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init k).1 = ((stT v4 v6 v8 v10 v15 (arg3.view.read (Elt F) X_arg3) (arg4.view.read (Elt F) X_arg4) n ⟨init.1, init.2, arg9.view.read (Elt F) G⟩ k).dq,
        (stT v4 v6 v8 v10 v15 (arg3.view.read (Elt F) X_arg3) (arg4.view.read (Elt F) X_arg4) n ⟨init.1, init.2, arg9.view.read (Elt F) G⟩ k).e)
    ∧ arg9.view.read (Elt F) (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init k).2)
      = (stT v4 v6 v8 v10 v15 (arg3.view.read (Elt F) X_arg3) (arg4.view.read (Elt F) X_arg4) n ⟨init.1, init.2, arg9.view.read (Elt F) G⟩ k).dkv := by
  subst hv
  have hi : (i 1).val < 16 := (i 1).isLt
  have htr := trips1 i ⟨n, by omega⟩ hn
  dsimp only at htr
  induction k with
  | zero => exact ⟨rfl, rfl⟩
  | succ k ih =>
    obtain ⟨ih1, ih2⟩ := ih (by omega)
    have hkt : k < (k0_t1_loop i (BitVec.ofNat 32 n)).trips := by rw [htr]; omega
    have hoff := off1_eq i n ⟨k, hkt⟩ (by dsimp only; omega)
    dsimp only at hoff
    have raw := trip_raw 𝒱 c bd i arg2 harg2 arg3 harg3 arg4 harg4 arg5 harg5 arg6 harg6 arg7 harg7 arg8 harg8 arg9 harg9 arg1 v4 v6 v8 v10 (iota .tc S512x128 32 [1] iota_S512x128_d1_w32) v15 (BitVec.ofNat 32 n) k0_hw1 v29 v30 v35 X_arg3 X_arg4 ⟨k, hkt⟩
      (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 (BitVec.ofNat 32 n) k0_hw1 v29 v30 v35 X_arg3 X_arg4 G init k).1 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 (BitVec.ofNat 32 n) k0_hw1 v29 v30 v35 X_arg3 X_arg4 G init k).2)
      (tile (arg3.view.read (Elt F) X_arg3) (n + k)) (tile (arg4.view.read (Elt F) X_arg4) (n + k)) _ (runT v10 (n + k))
      (readAt_tile _ _ _ _ (by omega) hoff _) (readAt_tile _ _ _ _ (by omega) hoff _)
      (readAt_tile _ _ _ _ (by omega) hoff _) (pay10_eq i v10 n ⟨k, hkt⟩)
    have hs := st_k0_t1_succ 𝒱 c bd i arg2 harg2 arg3 harg3 arg4 harg4 arg5 harg5 arg6 harg6 arg7 harg7 arg8 harg8 arg9 harg9 arg1 v4 v6 v8 v10 (iota .tc S512x128 32 [1] iota_S512x128_d1_w32) v15 (BitVec.ofNat 32 n) k0_hw1 v29 v30 v35 X_arg3 X_arg4 G init ⟨k, hkt⟩
    dsimp only at hs
    rw [hs, raw.1, raw.2, ih1]
    refine ⟨rfl, ?_⟩
    show arg9.view.read (Elt F) (arg9.view.writes (Elt F) G (⟨_, _⟩ :: (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 (BitVec.ofNat 32 n) k0_hw1 v29 v30 v35 X_arg3 X_arg4 G init k).2)) = _
    rw [View.read_writes_cons_put _ _ _ _ _ hoff, ih2, put_tile]
    rfl

include hv hn in
/-- The state after both loops. -/
theorem st2_eq (w35 : BitVec 32) :
    (st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).1 = ((stT v4 v6 v8 v10 v15 (arg3.view.read (Elt F) X_arg3) (arg4.view.read (Elt F) X_arg4) n ⟨init.1, init.2, arg9.view.read (Elt F) G⟩ ((i 1).val - n)).dq, (stT v4 v6 v8 v10 v15 (arg3.view.read (Elt F) X_arg3) (arg4.view.read (Elt F) X_arg4) n ⟨init.1, init.2, arg9.view.read (Elt F) G⟩ ((i 1).val - n)).e)
    ∧ arg9.view.read (Elt F) (arg9.view.writes (Elt F) G ((st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).2 ++ (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2)) = (stT v4 v6 v8 v10 v15 (arg3.view.read (Elt F) X_arg3) (arg4.view.read (Elt F) X_arg4) n ⟨init.1, init.2, arg9.view.read (Elt F) G⟩ ((i 1).val - n)).dkv := by
  have h1 := st1_eq 𝒱 c bd i arg2 harg2 arg3 harg3 arg4 harg4 arg5 harg5 arg6 harg6 arg7 harg7 arg8 harg8 arg9 harg9 arg1 v4 v6 v8 v10 v15 n v28 hv hn k0_hw1 v29 v30 v35 X_arg3 X_arg4 G init ((i 1).val - n) le_rfl
  subst hv
  have hi : (i 1).val < 16 := (i 1).isLt
  have htr := trips1 i ⟨n, by omega⟩ hn
  have htr2 := trips2 i ⟨n, by omega⟩ hn
  dsimp only at htr htr2
  rw [htr, htr2]
  exact h1

end Loop

/-- The diagonal tile: the query's gradient, -/
def dqDiag (v4 v6 : FVec F S512x128 .bf16) (v8 : FVec F S256x256 .bf16) (run e : FVec F S512x1 .f32) (K V : Vec F S1x1x512x128 .bf16) (dq : FVec F S512x128 .f32) : FVec F S1x512x128 .f32 :=
  k0_pay3 dq (k0_pay71 K) (k0_pay73 v4 K) k0_pay76
    (k0_pay83 v6 v8 (k0_pay75 v4 K) k0_pay76 run (k0_pay79 v4 K) (k0_pay80 v4 K) (k0_pay81 v4 v8 K) V)
    (k0_pay84 v6 v8 e (k0_pay75 v4 K) k0_pay76 run (k0_pay79 v4 K) (k0_pay80 v4 K) (k0_pay81 v4 v8 K) V)
    (k0_pay85 (k0_pay73 v4 K)) (k0_pay86 (k0_pay72 v4 K) (k0_pay73 v4 K)) (k0_pay87 (k0_pay72 v4 K))

/-- and the keys' and values' gradient. -/
def dkvDiag (v4 v6 : FVec F S512x128 .bf16) (v8 : FVec F S256x256 .bf16) (v15 : FVec F S1024x128 .bf16) (run e : FVec F S512x1 .f32) (K V : Vec F S1x1x512x128 .bf16)
    (old : Vec F S1x1x512x128 .f32) : FVec F S1x1x512x128 .f32 :=
  k0_pay2 v15 (k0_pay73 v4 K) k0_pay76
    (k0_pay82 v8 (k0_pay75 v4 K) k0_pay76 run (k0_pay79 v4 K) (k0_pay80 v4 K) (k0_pay81 v4 v8 K))
    (k0_pay83 v6 v8 (k0_pay75 v4 K) k0_pay76 run (k0_pay79 v4 K) (k0_pay80 v4 K) (k0_pay81 v4 v8 K) V)
    (k0_pay84 v6 v8 e (k0_pay75 v4 K) k0_pay76 run (k0_pay79 v4 K) (k0_pay80 v4 K) (k0_pay81 v4 v8 K) V)
    (k0_pay85 (k0_pay73 v4 K)) (k0_pay86 (k0_pay72 v4 K) (k0_pay73 v4 K)) (k0_pay87 (k0_pay72 v4 K)) old

/-- The state before the diagonal tile, from what the windows hold. -/
def endS (i : grid0.Coords) (Q : Vec F S1x512x128 .bf16) (K V : Vec F S1x16x512x128 .bf16) (D : Vec F S1x512x128 .bf16) (T : Vec F S256x256 .bf16) (R : Vec F S1x512x128 .f32)
    (Y : Vec F S1x16x512x128 .f32) : St F :=
  stT (k0_pay55 Q) (k0_pay56 D) (k0_pay57 T) (k0_pay58 R) (k0_pay59 Q D) K V (first i R) ⟨k0_pay61, k0_pay62, Y⟩ ((i 1).val - first i R)

/-- What the body leaves in the query gradient's window, -/
def outDq (i : grid0.Coords) (Q : Vec F S1x512x128 .bf16) (K V : Vec F S1x16x512x128 .bf16) (D : Vec F S1x512x128 .bf16) (T : Vec F S256x256 .bf16) (R : Vec F S1x512x128 .f32)
    (Y : Vec F S1x16x512x128 .f32) : Vec F S1x512x128 .f32 :=
  dqDiag (k0_pay55 Q) (k0_pay56 D) (k0_pay57 T) (runT (k0_pay58 R) (i 1).val) (endS i Q K V D T R Y).e (tile K (i 1).val) (tile V (i 1).val) (endS i Q K V D T R Y).dq

/-- and in the keys' and values'. -/
def outDkv (i : grid0.Coords) (Q : Vec F S1x512x128 .bf16) (K V : Vec F S1x16x512x128 .bf16) (D : Vec F S1x512x128 .bf16) (T : Vec F S256x256 .bf16) (R : Vec F S1x512x128 .f32)
    (Y : Vec F S1x16x512x128 .f32) : Vec F S1x16x512x128 .f32 :=
  setTile (endS i Q K V D T R Y).dkv (i 1).val
    (dkvDiag (k0_pay55 Q) (k0_pay56 D) (k0_pay57 T) (k0_pay59 Q D) (runT (k0_pay58 R) (i 1).val) (endS i Q K V D T R Y).e (tile K (i 1).val) (tile V (i 1).val)
      (tile (endS i Q K V D T R Y).dkv (i 1).val))

section Final
variable
  (𝒱 : Variants)
  (c : Dev nD)
  (bd : Option 𝒱.V)
  (i : grid0.Coords)
  (arg2 : Memref sig .tc .vmem S1x512x128 .bf16)
  (harg2 : arg2.IsWhole)
  (arg3 : Memref sig .tc .vmem S1x16x512x128 .bf16)
  (harg3 : arg3.IsWhole)
  (arg4 : Memref sig .tc .vmem S1x16x512x128 .bf16)
  (harg4 : arg4.IsWhole)
  (arg5 : Memref sig .tc .vmem S1x512x128 .bf16)
  (harg5 : arg5.IsWhole)
  (arg6 : Memref sig .tc .vmem S256x256 .bf16)
  (harg6 : arg6.IsWhole)
  (arg7 : Memref sig .tc .vmem S1x512x128 .f32)
  (harg7 : arg7.IsWhole)
  (arg8 : Memref sig .tc .vmem S1x512x128 .f32)
  (harg8 : arg8.IsWhole)
  (arg9 : Memref sig .tc .vmem S1x16x512x128 .f32)
  (harg9 : arg9.IsWhole)
  (arg1 : BitVec 32)
  (v4 : FVec F S512x128 .bf16)
  (v6 : FVec F S512x128 .bf16)
  (v8 : FVec F S256x256 .bf16)
  (v10 : FVec F S512x128 .f32)
  (v15 : FVec F S1024x128 .bf16)
  (n : ℕ)
  (v28 : BitVec 32)
  (hv : v28 = BitVec.ofNat 32 n)
  (hn : n ≤ (i 1).val)
  (k0_hw1 : k0_chk1 i v28)
  (v29 : FVec F S512x128 .f32)
  (v30 : FVec F S512x1 .f32)
  (v35 : BitVec 32)
  (X_arg3 : BufTy.Contents (Elt F) arg3.view.ty)
  (X_arg4 : BufTy.Contents (Elt F) arg4.view.ty)
  (G : BufTy.Contents (Elt F) arg9.view.ty)
  (init : FVec F S512x128 .f32 × FVec F S512x1 .f32)

include hv hn in
theorem fin8 (w35 : BitVec 32) :
    dqDiag v4 v6 v8 (runT v10 (i 1).val) (st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).1.2 (View.readAt (Elt F) arg3.view (Rect.unit (s := S1x16x512x128) (k0_off3 i) S1x1x512x128.size (k0_off3_inb i)).toLoadRect X_arg3) (View.readAt (Elt F) arg4.view (Rect.unit (s := S1x16x512x128) (k0_off3 i) S1x1x512x128.size (k0_off3_inb i)).toLoadRect X_arg4) (st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).1.1
      = dqDiag v4 v6 v8 (runT v10 (i 1).val) (stT v4 v6 v8 v10 v15 (arg3.view.read (Elt F) X_arg3) (arg4.view.read (Elt F) X_arg4) n ⟨init.1, init.2, arg9.view.read (Elt F) G⟩ ((i 1).val - n)).e (tile (arg3.view.read (Elt F) X_arg3) (i 1).val) (tile (arg4.view.read (Elt F) X_arg4) (i 1).val) (stT v4 v6 v8 v10 v15 (arg3.view.read (Elt F) X_arg3) (arg4.view.read (Elt F) X_arg4) n ⟨init.1, init.2, arg9.view.read (Elt F) G⟩ ((i 1).val - n)).dq := by
  rw [(st2_eq 𝒱 c bd i arg2 harg2 arg3 harg3 arg4 harg4 arg5 harg5 arg6 harg6 arg7 harg7 arg8 harg8 arg9 harg9 arg1 v4 v6 v8 v10 v15 n v28 hv hn k0_hw1 v29 v30 v35 X_arg3 X_arg4 G init w35).1, readAt_tile _ X_arg3 _ _ (i 1).isLt (off3_eq i), readAt_tile _ X_arg4 _ _ (i 1).isLt (off3_eq i)]

include hv hn in
theorem fin9 (w35 : BitVec 32) :
    arg9.view.read (Elt F) (arg9.view.writes (Elt F) G (⟨Rect.unit (s := S1x16x512x128) (k0_off3 i) S1x1x512x128.size (k0_off3_inb i),
        dkvDiag v4 v6 v8 v15 (runT v10 (i 1).val) (st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).1.2 (View.readAt (Elt F) arg3.view (Rect.unit (s := S1x16x512x128) (k0_off3 i) S1x1x512x128.size (k0_off3_inb i)).toLoadRect X_arg3) (View.readAt (Elt F) arg4.view (Rect.unit (s := S1x16x512x128) (k0_off3 i) S1x1x512x128.size (k0_off3_inb i)).toLoadRect X_arg4)
          (View.readAt (Elt F) arg9.view (Rect.unit (s := S1x16x512x128) (k0_off3 i) S1x1x512x128.size (k0_off3_inb i)).toLoadRect (arg9.view.writes (Elt F) G ((st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).2 ++ (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2)))⟩
        :: ((st_k0_t2 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 w35 X_arg3 X_arg4 (arg9.view.writes (Elt F) G (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2) ((st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.1, (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).1.2) (k0_t2_loop i v28).trips).2 ++ (st_k0_t1 𝒱 c bd i arg2 harg2 arg3 harg3 arg4 harg4 arg5 harg5 arg6 harg6 arg7 harg7 arg8 harg8 arg9 harg9 arg1 v4 v6 v8 v10 (iota .tc S512x128 32 [1] iota_S512x128_d1_w32) v15 v28 k0_hw1 v29 v30 v35 X_arg3 X_arg4 G init (k0_t1_loop i v28).trips).2)))
      = setTile (stT v4 v6 v8 v10 v15 (arg3.view.read (Elt F) X_arg3) (arg4.view.read (Elt F) X_arg4) n ⟨init.1, init.2, arg9.view.read (Elt F) G⟩ ((i 1).val - n)).dkv (i 1).val (dkvDiag v4 v6 v8 v15 (runT v10 (i 1).val) (stT v4 v6 v8 v10 v15 (arg3.view.read (Elt F) X_arg3) (arg4.view.read (Elt F) X_arg4) n ⟨init.1, init.2, arg9.view.read (Elt F) G⟩ ((i 1).val - n)).e (tile (arg3.view.read (Elt F) X_arg3) (i 1).val) (tile (arg4.view.read (Elt F) X_arg4) (i 1).val) (tile (stT v4 v6 v8 v10 v15 (arg3.view.read (Elt F) X_arg3) (arg4.view.read (Elt F) X_arg4) n ⟨init.1, init.2, arg9.view.read (Elt F) G⟩ ((i 1).val - n)).dkv (i 1).val)) := by
  have h := st2_eq 𝒱 c bd i arg2 harg2 arg3 harg3 arg4 harg4 arg5 harg5 arg6 harg6 arg7 harg7 arg8 harg8 arg9 harg9 arg1 v4 v6 v8 v10 v15 n v28 hv hn k0_hw1 v29 v30 v35 X_arg3 X_arg4 G init w35
  rw [View.read_writes_cons_put _ _ _ _ _ (off3_eq i), put_tile, readAt_tile _ (arg9.view.writes (Elt F) G _) _ _ (i 1).isLt (off3_eq i), h.2, h.1,
    readAt_tile _ X_arg3 _ _ (i 1).isLt (off3_eq i), readAt_tile _ X_arg4 _ _ (i 1).isLt (off3_eq i)]

end Final

/-- The first key tile the body takes, as the body computes it. -/
abbrev start (i : grid0.Coords) (R : Vec F S1x512x128 .f32) : BitVec 32 := extractAt ![0, 0, 0] (k0_pay60 i R) inpos_S1x1x1_p0_0_0

theorem start_chk (i : grid0.Coords) (R : Vec F S1x512x128 .f32) : k0_chk1 i (start i R) := first_chk i R

theorem fin8_at (c : Dev nD) (i : grid0.Coords) (arg2 : Memref sig .tc .vmem S1x512x128 .bf16) (harg2 : arg2.IsWhole) (arg3 : Memref sig .tc .vmem S1x16x512x128 .bf16) (harg3 : arg3.IsWhole) (arg4 : Memref sig .tc .vmem S1x16x512x128 .bf16) (harg4 : arg4.IsWhole) (arg5 : Memref sig .tc .vmem S1x512x128 .bf16) (harg5 : arg5.IsWhole) (arg6 : Memref sig .tc .vmem S256x256 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x16x512x128 .f32) (harg9 : arg9.IsWhole)
    (Q : Vec F S1x512x128 .bf16) (D : Vec F S1x512x128 .bf16) (T : Vec F S256x256 .bf16) (R : Vec F S1x512x128 .f32) (X_arg3 : BufTy.Contents (Elt F) arg3.view.ty) (X_arg4 : BufTy.Contents (Elt F) arg4.view.ty) (G : BufTy.Contents (Elt F) arg9.view.ty) (v35 w35 : BitVec 32) :
    dqDiag (k0_pay55 Q) (k0_pay56 D) (k0_pay57 T) (runT (k0_pay58 R) (i 1).val) (st_k0_t2 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 w35 X_arg3 X_arg4 (arg9.view.writes (Elt F) G (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2) ((st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.1, (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.2) (k0_t2_loop i (start i R)).trips).1.2 (View.readAt (Elt F) arg3.view (Rect.unit (s := S1x16x512x128) (k0_off3 i) S1x1x512x128.size (k0_off3_inb i)).toLoadRect X_arg3) (View.readAt (Elt F) arg4.view (Rect.unit (s := S1x16x512x128) (k0_off3 i) S1x1x512x128.size (k0_off3_inb i)).toLoadRect X_arg4) (st_k0_t2 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 w35 X_arg3 X_arg4 (arg9.view.writes (Elt F) G (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2) ((st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.1, (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.2) (k0_t2_loop i (start i R)).trips).1.1
      = outDq i Q (arg3.view.read (Elt F) X_arg3) (arg4.view.read (Elt F) X_arg4) D T R (arg9.view.read (Elt F) G) :=
  fin8 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (k0_pay59 Q D) (first i R) (start i R) (first_spec i R).1 (first_spec i R).2 (start_chk i R) k0_pay61 k0_pay62 v35 X_arg3 X_arg4 G (k0_pay61, k0_pay62) w35

theorem fin9_at (c : Dev nD) (i : grid0.Coords) (arg2 : Memref sig .tc .vmem S1x512x128 .bf16) (harg2 : arg2.IsWhole) (arg3 : Memref sig .tc .vmem S1x16x512x128 .bf16) (harg3 : arg3.IsWhole) (arg4 : Memref sig .tc .vmem S1x16x512x128 .bf16) (harg4 : arg4.IsWhole) (arg5 : Memref sig .tc .vmem S1x512x128 .bf16) (harg5 : arg5.IsWhole) (arg6 : Memref sig .tc .vmem S256x256 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x16x512x128 .f32) (harg9 : arg9.IsWhole)
    (Q : Vec F S1x512x128 .bf16) (D : Vec F S1x512x128 .bf16) (T : Vec F S256x256 .bf16) (R : Vec F S1x512x128 .f32) (X_arg3 : BufTy.Contents (Elt F) arg3.view.ty) (X_arg4 : BufTy.Contents (Elt F) arg4.view.ty) (G : BufTy.Contents (Elt F) arg9.view.ty) (v35 w35 : BitVec 32) :
    arg9.view.read (Elt F) (arg9.view.writes (Elt F) G (⟨Rect.unit (s := S1x16x512x128) (k0_off3 i) S1x1x512x128.size (k0_off3_inb i),
        dkvDiag (k0_pay55 Q) (k0_pay56 D) (k0_pay57 T) (k0_pay59 Q D) (runT (k0_pay58 R) (i 1).val) (st_k0_t2 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 w35 X_arg3 X_arg4 (arg9.view.writes (Elt F) G (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2) ((st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.1, (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.2) (k0_t2_loop i (start i R)).trips).1.2 (View.readAt (Elt F) arg3.view (Rect.unit (s := S1x16x512x128) (k0_off3 i) S1x1x512x128.size (k0_off3_inb i)).toLoadRect X_arg3) (View.readAt (Elt F) arg4.view (Rect.unit (s := S1x16x512x128) (k0_off3 i) S1x1x512x128.size (k0_off3_inb i)).toLoadRect X_arg4)
          (View.readAt (Elt F) arg9.view (Rect.unit (s := S1x16x512x128) (k0_off3 i) S1x1x512x128.size (k0_off3_inb i)).toLoadRect (arg9.view.writes (Elt F) G ((st_k0_t2 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 w35 X_arg3 X_arg4 (arg9.view.writes (Elt F) G (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2) ((st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.1, (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.2) (k0_t2_loop i (start i R)).trips).2 ++ (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2)))⟩
        :: ((st_k0_t2 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 w35 X_arg3 X_arg4 (arg9.view.writes (Elt F) G (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2) ((st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.1, (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).1.2) (k0_t2_loop i (start i R)).trips).2 ++ (st_k0_t1 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (iota .tc S512x128 32 [1] iota_S512x128_d1_w32) (k0_pay59 Q D) (start i R) (start_chk i R) k0_pay61 k0_pay62 v35 X_arg3 X_arg4 G (k0_pay61, k0_pay62) (k0_t1_loop i (start i R)).trips).2)))
      = outDkv i Q (arg3.view.read (Elt F) X_arg3) (arg4.view.read (Elt F) X_arg4) D T R (arg9.view.read (Elt F) G) :=
  fin9 Variants.none c none i arg2 harg2 arg3 harg3 arg4 harg4 arg5 harg5 arg6 harg6 arg7 harg7 arg8 harg8 arg9 harg9 (BitVec.ofNat 32 (i 1).val) (k0_pay55 Q) (k0_pay56 D) (k0_pay57 T) (k0_pay58 R) (k0_pay59 Q D) (first i R) (start i R) (first_spec i R).1 (first_spec i R).2 (start_chk i R) k0_pay61 k0_pay62 v35 X_arg3 X_arg4 G (k0_pay61, k0_pay62) w35

end Cert.KernelIdeal.Sb

end
-- ==== Proof.Sb.Body.lean ====
/- The kernel body's run: what it leaves in the two gradients' windows. -/
module

public import proofs.«01_k».proof.Proof.Sb.State
public import Idealize.ShloMosaic.Lib.Tactic
public import Idealize.ShloMosaic.Lib.Pipeline.Kit

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

abbrev pt (c : Dev nD) {sp : Space} {S : Shape} {e : EltTy} (M : Memref sig .tc sp S e) (f : BufTy.Contents (Elt F) M.view.ty) : sProp 𝕄G :=
  M.view.loc (c : Thread nD τ) ↦[M.view.set]{fullShare} f

theorem not_first (i : grid0.Coords) (h : (i 1).val ≠ 0) :
    ¬ Scalar.cmpi .ne (Scalar.extui (Scalar.cmpi .eq (BitVec.ofNat 32 (i 1).val) 0#32) : BitVec 32) 0#32 = 1#1 := by
  have key : ∀ n : Fin 16, n.val ≠ 0 → ¬ Scalar.cmpi .ne (Scalar.extui (Scalar.cmpi .eq (BitVec.ofNat 32 n.val) 0#32) : BitVec 32) 0#32 = 1#1 := by decide
  exact key ⟨(i 1).val, (i 1).isLt⟩ h

theorem is_first (i : grid0.Coords) (h : (i 1).val = 0) :
    Scalar.cmpi .ne (Scalar.extui (Scalar.cmpi .eq (BitVec.ofNat 32 (i 1).val) 0#32) : BitVec 32) 0#32 = 1#1 := by
  rw [h]; decide

set_option maxRecDepth 100000 in
set_option maxHeartbeats 600000 in
theorem run_other (c : Dev nD) (E : Set ℕ) (i : grid0.Coords) (arg2 : Memref sig .tc .vmem S1x512x128 .bf16) (harg2 : arg2.IsWhole) (arg3 : Memref sig .tc .vmem S1x16x512x128 .bf16) (harg3 : arg3.IsWhole) (arg4 : Memref sig .tc .vmem S1x16x512x128 .bf16) (harg4 : arg4.IsWhole) (arg5 : Memref sig .tc .vmem S1x512x128 .bf16) (harg5 : arg5.IsWhole) (arg6 : Memref sig .tc .vmem S256x256 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x16x512x128 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (Q : PUnit → sProp 𝕄G) (hi : (i 1).val ≠ 0) :
    iprop(pt c arg2 f2 ∗ pt c arg3 f3 ∗ pt c arg4 f4 ∗ pt c arg5 f5 ∗ pt c arg6 f6 ∗ pt c arg7 f7 ∗ pt c arg8 f8 ∗ pt c arg9 f9
      ∗ (iprop(pt c arg2 f2 ∗ pt c arg3 f3 ∗ pt c arg4 f4 ∗ pt c arg5 f5 ∗ pt c arg6 f6 ∗ pt c arg7 f7
          ∗ (∃ f, ⌜arg8.view.read (Elt F) f = outDq i (arg2.view.read (Elt F) f2) (arg3.view.read (Elt F) f3) (arg4.view.read (Elt F) f4) (arg5.view.read (Elt F) f5) (arg6.view.read (Elt F) f6) (arg7.view.read (Elt F) f7) (arg9.view.read (Elt F) f9)⌝ ∗ pt c arg8 f)
          ∗ (∃ f, ⌜arg9.view.read (Elt F) f = outDkv i (arg2.view.read (Elt F) f2) (arg3.view.read (Elt F) f3) (arg4.view.read (Elt F) f4) (arg5.view.read (Elt F) f5) (arg6.view.read (Elt F) f6) (arg7.view.read (Elt F) f7) (arg9.view.read (Elt F) f9)⌝ ∗ pt c arg9 f)) -∗ Q ⟨⟩))
    ⊢ wp frame (wpE (defs₀ (F := F)) Variants.none c none) E
        (cc0_sb_bwd i arg2 harg2 arg3 harg3 arg4 harg4 arg5 harg5 arg6 harg6 arg7 harg7 arg8 harg8 arg9 harg9) Q := by
  have hnf := not_first i hi
  have e2 := View.readAt_full (Val := Elt F) arg2.view f2 inb_S1x512x128_S1x512x128_0_0_0
  have e5 := View.readAt_full (Val := Elt F) arg5.view f5 inb_S1x512x128_S1x512x128_0_0_0
  have e6 := View.readAt_full (Val := Elt F) arg6.view f6 inb_S256x256_S256x256_0_0
  have e7 := View.readAt_full (Val := Elt F) arg7.view f7 inb_S1x512x128_S1x512x128_0_0_0
  iintro ⟨H2, H3, H4, H5, H6, H7, H8, H9, Hk⟩
  rw [cc0_sb_bwd_eq_skeleton]; unfold cc0_sb_bwd_skel
  rw [k0_part5_eq_skeleton]; unfold k0_part5_skel; simp only [Idealize.SL.Sem.Prog.bind_assoc]
  set_option sl_exec.stopBefore "k0_part6" in sl_exec (disch := exact first_chk _ _)
  dsimp only
  rw [k0_part6_eq_skeleton]; unfold k0_part6_skel; simp only [Idealize.SL.Sem.Prog.bind_assoc]
  set_option sl_exec.stopBefore "k0_part7" in sl_exec
  dsimp only
  rw [k0_part7_eq_skeleton]; unfold k0_part7_skel; simp only [Idealize.SL.Sem.Prog.bind_assoc]
  sl_exec
  dsimp only
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8); ipureintro
    refine (View.read_writes_full _ _ _ _ _).trans ?_
    exact fin8_at c i arg2 harg2 arg3 harg3 arg4 harg4 arg5 harg5 arg6 harg6 arg7 harg7 arg8 harg8 arg9 harg9 (arg2.view.read (Elt F) f2) (arg5.view.read (Elt F) f5) (arg6.view.read (Elt F) f6) (arg7.view.read (Elt F) f7) f3 f4 f9 _ _
  · iexists _; isplitr; swap; (· iexact H9); ipureintro
    exact fin9_at c i arg2 harg2 arg3 harg3 arg4 harg4 arg5 harg5 arg6 harg6 arg7 harg7 arg8 harg8 arg9 harg9 (arg2.view.read (Elt F) f2) (arg5.view.read (Elt F) f5) (arg6.view.read (Elt F) f6) (arg7.view.read (Elt F) f7) f3 f4 f9 _ _

set_option maxRecDepth 100000 in
set_option maxHeartbeats 600000 in
theorem run_first (c : Dev nD) (E : Set ℕ) (i : grid0.Coords) (arg2 : Memref sig .tc .vmem S1x512x128 .bf16) (harg2 : arg2.IsWhole) (arg3 : Memref sig .tc .vmem S1x16x512x128 .bf16) (harg3 : arg3.IsWhole) (arg4 : Memref sig .tc .vmem S1x16x512x128 .bf16) (harg4 : arg4.IsWhole) (arg5 : Memref sig .tc .vmem S1x512x128 .bf16) (harg5 : arg5.IsWhole) (arg6 : Memref sig .tc .vmem S256x256 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x16x512x128 .f32) (harg9 : arg9.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (Q : PUnit → sProp 𝕄G) (hi : (i 1).val = 0) :
    iprop(pt c arg2 f2 ∗ pt c arg3 f3 ∗ pt c arg4 f4 ∗ pt c arg5 f5 ∗ pt c arg6 f6 ∗ pt c arg7 f7 ∗ pt c arg8 f8 ∗ pt c arg9 f9
      ∗ (iprop(pt c arg2 f2 ∗ pt c arg3 f3 ∗ pt c arg4 f4 ∗ pt c arg5 f5 ∗ pt c arg6 f6 ∗ pt c arg7 f7
          ∗ (∃ f, ⌜arg8.view.read (Elt F) f = outDq i (arg2.view.read (Elt F) f2) (arg3.view.read (Elt F) f3) (arg4.view.read (Elt F) f4) (arg5.view.read (Elt F) f5) (arg6.view.read (Elt F) f6) (arg7.view.read (Elt F) f7) (k0_pay54 (F := F))⌝ ∗ pt c arg8 f)
          ∗ (∃ f, ⌜arg9.view.read (Elt F) f = outDkv i (arg2.view.read (Elt F) f2) (arg3.view.read (Elt F) f3) (arg4.view.read (Elt F) f4) (arg5.view.read (Elt F) f5) (arg6.view.read (Elt F) f6) (arg7.view.read (Elt F) f7) (k0_pay54 (F := F))⌝ ∗ pt c arg9 f)) -∗ Q ⟨⟩))
    ⊢ wp frame (wpE (defs₀ (F := F)) Variants.none c none) E
        (cc0_sb_bwd i arg2 harg2 arg3 harg3 arg4 harg4 arg5 harg5 arg6 harg6 arg7 harg7 arg8 harg8 arg9 harg9) Q := by
  have hnf := is_first i hi
  have e2 := View.readAt_full (Val := Elt F) arg2.view f2 inb_S1x512x128_S1x512x128_0_0_0
  have e5 := View.readAt_full (Val := Elt F) arg5.view f5 inb_S1x512x128_S1x512x128_0_0_0
  have e6 := View.readAt_full (Val := Elt F) arg6.view f6 inb_S256x256_S256x256_0_0
  have e7 := View.readAt_full (Val := Elt F) arg7.view f7 inb_S1x512x128_S1x512x128_0_0_0
  have e9 : arg9.view.read (Elt F) (arg9.view.writes (Elt F) arg9.view.junk [⟨Rect.unit (s := S1x16x512x128) ![0, 0, 0, 0] S1x16x512x128.size inb_S1x16x512x128_S1x16x512x128_0_0_0_0, k0_pay54 (F := F)⟩]) = k0_pay54 (F := F) := View.read_writes_full _ _ _ _ _
  iintro ⟨H2, H3, H4, H5, H6, H7, H8, H9, Hk⟩
  rw [cc0_sb_bwd_eq_skeleton]; unfold cc0_sb_bwd_skel
  rw [k0_part5_eq_skeleton]; unfold k0_part5_skel; simp only [Idealize.SL.Sem.Prog.bind_assoc]
  set_option sl_exec.stopBefore "k0_part6" in sl_exec (disch := exact first_chk _ _)
  dsimp only
  rw [k0_part6_eq_skeleton]; unfold k0_part6_skel; simp only [Idealize.SL.Sem.Prog.bind_assoc]
  set_option sl_exec.stopBefore "k0_part7" in sl_exec
  dsimp only
  rw [k0_part7_eq_skeleton]; unfold k0_part7_skel; simp only [Idealize.SL.Sem.Prog.bind_assoc]
  sl_exec
  dsimp only
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8); ipureintro
    refine (View.read_writes_full _ _ _ _ _).trans ?_
    simp only [View.writes_append]
    refine Eq.trans ?_ (congrArg (outDq i (arg2.view.read (Elt F) f2) (arg3.view.read (Elt F) f3) (arg4.view.read (Elt F) f4) (arg5.view.read (Elt F) f5) (arg6.view.read (Elt F) f6) (arg7.view.read (Elt F) f7)) e9)
    exact fin8_at c i arg2 harg2 arg3 harg3 arg4 harg4 arg5 harg5 arg6 harg6 arg7 harg7 arg8 harg8 arg9 harg9 (arg2.view.read (Elt F) f2) (arg5.view.read (Elt F) f5) (arg6.view.read (Elt F) f6) (arg7.view.read (Elt F) f7) f3 f4 (arg9.view.writes (Elt F) arg9.view.junk [⟨Rect.unit (s := S1x16x512x128) ![0, 0, 0, 0] S1x16x512x128.size inb_S1x16x512x128_S1x16x512x128_0_0_0_0, k0_pay54 (F := F)⟩]) _ _
  · iexists _; isplitr; swap; (· iexact H9); ipureintro
    delta run_first.sl.v134
    simp only [← List.append_assoc, ← List.cons_append]
    simp only [View.writes_append]
    refine Eq.trans ?_ (congrArg (outDkv i (arg2.view.read (Elt F) f2) (arg3.view.read (Elt F) f3) (arg4.view.read (Elt F) f4) (arg5.view.read (Elt F) f5) (arg6.view.read (Elt F) f6) (arg7.view.read (Elt F) f7)) e9)
    have h := fun v w => fin9_at c i arg2 harg2 arg3 harg3 arg4 harg4 arg5 harg5 arg6 harg6 arg7 harg7 arg8 harg8 arg9 harg9 (arg2.view.read (Elt F) f2) (arg5.view.read (Elt F) f5) (arg6.view.read (Elt F) f6) (arg7.view.read (Elt F) f7) f3 f4 (arg9.view.writes (Elt F) arg9.view.junk [⟨Rect.unit (s := S1x16x512x128) ![0, 0, 0, 0] S1x16x512x128.size inb_S1x16x512x128_S1x16x512x128_0_0_0_0, k0_pay54 (F := F)⟩]) v w
    simp only [← List.cons_append, View.writes_append] at h
    exact h _ _

end Cert.KernelIdeal.Sb

end
-- ==== Proof.Sb.Run.lean ====
/- The launch: what each grid point leaves in the windows, the body at every point, the run and the frame. -/
module

public import proofs.«01_k».proof.Proof.Sb.Body
public import proofs.«01_k».proof.Proof.Gen.KernelIdeal.Frame
public import Idealize.ShloMosaic.Lib.Claim

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-- The query's gradient that point `t` leaves. -/
def dqAt (c : Dev nD) (t : Fin cfg0.N) (Y : Vec F S1x16x512x128 .f32) : Vec F S1x512x128 .f32 :=
  outDq (grid0.coords t) (iblk m c 0 t) (iblk m c 1 t) (iblk m c 2 t) (iblk m c 3 t) (iblk m c 4 t) (iblk m c 5 t) Y

/-- The accumulated gradients of keys and values point `t` leaves over `Y`. -/
def dkvAt (c : Dev nD) (t : Fin cfg0.N) (Y : Vec F S1x16x512x128 .f32) : Vec F S1x16x512x128 .f32 :=
  outDkv (grid0.coords t) (iblk m c 0 t) (iblk m c 1 t) (iblk m c 2 t) (iblk m c 3 t) (iblk m c 4 t) (iblk m c 5 t) Y

/-- The accumulator as point `n` finds it, after its head's first point has cleared it. -/
def accIn (c : Dev nD) : (n : ℕ) → Vec F S1x16x512x128 .f32
  | 0 => k0_pay54
  | n + 1 => if (n + 1) % 16 = 0 then k0_pay54 else if h : n < cfg0.N then dkvAt m c ⟨n, h⟩ (accIn c n) else k0_pay54

theorem accIn_first (c : Dev nD) (n : ℕ) (h : n % 16 = 0) : accIn m c n = k0_pay54 := by
  cases n with
  | zero => rfl
  | succ n => rw [accIn, if_pos h]

theorem accIn_next (c : Dev nD) (n : ℕ) (h : n < cfg0.N) (h' : (n + 1) % 16 ≠ 0) :
    accIn m c (n + 1) = dkvAt m c ⟨n, h⟩ (accIn m c n) := by
  rw [accIn, if_neg h', dif_pos h]

theorem coords1 : ∀ t : Fin grid0.N, (grid0.coords t 1).val = t.val % 16 := by decide +kernel

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t (accIn m c t.val)
    | ⟨7, _⟩ => dkvAt m c t (accIn m c t.val)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t (accIn m c t.val) := by dsimp only [dats]
theorem after0_7 (c : Dev nD) (t : Fin cfg0.N) : (dats m 0 c).after 7 t = dkvAt m c t (accIn m c t.val) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem before0_7 (c : Dev nD) (t : Fin cfg0.N) (ht : t.val % 16 ≠ 0) (d) : (dats m 0 c).before 7 t d = accIn m c t.val := by
  have h0 : t.val ≠ 0 := fun h => ht (by rw [h])
  have hfl : (cfg0.win 7).flush ⟨t.val - 1, Nat.lt_of_le_of_lt (Nat.sub_le _ _) t.isLt⟩ = false := by
    rw [Bool.eq_false_iff]; intro h
    have := (flush0_7 _).mp h
    dsimp only at this
    omega
  rw [(dats m 0 c).before_out_kept 7 rfl t h0 hfl (fun _ => rfl) (fun _ _ => rfl) d, after0_7]
  dsimp only
  have hn : t.val = (t.val - 1) + 1 := by omega
  have := accIn_next m c (t.val - 1) (Nat.lt_of_le_of_lt (Nat.sub_le _ _) t.isLt) (by rw [← hn]; exact ht)
  rw [← hn] at this
  exact this.symm

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_first (c : Dev nD) (t : Fin cfg0.N) (ht : t.val % 16 = 0) :
    bodyPre m c t ⊢ wp frame (wpE (defs₀ (F := F)) Variants.none c none) Set.univ (bodyAt0 t) (fun _ => bodyPost m c t) := by
  have hi : (grid0.coords t 1).val = 0 := by rw [coords1]; exact ht
  unfold bodyPre bodyPost bodyAt0
  simp only [before0_0, before0_1, before0_2, before0_3, before0_4, before0_5]

  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [accIn_first m c t.val ht]
  unfold owns dqAt dkvAt
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  iapply (run_first c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f6 f7 _ hi)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%g6, %hg6, H6⟩, ⟨%g7, %hg7, H7⟩⟩
  isplitl [HΦ]; · iexact HΦ
  isplitl [Ho]; · iexact Ho
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro
      exact hg6.trans (by rw [hf0, hf1, hf2, hf3, hf4, hf5])
    iexact H6
  iexists _; isplitr
  · ipureintro
    exact hg7.trans (by rw [hf0, hf1, hf2, hf3, hf4, hf5])
  iexact H7

theorem sound_other (c : Dev nD) (t : Fin cfg0.N) (ht : t.val % 16 ≠ 0) :
    bodyPre m c t ⊢ wp frame (wpE (defs₀ (F := F)) Variants.none c none) Set.univ (bodyAt0 t) (fun _ => bodyPost m c t) := by
  have hi : (grid0.coords t 1).val ≠ 0 := by rw [coords1]; exact ht
  unfold bodyPre bodyPost bodyAt0
  simp only [before0_0, before0_1, before0_2, before0_3, before0_4, before0_5]
  simp only [before0_7 m c t ht]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]

  unfold owns dqAt dkvAt
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  iapply (run_other c Set.univ (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) f0 f1 f2 f3 f4 f5 f6 f7 _ hi)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, ⟨%g6, %hg6, H6⟩, ⟨%g7, %hg7, H7⟩⟩
  isplitl [HΦ]; · iexact HΦ
  isplitl [Ho]; · iexact Ho
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    · ipureintro
      exact hg6.trans (by rw [hf0, hf1, hf2, hf3, hf4, hf5, hf7])
    iexact H6
  iexists _; isplitr
  · ipureintro
    exact hg7.trans (by rw [hf0, hf1, hf2, hf3, hf4, hf5, hf7])
  iexact H7

theorem sound_body (c : Dev nD) (t : Fin cfg0.N) :
    bodyPre m c t ⊢ wp frame (wpE (defs₀ (F := F)) Variants.none c none) Set.univ (bodyAt0 t) (fun _ => bodyPost m c t) := by
  by_cases ht : t.val % 16 = 0
  · exact sound_first m c t ht
  · exact sound_other m c t ht

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_post m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run m ρ))

end Cert.KernelIdeal.Sb

end
-- ==== Proof.Sb.Real.lean ====
/- Matrices over the ideal values whose every element is a real number, given by a function of row and column: each
   vector operation of the kernel as an operation on those functions. -/
module

public import proofs.«01_k».proof.Proof.Sb.State
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.Lib.WordCmp
public import Idealize.ShloMosaic.PureOps.Ideal.Laws

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

theorem coe_sum {n : ℕ} (f : ℕ → ℝ) : ∑ k : Fin n, ((f k.val : ℝ) : EReal) = ((∑ k ∈ Finset.range n, f k : ℝ) : EReal) := by
  rw [Finset.sum_range f]
  exact (map_sum (⟨⟨Real.toEReal, EReal.coe_zero⟩, EReal.coe_add⟩ : ℝ →+ EReal) (fun k : Fin n => f k.val) Finset.univ).symm

theorem coe_max' (a b : ℝ) : ((max a b : ℝ) : EReal) = max (a : EReal) b := EReal.coe_strictMono.monotone.map_max

theorem coe_min' (a b : ℝ) : ((min a b : ℝ) : EReal) = min (a : EReal) b := EReal.coe_strictMono.monotone.map_min

theorem zero_f32 : (FloatOps.ofBits .f32 0x00000000#32 : Ideal .f32) = ((0 : ℝ) : EReal) := Ideal.ofBits_zero_f32

theorem one_f32 : (FloatOps.ofBits .f32 0x3F800000#32 : Ideal .f32) = ((1 : ℝ) : EReal) := Ideal.ofBits_one_f32

/-- Every element of the matrix is the real number the function gives at its row and column. -/
def R2 {m n : ℕ} (x : (⟨2, ![m, n]⟩ : Shape).Idx → EReal) (f : ℕ → ℕ → ℝ) : Prop :=
  ∀ (r : Fin m) (c : Fin n), x (ix2 r c) = ((f r.val c.val : ℝ) : EReal)

variable {m n : ℕ} {φ ψ : FTy}

theorem R2.congr {x : (⟨2, ![m, n]⟩ : Shape).Idx → EReal} {f g : ℕ → ℕ → ℝ} (h : R2 x f) (e : ∀ r < m, ∀ c < n, f r c = g r c) : R2 x g :=
  fun r c => by rw [h r c, e r.val r.isLt c.val c.isLt]

theorem R2.zero {s : Shape} (hs : s = ⟨2, ![m, n]⟩) : R2 (hs ▸ (constant s .f32 0x00000000#32 : FVec Ideal s .f32)) fun _ _ => 0 := by
  subst hs; exact fun _ _ => zero_f32

theorem R2.const0 : R2 (constant ⟨2, ![m, n]⟩ .f32 0x00000000#32 : FVec Ideal _ .f32) fun _ _ => 0 := fun _ _ => zero_f32

theorem R2.bc0 : R2 (broadcast ⟨2, ![m, n]⟩ (Scalar.ofBits .f32 0x00000000#32 : Ideal .f32)) fun _ _ => 0 := fun _ _ => zero_f32

theorem R2.bc1 : R2 (broadcast ⟨2, ![m, n]⟩ (Scalar.ofBits .f32 0x3F800000#32 : Ideal .f32)) fun _ _ => 1 := fun _ _ => one_f32

section Pointwise
variable {x y : FVec Ideal ⟨2, ![m, n]⟩ φ} {f g : ℕ → ℕ → ℝ} (hx : R2 x f) (hy : R2 y g)

include hx hy

theorem R2.add : R2 (addf x y) fun r c => f r c + g r c := fun r c => by
  show (x (ix2 r c) + y (ix2 r c) : EReal) = _
  rw [hx, hy, ← EReal.coe_add]

theorem R2.sub : R2 (subf x y) fun r c => f r c - g r c := fun r c => by
  show (x (ix2 r c) - y (ix2 r c) : EReal) = _
  rw [hx, hy, ← EReal.coe_sub]

theorem R2.mul : R2 (mulf x y) fun r c => f r c * g r c := fun r c => by
  show (x (ix2 r c) * y (ix2 r c) : EReal) = _
  rw [hx, hy, ← EReal.coe_mul]

theorem R2.max : R2 (maximumf x y) fun r c => max (f r c) (g r c) := fun r c => by
  show (Max.max (x (ix2 r c)) (y (ix2 r c)) : EReal) = _
  rw [hx, hy, coe_max']

theorem R2.min : R2 (minimumf x y) fun r c => min (f r c) (g r c) := fun r c => by
  show (Min.min (x (ix2 r c)) (y (ix2 r c)) : EReal) = _
  rw [hx, hy, coe_min']

theorem R2.div (h0 : ∀ r c, g r c ≠ 0) : R2 (divf x y) fun r c => f r c / g r c := fun r c => by
  show Ideal.div (x (ix2 r c)) (y (ix2 r c)) = _
  rw [hx, hy, Ideal.div_coe (h0 _ _), ← EReal.coe_mul]
  exact congrArg _ (div_eq_mul_one_div _ _).symm

theorem R2.oge : ∀ (r : Fin m) (c : Fin n), cmpf .oge x y (ix2 r c) = BitVec.ofBool (decide (g r.val c.val ≤ f r.val c.val)) := fun r c => by
  show Ideal.cmp .oge (x (ix2 r c)) (y (ix2 r c)) = _
  rw [hx, hy]
  unfold Ideal.cmp
  congr 1
  exact decide_eq_decide.2 EReal.coe_le_coe_iff

omit hy in
theorem R2.abs : R2 (absf x) fun r c => |f r c| := fun r c => by
  show (Max.max (x (ix2 r c)) (-(x (ix2 r c))) : EReal) = _
  rw [hx, ← EReal.coe_neg, ← coe_max']
  rfl

omit hy in
theorem R2.exp : R2 (exp x) fun r c => Real.exp (f r c) := fun r c => by
  show Ideal.exp (x (ix2 r c)) = _
  rw [hx]
  rfl

omit hy in
theorem R2.log (h0 : ∀ r c, 0 < f r c) : R2 (log x) fun r c => Real.log (f r c) := fun r c => by
  show Ideal.log (x (ix2 r c)) = _
  rw [hx, Ideal.log_coe, if_neg (not_le.2 (h0 _ _))]

end Pointwise

theorem R2.select {b : IVec ⟨2, ![m, n]⟩ 1} {x y : (⟨2, ![m, n]⟩ : Shape).Idx → EReal} {f g : ℕ → ℕ → ℝ} {p : ℕ → ℕ → Prop} [∀ r c, Decidable (p r c)]
    (hb : ∀ (r : Fin m) (c : Fin n), b (ix2 r c) = BitVec.ofBool (decide (p r.val c.val))) (hx : R2 x f) (hy : R2 y g) :
    R2 (select b x y) fun r c => if p r c then f r c else g r c := fun r c => by
  show Scalar.select (b (ix2 r c)) (x (ix2 r c)) (y (ix2 r c)) = _
  rw [hb, hx, hy]
  dsimp only
  by_cases h : p r.val c.val
  · rw [if_pos h, decide_eq_true h]; rfl
  · rw [if_neg h, decide_eq_false h]; rfl

theorem R2.trunc {x : FVec Ideal ⟨2, ![m, n]⟩ φ} {f : ℕ → ℕ → ℝ} (hx : R2 x f) (h : ψ.bits < φ.bits) : R2 (truncf ψ x h) f := hx

theorem R2.ext {x : FVec Ideal ⟨2, ![m, n]⟩ φ} {f : ℕ → ℕ → ℝ} (hx : R2 x f) (h : φ.bits < ψ.bits) : R2 (extf ψ x h) f := hx

/-! Matrix products into a zero accumulator. -/

section Products
variable {K : ℕ} {f g h : ℕ → ℕ → ℝ}

theorem coe_dot (u v : Fin K → EReal) (a b : ℕ → ℝ) (hu : ∀ k, u k = ((a k.val : ℝ) : EReal)) (hv : ∀ k, v k = ((b k.val : ℝ) : EReal)) :
    ((0 : ℝ) : EReal) + ∑ k, u k * v k = ((∑ k ∈ Finset.range K, a k * b k : ℝ) : EReal) := by
  rw [← coe_sum (fun k => a k * b k), EReal.coe_zero, zero_add]
  exact Finset.sum_congr rfl fun k _ => by rw [hu, hv, ← EReal.coe_mul]

theorem R2.nn {a : FVec Ideal ⟨2, ![m, K]⟩ φ} {b : FVec Ideal ⟨2, ![K, n]⟩ ψ} {acc : FVec Ideal ⟨2, ![m, n]⟩ .f32} (ha : R2 a f) (hb : R2 b g) (h0 : R2 acc fun _ _ => 0) (prec) :
    R2 (matmul (DotDims.plain m K n) prec a b acc) fun r c => ∑ d ∈ Finset.range K, f r d * g d c := fun r c => by
  refine (Ideal.matmul_plain_apply prec a b acc r c).trans ?_
  rw [h0]
  exact coe_dot _ _ (fun d => f r.val d) (fun d => g d c.val) (fun k => ha r k) fun k => hb k c

theorem R2.nt {a : FVec Ideal ⟨2, ![m, K]⟩ φ} {b : FVec Ideal ⟨2, ![n, K]⟩ ψ} {acc : FVec Ideal ⟨2, ![m, n]⟩ .f32} (ha : R2 a f) (hb : R2 b g) (h0 : R2 acc fun _ _ => 0) (prec) :
    R2 (matmul (DotDims.transposedRhs m K n) prec a b acc) fun r c => ∑ d ∈ Finset.range K, f r d * g c d := fun r c => by
  refine (Ideal.matmul_transposedRhs_apply prec a b acc r c).trans ?_
  rw [h0]
  exact coe_dot _ _ (fun d => f r.val d) (fun d => g c.val d) (fun k => ha r k) fun k => hb c k

/-- The two operands contracted along their rows. -/
theorem R2.tn {a : FVec Ideal S1024x512 φ} {b : FVec Ideal S1024x128 ψ} {acc : FVec Ideal S512x128 .f32} (ha : R2 a f) (hb : R2 b g) (h0 : R2 acc fun _ _ => 0) (prec) :
    R2 (matmul dot_S1024x512_S1024x128_S512x128_0_0_1_1_n_n prec a b acc) fun r c => ∑ d ∈ Finset.range 1024, f d r * g d c := fun r c => by
  refine (Ideal.matmul_apply _ prec a b acc (ix2 r c)).trans ?_
  rw [h0, ← Equiv.sum_comp (contrEquiv1 dot_S1024x512_S1024x128_S512x128_0_0_1_1_n_n 1024 rfl rfl).symm]
  refine coe_dot _ _ (fun d => f d r.val) (fun d => g d c.val) (fun k => ?_) fun k => ?_
  · rw [← ha k r]
    refine congrArg a (funext fun x => Fin.ext ?_)
    have hk := contrEquiv1_symm_val dot_S1024x512_S1024x128_S512x128_0_0_1_1_n_n 1024 rfl rfl k
    match x with
    | ⟨0, _⟩ => exact hk
    | ⟨1, _⟩ => rfl
  · rw [← hb k c]
    refine congrArg b (funext fun x => Fin.ext ?_)
    have hk := contrEquiv1_symm_val dot_S1024x512_S1024x128_S512x128_0_0_1_1_n_n 1024 rfl rfl k
    match x with
    | ⟨0, _⟩ => exact hk
    | ⟨1, _⟩ => rfl

end Products

/-! Layout. -/

section Layout
variable {f g : ℕ → ℕ → ℝ}

theorem R2.left {x : S512x512.Idx → EReal} (hx : R2 x f) : R2 (extractStridedSlice S512x256 ![0, 0] x slices_S512x512_o0_0_S512x256) f := fun r c => by
  refine (extractStridedSlice_apply ![0, 0] x _ (ix2 r c) (ix2 r ⟨c.val, by omega⟩) fun a => ?_).trans (hx r ⟨c.val, by omega⟩)
  match a with
  | ⟨0, _⟩ => show r.val = 0 + r.val; omega
  | ⟨1, _⟩ => show c.val = 0 + c.val; omega

theorem R2.right {x : S512x512.Idx → EReal} (hx : R2 x f) :
    R2 (extractStridedSlice S512x256 ![0, 256] x slices_S512x512_o0_256_S512x256) fun r c => f r (256 + c) := fun r c => by
  refine (extractStridedSlice_apply ![0, 256] x _ (ix2 r c) (ix2 r ⟨256 + c.val, by omega⟩) fun a => ?_).trans (hx r ⟨256 + c.val, by omega⟩)
  match a with
  | ⟨0, _⟩ => show r.val = 0 + r.val; omega
  | ⟨1, _⟩ => show 256 + c.val = 256 + c.val; rfl

theorem R2.cols {x y : S512x256.Idx → EReal} (hx : R2 x f) (hy : R2 y g) :
    R2 (concatenate S512x512 1 [⟨S512x256, x⟩, ⟨S512x256, y⟩] concatenates_S512x256_S512x256_S512x512_d1) fun r c => if c < 256 then f r c else g r (c - 256) := fun r c => by
  dsimp only
  split
  · next h =>
    exact (concatenate_pair_apply_left 1 x y _ (ix2 r c) rfl (ix2 r ⟨c.val, h⟩) (fun b => by match b with | ⟨0, _⟩ => rfl | ⟨1, _⟩ => rfl)).trans (hx r ⟨c.val, h⟩)
  · next h =>
    refine (concatenate_pair_apply_right 1 x y _ (ix2 r c) rfl rfl (ix2 r ⟨c.val - 256, by omega⟩) (fun b hb => ?_) ?_).trans (hy r ⟨c.val - 256, by omega⟩)
    · match b with
      | ⟨0, _⟩ => rfl
      | ⟨1, _⟩ => exact absurd rfl hb
    · show c.val - 256 + 256 = c.val
      omega

theorem R2.rows {a b k : ℕ} (h : Shape.Concatenates [⟨2, ![a, n]⟩, ⟨2, ![b, n]⟩] ⟨2, ![k, n]⟩ 0) (hk : k = a + b) {x : (⟨2, ![a, n]⟩ : Shape).Idx → EReal} {y : (⟨2, ![b, n]⟩ : Shape).Idx → EReal} (hx : R2 x f) (hy : R2 y g) :
    R2 (concatenate ⟨2, ![k, n]⟩ 0 [⟨⟨2, ![a, n]⟩, x⟩, ⟨⟨2, ![b, n]⟩, y⟩] h) fun r c => if r < a then f r c else g (r - a) c := fun r c => by
  dsimp only
  split
  · next h =>
    exact (concatenate_pair_apply_left 0 x y _ (ix2 r c) rfl (ix2 ⟨r.val, h⟩ c) (fun b => by match b with | ⟨0, _⟩ => rfl | ⟨1, _⟩ => rfl)).trans (hx ⟨r.val, h⟩ c)
  · next h =>
    refine (concatenate_pair_apply_right 0 x y _ (ix2 r c) rfl rfl (ix2 ⟨r.val - a, by omega⟩ c) (fun b hb => ?_) ?_).trans (hy ⟨r.val - a, by omega⟩ c)
    · match b with
      | ⟨0, _⟩ => exact absurd rfl hb
      | ⟨1, _⟩ => rfl
    · show r.val - a + a = r.val
      omega

/-- A column repeated along the rows. -/
theorem R2.bcol {h : (⟨2, ![m, 1]⟩ : Shape).Broadcasts ⟨2, ![m, n]⟩} (hm : m ≠ 1) {x : (⟨2, ![m, 1]⟩ : Shape).Idx → EReal} (hx : R2 x f) :
    R2 (broadcastTo ⟨2, ![m, n]⟩ x h) fun r _ => f r 0 := fun r c => by
  refine (broadcastTo_apply x h (ix2 r c) (ix2 r (0 : Fin 1)) fun ax => ?_).trans (hx r 0)
  match ax with
  | ⟨0, _⟩ => show r.val = if m = 1 then 0 else r.val; rw [if_neg hm]
  | ⟨1, _⟩ => rfl

/-- The sums along the rows, as a column. -/
theorem R2.rowsum {h : (⟨2, ![m, n]⟩ : Shape).Reduces [1] ⟨1, ![m]⟩} {hc : (⟨1, ![m]⟩ : Shape).ShapeCasts ⟨2, ![m, 1]⟩} {hφ hacc} {x : FVec Ideal ⟨2, ![m, n]⟩ .f32} (hx : R2 x f) :
    R2 (shapeCast ⟨2, ![m, 1]⟩ (multiReduction .add [1] ⟨1, ![m]⟩ x 0x00000000#32 h hφ hacc) hc) fun r _ => ∑ d ∈ Finset.range n, f r d := fun r c => by
  refine (shapeCast_a_a1_apply _ hc r c).trans ((Ideal.multiReduction_add_single x _ h hφ hacc (ix1 r)).trans ?_)
  rw [← coe_sum]
  refine Finset.sum_congr rfl fun k _ => ?_
  rw [← hx r k]
  refine congrArg x (funext fun a => Fin.ext ?_)
  match a with
  | ⟨0, _⟩ => rfl
  | ⟨1, _⟩ => rfl

/-- The lanes moved by half their number. -/
theorem R2.roll {x : S512x128.Idx → EReal} (hx : R2 x f) : R2 (dynamicRotate 1 64#32 none x rotates_S512x128_d1) fun r c => f r ((c + 64) % 128) := fun r c => by
  refine (dynamicRotate_apply 1 64#32 x _ (ix2 r c) (ix2 r ⟨(c.val + 64) % 128, Nat.mod_lt _ (by omega)⟩) fun b => ?_).trans (hx r ⟨(c.val + 64) % 128, Nat.mod_lt _ (by omega)⟩)
  match b with
  | ⟨0, _⟩ => rfl
  | ⟨1, _⟩ => show (c.val + 64) % 128 = (c.val + 128 - 64 % 128) % 128; omega

end Layout

/-- A stack's one matrix, -/
theorem R2.cast1 {x : (⟨3, ![1, m, n]⟩ : Shape).Idx → EReal} {f : ℕ → ℕ → ℝ} (h : (⟨3, ![1, m, n]⟩ : Shape).ShapeCasts ⟨2, ![m, n]⟩)
    (hx : ∀ (r : Fin m) (c : Fin n), x (ix3 0 r c) = ((f r.val c.val : ℝ) : EReal)) : R2 (shapeCast ⟨2, ![m, n]⟩ x h) f := fun r c =>
  (shapeCast_1ab_ab_apply x h r c).trans (hx r c)

/-- and a tile's. -/
theorem R2.cast4 {x : S1x1x512x128.Idx → EReal} {f : ℕ → ℕ → ℝ} (h : S1x1x512x128.ShapeCasts S512x128)
    (hx : ∀ (r : Fin 512) (c : Fin 128), x (ix4 0 0 r c) = ((f r.val c.val : ℝ) : EReal)) : R2 (shapeCast S512x128 x h) f := fun r c => by
  refine (shapeCast_apply x h (ix2 r c) (ix4 0 0 r c) ?_).trans (hx r c)
  rw [Shape.rowMajor_val_two, Shape.rowMajor_val_four]
  show ((0 * 1 + 0) * 512 + r.val) * 128 + c.val = r.val * 128 + c.val
  omega

theorem R2.uncast4 {x : S512x128.Idx → EReal} {f : ℕ → ℕ → ℝ} (h : S512x128.ShapeCasts S1x1x512x128) (hx : R2 x f) (r : Fin 512) (c : Fin 128) :
    shapeCast S1x1x512x128 x h (ix4 0 0 r c) = ((f r.val c.val : ℝ) : EReal) := by
  refine (shapeCast_apply x h (ix4 0 0 r c) (ix2 r c) ?_).trans (hx r c)
  rw [Shape.rowMajor_val_two, Shape.rowMajor_val_four]
  show r.val * 128 + c.val = ((0 * 1 + 0) * 512 + r.val) * 128 + c.val
  omega

theorem R2.uncast3 {x : S512x128.Idx → EReal} {f : ℕ → ℕ → ℝ} (h : S512x128.ShapeCasts S1x512x128) (hx : R2 x f) (r : Fin 512) (c : Fin 128) :
    shapeCast S1x512x128 x h (ix3 0 r c) = ((f r.val c.val : ℝ) : EReal) :=
  (shapeCast_ab_1ab_apply x h 0 r c).trans (hx r c)

/-- The column before the row. -/
theorem mask_eq (r c : Fin 512) : k0_pay76 (ix2 r c) = BitVec.ofBool (decide (c.val < r.val)) := by
  show IntOp.cmpi .slt (BitVec.ofNat 32 ([(1 : Fin 2)].foldl _ 0)) (BitVec.ofNat 32 ([(0 : Fin 2)].foldl _ 0)) = _
  have e1 : ([(1 : Fin 2)].foldl (fun n a => n * S512x512.size a + ((ix2 r c : S512x512.Idx) a).val) 0) = c.val := by
    show 0 * 512 + c.val = c.val
    omega
  have e0 : ([(0 : Fin 2)].foldl (fun n a => n * S512x512.size a + ((ix2 r c : S512x512.Idx) a).val) 0) = r.val := by
    show 0 * 512 + r.val = r.val
    omega
  exact (congrArg₂ (fun a b => IntOp.cmpi .slt (BitVec.ofNat 32 a) (BitVec.ofNat 32 b)) e1 e0).trans (WordCmp.cmpi_slt_ofNat (by omega) (by omega))

end Cert.KernelIdeal.Sb
-- ==== Proof.Sb.TileVal.lean ====
/- One key tile over the real numbers. -/
module

public import proofs.«01_k».proof.Proof.Sb.Real

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

/-- `exp (-|z|)`, -/
def eR (z : ℝ) : ℝ := Real.exp (0 - |z|)
/-- its `log (1 + ·)`, -/
def spR (z : ℝ) : ℝ := Real.log (1 + eR z)
/-- the logarithm of the logistic function, -/
def lgR (z : ℝ) : ℝ := min z 0 - spR z
/-- of one less it, -/
def lmR (z : ℝ) : ℝ := 0 - max z 0 - spR z
/-- the logistic function, -/
def beR (z : ℝ) : ℝ := (if 0 ≤ z then 1 else eR z) * (1 / (1 + eR z))
/-- and one less it. -/
def omR (z : ℝ) : ℝ := (if 0 ≤ z then eR z else 1) * (1 / (1 + eR z))

theorem eR_pos (z : ℝ) : 0 < eR z := Real.exp_pos _

def triR (r c : ℕ) : ℝ := if c < r then 1 else 0

/-- The sum of the entries after, and of the entries before, in a tile's row. -/
def suf (l : ℕ → ℝ) (c : ℕ) : ℝ := ∑ d ∈ Finset.range 512, if c < d then l d else 0
def pre (l : ℕ → ℝ) (c : ℕ) : ℝ := ∑ d ∈ Finset.range 512, if d < c then l d else 0

theorem split512 (f : ℕ → ℝ) : ∑ d ∈ Finset.range 512, f d = ∑ d ∈ Finset.range 256, f d + ∑ d ∈ Finset.range 256, f (256 + d) :=
  Finset.sum_range_add f 256 256

theorem no_rest (l t : ℕ → ℝ) : ∑ d ∈ Finset.range 256, (l d - l d) * t d = 0 :=
  Finset.sum_eq_zero fun d _ => by rw [sub_self, zero_mul]

theorem suf_left (l : ℕ → ℝ) (c : ℕ) (hc : c < 256) :
    (∑ d ∈ Finset.range 256, l d * triR d c + ∑ d ∈ Finset.range 256, (l d - l d) * triR d c) + ∑ d ∈ Finset.range 256, l (256 + d) = suf l c := by
  rw [no_rest l fun d => triR d c, add_zero]
  unfold suf triR
  rw [split512]
  simp only [mul_ite, mul_one, mul_zero]
  refine congrArg₂ (· + ·) rfl (Finset.sum_congr rfl fun d _ => ?_)
  rw [if_pos (by omega)]

theorem suf_right (l : ℕ → ℝ) (c : ℕ) (hc : ¬ c < 256) :
    ∑ d ∈ Finset.range 256, l (256 + d) * triR d (c - 256) + ∑ d ∈ Finset.range 256, (l (256 + d) - l (256 + d)) * triR d (c - 256) = suf l c := by
  rw [no_rest (fun d => l (256 + d)) fun d => triR d (c - 256), add_zero]
  unfold suf triR
  rw [split512, Finset.sum_eq_zero (s := Finset.range 256) (f := fun d => if c < d then l d else 0) fun d hd => if_neg (by have := Finset.mem_range.1 hd; omega), zero_add]
  simp only [mul_ite, mul_one, mul_zero]
  refine Finset.sum_congr rfl fun d _ => ?_
  simp only [show c - 256 < d ↔ c < 256 + d by omega]

theorem pre_left (l : ℕ → ℝ) (c : ℕ) (hc : c < 256) : ∑ d ∈ Finset.range 256, l d * triR c d = pre l c := by
  unfold pre triR
  rw [split512, Finset.sum_eq_zero (s := Finset.range 256) (f := fun d => if 256 + d < c then l (256 + d) else 0) fun d hd => if_neg (by omega), add_zero]
  simp only [mul_ite, mul_one, mul_zero]

theorem pre_right (l : ℕ → ℝ) (c : ℕ) (hc : ¬ c < 256) :
    ∑ d ∈ Finset.range 256, l (256 + d) * triR (c - 256) d + ∑ d ∈ Finset.range 256, l d = pre l c := by
  unfold pre triR
  rw [split512, add_comm]
  simp only [mul_ite, mul_one, mul_zero]
  refine congrArg₂ (· + ·) (Finset.sum_congr rfl fun d hd => ?_) (Finset.sum_congr rfl fun d _ => ?_)
  · have := Finset.mem_range.1 hd
    rw [if_pos (by omega)]
  · simp only [show d < c - 256 ↔ 256 + d < c by omega]

section Tile
variable {v4 v6 : FVec Ideal S512x128 .bf16} {v8 : FVec Ideal S256x256 .bf16} {v15 : FVec Ideal S1024x128 .bf16} {run e : FVec Ideal S512x1 .f32} {K V : Vec Ideal S1x1x512x128 .bf16}
  {dq : FVec Ideal S512x128 .f32} {old : Vec Ideal S1x1x512x128 .f32}
  {q o k v u y D : ℕ → ℕ → ℝ} {R E : ℕ → ℝ}
  (hq : R2 v4 q) (ho : R2 v6 o) (ht : R2 v8 triR) (hu : R2 v15 u) (hR : R2 run fun r _ => R r) (hE : R2 e fun r _ => E r) (hD : R2 dq D)
  (hK : ∀ (r : Fin 512) (c : Fin 128), K (ix4 0 0 r c) = ((k r.val c.val : ℝ) : EReal))
  (hV : ∀ (r : Fin 512) (c : Fin 128), V (ix4 0 0 r c) = ((v r.val c.val : ℝ) : EReal))
  (hO : ∀ (r : Fin 512) (c : Fin 128), old (ix4 0 0 r c) = ((y r.val c.val : ℝ) : EReal))

/-- Two matrices' rows multiplied. -/
def dotR (a b : ℕ → ℕ → ℝ) (r c : ℕ) : ℝ := ∑ d ∈ Finset.range 128, a r d * b c d

/-- A tile's weights from its scores, the terms of its tail sums and the tail sums of the tiles after. -/
def wR (z l : ℕ → ℕ → ℝ) (R : ℕ → ℝ) (r c : ℕ) : ℝ := Real.exp (lgR (z r c) + suf (l r) c + R r)

def befR (a : ℕ → ℕ → ℝ) (E : ℕ → ℝ) (r c : ℕ) : ℝ := pre (a r) c + E r

section Scores
include hq hK

theorem z_R2 : R2 (k0_pay5 v4 K) (dotR q k) := R2.nt hq (R2.cast4 _ hK) R2.const0 none

theorem e_R2 : R2 (k0_pay6 v4 K) fun r c => eR (dotR q k r c) := (R2.bc0.sub (z_R2 hq hK).abs).exp

theorem sp_R2 : R2 (k0_pay7 v4 K) fun r c => spR (dotR q k r c) :=
  (R2.bc1.add (e_R2 hq hK)).log fun r c => add_pos one_pos (eR_pos _)

theorem lg_R2 : R2 (k0_pay8 v4 K) fun r c => lgR (dotR q k r c) := ((z_R2 hq hK).min R2.bc0).sub (sp_R2 hq hK)

theorem lm_R2 : R2 (k0_pay9 v4 K) fun r c => lmR (dotR q k r c) := (R2.bc0.sub ((z_R2 hq hK).max R2.bc0)).sub (sp_R2 hq hK)

theorem inv_R2 : R2 (k0_pay26 (k0_pay6 v4 K)) fun r c => 1 / (1 + eR (dotR q k r c)) :=
  R2.bc1.div (R2.bc1.add (e_R2 hq hK)) fun r c => (add_pos one_pos (eR_pos _)).ne'

theorem beta_R2 : R2 (betaT v4 K) fun r c => beR (dotR q k r c) :=
  (R2.select (fun r c => (z_R2 hq hK).oge R2.bc0 r c) R2.bc1 (e_R2 hq hK)).mul (inv_R2 hq hK)

theorem om_R2 : R2 (omT v4 K) fun r c => omR (dotR q k r c) :=
  (R2.select (fun r c => (z_R2 hq hK).oge R2.bc0 r c) (e_R2 hq hK) R2.bc1).mul (inv_R2 hq hK)

end Scores

include hq ht hR hK in
theorem w_R2 : R2 (wT v4 v8 run K) (wR (dotR q k) (fun r c => lmR (dotR q k r c)) R) := by
  have l := (lm_R2 hq hK).left
  have r := (lm_R2 hq hK).right
  have h := (((lg_R2 hq hK).add (((((l.trunc (ψ := .bf16) bitsLt_bf16_f32).nn ht R2.const0 none).add (((l.sub ((l.trunc (ψ := .bf16) bitsLt_bf16_f32).ext (ψ := .f32) bitsLt_bf16_f32)).trunc (ψ := .bf16) bitsLt_bf16_f32).nn ht R2.const0 none)).add
      (R2.bcol (h := broadcasts_S512x1_S512x256) (by decide) (r.rowsum (h := reduces_S512x256_S512) (hc := shapeCasts_S512_S512x1) (hφ := .inl rfl) (hacc := rfl)))).cols
      (((r.trunc (ψ := .bf16) bitsLt_bf16_f32).nn ht R2.const0 none).add (((r.sub ((r.trunc (ψ := .bf16) bitsLt_bf16_f32).ext (ψ := .f32) bitsLt_bf16_f32)).trunc (ψ := .bf16) bitsLt_bf16_f32).nn ht R2.const0 none)))).add
      (R2.bcol (h := broadcasts_S512x1_S512x512) (by decide) hR)).exp
  refine R2.congr (x := wT v4 v8 run K) h fun r _ c _ => ?_
  unfold wR
  dsimp only
  split
  · next hc => rw [← suf_left _ _ hc]
  · next hc => rw [← suf_right _ _ hc]

include hq ho ht hR hK hV in
theorem da_R2 : R2 (daT v4 v6 v8 run K V) fun r c => wR (dotR q k) (fun r c => lmR (dotR q k r c)) R r c * dotR o v r c :=
  (w_R2 hq ht hR hK).mul (R2.nt ho (R2.cast4 _ hV) R2.const0 none)

theorem tot_gen {x : FVec Ideal S512x512 .f32} {a : ℕ → ℕ → ℝ} (hx : R2 x a) :
    R2 (addf (shapeCast S512x1 (multiReduction (F := Ideal) .add [1] S512 (extractStridedSlice S512x256 ![0, 0] x slices_S512x512_o0_0_S512x256) 0x00000000#32 reduces_S512x256_S512 (.inl rfl) rfl) shapeCasts_S512_S512x1)
      (shapeCast S512x1 (multiReduction (F := Ideal) .add [1] S512 (extractStridedSlice S512x256 ![0, 256] x slices_S512x512_o0_256_S512x256) 0x00000000#32 reduces_S512x256_S512 (.inl rfl) rfl) shapeCasts_S512_S512x1))
      fun r _ => ∑ d ∈ Finset.range 512, a r d :=
  (hx.left.rowsum.add hx.right.rowsum).congr fun r _ _ _ => (split512 (a r)).symm

include hE ht in
theorem bef_gen {x : FVec Ideal S512x512 .f32} {a : ℕ → ℕ → ℝ} (hx : R2 x a) :
    R2 (addf (concatenate S512x512 1 [⟨S512x256, matmul dot_S512x256_S256x256_S512x256_1_1_0_0_n_n none (truncf .bf16 (extractStridedSlice S512x256 ![0, 0] x slices_S512x512_o0_0_S512x256) bitsLt_bf16_f32) v8 (constant S512x256 .f32 0x00000000#32)⟩,
        ⟨S512x256, addf (matmul dot_S512x256_S256x256_S512x256_1_1_0_0_n_n none (truncf .bf16 (extractStridedSlice S512x256 ![0, 256] x slices_S512x512_o0_256_S512x256) bitsLt_bf16_f32) v8 (constant S512x256 .f32 0x00000000#32))
          (broadcastTo S512x256 (shapeCast S512x1 (multiReduction .add [1] S512 (extractStridedSlice S512x256 ![0, 0] x slices_S512x512_o0_0_S512x256) 0x00000000#32 reduces_S512x256_S512 (.inl rfl) rfl) shapeCasts_S512_S512x1) broadcasts_S512x1_S512x256)⟩]
        concatenates_S512x256_S512x256_S512x512_d1) (broadcastTo S512x512 e broadcasts_S512x1_S512x512)) (befR a E) := by
  have h := R2.add (φ := .f32) (((hx.left.trunc (ψ := .bf16) bitsLt_bf16_f32).nt ht R2.const0 none).cols (((hx.right.trunc (ψ := .bf16) bitsLt_bf16_f32).nt ht R2.const0 none).add
    (R2.bcol (h := broadcasts_S512x1_S512x256) (by decide) (hx.left.rowsum (h := reduces_S512x256_S512) (hc := shapeCasts_S512_S512x1) (hφ := .inl rfl) (hacc := rfl)))))
    (R2.bcol (h := broadcasts_S512x1_S512x512) (by decide) hE)
  refine R2.congr h fun r _ c _ => ?_
  unfold befR
  split
  · next hc => rw [← pre_left _ _ hc]
  · next hc => rw [← pre_right _ _ hc]

/-- The gradient of a tile's scores. -/
def dzR (z a b : ℕ → ℕ → ℝ) (r c : ℕ) : ℝ := a r c * omR (z r c) - b r c * beR (z r c)

include hu hO in
theorem dkv_gen {x w : FVec Ideal S512x512 .bf16} {g p : ℕ → ℕ → ℝ} (hx : R2 x g) (hw : R2 w p) (r : Fin 512) (c : Fin 128) :
    shapeCast S1x1x512x128 (addf (shapeCast S512x128 old shapeCasts_S1x1x512x128_S512x128)
      (matmul dot_S1024x512_S1024x128_S512x128_0_0_1_1_n_n none (concatenate S1024x512 0 [⟨S512x512, x⟩, ⟨S512x512, w⟩] concatenates_S512x512_S512x512_S1024x512_d0) v15 (constant S512x128 .f32 0x00000000#32)))
      shapeCasts_S512x128_S1x1x512x128 (ix4 0 0 r c)
    = ((y r.val c.val + (∑ d ∈ Finset.range 512, g d r.val * u d c.val + ∑ d ∈ Finset.range 512, p d r.val * u (512 + d) c.val) : ℝ) : EReal) := by
  refine R2.uncast4 (f := fun r c => y r c + (∑ d ∈ Finset.range 512, g d r * u d c + ∑ d ∈ Finset.range 512, p d r * u (512 + d) c)) _ (R2.congr ((R2.cast4 _ hO).add ((R2.rows concatenates_S512x512_S512x512_S1024x512_d0 rfl hx hw).tn hu R2.const0 none)) fun r _ c _ => ?_) r c
  rw [show (1024 : ℕ) = 512 + 512 from rfl, Finset.sum_range_add]
  refine congrArg _ (congrArg₂ (· + ·) (Finset.sum_congr rfl fun d hd => ?_) (Finset.sum_congr rfl fun d hd => ?_))
  · rw [if_pos (Finset.mem_range.1 hd)]
  · rw [if_neg (by omega), Nat.add_sub_cancel_left]

/-! What a tile leaves. -/

/-- A tile's weights, and their gradient. -/
abbrev wt (q k : ℕ → ℕ → ℝ) (R : ℕ → ℝ) : ℕ → ℕ → ℝ := wR (dotR q k) (fun r c => lmR (dotR q k r c)) R
abbrev dat (q o k v : ℕ → ℕ → ℝ) (R : ℕ → ℝ) (r c : ℕ) : ℝ := wt q k R r c * dotR o v r c
abbrev dzt (q o k v : ℕ → ℕ → ℝ) (R E : ℕ → ℝ) : ℕ → ℕ → ℝ := dzR (dotR q k) (dat q o k v R) (befR (dat q o k v R) E)

include hq ho ht hR hK hV hE

theorem dz_R2 : R2 (k0_pay63 (daT v4 v6 v8 run K V) (befT v4 v6 v8 run e K V) (betaT v4 K) (omT v4 K)) (dzt q o k v R E) :=
  (((da_R2 hq ho ht hR hK hV).mul (om_R2 hq hK)).sub (R2.mul (φ := .f32) (bef_gen ht hE (da_R2 hq ho ht hR hK hV)) (beta_R2 hq hK))).trunc bitsLt_bf16_f32

theorem eT_R2 : R2 (eT v4 v6 v8 run e K V) fun r _ => E r + ∑ d ∈ Finset.range 512, dat q o k v R r d :=
  R2.add (φ := .f32) hE (tot_gen (da_R2 hq ho ht hR hK hV))

include hD in
theorem dqT_R2 : R2 (dqT v4 v6 v8 run e K V dq) fun r c => D r c + ∑ d ∈ Finset.range 512, dzt q o k v R E r d * k d c :=
  hD.add (R2.nn (dz_R2 hq ho ht hR hE hK hV) (R2.cast4 _ hK) R2.const0 none)

include hu hO in
theorem dkvT_R2 (r : Fin 512) (c : Fin 128) : dkvT v4 v6 v8 v15 run e K V old (ix4 0 0 r c)
    = ((y r.val c.val + (∑ d ∈ Finset.range 512, dzt q o k v R E d r.val * u d c.val + ∑ d ∈ Finset.range 512, wt q k R d r.val * u (512 + d) c.val) : ℝ) : EReal) :=
  dkv_gen hu hO (dz_R2 hq ho ht hR hE hK hV) ((w_R2 hq ht hR hK).trunc bitsLt_bf16_f32) r c

/-! The diagonal tile. -/

/-- What is on or above the diagonal zeroed. -/
def below (f : ℕ → ℕ → ℝ) (r c : ℕ) : ℝ := if c < r then f r c else 0

abbrev wd (q k : ℕ → ℕ → ℝ) (R : ℕ → ℝ) : ℕ → ℕ → ℝ := below (wR (dotR q k) (below fun r c => lmR (dotR q k r c)) R)
abbrev dad (q o k v : ℕ → ℕ → ℝ) (R : ℕ → ℝ) (r c : ℕ) : ℝ := wd q k R r c * dotR o v r c
abbrev dzd (q o k v : ℕ → ℕ → ℝ) (R E : ℕ → ℝ) : ℕ → ℕ → ℝ := below (dzR (dotR q k) (dad q o k v R) (befR (dad q o k v R) E))

omit ho hE hV in
theorem wd_R2 : R2 (k0_pay82 v8 (k0_pay75 v4 K) k0_pay76 run (k0_pay79 v4 K) (k0_pay80 v4 K) (k0_pay81 v4 v8 K)) (wd q k R) := by
  have lm : R2 (k0_pay77 v4 K) (below fun r c => lmR (dotR q k r c)) := R2.select (p := fun r c => c < r) mask_eq (lm_R2 hq hK) R2.bc0
  have l := lm.left
  have r := lm.right
  have h := R2.select (p := fun r c => c < r) mask_eq (((lg_R2 hq hK).add (((((l.trunc (ψ := .bf16) bitsLt_bf16_f32).nn ht R2.const0 none).add (((l.sub ((l.trunc (ψ := .bf16) bitsLt_bf16_f32).ext (ψ := .f32) bitsLt_bf16_f32)).trunc (ψ := .bf16) bitsLt_bf16_f32).nn ht R2.const0 none)).add
      (R2.bcol (h := broadcasts_S512x1_S512x256) (by decide) (r.rowsum (h := reduces_S512x256_S512) (hc := shapeCasts_S512_S512x1) (hφ := .inl rfl) (hacc := rfl)))).cols
      (((r.trunc (ψ := .bf16) bitsLt_bf16_f32).nn ht R2.const0 none).add (((r.sub ((r.trunc (ψ := .bf16) bitsLt_bf16_f32).ext (ψ := .f32) bitsLt_bf16_f32)).trunc (ψ := .bf16) bitsLt_bf16_f32).nn ht R2.const0 none)))).add
      (R2.bcol (h := broadcasts_S512x1_S512x512) (by decide) hR)).exp R2.bc0
  refine R2.congr (x := k0_pay82 v8 (k0_pay75 v4 K) k0_pay76 run (k0_pay79 v4 K) (k0_pay80 v4 K) (k0_pay81 v4 v8 K)) h fun r _ c _ => ?_
  unfold wd below wR
  dsimp only
  refine if_congr Iff.rfl ?_ rfl
  split
  · next hc => rw [← suf_left _ _ hc]
  · next hc => rw [← suf_right _ _ hc]

omit hE in
theorem dad_R2 : R2 (k0_pay83 v6 v8 (k0_pay75 v4 K) k0_pay76 run (k0_pay79 v4 K) (k0_pay80 v4 K) (k0_pay81 v4 v8 K) V) (dad q o k v R) :=
  (wd_R2 hq ht hR hK).mul (R2.nt ho (R2.cast4 _ hV) R2.const0 none)

theorem dzd_R2 : R2 (k0_pay1 (k0_pay73 v4 K) k0_pay76
    (k0_pay83 v6 v8 (k0_pay75 v4 K) k0_pay76 run (k0_pay79 v4 K) (k0_pay80 v4 K) (k0_pay81 v4 v8 K) V)
    (k0_pay84 v6 v8 e (k0_pay75 v4 K) k0_pay76 run (k0_pay79 v4 K) (k0_pay80 v4 K) (k0_pay81 v4 v8 K) V)
    (k0_pay85 (k0_pay73 v4 K)) (k0_pay86 (k0_pay72 v4 K) (k0_pay73 v4 K)) (k0_pay87 (k0_pay72 v4 K))) (dzd q o k v R E) :=
  (R2.select (p := fun r c => c < r) mask_eq (((dad_R2 hq ho ht hR hK hV).mul (om_R2 hq hK)).sub (R2.mul (φ := .f32) (bef_gen ht hE (dad_R2 hq ho ht hR hK hV)) (beta_R2 hq hK))) R2.bc0).trunc bitsLt_bf16_f32

include hD in
theorem dqDiag_R2 (r : Fin 512) (c : Fin 128) : dqDiag v4 v6 v8 run e K V dq (ix3 0 r c) = ((D r.val c.val + ∑ d ∈ Finset.range 512, dzd q o k v R E r.val d * k d c.val : ℝ) : EReal) :=
  R2.uncast3 (f := fun r c => D r c + ∑ d ∈ Finset.range 512, dzd q o k v R E r d * k d c) _ (hD.add (R2.nn (dzd_R2 hq ho ht hR hE hK hV) (R2.cast4 _ hK) R2.const0 none)) r c

include hu hO in
theorem dkvDiag_R2 (r : Fin 512) (c : Fin 128) : dkvDiag v4 v6 v8 v15 run e K V old (ix4 0 0 r c)
    = ((y r.val c.val + (∑ d ∈ Finset.range 512, dzd q o k v R E d r.val * u d c.val + ∑ d ∈ Finset.range 512, wd q k R d r.val * u (512 + d) c.val) : ℝ) : EReal) :=
  dkv_gen hu hO (dzd_R2 hq ho ht hR hE hK hV) ((wd_R2 hq ht hR hK).trunc bitsLt_bf16_f32) r c

end Tile

end Cert.KernelIdeal.Sb
-- ==== Proof.Sb.LoopVal.lean ====
/- One head over the real numbers: the gradient's sums over keys and over queries, and the loop over key tiles as their
   partial sums. -/
module

public import proofs.«01_k».proof.Proof.Sb.TileVal

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

/-- The terms of the tail sums, -/
def lmG (q k : ℕ → ℕ → ℝ) : ℕ → ℕ → ℝ := below fun a b => lmR (dotR q k a b)
/-- the sum of a row's entries after `b`, -/
def later (f : ℕ → ℝ) (b : ℕ) : ℝ := ∑ d ∈ Finset.Ico (b + 1) 8192, f d
/-- the weights, -/
def wG (q k : ℕ → ℕ → ℝ) : ℕ → ℕ → ℝ := below fun a b => Real.exp (lgR (dotR q k a b) + later (lmG q k a) b)
/-- their gradient, -/
def daG (q o k v : ℕ → ℕ → ℝ) (a b : ℕ) : ℝ := wG q k a b * dotR o v a b
/-- its sum over the keys before, -/
def eG (q o k v : ℕ → ℕ → ℝ) (a b : ℕ) : ℝ := ∑ d ∈ Finset.range b, daG q o k v a d
/-- and the scores' gradient. -/
def dzG (q o k v : ℕ → ℕ → ℝ) : ℕ → ℕ → ℝ := below (dzR (dotR q k) (daG q o k v) (eG q o k v))

/-- Tile `i` of the rows. -/
def lane (j : ℕ) (hj : j < 16) : Fin 128 := ⟨j, Nat.lt_trans hj (Nat.lt_of_sub_pos (Nat.succ_pos 111))⟩

def rows (i : ℕ) (f : ℕ → ℕ → ℝ) (r c : ℕ) : ℝ := f (512 * i + r) c

theorem suf_eq (l : ℕ → ℝ) (c : ℕ) : suf l c = ∑ d ∈ Finset.Ico (c + 1) 512, l d := by
  unfold suf
  rw [← Finset.sum_filter]
  refine Finset.sum_congr (Finset.ext fun d => ?_) fun _ _ => rfl
  simp only [Finset.mem_filter, Finset.mem_range, Finset.mem_Ico]
  omega

theorem pre_eq (l : ℕ → ℝ) (c : ℕ) (hc : c ≤ 512) : pre l c = ∑ d ∈ Finset.range c, l d := by
  unfold pre
  rw [← Finset.sum_filter]
  refine Finset.sum_congr (Finset.ext fun d => ?_) fun _ _ => rfl
  simp only [Finset.mem_filter, Finset.mem_range]
  omega

theorem suf_congr {l l' : ℕ → ℝ} (h : ∀ d < 512, l d = l' d) (c : ℕ) : suf l c = suf l' c :=
  Finset.sum_congr rfl fun d hd => by rw [h d (Finset.mem_range.1 hd)]

theorem pre_congr {l l' : ℕ → ℝ} (h : ∀ d < 512, l d = l' d) (c : ℕ) : pre l c = pre l' c :=
  Finset.sum_congr rfl fun d hd => by rw [h d (Finset.mem_range.1 hd)]

theorem later_tile (f : ℕ → ℝ) (j : ℕ) (hj : j < 16) (c : ℕ) (hc : c < 512) :
    suf (fun d => f (512 * j + d)) c + later f (512 * j + 511) = later f (512 * j + c) := by
  unfold later
  rw [suf_eq, Finset.sum_Ico_add (fun d => f d) (c + 1) 512 (512 * j)]
  rw [← Finset.sum_Ico_consecutive f (m := 512 * j + c + 1) (n := 512 * j + 512) (k := 8192) (by omega) (by omega)]
  rw [show c + 1 + 512 * j = 512 * j + c + 1 by omega, show 512 + 512 * j = 512 * j + 512 by omega]

theorem e_tile (f : ℕ → ℝ) (j c : ℕ) (hc : c ≤ 512) : pre (fun d => f (512 * j + d)) c + ∑ d ∈ Finset.range (512 * j), f d = ∑ d ∈ Finset.range (512 * j + c), f d := by
  rw [pre_eq _ _ hc, Finset.sum_range_add, add_comm]

theorem dotR_rows (q k : ℕ → ℕ → ℝ) (i j r c : ℕ) : dotR (rows i q) (rows j k) r c = dotR q k (512 * i + r) (512 * j + c) := rfl

variable {q o k v : ℕ → ℕ → ℝ}

/-- The tail sums of the tiles after `j`, as saved, and the sums of the tiles before. -/
def runR (q k : ℕ → ℕ → ℝ) (i j r : ℕ) : ℝ := later (lmG q k (512 * i + r)) (512 * j + 511)
def eR' (q o k v : ℕ → ℕ → ℝ) (i j r : ℕ) : ℝ := eG q o k v (512 * i + r) (512 * j)

theorem wt_eq {i j : ℕ} (hi : i < 16) (hj : j < i) {r c : ℕ} (hr : r < 512) (hc : c < 512) :
    wt (rows i q) (rows j k) (runR q k i j) r c = wG q k (512 * i + r) (512 * j + c) := by
  unfold wG below wt wR runR
  rw [if_pos (by omega), add_assoc, suf_congr (l' := fun d => lmG q k (512 * i + r) (512 * j + d)), later_tile _ _ (by omega) _ hc]
  · rfl
  · intro d hd
    unfold lmG below
    rw [if_pos (by omega)]
    rfl

theorem wd_eq {i : ℕ} (hi : i < 16) {r c : ℕ} (hr : r < 512) (hc : c < 512) :
    wd (rows i q) (rows i k) (runR q k i i) r c = wG q k (512 * i + r) (512 * i + c) := by
  unfold wG wd below wR runR
  refine if_congr (by omega) ?_ rfl
  rw [add_assoc, suf_congr (l' := fun d => lmG q k (512 * i + r) (512 * i + d)), later_tile _ _ (by omega) _ hc]
  · rfl
  · intro d hd
    unfold lmG below
    refine if_congr (by omega) ?_ rfl
    rfl

theorem dat_eq {i j : ℕ} (hi : i < 16) (hj : j < i) {r c : ℕ} (hr : r < 512) (hc : c < 512) :
    dat (rows i q) (rows i o) (rows j k) (rows j v) (runR q k i j) r c = daG q o k v (512 * i + r) (512 * j + c) := by
  unfold dat daG
  rw [wt_eq hi hj hr hc]
  rfl

theorem dad_eq {i : ℕ} (hi : i < 16) {r c : ℕ} (hr : r < 512) (hc : c < 512) :
    dad (rows i q) (rows i o) (rows i k) (rows i v) (runR q k i i) r c = daG q o k v (512 * i + r) (512 * i + c) := by
  unfold dad daG
  rw [wd_eq hi hr hc]
  rfl

theorem dzt_eq {i j : ℕ} (hi : i < 16) (hj : j < i) {r c : ℕ} (hr : r < 512) (hc : c < 512) :
    dzt (rows i q) (rows i o) (rows j k) (rows j v) (runR q k i j) (eR' q o k v i j) r c = dzG q o k v (512 * i + r) (512 * j + c) := by
  unfold dzt dzG below dzR befR eR' eG
  rw [if_pos (by omega), dat_eq hi hj hr hc, pre_congr (l' := fun d => daG q o k v (512 * i + r) (512 * j + d)) (fun d hd => dat_eq hi hj hr hd), e_tile _ _ _ hc.le]
  rfl

theorem dzd_eq {i : ℕ} (hi : i < 16) {r c : ℕ} (hr : r < 512) (hc : c < 512) :
    dzd (rows i q) (rows i o) (rows i k) (rows i v) (runR q k i i) (eR' q o k v i i) r c = dzG q o k v (512 * i + r) (512 * i + c) := by
  unfold dzd dzG below dzR befR eR' eG
  refine if_congr (by omega) ?_ rfl
  have h1 := dad_eq (q := q) (o := o) (k := k) (v := v) hi hr hc
  have h2 := pre_congr (l' := fun d => daG q o k v (512 * i + r) (512 * i + d)) (fun d hd => dad_eq (q := q) (o := o) (k := k) (v := v) hi hr hd) c
  rw [h1]
  refine congrArg₂ (· - ·) rfl (congrArg₂ (· * ·) ?_ rfl)
  exact (congrArg (· + _) h2).trans (e_tile _ _ _ hc.le)

/-- The queries and the output's gradients of tile `i`, one under the other, as the second product takes them. -/
def uR (q o : ℕ → ℕ → ℝ) (i d c : ℕ) : ℝ := if d < 512 then q (512 * i + d) c else o (512 * i + (d - 512)) ((c + 64) % 128)

/-- What tile `i` of the queries gives to the gradient of key tile `j`. -/
def gR (q o k v : ℕ → ℕ → ℝ) (i j r c : ℕ) : ℝ :=
  ∑ d ∈ Finset.range 512, dzG q o k v (512 * i + d) (512 * j + r) * q (512 * i + d) c
    + ∑ d ∈ Finset.range 512, wG q k (512 * i + d) (512 * j + r) * o (512 * i + d) ((c + 64) % 128)

theorem gR_zero {i j r : ℕ} (hr : r < 512) (h : i < j) (c : ℕ) : gR q o k v i j r c = 0 := by
  unfold gR
  rw [Finset.sum_eq_zero, Finset.sum_eq_zero, add_zero]
  · intro d hd
    have := Finset.mem_range.1 hd
    unfold wG below
    rw [if_neg (by omega), zero_mul]
  · intro d hd
    have := Finset.mem_range.1 hd
    unfold dzG below
    rw [if_neg (by omega), zero_mul]

theorem g_eq {i j r c : ℕ} {dz w : ℕ → ℕ → ℝ} (hr : r < 512) (hz : ∀ d < 512, dz d r = dzG q o k v (512 * i + d) (512 * j + r)) (hw : ∀ d < 512, w d r = wG q k (512 * i + d) (512 * j + r)) :
    ∑ d ∈ Finset.range 512, dz d r * uR q o i d c + ∑ d ∈ Finset.range 512, w d r * uR q o i (512 + d) c = gR q o k v i j r c := by
  unfold gR uR
  refine congrArg₂ (· + ·) (Finset.sum_congr rfl fun d hd => ?_) (Finset.sum_congr rfl fun d hd => ?_)
  · rw [hz d (Finset.mem_range.1 hd), if_pos (Finset.mem_range.1 hd)]
  · rw [hw d (Finset.mem_range.1 hd), if_neg (by omega), Nat.add_sub_cancel_left]

/-- The saved tail sums of a tile, from its lane. -/
theorem runT_R2 {v10 : FVec Ideal S512x128 .f32} {R : ℕ → ℝ} (j : ℕ) (hj : j < 128) (h : ∀ r : Fin 512, v10 (ix2 r ⟨j, hj⟩) = ((R r.val : ℝ) : EReal)) :
    R2 (runT v10 j) fun r _ => R r := by
  have hs : R2 (select (cmpi .eq (iota .tc S512x128 32 [1] iota_S512x128_d1_w32) (broadcast S512x128 (BitVec.ofNat 32 j))) v10 (broadcast S512x128 (Scalar.ofBits .f32 0x00000000#32 : Ideal .f32)))
      (fun r c => if c = j then R r else 0) := by
    intro r c
    show Scalar.select (IntOp.cmpi .eq (BitVec.ofNat 32 ([(1 : Fin 2)].foldl (fun n a => n * S512x128.size a + ((ix2 r c : S512x128.Idx) a).val) 0)) (BitVec.ofNat 32 j)) (v10 (ix2 r c)) (FloatOps.ofBits .f32 0x00000000#32 : Ideal .f32) = _
    have e1 : ([(1 : Fin 2)].foldl (fun n a => n * S512x128.size a + ((ix2 r c : S512x128.Idx) a).val) 0) = c.val := by
      show 0 * 128 + c.val = c.val
      omega
    rw [e1, zero_f32]
    dsimp only
    by_cases hc : c.val = j
    · subst hc
      rw [if_pos rfl, ← h r]
      have : IntOp.cmpi .eq (BitVec.ofNat 32 c.val) (BitVec.ofNat 32 c.val) = 1#1 := by simp [IntOp.cmpi]
      rw [this]
      rfl
    · rw [if_neg hc]
      have : IntOp.cmpi .eq (BitVec.ofNat 32 c.val) (BitVec.ofNat 32 j) = 0#1 := by
        have hne : BitVec.ofNat 32 c.val ≠ BitVec.ofNat 32 j := fun e => hc (by
          have := congrArg BitVec.toNat e
          rw [BitVec.toNat_ofNat, BitVec.toNat_ofNat, Nat.mod_eq_of_lt (by omega), Nat.mod_eq_of_lt (by omega)] at this
          exact this)
        simp [IntOp.cmpi, beq_eq_false_iff_ne.2 hne]
      rw [this]
      rfl
  refine R2.congr (x := runT v10 j) (hs.rowsum (h := reduces_S512x128_S512) (hc := shapeCasts_S512_S512x1) (hφ := .inl rfl) (hacc := rfl)) fun r _ _ _ => ?_
  rw [Finset.sum_ite_eq' (Finset.range 128) j fun _ => R r, if_pos (Finset.mem_range.2 hj)]

/-- No tile is left out: nothing lies below the logarithm of zero. -/
theorem first_zero (i : grid0.Coords) (R : Vec Ideal S1x512x128 .f32) : first (F := Ideal) i R = 0 := by
  obtain ⟨S, hS⟩ := first_eq_card (F := Ideal) i R
  unfold first
  rw [hS, Finset.card_eq_zero.2 (Finset.filter_eq_empty_iff.2 fun {k} _ => ?_)]
  · rfl
  · unfold counts
    rw [show (Named.named (F := Ideal) κ "log_of_zero" 0xC2D20000#32 : Ideal .f32) = ⊥ from IdealRules.named_const.ideal_named_scalar κ "log_of_zero" (φ := .f32) 0xC2D20000#32 ⊥ rfl]
    have : (FloatOps.cmpf .olt (peak R (ix1 (k 2))) (⊥ : Ideal .f32)) = 0#1 := by
      show Ideal.cmp .olt _ ⊥ = _
      unfold Ideal.cmp
      simp
    rw [this]
    simp [IntOp.andi]

section Loop
variable {v4 v6 : FVec Ideal S512x128 .bf16} {v8 : FVec Ideal S256x256 .bf16} {v10 : FVec Ideal S512x128 .f32} {v15 : FVec Ideal S1024x128 .bf16} {K V : Vec Ideal S1x16x512x128 .bf16}
  {Y : Vec Ideal S1x16x512x128 .f32} {y : ℕ → ℕ → ℕ → ℝ} {i : ℕ} (hi : i < 16)
  (hq : R2 v4 (rows i q)) (ho : R2 v6 (rows i o)) (ht : R2 v8 triR) (hu : R2 v15 (uR q o i))
  (hR : ∀ (j : ℕ) (hj : j < 16) (r : Fin 512), v10 (ix2 r (lane j hj)) = ((runR q k i j r.val : ℝ) : EReal))
  (hK : ∀ (j : Fin 16) (r : Fin 512) (c : Fin 128), K (ix4 0 j r c) = ((rows j.val k r.val c.val : ℝ) : EReal))
  (hV : ∀ (j : Fin 16) (r : Fin 512) (c : Fin 128), V (ix4 0 j r c) = ((rows j.val v r.val c.val : ℝ) : EReal))
  (hY : ∀ (j : Fin 16) (r : Fin 512) (c : Fin 128), Y (ix4 0 j r c) = ((y j.val r.val c.val : ℝ) : EReal))

theorem tile_R2 {X : S1x16x512x128.Idx → EReal} {x : ℕ → ℕ → ℕ → ℝ} (hX : ∀ (j : Fin 16) (r : Fin 512) (c : Fin 128), X (ix4 0 j r c) = ((x j.val r.val c.val : ℝ) : EReal))
    (j : ℕ) (hj : j < 16) (r : Fin 512) (c : Fin 128) : tile X j (ix4 0 0 r c) = ((x j r.val c.val : ℝ) : EReal) := by
  have e : Fin.ofNat 16 j = ⟨j, hj⟩ := Fin.ext (Nat.mod_eq_of_lt hj)
  show X (ix4 0 (Fin.ofNat 16 j) r c) = _
  rw [e, hX]

theorem setTile_R2 {X : S1x16x512x128.Idx → EReal} {w : S1x1x512x128.Idx → EReal} {x : ℕ → ℕ → ℕ → ℝ} {f : ℕ → ℕ → ℝ}
    (hX : ∀ (j : Fin 16) (r : Fin 512) (c : Fin 128), X (ix4 0 j r c) = ((x j.val r.val c.val : ℝ) : EReal))
    (j : ℕ) (hw : ∀ (r : Fin 512) (c : Fin 128), w (ix4 0 0 r c) = ((f r.val c.val : ℝ) : EReal)) (j' : Fin 16) (r : Fin 512) (c : Fin 128) :
    setTile X j w (ix4 0 j' r c) = (((if j'.val = j then f r.val c.val else x j'.val r.val c.val) : ℝ) : EReal) := by
  show (if j'.val = j then w (ix4 0 0 r c) else X (ix4 0 j' r c)) = _
  split
  · exact hw r c
  · exact hX j' r c

include hi hq ho ht hu hR hK hV hY

/-- After `n` tiles: the sums over the keys below `512 n`. -/
theorem loop (n : ℕ) (hn : n ≤ i) :
    R2 (stT v4 v6 v8 v10 v15 K V 0 ⟨k0_pay61, k0_pay62, Y⟩ n).dq (fun r c => ∑ b ∈ Finset.range (512 * n), dzG q o k v (512 * i + r) b * k b c)
    ∧ R2 (stT v4 v6 v8 v10 v15 K V 0 ⟨k0_pay61, k0_pay62, Y⟩ n).e (fun r _ => eR' q o k v i n r)
    ∧ ∀ (j : Fin 16) (r : Fin 512) (c : Fin 128), (stT v4 v6 v8 v10 v15 K V 0 ⟨k0_pay61, k0_pay62, Y⟩ n).dkv (ix4 0 j r c)
      = ((y j.val r.val c.val + (if j.val < n then gR q o k v i j.val r.val c.val else 0) : ℝ) : EReal) := by
  induction n with
  | zero =>
    have h1 : R2 (k0_pay61 : FVec Ideal S512x128 .f32) fun r c => ∑ b ∈ Finset.range (512 * 0), dzG q o k v (512 * i + r) b * k b c := R2.bc0.congr fun _ _ _ _ => rfl
    have h2 : R2 (k0_pay62 : FVec Ideal S512x1 .f32) fun r _ => eR' q o k v i 0 r := R2.bc0.congr fun r _ _ _ => (show eR' q o k v i 0 r = 0 from rfl).symm
    refine ⟨h1, h2, fun j r c => ?_⟩
    rw [if_neg (by omega), add_zero]
    exact hY j r c
  | succ n ih =>
    obtain ⟨h1, h2, h3⟩ := ih (by omega)
    have hRn := runT_R2 (v10 := v10) n (by omega) (R := runR q k i n) fun r => hR n (by omega) r
    have hKn := tile_R2 (x := fun j => rows j k) hK n (by omega)
    have hVn := tile_R2 (x := fun j => rows j v) hV n (by omega)
    have hYn := tile_R2 (x := fun j r c => y j r c + (if j < n then gR q o k v i j r c else 0)) h3 n (by omega)
    have e0 : (0 + n) = n := Nat.zero_add n
    refine ⟨?_, ?_, fun j r c => ?_⟩
    · show R2 (dqT v4 v6 v8 (runT v10 (0 + n)) _ (tile K (0 + n)) (tile V (0 + n)) _) _
      rw [e0]
      refine R2.congr (dqT_R2 hq ho ht hRn h2 h1 hKn hVn) fun r hr c _ => ?_
      rw [Nat.mul_succ, Finset.sum_range_add]
      exact congrArg _ (Finset.sum_congr rfl fun d hd => congrArg (· * _) (dzt_eq hi (by omega) hr (Finset.mem_range.1 hd)))
    · show R2 (eT v4 v6 v8 (runT v10 (0 + n)) _ (tile K (0 + n)) (tile V (0 + n))) _
      rw [e0]
      refine R2.congr (eT_R2 hq ho ht hRn h2 hKn hVn) fun r hr c _ => ?_
      unfold eR' eG
      rw [Nat.mul_succ, Finset.sum_range_add]
      exact congrArg _ (Finset.sum_congr rfl fun d hd => dat_eq hi (by omega) hr (Finset.mem_range.1 hd))
    · show setTile _ (0 + n) (dkvT v4 v6 v8 v15 (runT v10 (0 + n)) _ (tile K (0 + n)) (tile V (0 + n)) (tile _ (0 + n))) (ix4 0 j r c) = _
      rw [e0, setTile_R2 (x := fun j r c => y j r c + (if j < n then gR q o k v i j r c else 0)) h3 n
        (f := fun r c => (y n r c + (if n < n then gR q o k v i n r c else 0)) + (∑ d ∈ Finset.range 512, dzt (rows i q) (rows i o) (rows n k) (rows n v) (runR q k i n) (eR' q o k v i n) d r * uR q o i d c + ∑ d ∈ Finset.range 512, wt (rows i q) (rows n k) (runR q k i n) d r * uR q o i (512 + d) c))
        (fun r c => dkvT_R2 (y := fun r c => y n r c + (if n < n then gR q o k v i n r c else 0)) hq ho ht hu hRn h2 hKn hVn hYn r c) j r c]
      refine congrArg _ ?_
      split
      · next hj =>
        rw [hj, if_neg (lt_irrefl n), add_zero, if_pos (Nat.lt_succ_self n)]
        exact congrArg _ (g_eq r.isLt (fun d hd => dzt_eq hi (by omega) hd r.isLt) fun d hd => wt_eq hi (by omega) hd r.isLt)
      · next hj => exact congrArg _ (if_congr (by omega) rfl rfl)

/-- The query's gradient, -/
theorem diag_dq (r : Fin 512) (c : Fin 128) :
    dqDiag v4 v6 v8 (runT v10 i) (stT v4 v6 v8 v10 v15 K V 0 ⟨k0_pay61, k0_pay62, Y⟩ i).e (tile K i) (tile V i) (stT v4 v6 v8 v10 v15 K V 0 ⟨k0_pay61, k0_pay62, Y⟩ i).dq (ix3 0 r c)
      = ((∑ b ∈ Finset.range 8192, dzG q o k v (512 * i + r.val) b * k b c.val : ℝ) : EReal) := by
  obtain ⟨h1, h2, h3⟩ := loop hi hq ho ht hu hR hK hV hY i le_rfl
  rw [dqDiag_R2 hq ho ht (runT_R2 i (by omega) fun r => hR i hi r) h2 h1 (tile_R2 (x := fun j => rows j k) hK i hi) (tile_R2 (x := fun j => rows j v) hV i hi) r c]
  refine congrArg _ ?_
  have e : (8192 : ℕ) = (512 * i + 512) + (7680 - 512 * i) := by omega
  rw [e, Finset.sum_range_add _ (512 * i + 512), Finset.sum_range_add _ (512 * i) 512, Finset.sum_eq_zero (s := Finset.range (7680 - 512 * i)), add_zero]
  · exact congrArg _ (Finset.sum_congr rfl fun d hd => congrArg (· * _) (dzd_eq hi r.isLt (Finset.mem_range.1 hd)))
  · intro d _
    unfold dzG below
    rw [if_neg (by omega), zero_mul]

/-- and the keys' and values'. -/
theorem diag_dkv (j : Fin 16) (r : Fin 512) (c : Fin 128) :
    setTile (stT v4 v6 v8 v10 v15 K V 0 ⟨k0_pay61, k0_pay62, Y⟩ i).dkv i (dkvDiag v4 v6 v8 v15 (runT v10 i) (stT v4 v6 v8 v10 v15 K V 0 ⟨k0_pay61, k0_pay62, Y⟩ i).e (tile K i) (tile V i)
      (tile (stT v4 v6 v8 v10 v15 K V 0 ⟨k0_pay61, k0_pay62, Y⟩ i).dkv i)) (ix4 0 j r c)
      = ((y j.val r.val c.val + gR q o k v i j.val r.val c.val : ℝ) : EReal) := by
  obtain ⟨h1, h2, h3⟩ := loop hi hq ho ht hu hR hK hV hY i le_rfl
  have hYn := tile_R2 (x := fun j r c => y j r c + (if j < i then gR q o k v i j r c else 0)) h3 i hi
  rw [setTile_R2 (x := fun j r c => y j r c + (if j < i then gR q o k v i j r c else 0)) h3 i
    (f := fun r c => (y i r c + (if i < i then gR q o k v i i r c else 0)) + (∑ d ∈ Finset.range 512, dzd (rows i q) (rows i o) (rows i k) (rows i v) (runR q k i i) (eR' q o k v i i) d r * uR q o i d c + ∑ d ∈ Finset.range 512, wd (rows i q) (rows i k) (runR q k i i) d r * uR q o i (512 + d) c))
    (fun r c => dkvDiag_R2 (y := fun r c => y i r c + (if i < i then gR q o k v i i r c else 0)) hq ho ht hu (runT_R2 i (by omega) fun r => hR i hi r) h2 (tile_R2 (x := fun j => rows j k) hK i hi) (tile_R2 (x := fun j => rows j v) hV i hi) hYn r c) j r c]
  refine congrArg _ ?_
  split
  · next hj =>
    rw [hj, if_neg (lt_irrefl i), add_zero]
    exact congrArg _ (g_eq r.isLt (fun d hd => dzd_eq hi hd r.isLt) fun d hd => wd_eq hi hd r.isLt)
  · next hj =>
    refine congrArg _ ?_
    split
    · rfl
    · rw [gR_zero r.isLt (by omega)]

end Loop

end Cert.KernelIdeal.Sb
-- ==== Proof.Sb.GridVal.lean ====
/- The grid over the real numbers: each point's windows, the accumulator over a head's points, and the two results. -/
module

public import proofs.«01_k».proof.Proof.Sb.LoopVal
public import proofs.«01_k».proof.Proof.Sb.Run

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Blocks
variable {F : FTy → Type} [FloatOps F] [Named F] (m : (ℓ : Loc nD τ sig) → Buf (Elt F) ℓ) (c : Dev nD)

/-- The head and the query tile of a point. -/
def hd (t : Fin cfg0.N) : Fin 8 := ⟨t.val / 16, by have : t.val < 128 := t.isLt; omega⟩
def qt (t : Fin cfg0.N) : Fin 16 := ⟨t.val % 16, by omega⟩
def qrow (i : Fin 16) (r : Fin 512) : Fin 8192 := ⟨512 * i.val + r.val, by omega⟩
def hd8 (h : Fin 8) : Fin 16 := ⟨8 + h.val, by omega⟩

theorem idx0 : ∀ t : Fin grid0.N, win0_0.index t (0 : Fin 3) = 8 + t.val / 16 ∧ win0_0.index t (1 : Fin 3) = t.val % 16 ∧ win0_0.index t (2 : Fin 3) = 0 := by decide +kernel
theorem idx1 : ∀ t : Fin grid0.N, win0_1.index t (0 : Fin 4) = 8 + t.val / 16 ∧ win0_1.index t (1 : Fin 4) = 0 ∧ win0_1.index t (2 : Fin 4) = 0 ∧ win0_1.index t (3 : Fin 4) = 0 := by decide +kernel
theorem idx2 : ∀ t : Fin grid0.N, win0_2.index t (0 : Fin 4) = 8 + t.val / 16 ∧ win0_2.index t (1 : Fin 4) = 0 ∧ win0_2.index t (2 : Fin 4) = 0 ∧ win0_2.index t (3 : Fin 4) = 0 := by decide +kernel
theorem idx3 : ∀ t : Fin grid0.N, win0_3.index t (0 : Fin 3) = 8 + t.val / 16 ∧ win0_3.index t (1 : Fin 3) = t.val % 16 ∧ win0_3.index t (2 : Fin 3) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 3) = t.val / 16 ∧ win0_5.index t (1 : Fin 3) = t.val % 16 ∧ win0_5.index t (2 : Fin 3) = 0 := by decide +kernel
theorem idx6 : ∀ t : Fin grid0.N, win0_6.index t (0 : Fin 3) = t.val / 16 ∧ win0_6.index t (1 : Fin 3) = t.val % 16 ∧ win0_6.index t (2 : Fin 3) = 0 := by decide +kernel
theorem idx7 : ∀ t : Fin grid0.N, win0_7.index t (0 : Fin 4) = t.val / 16 ∧ win0_7.index t (1 : Fin 4) = 0 ∧ win0_7.index t (2 : Fin 4) = 0 ∧ win0_7.index t (3 : Fin 4) = 0 := by decide +kernel

theorem iblk0_at (t : Fin cfg0.N) (r : Fin 512) (d : Fin 128) : (iblk m c 0 t : Vec F S1x512x128 .bf16) (ix3 0 r d) = (V m c main_v3 : Vec F S16x8192x128 .bf16) (ix3 (hd8 (hd t)) (qrow (qt t) r) d) := by
  obtain ⟨e0, e1, e2⟩ := idx0 t
  refine congrArg (V m c main_v3 : Vec F S16x8192x128 .bf16) (funext fun a => Fin.ext ?_)
  match a with
  | ⟨0, _⟩ => show win0_0.index t (0 : Fin 3) * 1 + 1 * 0 = 8 + t.val / 16; omega
  | ⟨1, _⟩ => show win0_0.index t (1 : Fin 3) * 512 + 1 * r.val = 512 * (t.val % 16) + r.val; omega
  | ⟨2, _⟩ => show win0_0.index t (2 : Fin 3) * 128 + 1 * d.val = d.val; omega

theorem iblk1_at (t : Fin cfg0.N) (j : Fin 16) (r : Fin 512) (d : Fin 128) : (iblk m c 1 t : Vec F S1x16x512x128 .bf16) (ix4 0 j r d) = (V m c main_v6 : Vec F S16x16x512x128 .bf16) (ix4 (hd8 (hd t)) j r d) := by
  obtain ⟨e0, e1, e2, e3⟩ := idx1 t
  refine congrArg (V m c main_v6 : Vec F S16x16x512x128 .bf16) (funext fun a => Fin.ext ?_)
  match a with
  | ⟨0, _⟩ => show win0_1.index t (0 : Fin 4) * 1 + 1 * 0 = 8 + t.val / 16; omega
  | ⟨1, _⟩ => show win0_1.index t (1 : Fin 4) * 16 + 1 * j.val = j.val; omega
  | ⟨2, _⟩ => show win0_1.index t (2 : Fin 4) * 512 + 1 * r.val = r.val; omega
  | ⟨3, _⟩ => show win0_1.index t (3 : Fin 4) * 128 + 1 * d.val = d.val; omega

theorem iblk2_at (t : Fin cfg0.N) (j : Fin 16) (r : Fin 512) (d : Fin 128) : (iblk m c 2 t : Vec F S1x16x512x128 .bf16) (ix4 0 j r d) = (V m c main_v11 : Vec F S16x16x512x128 .bf16) (ix4 (hd8 (hd t)) j r d) := by
  obtain ⟨e0, e1, e2, e3⟩ := idx2 t
  refine congrArg (V m c main_v11 : Vec F S16x16x512x128 .bf16) (funext fun a => Fin.ext ?_)
  match a with
  | ⟨0, _⟩ => show win0_2.index t (0 : Fin 4) * 1 + 1 * 0 = 8 + t.val / 16; omega
  | ⟨1, _⟩ => show win0_2.index t (1 : Fin 4) * 16 + 1 * j.val = j.val; omega
  | ⟨2, _⟩ => show win0_2.index t (2 : Fin 4) * 512 + 1 * r.val = r.val; omega
  | ⟨3, _⟩ => show win0_2.index t (3 : Fin 4) * 128 + 1 * d.val = d.val; omega

theorem iblk3_at (t : Fin cfg0.N) (r : Fin 512) (d : Fin 128) : (iblk m c 3 t : Vec F S1x512x128 .bf16) (ix3 0 r d) = (V m c main_v13 : Vec F S16x8192x128 .bf16) (ix3 (hd8 (hd t)) (qrow (qt t) r) d) := by
  obtain ⟨e0, e1, e2⟩ := idx3 t
  refine congrArg (V m c main_v13 : Vec F S16x8192x128 .bf16) (funext fun a => Fin.ext ?_)
  match a with
  | ⟨0, _⟩ => show win0_3.index t (0 : Fin 3) * 1 + 1 * 0 = 8 + t.val / 16; omega
  | ⟨1, _⟩ => show win0_3.index t (1 : Fin 3) * 512 + 1 * r.val = 512 * (t.val % 16) + r.val; omega
  | ⟨2, _⟩ => show win0_3.index t (2 : Fin 3) * 128 + 1 * d.val = d.val; omega

theorem iblk4_at (t : Fin cfg0.N) (r d : Fin 256) : (iblk m c 4 t : Vec F S256x256 .bf16) (ix2 r d) = (V m c main_v21 : Vec F S256x256 .bf16) (ix2 r d) := by
  obtain ⟨e0, e1⟩ := idx4 t
  refine congrArg (V m c main_v21 : Vec F S256x256 .bf16) (funext fun a => Fin.ext ?_)
  match a with
  | ⟨0, _⟩ => show win0_4.index t (0 : Fin 2) * 256 + 1 * r.val = r.val; omega
  | ⟨1, _⟩ => show win0_4.index t (1 : Fin 2) * 256 + 1 * d.val = d.val; omega

theorem iblk5_at (t : Fin cfg0.N) (r : Fin 512) (d : Fin 128) : (iblk m c 5 t : Vec F S1x512x128 .f32) (ix3 0 r d) = (V m c main_v39 : Vec F S8x8192x128 .f32) (ix3 (hd t) (qrow (qt t) r) d) := by
  obtain ⟨e0, e1, e2⟩ := idx5 t
  refine congrArg (V m c main_v39 : Vec F S8x8192x128 .f32) (funext fun a => Fin.ext ?_)
  match a with
  | ⟨0, _⟩ => show win0_5.index t (0 : Fin 3) * 1 + 1 * 0 = t.val / 16; omega
  | ⟨1, _⟩ => show win0_5.index t (1 : Fin 3) * 512 + 1 * r.val = 512 * (t.val % 16) + r.val; omega
  | ⟨2, _⟩ => show win0_5.index t (2 : Fin 3) * 128 + 1 * d.val = d.val; omega

theorem emb6 (t : Fin cfg0.N) (y : S1x512x128.Idx) : ((cfg0.win 6).blk t).view.emb y = (ix3 (hd t) (qrow (qt t) (y 1)) (y 2) : S8x8192x128.Idx) := by
  obtain ⟨e0, e1, e2⟩ := idx6 t
  have h0 : (y 0).val < 1 := (y 0).isLt
  funext a; apply Fin.ext
  match a with
  | ⟨0, _⟩ => show win0_6.index t (0 : Fin 3) * 1 + 1 * (y 0).val = t.val / 16; omega
  | ⟨1, _⟩ => show win0_6.index t (1 : Fin 3) * 512 + 1 * (y 1).val = 512 * (t.val % 16) + (y 1).val; omega
  | ⟨2, _⟩ => show win0_6.index t (2 : Fin 3) * 128 + 1 * (y 2).val = (y 2).val; omega

theorem emb7 (t : Fin cfg0.N) (y : S1x16x512x128.Idx) : ((cfg0.win 7).blk t).view.emb y = (ix4 (hd t) (y 1) (y 2) (y 3) : S8x16x512x128.Idx) := by
  obtain ⟨e0, e1, e2, e3⟩ := idx7 t
  have h0 : (y 0).val < 1 := (y 0).isLt
  funext a; apply Fin.ext
  match a with
  | ⟨0, _⟩ => show win0_7.index t (0 : Fin 4) * 1 + 1 * (y 0).val = t.val / 16; omega
  | ⟨1, _⟩ => show win0_7.index t (1 : Fin 4) * 16 + 1 * (y 1).val = (y 1).val; omega
  | ⟨2, _⟩ => show win0_7.index t (2 : Fin 4) * 512 + 1 * (y 2).val = (y 2).val; omega
  | ⟨3, _⟩ => show win0_7.index t (3 : Fin 4) * 128 + 1 * (y 3).val = (y 3).val; omega

end Blocks

/-- What the arrays the grid reads hold, head by head: the scaled queries, the keys, the values and the output's
    gradients, each over all lanes; the triangle; the saved tail sums. -/
structure Arrays (m : (ℓ : Loc nD τ sig) → Buf (Elt Ideal) ℓ) (c : Dev nD) (q k v o : ℕ → ℕ → ℕ → ℝ) : Prop where
  q_eq : ∀ (h : Fin 8) (a : Fin 8192) (d : Fin 128), (V m c main_v3 : Vec Ideal S16x8192x128 .bf16) (ix3 (hd8 h) a d) = ((q h.val a.val d.val : ℝ) : EReal)
  k_eq : ∀ (h : Fin 8) (j : Fin 16) (r : Fin 512) (d : Fin 128), (V m c main_v6 : Vec Ideal S16x16x512x128 .bf16) (ix4 (hd8 h) j r d) = ((k h.val (512 * j.val + r.val) d.val : ℝ) : EReal)
  v_eq : ∀ (h : Fin 8) (j : Fin 16) (r : Fin 512) (d : Fin 128), (V m c main_v11 : Vec Ideal S16x16x512x128 .bf16) (ix4 (hd8 h) j r d) = ((v h.val (512 * j.val + r.val) d.val : ℝ) : EReal)
  o_eq : ∀ (h : Fin 8) (a : Fin 8192) (d : Fin 128), (V m c main_v13 : Vec Ideal S16x8192x128 .bf16) (ix3 (hd8 h) a d) = ((o h.val a.val d.val : ℝ) : EReal)
  t_eq : ∀ r d : Fin 256, (V m c main_v21 : Vec Ideal S256x256 .bf16) (ix2 r d) = ((triR r.val d.val : ℝ) : EReal)
  r_eq : ∀ (h : Fin 8) (a : Fin 8192) (j : ℕ) (hj : j < 16), (V m c main_v39 : Vec Ideal S8x8192x128 .f32) (ix3 h a (lane j hj)) = ((later (lmG (q h.val) (k h.val) a.val) (512 * j + 511) : ℝ) : EReal)

section Value
variable {m : (ℓ : Loc nD τ sig) → Buf (Elt Ideal) ℓ} {c : Dev nD} {q k v o : ℕ → ℕ → ℕ → ℝ} (A : Arrays m c q k v o)

include A

section Point
variable (t : Fin cfg0.N)

theorem ptQ : R2 (k0_pay55 (iblk m c 0 t : Vec Ideal S1x512x128 .bf16)) (rows (qt t).val (q (hd t).val)) :=
  R2.cast1 shapeCasts_S1x512x128_S512x128 fun r d => (iblk0_at m c t r d).trans (A.q_eq (hd t) (qrow (qt t) r) d)

theorem ptO : R2 (k0_pay56 (iblk m c 3 t : Vec Ideal S1x512x128 .bf16)) (rows (qt t).val (o (hd t).val)) :=
  R2.cast1 shapeCasts_S1x512x128_S512x128 fun r d => (iblk3_at m c t r d).trans (A.o_eq (hd t) (qrow (qt t) r) d)

theorem ptT : R2 (k0_pay57 (iblk m c 4 t : Vec Ideal S256x256 .bf16)) triR := fun r d =>
  (congrFun (shapeCast_self (iblk m c 4 t : Vec Ideal S256x256 .bf16) _) (ix2 r d)).trans ((iblk4_at m c t r d).trans (A.t_eq r d))

theorem ptU : R2 (k0_pay59 (iblk m c 0 t : Vec Ideal S1x512x128 .bf16) (iblk m c 3 t : Vec Ideal S1x512x128 .bf16)) (uR (q (hd t).val) (o (hd t).val) (qt t).val) :=
  R2.congr (R2.rows (a := 512) (b := 512) (k := 1024) concatenates_S512x128_S512x128_S1024x128_d0 rfl (ptQ A t)
    (R2.trunc (ψ := .bf16) (R2.roll (R2.ext (ψ := .f32) (ptO A t) bitsLt_bf16_f32)) bitsLt_bf16_f32)) fun _ _ _ _ => rfl

theorem ptR (j : ℕ) (hj : j < 16) (r : Fin 512) : k0_pay58 (iblk m c 5 t : Vec Ideal S1x512x128 .f32) (ix2 r (lane j hj)) = ((runR (q (hd t).val) (k (hd t).val) (qt t).val j r.val : ℝ) : EReal) :=
  (shapeCast_1ab_ab_apply _ shapeCasts_S1x512x128_S512x128 r _).trans ((iblk5_at m c t r _).trans (A.r_eq (hd t) (qrow (qt t) r) j hj))

theorem ptK (j : Fin 16) (r : Fin 512) (d : Fin 128) : (iblk m c 1 t : Vec Ideal S1x16x512x128 .bf16) (ix4 0 j r d) = ((rows j.val (k (hd t).val) r.val d.val : ℝ) : EReal) :=
  (iblk1_at m c t j r d).trans (A.k_eq (hd t) j r d)

theorem ptV (j : Fin 16) (r : Fin 512) (d : Fin 128) : (iblk m c 2 t : Vec Ideal S1x16x512x128 .bf16) (ix4 0 j r d) = ((rows j.val (v (hd t).val) r.val d.val : ℝ) : EReal) :=
  (iblk2_at m c t j r d).trans (A.v_eq (hd t) j r d)

/-- The query gradient's block a point leaves, -/
theorem dqAt_eq {Y : Vec Ideal S1x16x512x128 .f32} {y : ℕ → ℕ → ℕ → ℝ} (hY : ∀ (j : Fin 16) (r : Fin 512) (d : Fin 128), Y (ix4 0 j r d) = ((y j.val r.val d.val : ℝ) : EReal)) (r : Fin 512) (d : Fin 128) :
    dqAt m c t Y (ix3 0 r d) = ((∑ b ∈ Finset.range 8192, dzG (q (hd t).val) (o (hd t).val) (k (hd t).val) (v (hd t).val) (512 * (qt t).val + r.val) b * k (hd t).val b d.val : ℝ) : EReal) := by
  have hi : (grid0.coords t 1).val = (qt t).val := coords1 t
  unfold dqAt outDq endS
  rw [first_zero, hi, Nat.sub_zero]
  exact diag_dq (qt t).isLt (ptQ A t) (ptO A t) (ptT A t) (ptU A t) (ptR A t) (ptK A t) (ptV A t) hY r d

/-- and the keys' and values'. -/
theorem dkvAt_eq {Y : Vec Ideal S1x16x512x128 .f32} {y : ℕ → ℕ → ℕ → ℝ} (hY : ∀ (j : Fin 16) (r : Fin 512) (d : Fin 128), Y (ix4 0 j r d) = ((y j.val r.val d.val : ℝ) : EReal)) (j : Fin 16) (r : Fin 512) (d : Fin 128) :
    dkvAt m c t Y (ix4 0 j r d) = ((y j.val r.val d.val + gR (q (hd t).val) (o (hd t).val) (k (hd t).val) (v (hd t).val) (qt t).val j.val r.val d.val : ℝ) : EReal) := by
  have hi : (grid0.coords t 1).val = (qt t).val := coords1 t
  unfold dkvAt outDkv endS
  rw [first_zero, hi, Nat.sub_zero]
  exact diag_dkv (qt t).isLt (ptQ A t) (ptO A t) (ptT A t) (ptU A t) (ptR A t) (ptK A t) (ptV A t) hY j r d

end Point

/-- The accumulator as a head's `i`-th point finds it. -/
theorem acc_eq (h : Fin 8) (i : ℕ) (hi : i < 16) (j : Fin 16) (r : Fin 512) (d : Fin 128) :
    accIn m c (16 * h.val + i) (ix4 0 j r d) = ((∑ n ∈ Finset.range i, gR (q h.val) (o h.val) (k h.val) (v h.val) n j.val r.val d.val : ℝ) : EReal) := by
  induction i generalizing j r d with
  | zero =>
    rw [accIn_first m c _ (by omega), Finset.sum_range_zero]
    exact zero_f32
  | succ i ih =>
    have hN : 16 * h.val + i < cfg0.N := by show _ < 128; omega
    have e1 : (hd ⟨16 * h.val + i, hN⟩).val = h.val := by show (16 * h.val + i) / 16 = h.val; omega
    have e2 : (qt ⟨16 * h.val + i, hN⟩).val = i := by show (16 * h.val + i) % 16 = i; omega
    have hs := dkvAt_eq A ⟨16 * h.val + i, hN⟩ (y := fun j r d => ∑ n ∈ Finset.range i, gR (q h.val) (o h.val) (k h.val) (v h.val) n j r d) (fun j r d => ih (by omega) j r d) j r d
    rw [show 16 * h.val + (i + 1) = (16 * h.val + i) + 1 by omega, accIn_next m c _ hN (by omega), hs, e1, e2, Finset.sum_range_succ]

/-- The accumulator as point `t` finds it. -/
theorem acc_at (t : Fin cfg0.N) (j : Fin 16) (r : Fin 512) (d : Fin 128) :
    accIn m c t.val (ix4 0 j r d) = ((∑ n ∈ Finset.range (qt t).val, gR (q (hd t).val) (o (hd t).val) (k (hd t).val) (v (hd t).val) n j.val r.val d.val : ℝ) : EReal) := by
  have e : t.val = 16 * (hd t).val + (qt t).val := by show t.val = 16 * (t.val / 16) + t.val % 16; omega
  have := acc_eq A (hd t) (qt t).val (qt t).isLt j r d
  rw [← e] at this
  exact this

omit A in
/-- The sum over the query tiles is the sum over the queries. -/
theorem sum_tiles (f : ℕ → ℝ) (n : ℕ) : ∑ i ∈ Finset.range n, ∑ d ∈ Finset.range 512, f (512 * i + d) = ∑ a ∈ Finset.range (512 * n), f a := by
  induction n with
  | zero => rfl
  | succ n ih => rw [Finset.sum_range_succ, ih, Nat.mul_succ, Finset.sum_range_add]

omit A in
/-- The keys' and values' gradients as sums over all queries. -/
theorem g_total (q o k v : ℕ → ℕ → ℝ) (j r d : ℕ) : ∑ i ∈ Finset.range 16, gR q o k v i j r d
    = ∑ a ∈ Finset.range 8192, dzG q o k v a (512 * j + r) * q a d + ∑ a ∈ Finset.range 8192, wG q k a (512 * j + r) * o a ((d + 64) % 128) := by
  unfold gR
  rw [Finset.sum_add_distrib, sum_tiles (fun a => dzG q o k v a (512 * j + r) * q a d) 16, sum_tiles (fun a => wG q k a (512 * j + r) * o a ((d + 64) % 128)) 16]

/-- The query gradient's array after the run, -/
theorem final6 (h : Fin 8) (a : Fin 8192) (d : Fin 128) : ((dats m 0 c).arrAt 6 cfg0.N : Vec Ideal S8x8192x128 .f32) (ix3 h a d)
    = ((∑ b ∈ Finset.range 8192, dzG (q h.val) (o h.val) (k h.val) (v h.val) a.val b * k h.val b d.val : ℝ) : EReal) := by
  refine (dats m 0 c).arrAt_forall_of_cover 6 (fun (i : S8x8192x128.Idx) (x : EReal) => x = ((∑ b ∈ Finset.range 8192, dzG (q (i 0).val) (o (i 0).val) (k (i 0).val) (v (i 0).val) (i 1).val b * k (i 0).val b (i 2).val : ℝ) : EReal))
    (fun t _ y => ?_) (fun i => ?_) (ix3 h a d : S8x8192x128.Idx)
  · rw [emb6 t y]
    change S1x512x128.Idx at y
    show (dats m 0 c).after 6 t y = _
    have h0 : @Eq (Fin 1) (y 0) 0 := Subsingleton.elim (α := Fin 1) _ _
    rw [after0_6, show y = (ix3 0 (y 1) (y 2) : S1x512x128.Idx) from (eq_ix3 y).trans (congrArg (fun x => ix3 x (y 1) (y 2)) h0)]
    exact dqAt_eq A t (y := fun j r d => ∑ n ∈ Finset.range (qt t).val, gR (q (hd t).val) (o (hd t).val) (k (hd t).val) (v (hd t).val) n j r d) (fun j r d => acc_at A t j r d) (y 1) (y 2)
  · have h0 : (i 0).val < 8 := (i 0).isLt
    have h1 : (i 1).val < 8192 := (i 1).isLt
    have hN : 16 * (i 0).val + (i 1).val / 512 < cfg0.N := by show _ < 128; omega
    refine ⟨⟨16 * (i 0).val + (i 1).val / 512, hN⟩, flush0_6 _, ?_⟩
    have hm := ((cfg0.win 6).blk ⟨16 * (i 0).val + (i 1).val / 512, hN⟩).view.emb_mem_set (ix3 0 ⟨(i 1).val % 512, by omega⟩ (i 2) : S1x512x128.Idx)
    rw [emb6] at hm
    refine (congrArg (· ∈ _) ?_).mp hm
    funext x; apply Fin.ext
    match x with
    | ⟨0, _⟩ => show (16 * (i 0).val + (i 1).val / 512) / 16 = (i 0).val; omega
    | ⟨1, _⟩ => show 512 * ((16 * (i 0).val + (i 1).val / 512) % 16) + (i 1).val % 512 = (i 1).val; omega
    | ⟨2, _⟩ => rfl

/-- and the keys' and values'. -/
theorem final7 (h : Fin 8) (j : Fin 16) (r : Fin 512) (d : Fin 128) : ((dats m 0 c).arrAt 7 cfg0.N : Vec Ideal S8x16x512x128 .f32) (ix4 h j r d)
    = ((∑ a ∈ Finset.range 8192, dzG (q h.val) (o h.val) (k h.val) (v h.val) a (512 * j.val + r.val) * q h.val a d.val
        + ∑ a ∈ Finset.range 8192, wG (q h.val) (k h.val) a (512 * j.val + r.val) * o h.val a ((d.val + 64) % 128) : ℝ) : EReal) := by
  rw [← g_total]
  refine (dats m 0 c).arrAt_forall_of_cover 7 (fun (i : S8x16x512x128.Idx) (x : EReal) => x = ((∑ n ∈ Finset.range 16, gR (q (i 0).val) (o (i 0).val) (k (i 0).val) (v (i 0).val) n (i 1).val (i 2).val (i 3).val : ℝ) : EReal))
    (fun t hf y => ?_) (fun i => ?_) (ix4 h j r d : S8x16x512x128.Idx)
  · rw [emb7 t y]
    change S1x16x512x128.Idx at y
    show (dats m 0 c).after 7 t y = _
    have h0 : @Eq (Fin 1) (y 0) 0 := Subsingleton.elim (α := Fin 1) _ _
    have h15 : (qt t).val = 15 := (flush0_7 t).mp hf
    rw [after0_7, show y = (ix4 0 (y 1) (y 2) (y 3) : S1x16x512x128.Idx) from (eq_ix4 y).trans (congrArg (fun x => ix4 x (y 1) (y 2) (y 3)) h0)]
    refine (dkvAt_eq A t (y := fun j r d => ∑ n ∈ Finset.range (qt t).val, gR (q (hd t).val) (o (hd t).val) (k (hd t).val) (v (hd t).val) n j r d) (fun j r d => acc_at A t j r d) (y 1) (y 2) (y 3)).trans (congrArg _ ?_)
    rw [h15, ← Finset.sum_range_succ]
  · have h0 : (i 0).val < 8 := (i 0).isLt
    have hN : 16 * (i 0).val + 15 < cfg0.N := by show _ < 128; omega
    refine ⟨⟨16 * (i 0).val + 15, hN⟩, (flush0_7 _).mpr (by show (16 * (i 0).val + 15) % 16 = 15; omega), ?_⟩
    have hm := ((cfg0.win 7).blk ⟨16 * (i 0).val + 15, hN⟩).view.emb_mem_set (ix4 0 (i 1) (i 2) (i 3) : S1x16x512x128.Idx)
    rw [emb7] at hm
    refine (congrArg (· ∈ _) ?_).mp hm
    funext x; apply Fin.ext
    match x with
    | ⟨0, _⟩ => show (16 * (i 0).val + 15) / 16 = (i 0).val; omega
    | ⟨1, _⟩ => rfl
    | ⟨2, _⟩ => rfl
    | ⟨3, _⟩ => rfl

end Value

end Cert.KernelIdeal.Sb
-- ==== Proof.Sb.Real3.lean ====
/- Arrays of rank three over the ideal values whose every element is a real number: the running sums along the last axis,
   the host's softplus at a real number, and the functions of the four arguments that the heads compute with. -/
module

public import proofs.«01_k».proof.Proof.Sb.LoopVal
public import Idealize.ShloMosaic.Lib.Pointwise

@[expose] public section

set_option maxRecDepth 16384

noncomputable section

namespace Cert.KernelIdeal.Sb

open Idealize.ShloMosaic Idealize.ShloMosaic.TcCoe Idealize.ShloMosaic.ValueIdx
open scoped BigOperators

/-- Every element of the array is the real number the function gives at its three coordinates. -/
def R3 {l m n : ℕ} (x : (⟨3, ![l, m, n]⟩ : Shape).Idx → EReal) (f : ℕ → ℕ → ℕ → ℝ) : Prop :=
  ∀ i : (⟨3, ![l, m, n]⟩ : Shape).Idx, x i = ((f (i 0).val (i 1).val (i 2).val : ℝ) : EReal)

theorem R3.congr {l m n : ℕ} {x : (⟨3, ![l, m, n]⟩ : Shape).Idx → EReal} {f g : ℕ → ℕ → ℕ → ℝ} (h : R3 x f)
    (e : ∀ a < l, ∀ b < m, ∀ c < n, f a b c = g a b c) : R3 x g :=
  fun i => by rw [h i, e _ (i 0).isLt _ (i 1).isLt _ (i 2).isLt]

/-! Running sums. -/

theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

theorem scan_apply {l m n : ℕ} (lo hi : ℕ) {x : FVec Ideal ⟨3, ![l, m, n]⟩ .f32} {f : ℕ → ℕ → ℕ → ℝ} (hx : R3 x f) {u : Shape} (v : u.Idx → Ideal .f32) (hv : ∀ j, v j = ((0 : ℝ) : EReal))
    (h : (⟨3, ![l, m, n]⟩ : Shape).ReduceWindows ![1, 1, n] ![1, 1, 1] ![0, 0, lo] ![0, 0, hi] ⟨3, ![l, m, n]⟩) (hu : 0 < u.numel) (i : (⟨3, ![l, m, n]⟩ : Shape).Idx) :
    Host.reduceWindowAdd ![1, 1, n] ![1, 1, 1] ![0, 0, lo] ![0, 0, hi] x v h hu i
      = ((∑ d ∈ Finset.range n, (if lo ≤ (i 2).val + d ∧ (i 2).val + d - lo < n then f (i 0).val (i 1).val ((i 2).val + d - lo) else 0) : ℝ) : EReal) := by
  have hn : (⟨3, ![1, 1, n]⟩ : Shape).numel = n := by simp [Shape.numel, Fin.prod_univ_three]
  show (List.finRange (⟨3, ![1, 1, n]⟩ : Shape).numel).foldl (fun r k => r + _) (v (Shape.Idx.first hu)) = _
  rw [foldl_add, hv, ← Fin.sum_univ_def, EReal.coe_zero, zero_add]
  refine Eq.trans (Finset.sum_congr rfl fun k _ => ?_) ((coe_sum (n := (⟨3, ![1, 1, n]⟩ : Shape).numel) fun d => if lo ≤ (i 2).val + d ∧ (i 2).val + d - lo < n then f (i 0).val (i 1).val ((i 2).val + d - lo) else 0).trans (by rw [hn]))
  have hk : k.val = ((⟨3, ![1, 1, n]⟩ : Shape).rowMajor.symm k 2).val := by
    have e := Shape.rowMajor_val_three ((⟨3, ![1, 1, n]⟩ : Shape).rowMajor.symm k)
    rw [Equiv.apply_symm_apply] at e
    rw [e]
    have h0 : ((⟨3, ![1, 1, n]⟩ : Shape).rowMajor.symm k 0).val < 1 := ((⟨3, ![1, 1, n]⟩ : Shape).rowMajor.symm k 0).isLt
    have h1 : ((⟨3, ![1, 1, n]⟩ : Shape).rowMajor.symm k 1).val < 1 := ((⟨3, ![1, 1, n]⟩ : Shape).rowMajor.symm k 1).isLt
    rw [show ((⟨3, ![1, 1, n]⟩ : Shape).rowMajor.symm k 0).val = 0 by omega, show ((⟨3, ![1, 1, n]⟩ : Shape).rowMajor.symm k 1).val = 0 by omega]
    simp
  have hq0 : ((⟨3, ![1, 1, n]⟩ : Shape).rowMajor.symm k 0).val < 1 := ((⟨3, ![1, 1, n]⟩ : Shape).rowMajor.symm k 0).isLt
  have hq1 : ((⟨3, ![1, 1, n]⟩ : Shape).rowMajor.symm k 1).val < 1 := ((⟨3, ![1, 1, n]⟩ : Shape).rowMajor.symm k 1).isLt
  have hi0 : (i 0).val < l := (i 0).isLt
  have hi1 : (i 1).val < m := (i 1).isLt
  rw [hk]
  by_cases hc : lo ≤ (i 2).val + ((⟨3, ![1, 1, n]⟩ : Shape).rowMajor.symm k 2).val ∧ (i 2).val + ((⟨3, ![1, 1, n]⟩ : Shape).rowMajor.symm k 2).val - lo < n
  · rw [if_pos hc, dif_pos]
    · refine (hx _).trans (congrArg _ (congr (congrArg₂ f ?_ ?_) ?_))
      · show (i 0).val * 1 + ((⟨3, ![1, 1, n]⟩ : Shape).rowMajor.symm k 0).val - 0 = (i 0).val; omega
      · show (i 1).val * 1 + ((⟨3, ![1, 1, n]⟩ : Shape).rowMajor.symm k 1).val - 0 = (i 1).val; omega
      · show (i 2).val * 1 + ((⟨3, ![1, 1, n]⟩ : Shape).rowMajor.symm k 2).val - lo = (i 2).val + ((⟨3, ![1, 1, n]⟩ : Shape).rowMajor.symm k 2).val - lo; omega
    · intro a
      match a with
      | ⟨0, _⟩ => show 0 ≤ (i 0).val * 1 + ((⟨3, ![1, 1, n]⟩ : Shape).rowMajor.symm k 0).val ∧ (i 0).val * 1 + ((⟨3, ![1, 1, n]⟩ : Shape).rowMajor.symm k 0).val - 0 < l; omega
      | ⟨1, _⟩ => show 0 ≤ (i 1).val * 1 + ((⟨3, ![1, 1, n]⟩ : Shape).rowMajor.symm k 1).val ∧ (i 1).val * 1 + ((⟨3, ![1, 1, n]⟩ : Shape).rowMajor.symm k 1).val - 0 < m; omega
      | ⟨2, _⟩ => show lo ≤ (i 2).val * 1 + ((⟨3, ![1, 1, n]⟩ : Shape).rowMajor.symm k 2).val ∧ (i 2).val * 1 + ((⟨3, ![1, 1, n]⟩ : Shape).rowMajor.symm k 2).val - lo < n; omega
  · rw [if_neg hc, dif_neg]
    · exact EReal.coe_zero.symm
    · intro hin
      have h2 : lo ≤ (i 2).val * 1 + ((⟨3, ![1, 1, n]⟩ : Shape).rowMajor.symm k 2).val ∧ (i 2).val * 1 + ((⟨3, ![1, 1, n]⟩ : Shape).rowMajor.symm k 2).val - lo < n := hin 2
      exact hc (by omega)

/-- From an index to the row's end, -/
theorem scan_suffix {l m n hi : ℕ} {x : FVec Ideal ⟨3, ![l, m, n]⟩ .f32} {f : ℕ → ℕ → ℕ → ℝ} (hx : R3 x f) {u : Shape} (v : u.Idx → Ideal .f32) (hv : ∀ j, v j = ((0 : ℝ) : EReal))
    (h : (⟨3, ![l, m, n]⟩ : Shape).ReduceWindows ![1, 1, n] ![1, 1, 1] ![0, 0, 0] ![0, 0, hi] ⟨3, ![l, m, n]⟩) (hu : 0 < u.numel) :
    R3 (Host.reduceWindowAdd ![1, 1, n] ![1, 1, 1] ![0, 0, 0] ![0, 0, hi] x v h hu) fun a b c => ∑ d ∈ Finset.Ico c n, f a b d := fun i => by
  rw [scan_apply 0 hi hx v hv h hu i]
  refine congrArg _ ?_
  have hc : (i 2).val < n := (i 2).isLt
  generalize (i 2).val = c at hc ⊢
  dsimp only
  rw [Finset.sum_Ico_eq_sum_range, ← Finset.sum_subset (Finset.range_subset_range.2 (Nat.sub_le n c))]
  · exact Finset.sum_congr rfl fun d hd => by
      have := Finset.mem_range.1 hd
      rw [if_pos (by omega)]; rfl
  · intro d _ hd
    have := mt Finset.mem_range.2 hd
    exact if_neg (by omega)

/-- and from the row's start to an index. -/
theorem scan_prefix {l m n hi lo : ℕ} (hlo : n = lo + 1) {x : FVec Ideal ⟨3, ![l, m, n]⟩ .f32} {f : ℕ → ℕ → ℕ → ℝ} (hx : R3 x f) {u : Shape} (v : u.Idx → Ideal .f32) (hv : ∀ j, v j = ((0 : ℝ) : EReal))
    (h : (⟨3, ![l, m, n]⟩ : Shape).ReduceWindows ![1, 1, n] ![1, 1, 1] ![0, 0, lo] ![0, 0, hi] ⟨3, ![l, m, n]⟩) (hu : 0 < u.numel) :
    R3 (Host.reduceWindowAdd ![1, 1, n] ![1, 1, 1] ![0, 0, lo] ![0, 0, hi] x v h hu) fun a b c => ∑ d ∈ Finset.range (c + 1), f a b d := fun i => by
  rw [scan_apply lo hi hx v hv h hu i]
  refine congrArg _ ?_
  have hc : (i 2).val < n := (i 2).isLt
  generalize (i 2).val = c at hc ⊢
  dsimp only
  rw [show n = (n - (c + 1)) + (c + 1) by omega, Finset.sum_range_add,
    Finset.sum_eq_zero (s := Finset.range (n - (c + 1))) fun d hd => by
      have := Finset.mem_range.1 hd
      exact if_neg (by omega), zero_add]
  refine Finset.sum_congr rfl fun d hd => ?_
  have := Finset.mem_range.1 hd
  rw [if_pos (by omega)]
  congr 1
  omega

/-! The host's softplus. -/

def SP (x : ℝ) : ℝ := max x 0 + Real.log (1 + Real.exp (-|x|))

theorem inf_f32 : (FloatOps.ofBits .f32 0x7F800000#32 : Ideal .f32) = (⊤ : EReal) := by
  show Ideal.ofBits .f32 0x7F800000#32 = ⊤
  simp [Ideal.ofBits, Ideal.ieee]

theorem eighth_f32 : (FloatOps.ofBits .f32 0x3E000000#32 : Ideal .f32) = ((1 / 8 : ℝ) : EReal) := by
  show Ideal.ofBits .f32 0x3E000000#32 = _
  simp [Ideal.ofBits, Ideal.ieee, -EReal.coe_mul]
  norm_num

theorem sp_eq {z : Ideal .f32} {x : ℝ} (hz : z = (x : EReal)) {o : Ideal .f32} (ho : o = ((0 : ℝ) : EReal)) :
    Scalar.select (FloatOps.cmpf .une (FloatOps.subf z o) (FloatOps.subf z o)) (FloatOps.addf z o)
      (FloatOps.addf (FloatOps.maximumf z o) (FloatOps.hostUnary .log1p (FloatOps.hostUnary .exp (FloatOps.hostNegf (FloatOps.hostAbsf (FloatOps.subf z o))))))
      = ((SP x : ℝ) : EReal) := by
  have hc : (FloatOps.cmpf .une (FloatOps.subf z o) (FloatOps.subf z o) : BitVec 1) = 0#1 := by
    show Ideal.cmp .une _ _ = _
    unfold Ideal.cmp
    simp
  rw [hc]
  show (max (z : EReal) o + Ideal.log (1 + Ideal.exp (-(max ((z : EReal) - o) (-((z : EReal) - o))))) : EReal) = _
  rw [hz, ho, ← EReal.coe_sub, sub_zero, ← EReal.coe_neg, ← coe_max', ← coe_max', ← EReal.coe_neg]
  have he : Ideal.exp ((-(max x (-x)) : ℝ) : EReal) = ((Real.exp (-|x|) : ℝ) : EReal) := rfl
  rw [he, ← EReal.coe_one, ← EReal.coe_add, Ideal.log_coe, if_neg (not_le.2 (by positivity)), ← EReal.coe_add]
  rfl

/-- A real number is not `+∞`: its place taken where it is, it stays. -/
theorem not_inf {z w p : Ideal .f32} {x : ℝ} (hz : z = (x : EReal)) (hp : p = (⊤ : EReal)) : Scalar.select (FloatOps.cmpf .oeq z p) w z = (x : EReal) := by
  have hc : (FloatOps.cmpf .oeq z p : BitVec 1) = 0#1 := by
    show Ideal.cmp .oeq _ _ = _
    unfold Ideal.cmp
    rw [hz, hp]
    simp
  rw [hc]
  exact hz

theorem one_add_eR (z : ℝ) : (0 : ℝ) < 1 + eR z := by have := eR_pos z; linarith

theorem lgR_eq (z : ℝ) : -SP (-z) = lgR z := by
  unfold SP lgR spR eR
  rw [abs_neg, zero_sub]
  rcases le_total z 0 with h | h
  · rw [max_eq_left (by linarith), min_eq_left h]; ring
  · rw [max_eq_right (by linarith), min_eq_right h]; ring

theorem lmR_eq (z : ℝ) : -SP z = lmR z := by
  unfold SP lmR spR eR
  rw [zero_sub |z|]
  ring

theorem exp_sp (z w : ℝ) (hw : |w| = |z|) : Real.exp (w - SP w) = Real.exp (w - max w 0) * (1 / (1 + eR z)) := by
  have h := one_add_eR z
  unfold SP
  rw [hw, ← zero_sub |z|]
  change Real.exp (w - (max w 0 + Real.log (1 + eR z))) = _
  rw [← sub_sub, Real.exp_sub, Real.exp_log h]
  ring

theorem beR_eq (z : ℝ) : Real.exp (z - SP z) = beR z := by
  rw [exp_sp z z rfl]
  unfold beR
  congr 1
  by_cases h : 0 ≤ z
  · rw [if_pos h, max_eq_left h, sub_self, Real.exp_zero]
  · rw [if_neg h, max_eq_right (by linarith)]
    unfold eR
    rw [abs_of_neg (not_le.1 h)]
    congr 1; ring

theorem omR_eq (z : ℝ) : Real.exp (-z - SP (-z)) = omR z := by
  rw [exp_sp z (-z) (abs_neg z)]
  unfold omR
  congr 1
  by_cases h : 0 ≤ z
  · rw [if_pos h, max_eq_right (by linarith)]
    unfold eR
    rw [abs_of_nonneg h]
    congr 1; ring
  · rw [if_neg h, max_eq_left (by linarith), sub_self, Real.exp_zero]

/-! The functions of the arguments: the queries scaled, and every lane past a head's own sixty-four nought but for the
    values' first, which is one. -/

section Heads
variable (x0 x1 x2 x3 : ℕ → ℕ → ℕ → ℝ)

def qH (h a d : ℕ) : ℝ := if d < 64 then x0 (8 + h) a d * (1 / 8) else 0
def kH (h a d : ℕ) : ℝ := if d < 64 then x1 (8 + h) a d else 0
def vH (h a d : ℕ) : ℝ := if d < 64 then x2 (8 + h) a d else if d = 64 then 1 else 0
def oH (h a d : ℕ) : ℝ := if d < 64 then x3 (8 + h) a d else 0

theorem dot_half {f g : ℕ → ℕ → ℝ} (hf : ∀ a d, ¬ d < 64 → f a d = 0) (a b : ℕ) : dotR f g a b = ∑ d ∈ Finset.range 64, f a d * g b d := by
  unfold dotR
  refine (Finset.sum_subset (Finset.range_subset_range.2 (by omega)) fun d _ hd => ?_).symm
  rw [hf a d fun h => hd (Finset.mem_range.2 h), zero_mul]

theorem qH_zero (h a d : ℕ) (hd : ¬ d < 64) : qH x0 h a d = 0 := if_neg hd
theorem kH_zero (h a d : ℕ) (hd : ¬ d < 64) : kH x1 h a d = 0 := if_neg hd
theorem oH_zero (h a d : ℕ) (hd : ¬ d < 64) : oH x3 h a d = 0 := if_neg hd

end Heads

end Cert.KernelIdeal.Sb
-- ==== Proof.Sb.RefVal.lean ====
/- The reference over the real numbers: every array it computes on the way to the two gradients, at real arguments. -/
module

public import proofs.«01_k».proof.Proof.Sb.Real3
public import proofs.«01_k».proof.Proof.Gen.ReferenceIdeal.Read

@[expose] public section

set_option maxRecDepth 16384

noncomputable section

namespace Cert.ReferenceIdeal.Sb

open Cert.ReferenceIdeal Cert.ReferenceIdeal.Read Cert.KernelIdeal.Sb
open Idealize.ShloMosaic Idealize.ShloMosaic.TcCoe Idealize.ShloMosaic.ValueIdx
open scoped BigOperators

variable {a0 a1 a2 a3 : (⟨S16x8192x64, .f32⟩ : BufTy).Contents (Elt Ideal)} {x0 x1 x2 x3 : ℕ → ℕ → ℕ → ℝ}

/-- A select by the mask of the keys before the query. -/
theorem masked {b : BitVec 1} {p : Prop} [Decidable p] (hb : b = BitVec.ofBool (decide p)) {z w : Ideal .f32} {x y : ℝ} (hz : z = (x : EReal)) (hw : w = (y : EReal)) :
    Scalar.select b z w = ((if p then x else y : ℝ) : EReal) := by
  rw [hb, hz, hw]
  by_cases h : p
  · rw [if_pos h, decide_eq_true h]; rfl
  · rw [if_neg h, decide_eq_false h]; rfl

theorem v11_eq (i : S8192x8192.Idx) : val_main_v11 (F := Ideal) i = BitVec.ofBool (decide ((i 1).val < (i 0).val)) := by
  have h0 : (i 0).val < 8192 := (i 0).isLt
  have h1 : (i 1).val < 8192 := (i 1).isLt
  rw [val_main_v11_apply, val_main_v9_apply, val_main_v7_apply, val_main_v10_apply, val_main_v8_apply]
  exact WordCmp.cmpi_slt_ofNat (a := (i 1).val) (b := (i 0).val) (by omega) (by omega)

theorem v15_1_eq (i : S8x8192x8192.Idx) : val_main_v15_1 (F := Ideal) i = BitVec.ofBool (decide ((i 2).val < (i 1).val)) := by
  rw [val_main_v15_1_apply]; exact v11_eq _

theorem v20_1_eq (i : S8x8192x8192.Idx) : val_main_v20_1 (F := Ideal) i = BitVec.ofBool (decide ((i 2).val < (i 1).val)) := by
  rw [val_main_v20_1_apply]; exact v11_eq _

section Scores
variable (h0 : R3 a0 x0) (h1 : R3 a1 x1)

include h0 in
theorem v2_eq : R3 (val_main_v2 (F := Ideal) a0) (qH x0) := fun i => by
  have hd : (i 2).val < 64 := (i 2).isLt
  rw [val_main_v2_apply, val_main_v0_apply, h0]
  show _ * (FloatOps.ofBits .f32 0x3E000000#32 : Ideal .f32) = _
  rw [eighth_f32]
  unfold qH
  rw [if_pos hd, EReal.coe_mul]

include h1 in
theorem v3_eq : R3 (val_main_v3 (F := Ideal) a1) (kH x1) := fun i => by
  have hd : (i 2).val < 64 := (i 2).isLt
  rw [val_main_v3_apply, h1]
  unfold kH
  rw [if_pos hd]

include h0 h1

/-- The scores. -/
theorem v6_eq : R3 (val_main_v6 (F := Ideal) a0 a1) fun h a b => dotR (qH x0 h) (kH x1 h) a b := fun i => by
  rw [val_main_v6_apply]
  refine (Finset.sum_congr rfl fun k _ => congrArg₂ (· * ·) (v2_eq h0 _) (v3_eq h1 _)).trans ?_
  dsimp only
  rw [dot_half (qH_zero x0 _)]
  refine Eq.trans (Finset.sum_congr rfl fun k _ => (EReal.coe_mul _ _).symm) (coe_sum fun d => qH x0 (i 0).val (i 1).val d * kH x1 (i 0).val (i 2).val d)

theorem n6_eq : R3 (val_main_call0_v0 (F := Ideal) a0 a1) fun h a b => -dotR (qH x0 h) (kH x1 h) a b := fun i =>
  (congrArg (fun x : EReal => -x) (v6_eq h0 h1 i)).trans (EReal.coe_neg _).symm

theorem nn6_eq : R3 (val_main_call1_v0 (F := Ideal) a0 a1) fun h a b => dotR (qH x0 h) (kH x1 h) a b := fun i =>
  (congrArg (fun x : EReal => - -x) (v6_eq h0 h1 i)).trans (neg_neg _)

theorem sp0_eq : R3 (val_main_call0_v1_0 (F := Ideal) a0 a1) fun h a b => SP (-dotR (qH x0 h) (kH x1 h) a b) := fun i =>
  sp_eq (n6_eq h0 h1 i) zero_f32

theorem sp1_eq : R3 (val_main_call1_v1_0 (F := Ideal) a0 a1) fun h a b => SP (dotR (qH x0 h) (kH x1 h) a b) := fun i =>
  sp_eq (nn6_eq h0 h1 i) zero_f32

theorem lb_eq : R3 (val_main_v12_0 (F := Ideal) a0 a1) fun h a b => lgR (dotR (qH x0 h) (kH x1 h) a b) := fun i =>
  (congrArg (fun x : EReal => -x) (sp0_eq h0 h1 i)).trans ((EReal.coe_neg _).symm.trans (congrArg _ (lgR_eq _)))

theorem lm_eq : R3 (val_main_v14_0 (F := Ideal) a0 a1) fun h a b => lmR (dotR (qH x0 h) (kH x1 h) a b) := fun i =>
  (congrArg (fun x : EReal => -x) (sp1_eq h0 h1 i)).trans ((EReal.coe_neg _).symm.trans (congrArg _ (lmR_eq _)))

theorem om_eq : R3 (val_main_v12_1 (F := Ideal) a0 a1) fun h a b => omR (dotR (qH x0 h) (kH x1 h) a b) := fun i => by
  have e : val_main_call0_call0_v21 (F := Ideal) a0 a1 i = _ :=
    congrArg₂ (fun x y : EReal => x - y) (not_inf (n6_eq h0 h1 i) inf_f32) (not_inf (sp0_eq h0 h1 i) inf_f32)
  rw [val_main_v12_1_apply, e]
  beta_reduce
  rw [← EReal.coe_sub]
  exact congrArg (fun r : ℝ => (r : EReal)) (omR_eq _)

theorem be_eq : R3 (val_main_v14_1 (F := Ideal) a0 a1) fun h a b => beR (dotR (qH x0 h) (kH x1 h) a b) := fun i => by
  have e : val_main_call1_call0_v21 (F := Ideal) a0 a1 i = _ :=
    congrArg₂ (fun x y : EReal => x - y) (not_inf (nn6_eq h0 h1 i) inf_f32) (not_inf (sp1_eq h0 h1 i) inf_f32)
  rw [val_main_v14_1_apply, e]
  beta_reduce
  rw [← EReal.coe_sub]
  exact congrArg (fun r : ℝ => (r : EReal)) (beR_eq _)

theorem lmG_eq : R3 (val_main_v15_0 (F := Ideal) a0 a1) fun h => lmG (qH x0 h) (kH x1 h) := fun i =>
  masked (v15_1_eq i) (lm_eq h0 h1 i) zero_f32

/-- The sums over the later keys. -/
theorem v17_eq : R3 (val_main_v17 (F := Ideal) a0 a1) fun h a b => later (lmG (qH x0 h) (kH x1 h) a) b := fun i => by
  have e : val_main_v16 (F := Ideal) a0 a1 i = _ := scan_suffix (lmG_eq h0 h1) (val_main_call3_v0 (F := Ideal)) (fun _ => zero_f32) _ _ i
  have hb : (i 2).val < 8192 := (i 2).isLt
  rw [val_main_v17_apply, e, lmG_eq h0 h1 i]
  show ((_ : ℝ) : EReal) - ((_ : ℝ) : EReal) = _
  rw [← EReal.coe_sub]
  beta_reduce
  unfold later
  rw [Finset.sum_eq_sum_Ico_succ_bot hb, add_sub_cancel_left]

theorem ex_eq : R3 (val_main_v19 (F := Ideal) a0 a1) fun h a b => Real.exp (lgR (dotR (qH x0 h) (kH x1 h) a b) + later (lmG (qH x0 h) (kH x1 h) a) b) := fun i => by
  have e : val_main_v18 (F := Ideal) a0 a1 i = _ := congrArg₂ (fun x y : EReal => x + y) (lb_eq h0 h1 i) (v17_eq h0 h1 i)
  rw [val_main_v19_apply, e]
  exact congrArg (fun x : EReal => Ideal.exp x) (EReal.coe_add _ _).symm

theorem w_eq : R3 (val_main_v20_0 (F := Ideal) a0 a1) fun h => wG (qH x0 h) (kH x1 h) := fun i =>
  masked (v20_1_eq i) (ex_eq h0 h1 i) zero_f32

theorem w22_eq : R3 (val_main_v22 (F := Ideal) a0 a1) fun h => wG (qH x0 h) (kH x1 h) := w_eq h0 h1

section Grad
variable (h2 : R3 a2 x2) (h3 : R3 a3 x3)

omit h0 h1 in
include h2 in
theorem v4_eq : R3 (val_main_v4 (F := Ideal) a2) (vH x2) := fun i => by
  have hd : (i 2).val < 64 := (i 2).isLt
  rw [val_main_v4_apply, h2]
  unfold vH
  rw [if_pos hd]

omit h0 h1 in
include h3 in
theorem v24_eq : R3 (val_main_v24 (F := Ideal) a3) (oH x3) := fun i => by
  have hd : (i 2).val < 64 := (i 2).isLt
  rw [val_main_v24_apply, h3]
  unfold oH
  rw [if_pos hd]

omit h0 h1 in
include h2 h3 in
theorem v29_eq : R3 (val_main_v29 (F := Ideal) a2 a3) fun h a b => dotR (oH x3 h) (vH x2 h) a b := fun i => by
  show val_main_v27 (F := Ideal) a2 a3 i = _
  rw [val_main_v27_apply]
  refine (Finset.sum_congr rfl fun k _ => congrArg₂ (· * ·) (v24_eq h3 _) (v4_eq h2 _)).trans ?_
  dsimp only
  rw [dot_half (oH_zero x3 _)]
  refine Eq.trans (Finset.sum_congr rfl fun k _ => (EReal.coe_mul _ _).symm) (coe_sum fun d => oH x3 (i 0).val (i 1).val d * vH x2 (i 0).val (i 2).val d)

include h3 in
/-- The values' gradient. -/
theorem v26_eq : R3 (val_main_v26 (F := Ideal) a0 a1 a3) fun h b d => ∑ a ∈ Finset.range 8192, wG (qH x0 h) (kH x1 h) a b * oH x3 h a d := fun i => by
  rw [val_main_v26_apply, val_main_v25_apply]
  refine (Finset.sum_congr rfl fun k _ => congrArg₂ (· * ·) (v24_eq h3 _) (w22_eq h0 h1 _)).trans ?_
  refine Eq.trans (Finset.sum_congr rfl fun k _ => (mul_comm _ _).trans (EReal.coe_mul _ _).symm) (coe_sum fun a => wG (qH x0 (i 0).val) (kH x1 (i 0).val) a (i 1).val * oH x3 (i 0).val a (i 2).val)

include h2 h3

theorem da_eq : R3 (val_main_v31 (F := Ideal) a0 a1 a2 a3) fun h => daG (qH x0 h) (oH x3 h) (kH x1 h) (vH x2 h) := fun i => by
  have e : val_main_v30 (F := Ideal) a2 a3 i = _ := masked (v20_1_eq i) (v29_eq h2 h3 i) zero_f32
  rw [val_main_v31_apply, e, ex_eq h0 h1 i]
  refine (EReal.coe_mul _ _).symm.trans (congrArg _ ?_)
  unfold daG wG below
  by_cases h : (i 2).val < (i 1).val
  · simp only [if_pos h]; ring
  · simp only [if_neg h]; ring

theorem e_eq : R3 (val_main_v34 (F := Ideal) a0 a1 a2 a3) fun h => eG (qH x0 h) (oH x3 h) (kH x1 h) (vH x2 h) := fun i => by
  have e : val_main_v33 (F := Ideal) a0 a1 a2 a3 i = _ := scan_prefix (lo := 8191) rfl (da_eq h0 h1 h2 h3) (val_main_call6_v0 (F := Ideal)) (fun _ => zero_f32) _ _ i
  rw [val_main_v34_apply, e]
  show -(val_main_v31 (F := Ideal) a0 a1 a2 a3 i : EReal) + _ = _
  rw [da_eq h0 h1 h2 h3 i, ← EReal.coe_neg, ← EReal.coe_add]
  beta_reduce
  unfold eG
  rw [Finset.sum_range_succ]
  refine congrArg _ ?_
  ring

/-- The scores' gradient. -/
theorem dz_eq : R3 (val_main_v39 (F := Ideal) a0 a1 a2 a3) fun h => dzG (qH x0 h) (oH x3 h) (kH x1 h) (vH x2 h) := fun i => by
  have e : val_main_v35 (F := Ideal) a0 a1 a2 a3 i = _ := masked (v15_1_eq i) (e_eq h0 h1 h2 h3 i) zero_f32
  show - -((-(val_main_v35 (F := Ideal) a0 a1 a2 a3 i : EReal)) * val_main_v14_1 (F := Ideal) a0 a1 i)
    + -((-(val_main_v31 (F := Ideal) a0 a1 a2 a3 i : EReal)) * val_main_v12_1 (F := Ideal) a0 a1 i) = _
  rw [e, da_eq h0 h1 h2 h3 i, be_eq h0 h1 i, om_eq h0 h1 i, neg_neg, ← EReal.coe_neg, ← EReal.coe_mul, ← EReal.coe_neg, ← EReal.coe_mul, ← EReal.coe_neg, ← EReal.coe_add]
  refine congrArg _ ?_
  unfold dzG dzR below
  by_cases h : (i 2).val < (i 1).val
  · simp only [if_pos h]; ring
  · simp only [if_neg h]
    unfold daG wG below
    simp only [if_neg h]; ring

/-- The keys' gradient, -/
theorem v40_eq : R3 (val_main_v40 (F := Ideal) a0 a1 a2 a3) fun h b d => ∑ a ∈ Finset.range 8192, dzG (qH x0 h) (oH x3 h) (kH x1 h) (vH x2 h) a b * qH x0 h a d := fun i => by
  rw [val_main_v40_apply]
  refine (Finset.sum_congr rfl fun k _ => congrArg₂ (· * ·) (dz_eq h0 h1 h2 h3 _) (v2_eq h0 _)).trans ?_
  refine Eq.trans (Finset.sum_congr rfl fun k _ => (EReal.coe_mul _ _).symm) (coe_sum fun a => dzG (qH x0 (i 0).val) (oH x3 (i 0).val) (kH x1 (i 0).val) (vH x2 (i 0).val) a (i 1).val * qH x0 (i 0).val a (i 2).val)

/-- and the queries'. -/
theorem v41_eq : R3 (val_main_v41 (F := Ideal) a0 a1 a2 a3) fun h a d => ∑ b ∈ Finset.range 8192, dzG (qH x0 h) (oH x3 h) (kH x1 h) (vH x2 h) a b * kH x1 h b d := fun i => by
  rw [val_main_v41_apply]
  refine (Finset.sum_congr rfl fun k _ => congrArg₂ (· * ·) (dz_eq h0 h1 h2 h3 _) (v3_eq h1 _)).trans ?_
  refine Eq.trans (Finset.sum_congr rfl fun k _ => (EReal.coe_mul _ _).symm) (coe_sum fun b => dzG (qH x0 (i 0).val) (oH x3 (i 0).val) (kH x1 (i 0).val) (vH x2 (i 0).val) (i 1).val b * kH x1 (i 0).val b (i 2).val)

/-- The first result, on all lanes, -/
theorem v43_eq : R3 (val_main_v43 (F := Ideal) a0 a1 a2 a3) fun h a d => ∑ b ∈ Finset.range 8192, dzG (qH x0 h) (oH x3 h) (kH x1 h) (vH x2 h) a b * kH x1 h b d := fun i => by
  unfold val_main_v43
  rw [concatenate_pair_apply]
  split
  · exact v41_eq h0 h1 h2 h3 _
  · rename_i hd
    have hd' : ¬ (i 2).val < 64 := hd
    refine zero_f32.trans (congrArg _ (Finset.sum_eq_zero fun b _ => ?_).symm)
    rw [kH_zero x1 _ _ _ hd', mul_zero]

/-- and the second. -/
theorem v44_eq : R3 (val_main_v44 (F := Ideal) a0 a1 a2 a3) fun h b d => ∑ a ∈ Finset.range 8192, dzG (qH x0 h) (oH x3 h) (kH x1 h) (vH x2 h) a b * qH x0 h a d
      + ∑ a ∈ Finset.range 8192, wG (qH x0 h) (kH x1 h) a b * oH x3 h a ((d + 64) % 128) := fun i => by
  unfold val_main_v44
  rw [concatenate_pair_apply]
  have hd2 : (i 2).val < 128 := (i 2).isLt
  split
  · rename_i hd
    have hd' : (i 2).val < 64 := hd
    refine (v40_eq h0 h1 h2 h3 _).trans (congrArg _ ?_)
    beta_reduce
    rw [Finset.sum_eq_zero (s := Finset.range 8192) (f := fun a => wG (qH x0 (i 0).val) (kH x1 (i 0).val) a (i 1).val * oH x3 (i 0).val a (((i 2).val + 64) % 128)), add_zero]
    · rfl
    · intro a _
      rw [oH_zero x3 _ _ _ (by omega), mul_zero]
  · rename_i hd
    have hd' : ¬ (i 2).val < 64 := hd
    refine (v26_eq h0 h1 h3 _).trans (congrArg _ ?_)
    beta_reduce
    rw [Finset.sum_eq_zero (s := Finset.range 8192) (f := fun a => dzG (qH x0 (i 0).val) (oH x3 (i 0).val) (kH x1 (i 0).val) (vH x2 (i 0).val) a (i 1).val * qH x0 (i 0).val a (i 2).val), zero_add]
    · rw [show ((i 2).val + 64) % 128 = (i 2).val - 64 by omega]
      rfl
    · intro a _
      rw [qH_zero x0 _ _ _ hd', mul_zero]

theorem v45_eq (i : S8x16x512x128.Idx) : val_main_v45 (F := Ideal) a0 a1 a2 a3 i
    = ((∑ a ∈ Finset.range 8192, dzG (qH x0 (i 0).val) (oH x3 (i 0).val) (kH x1 (i 0).val) (vH x2 (i 0).val) a (512 * (i 1).val + (i 2).val) * qH x0 (i 0).val a (i 3).val
      + ∑ a ∈ Finset.range 8192, wG (qH x0 (i 0).val) (kH x1 (i 0).val) a (512 * (i 1).val + (i 2).val) * oH x3 (i 0).val a (((i 3).val + 64) % 128) : ℝ) : EReal) := by
  have b0 : (i 0).val < 8 := (i 0).isLt
  have b1 : (i 1).val < 16 := (i 1).isLt
  have b2 : (i 2).val < 512 := (i 2).isLt
  have b3 : (i 3).val < 128 := (i 3).isLt
  rw [val_main_v45_apply, v44_eq h0 h1 h2 h3]
  have e0 : ((idx_main_v45 i) 0).val = (i 0).val := by
    show ((((i 0).val * 16 + (i 1).val) * 512 + (i 2).val) * 128 + (i 3).val) / 1048576 = (i 0).val
    omega
  have e1 : ((idx_main_v45 i) 1).val = 512 * (i 1).val + (i 2).val := by
    show ((((i 0).val * 16 + (i 1).val) * 512 + (i 2).val) * 128 + (i 3).val) / 128 % 8192 = 512 * (i 1).val + (i 2).val
    omega
  have e2 : ((idx_main_v45 i) 2).val = (i 3).val := by
    show ((((i 0).val * 16 + (i 1).val) * 512 + (i 2).val) * 128 + (i 3).val) % 128 = (i 3).val
    omega
  rw [e0, e1, e2]

end Grad
end Scores

end Cert.ReferenceIdeal.Sb
-- ==== Proof.Sb.HostVal.lean ====
/- The arrays the kernel's host lines prepare, over the real numbers. -/
module

public import proofs.«01_k».proof.Proof.Sb.GridVal
public import proofs.«01_k».proof.Proof.Sb.RefVal
public import Idealize.ShloMosaic.Lib.StableHlo.RunRead

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

theorem V_v3 : (V m c main_v3 : Vec Ideal S16x8192x128 .bf16) = (truncf (F := Ideal) .bf16 (pad S16x8192x128 ![0, 0, 0] ![0, 0, 64] ![0, 0, 0] (mulf (m ((c : Thread nD τ).loc main_arg0) : Vec Ideal S16x8192x64 .f32) (broadcastInDim S16x8192x64 ![] bcast_S_S16x8192x64 (constant (F := Ideal) S_ .f32 0x3E000000#32))) (sitofp (F := Ideal) .f32 (constantI S_ 32 0#32) : FVec Ideal S_ .f32) pads_S16x8192x64_S16x8192x128_000_000_0640 h_S_) bitsLt_bf16_f32) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp
  rfl

theorem V_v6 : (V m c main_v6 : Vec Ideal S16x16x512x128 .bf16) = shapeCast S16x16x512x128 (truncf (F := Ideal) .bf16 (pad S16x8192x128 ![0, 0, 0] ![0, 0, 64] ![0, 0, 0] (m ((c : Thread nD τ).loc main_arg1) : Vec Ideal S16x8192x64 .f32) (sitofp (F := Ideal) .f32 (constantI S_ 32 0#32) : FVec Ideal S_ .f32) pads_S16x8192x64_S16x8192x128_000_000_0640 h_S_) bitsLt_bf16_f32 : Vec Ideal S16x8192x128 .bf16) shapeCasts_S16x8192x128_S16x16x512x128 := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp
  rfl

theorem V_v11 : (V m c main_v11 : Vec Ideal S16x16x512x128 .bf16) = shapeCast S16x16x512x128 (truncf (F := Ideal) .bf16 (concatenate S16x8192x128 2 [⟨S16x8192x64, (m ((c : Thread nD τ).loc main_arg2) : Vec Ideal S16x8192x64 .f32)⟩, ⟨S16x8192x1, (broadcastInDim S16x8192x1 ![] bcast_S_S16x8192x1 (constant (F := Ideal) S_ .f32 0x3F800000#32) : Vec Ideal S16x8192x1 .f32)⟩, ⟨S16x8192x63, (broadcastInDim S16x8192x63 ![] bcast_S_S16x8192x63 (constant (F := Ideal) S_ .f32 0x00000000#32) : Vec Ideal S16x8192x63 .f32)⟩] concatenates_S16x8192x64_S16x8192x1_S16x8192x63_S16x8192x128_d2) bitsLt_bf16_f32 : Vec Ideal S16x8192x128 .bf16) shapeCasts_S16x8192x128_S16x16x512x128 := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp
  rfl

theorem V_v13 : (V m c main_v13 : Vec Ideal S16x8192x128 .bf16) = (truncf (F := Ideal) .bf16 (pad S16x8192x128 ![0, 0, 0] ![0, 0, 64] ![0, 0, 0] (m ((c : Thread nD τ).loc main_arg3) : Vec Ideal S16x8192x64 .f32) (sitofp (F := Ideal) .f32 (constantI S_ 32 0#32) : FVec Ideal S_ .f32) pads_S16x8192x64_S16x8192x128_000_000_0640 h_S_) bitsLt_bf16_f32) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp
  rfl

theorem V_v21 : (V m c main_v21 : Vec Ideal S256x256 .bf16) = (truncf (F := Ideal) .bf16 (uitofp (F := Ideal) .f32 (cmpi .sgt (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))) : IVec S256x256 1) : Vec Ideal S256x256 .f32) bitsLt_bf16_f32) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp

theorem V_v39 : (V m c main_v39 : Vec Ideal S8x8192x128 .f32) = pad S8x8192x128 ![0, 0, 0] ![0, 0, 112] ![0, 0, 0] (Host.slice S8x8192x16 ![0, 0, 511] ![1, 1, 512] (Cert.ReferenceIdeal.Read.val_main_v17 (F := Ideal) (m ((c : Thread nD τ).loc main_arg0) : Vec Ideal S16x8192x64 .f32) (m ((c : Thread nD τ).loc main_arg1) : Vec Ideal S16x8192x64 .f32) : Vec Ideal S8x8192x8192 .f32) slicesBy_S8x8192x8192_S8x8192x16_0s1_0s1_511s512 : Vec Ideal S8x8192x16 .f32) (constant (F := Ideal) S_ .f32 0xF149F2CA#32 : Vec Ideal S_ .f32) pads_S8x8192x16_S8x8192x128_000_000_01120 h_S_ := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12]
  after_reads_simp
  rfl

end Cert.KernelIdeal.Sb
-- ==== Proof.Sb.HostIdx.lean ====
/- The arrays the host hands the kernel, at their indices: the padded arguments, the strict triangle, and the sums of the
   masked logarithms after every key tile's end. -/
module

public import proofs.«01_k».proof.Proof.Sb.HostVal

@[expose] public section

set_option maxRecDepth 16384

noncomputable section

namespace Cert.KernelIdeal.Sb

open Cert.KernelIdeal Cert.KernelIdeal.Gen
open Idealize.ShloMosaic Idealize.ShloMosaic.TcCoe Idealize.ShloMosaic.ValueIdx
open scoped BigOperators

/-- Padding at the end of the last axis leaves the operand where it was, -/
theorem pad_in {l m n n' p : ℕ} {x : FVec Ideal ⟨3, ![l, m, n]⟩ .f32} {f : ℕ → ℕ → ℕ → ℝ} (hx : R3 x f) {u : Shape} (v : u.Idx → Ideal .f32)
    (h : (⟨3, ![l, m, n]⟩ : Shape).Pads ![0, 0, 0] ![0, 0, p] ![0, 0, 0] ⟨3, ![l, m, n']⟩) (hu : 0 < u.numel) (i : (⟨3, ![l, m, n']⟩ : Shape).Idx) (hi : (i 2).val < n) :
    pad ⟨3, ![l, m, n']⟩ ![0, 0, 0] ![0, 0, p] ![0, 0, 0] x v h hu i = ((f (i 0).val (i 1).val (i 2).val : ℝ) : EReal) := by
  have h0 : (i 0).val < l := (i 0).isLt
  have h1 : (i 1).val < m := (i 1).isLt
  rw [pad_apply, dif_pos]
  · refine (hx _).trans (congrArg _ (congr (congrArg₂ f ?_ ?_) ?_))
    · show ((i 0).val - 0) / (0 + 1) = (i 0).val; simp
    · show ((i 1).val - 0) / (0 + 1) = (i 1).val; simp
    · show ((i 2).val - 0) / (0 + 1) = (i 2).val; simp
  · intro a
    match a with
    | ⟨0, _⟩ => show 0 ≤ (i 0).val ∧ ((i 0).val - 0) % (0 + 1) = 0 ∧ ((i 0).val - 0) / (0 + 1) < l; omega
    | ⟨1, _⟩ => show 0 ≤ (i 1).val ∧ ((i 1).val - 0) % (0 + 1) = 0 ∧ ((i 1).val - 0) / (0 + 1) < m; omega
    | ⟨2, _⟩ => show 0 ≤ (i 2).val ∧ ((i 2).val - 0) % (0 + 1) = 0 ∧ ((i 2).val - 0) / (0 + 1) < n; omega

/-- and beyond its end is the value padded with. -/
theorem pad_out {l m n n' p : ℕ} (x : FVec Ideal ⟨3, ![l, m, n]⟩ .f32) {u : Shape} (v : u.Idx → Ideal .f32)
    (h : (⟨3, ![l, m, n]⟩ : Shape).Pads ![0, 0, 0] ![0, 0, p] ![0, 0, 0] ⟨3, ![l, m, n']⟩) (hu : 0 < u.numel) (i : (⟨3, ![l, m, n']⟩ : Shape).Idx) (hi : ¬ (i 2).val < n) :
    pad ⟨3, ![l, m, n']⟩ ![0, 0, 0] ![0, 0, p] ![0, 0, 0] x v h hu i = v (Shape.Idx.first hu) := by
  rw [pad_apply, dif_neg]
  intro hin
  have h2 : 0 ≤ (i 2).val ∧ ((i 2).val - 0) % (0 + 1) = 0 ∧ ((i 2).val - 0) / (0 + 1) < n := hin 2
  omega

theorem zero_int : (FloatOps.sitofp .f32 (0#32) : Ideal .f32) = ((0 : ℝ) : EReal) := by
  show (((0#32 : BitVec 32).toInt : ℝ) : EReal) = _
  simp

theorem pad_half {x : FVec Ideal S16x8192x64 .f32} {f : ℕ → ℕ → ℕ → ℝ} (hx : R3 x f)
    (h : S16x8192x64.Pads ![0, 0, 0] ![0, 0, 64] ![0, 0, 0] S16x8192x128) (hu : 0 < S_.numel) :
    R3 (pad S16x8192x128 ![0, 0, 0] ![0, 0, 64] ![0, 0, 0] x (sitofp (F := Ideal) .f32 (constantI S_ 32 0#32)) h hu : FVec Ideal S16x8192x128 .f32)
      fun a b d => if d < 64 then f a b d else 0 := fun i => by
  beta_reduce
  by_cases hd : (i 2).val < 64
  · rw [if_pos hd]; exact pad_in hx _ h hu i hd
  · rw [if_neg hd]; exact (pad_out x _ h hu i hd).trans zero_int

/-- Four axes of three: the keys in tiles. -/
theorem tiled {x : (⟨3, ![16, 8192, 128]⟩ : Shape).Idx → EReal} {f : ℕ → ℕ → ℕ → ℝ} (hx : R3 x f)
    (hc : (⟨3, ![16, 8192, 128]⟩ : Shape).ShapeCasts ⟨4, ![16, 16, 512, 128]⟩) (h : Fin 16) (j : Fin 16) (r : Fin 512) (d : Fin 128) :
    shapeCast ⟨4, ![16, 16, 512, 128]⟩ x hc (ValueIdx.ix4 h j r d) = ((f h.val (512 * j.val + r.val) d.val : ℝ) : EReal) := by
  have hk : 512 * j.val + r.val < 8192 := by omega
  refine (shapeCast_apply x hc (ValueIdx.ix4 h j r d) (ValueIdx.ix3 h ⟨512 * j.val + r.val, hk⟩ d) ?_).trans (hx _)
  rw [Shape.rowMajor_val_three, Shape.rowMajor_val_four]
  show (h.val * 8192 + (512 * j.val + r.val)) * 128 + d.val = ((h.val * 16 + j.val) * 512 + r.val) * 128 + d.val
  omega

/-- The values, a lane of ones after them and then noughts. -/
theorem joined {x : FVec Ideal S16x8192x64 .f32} {f : ℕ → ℕ → ℕ → ℝ} (hx : R3 x f) (y : FVec Ideal S16x8192x1 .f32) (hy : ∀ i, y i = ((1 : ℝ) : EReal))
    (z : FVec Ideal S16x8192x63 .f32) (hz : ∀ i, z i = ((0 : ℝ) : EReal)) (h : Shape.Concatenates [S16x8192x64, S16x8192x1, S16x8192x63] S16x8192x128 2) :
    R3 (concatenate S16x8192x128 2 [⟨S16x8192x64, x⟩, ⟨S16x8192x1, y⟩, ⟨S16x8192x63, z⟩] h) fun a b d => if d < 64 then f a b d else if d = 64 then 1 else 0 := fun i => by
  beta_reduce
  refine (concatenate_cons_apply S16x8192x128 2 ⟨S16x8192x64, x⟩ ⟨S16x8192x1, y⟩ [⟨S16x8192x63, z⟩] h i).trans ?_
  rw [concatenateAt_cons]
  by_cases hd : (i 2).val < 64
  · rw [if_pos hd]
    exact (dif_pos hd).trans (hx _)
  · rw [if_neg hd]
    refine (dif_neg hd).trans ?_
    rw [concatenateAt_cons]
    by_cases he : (i 2).val = 64
    · rw [if_pos he]
      exact (dif_pos (show (i 2).val - 64 < 1 by omega)).trans (hy _)
    · rw [if_neg he]
      refine (dif_neg (show ¬ (i 2).val - 64 < 1 by omega)).trans ?_
      rw [concatenateAt_singleton]
      exact hz _

/-- One key tile's last column in every tile's width. -/
theorem ends {x : FVec Ideal S8x8192x8192 .f32} {f : ℕ → ℕ → ℕ → ℝ} (hx : R3 x f) (h : S8x8192x8192.SlicesBy ![0, 0, 511] ![1, 1, 512] S8x8192x16) :
    R3 (Host.slice S8x8192x16 ![0, 0, 511] ![1, 1, 512] x h) fun a b j => f a b (512 * j + 511) := fun i => by
  rw [Host.slice_apply]
  refine (hx _).trans (congrArg _ (congr (congrArg₂ f ?_ ?_) ?_))
  · show 0 + 1 * (i 0).val = (i 0).val; omega
  · show 0 + 1 * (i 1).val = (i 1).val; omega
  · show 511 + 512 * (i 2).val = 512 * (i 2).val + 511; omega

variable (m : (ℓ : Loc nD τ sig) → Buf (Elt Ideal) ℓ) (c : Dev nD) {x0 x1 x2 x3 : ℕ → ℕ → ℕ → ℝ}

theorem q_at (h0 : R3 (m ((c : Thread nD τ).loc main_arg0) : Vec Ideal S16x8192x64 .f32) x0) (h : Fin 8) (a : Fin 8192) (d : Fin 128) :
    (V m c main_v3 : Vec Ideal S16x8192x128 .bf16) (ValueIdx.ix3 (hd8 h) a d) = ((qH x0 h.val a.val d.val : ℝ) : EReal) := by
  rw [V_v3]
  refine (pad_half (f := fun a b d => x0 a b d * (1 / 8)) (fun i => ?_) pads_S16x8192x64_S16x8192x128_000_000_0640 h_S_ (ValueIdx.ix3 (hd8 h) a d)).trans rfl
  exact (congrArg₂ (fun y z : EReal => y * z) (h0 i) eighth_f32).trans (EReal.coe_mul _ _).symm

theorem k_at (h1 : R3 (m ((c : Thread nD τ).loc main_arg1) : Vec Ideal S16x8192x64 .f32) x1) (h : Fin 8) (j : Fin 16) (r : Fin 512) (d : Fin 128) :
    (V m c main_v6 : Vec Ideal S16x16x512x128 .bf16) (ValueIdx.ix4 (hd8 h) j r d) = ((kH x1 h.val (512 * j.val + r.val) d.val : ℝ) : EReal) := by
  rw [V_v6]
  exact (tiled (pad_half h1 pads_S16x8192x64_S16x8192x128_000_000_0640 h_S_) _ (hd8 h) j r d).trans rfl

theorem v_at (h2 : R3 (m ((c : Thread nD τ).loc main_arg2) : Vec Ideal S16x8192x64 .f32) x2) (h : Fin 8) (j : Fin 16) (r : Fin 512) (d : Fin 128) :
    (V m c main_v11 : Vec Ideal S16x16x512x128 .bf16) (ValueIdx.ix4 (hd8 h) j r d) = ((vH x2 h.val (512 * j.val + r.val) d.val : ℝ) : EReal) := by
  rw [V_v11]
  exact (tiled (joined h2 _ (fun _ => one_f32) _ (fun _ => zero_f32) concatenates_S16x8192x64_S16x8192x1_S16x8192x63_S16x8192x128_d2) _ (hd8 h) j r d).trans rfl

theorem o_at (h3 : R3 (m ((c : Thread nD τ).loc main_arg3) : Vec Ideal S16x8192x64 .f32) x3) (h : Fin 8) (a : Fin 8192) (d : Fin 128) :
    (V m c main_v13 : Vec Ideal S16x8192x128 .bf16) (ValueIdx.ix3 (hd8 h) a d) = ((oH x3 h.val a.val d.val : ℝ) : EReal) := by
  rw [V_v13]
  exact (pad_half h3 pads_S16x8192x64_S16x8192x128_000_000_0640 h_S_ (ValueIdx.ix3 (hd8 h) a d)).trans rfl

theorem t_at (r d : Fin 256) : (V m c main_v21 : Vec Ideal S256x256 .bf16) (ValueIdx.ix2 r d) = ((triR r.val d.val : ℝ) : EReal) := by
  rw [V_v21]
  show (((IntOp.cmpi .sgt (BitVec.ofNat 32 r.val) (BitVec.ofNat 32 d.val) : BitVec 1).toNat : ℝ) : EReal) = _
  rw [WordCmp.cmpi_sgt_ofNat (by omega) (by omega)]
  unfold triR
  by_cases h : d.val < r.val
  · rw [if_pos h, decide_eq_true h]; simp
  · rw [if_neg h, decide_eq_false h]; simp

theorem r_at (h0 : R3 (m ((c : Thread nD τ).loc main_arg0) : Vec Ideal S16x8192x64 .f32) x0) (h1 : R3 (m ((c : Thread nD τ).loc main_arg1) : Vec Ideal S16x8192x64 .f32) x1)
    (h : Fin 8) (a : Fin 8192) (j : ℕ) (hj : j < 16) :
    (V m c main_v39 : Vec Ideal S8x8192x128 .f32) (ValueIdx.ix3 h a (lane j hj)) = ((later (lmG (qH x0 h.val) (kH x1 h.val) a.val) (512 * j + 511) : ℝ) : EReal) := by
  rw [V_v39]
  exact (pad_in (ends (Cert.ReferenceIdeal.Sb.v17_eq h0 h1) slicesBy_S8x8192x8192_S8x8192x16_0s1_0s1_511s512) _ pads_S8x8192x16_S8x8192x128_000_000_01120 h_S_ (ValueIdx.ix3 h a (lane j hj)) hj).trans rfl

theorem arrays (h0 : R3 (m ((c : Thread nD τ).loc main_arg0) : Vec Ideal S16x8192x64 .f32) x0) (h1 : R3 (m ((c : Thread nD τ).loc main_arg1) : Vec Ideal S16x8192x64 .f32) x1)
    (h2 : R3 (m ((c : Thread nD τ).loc main_arg2) : Vec Ideal S16x8192x64 .f32) x2) (h3 : R3 (m ((c : Thread nD τ).loc main_arg3) : Vec Ideal S16x8192x64 .f32) x3) :
    Arrays m c (qH x0) (kH x1) (vH x2) (oH x3) :=
  ⟨q_at m c h0, k_at m c h1, v_at m c h2, o_at m c h3, t_at m c, r_at m c h0 h1⟩

end Cert.KernelIdeal.Sb
-- ==== Proof.Sb.Final.lean ====
/- The kernel's two results and the reference's, from finite arguments, are the same two arrays. -/
module

public import proofs.«01_k».proof.Defs
public import proofs.«01_k».proof.Proof.Sb.HostIdx
public import Idealize.ShloMosaic.Lib.ReduceAll

@[expose] public section

set_option maxRecDepth 16384

noncomputable section

namespace Cert.Pre_finite.Sb

open Idealize.ShloMosaic

/-- The precondition's shape relations. -/
instance facts : Cert.Pre_finite.Facts where
  bcast_S_S16x8192x64 := by decide
  reducesTo_S16x8192x64_S_d0_1_2 := by decide
  h_S_ := by decide

theorem real_of_lt {x : Ideal .f32} (h : FloatOps.cmpf .olt (FloatOps.hostAbsf x) (FloatOps.ofBits (F := Ideal) .f32 0x7F800000#32) = 1#1) : ∃ r : ℝ, x = (r : EReal) := by
  rw [Cert.KernelIdeal.Sb.inf_f32] at h
  change Ideal.cmp .olt (max (x : EReal) (-(x : EReal))) (⊤ : EReal) = 1#1 at h
  unfold Ideal.cmp at h
  have hx : ∀ y : EReal, BitVec.ofBool (decide (max y (-y) < (⊤ : EReal))) = 1#1 → ∃ r : ℝ, y = (r : EReal) := by
    intro y hy
    induction y using EReal.rec with
    | bot => simp at hy
    | top => simp at hy
    | coe r => exact ⟨r, rfl⟩
  exact hx x h

instance : Subsingleton S_.Idx := ⟨fun x y => funext fun a => a.elim0⟩

theorem reals {a0 a1 a2 a3 : FVec Ideal S16x8192x64 .f32} (h : Cert.Pre_finite.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e := congrFun h (Shape.Idx.first facts.h_S_)
  unfold Cert.Pre_finite.fn Cert.Pre_finite.fn_part1 at e
  obtain ⟨e012, e3⟩ := IntOp.andi_eq_one.1 e
  obtain ⟨e01, e2⟩ := IntOp.andi_eq_one.1 e012
  obtain ⟨e0, e1⟩ := IntOp.andi_eq_one.1 e01
  exact ⟨fun i => real_of_lt (Host.reduce_andi_all _ _ _ _ _ e0 i), fun i => real_of_lt (Host.reduce_andi_all _ _ _ _ _ e1 i),
    fun i => real_of_lt (Host.reduce_andi_all _ _ _ _ _ e2 i), fun i => real_of_lt (Host.reduce_andi_all _ _ _ _ _ e3 i)⟩

end Cert.Pre_finite.Sb

namespace Cert.KernelIdeal.Sb

open Cert.KernelIdeal Cert.KernelIdeal.Gen
open Idealize.ShloMosaic Idealize.ShloMosaic.TcCoe
open scoped BigOperators

theorem R3.of_reals {l n p : ℕ} {x : (⟨3, ![l, n, p]⟩ : Shape).Idx → EReal} (h : ∀ i, ∃ r : ℝ, x i = (r : EReal)) : ∃ f, R3 x f := by
  choose g hg using h
  refine ⟨fun a b d => if hh : a < l ∧ b < n ∧ d < p then g (ValueIdx.ix3 ⟨a, hh.1⟩ ⟨b, hh.2.1⟩ ⟨d, hh.2.2⟩) else 0, fun i => ?_⟩
  beta_reduce
  rw [dif_pos ⟨(i 0).isLt, (i 1).isLt, (i 2).isLt⟩, ← hg]
  congr 1
  exact ValueIdx.eq_ix3 i

section Results
variable (m : (ℓ : Loc nD τ sig) → Buf (Elt Ideal) ℓ) (c : Dev nD) (g : Dev nD → PrngReg)

/-- The two results the kernel ends with, -/
def res0 : Buf (Elt Ideal) ((c.tc : Thread nD τ).loc main_v40_0) := (dats m 0 c).arrAt 6 cfg0.N
def res1 : Buf (Elt Ideal) ((c.tc : Thread nD τ).loc main_v40_1) := (dats m 0 c).arrAt 7 cfg0.N

theorem ends_with : θ_run (Cert.KernelIdeal.defs (F := Ideal)) (onTc (τ := τ) (Cert.KernelIdeal.main (F := Ideal))) ⟨m, fun _ => 0, g⟩ (fun r => ∀ c : Dev nD,
      r.2.mem ((c.tc : Thread nD τ).loc main_v40_0) = res0 m c ∧ r.2.mem ((c.tc : Thread nD τ).loc main_v40_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run Cert.KernelIdeal.defs _ _).mono (fun _ h c => ⟨(h.1 c).1 6, (h.1 c).1 7, h.2 c⟩) (θ_run_and (run_post m g) (unchanged m g))

variable (m' : (ℓ : Loc Cert.ReferenceIdeal.nD Cert.ReferenceIdeal.τ Cert.ReferenceIdeal.sig) → Buf (Elt Ideal) ℓ)

/-- which are the reference's. -/
theorem same (hp : Cert.Pre_KernelIdeal_finite m)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3)) :
    Cert.ReferenceIdeal.Value.res_main_v43 m' c = res0 m c ∧ Cert.ReferenceIdeal.Value.res_main_v45 m' c = res1 m c := by
  obtain ⟨f0, f1, f2, f3⟩ := Cert.Pre_finite.Sb.reals (hp c)
  obtain ⟨x0, h0⟩ := R3.of_reals f0
  obtain ⟨x1, h1⟩ := R3.of_reals f1
  obtain ⟨x2, h2⟩ := R3.of_reals f2
  obtain ⟨x3, h3⟩ := R3.of_reals f3
  have A := arrays m c h0 h1 h2 h3
  rw [Cert.ReferenceIdeal.Read.val_main_v43_eq, Cert.ReferenceIdeal.Read.val_main_v45_eq, e0, e1, e2, e3]
  constructor
  · refine funext fun (i : (⟨3, ![8, 8192, 128]⟩ : Shape).Idx) => ?_
    refine (Cert.ReferenceIdeal.Sb.v43_eq h0 h1 h2 h3 i).trans (Eq.symm ?_)
    rw [ValueIdx.eq_ix3 i]
    exact final6 A (i 0) (i 1) (i 2)
  · refine funext fun (i : (⟨4, ![8, 16, 512, 128]⟩ : Shape).Idx) => ?_
    refine (Cert.ReferenceIdeal.Sb.v45_eq h0 h1 h2 h3 i).trans (Eq.symm ?_)
    rw [ValueIdx.eq_ix4 i]
    exact final7 A (i 0) (i 1) (i 2) (i 3)

end Results

theorem algebraic : Cert.algebraic_KernelIdeal_ReferenceIdeal_pre_finite := fun m g m' g' hp ha =>
  ⟨res0 m, res1 m, ends_with m g, (θ_run Cert.ReferenceIdeal.defs _ _).mono (fun r h c =>
    have s := same m c m' hp (ha c).1 (ha c).2.1 (ha c).2.2.1 (ha c).2.2.2
    ⟨(h c).1.trans s.1, (h c).2.1.trans s.2, (h c).2.2⟩) (Cert.ReferenceIdeal.Value.run (F := Ideal) m' g')⟩

end Cert.KernelIdeal.Sb
-- ==== Proof.Up.Out.lean ====
/- What the weight gradient's grid leaves: each block of the result is the sum, over the row tiles, of the products of a
   tile of each operand, so each element is the sum over all the rows. -/
module

public import proofs.«01_k».proof.Proof.Gen.UpGradIdeal.Value
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.UpGradIdeal.Up

open Cert.UpGradIdeal Cert.UpGradIdeal.Gen
open Idealize.ShloMosaic Idealize.ShloMosaic.TcCoe Idealize.ShloMosaic.ValueIdx
open scoped BigOperators

/-! An array read at natural numbers. -/

def rd2 {a b : ℕ} (x : (⟨2, ![a, b]⟩ : Shape).Idx → EReal) (i j : ℕ) : EReal := if h : i < a ∧ j < b then x (ix2 ⟨i, h.1⟩ ⟨j, h.2⟩) else 0
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem rd2_at {a b : ℕ} (x : (⟨2, ![a, b]⟩ : Shape).Idx → EReal) (i : Fin a) (j : Fin b) : rd2 x i.val j.val = x (ix2 i j) := dif_pos ⟨i.isLt, j.isLt⟩
theorem rd3_at {a b d : ℕ} (x : (⟨3, ![a, b, d]⟩ : Shape).Idx → EReal) (i : Fin a) (j : Fin b) (k : Fin d) : rd3 x i.val j.val k.val = x (ix3 i j k) :=
  dif_pos ⟨i.isLt, j.isLt, k.isLt⟩

/-! A point's product. -/

theorem tn_apply (a : FVec Ideal S2048x512 .bf16) (b : FVec Ideal S2048x1408 .bf16) (i : Fin 512) (j : Fin 1408) :
    matmul dot_S2048x512_S2048x1408_S512x1408_0_0_1_1_n_n none a b (constant (F := Ideal) S512x1408 .f32 0x00000000#32) (ix2 i j)
      = ∑ k : Fin 2048, (a (ix2 k i) : EReal) * b (ix2 k j) := by
  refine (Ideal.matmul_apply _ none a b _ (ix2 i j)).trans ?_
  rw [show constant (F := Ideal) S512x1408 .f32 0x00000000#32 (ix2 i j) = (0 : EReal) from Ideal.ofBits_zero_f32, zero_add,
    ← Equiv.sum_comp (contrEquiv1 dot_S2048x512_S2048x1408_S512x1408_0_0_1_1_n_n 2048 rfl rfl).symm]
  refine Finset.sum_congr rfl fun k _ => congrArg₂ (fun y z : EReal => y * z) (congrArg a (funext fun x => Fin.ext ?_)) (congrArg b (funext fun x => Fin.ext ?_))
  · have hk := contrEquiv1_symm_val dot_S2048x512_S2048x1408_S512x1408_0_0_1_1_n_n 2048 rfl rfl k
    match x with
    | ⟨0, _⟩ => exact hk
    | ⟨1, _⟩ => rfl
  · have hk := contrEquiv1_symm_val dot_S2048x512_S2048x1408_S512x1408_0_0_1_1_n_n 2048 rfl rfl k
    match x with
    | ⟨0, _⟩ => exact hk
    | ⟨1, _⟩ => rfl

theorem cast_at (x : FVec Ideal S1x2048x1408 .bf16) (h : S1x2048x1408.ShapeCasts S2048x1408) (k : Fin 2048) (j : Fin 1408) :
    shapeCast S2048x1408 x h (ix2 k j) = x (ix3 0 k j) :=
  shapeCast_1ab_ab_apply x h k j

theorem pay1_at (x : Vec Ideal S2048x512 .bf16) (y : Vec Ideal S1x2048x1408 .bf16) (i : Fin 512) (j : Fin 1408) :
    k0_pay1 (F := Ideal) x y (ix2 i j) = ∑ k : Fin 2048, (x (ix2 k i) : EReal) * y (ix3 0 k j) := by
  unfold k0_pay1
  rw [shapeCast_self]
  refine (tn_apply _ _ i j).trans (Finset.sum_congr rfl fun k _ => ?_)
  rw [cast_at]

/-! What each case leaves. -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S2048x512 .bf16) (h1 : a1.IsWhole) (a2 : Memref sig .tc .vmem S1x2048x1408 .bf16) (h2 : a2.IsWhole)
    (a3 : Memref sig .tc .vmem S512x1408 .f32) (h3 : a3.IsWhole) (hc0 : cond0_0 i) (hc1 : ¬cond0_1 i) (x : Vec F S2048x512 .bf16) (y : Vec F S1x2048x1408 .bf16) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero hz2]
  simp only [View.readAt_eq_ld, h1.read_unread, h2.read_unread, View.ld_unit_zero (S := S2048x512) hz2, View.ld_unit_zero (S := S1x2048x1408) hz3]

theorem out_B (c : Dev nD) (i : grid0.Coords) (a1 : Memref sig .tc .vmem S2048x512 .bf16) (h1 : a1.IsWhole) (a2 : Memref sig .tc .vmem S1x2048x1408 .bf16) (h2 : a2.IsWhole)
    (a3 : Memref sig .tc .vmem S512x1408 .f32) (h3 : a3.IsWhole) (hc0 : ¬cond0_0 i) (hc1 : cond0_1 i) (x : Vec F S2048x512 .bf16) (y : Vec F S1x2048x1408 .bf16) (o : Vec F S512x1408 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero hz2]
  simp only [View.readAt_eq_ld, h1.read_unread, h2.read_unread, h3.read_unread, View.ld_unit_zero (S := S2048x512) hz2, View.ld_unit_zero (S := S1x2048x1408) hz3,
    View.ld_unit_zero (S := S512x1408) hz2]

end Cases

/-! The grid. -/

section Grid
variable (m : (ℓ : Loc nD τ sig) → Buf (Elt Ideal) ℓ) (c : Dev nD)

/-- The two operands. -/
def X : ℕ → ℕ → EReal := rd2 (V m c main_v13 : Vec Ideal S8192x1024 .bf16)
def Y : ℕ → ℕ → ℕ → EReal := rd3 (V m c main_v19 : Vec Ideal S2x8192x2816 .bf16)

theorem idx0 : ∀ t : Fin grid0.N, win0_0.index t (0 : Fin 2) = t.val % 4 ∧ win0_0.index t (1 : Fin 2) = t.val / 16 := by decide +kernel
theorem idx1 : ∀ t : Fin grid0.N, win0_1.index t (0 : Fin 3) = t.val / 4 % 4 / 2 ∧ win0_1.index t (1 : Fin 3) = t.val % 4 ∧ win0_1.index t (2 : Fin 3) = t.val / 4 % 2 := by decide +kernel
theorem idx2 : ∀ t : Fin grid0.N, win0_2.index t (0 : Fin 2) = t.val / 16 ∧ win0_2.index t (1 : Fin 2) = t.val / 4 % 4 := by decide +kernel

theorem iblk0_at (t : Fin cfg0.N) (k : Fin 2048) (i : Fin 512) : (iblk m c 0 t : Vec Ideal S2048x512 .bf16) (ix2 k i) = X m c (2048 * (t.val % 4) + k.val) (512 * (t.val / 16) + i.val) := by
  obtain ⟨e0, e1⟩ := idx0 t
  have hN : t.val < 32 := t.isLt
  refine Eq.trans ?_ (rd2_at (V m c main_v13 : Vec Ideal S8192x1024 .bf16) ⟨2048 * (t.val % 4) + k.val, by omega⟩ ⟨512 * (t.val / 16) + i.val, by omega⟩).symm
  refine congrArg (V m c main_v13 : Vec Ideal S8192x1024 .bf16) (funext fun a => Fin.ext ?_)
  match a with
  | ⟨0, _⟩ => show win0_0.index t (0 : Fin 2) * 2048 + 1 * k.val = 2048 * (t.val % 4) + k.val; omega
  | ⟨1, _⟩ => show win0_0.index t (1 : Fin 2) * 512 + 1 * i.val = 512 * (t.val / 16) + i.val; omega

theorem iblk1_at (t : Fin cfg0.N) (k : Fin 2048) (j : Fin 1408) : (iblk m c 1 t : Vec Ideal S1x2048x1408 .bf16) (ix3 0 k j)
    = Y m c (t.val / 4 % 4 / 2) (2048 * (t.val % 4) + k.val) (1408 * (t.val / 4 % 2) + j.val) := by
  obtain ⟨e0, e1, e2⟩ := idx1 t
  refine Eq.trans ?_ (rd3_at (V m c main_v19 : Vec Ideal S2x8192x2816 .bf16) ⟨t.val / 4 % 4 / 2, by omega⟩ ⟨2048 * (t.val % 4) + k.val, by omega⟩ ⟨1408 * (t.val / 4 % 2) + j.val, by omega⟩).symm
  refine congrArg (V m c main_v19 : Vec Ideal S2x8192x2816 .bf16) (funext fun a => Fin.ext ?_)
  match a with
  | ⟨0, _⟩ => show win0_1.index t (0 : Fin 3) * 1 + 1 * 0 = t.val / 4 % 4 / 2; omega
  | ⟨1, _⟩ => show win0_1.index t (1 : Fin 3) * 2048 + 1 * k.val = 2048 * (t.val % 4) + k.val; omega
  | ⟨2, _⟩ => show win0_1.index t (2 : Fin 3) * 1408 + 1 * j.val = 1408 * (t.val / 4 % 2) + j.val; omega

theorem emb2 (t : Fin cfg0.N) (y : S512x1408.Idx) (h0 : 512 * (t.val / 16) + (y 0).val < 1024) (h1 : 1408 * (t.val / 4 % 4) + (y 1).val < 5632) :
    ((cfg0.win 2).blk t).view.emb y = (ix2 ⟨512 * (t.val / 16) + (y 0).val, h0⟩ ⟨1408 * (t.val / 4 % 4) + (y 1).val, h1⟩ : S1024x5632.Idx) := by
  obtain ⟨e0, e1⟩ := idx2 t
  funext a; apply Fin.ext
  match a with
  | ⟨0, _⟩ => show win0_2.index t (0 : Fin 2) * 512 + 1 * (y 0).val = 512 * (t.val / 16) + (y 0).val; omega
  | ⟨1, _⟩ => show win0_2.index t (1 : Fin 2) * 1408 + 1 * (y 1).val = 1408 * (t.val / 4 % 4) + (y 1).val; omega

/-- The products of row tile `s` of the blocks at a point. -/
def part (n i j s : ℕ) : EReal := ∑ k ∈ Finset.range 2048, X m c (2048 * s + k) (512 * (n / 16) + i) * Y m c (n / 4 % 4 / 2) (2048 * s + k) (1408 * (n / 4 % 2) + j)

theorem pay_at (t : Fin cfg0.N) (i : Fin 512) (j : Fin 1408) : k0_pay1 (F := Ideal) (iblk m c 0 t) (iblk m c 1 t) (ix2 i j) = part m c t.val i.val j.val (t.val % 4) := by
  refine (pay1_at _ _ i j).trans ?_
  unfold part
  rw [Finset.sum_range]
  exact Finset.sum_congr rfl fun k _ => congrArg₂ (fun y z : EReal => y * z) (iblk0_at m c t k i) (iblk1_at m c t k j)

theorem outs_at : ∀ (n : ℕ) (h : n < cfg0.N) (i : Fin 512) (j : Fin 1408), outsAt0 m c n h (ix2 i j) = ∑ s ∈ Finset.range (n % 4 + 1), part m c n i.val j.val s
  | 0, h, i, j => by
    rw [outsAt0_A m c ⟨0, h⟩ rfl (by show ¬ 1 ≤ 0 % 4; decide), out_A, pay_at]
    exact (Finset.sum_range_one _).symm
  | n + 1, h, i, j => by
    by_cases h0 : (n + 1) % 4 = 0
    · rw [outsAt0_A m c ⟨n + 1, h⟩ h0 (by show ¬ 1 ≤ (n + 1) % 4; omega), out_A, pay_at]
      show part m c (n + 1) i.val j.val ((n + 1) % 4) = _
      rw [h0]
      exact (Finset.sum_range_one _).symm
    · have e : (n + 1) % 4 = n % 4 + 1 := by omega
      rw [outsAt0_B m c ⟨n + 1, h⟩ h0 (by show 1 ≤ (n + 1) % 4; omega), out_B]
      unfold k0_pay2
      rw [shapeCast_self]
      refine (congrArg₂ (fun y z : EReal => y + z) (outs_at n (Nat.lt_of_succ_lt h) i j) (pay_at m c ⟨n + 1, h⟩ i j)).trans ?_
      show _ + part m c (n + 1) i.val j.val ((n + 1) % 4) = _
      rw [e, Finset.sum_range_succ (fun s => part m c (n + 1) i.val j.val s) (n % 4 + 1)]
      refine congrArg (· + part m c (n + 1) i.val j.val (n % 4 + 1)) (Finset.sum_congr rfl fun s _ => ?_)
      unfold part
      rw [show (n + 1) / 16 = n / 16 by omega, show (n + 1) / 4 = n / 4 by omega]

theorem sum_tiles {M : Type} [AddCommMonoid M] (f : ℕ → M) : ∑ s ∈ Finset.range 4, ∑ k ∈ Finset.range 2048, f (2048 * s + k) = ∑ r ∈ Finset.range 8192, f r := by
  have h : ∀ n, ∑ s ∈ Finset.range n, ∑ k ∈ Finset.range 2048, f (2048 * s + k) = ∑ r ∈ Finset.range (2048 * n), f r := by
    intro n
    induction n with
    | zero => rfl
    | succ n ih => rw [Finset.sum_range_succ, ih, Nat.mul_succ, Finset.sum_range_add]
  exact h 4

/-- The array after the run. -/
theorem final (i : S1024x5632.Idx) : ((dats m 0 c).arrAt 2 cfg0.N : Vec Ideal S1024x5632 .f32) i
    = ∑ r ∈ Finset.range 8192, X m c r (i 0).val * Y m c ((i 1).val / 2816) r ((i 1).val % 2816) := by
  refine (dats m 0 c).arrAt_forall_of_cover 2 (fun (i : S1024x5632.Idx) (x : EReal) => x = ∑ r ∈ Finset.range 8192, X m c r (i 0).val * Y m c ((i 1).val / 2816) r ((i 1).val % 2816))
    (fun t hf y => ?_) (fun i => ?_) i
  · change S512x1408.Idx at y
    have hN : t.val < 32 := t.isLt
    have h0 : (y 0).val < 512 := (y 0).isLt
    have h1 : (y 1).val < 1408 := (y 1).isLt
    rw [emb2 t y (by omega) (by omega)]
    show (dats m 0 c).after 2 t y = _
    have h3 : t.val % 4 = 3 := (flush0_2 t).mp hf
    rw [after0_2]
    refine (congrArg (outsAt0 m c t.val t.isLt) (eq_ix2 y)).trans ((outs_at m c t.val t.isLt (y 0) (y 1)).trans ?_)
    rw [h3]
    refine (sum_tiles fun r => X m c r (512 * (t.val / 16) + (y 0).val) * Y m c (t.val / 4 % 4 / 2) r (1408 * (t.val / 4 % 2) + (y 1).val)).trans ?_
    refine Finset.sum_congr rfl fun r _ => ?_
    show _ = X m c r (512 * (t.val / 16) + (y 0).val) * Y m c ((1408 * (t.val / 4 % 4) + (y 1).val) / 2816) r ((1408 * (t.val / 4 % 4) + (y 1).val) % 2816)
    rw [show (1408 * (t.val / 4 % 4) + (y 1).val) / 2816 = t.val / 4 % 4 / 2 by omega, show (1408 * (t.val / 4 % 4) + (y 1).val) % 2816 = 1408 * (t.val / 4 % 2) + (y 1).val by omega]
  · have h0 : (i 0).val < 1024 := (i 0).isLt
    have h1 : (i 1).val < 5632 := (i 1).isLt
    have hN : 16 * ((i 0).val / 512) + 4 * ((i 1).val / 1408) + 3 < cfg0.N := by show _ < 32; omega
    refine ⟨⟨16 * ((i 0).val / 512) + 4 * ((i 1).val / 1408) + 3, hN⟩, (flush0_2 _).mpr (by show (16 * ((i 0).val / 512) + 4 * ((i 1).val / 1408) + 3) % 4 = 3; omega), ?_⟩
    have hm := ((cfg0.win 2).blk ⟨16 * ((i 0).val / 512) + 4 * ((i 1).val / 1408) + 3, hN⟩).view.emb_mem_set (ix2 ⟨(i 0).val % 512, by omega⟩ ⟨(i 1).val % 1408, by omega⟩ : S512x1408.Idx)
    rw [emb2 _ _ (by show 512 * ((16 * ((i 0).val / 512) + 4 * ((i 1).val / 1408) + 3) / 16) + (i 0).val % 512 < 1024; omega)
      (by show 1408 * ((16 * ((i 0).val / 512) + 4 * ((i 1).val / 1408) + 3) / 4 % 4) + (i 1).val % 1408 < 5632; omega)] at hm
    refine (congrArg (· ∈ _) ?_).mp hm
    funext x; apply Fin.ext
    match x with
    | ⟨0, _⟩ => show 512 * ((16 * ((i 0).val / 512) + 4 * ((i 1).val / 1408) + 3) / 16) + (i 0).val % 512 = (i 0).val; omega
    | ⟨1, _⟩ => show 1408 * ((16 * ((i 0).val / 512) + 4 * ((i 1).val / 1408) + 3) / 4 % 4) + (i 1).val % 1408 = (i 1).val; omega

end Grid

end Cert.UpGradIdeal.Up

end
-- ==== Proof.Up.Host.lean ====
/- The two operands the kernel's host lines prepare. -/
module

public import proofs.«01_k».proof.Proof.Up.Out
public import proofs.«01_k».proof.Proof.Gen.UpGradReferenceIdeal.Run
public import proofs.«01_k».proof.Proof.Gen.UpGradReferenceIdeal.Read
public import Idealize.ShloMosaic.Lib.StableHlo.RunRead

@[expose] public section

set_option maxRecDepth 16384

noncomputable section

namespace Cert.UpGradIdeal.Up

open Cert.UpGradIdeal Cert.UpGradIdeal.Gen
open Idealize.ShloMosaic Idealize.ShloMosaic.TcCoe
open Idealize.SL.Sem
open scoped BigOperators

variable (m : (ℓ : Loc nD τ sig) → Buf (Elt Ideal) ℓ) (c : Dev nD)

/-- The normalized rows, -/
abbrev xn : (⟨S8192x1024, .f32⟩ : BufTy).Contents (Elt Ideal) :=
  Cert.UpGradReferenceIdeal.Read.val_main_v12 (F := Ideal) (m ((c : Thread nD τ).loc main_arg0)) (m ((c : Thread nD τ).loc main_arg1))

theorem V_v13 : (V m c main_v13 : Vec Ideal S8192x1024 .bf16) = (truncf (F := Ideal) .bf16 (xn m c : FVec Ideal S8192x1024 .f32) bitsLt_bf16_f32 : FVec Ideal S8192x1024 .bf16) := by
  unfold V
  simp only [List.flatten_cons, List.flatten_nil, List.append_nil, List.cons_append, List.nil_append, hostOps0]
  after_reads_simp
  rfl

/-- and the two halves of the gradient's columns, one after the other. -/
theorem V_v19 : (V m c main_v19 : Vec Ideal S2x8192x2816 .bf16) = (truncf (F := Ideal) .bf16 (concatenate S2x8192x2816 0
      [⟨S1x8192x2816, broadcastInDim S1x8192x2816 ![1, 2] bcast_S8192x2816_S1x8192x2816_1_2 (extractStridedSlice S8192x2816 ![0, 0] (m ((c : Thread nD τ).loc main_arg3) : Vec Ideal S8192x5632 .f32) slices_S8192x5632_S8192x2816_0_0)⟩,
       ⟨S1x8192x2816, broadcastInDim S1x8192x2816 ![1, 2] bcast_S8192x2816_S1x8192x2816_1_2 (extractStridedSlice S8192x2816 ![0, 2816] (m ((c : Thread nD τ).loc main_arg3) : Vec Ideal S8192x5632 .f32) slices_S8192x5632_S8192x2816_0_2816)⟩]
      concatenates_S1x8192x2816_S1x8192x2816_S2x8192x2816_d0) bitsLt_bf16_f32 : FVec Ideal S2x8192x2816 .bf16) := by
  unfold V
  simp only [List.flatten_cons, List.flatten_nil, List.append_nil, List.cons_append, List.nil_append, hostOps0]
  after_reads_simp
  rfl

end Cert.UpGradIdeal.Up

end
-- ==== Proof.Up.Final.lean ====
/- The weight gradient the kernel ends with is the reference's. -/
module

public import proofs.«01_k».proof.Defs
public import proofs.«01_k».proof.Proof.Up.Host
public import Idealize.ShloMosaic.Lib.Pointwise

@[expose] public section

set_option maxRecDepth 16384

noncomputable section

namespace Cert.UpGradIdeal.Up

open Cert.UpGradIdeal Cert.UpGradIdeal.Gen
open Idealize.ShloMosaic Idealize.ShloMosaic.TcCoe
open Idealize.SL.Sem
open scoped BigOperators

variable (m : (ℓ : Loc nD τ sig) → Buf (Elt Ideal) ℓ) (c : Dev nD) (g : Dev nD → PrngReg)

theorem half (o : ℕ) (x : Vec Ideal S8192x5632 .f32) (h : S8192x5632.Slices ![0, o] S8192x2816) (a : Fin 1) (r : Fin 8192) (d : Fin 2816) (k : Fin 5632) (hk : k.val = o + d.val) :
    broadcastInDim S1x8192x2816 ![1, 2] bcast_S8192x2816_S1x8192x2816_1_2 (extractStridedSlice S8192x2816 ![0, o] x h) (ValueIdx.ix3 a r d) = x (ValueIdx.ix2 r k) := by
  refine Eq.trans ?_ (ValueIdx.slice2_axis1_apply o x h r d k hk)
  refine congrArg (extractStridedSlice S8192x2816 ![0, o] x h) (funext fun y => Fin.ext ?_)
  match y with
  | ⟨0, _⟩ => rfl
  | ⟨1, _⟩ => rfl

theorem halves (x : Vec Ideal S8192x5632 .f32) (a : Fin 2) (r : Fin 8192) (d : Fin 2816) (k : Fin 5632) (hk : k.val = 2816 * a.val + d.val) :
    concatenate S2x8192x2816 0
      [⟨S1x8192x2816, broadcastInDim S1x8192x2816 ![1, 2] bcast_S8192x2816_S1x8192x2816_1_2 (extractStridedSlice S8192x2816 ![0, 0] x slices_S8192x5632_S8192x2816_0_0)⟩,
       ⟨S1x8192x2816, broadcastInDim S1x8192x2816 ![1, 2] bcast_S8192x2816_S1x8192x2816_1_2 (extractStridedSlice S8192x2816 ![0, 2816] x slices_S8192x5632_S8192x2816_0_2816)⟩]
      concatenates_S1x8192x2816_S1x8192x2816_S2x8192x2816_d0 (ValueIdx.ix3 a r d) = x (ValueIdx.ix2 r k) := by
  refine (concatenate_cons_apply S2x8192x2816 0
    ⟨S1x8192x2816, broadcastInDim S1x8192x2816 ![1, 2] bcast_S8192x2816_S1x8192x2816_1_2 (extractStridedSlice S8192x2816 ![0, 0] x slices_S8192x5632_S8192x2816_0_0)⟩
    ⟨S1x8192x2816, broadcastInDim S1x8192x2816 ![1, 2] bcast_S8192x2816_S1x8192x2816_1_2 (extractStridedSlice S8192x2816 ![0, 2816] x slices_S8192x5632_S8192x2816_0_2816)⟩ []
    concatenates_S1x8192x2816_S1x8192x2816_S2x8192x2816_d0 (ValueIdx.ix3 a r d)).trans ?_
  rw [concatenateAt_cons]
  have ha := a.isLt
  by_cases h : a.val < 1
  · refine (dif_pos h).trans (Eq.trans ?_ (half 0 x slices_S8192x5632_S8192x2816_0_0 0 r d k (by omega)))
    refine congrArg _ (funext fun y => Fin.ext ?_)
    match y with
    | ⟨0, _⟩ => show a.val = 0; omega
    | ⟨1, _⟩ => rfl
    | ⟨2, _⟩ => rfl
  · refine (dif_neg h).trans ?_
    rw [concatenateAt_singleton]
    refine Eq.trans ?_ (half 2816 x slices_S8192x5632_S8192x2816_0_2816 0 r d k (by omega))
    refine congrArg _ (funext fun y => Fin.ext ?_)
    match y with
    | ⟨0, _⟩ => show a.val - 1 = 0; omega
    | ⟨1, _⟩ => rfl
    | ⟨2, _⟩ => rfl

theorem X_at (r : Fin 8192) (i : Fin 1024) : X m c r.val i.val = xn m c (ValueIdx.ix2 r i) := by
  unfold X
  rw [V_v13]
  exact rd2_at _ r i

theorem Y_at (r : Fin 8192) (k : Fin 5632) : Y m c (k.val / 2816) r.val (k.val % 2816) = (m ((c : Thread nD τ).loc main_arg3) : Vec Ideal S8192x5632 .f32) (ValueIdx.ix2 r k) := by
  have hk := k.isLt
  unfold Y
  rw [V_v19]
  refine (rd3_at _ ⟨k.val / 2816, by omega⟩ r ⟨k.val % 2816, by omega⟩).trans ?_
  exact halves (m ((c : Thread nD τ).loc main_arg3) : Vec Ideal S8192x5632 .f32) ⟨k.val / 2816, by omega⟩ r ⟨k.val % 2816, by omega⟩ k (by show k.val = 2816 * (k.val / 2816) + k.val % 2816; omega)

/-- The two operands as arrays of numbers. -/
def ct : S8192x5632.Idx → EReal := (m ((c : Thread nD τ).loc main_arg3) : Vec Ideal S8192x5632 .f32)
def nx : S8192x1024.Idx → EReal := xn m c

/-- The result the kernel ends with. -/
def res : Buf (Elt Ideal) ((c.tc : Thread nD τ).loc main_v20) := (dats m 0 c).arrAt 2 cfg0.N

theorem res_at (i : S1024x5632.Idx) : @Eq EReal (res m c i) (∑ r : Fin 8192, ct m c (ValueIdx.ix2 r (i 1)) * nx m c (ValueIdx.ix2 r (i 0))) := by
  have e : @Eq EReal (res m c i) (∑ r ∈ Finset.range 8192, X m c r (i 0).val * Y m c ((i 1).val / 2816) r ((i 1).val % 2816)) := final m c i
  refine e.trans ?_
  rw [Finset.sum_range]
  refine Finset.sum_congr rfl fun r _ => ?_
  rw [mul_comm]
  exact congrArg₂ (fun y z : EReal => y * z) (Y_at m c r (i 1)) (X_at m c r (i 0))

variable (m' : (ℓ : Loc Cert.UpGradReferenceIdeal.nD Cert.UpGradReferenceIdeal.τ Cert.UpGradReferenceIdeal.sig) → Buf (Elt Ideal) ℓ)

theorem same : Cert.UpGradReferenceIdeal.Read.val_main_v15 (F := Ideal) (m ((c : Thread nD τ).loc main_arg0)) (m ((c : Thread nD τ).loc main_arg1)) (m ((c : Thread nD τ).loc main_arg3)) = res m c := by
  refine funext fun (i : S1024x5632.Idx) => ?_
  refine Eq.trans ?_ (res_at m c i).symm
  rw [Cert.UpGradReferenceIdeal.Read.val_main_v15_apply, Cert.UpGradReferenceIdeal.Read.val_main_v14_apply]
  refine Finset.sum_congr rfl fun r _ => congrArg₂ (fun y z : EReal => y * z) (congrArg (ct m c) (funext fun y => Fin.ext ?_)) (congrArg (nx m c) (funext fun y => Fin.ext ?_))
  · match y with
    | ⟨0, _⟩ => rfl
    | ⟨1, _⟩ => rfl
  · match y with
    | ⟨0, _⟩ => rfl
    | ⟨1, _⟩ => rfl

theorem algebraic : Cert.algebraic_UpGradIdeal_UpGradReferenceIdeal := fun m g m' g' _ ha =>
  ⟨res m, Value.run_blocks m g, (θ_run Cert.UpGradReferenceIdeal.defs _ _).mono (fun r h c =>
    ⟨(h c).1.trans (by rw [Cert.UpGradReferenceIdeal.Read.val_main_v15_eq, (ha c).1, (ha c).2.1, (ha c).2.2.2]; exact same m c), (h c).2⟩)
    (Cert.UpGradReferenceIdeal.Value.run (F := Ideal) m' g')⟩

end Cert.UpGradIdeal.Up

end
-- ==== Proof.Dn.Out.lean ====
/- What the weight gradient's grid leaves: each block of the result is the sum, over the row tiles, of the products of a
   tile of each operand, so each element is the sum over all the rows. -/
module

public import proofs.«01_k».proof.Proof.Gen.DownGradIdeal.Value
public import Idealize.ShloMosaic.Lib.MatmulPlain
public import Idealize.ShloMosaic.Lib.IdealHost
public import Idealize.ShloMosaic.Lib.ValueLayoutCasts
public import Idealize.ShloMosaic.Lib.ValueLayout
public import Idealize.ShloMosaic.Lib.KernelVsHost
public import Idealize.ShloMosaic.PureOps.Ideal.Laws

@[expose] public section

set_option maxRecDepth 16384

noncomputable section

namespace Cert.DownGradIdeal.Dn

open Cert.DownGradIdeal Cert.DownGradIdeal.Gen
open Idealize.ShloMosaic Idealize.ShloMosaic.TcCoe Idealize.ShloMosaic.ValueIdx
open scoped BigOperators

/-! An array read at natural numbers. -/

def rd2 {a b : ℕ} (x : (⟨2, ![a, b]⟩ : Shape).Idx → EReal) (i j : ℕ) : EReal := if h : i < a ∧ j < b then x (ix2 ⟨i, h.1⟩ ⟨j, h.2⟩) else 0
def rd3 {a b d : ℕ} (x : (⟨3, ![a, b, d]⟩ : Shape).Idx → EReal) (i j k : ℕ) : EReal :=
  if h : i < a ∧ j < b ∧ k < d then x (ix3 ⟨i, h.1⟩ ⟨j, h.2.1⟩ ⟨k, h.2.2⟩) else 0

theorem rd2_at {a b : ℕ} (x : (⟨2, ![a, b]⟩ : Shape).Idx → EReal) (i : Fin a) (j : Fin b) : rd2 x i.val j.val = x (ix2 i j) := dif_pos ⟨i.isLt, j.isLt⟩
theorem rd3_at {a b d : ℕ} (x : (⟨3, ![a, b, d]⟩ : Shape).Idx → EReal) (i : Fin a) (j : Fin b) (k : Fin d) : rd3 x i.val j.val k.val = x (ix3 i j k) :=
  dif_pos ⟨i.isLt, j.isLt, k.isLt⟩

/-! A point's product. -/

theorem tn_apply (a : FVec Ideal S2048x1408 .bf16) (b : FVec Ideal S2048x512 .bf16) (i : Fin 1408) (j : Fin 512) :
    matmul dot_S2048x1408_S2048x512_S1408x512_0_0_1_1_n_n none a b (constant (F := Ideal) S1408x512 .f32 0x00000000#32) (ix2 i j)
      = ∑ k : Fin 2048, (a (ix2 k i) : EReal) * b (ix2 k j) := by
  refine (Ideal.matmul_apply _ none a b _ (ix2 i j)).trans ?_
  rw [show constant (F := Ideal) S1408x512 .f32 0x00000000#32 (ix2 i j) = (0 : EReal) from Ideal.ofBits_zero_f32, zero_add,
    ← Equiv.sum_comp (contrEquiv1 dot_S2048x1408_S2048x512_S1408x512_0_0_1_1_n_n 2048 rfl rfl).symm]
  refine Finset.sum_congr rfl fun k _ => congrArg₂ (fun y z : EReal => y * z) (congrArg a (funext fun x => Fin.ext ?_)) (congrArg b (funext fun x => Fin.ext ?_))
  · have hk := contrEquiv1_symm_val dot_S2048x1408_S2048x512_S1408x512_0_0_1_1_n_n 2048 rfl rfl k
    match x with
    | ⟨0, _⟩ => exact hk
    | ⟨1, _⟩ => rfl
  · have hk := contrEquiv1_symm_val dot_S2048x1408_S2048x512_S1408x512_0_0_1_1_n_n 2048 rfl rfl k
    match x with
    | ⟨0, _⟩ => exact hk
    | ⟨1, _⟩ => rfl

theorem cast_at (x : FVec Ideal S1x2048x512 .f32) (h : S1x2048x512.ShapeCasts S2048x512) (k : Fin 2048) (j : Fin 512) :
    shapeCast S2048x512 x h (ix2 k j) = x (ix3 0 k j) :=
  shapeCast_1ab_ab_apply x h k j

theorem pay1_at (x : Vec Ideal S2048x1408 .bf16) (y : Vec Ideal S1x2048x512 .f32) (i : Fin 1408) (j : Fin 512) :
    k0_pay1 (F := Ideal) x y (ix2 i j) = ∑ k : Fin 2048, (x (ix2 k i) : EReal) * y (ix3 0 k j) := by
  unfold k0_pay1
  rw [shapeCast_self]
  refine (tn_apply _ _ i j).trans (Finset.sum_congr rfl fun k _ => ?_)
  exact congrArg (fun z : EReal => x (ix2 k i) * z) (cast_at y _ k j)

/-! What each case leaves. -/

section Cases
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem out_A (c : Dev nD) (i : grid0.Coords) (a1 : Memref sig .tc .vmem S2048x1408 .bf16) (h1 : a1.IsWhole) (a2 : Memref sig .tc .vmem S1x2048x512 .f32) (h2 : a2.IsWhole)
    (a3 : Memref sig .tc .vmem S1408x512 .f32) (h3 : a3.IsWhole) (hc0 : cond0_0 i) (hc1 : ¬cond0_1 i) (x : Vec F S2048x1408 .bf16) (y : Vec F S1x2048x512 .f32) :
    out0_A_2 c i a1 h1 a2 h2 a3 h3 hc0 hc1 x y = k0_pay1 x y := by
  unfold out0_A_2
  rw [View.read_writes_eq_canon _ _ _ (cover0_A_2 c i a1 h1 a2 h2 a3 h3 hc0 hc1 x y)]
  unfold kernelRun0_A
  dsimp only
  rw [View.canon_unit_zero hz2]
  simp only [View.readAt_eq_ld, h1.read_unread, h2.read_unread, View.ld_unit_zero (S := S2048x1408) hz2, View.ld_unit_zero (S := S1x2048x512) hz3]

theorem out_B (c : Dev nD) (i : grid0.Coords) (a1 : Memref sig .tc .vmem S2048x1408 .bf16) (h1 : a1.IsWhole) (a2 : Memref sig .tc .vmem S1x2048x512 .f32) (h2 : a2.IsWhole)
    (a3 : Memref sig .tc .vmem S1408x512 .f32) (h3 : a3.IsWhole) (hc0 : ¬cond0_0 i) (hc1 : cond0_1 i) (x : Vec F S2048x1408 .bf16) (y : Vec F S1x2048x512 .f32) (o : Vec F S1408x512 .f32) :
    out0_B_2 c i a1 h1 a2 h2 a3 h3 hc0 hc1 x y o = k0_pay2 x y o := by
  unfold out0_B_2
  rw [View.read_writes_eq_canon _ _ _ (cover0_B_2 c i a1 h1 a2 h2 a3 h3 hc0 hc1 x y o)]
  unfold kernelRun0_B
  dsimp only
  rw [View.canon_unit_zero hz2]
  simp only [View.readAt_eq_ld, h1.read_unread, h2.read_unread, h3.read_unread, View.ld_unit_zero (S := S2048x1408) hz2, View.ld_unit_zero (S := S1x2048x512) hz3,
    View.ld_unit_zero (S := S1408x512) hz2]

end Cases

/-! The grid. -/

section Grid
variable (m : (ℓ : Loc nD τ sig) → Buf (Elt Ideal) ℓ) (c : Dev nD)

/-- The two operands. -/
def X : ℕ → ℕ → EReal := rd2 (V m c main_v41 : Vec Ideal S8192x2816 .bf16)
def Y : ℕ → ℕ → ℕ → EReal := rd3 (V m c main_v42 : Vec Ideal S1x8192x1024 .f32)

theorem idx0 : ∀ t : Fin grid0.N, win0_0.index t (0 : Fin 2) = t.val % 4 ∧ win0_0.index t (1 : Fin 2) = t.val / 8 := by decide +kernel
theorem idx1 : ∀ t : Fin grid0.N, win0_1.index t (0 : Fin 3) = 0 ∧ win0_1.index t (1 : Fin 3) = t.val % 4 ∧ win0_1.index t (2 : Fin 3) = t.val / 4 % 2 := by decide +kernel
theorem idx2 : ∀ t : Fin grid0.N, win0_2.index t (0 : Fin 2) = t.val / 8 ∧ win0_2.index t (1 : Fin 2) = t.val / 4 % 2 := by decide +kernel

theorem iblk0_at (t : Fin cfg0.N) (k : Fin 2048) (i : Fin 1408) : (iblk m c 0 t : Vec Ideal S2048x1408 .bf16) (ix2 k i) = X m c (2048 * (t.val % 4) + k.val) (1408 * (t.val / 8) + i.val) := by
  obtain ⟨e0, e1⟩ := idx0 t
  have hN : t.val < 16 := t.isLt
  refine Eq.trans ?_ (rd2_at (V m c main_v41 : Vec Ideal S8192x2816 .bf16) ⟨2048 * (t.val % 4) + k.val, by omega⟩ ⟨1408 * (t.val / 8) + i.val, by omega⟩).symm
  refine congrArg (V m c main_v41 : Vec Ideal S8192x2816 .bf16) (funext fun a => Fin.ext ?_)
  match a with
  | ⟨0, _⟩ => show win0_0.index t (0 : Fin 2) * 2048 + 1 * k.val = 2048 * (t.val % 4) + k.val; omega
  | ⟨1, _⟩ => show win0_0.index t (1 : Fin 2) * 1408 + 1 * i.val = 1408 * (t.val / 8) + i.val; omega

theorem iblk1_at (t : Fin cfg0.N) (k : Fin 2048) (j : Fin 512) : (iblk m c 1 t : Vec Ideal S1x2048x512 .f32) (ix3 0 k j)
    = Y m c 0 (2048 * (t.val % 4) + k.val) (512 * (t.val / 4 % 2) + j.val) := by
  obtain ⟨e0, e1, e2⟩ := idx1 t
  refine Eq.trans ?_ (rd3_at (V m c main_v42 : Vec Ideal S1x8192x1024 .f32) ⟨0, by omega⟩ ⟨2048 * (t.val % 4) + k.val, by omega⟩ ⟨512 * (t.val / 4 % 2) + j.val, by omega⟩).symm
  refine congrArg (V m c main_v42 : Vec Ideal S1x8192x1024 .f32) (funext fun a => Fin.ext ?_)
  match a with
  | ⟨0, _⟩ => show win0_1.index t (0 : Fin 3) * 1 + 1 * 0 = 0; omega
  | ⟨1, _⟩ => show win0_1.index t (1 : Fin 3) * 2048 + 1 * k.val = 2048 * (t.val % 4) + k.val; omega
  | ⟨2, _⟩ => show win0_1.index t (2 : Fin 3) * 512 + 1 * j.val = 512 * (t.val / 4 % 2) + j.val; omega

theorem emb2 (t : Fin cfg0.N) (y : S1408x512.Idx) (h0 : 1408 * (t.val / 8) + (y 0).val < 2816) (h1 : 512 * (t.val / 4 % 2) + (y 1).val < 1024) :
    ((cfg0.win 2).blk t).view.emb y = (ix2 ⟨1408 * (t.val / 8) + (y 0).val, h0⟩ ⟨512 * (t.val / 4 % 2) + (y 1).val, h1⟩ : S2816x1024.Idx) := by
  obtain ⟨e0, e1⟩ := idx2 t
  funext a; apply Fin.ext
  match a with
  | ⟨0, _⟩ => show win0_2.index t (0 : Fin 2) * 1408 + 1 * (y 0).val = 1408 * (t.val / 8) + (y 0).val; omega
  | ⟨1, _⟩ => show win0_2.index t (1 : Fin 2) * 512 + 1 * (y 1).val = 512 * (t.val / 4 % 2) + (y 1).val; omega

/-- The products of row tile `s` of the blocks at a point. -/
def part (n i j s : ℕ) : EReal := ∑ k ∈ Finset.range 2048, X m c (2048 * s + k) (1408 * (n / 8) + i) * Y m c 0 (2048 * s + k) (512 * (n / 4 % 2) + j)

theorem pay_at (t : Fin cfg0.N) (i : Fin 1408) (j : Fin 512) : k0_pay1 (F := Ideal) (iblk m c 0 t) (iblk m c 1 t) (ix2 i j) = part m c t.val i.val j.val (t.val % 4) := by
  refine (pay1_at _ _ i j).trans ?_
  unfold part
  rw [Finset.sum_range]
  exact Finset.sum_congr rfl fun k _ => congrArg₂ (fun y z : EReal => y * z) (iblk0_at m c t k i) (iblk1_at m c t k j)

theorem outs_at : ∀ (n : ℕ) (h : n < cfg0.N) (i : Fin 1408) (j : Fin 512), outsAt0 m c n h (ix2 i j) = ∑ s ∈ Finset.range (n % 4 + 1), part m c n i.val j.val s
  | 0, h, i, j => by
    rw [outsAt0_A m c ⟨0, h⟩ rfl (by show ¬ 1 ≤ 0 % 4; decide), out_A, pay_at]
    exact (Finset.sum_range_one _).symm
  | n + 1, h, i, j => by
    by_cases h0 : (n + 1) % 4 = 0
    · rw [outsAt0_A m c ⟨n + 1, h⟩ h0 (by show ¬ 1 ≤ (n + 1) % 4; omega), out_A, pay_at]
      show part m c (n + 1) i.val j.val ((n + 1) % 4) = _
      rw [h0]
      exact (Finset.sum_range_one _).symm
    · have e : (n + 1) % 4 = n % 4 + 1 := by omega
      rw [outsAt0_B m c ⟨n + 1, h⟩ h0 (by show 1 ≤ (n + 1) % 4; omega), out_B]
      unfold k0_pay2
      rw [shapeCast_self]
      refine (congrArg₂ (fun y z : EReal => y + z) (outs_at n (Nat.lt_of_succ_lt h) i j) (pay_at m c ⟨n + 1, h⟩ i j)).trans ?_
      show _ + part m c (n + 1) i.val j.val ((n + 1) % 4) = _
      rw [e, Finset.sum_range_succ (fun s => part m c (n + 1) i.val j.val s) (n % 4 + 1)]
      refine congrArg (· + part m c (n + 1) i.val j.val (n % 4 + 1)) (Finset.sum_congr rfl fun s _ => ?_)
      unfold part
      rw [show (n + 1) / 8 = n / 8 by omega, show (n + 1) / 4 = n / 4 by omega]

theorem sum_tiles {M : Type} [AddCommMonoid M] (f : ℕ → M) : ∑ s ∈ Finset.range 4, ∑ k ∈ Finset.range 2048, f (2048 * s + k) = ∑ r ∈ Finset.range 8192, f r := by
  have h : ∀ n, ∑ s ∈ Finset.range n, ∑ k ∈ Finset.range 2048, f (2048 * s + k) = ∑ r ∈ Finset.range (2048 * n), f r := by
    intro n
    induction n with
    | zero => rfl
    | succ n ih => rw [Finset.sum_range_succ, ih, Nat.mul_succ, Finset.sum_range_add]
  exact h 4

/-- The array after the run. -/
theorem final (i : S2816x1024.Idx) : ((dats m 0 c).arrAt 2 cfg0.N : Vec Ideal S2816x1024 .f32) i
    = ∑ r ∈ Finset.range 8192, X m c r (i 0).val * Y m c 0 r (i 1).val := by
  refine (dats m 0 c).arrAt_forall_of_cover 2 (fun (i : S2816x1024.Idx) (x : EReal) => x = ∑ r ∈ Finset.range 8192, X m c r (i 0).val * Y m c 0 r (i 1).val)
    (fun t hf y => ?_) (fun i => ?_) i
  · change S1408x512.Idx at y
    have hN : t.val < 16 := t.isLt
    have h0 : (y 0).val < 1408 := (y 0).isLt
    have h1 : (y 1).val < 512 := (y 1).isLt
    rw [emb2 t y (by omega) (by omega)]
    show (dats m 0 c).after 2 t y = _
    have h3 : t.val % 4 = 3 := (flush0_2 t).mp hf
    rw [after0_2]
    refine (congrArg (outsAt0 m c t.val t.isLt) (eq_ix2 y)).trans ((outs_at m c t.val t.isLt (y 0) (y 1)).trans ?_)
    rw [h3]
    refine (sum_tiles fun r => X m c r (1408 * (t.val / 8) + (y 0).val) * Y m c 0 r (512 * (t.val / 4 % 2) + (y 1).val)).trans ?_
    rfl
  · have h0 : (i 0).val < 2816 := (i 0).isLt
    have h1 : (i 1).val < 1024 := (i 1).isLt
    have hN : 8 * ((i 0).val / 1408) + 4 * ((i 1).val / 512) + 3 < cfg0.N := by show _ < 16; omega
    refine ⟨⟨8 * ((i 0).val / 1408) + 4 * ((i 1).val / 512) + 3, hN⟩, (flush0_2 _).mpr (by show (8 * ((i 0).val / 1408) + 4 * ((i 1).val / 512) + 3) % 4 = 3; omega), ?_⟩
    have hm := ((cfg0.win 2).blk ⟨8 * ((i 0).val / 1408) + 4 * ((i 1).val / 512) + 3, hN⟩).view.emb_mem_set (ix2 ⟨(i 0).val % 1408, by omega⟩ ⟨(i 1).val % 512, by omega⟩ : S1408x512.Idx)
    rw [emb2 _ _ (by show 1408 * ((8 * ((i 0).val / 1408) + 4 * ((i 1).val / 512) + 3) / 8) + (i 0).val % 1408 < 2816; omega)
      (by show 512 * ((8 * ((i 0).val / 1408) + 4 * ((i 1).val / 512) + 3) / 4 % 2) + (i 1).val % 512 < 1024; omega)] at hm
    refine (congrArg (· ∈ _) ?_).mp hm
    funext x; apply Fin.ext
    match x with
    | ⟨0, _⟩ => show 1408 * ((8 * ((i 0).val / 1408) + 4 * ((i 1).val / 512) + 3) / 8) + (i 0).val % 1408 = (i 0).val; omega
    | ⟨1, _⟩ => show 512 * ((8 * ((i 0).val / 1408) + 4 * ((i 1).val / 512) + 3) / 4 % 2) + (i 1).val % 512 = (i 1).val; omega

end Grid

end Cert.DownGradIdeal.Dn

end
-- ==== Proof.Dn.Host.lean ====
/- The two operands the kernel's host lines prepare. -/
module

public import proofs.«01_k».proof.Proof.Dn.Out
public import proofs.«01_k».proof.Proof.Gen.DownGradReferenceIdeal.Run
public import proofs.«01_k».proof.Proof.Gen.DownGradReferenceIdeal.Read
public import Idealize.ShloMosaic.Lib.StableHlo.RunRead

@[expose] public section

set_option maxRecDepth 16384

noncomputable section

namespace Cert.DownGradIdeal.Dn

open Cert.DownGradIdeal Cert.DownGradIdeal.Gen
open Idealize.ShloMosaic Idealize.ShloMosaic.TcCoe
open Idealize.SL.Sem
open scoped BigOperators

variable (m : (ℓ : Loc nD τ sig) → Buf (Elt Ideal) ℓ) (c : Dev nD)

/-- The gated activation, -/
abbrev act : (⟨S8192x2816, .f32⟩ : BufTy).Contents (Elt Ideal) :=
  Cert.DownGradReferenceIdeal.Read.val_main_v40 (F := Ideal) (m ((c : Thread nD τ).loc main_arg0)) (m ((c : Thread nD τ).loc main_arg1)) (m ((c : Thread nD τ).loc main_arg2)) (m ((c : Thread nD τ).loc main_arg3))

theorem V_v41 : (V m c main_v41 : Vec Ideal S8192x2816 .bf16) = (truncf (F := Ideal) .bf16 (act m c : FVec Ideal S8192x2816 .f32) bitsLt_bf16_f32 : FVec Ideal S8192x2816 .bf16) := by
  unfold V
  simp only [List.flatten_cons, List.flatten_nil, List.append_nil, List.cons_append, List.nil_append, hostOps0, hostOps0_1, hostOps0_2, hostOps0_3, hostOps0_4]
  after_reads_simp
  rfl

/-- and the gradient, as one block. -/
theorem V_v42 : (V m c main_v42 : Vec Ideal S1x8192x1024 .f32)
    = broadcastInDim S1x8192x1024 ![1, 2] bcast_S8192x1024_S1x8192x1024_1_2 (m ((c : Thread nD τ).loc main_arg5) : Vec Ideal S8192x1024 .f32) := by
  unfold V
  simp only [List.flatten_cons, List.flatten_nil, List.append_nil, List.cons_append, List.nil_append, hostOps0, hostOps0_1, hostOps0_2, hostOps0_3, hostOps0_4]
  after_reads_simp

end Cert.DownGradIdeal.Dn

end
-- ==== Proof.Dn.Final.lean ====
/- The weight gradient the kernel ends with is the reference's. -/
module

public import proofs.«01_k».proof.Defs
public import proofs.«01_k».proof.Proof.Dn.Host

@[expose] public section

set_option maxRecDepth 16384

noncomputable section

namespace Cert.DownGradIdeal.Dn

open Cert.DownGradIdeal Cert.DownGradIdeal.Gen
open Idealize.ShloMosaic Idealize.ShloMosaic.TcCoe
open Idealize.SL.Sem
open scoped BigOperators

variable (m : (ℓ : Loc nD τ sig) → Buf (Elt Ideal) ℓ) (c : Dev nD) (g : Dev nD → PrngReg)

theorem X_at (r : Fin 8192) (i : Fin 2816) : X m c r.val i.val = act m c (ValueIdx.ix2 r i) := by
  unfold X
  rw [V_v41]
  exact rd2_at _ r i

theorem Y_at (r : Fin 8192) (k : Fin 1024) : Y m c 0 r.val k.val = (m ((c : Thread nD τ).loc main_arg5) : Vec Ideal S8192x1024 .f32) (ValueIdx.ix2 r k) := by
  unfold Y
  rw [V_v42]
  refine (rd3_at _ (0 : Fin 1) r k).trans (congrArg (m ((c : Thread nD τ).loc main_arg5) : Vec Ideal S8192x1024 .f32) (funext fun y => Fin.ext ?_))
  match y with
  | ⟨0, _⟩ => rfl
  | ⟨1, _⟩ => rfl

/-- The two operands as arrays of numbers. -/
def ct : S8192x1024.Idx → EReal := (m ((c : Thread nD τ).loc main_arg5) : Vec Ideal S8192x1024 .f32)
def ax : S8192x2816.Idx → EReal := act m c

/-- The result the kernel ends with. -/
def res : Buf (Elt Ideal) ((c.tc : Thread nD τ).loc main_v43) := (dats m 0 c).arrAt 2 cfg0.N

theorem res_at (i : S2816x1024.Idx) : @Eq EReal (res m c i) (∑ r : Fin 8192, ct m c (ValueIdx.ix2 r (i 1)) * ax m c (ValueIdx.ix2 r (i 0))) := by
  have e : @Eq EReal (res m c i) (∑ r ∈ Finset.range 8192, X m c r (i 0).val * Y m c 0 r (i 1).val) := final m c i
  refine e.trans ?_
  rw [Finset.sum_range]
  refine Finset.sum_congr rfl fun r _ => ?_
  rw [mul_comm]
  exact congrArg₂ (fun y z : EReal => y * z) (Y_at m c r (i 1)) (X_at m c r (i 0))

theorem same : Cert.DownGradReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg5)) = res m c := by
  refine funext fun (i : S2816x1024.Idx) => ?_
  refine Eq.trans ?_ (res_at m c i).symm
  rw [Cert.DownGradReferenceIdeal.Read.val_main_v43_apply, Cert.DownGradReferenceIdeal.Read.val_main_v42_apply]
  refine Finset.sum_congr rfl fun r _ => congrArg₂ (fun y z : EReal => y * z) (congrArg (ct m c) (funext fun y => Fin.ext ?_)) (congrArg (ax m c) (funext fun y => Fin.ext ?_))
  · match y with
    | ⟨0, _⟩ => rfl
    | ⟨1, _⟩ => rfl
  · match y with
    | ⟨0, _⟩ => rfl
    | ⟨1, _⟩ => rfl

theorem algebraic : Cert.algebraic_DownGradIdeal_DownGradReferenceIdeal := fun m g m' g' _ ha =>
  ⟨res m, Value.run_blocks m g, (θ_run Cert.DownGradReferenceIdeal.defs _ _).mono (fun r h c =>
    ⟨(h c).1.trans (by rw [Cert.DownGradReferenceIdeal.Read.val_main_v43_eq, (ha c).1, (ha c).2.1, (ha c).2.2.1, (ha c).2.2.2.1, (ha c).2.2.2.2.2]; exact same m c), (h c).2⟩)
    (Cert.DownGradReferenceIdeal.Value.run (F := Ideal) m' g')⟩

end Cert.DownGradIdeal.Dn

end
-- ==== Proof.Pj.Run.lean ====
/- The up-projection's run: the normalized rows, kept from a row tile's first point to its last, and a block of products at every point. -/
module

public import proofs.«01_k».proof.Proof.Gen.UpProjIdeal.Frame
public import proofs.«01_k».proof.Proof.Gen.UpProjIdeal.Skeleton
public import Idealize.ShloMosaic.Lib.Tactic
public import Idealize.ShloMosaic.Lib.Pipeline.Kit
public import Idealize.ShloMosaic.Lib.Pipeline.TableIdle
public import Idealize.ShloMosaic.Lib.VecWindow
public import Idealize.ShloMosaic.Lib.ValueLayout
public import Idealize.ShloMosaic.Lib.Claim

@[expose] public section

set_option maxRecDepth 16384

noncomputable section

namespace Cert.UpProjIdeal.Pj

open Cert.UpProjIdeal Cert.UpProjIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

theorem cond_first : ∀ t : Fin grid0.N, t.val % 4 = 0 → k0_cond1 (grid0.coords t) = 1#1 := by decide +kernel
theorem cond_other : ∀ t : Fin grid0.N, t.val % 4 ≠ 0 → ¬ k0_cond1 (grid0.coords t) = 1#1 := by decide +kernel

/-! The body. -/

section Body
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1024x1408 .bf16) (h4 : a4.IsWhole) (a5 : Memref sig .tc .vmem S1024x1024 .bf16) (h5 : a5.IsWhole) (a6 : Memref sig .tc .vmem S1x1024x1408 .f32) (h6 : a6.IsWhole)
  (x0 : Vec F S1024x1024 .f32) (x1 : Vec F S1x1024 .f32) (x2 : Vec F S1024x1408 .bf16) (y : Vec F S1024x1024 .bf16) (z : Vec F S1x1024x1408 .f32)

/-- A row tile's first point writes the normalized rows and multiplies them. -/
theorem run_first (E : Set ℕ) (K : PUnit → sProp 𝕄G) (hc : k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare (k0_pay1 x0 x1) ∗ owns (c : Thread nD τ) a6 fullShare (k0_pay2 (k0_pay1 x0 x1) x2)) -∗ K ⟨⟩))
      ⊢ wp frame (wpE (defs₀ (F := F)) Variants.none c none) E (cc0_ffn_up_proj i a2 h2 a3 h3 a4 h4 a5 h5 a6 h6) K := by
  simp only [cc0_ffn_up_proj_eq_skeleton]; unfold cc0_ffn_up_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h2.eq_unread hf0; obtain rfl := h3.eq_unread hf1; obtain rfl := h4.eq_unread hf2
  sl_exec (disch := first | sl_exact hc)
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; · ipureintro; exact h4.read_unread _
    iexact H2
  isplitl [H3]
  · iexists _; isplitr; swap; (· iexact H3); ipureintro
    refine (View.read_writes_full _ _ _ _ _).trans ?_
    rw [View.readAt_full, View.readAt_full, h2.read_unread, h3.read_unread]
  iexists _; isplitr; swap; (· iexact H4); ipureintro
  refine (View.read_writes_full _ _ _ _ _).trans ?_
  unfold run_first.sl.v3 run_first.sl.H3_1
  rw [View.readCov_full, View.readAt_full, View.readAt_full, View.readAt_full, h2.read_unread, h3.read_unread, h4.read_unread]

/-- A later point multiplies the rows the first left. -/
theorem run_other (E : Set ℕ) (K : PUnit → sProp 𝕄G) (hc : ¬ k0_cond1 i = 1#1) :
    iprop(owns (c : Thread nD τ) a2 fullShare x0 ∗ owns (c : Thread nD τ) a3 fullShare x1 ∗ owns (c : Thread nD τ) a4 fullShare x2
        ∗ owns (c : Thread nD τ) a5 fullShare y ∗ owns (c : Thread nD τ) a6 fullShare z
        ∗ (iprop(owns (c : Thread nD τ) a2 fullShare x0 ∗ owns (c : Thread nD τ) a3 fullShare x1 ∗ owns (c : Thread nD τ) a4 fullShare x2
            ∗ owns (c : Thread nD τ) a5 fullShare y ∗ owns (c : Thread nD τ) a6 fullShare (k0_pay2 y x2)) -∗ K ⟨⟩))
      ⊢ wp frame (wpE (defs₀ (F := F)) Variants.none c none) E (cc0_ffn_up_proj i a2 h2 a3 h3 a4 h4 a5 h5 a6 h6) K := by
  simp only [cc0_ffn_up_proj_eq_skeleton]; unfold cc0_ffn_up_proj_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := h4.eq_unread hf2; obtain rfl := h5.eq_unread hf3
  sl_exec (disch := first | sl_exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact h4.read_unread _
    iexact H2
  isplitl [H3]
  · iexists _; isplitr; · ipureintro; exact h5.read_unread _
    iexact H3
  iexists _; isplitr; swap; (· iexact H4); ipureintro
  refine (View.read_writes_full _ _ _ _ _).trans ?_
  rw [View.readAt_full, View.readAt_full, h4.read_unread, h5.read_unread]

end Body

/-! The launch. -/

variable (m : (ℓ : Loc nD τ sig) → Buf (Elt F) ℓ) (ρ : Dev nD → PrngReg)

/-- The first point of a point's row tile. -/
def base (t : Fin cfg0.N) : Fin cfg0.N := ⟨t.val / 4 * 4, lt_of_le_of_lt (Nat.div_mul_le_self _ _) t.isLt⟩

/-- The normalized rows a point finds. -/
def rows (c : Dev nD) (t : Fin cfg0.N) : Vec F S1024x1024 .bf16 := k0_pay1 (iblk m c 0 (base t)) (iblk m c 1 (base t))

/-- The products a point leaves. -/
def prods (c : Dev nD) (t : Fin cfg0.N) : Vec F S1x1024x1408 .f32 := k0_pay2 (rows m c t) (iblk m c 2 t)

theorem base_first (t : Fin cfg0.N) (h : t.val % 4 = 0) : base t = t := Fin.ext (by show t.val / 4 * 4 = t.val; omega)

theorem base_prev (t : Fin cfg0.N) (h : t.val % 4 ≠ 0) : base ⟨t.val - 1, Nat.lt_of_le_of_lt (Nat.sub_le _ _) t.isLt⟩ = base t :=
  Fin.ext (by show (t.val - 1) / 4 * 4 = t.val / 4 * 4; omega)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => rows m c t
    | ⟨4, _⟩ => prods m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = rows m c t := by dsimp only [dats]
theorem after0_4 (c : Dev nD) (t : Fin cfg0.N) : (dats m 0 c).after 4 t = prods m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem idle3 : ∀ t : Fin cfg0.N, cfg0.idle 3 (cfg0.grid.coords t) = true → t.val % 4 ≠ 0 := by decide +kernel
theorem fresh3 : ∀ t : Fin cfg0.N, t.val % 4 ≠ 0 → cfg0.fresh 3 t.val = false := by decide +kernel

theorem rows_prev (c : Dev nD) (t : Fin cfg0.N) (ht : t.val % 4 ≠ 0) :
    rows m c ⟨t.val - 1, Nat.lt_of_le_of_lt (Nat.sub_le _ _) t.isLt⟩ = rows m c t := by
  unfold rows
  rw [base_prev t ht]

theorem before0_3 (c : Dev nD) (t : Fin cfg0.N) (ht : t.val % 4 ≠ 0) (d) : (dats m 0 c).before 3 t d = rows m c t := by
  rw [(dats m 0 c).before_out_traj 3 rfl (fun _ _ => rfl)
    (fun t _ hi _ => by rw [after0_3, after0_3, rows_prev m c t (idle3 t hi)]) t.val t rfl d,
    fresh3 t ht, if_neg Bool.false_ne_true, after0_3, rows_prev m c t ht]

def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold prods
  by_cases ht : t.val % 4 = 0
  · unfold rows
    rw [base_first t ht]
    iintro ⟨HΦ, Ho, ⟨%d0, H0⟩, ⟨%d1, H1⟩, ⟨%d2, H2⟩, ⟨%d3, H3⟩, ⟨%d4, H4⟩⟩
    iapply (run_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_first t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · simp only [before0_3 m c t ht]
    iintro ⟨HΦ, Ho, ⟨%d0, H0⟩, ⟨%d1, H1⟩, ⟨%d2, H2⟩, ⟨%d3, H3⟩, ⟨%d4, H4⟩⟩
    iapply (run_other c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) _ _ _ _ _ Set.univ _ (cond_other t ht))
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

theorem left3 (c : Dev nD) (t : Fin cfg0.N) : owns (c : Thread nD τ) (st0_3 t) fullShare ((dats m 0 c).after 3 t) ⊢
    (match cfg0.idle 3 (cfg0.grid.coords t) with
      | true => match (cfg0.win 3).flush t with
        | false => iprop(∃ d, owns (c : Thread nD τ) (st0_3 t) fullShare ((dats m 0 c).before 3 t d))
        | true => owns (c : Thread nD τ) (st0_3 t) fullShare ((dats m 0 c).after 3 t)
      | false => owns (c : Thread nD τ) (st0_3 t) fullShare ((dats m 0 c).after 3 t) : sProp 𝕄G) := by
  cases hi : cfg0.idle 3 (cfg0.grid.coords t)
  · exact .rfl
  · cases hf : (cfg0.win 3).flush t
    · simp only [before0_3 m c t (idle3 t hi), after0_3]
      iintro H
      iexists fun _ => default
      iexact H
    · exact .rfl

theorem row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  refine sep_mono .rfl (sep_mono .rfl (sep_mono .rfl (sep_mono .rfl (sep_mono .rfl (sep_mono ?_ .rfl)))))
  exact left3 m c t

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_post m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run m ρ))

end Cert.UpProjIdeal.Pj

end
-- ==== Proof.Sm.Same.lean ====
module

public import proofs.«01_k».proof.Proof.Pj.Run
public import proofs.«01_k».proof.Proof.Cp.Run
public import proofs.«01_k».proof.Proof.Ap.Run
public import proofs.«01_k».proof.Proof.Gen.UpProj
public import proofs.«01_k».proof.Proof.Gen.ConvProj
public import proofs.«01_k».proof.Proof.Gen.AttnProj

@[expose] public section

set_option maxRecDepth 16384

/-! The programs as printed and as idealized are the same text where no rule rewrites them:
the frames proved of the idealized ones for every number format are the printed ones' too. -/

noncomputable section

namespace Cert.UpProj.Sm

open Cert.UpProj
open Idealize.ShloMosaic Idealize.ShloMosaic.TcCoe
open Idealize.SL.Sem

variable {F : FTy → Type} [FloatOps F]
variable (m : (ℓ : Loc nD τ sig) → Buf (Elt F) ℓ) (ρ : Dev nD → PrngReg)

theorem main_same : main (F := F) = Cert.UpProjIdeal.main (F := F) := rfl

theorem defs₀_same : defs₀ (F := F) = Cert.UpProjIdeal.defs₀ (F := F) := by
  refine congrArg Defs.onTc (funext fun ℓ => funext fun a => ?_)
  match ℓ, a with
  | 0, (t, s) => exact rfl

theorem defs_same : defs (F := F) = Cert.UpProjIdeal.defs (F := F) := congrArg (Pipeline.defs (pcfgs (F := F))) defs₀_same

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.UpProjIdeal.Pj.frame m ρ

end Cert.UpProj.Sm

namespace Cert.ConvProj.Sm

open Cert.ConvProj
open Idealize.ShloMosaic Idealize.ShloMosaic.TcCoe
open Idealize.SL.Sem

variable {F : FTy → Type} [FloatOps F]
variable (m : (ℓ : Loc nD τ sig) → Buf (Elt F) ℓ) (ρ : Dev nD → PrngReg)

theorem main_same : main (F := F) = Cert.ConvProjIdeal.main (F := F) := rfl

theorem defs₀_same : defs₀ (F := F) = Cert.ConvProjIdeal.defs₀ (F := F) := by
  refine congrArg Defs.onTc (funext fun ℓ => funext fun a => ?_)
  match ℓ, a with
  | 0, (t, s) => exact rfl

theorem defs_same : defs (F := F) = Cert.ConvProjIdeal.defs (F := F) := congrArg (Pipeline.defs (pcfgs (F := F))) defs₀_same

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.ConvProjIdeal.Cp.frame m ρ

end Cert.ConvProj.Sm

namespace Cert.AttnProj.Sm

open Cert.AttnProj
open Idealize.ShloMosaic Idealize.ShloMosaic.TcCoe
open Idealize.SL.Sem

variable {F : FTy → Type} [FloatOps F]
variable (m : (ℓ : Loc nD τ sig) → Buf (Elt F) ℓ) (ρ : Dev nD → PrngReg)

theorem main_same : main (F := F) = Cert.AttnProjIdeal.main (F := F) := rfl

theorem defs₀_same : defs₀ (F := F) = Cert.AttnProjIdeal.defs₀ (F := F) := by
  refine congrArg Defs.onTc (funext fun ℓ => funext fun a => ?_)
  match ℓ, a with
  | 0, (t, s) => exact rfl

theorem defs_same : defs (F := F) = Cert.AttnProjIdeal.defs (F := F) := congrArg (Pipeline.defs (pcfgs (F := F))) defs₀_same

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.AttnProjIdeal.Ap.frame m ρ

end Cert.AttnProj.Sm

end
-- ==== Proof.Pj.Out.lean ====
/- What the up-projection's grid leaves, over arrays that functions of row and column give: the normalized rows tile by tile, and the products block by
   block. -/
module

public import proofs.«01_k».proof.Proof.Pj.Run
public import proofs.«01_k».proof.Proof.Ub.Pay

@[expose] public section

set_option maxRecDepth 16384

noncomputable section

namespace Cert.UpProjIdeal.Pj

open Cert.UpProjIdeal Cert.UpProjIdeal.Gen
open Idealize.ShloMosaic Idealize.ShloMosaic.TcCoe Idealize.ShloMosaic.ValueIdx
open Cert.UpBackIdeal.Ub (E2 rho width_E2 eps_E2)
open scoped BigOperators

/-! The results, as functions. -/

section Results
variable (H W : ℕ → ℕ → EReal) (G : ℕ → EReal)

/-- The normalized rows, -/
def xn (r d : ℕ) : EReal := H r d * rho H r * G d

/-- and their products with the weights. -/
def up (r k : ℕ) : EReal := ∑ d ∈ Finset.range 1024, xn H G r d * W d k

end Results

/-! The payloads. -/

section Payloads
variable {f g : ℕ → ℕ → EReal} {w : ℕ → EReal}

theorem pay1_E2 {x : Vec Ideal S1024x1024 .f32} {y : Vec Ideal S1x1024 .f32} (hx : E2 x f) (hy : E2 y fun _ j => w j) :
    E2 (k0_pay1 (F := Ideal) x y) fun r j => f r j * rho f r * w j := by
  unfold k0_pay1
  dsimp only
  rw [shapeCast_self]
  have h := E2.rsqrt (E2.add (E2.div (E2.rowsum (h := reduces_S1024x1024_S1024) (hc := shapeCasts_S1024_S1024x1) (hφ := .inl rfl) (hacc := rfl) (hx.mul hx)) width_E2) eps_E2)
  exact E2.mul (E2.mul hx (E2.bcol (h := broadcasts_S1024x1_S1024x1024) (by decide) h)) (E2.brow (m := 1024) (h := broadcasts_S1x1024_S1024x1024) (by decide) hy)

theorem pay2_at {x : Vec Ideal S1024x1024 .bf16} {y : Vec Ideal S1024x1408 .bf16} (hx : E2 x f) (hy : E2 y g) (u : Fin 1) (r : Fin 1024) (k : Fin 1408) :
    (k0_pay2 (F := Ideal) x y : Vec Ideal S1x1024x1408 .f32) (ix3 u r k) = ∑ d ∈ Finset.range 1024, f r.val d * g d k.val := by
  unfold k0_pay2
  rw [shapeCast_self, shapeCast_self]
  refine (shapeCast_ab_1ab_apply _ _ u r k).trans ?_
  refine (Ideal.matmul_plain_apply (M := 1024) (K := 1024) (N := 1408) none x y _ r k).trans ?_
  rw [show (constant S1024x1408 .f32 0x00000000#32 : FVec Ideal _ .f32) (ix2 r k) = (0 : EReal) from Ideal.ofBits_zero_f32, zero_add]
  refine Eq.trans ?_ (Finset.sum_range fun d => f r.val d * g d k.val).symm
  exact Finset.sum_congr rfl fun d _ => congrArg₂ (fun a b : EReal => a * b) (hx r d) (hy d k)

end Payloads

section Grid
variable (m : (ℓ : Loc nD τ sig) → Buf (Elt Ideal) ℓ) (c : Dev nD)

theorem idx0 : ∀ t : Fin grid0.N, win0_0.index t (0 : Fin 2) = t.val / 4 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = t.val % 4 := by decide +kernel
theorem idx3 : ∀ t : Fin grid0.N, win0_3.index t (0 : Fin 2) = t.val / 4 ∧ win0_3.index t (1 : Fin 2) = 0 := by decide +kernel
theorem idx4 : ∀ t : Fin grid0.N, win0_4.index t (0 : Fin 3) = t.val % 4 / 2 ∧ win0_4.index t (1 : Fin 3) = t.val / 4 ∧ win0_4.index t (2 : Fin 3) = t.val % 2 := by decide +kernel

variable {H W : ℕ → ℕ → EReal} {G : ℕ → EReal}

theorem iblk0_E2 (hH : E2 (V m c main_arg0 : Vec Ideal S8192x1024 .f32) H) (t : Fin cfg0.N) : E2 (iblk m c 0 t : Vec Ideal S1024x1024 .f32) fun r j => H (1024 * (t.val / 4) + r) j := fun r j => by
  obtain ⟨e0, e1⟩ := idx0 t
  have hN : t.val < 32 := t.isLt
  refine Eq.trans ?_ (hH ⟨1024 * (t.val / 4) + r.val, by omega⟩ j)
  refine congrArg (V m c main_arg0 : Vec Ideal S8192x1024 .f32) (funext fun a => Fin.ext ?_)
  match a with
  | ⟨0, _⟩ => show win0_0.index t (0 : Fin 2) * 1024 + 1 * r.val = 1024 * (t.val / 4) + r.val; omega
  | ⟨1, _⟩ => show win0_0.index t (1 : Fin 2) * 1024 + 1 * j.val = j.val; omega

theorem iblk1_E2 (hG : E2 (V m c main_v0 : Vec Ideal S1x1024 .f32) fun _ j => G j) (t : Fin cfg0.N) : E2 (iblk m c 1 t : Vec Ideal S1x1024 .f32) fun _ j => G j := fun r j => by
  obtain ⟨e0, e1⟩ := idx1 t
  refine Eq.trans ?_ (hG r j)
  refine congrArg (V m c main_v0 : Vec Ideal S1x1024 .f32) (funext fun a => Fin.ext ?_)
  match a with
  | ⟨0, _⟩ => show win0_1.index t (0 : Fin 2) * 1 + 1 * r.val = r.val; omega
  | ⟨1, _⟩ => show win0_1.index t (1 : Fin 2) * 1024 + 1 * j.val = j.val; omega

theorem iblk2_E2 (hW : E2 (V m c main_v1 : Vec Ideal S1024x5632 .bf16) W) (t : Fin cfg0.N) : E2 (iblk m c 2 t : Vec Ideal S1024x1408 .bf16) fun d k => W d (1408 * (t.val % 4) + k) := fun d k => by
  obtain ⟨e0, e1⟩ := idx2 t
  refine Eq.trans ?_ (hW d ⟨1408 * (t.val % 4) + k.val, by omega⟩)
  refine congrArg (V m c main_v1 : Vec Ideal S1024x5632 .bf16) (funext fun a => Fin.ext ?_)
  match a with
  | ⟨0, _⟩ => show win0_2.index t (0 : Fin 2) * 1024 + 1 * d.val = d.val; omega
  | ⟨1, _⟩ => show win0_2.index t (1 : Fin 2) * 1408 + 1 * k.val = 1408 * (t.val % 4) + k.val; omega

theorem emb3 (t : Fin cfg0.N) (y : S1024x1024.Idx) (h0 : 1024 * (t.val / 4) + (y 0).val < 8192) :
    ((cfg0.win 3).blk t).view.emb y = (ix2 ⟨1024 * (t.val / 4) + (y 0).val, h0⟩ (y 1) : S8192x1024.Idx) := by
  obtain ⟨e0, e1⟩ := idx3 t
  funext a; apply Fin.ext
  match a with
  | ⟨0, _⟩ => show win0_3.index t (0 : Fin 2) * 1024 + 1 * (y 0).val = 1024 * (t.val / 4) + (y 0).val; omega
  | ⟨1, _⟩ => show win0_3.index t (1 : Fin 2) * 1024 + 1 * (y 1).val = (y 1).val; omega

theorem emb4 (t : Fin cfg0.N) (y : S1x1024x1408.Idx) (h0 : t.val % 4 / 2 < 2) (h1 : 1024 * (t.val / 4) + (y 1).val < 8192) (h2 : 1408 * (t.val % 2) + (y 2).val < 2816) :
    ((cfg0.win 4).blk t).view.emb y = (ix3 ⟨t.val % 4 / 2, h0⟩ ⟨1024 * (t.val / 4) + (y 1).val, h1⟩ ⟨1408 * (t.val % 2) + (y 2).val, h2⟩ : S2x8192x2816.Idx) := by
  obtain ⟨e0, e1, e2⟩ := idx4 t
  have hy : (y 0).val < 1 := (y 0).isLt
  funext a; apply Fin.ext
  match a with
  | ⟨0, _⟩ => show win0_4.index t (0 : Fin 3) * 1 + 1 * (y 0).val = t.val % 4 / 2; omega
  | ⟨1, _⟩ => show win0_4.index t (1 : Fin 3) * 1024 + 1 * (y 1).val = 1024 * (t.val / 4) + (y 1).val; omega
  | ⟨2, _⟩ => show win0_4.index t (2 : Fin 3) * 1408 + 1 * (y 2).val = 1408 * (t.val % 2) + (y 2).val; omega

/-! The points. -/

/-- The arrays' elements are what the functions give. -/
structure Reads (H W : ℕ → ℕ → EReal) (G : ℕ → EReal) : Prop where
  H : E2 (V m c main_arg0 : Vec Ideal S8192x1024 .f32) H
  G : E2 (V m c main_v0 : Vec Ideal S1x1024 .f32) fun _ j => G j
  W : E2 (V m c main_v1 : Vec Ideal S1024x5632 .bf16) W

variable {m c} (R : Reads m c H W G)
include R

theorem rows_E2 (t : Fin cfg0.N) : E2 (rows m c t) fun r d => xn H G (1024 * (t.val / 4) + r) d := by
  unfold rows
  refine (pay1_E2 (iblk0_E2 m c R.H (base t)) (iblk1_E2 m c R.G (base t))).congr fun r _ d _ => ?_
  show H (1024 * (t.val / 4 * 4 / 4) + r) d * rho H (1024 * (t.val / 4 * 4 / 4) + r) * G d = _
  rw [show t.val / 4 * 4 / 4 = t.val / 4 by omega]
  rfl

theorem prods_at (t : Fin cfg0.N) (u : Fin 1) (r : Fin 1024) (k : Fin 1408) : prods m c t (ix3 u r k) = up H W G (1024 * (t.val / 4) + r.val) (1408 * (t.val % 4) + k.val) := by
  unfold prods
  exact pay2_at (rows_E2 R t) (iblk2_E2 m c R.W t) u r k

/-! The arrays after the run. -/

theorem final3 (i : S8192x1024.Idx) : ((dats m 0 c).arrAt 3 cfg0.N : Vec Ideal S8192x1024 .bf16) i = xn H G (i 0).val (i 1).val := by
  refine (dats m 0 c).arrAt_forall_of_cover 3 (fun (i : S8192x1024.Idx) (x : EReal) => x = xn H G (i 0).val (i 1).val) (fun t hf y => ?_) (fun i => ?_) i
  · change S1024x1024.Idx at y
    have hN : t.val < 32 := t.isLt
    have h0 : (y 0).val < 1024 := (y 0).isLt
    rw [emb3 t y (by omega)]
    show (dats m 0 c).after 3 t y = _
    rw [after0_3]
    exact (congrArg (rows m c t) (eq_ix2 y)).trans (rows_E2 R t (y 0) (y 1))
  · have h0 : (i 0).val < 8192 := (i 0).isLt
    have hN : 4 * ((i 0).val / 1024) + 3 < cfg0.N := by show _ < 32; omega
    refine ⟨⟨4 * ((i 0).val / 1024) + 3, hN⟩, (flush0_3 _).mpr (by show (4 * ((i 0).val / 1024) + 3) % 4 = 3; omega), ?_⟩
    have hm := ((cfg0.win 3).blk ⟨4 * ((i 0).val / 1024) + 3, hN⟩).view.emb_mem_set (ix2 ⟨(i 0).val % 1024, by omega⟩ (i 1) : S1024x1024.Idx)
    rw [emb3 _ _ (by show 1024 * ((4 * ((i 0).val / 1024) + 3) / 4) + (i 0).val % 1024 < 8192; omega)] at hm
    refine (congrArg (· ∈ _) ?_).mp hm
    funext x; apply Fin.ext
    match x with
    | ⟨0, _⟩ => show 1024 * ((4 * ((i 0).val / 1024) + 3) / 4) + (i 0).val % 1024 = (i 0).val; omega
    | ⟨1, _⟩ => rfl

theorem final4 (i : S2x8192x2816.Idx) : ((dats m 0 c).arrAt 4 cfg0.N : Vec Ideal S2x8192x2816 .f32) i = up H W G (i 1).val (2816 * (i 0).val + (i 2).val) := by
  refine (dats m 0 c).arrAt_forall_of_cover 4 (fun (i : S2x8192x2816.Idx) (x : EReal) => x = up H W G (i 1).val (2816 * (i 0).val + (i 2).val)) (fun t hf y => ?_) (fun i => ?_) i
  · change S1x1024x1408.Idx at y
    have hN : t.val < 32 := t.isLt
    have h1 : (y 1).val < 1024 := (y 1).isLt
    have h2 : (y 2).val < 1408 := (y 2).isLt
    rw [emb4 t y (by omega) (by omega) (by omega)]
    show (dats m 0 c).after 4 t y = _
    rw [after0_4]
    refine (congrArg (prods m c t) (eq_ix3 y)).trans ((prods_at R t (y 0) (y 1) (y 2)).trans ?_)
    show _ = up H W G (1024 * (t.val / 4) + (y 1).val) (2816 * (t.val % 4 / 2) + (1408 * (t.val % 2) + (y 2).val))
    rw [show 2816 * (t.val % 4 / 2) + (1408 * (t.val % 2) + (y 2).val) = 1408 * (t.val % 4) + (y 2).val by omega]
  · have h0 : (i 0).val < 2 := (i 0).isLt
    have h1 : (i 1).val < 8192 := (i 1).isLt
    have h2 : (i 2).val < 2816 := (i 2).isLt
    have hN : 4 * ((i 1).val / 1024) + 2 * (i 0).val + (i 2).val / 1408 < cfg0.N := by show _ < 32; omega
    refine ⟨⟨4 * ((i 1).val / 1024) + 2 * (i 0).val + (i 2).val / 1408, hN⟩, flush0_4 _, ?_⟩
    have hm := ((cfg0.win 4).blk ⟨4 * ((i 1).val / 1024) + 2 * (i 0).val + (i 2).val / 1408, hN⟩).view.emb_mem_set
      (ix3 0 ⟨(i 1).val % 1024, by omega⟩ ⟨(i 2).val % 1408, by omega⟩ : S1x1024x1408.Idx)
    rw [emb4 _ _ (by show (4 * ((i 1).val / 1024) + 2 * (i 0).val + (i 2).val / 1408) % 4 / 2 < 2; omega)
      (by show 1024 * ((4 * ((i 1).val / 1024) + 2 * (i 0).val + (i 2).val / 1408) / 4) + (i 1).val % 1024 < 8192; omega)
      (by show 1408 * ((4 * ((i 1).val / 1024) + 2 * (i 0).val + (i 2).val / 1408) % 2) + (i 2).val % 1408 < 2816; omega)] at hm
    refine (congrArg (· ∈ _) ?_).mp hm
    funext x; apply Fin.ext
    match x with
    | ⟨0, _⟩ => show (4 * ((i 1).val / 1024) + 2 * (i 0).val + (i 2).val / 1408) % 4 / 2 = (i 0).val; omega
    | ⟨1, _⟩ => show 1024 * ((4 * ((i 1).val / 1024) + 2 * (i 0).val + (i 2).val / 1408) / 4) + (i 1).val % 1024 = (i 1).val; omega
    | ⟨2, _⟩ => show 1408 * ((4 * ((i 1).val / 1024) + 2 * (i 0).val + (i 2).val / 1408) % 2) + (i 2).val % 1408 = (i 2).val; omega

end Grid

end Cert.UpProjIdeal.Pj

end
-- ==== Proof.Pj.Final.lean ====
/- The normalized rows and the projection the kernel ends with are the reference's. -/
module

public import proofs.«01_k».proof.Defs
public import proofs.«01_k».proof.Proof.Pj.Out
public import proofs.«01_k».proof.Proof.Ub.Final
public import proofs.«01_k».proof.Proof.Gen.UpProjReferenceIdeal.Read
public import proofs.«01_k».proof.Proof.Gen.UpProjReferenceIdeal.Run
public import Idealize.ShloMosaic.Lib.StableHlo.RunRead
public import Idealize.ShloMosaic.Lib.Pointwise

@[expose] public section

set_option maxRecDepth 16384

noncomputable section

namespace Cert.UpProjReferenceIdeal.Pj

open Cert.UpProjReferenceIdeal Cert.UpProjReferenceIdeal.Read
open Idealize.ShloMosaic
open Cert.UpBackIdeal.Ub (rho ms eps width halves)
open Cert.UpProjIdeal.Pj (xn up)
open Cert.UpBackReferenceIdeal.Ub (zero_add_c add_c mul_c div_c rsqrt_c width_c eps_c)
open scoped BigOperators

variable {H W : ℕ → ℕ → EReal} {G : ℕ → EReal}
variable {x0 : (⟨S8192x1024, .f32⟩ : BufTy).Contents (Elt Ideal)} {x1 : (⟨S1024, .f32⟩ : BufTy).Contents (Elt Ideal)} {x2 : (⟨S1024x5632, .f32⟩ : BufTy).Contents (Elt Ideal)}
variable (h0 : ∀ i : S8192x1024.Idx, @Eq EReal (x0 i) (H (i 0).val (i 1).val)) (h1 : ∀ i : S1024.Idx, @Eq EReal (x1 i) (G (i 0).val))
  (h2 : ∀ i : S1024x5632.Idx, @Eq EReal (x2 i) (W (i 0).val (i 1).val))
include h0

theorem v1_eq (i : S8192.Idx) : @Eq EReal (val_main_v1 (F := Ideal) x0 i) (∑ d ∈ Finset.range 1024, H (i 0).val d * H (i 0).val d) := by
  rw [val_main_v1_apply, val_main_cst_apply, zero_add_c]
  refine Eq.trans (Finset.sum_congr rfl fun k _ => ?_) (Finset.sum_range fun d => H (i 0).val d * H (i 0).val d).symm
  rw [val_main_v0_apply, h0, mul_c]

theorem v7_eq (i : S8192x1.Idx) : @Eq EReal (val_main_v7 (F := Ideal) x0 i) (rho H (i 0).val) := by
  rw [val_main_v7_apply, val_main_v6_apply, val_main_v4_apply, val_main_v2_apply, v1_eq h0, val_main_v3_apply, val_main_cst_0_apply, val_main_v5_apply, val_main_cst_1_apply,
    width_c, eps_c, div_c, add_c, rsqrt_c]
  rfl

include h1

theorem v12_eq (i : S8192x1024.Idx) : @Eq EReal (val_main_v12 (F := Ideal) x0 x1 i) (xn H G (i 0).val (i 1).val) := by
  rw [val_main_v12_apply, val_main_v9_apply, val_main_v8_apply, v7_eq h0, h0, val_main_v11_apply, val_main_v10_apply, h1, mul_c, mul_c]
  rfl

theorem v27_eq (i : S8192x1024.Idx) : @Eq EReal (val_main_v27 (F := Ideal) x0 x1 i) (xn H G (i 0).val (i 1).val) :=
  v12_eq h0 h1 i

include h2

theorem v13_eq (i : S8192x5632.Idx) : @Eq EReal (val_main_v13 (F := Ideal) x0 x1 x2 i) (up H W G (i 0).val (i 1).val) := by
  rw [val_main_v13_apply]
  refine Eq.trans (Finset.sum_congr rfl fun k _ => ?_) (Finset.sum_range fun d => xn H G (i 0).val d * W d (i 1).val).symm
  exact congrArg₂ (fun a b : EReal => a * b) (v12_eq h0 h1 _) (h2 _)

theorem v32_eq (i : S2x8192x2816.Idx) : @Eq EReal (val_main_v32 (F := Ideal) x0 x1 x2 i) (up H W G (i 1).val (2816 * (i 0).val + (i 2).val)) := by
  have ha : (i 0).val < 2 := (i 0).isLt
  have hd : (i 2).val < 2816 := (i 2).isLt
  refine (congrArg (val_main_v32 (F := Ideal) x0 x1 x2) (ValueIdx.eq_ix3 i)).trans ?_
  exact (halves (val_main_v13 (F := Ideal) x0 x1 x2) (i 0) (i 1) (i 2) ⟨2816 * (i 0).val + (i 2).val, by omega⟩ rfl).trans (v13_eq h0 h1 h2 _)

end Cert.UpProjReferenceIdeal.Pj

namespace Cert.UpProjIdeal.Pj

open Cert.UpProjIdeal Cert.UpProjIdeal.Gen
open Idealize.ShloMosaic Idealize.ShloMosaic.TcCoe
open Idealize.SL.Sem
open Cert.UpBackIdeal.Ub (at2_eq at1_eq)
open scoped BigOperators

variable (m : (ℓ : Loc nD τ sig) → Buf (Elt Ideal) ℓ) (c : Dev nD) (g : Dev nD → PrngReg)

/-- The scale as a row, -/
theorem V_v0 : (V m c main_v0 : Vec Ideal S1x1024 .f32) = broadcastInDim S1x1024 ![1] bcast_S1024_S1x1024_1 (m ((c : Thread nD τ).loc main_arg1) : Vec Ideal S1024 .f32) := by
  unfold V
  simp only [List.flatten_cons, List.flatten_nil, List.append_nil, List.cons_append, List.nil_append, hostOps0]
  after_reads_simp

/-- and the rounded weights. -/
theorem V_v1 : (V m c main_v1 : Vec Ideal S1024x5632 .bf16) = (truncf (F := Ideal) .bf16 (m ((c : Thread nD τ).loc main_arg2) : FVec Ideal S1024x5632 .f32) bitsLt_bf16_f32 : FVec Ideal S1024x5632 .bf16) := by
  unfold V
  simp only [List.flatten_cons, List.flatten_nil, List.append_nil, List.cons_append, List.nil_append, hostOps0]
  after_reads_simp

variable {H W : ℕ → ℕ → EReal} {G : ℕ → EReal}

theorem reads (h0 : ∀ i : S8192x1024.Idx, @Eq EReal ((m ((c : Thread nD τ).loc main_arg0) : Vec Ideal S8192x1024 .f32) i) (H (i 0).val (i 1).val))
    (h1 : ∀ i : S1024.Idx, @Eq EReal ((m ((c : Thread nD τ).loc main_arg1) : Vec Ideal S1024 .f32) i) (G (i 0).val))
    (h2 : ∀ i : S1024x5632.Idx, @Eq EReal ((m ((c : Thread nD τ).loc main_arg2) : Vec Ideal S1024x5632 .f32) i) (W (i 0).val (i 1).val)) : Reads m c H W G where
  H r j := by
    rw [V_main_arg0]
    exact h0 (ValueIdx.ix2 r j)
  G r j := by
    rw [V_v0]
    refine Eq.trans (congrArg (m ((c : Thread nD τ).loc main_arg1) : Vec Ideal S1024 .f32) (funext fun y => Fin.ext ?_)) (h1 (ValueIdx.ix1 j))
    match y with
    | ⟨0, _⟩ => rfl
  W r j := by
    rw [V_v1]
    exact h2 (ValueIdx.ix2 r j)

/-- The two results the kernel ends with, -/
def res0 : Buf (Elt Ideal) ((c.tc : Thread nD τ).loc main_v2_0) := (dats m 0 c).arrAt 3 cfg0.N
def res1 : Buf (Elt Ideal) ((c.tc : Thread nD τ).loc main_v2_1) := (dats m 0 c).arrAt 4 cfg0.N

theorem ends_with : θ_run (Cert.UpProjIdeal.defs (F := Ideal)) (onTc (τ := τ) (Cert.UpProjIdeal.main (F := Ideal))) ⟨m, fun _ => 0, g⟩ (fun r => ∀ c : Dev nD,
      r.2.mem ((c.tc : Thread nD τ).loc main_v2_0) = res0 m c ∧ r.2.mem ((c.tc : Thread nD τ).loc main_v2_1) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run Cert.UpProjIdeal.defs _ _).mono (fun _ h c => ⟨(h.1 c).1 3, (h.1 c).1 4, h.2 c⟩) (θ_run_and (run_post m g) (unchanged m g))

/-- which are the reference's. -/
theorem same :
    Cert.UpProjReferenceIdeal.Read.val_main_v27 (F := Ideal) (m ((c : Thread nD τ).loc main_arg0)) (m ((c : Thread nD τ).loc main_arg1)) = res0 m c
    ∧ Cert.UpProjReferenceIdeal.Read.val_main_v32 (F := Ideal) (m ((c : Thread nD τ).loc main_arg0)) (m ((c : Thread nD τ).loc main_arg1)) (m ((c : Thread nD τ).loc main_arg2)) = res1 m c := by
  have h0 := at2_eq (m ((c : Thread nD τ).loc main_arg0) : Vec Ideal S8192x1024 .f32)
  have h1 := at1_eq (m ((c : Thread nD τ).loc main_arg1) : Vec Ideal S1024 .f32)
  have h2 := at2_eq (m ((c : Thread nD τ).loc main_arg2) : Vec Ideal S1024x5632 .f32)
  have R := reads m c h0 h1 h2
  constructor
  · refine funext fun (i : S8192x1024.Idx) => ?_
    exact (Cert.UpProjReferenceIdeal.Pj.v27_eq h0 h1 i).trans (final3 R i).symm
  · refine funext fun (i : S2x8192x2816.Idx) => ?_
    exact (Cert.UpProjReferenceIdeal.Pj.v32_eq h0 h1 h2 i).trans (final4 R i).symm

theorem algebraic : Cert.algebraic_UpProjIdeal_UpProjReferenceIdeal := fun m g m' g' _ ha =>
  ⟨res0 m, res1 m, ends_with m g, (θ_run Cert.UpProjReferenceIdeal.defs _ _).mono (fun r h c =>
    ⟨(h c).1.trans (by rw [Cert.UpProjReferenceIdeal.Read.val_main_v27_eq, (ha c).1, (ha c).2.1]; exact (same m c).1),
     (h c).2.1.trans (by rw [Cert.UpProjReferenceIdeal.Read.val_main_v32_eq, (ha c).1, (ha c).2.1, (ha c).2.2]; exact (same m c).2), (h c).2.2⟩)
    (Cert.UpProjReferenceIdeal.Value.run (F := Ideal) m' g')⟩

end Cert.UpProjIdeal.Pj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.UpGrad
public import proofs.«01_k».proof.Proof.Gen.UpGrad.Skeleton
public import proofs.«01_k».proof.Proof.Gen.UpGrad.Launch
public import proofs.«01_k».proof.Proof.Gen.UpGrad.Points
public import proofs.«01_k».proof.Proof.Gen.UpGrad.Frame
public import proofs.«01_k».proof.Proof.Gen.UpGradIdeal
public import proofs.«01_k».proof.Proof.Gen.UpGradIdeal.Skeleton
public import proofs.«01_k».proof.Proof.Gen.UpGradIdeal.Launch
public import proofs.«01_k».proof.Proof.Gen.UpGradIdeal.Points
public import proofs.«01_k».proof.Proof.Gen.UpGradIdeal.Frame
public import proofs.«01_k».proof.Proof.Gen.UpGradIdeal.Value
public import proofs.«01_k».proof.Proof.Gen.UpGradReferenceIdeal
public import proofs.«01_k».proof.Proof.Gen.UpGradReferenceIdeal.Run
public import proofs.«01_k».proof.Proof.Gen.UpGradReferenceIdeal.Read
public import proofs.«01_k».proof.Proof.Gen.UpBack
public import proofs.«01_k».proof.Proof.Gen.UpBack.Skeleton
public import proofs.«01_k».proof.Proof.Gen.UpBack.Launch
public import proofs.«01_k».proof.Proof.Gen.UpBack.Points
public import proofs.«01_k».proof.Proof.Gen.UpBack.Frame
public import proofs.«01_k».proof.Proof.Gen.UpBackIdeal
public import proofs.«01_k».proof.Proof.Gen.UpBackIdeal.Skeleton
public import proofs.«01_k».proof.Proof.Gen.UpBackIdeal.Launch
public import proofs.«01_k».proof.Proof.Gen.UpBackIdeal.Points
public import proofs.«01_k».proof.Proof.Gen.UpBackIdeal.Frame
public import proofs.«01_k».proof.Proof.Gen.UpBackIdeal.Value
public import proofs.«01_k».proof.Proof.Gen.UpBackReferenceIdeal
public import proofs.«01_k».proof.Proof.Gen.UpBackReferenceIdeal.Run
public import proofs.«01_k».proof.Proof.Gen.UpBackReferenceIdeal.Read
public import proofs.«01_k».proof.Proof.Gen.DownGrad
public import proofs.«01_k».proof.Proof.Gen.DownGrad.Skeleton
public import proofs.«01_k».proof.Proof.Gen.DownGrad.Launch
public import proofs.«01_k».proof.Proof.Gen.DownGrad.Points
public import proofs.«01_k».proof.Proof.Gen.DownGrad.Frame
public import proofs.«01_k».proof.Proof.Gen.DownGradIdeal
public import proofs.«01_k».proof.Proof.Gen.DownGradIdeal.Skeleton
public import proofs.«01_k».proof.Proof.Gen.DownGradIdeal.Launch
public import proofs.«01_k».proof.Proof.Gen.DownGradIdeal.Points
public import proofs.«01_k».proof.Proof.Gen.DownGradIdeal.Frame
public import proofs.«01_k».proof.Proof.Gen.DownGradIdeal.Value
public import proofs.«01_k».proof.Proof.Gen.DownGradReferenceIdeal
public import proofs.«01_k».proof.Proof.Gen.DownGradReferenceIdeal.Run
public import proofs.«01_k».proof.Proof.Gen.DownGradReferenceIdeal.Read
public import proofs.«01_k».proof.Proof.Gen.UpProj
public import proofs.«01_k».proof.Proof.Gen.UpProj.Skeleton
public import proofs.«01_k».proof.Proof.Gen.UpProj.Launch
public import proofs.«01_k».proof.Proof.Gen.UpProj.Points
public import proofs.«01_k».proof.Proof.Gen.UpProj.Frame
public import proofs.«01_k».proof.Proof.Gen.UpProjIdeal
public import proofs.«01_k».proof.Proof.Gen.UpProjIdeal.Skeleton
public import proofs.«01_k».proof.Proof.Gen.UpProjIdeal.Launch
public import proofs.«01_k».proof.Proof.Gen.UpProjIdeal.Points
public import proofs.«01_k».proof.Proof.Gen.UpProjIdeal.Frame
public import proofs.«01_k».proof.Proof.Gen.UpProjReferenceIdeal
public import proofs.«01_k».proof.Proof.Gen.UpProjReferenceIdeal.Run
public import proofs.«01_k».proof.Proof.Gen.UpProjReferenceIdeal.Read
public import proofs.«01_k».proof.Proof.Gen.ConvGrad
public import proofs.«01_k».proof.Proof.Gen.ConvGrad.Skeleton
public import proofs.«01_k».proof.Proof.Gen.ConvGrad.Launch
public import proofs.«01_k».proof.Proof.Gen.ConvGrad.Points
public import proofs.«01_k».proof.Proof.Gen.ConvGrad.Frame
public import proofs.«01_k».proof.Proof.Gen.ConvGradIdeal
public import proofs.«01_k».proof.Proof.Gen.ConvGradIdeal.Skeleton
public import proofs.«01_k».proof.Proof.Gen.ConvGradIdeal.Launch
public import proofs.«01_k».proof.Proof.Gen.ConvGradIdeal.Points
public import proofs.«01_k».proof.Proof.Gen.ConvGradIdeal.Frame
public import proofs.«01_k».proof.Proof.Gen.ConvGradIdeal.Value
public import proofs.«01_k».proof.Proof.Gen.ConvGradReferenceIdeal
public import proofs.«01_k».proof.Proof.Gen.ConvGradReferenceIdeal.Run
public import proofs.«01_k».proof.Proof.Gen.ConvGradReferenceIdeal.Read
public import proofs.«01_k».proof.Proof.Gen.ConvProj
public import proofs.«01_k».proof.Proof.Gen.ConvProj.Skeleton
public import proofs.«01_k».proof.Proof.Gen.ConvProj.Launch
public import proofs.«01_k».proof.Proof.Gen.ConvProj.Points
public import proofs.«01_k».proof.Proof.Gen.ConvProj.Frame
public import proofs.«01_k».proof.Proof.Gen.ConvProjIdeal
public import proofs.«01_k».proof.Proof.Gen.ConvProjIdeal.Skeleton
public import proofs.«01_k».proof.Proof.Gen.ConvProjIdeal.Launch
public import proofs.«01_k».proof.Proof.Gen.ConvProjIdeal.Points
public import proofs.«01_k».proof.Proof.Gen.ConvProjIdeal.Frame
public import proofs.«01_k».proof.Proof.Gen.ConvProjReferenceIdeal
public import proofs.«01_k».proof.Proof.Gen.ConvProjReferenceIdeal.Run
public import proofs.«01_k».proof.Proof.Gen.ConvProjReferenceIdeal.Read
public import proofs.«01_k».proof.Proof.Gen.ConvBack
public import proofs.«01_k».proof.Proof.Gen.ConvBack.Skeleton
public import proofs.«01_k».proof.Proof.Gen.ConvBack.Launch
public import proofs.«01_k».proof.Proof.Gen.ConvBack.Points
public import proofs.«01_k».proof.Proof.Gen.ConvBack.Frame
public import proofs.«01_k».proof.Proof.Gen.ConvBackIdeal
public import proofs.«01_k».proof.Proof.Gen.ConvBackIdeal.Skeleton
public import proofs.«01_k».proof.Proof.Gen.ConvBackIdeal.Launch
public import proofs.«01_k».proof.Proof.Gen.ConvBackIdeal.Points
public import proofs.«01_k».proof.Proof.Gen.ConvBackIdeal.Frame
public import proofs.«01_k».proof.Proof.Gen.ConvBackIdeal.Value
public import proofs.«01_k».proof.Proof.Gen.ConvBackReferenceIdeal
public import proofs.«01_k».proof.Proof.Gen.ConvBackReferenceIdeal.Run
public import proofs.«01_k».proof.Proof.Gen.ConvBackReferenceIdeal.Read
public import proofs.«01_k».proof.Proof.Cg.Final
public import proofs.«01_k».proof.Proof.Cp.Final
public import proofs.«01_k».proof.Proof.Cb.Final
public import proofs.«01_k».proof.Proof.Mg.Final
public import proofs.«01_k».proof.Proof.Ag.Final
public import proofs.«01_k».proof.Proof.Ap.Final
public import proofs.«01_k».proof.Proof.Ab.Final
public import proofs.«01_k».proof.Proof.Gen.MixGrad
public import proofs.«01_k».proof.Proof.Gen.MixGrad.Skeleton
public import proofs.«01_k».proof.Proof.Gen.MixGrad.Launch
public import proofs.«01_k».proof.Proof.Gen.MixGrad.Points
public import proofs.«01_k».proof.Proof.Gen.MixGrad.Frame
public import proofs.«01_k».proof.Proof.Gen.MixGradIdeal
public import proofs.«01_k».proof.Proof.Gen.MixGradIdeal.Skeleton
public import proofs.«01_k».proof.Proof.Gen.MixGradIdeal.Launch
public import proofs.«01_k».proof.Proof.Gen.MixGradIdeal.Points
public import proofs.«01_k».proof.Proof.Gen.MixGradIdeal.Frame
public import proofs.«01_k».proof.Proof.Gen.MixGradIdeal.Value
public import proofs.«01_k».proof.Proof.Gen.MixGradReferenceIdeal
public import proofs.«01_k».proof.Proof.Gen.MixGradReferenceIdeal.Run
public import proofs.«01_k».proof.Proof.Gen.MixGradReferenceIdeal.Read
public import proofs.«01_k».proof.Proof.Gen.AttnGrad
public import proofs.«01_k».proof.Proof.Gen.AttnGrad.Skeleton
public import proofs.«01_k».proof.Proof.Gen.AttnGrad.Launch
public import proofs.«01_k».proof.Proof.Gen.AttnGrad.Points
public import proofs.«01_k».proof.Proof.Gen.AttnGrad.Frame
public import proofs.«01_k».proof.Proof.Gen.AttnGradIdeal
public import proofs.«01_k».proof.Proof.Gen.AttnGradIdeal.Skeleton
public import proofs.«01_k».proof.Proof.Gen.AttnGradIdeal.Launch
public import proofs.«01_k».proof.Proof.Gen.AttnGradIdeal.Points
public import proofs.«01_k».proof.Proof.Gen.AttnGradIdeal.Frame
public import proofs.«01_k».proof.Proof.Gen.AttnGradIdeal.Value
public import proofs.«01_k».proof.Proof.Gen.AttnGradReferenceIdeal
public import proofs.«01_k».proof.Proof.Gen.AttnGradReferenceIdeal.Run
public import proofs.«01_k».proof.Proof.Gen.AttnGradReferenceIdeal.Read
public import proofs.«01_k».proof.Proof.Gen.AttnProj
public import proofs.«01_k».proof.Proof.Gen.AttnProj.Skeleton
public import proofs.«01_k».proof.Proof.Gen.AttnProj.Launch
public import proofs.«01_k».proof.Proof.Gen.AttnProj.Points
public import proofs.«01_k».proof.Proof.Gen.AttnProj.Frame
public import proofs.«01_k».proof.Proof.Gen.AttnProjIdeal
public import proofs.«01_k».proof.Proof.Gen.AttnProjIdeal.Skeleton
public import proofs.«01_k».proof.Proof.Gen.AttnProjIdeal.Launch
public import proofs.«01_k».proof.Proof.Gen.AttnProjIdeal.Points
public import proofs.«01_k».proof.Proof.Gen.AttnProjIdeal.Frame
public import proofs.«01_k».proof.Proof.Gen.AttnProjReferenceIdeal
public import proofs.«01_k».proof.Proof.Gen.AttnProjReferenceIdeal.Run
public import proofs.«01_k».proof.Proof.Gen.AttnProjReferenceIdeal.Read
public import proofs.«01_k».proof.Proof.Gen.AttnBack
public import proofs.«01_k».proof.Proof.Gen.AttnBack.Skeleton
public import proofs.«01_k».proof.Proof.Gen.AttnBack.Launch
public import proofs.«01_k».proof.Proof.Gen.AttnBack.Points
public import proofs.«01_k».proof.Proof.Gen.AttnBack.Frame
public import proofs.«01_k».proof.Proof.Gen.AttnBackIdeal
public import proofs.«01_k».proof.Proof.Gen.AttnBackIdeal.Skeleton
public import proofs.«01_k».proof.Proof.Gen.AttnBackIdeal.Launch
public import proofs.«01_k».proof.Proof.Gen.AttnBackIdeal.Points
public import proofs.«01_k».proof.Proof.Gen.AttnBackIdeal.Frame
public import proofs.«01_k».proof.Proof.Gen.AttnBackIdeal.Value
public import proofs.«01_k».proof.Proof.Gen.AttnBackReferenceIdeal
public import proofs.«01_k».proof.Proof.Gen.AttnBackReferenceIdeal.Run
public import proofs.«01_k».proof.Proof.Gen.AttnBackReferenceIdeal.Read
public import proofs.«01_k».proof.Proof.Sb.Run
public import proofs.«01_k».proof.Proof.Sb.Final
public import proofs.«01_k».proof.Proof.Sk.Run
public import proofs.«01_k».proof.Proof.Up.Final
public import proofs.«01_k».proof.Proof.Ub.Final
public import proofs.«01_k».proof.Proof.Dn.Final
public import proofs.«01_k».proof.Proof.Sm.Same
public import proofs.«01_k».proof.Proof.Pj.Final
public import Idealize.ShloMosaic.Adequacy
public import Idealize.ShloMosaic.Init

@[expose] public section

noncomputable section

namespace Cert.Proof

open Idealize.ShloMosaic Idealize.SL.Sem Cert.Kernel

/-- The reference runs, its arguments and counters as they were. -/
theorem ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => And.intro (fun c => (h c).2.2)
    (Idealize.ShloMosaic.sem_eq_zero_of_no_sems (by decide) r.2)) (Cert.ReferenceIdeal.Value.run (F := Ideal) m g)

theorem up_ref (m : (ℓ : Loc Cert.UpGradReferenceIdeal.nD Cert.UpGradReferenceIdeal.τ Cert.UpGradReferenceIdeal.sig) → Buf (Elt Ideal) ℓ) (g : Dev Cert.UpGradReferenceIdeal.nD → PrngReg) :
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1)
      ∧ r.2.mem ((c.tc : Thread Cert.UpGradReferenceIdeal.nD Cert.UpGradReferenceIdeal.τ).loc Cert.UpGradReferenceIdeal.main_arg2) = m ((c.tc : Thread Cert.UpGradReferenceIdeal.nD Cert.UpGradReferenceIdeal.τ).loc Cert.UpGradReferenceIdeal.main_arg2)
      ∧ r.2.mem ((c.tc : Thread Cert.UpGradReferenceIdeal.nD Cert.UpGradReferenceIdeal.τ).loc Cert.UpGradReferenceIdeal.main_arg3) = m ((c.tc : Thread Cert.UpGradReferenceIdeal.nD Cert.UpGradReferenceIdeal.τ).loc Cert.UpGradReferenceIdeal.main_arg3))
      ∧ r.2.sem = fun _ => 0) :=
  (θ_run Cert.UpGradReferenceIdeal.defs _ _).mono (fun r h => And.intro (fun c => (h c).2)
    (Idealize.ShloMosaic.sem_eq_zero_of_no_sems (by decide) r.2)) (Cert.UpGradReferenceIdeal.Value.run (F := Ideal) m g)

theorem back_ref (m : (ℓ : Loc Cert.UpBackReferenceIdeal.nD Cert.UpBackReferenceIdeal.τ Cert.UpBackReferenceIdeal.sig) → Buf (Elt Ideal) ℓ) (g : Dev Cert.UpBackReferenceIdeal.nD → PrngReg) :
    θ_run (Cert.UpBackReferenceIdeal.defs (F := Ideal)) (onTc (τ := Cert.UpBackReferenceIdeal.τ) (Cert.UpBackReferenceIdeal.main (F := Ideal))) ⟨m, fun _ => 0, g⟩ (fun r => (∀ c : Dev Cert.UpBackReferenceIdeal.nD,
      r.2.mem ((c.tc : Thread Cert.UpBackReferenceIdeal.nD Cert.UpBackReferenceIdeal.τ).loc Cert.UpBackReferenceIdeal.main_arg0) = m ((c.tc : Thread Cert.UpBackReferenceIdeal.nD Cert.UpBackReferenceIdeal.τ).loc Cert.UpBackReferenceIdeal.main_arg0)
      ∧ r.2.mem ((c.tc : Thread Cert.UpBackReferenceIdeal.nD Cert.UpBackReferenceIdeal.τ).loc Cert.UpBackReferenceIdeal.main_arg1) = m ((c.tc : Thread Cert.UpBackReferenceIdeal.nD Cert.UpBackReferenceIdeal.τ).loc Cert.UpBackReferenceIdeal.main_arg1)
      ∧ r.2.mem ((c.tc : Thread Cert.UpBackReferenceIdeal.nD Cert.UpBackReferenceIdeal.τ).loc Cert.UpBackReferenceIdeal.main_arg2) = m ((c.tc : Thread Cert.UpBackReferenceIdeal.nD Cert.UpBackReferenceIdeal.τ).loc Cert.UpBackReferenceIdeal.main_arg2)
      ∧ r.2.mem ((c.tc : Thread Cert.UpBackReferenceIdeal.nD Cert.UpBackReferenceIdeal.τ).loc Cert.UpBackReferenceIdeal.main_arg3) = m ((c.tc : Thread Cert.UpBackReferenceIdeal.nD Cert.UpBackReferenceIdeal.τ).loc Cert.UpBackReferenceIdeal.main_arg3)
      ∧ r.2.mem ((c.tc : Thread Cert.UpBackReferenceIdeal.nD Cert.UpBackReferenceIdeal.τ).loc Cert.UpBackReferenceIdeal.main_arg4) = m ((c.tc : Thread Cert.UpBackReferenceIdeal.nD Cert.UpBackReferenceIdeal.τ).loc Cert.UpBackReferenceIdeal.main_arg4))
      ∧ r.2.sem = fun _ => 0) :=
  (θ_run Cert.UpBackReferenceIdeal.defs _ _).mono (fun r h => And.intro (fun c => (h c).2.2)
    (Idealize.ShloMosaic.sem_eq_zero_of_no_sems (by decide) r.2)) (Cert.UpBackReferenceIdeal.Value.run (F := Ideal) m g)

theorem down_ref (m : (ℓ : Loc Cert.DownGradReferenceIdeal.nD Cert.DownGradReferenceIdeal.τ Cert.DownGradReferenceIdeal.sig) → Buf (Elt Ideal) ℓ) (g : Dev Cert.DownGradReferenceIdeal.nD → PrngReg) :
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1)
      ∧ r.2.mem ((c.tc : Thread Cert.DownGradReferenceIdeal.nD Cert.DownGradReferenceIdeal.τ).loc Cert.DownGradReferenceIdeal.main_arg2) = m ((c.tc : Thread Cert.DownGradReferenceIdeal.nD Cert.DownGradReferenceIdeal.τ).loc Cert.DownGradReferenceIdeal.main_arg2)
      ∧ r.2.mem ((c.tc : Thread Cert.DownGradReferenceIdeal.nD Cert.DownGradReferenceIdeal.τ).loc Cert.DownGradReferenceIdeal.main_arg3) = m ((c.tc : Thread Cert.DownGradReferenceIdeal.nD Cert.DownGradReferenceIdeal.τ).loc Cert.DownGradReferenceIdeal.main_arg3)
      ∧ r.2.mem ((c.tc : Thread Cert.DownGradReferenceIdeal.nD Cert.DownGradReferenceIdeal.τ).loc Cert.DownGradReferenceIdeal.main_arg4) = m ((c.tc : Thread Cert.DownGradReferenceIdeal.nD Cert.DownGradReferenceIdeal.τ).loc Cert.DownGradReferenceIdeal.main_arg4)
      ∧ r.2.mem ((c.tc : Thread Cert.DownGradReferenceIdeal.nD Cert.DownGradReferenceIdeal.τ).loc Cert.DownGradReferenceIdeal.main_arg5) = m ((c.tc : Thread Cert.DownGradReferenceIdeal.nD Cert.DownGradReferenceIdeal.τ).loc Cert.DownGradReferenceIdeal.main_arg5))
      ∧ r.2.sem = fun _ => 0) :=
  (θ_run Cert.DownGradReferenceIdeal.defs _ _).mono (fun r h => And.intro (fun c => (h c).2)
    (Idealize.ShloMosaic.sem_eq_zero_of_no_sems (by decide) r.2)) (Cert.DownGradReferenceIdeal.Value.run (F := Ideal) m g)

theorem proj_ref (m : (ℓ : Loc Cert.UpProjReferenceIdeal.nD Cert.UpProjReferenceIdeal.τ Cert.UpProjReferenceIdeal.sig) → Buf (Elt Ideal) ℓ) (g : Dev Cert.UpProjReferenceIdeal.nD → PrngReg) :
    θ_run (Cert.UpProjReferenceIdeal.defs (F := Ideal)) (onTc (τ := Cert.UpProjReferenceIdeal.τ) (Cert.UpProjReferenceIdeal.main (F := Ideal))) ⟨m, fun _ => 0, g⟩ (fun r => (∀ c : Dev Cert.UpProjReferenceIdeal.nD,
      r.2.mem ((c.tc : Thread Cert.UpProjReferenceIdeal.nD Cert.UpProjReferenceIdeal.τ).loc Cert.UpProjReferenceIdeal.main_arg0) = m ((c.tc : Thread Cert.UpProjReferenceIdeal.nD Cert.UpProjReferenceIdeal.τ).loc Cert.UpProjReferenceIdeal.main_arg0)
      ∧ r.2.mem ((c.tc : Thread Cert.UpProjReferenceIdeal.nD Cert.UpProjReferenceIdeal.τ).loc Cert.UpProjReferenceIdeal.main_arg1) = m ((c.tc : Thread Cert.UpProjReferenceIdeal.nD Cert.UpProjReferenceIdeal.τ).loc Cert.UpProjReferenceIdeal.main_arg1)
      ∧ r.2.mem ((c.tc : Thread Cert.UpProjReferenceIdeal.nD Cert.UpProjReferenceIdeal.τ).loc Cert.UpProjReferenceIdeal.main_arg2) = m ((c.tc : Thread Cert.UpProjReferenceIdeal.nD Cert.UpProjReferenceIdeal.τ).loc Cert.UpProjReferenceIdeal.main_arg2))
      ∧ r.2.sem = fun _ => 0) :=
  (θ_run Cert.UpProjReferenceIdeal.defs _ _).mono (fun r h => And.intro (fun c => (h c).2.2)
    (Idealize.ShloMosaic.sem_eq_zero_of_no_sems (by decide) r.2)) (Cert.UpProjReferenceIdeal.Value.run (F := Ideal) m g)

theorem conv_grad_ref (m : (ℓ : Loc Cert.ConvGradReferenceIdeal.nD Cert.ConvGradReferenceIdeal.τ Cert.ConvGradReferenceIdeal.sig) → Buf (Elt Ideal) ℓ) (g : Dev Cert.ConvGradReferenceIdeal.nD → PrngReg) :
    θ_run (Cert.ConvGradReferenceIdeal.defs (F := Ideal)) (onTc (τ := Cert.ConvGradReferenceIdeal.τ) (Cert.ConvGradReferenceIdeal.main (F := Ideal))) ⟨m, fun _ => 0, g⟩ (fun r => (∀ c : Dev Cert.ConvGradReferenceIdeal.nD,
      r.2.mem ((c.tc : Thread Cert.ConvGradReferenceIdeal.nD Cert.ConvGradReferenceIdeal.τ).loc Cert.ConvGradReferenceIdeal.main_arg0) = m ((c.tc : Thread Cert.ConvGradReferenceIdeal.nD Cert.ConvGradReferenceIdeal.τ).loc Cert.ConvGradReferenceIdeal.main_arg0)
      ∧ r.2.mem ((c.tc : Thread Cert.ConvGradReferenceIdeal.nD Cert.ConvGradReferenceIdeal.τ).loc Cert.ConvGradReferenceIdeal.main_arg1) = m ((c.tc : Thread Cert.ConvGradReferenceIdeal.nD Cert.ConvGradReferenceIdeal.τ).loc Cert.ConvGradReferenceIdeal.main_arg1)
      ∧ r.2.mem ((c.tc : Thread Cert.ConvGradReferenceIdeal.nD Cert.ConvGradReferenceIdeal.τ).loc Cert.ConvGradReferenceIdeal.main_arg2) = m ((c.tc : Thread Cert.ConvGradReferenceIdeal.nD Cert.ConvGradReferenceIdeal.τ).loc Cert.ConvGradReferenceIdeal.main_arg2)
      ∧ r.2.mem ((c.tc : Thread Cert.ConvGradReferenceIdeal.nD Cert.ConvGradReferenceIdeal.τ).loc Cert.ConvGradReferenceIdeal.main_arg3) = m ((c.tc : Thread Cert.ConvGradReferenceIdeal.nD Cert.ConvGradReferenceIdeal.τ).loc Cert.ConvGradReferenceIdeal.main_arg3))
      ∧ r.2.sem = fun _ => 0) :=
  (θ_run Cert.ConvGradReferenceIdeal.defs _ _).mono (fun r h => And.intro (fun c => (h c).2)
    (Idealize.ShloMosaic.sem_eq_zero_of_no_sems (by decide) r.2)) (Cert.ConvGradReferenceIdeal.Value.run (F := Ideal) m g)

theorem conv_proj_ref (m : (ℓ : Loc Cert.ConvProjReferenceIdeal.nD Cert.ConvProjReferenceIdeal.τ Cert.ConvProjReferenceIdeal.sig) → Buf (Elt Ideal) ℓ) (g : Dev Cert.ConvProjReferenceIdeal.nD → PrngReg) :
    θ_run (Cert.ConvProjReferenceIdeal.defs (F := Ideal)) (onTc (τ := Cert.ConvProjReferenceIdeal.τ) (Cert.ConvProjReferenceIdeal.main (F := Ideal))) ⟨m, fun _ => 0, g⟩ (fun r => (∀ c : Dev Cert.ConvProjReferenceIdeal.nD,
      r.2.mem ((c.tc : Thread Cert.ConvProjReferenceIdeal.nD Cert.ConvProjReferenceIdeal.τ).loc Cert.ConvProjReferenceIdeal.main_arg0) = m ((c.tc : Thread Cert.ConvProjReferenceIdeal.nD Cert.ConvProjReferenceIdeal.τ).loc Cert.ConvProjReferenceIdeal.main_arg0)
      ∧ r.2.mem ((c.tc : Thread Cert.ConvProjReferenceIdeal.nD Cert.ConvProjReferenceIdeal.τ).loc Cert.ConvProjReferenceIdeal.main_arg1) = m ((c.tc : Thread Cert.ConvProjReferenceIdeal.nD Cert.ConvProjReferenceIdeal.τ).loc Cert.ConvProjReferenceIdeal.main_arg1)
      ∧ r.2.mem ((c.tc : Thread Cert.ConvProjReferenceIdeal.nD Cert.ConvProjReferenceIdeal.τ).loc Cert.ConvProjReferenceIdeal.main_arg2) = m ((c.tc : Thread Cert.ConvProjReferenceIdeal.nD Cert.ConvProjReferenceIdeal.τ).loc Cert.ConvProjReferenceIdeal.main_arg2))
      ∧ r.2.sem = fun _ => 0) :=
  (θ_run Cert.ConvProjReferenceIdeal.defs _ _).mono (fun r h => And.intro (fun c => (h c).2.2)
    (Idealize.ShloMosaic.sem_eq_zero_of_no_sems (by decide) r.2)) (Cert.ConvProjReferenceIdeal.Value.run (F := Ideal) m g)

theorem conv_back_ref (m : (ℓ : Loc Cert.ConvBackReferenceIdeal.nD Cert.ConvBackReferenceIdeal.τ Cert.ConvBackReferenceIdeal.sig) → Buf (Elt Ideal) ℓ) (g : Dev Cert.ConvBackReferenceIdeal.nD → PrngReg) :
    θ_run (Cert.ConvBackReferenceIdeal.defs (F := Ideal)) (onTc (τ := Cert.ConvBackReferenceIdeal.τ) (Cert.ConvBackReferenceIdeal.main (F := Ideal))) ⟨m, fun _ => 0, g⟩ (fun r => (∀ c : Dev Cert.ConvBackReferenceIdeal.nD,
      r.2.mem ((c.tc : Thread Cert.ConvBackReferenceIdeal.nD Cert.ConvBackReferenceIdeal.τ).loc Cert.ConvBackReferenceIdeal.main_arg0) = m ((c.tc : Thread Cert.ConvBackReferenceIdeal.nD Cert.ConvBackReferenceIdeal.τ).loc Cert.ConvBackReferenceIdeal.main_arg0)
      ∧ r.2.mem ((c.tc : Thread Cert.ConvBackReferenceIdeal.nD Cert.ConvBackReferenceIdeal.τ).loc Cert.ConvBackReferenceIdeal.main_arg1) = m ((c.tc : Thread Cert.ConvBackReferenceIdeal.nD Cert.ConvBackReferenceIdeal.τ).loc Cert.ConvBackReferenceIdeal.main_arg1)
      ∧ r.2.mem ((c.tc : Thread Cert.ConvBackReferenceIdeal.nD Cert.ConvBackReferenceIdeal.τ).loc Cert.ConvBackReferenceIdeal.main_arg2) = m ((c.tc : Thread Cert.ConvBackReferenceIdeal.nD Cert.ConvBackReferenceIdeal.τ).loc Cert.ConvBackReferenceIdeal.main_arg2)
      ∧ r.2.mem ((c.tc : Thread Cert.ConvBackReferenceIdeal.nD Cert.ConvBackReferenceIdeal.τ).loc Cert.ConvBackReferenceIdeal.main_arg3) = m ((c.tc : Thread Cert.ConvBackReferenceIdeal.nD Cert.ConvBackReferenceIdeal.τ).loc Cert.ConvBackReferenceIdeal.main_arg3)
      ∧ r.2.mem ((c.tc : Thread Cert.ConvBackReferenceIdeal.nD Cert.ConvBackReferenceIdeal.τ).loc Cert.ConvBackReferenceIdeal.main_arg4) = m ((c.tc : Thread Cert.ConvBackReferenceIdeal.nD Cert.ConvBackReferenceIdeal.τ).loc Cert.ConvBackReferenceIdeal.main_arg4))
      ∧ r.2.sem = fun _ => 0) :=
  (θ_run Cert.ConvBackReferenceIdeal.defs _ _).mono (fun r h => And.intro (fun c => (h c).2.2)
    (Idealize.ShloMosaic.sem_eq_zero_of_no_sems (by decide) r.2)) (Cert.ConvBackReferenceIdeal.Value.run (F := Ideal) m g)

theorem mix_grad_ref (m : (ℓ : Loc Cert.MixGradReferenceIdeal.nD Cert.MixGradReferenceIdeal.τ Cert.MixGradReferenceIdeal.sig) → Buf (Elt Ideal) ℓ) (g : Dev Cert.MixGradReferenceIdeal.nD → PrngReg) :
    θ_run (Cert.MixGradReferenceIdeal.defs (F := Ideal)) (onTc (τ := Cert.MixGradReferenceIdeal.τ) (Cert.MixGradReferenceIdeal.main (F := Ideal))) ⟨m, fun _ => 0, g⟩ (fun r => (∀ c : Dev Cert.MixGradReferenceIdeal.nD,
      r.2.mem ((c.tc : Thread Cert.MixGradReferenceIdeal.nD Cert.MixGradReferenceIdeal.τ).loc Cert.MixGradReferenceIdeal.main_arg0) = m ((c.tc : Thread Cert.MixGradReferenceIdeal.nD Cert.MixGradReferenceIdeal.τ).loc Cert.MixGradReferenceIdeal.main_arg0)
      ∧ r.2.mem ((c.tc : Thread Cert.MixGradReferenceIdeal.nD Cert.MixGradReferenceIdeal.τ).loc Cert.MixGradReferenceIdeal.main_arg1) = m ((c.tc : Thread Cert.MixGradReferenceIdeal.nD Cert.MixGradReferenceIdeal.τ).loc Cert.MixGradReferenceIdeal.main_arg1)
      ∧ r.2.mem ((c.tc : Thread Cert.MixGradReferenceIdeal.nD Cert.MixGradReferenceIdeal.τ).loc Cert.MixGradReferenceIdeal.main_arg2) = m ((c.tc : Thread Cert.MixGradReferenceIdeal.nD Cert.MixGradReferenceIdeal.τ).loc Cert.MixGradReferenceIdeal.main_arg2))
      ∧ r.2.sem = fun _ => 0) :=
  (θ_run Cert.MixGradReferenceIdeal.defs _ _).mono (fun r h => And.intro (fun c => (h c).2)
    (Idealize.ShloMosaic.sem_eq_zero_of_no_sems (by decide) r.2)) (Cert.MixGradReferenceIdeal.Value.run (F := Ideal) m g)

theorem attn_grad_ref (m : (ℓ : Loc Cert.AttnGradReferenceIdeal.nD Cert.AttnGradReferenceIdeal.τ Cert.AttnGradReferenceIdeal.sig) → Buf (Elt Ideal) ℓ) (g : Dev Cert.AttnGradReferenceIdeal.nD → PrngReg) :
    θ_run (Cert.AttnGradReferenceIdeal.defs (F := Ideal)) (onTc (τ := Cert.AttnGradReferenceIdeal.τ) (Cert.AttnGradReferenceIdeal.main (F := Ideal))) ⟨m, fun _ => 0, g⟩ (fun r => (∀ c : Dev Cert.AttnGradReferenceIdeal.nD,
      r.2.mem ((c.tc : Thread Cert.AttnGradReferenceIdeal.nD Cert.AttnGradReferenceIdeal.τ).loc Cert.AttnGradReferenceIdeal.main_arg0) = m ((c.tc : Thread Cert.AttnGradReferenceIdeal.nD Cert.AttnGradReferenceIdeal.τ).loc Cert.AttnGradReferenceIdeal.main_arg0)
      ∧ r.2.mem ((c.tc : Thread Cert.AttnGradReferenceIdeal.nD Cert.AttnGradReferenceIdeal.τ).loc Cert.AttnGradReferenceIdeal.main_arg1) = m ((c.tc : Thread Cert.AttnGradReferenceIdeal.nD Cert.AttnGradReferenceIdeal.τ).loc Cert.AttnGradReferenceIdeal.main_arg1)
      ∧ r.2.mem ((c.tc : Thread Cert.AttnGradReferenceIdeal.nD Cert.AttnGradReferenceIdeal.τ).loc Cert.AttnGradReferenceIdeal.main_arg2) = m ((c.tc : Thread Cert.AttnGradReferenceIdeal.nD Cert.AttnGradReferenceIdeal.τ).loc Cert.AttnGradReferenceIdeal.main_arg2)
      ∧ r.2.mem ((c.tc : Thread Cert.AttnGradReferenceIdeal.nD Cert.AttnGradReferenceIdeal.τ).loc Cert.AttnGradReferenceIdeal.main_arg3) = m ((c.tc : Thread Cert.AttnGradReferenceIdeal.nD Cert.AttnGradReferenceIdeal.τ).loc Cert.AttnGradReferenceIdeal.main_arg3))
      ∧ r.2.sem = fun _ => 0) :=
  (θ_run Cert.AttnGradReferenceIdeal.defs _ _).mono (fun r h => And.intro (fun c => (h c).2)
    (Idealize.ShloMosaic.sem_eq_zero_of_no_sems (by decide) r.2)) (Cert.AttnGradReferenceIdeal.Value.run (F := Ideal) m g)

theorem attn_proj_ref (m : (ℓ : Loc Cert.AttnProjReferenceIdeal.nD Cert.AttnProjReferenceIdeal.τ Cert.AttnProjReferenceIdeal.sig) → Buf (Elt Ideal) ℓ) (g : Dev Cert.AttnProjReferenceIdeal.nD → PrngReg) :
    θ_run (Cert.AttnProjReferenceIdeal.defs (F := Ideal)) (onTc (τ := Cert.AttnProjReferenceIdeal.τ) (Cert.AttnProjReferenceIdeal.main (F := Ideal))) ⟨m, fun _ => 0, g⟩ (fun r => (∀ c : Dev Cert.AttnProjReferenceIdeal.nD,
      r.2.mem ((c.tc : Thread Cert.AttnProjReferenceIdeal.nD Cert.AttnProjReferenceIdeal.τ).loc Cert.AttnProjReferenceIdeal.main_arg0) = m ((c.tc : Thread Cert.AttnProjReferenceIdeal.nD Cert.AttnProjReferenceIdeal.τ).loc Cert.AttnProjReferenceIdeal.main_arg0)
      ∧ r.2.mem ((c.tc : Thread Cert.AttnProjReferenceIdeal.nD Cert.AttnProjReferenceIdeal.τ).loc Cert.AttnProjReferenceIdeal.main_arg1) = m ((c.tc : Thread Cert.AttnProjReferenceIdeal.nD Cert.AttnProjReferenceIdeal.τ).loc Cert.AttnProjReferenceIdeal.main_arg1)
      ∧ r.2.mem ((c.tc : Thread Cert.AttnProjReferenceIdeal.nD Cert.AttnProjReferenceIdeal.τ).loc Cert.AttnProjReferenceIdeal.main_arg2) = m ((c.tc : Thread Cert.AttnProjReferenceIdeal.nD Cert.AttnProjReferenceIdeal.τ).loc Cert.AttnProjReferenceIdeal.main_arg2))
      ∧ r.2.sem = fun _ => 0) :=
  (θ_run Cert.AttnProjReferenceIdeal.defs _ _).mono (fun r h => And.intro (fun c => (h c).2.2)
    (Idealize.ShloMosaic.sem_eq_zero_of_no_sems (by decide) r.2)) (Cert.AttnProjReferenceIdeal.Value.run (F := Ideal) m g)

theorem attn_back_ref (m : (ℓ : Loc Cert.AttnBackReferenceIdeal.nD Cert.AttnBackReferenceIdeal.τ Cert.AttnBackReferenceIdeal.sig) → Buf (Elt Ideal) ℓ) (g : Dev Cert.AttnBackReferenceIdeal.nD → PrngReg) :
    θ_run (Cert.AttnBackReferenceIdeal.defs (F := Ideal)) (onTc (τ := Cert.AttnBackReferenceIdeal.τ) (Cert.AttnBackReferenceIdeal.main (F := Ideal))) ⟨m, fun _ => 0, g⟩ (fun r => (∀ c : Dev Cert.AttnBackReferenceIdeal.nD,
      r.2.mem ((c.tc : Thread Cert.AttnBackReferenceIdeal.nD Cert.AttnBackReferenceIdeal.τ).loc Cert.AttnBackReferenceIdeal.main_arg0) = m ((c.tc : Thread Cert.AttnBackReferenceIdeal.nD Cert.AttnBackReferenceIdeal.τ).loc Cert.AttnBackReferenceIdeal.main_arg0)
      ∧ r.2.mem ((c.tc : Thread Cert.AttnBackReferenceIdeal.nD Cert.AttnBackReferenceIdeal.τ).loc Cert.AttnBackReferenceIdeal.main_arg1) = m ((c.tc : Thread Cert.AttnBackReferenceIdeal.nD Cert.AttnBackReferenceIdeal.τ).loc Cert.AttnBackReferenceIdeal.main_arg1)
      ∧ r.2.mem ((c.tc : Thread Cert.AttnBackReferenceIdeal.nD Cert.AttnBackReferenceIdeal.τ).loc Cert.AttnBackReferenceIdeal.main_arg2) = m ((c.tc : Thread Cert.AttnBackReferenceIdeal.nD Cert.AttnBackReferenceIdeal.τ).loc Cert.AttnBackReferenceIdeal.main_arg2)
      ∧ r.2.mem ((c.tc : Thread Cert.AttnBackReferenceIdeal.nD Cert.AttnBackReferenceIdeal.τ).loc Cert.AttnBackReferenceIdeal.main_arg3) = m ((c.tc : Thread Cert.AttnBackReferenceIdeal.nD Cert.AttnBackReferenceIdeal.τ).loc Cert.AttnBackReferenceIdeal.main_arg3)
      ∧ r.2.mem ((c.tc : Thread Cert.AttnBackReferenceIdeal.nD Cert.AttnBackReferenceIdeal.τ).loc Cert.AttnBackReferenceIdeal.main_arg4) = m ((c.tc : Thread Cert.AttnBackReferenceIdeal.nD Cert.AttnBackReferenceIdeal.τ).loc Cert.AttnBackReferenceIdeal.main_arg4))
      ∧ r.2.sem = fun _ => 0) :=
  (θ_run Cert.AttnBackReferenceIdeal.defs _ _).mono (fun r h => And.intro (fun c => (h c).2.2)
    (Idealize.ShloMosaic.sem_eq_zero_of_no_sems (by decide) r.2)) (Cert.AttnBackReferenceIdeal.Value.run (F := Ideal) m g)

set_option maxRecDepth 16384 in
theorem claim : Cert.Claim :=
  ⟨Cert.Kernel.Gen.facts, Cert.KernelIdeal.Gen.facts, Cert.ReferenceIdeal.Gen.facts, Cert.UpGrad.Gen.facts, Cert.UpGradIdeal.Gen.facts, Cert.UpGradReferenceIdeal.Gen.facts,
    Cert.UpBack.Gen.facts, Cert.UpBackIdeal.Gen.facts, Cert.UpBackReferenceIdeal.Gen.facts, Cert.DownGrad.Gen.facts, Cert.DownGradIdeal.Gen.facts, Cert.DownGradReferenceIdeal.Gen.facts,
    Cert.UpProj.Gen.facts, Cert.UpProjIdeal.Gen.facts, Cert.UpProjReferenceIdeal.Gen.facts,
    Cert.ConvGrad.Gen.facts, Cert.ConvGradIdeal.Gen.facts, Cert.ConvGradReferenceIdeal.Gen.facts,
    Cert.ConvProj.Gen.facts, Cert.ConvProjIdeal.Gen.facts, Cert.ConvProjReferenceIdeal.Gen.facts,
    Cert.ConvBack.Gen.facts, Cert.ConvBackIdeal.Gen.facts, Cert.ConvBackReferenceIdeal.Gen.facts,
    Cert.MixGrad.Gen.facts, Cert.MixGradIdeal.Gen.facts, Cert.MixGradReferenceIdeal.Gen.facts,
    Cert.AttnGrad.Gen.facts, Cert.AttnGradIdeal.Gen.facts, Cert.AttnGradReferenceIdeal.Gen.facts,
    Cert.AttnProj.Gen.facts, Cert.AttnProjIdeal.Gen.facts, Cert.AttnProjReferenceIdeal.Gen.facts,
    Cert.AttnBack.Gen.facts, Cert.AttnBackIdeal.Gen.facts, Cert.AttnBackReferenceIdeal.Gen.facts,
    Cert.Pre_finite.Sb.facts,
    fun m g _ => Cert.Kernel.Sk.frame m g, fun m g _ => Cert.KernelIdeal.Sb.frame m g, fun m g _ => Cert.KernelIdeal.Sb.frame m g,
    fun m g _ => ref m g, fun m g _ => ref m g,
    fun m g _ => Cert.UpGrad.Gen.frame m g, fun m g _ => Cert.UpGradIdeal.Gen.frame m g, fun m g _ => up_ref m g,
    fun m g _ => Cert.UpBack.Gen.frame m g, fun m g _ => Cert.UpBackIdeal.Gen.frame m g, fun m g _ => back_ref m g,
    fun m g _ => Cert.DownGrad.Gen.frame m g, fun m g _ => Cert.DownGradIdeal.Gen.frame m g, fun m g _ => down_ref m g,
    fun m g _ => Cert.UpProj.Sm.frame m g, fun m g _ => Cert.UpProjIdeal.Pj.frame m g, fun m g _ => proj_ref m g,
    fun m g _ => Cert.ConvGrad.Gen.frame m g, fun m g _ => Cert.ConvGradIdeal.Gen.frame m g, fun m g _ => conv_grad_ref m g,
    fun m g _ => Cert.ConvProj.Sm.frame m g, fun m g _ => Cert.ConvProjIdeal.Cp.frame m g, fun m g _ => conv_proj_ref m g,
    fun m g _ => Cert.ConvBack.Gen.frame m g, fun m g _ => Cert.ConvBackIdeal.Gen.frame m g, fun m g _ => conv_back_ref m g,
    fun m g _ => Cert.MixGrad.Gen.frame m g, fun m g _ => Cert.MixGradIdeal.Gen.frame m g, fun m g _ => mix_grad_ref m g,
    fun m g _ => Cert.AttnGrad.Gen.frame m g, fun m g _ => Cert.AttnGradIdeal.Gen.frame m g, fun m g _ => attn_grad_ref m g,
    fun m g _ => Cert.AttnProj.Sm.frame m g, fun m g _ => Cert.AttnProjIdeal.Ap.frame m g, fun m g _ => attn_proj_ref m g,
    fun m g _ => Cert.AttnBack.Gen.frame m g, fun m g _ => Cert.AttnBackIdeal.Gen.frame m g, fun m g _ => attn_back_ref m g,
    IdealRules.named_const.statement Cert.KernelIdeal.κ "log_of_zero" .f32 0xC2D20000#32 ⊥ rfl, Cert.KernelIdeal.Sb.algebraic,
    trivial, Cert.UpGradIdeal.Up.algebraic, trivial, Cert.UpBackIdeal.Ub.algebraic, trivial, Cert.DownGradIdeal.Dn.algebraic,
    trivial, Cert.UpProjIdeal.Pj.algebraic, trivial, Cert.ConvGradIdeal.Cg.algebraic, trivial, Cert.ConvProjIdeal.Cp.algebraic,
    trivial, Cert.ConvBackIdeal.Cb.algebraic, trivial, Cert.MixGradIdeal.Mg.algebraic, trivial, Cert.AttnGradIdeal.Ag.algebraic,
    trivial, Cert.AttnProjIdeal.Ap.algebraic, trivial, Cert.AttnBackIdeal.Ab.algebraic⟩

end Cert.Proof

end
